-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)) (v6 : (c : Dev Cert.KernelIdeal.nD) → Buf (Elt Ideal) ((c.tc : Thread Cert.KernelIdeal.nD Cert.KernelIdeal.τ).loc Cert.KernelIdeal.main_v14_6)) (v7 : (c : Dev Cert.KernelIdeal.nD) → Buf (Elt Ideal) ((c.tc : Thread Cert.KernelIdeal.nD Cert.KernelIdeal.τ).loc Cert.KernelIdeal.main_v14_7)) (v8 : (c : Dev Cert.KernelIdeal.nD) → Buf (Elt Ideal) ((c.tc : Thread Cert.KernelIdeal.nD Cert.KernelIdeal.τ).loc Cert.KernelIdeal.main_v14_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_v14_6) = v6 c
          ∧ r.2.mem ((c.tc : Thread Cert.KernelIdeal.nD Cert.KernelIdeal.τ).loc Cert.KernelIdeal.main_v14_7) = v7 c
          ∧ r.2.mem ((c.tc : Thread Cert.KernelIdeal.nD Cert.KernelIdeal.τ).loc Cert.KernelIdeal.main_v14_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_v201) = v2 c
          ∧ r.2.mem ((c.tc : Thread Cert.ReferenceIdeal.nD Cert.ReferenceIdeal.τ).loc Cert.ReferenceIdeal.main_v167) = v3 c
          ∧ r.2.mem ((c.tc : Thread Cert.ReferenceIdeal.nD Cert.ReferenceIdeal.τ).loc Cert.ReferenceIdeal.main_v202) = v4 c
          ∧ r.2.mem ((c.tc : Thread Cert.ReferenceIdeal.nD Cert.ReferenceIdeal.τ).loc Cert.ReferenceIdeal.main_v204) = v5 c
          ∧ r.2.mem ((c.tc : Thread Cert.ReferenceIdeal.nD Cert.ReferenceIdeal.τ).loc Cert.ReferenceIdeal.main_v138) = v6 c
          ∧ r.2.mem ((c.tc : Thread Cert.ReferenceIdeal.nD Cert.ReferenceIdeal.τ).loc Cert.ReferenceIdeal.main_v205) = v7 c
          ∧ r.2.mem ((c.tc : Thread Cert.ReferenceIdeal.nD Cert.ReferenceIdeal.τ).loc Cert.ReferenceIdeal.main_v208) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v16_1)) (v1 : (c : Dev Cert.Kernel3Ideal.nD) → Buf (Elt Ideal) ((c.tc : Thread Cert.Kernel3Ideal.nD Cert.Kernel3Ideal.τ).loc Cert.Kernel3Ideal.main_v16_2)) (v2 : (c : Dev Cert.Kernel3Ideal.nD) → Buf (Elt Ideal) ((c.tc : Thread Cert.Kernel3Ideal.nD Cert.Kernel3Ideal.τ).loc Cert.Kernel3Ideal.main_v18)) (v3 : (c : Dev Cert.Kernel3Ideal.nD) → Buf (Elt Ideal) ((c.tc : Thread Cert.Kernel3Ideal.nD Cert.Kernel3Ideal.τ).loc Cert.Kernel3Ideal.main_v17_0)) (v4 : (c : Dev Cert.Kernel3Ideal.nD) → Buf (Elt Ideal) ((c.tc : Thread Cert.Kernel3Ideal.nD Cert.Kernel3Ideal.τ).loc Cert.Kernel3Ideal.main_v17_1)) (v5 : (c : Dev Cert.Kernel3Ideal.nD) → Buf (Elt Ideal) ((c.tc : Thread Cert.Kernel3Ideal.nD Cert.Kernel3Ideal.τ).loc Cert.Kernel3Ideal.main_v17_2)) (v6 : (c : Dev Cert.Kernel3Ideal.nD) → Buf (Elt Ideal) ((c.tc : Thread Cert.Kernel3Ideal.nD Cert.Kernel3Ideal.τ).loc Cert.Kernel3Ideal.main_v16_4)) (v7 : (c : Dev Cert.Kernel3Ideal.nD) → Buf (Elt Ideal) ((c.tc : Thread Cert.Kernel3Ideal.nD Cert.Kernel3Ideal.τ).loc Cert.Kernel3Ideal.main_v17_3)) (v8 : (c : Dev Cert.Kernel3Ideal.nD) → Buf (Elt Ideal) ((c.tc : Thread Cert.Kernel3Ideal.nD Cert.Kernel3Ideal.τ).loc Cert.Kernel3Ideal.main_v17_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_1) = v0 c
          ∧ r.2.mem ((c.tc : Thread Cert.Kernel3Ideal.nD Cert.Kernel3Ideal.τ).loc Cert.Kernel3Ideal.main_v16_2) = v1 c
          ∧ r.2.mem ((c.tc : Thread Cert.Kernel3Ideal.nD Cert.Kernel3Ideal.τ).loc Cert.Kernel3Ideal.main_v18) = v2 c
          ∧ r.2.mem ((c.tc : Thread Cert.Kernel3Ideal.nD Cert.Kernel3Ideal.τ).loc Cert.Kernel3Ideal.main_v17_0) = v3 c
          ∧ r.2.mem ((c.tc : Thread Cert.Kernel3Ideal.nD Cert.Kernel3Ideal.τ).loc Cert.Kernel3Ideal.main_v17_1) = v4 c
          ∧ r.2.mem ((c.tc : Thread Cert.Kernel3Ideal.nD Cert.Kernel3Ideal.τ).loc Cert.Kernel3Ideal.main_v17_2) = v5 c
          ∧ r.2.mem ((c.tc : Thread Cert.Kernel3Ideal.nD Cert.Kernel3Ideal.τ).loc Cert.Kernel3Ideal.main_v16_4) = v6 c
          ∧ r.2.mem ((c.tc : Thread Cert.Kernel3Ideal.nD Cert.Kernel3Ideal.τ).loc Cert.Kernel3Ideal.main_v17_3) = v7 c
          ∧ r.2.mem ((c.tc : Thread Cert.Kernel3Ideal.nD Cert.Kernel3Ideal.τ).loc Cert.Kernel3Ideal.main_v17_4) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_v18) = v4 c
          ∧ r.2.mem ((c.tc : Thread Cert.Reference3Ideal.nD Cert.Reference3Ideal.τ).loc Cert.Reference3Ideal.main_v19) = v5 c
          ∧ r.2.mem ((c.tc : Thread Cert.Reference3Ideal.nD Cert.Reference3Ideal.τ).loc Cert.Reference3Ideal.main_v20) = v6 c
          ∧ r.2.mem ((c.tc : Thread Cert.Reference3Ideal.nD Cert.Reference3Ideal.τ).loc Cert.Reference3Ideal.main_v21) = v7 c
          ∧ r.2.mem ((c.tc : Thread Cert.Reference3Ideal.nD Cert.Reference3Ideal.τ).loc Cert.Reference3Ideal.main_v22) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v49)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v49) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v40_0)) (v1 : (c : Dev Cert.Kernel4Ideal.nD) → Buf (Elt Ideal) ((c.tc : Thread Cert.Kernel4Ideal.nD Cert.Kernel4Ideal.τ).loc Cert.Kernel4Ideal.main_v40_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40_0) = v0 c
          ∧ r.2.mem ((c.tc : Thread Cert.Kernel4Ideal.nD Cert.Kernel4Ideal.τ).loc Cert.Kernel4Ideal.main_v40_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_v5) = v2 c
          ∧ r.2.mem ((c.tc : Thread Cert.Reference7Ideal.nD Cert.Reference7Ideal.τ).loc Cert.Reference7Ideal.main_v11) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)) →
    ∃ (v0 : (c : Dev Cert.Kernel8Ideal.nD) → Buf (Elt Ideal) ((c.tc : Thread Cert.Kernel8Ideal.nD Cert.Kernel8Ideal.τ).loc Cert.Kernel8Ideal.main_v50)) (v1 : (c : Dev Cert.Kernel8Ideal.nD) → Buf (Elt Ideal) ((c.tc : Thread Cert.Kernel8Ideal.nD Cert.Kernel8Ideal.τ).loc Cert.Kernel8Ideal.main_v51)) (v2 : (c : Dev Cert.Kernel8Ideal.nD) → Buf (Elt Ideal) ((c.tc : Thread Cert.Kernel8Ideal.nD Cert.Kernel8Ideal.τ).loc Cert.Kernel8Ideal.main_v55)) (v3 : (c : Dev Cert.Kernel8Ideal.nD) → Buf (Elt Ideal) ((c.tc : Thread Cert.Kernel8Ideal.nD Cert.Kernel8Ideal.τ).loc Cert.Kernel8Ideal.main_v56)) (v4 : (c : Dev Cert.Kernel8Ideal.nD) → Buf (Elt Ideal) ((c.tc : Thread Cert.Kernel8Ideal.nD Cert.Kernel8Ideal.τ).loc Cert.Kernel8Ideal.main_v54)) (v5 : (c : Dev Cert.Kernel8Ideal.nD) → Buf (Elt Ideal) ((c.tc : Thread Cert.Kernel8Ideal.nD Cert.Kernel8Ideal.τ).loc Cert.Kernel8Ideal.main_v53)) (v6 : (c : Dev Cert.Kernel8Ideal.nD) → Buf (Elt Ideal) ((c.tc : Thread Cert.Kernel8Ideal.nD Cert.Kernel8Ideal.τ).loc Cert.Kernel8Ideal.main_v57)) (v7 : (c : Dev Cert.Kernel8Ideal.nD) → Buf (Elt Ideal) ((c.tc : Thread Cert.Kernel8Ideal.nD Cert.Kernel8Ideal.τ).loc Cert.Kernel8Ideal.main_v61)) (v8 : (c : Dev Cert.Kernel8Ideal.nD) → Buf (Elt Ideal) ((c.tc : Thread Cert.Kernel8Ideal.nD Cert.Kernel8Ideal.τ).loc Cert.Kernel8Ideal.main_v62)) (v9 : (c : Dev Cert.Kernel8Ideal.nD) → Buf (Elt Ideal) ((c.tc : Thread Cert.Kernel8Ideal.nD Cert.Kernel8Ideal.τ).loc Cert.Kernel8Ideal.main_v60)) (v10 : (c : Dev Cert.Kernel8Ideal.nD) → Buf (Elt Ideal) ((c.tc : Thread Cert.Kernel8Ideal.nD Cert.Kernel8Ideal.τ).loc Cert.Kernel8Ideal.main_v59)) (v11 : (c : Dev Cert.Kernel8Ideal.nD) → Buf (Elt Ideal) ((c.tc : Thread Cert.Kernel8Ideal.nD Cert.Kernel8Ideal.τ).loc Cert.Kernel8Ideal.main_v63)) (v12 : (c : Dev Cert.Kernel8Ideal.nD) → Buf (Elt Ideal) ((c.tc : Thread Cert.Kernel8Ideal.nD Cert.Kernel8Ideal.τ).loc Cert.Kernel8Ideal.main_v67)) (v13 : (c : Dev Cert.Kernel8Ideal.nD) → Buf (Elt Ideal) ((c.tc : Thread Cert.Kernel8Ideal.nD Cert.Kernel8Ideal.τ).loc Cert.Kernel8Ideal.main_v68)) (v14 : (c : Dev Cert.Kernel8Ideal.nD) → Buf (Elt Ideal) ((c.tc : Thread Cert.Kernel8Ideal.nD Cert.Kernel8Ideal.τ).loc Cert.Kernel8Ideal.main_v66)) (v15 : (c : Dev Cert.Kernel8Ideal.nD) → Buf (Elt Ideal) ((c.tc : Thread Cert.Kernel8Ideal.nD Cert.Kernel8Ideal.τ).loc Cert.Kernel8Ideal.main_v65)) (v16 : (c : Dev Cert.Kernel8Ideal.nD) → Buf (Elt Ideal) ((c.tc : Thread Cert.Kernel8Ideal.nD Cert.Kernel8Ideal.τ).loc Cert.Kernel8Ideal.main_v69)) (v17 : (c : Dev Cert.Kernel8Ideal.nD) → Buf (Elt Ideal) ((c.tc : Thread Cert.Kernel8Ideal.nD Cert.Kernel8Ideal.τ).loc Cert.Kernel8Ideal.main_v73)) (v18 : (c : Dev Cert.Kernel8Ideal.nD) → Buf (Elt Ideal) ((c.tc : Thread Cert.Kernel8Ideal.nD Cert.Kernel8Ideal.τ).loc Cert.Kernel8Ideal.main_v74)) (v19 : (c : Dev Cert.Kernel8Ideal.nD) → Buf (Elt Ideal) ((c.tc : Thread Cert.Kernel8Ideal.nD Cert.Kernel8Ideal.τ).loc Cert.Kernel8Ideal.main_v72)) (v20 : (c : Dev Cert.Kernel8Ideal.nD) → Buf (Elt Ideal) ((c.tc : Thread Cert.Kernel8Ideal.nD Cert.Kernel8Ideal.τ).loc Cert.Kernel8Ideal.main_v71)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v50) = v0 c
          ∧ r.2.mem ((c.tc : Thread Cert.Kernel8Ideal.nD Cert.Kernel8Ideal.τ).loc Cert.Kernel8Ideal.main_v51) = v1 c
          ∧ r.2.mem ((c.tc : Thread Cert.Kernel8Ideal.nD Cert.Kernel8Ideal.τ).loc Cert.Kernel8Ideal.main_v55) = v2 c
          ∧ r.2.mem ((c.tc : Thread Cert.Kernel8Ideal.nD Cert.Kernel8Ideal.τ).loc Cert.Kernel8Ideal.main_v56) = v3 c
          ∧ r.2.mem ((c.tc : Thread Cert.Kernel8Ideal.nD Cert.Kernel8Ideal.τ).loc Cert.Kernel8Ideal.main_v54) = v4 c
          ∧ r.2.mem ((c.tc : Thread Cert.Kernel8Ideal.nD Cert.Kernel8Ideal.τ).loc Cert.Kernel8Ideal.main_v53) = v5 c
          ∧ r.2.mem ((c.tc : Thread Cert.Kernel8Ideal.nD Cert.Kernel8Ideal.τ).loc Cert.Kernel8Ideal.main_v57) = v6 c
          ∧ r.2.mem ((c.tc : Thread Cert.Kernel8Ideal.nD Cert.Kernel8Ideal.τ).loc Cert.Kernel8Ideal.main_v61) = v7 c
          ∧ r.2.mem ((c.tc : Thread Cert.Kernel8Ideal.nD Cert.Kernel8Ideal.τ).loc Cert.Kernel8Ideal.main_v62) = v8 c
          ∧ r.2.mem ((c.tc : Thread Cert.Kernel8Ideal.nD Cert.Kernel8Ideal.τ).loc Cert.Kernel8Ideal.main_v60) = v9 c
          ∧ r.2.mem ((c.tc : Thread Cert.Kernel8Ideal.nD Cert.Kernel8Ideal.τ).loc Cert.Kernel8Ideal.main_v59) = v10 c
          ∧ r.2.mem ((c.tc : Thread Cert.Kernel8Ideal.nD Cert.Kernel8Ideal.τ).loc Cert.Kernel8Ideal.main_v63) = v11 c
          ∧ r.2.mem ((c.tc : Thread Cert.Kernel8Ideal.nD Cert.Kernel8Ideal.τ).loc Cert.Kernel8Ideal.main_v67) = v12 c
          ∧ r.2.mem ((c.tc : Thread Cert.Kernel8Ideal.nD Cert.Kernel8Ideal.τ).loc Cert.Kernel8Ideal.main_v68) = v13 c
          ∧ r.2.mem ((c.tc : Thread Cert.Kernel8Ideal.nD Cert.Kernel8Ideal.τ).loc Cert.Kernel8Ideal.main_v66) = v14 c
          ∧ r.2.mem ((c.tc : Thread Cert.Kernel8Ideal.nD Cert.Kernel8Ideal.τ).loc Cert.Kernel8Ideal.main_v65) = v15 c
          ∧ r.2.mem ((c.tc : Thread Cert.Kernel8Ideal.nD Cert.Kernel8Ideal.τ).loc Cert.Kernel8Ideal.main_v69) = v16 c
          ∧ r.2.mem ((c.tc : Thread Cert.Kernel8Ideal.nD Cert.Kernel8Ideal.τ).loc Cert.Kernel8Ideal.main_v73) = v17 c
          ∧ r.2.mem ((c.tc : Thread Cert.Kernel8Ideal.nD Cert.Kernel8Ideal.τ).loc Cert.Kernel8Ideal.main_v74) = v18 c
          ∧ r.2.mem ((c.tc : Thread Cert.Kernel8Ideal.nD Cert.Kernel8Ideal.τ).loc Cert.Kernel8Ideal.main_v72) = v19 c
          ∧ r.2.mem ((c.tc : Thread Cert.Kernel8Ideal.nD Cert.Kernel8Ideal.τ).loc Cert.Kernel8Ideal.main_v71) = v20 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v30) = v2 c
          ∧ r.2.mem ((c.tc : Thread Cert.Reference8Ideal.nD Cert.Reference8Ideal.τ).loc Cert.Reference8Ideal.main_v56) = v3 c
          ∧ r.2.mem ((c.tc : Thread Cert.Reference8Ideal.nD Cert.Reference8Ideal.τ).loc Cert.Reference8Ideal.main_v82) = v4 c
          ∧ r.2.mem ((c.tc : Thread Cert.Reference8Ideal.nD Cert.Reference8Ideal.τ).loc Cert.Reference8Ideal.main_v109) = v5 c
          ∧ r.2.mem ((c.tc : Thread Cert.Reference8Ideal.nD Cert.Reference8Ideal.τ).loc Cert.Reference8Ideal.main_v28) = v6 c
          ∧ r.2.mem ((c.tc : Thread Cert.Reference8Ideal.nD Cert.Reference8Ideal.τ).loc Cert.Reference8Ideal.main_v54) = v7 c
          ∧ r.2.mem ((c.tc : Thread Cert.Reference8Ideal.nD Cert.Reference8Ideal.τ).loc Cert.Reference8Ideal.main_v80) = v8 c
          ∧ r.2.mem ((c.tc : Thread Cert.Reference8Ideal.nD Cert.Reference8Ideal.τ).loc Cert.Reference8Ideal.main_v106) = v9 c
          ∧ r.2.mem ((c.tc : Thread Cert.Reference8Ideal.nD Cert.Reference8Ideal.τ).loc Cert.Reference8Ideal.main_v133) = v10 c
          ∧ r.2.mem ((c.tc : Thread Cert.Reference8Ideal.nD Cert.Reference8Ideal.τ).loc Cert.Reference8Ideal.main_v9) = v11 c
          ∧ r.2.mem ((c.tc : Thread Cert.Reference8Ideal.nD Cert.Reference8Ideal.τ).loc Cert.Reference8Ideal.main_v35) = v12 c
          ∧ r.2.mem ((c.tc : Thread Cert.Reference8Ideal.nD Cert.Reference8Ideal.τ).loc Cert.Reference8Ideal.main_v61) = v13 c
          ∧ r.2.mem ((c.tc : Thread Cert.Reference8Ideal.nD Cert.Reference8Ideal.τ).loc Cert.Reference8Ideal.main_v87) = v14 c
          ∧ r.2.mem ((c.tc : Thread Cert.Reference8Ideal.nD Cert.Reference8Ideal.τ).loc Cert.Reference8Ideal.main_v114) = v15 c
          ∧ r.2.mem ((c.tc : Thread Cert.Reference8Ideal.nD Cert.Reference8Ideal.τ).loc Cert.Reference8Ideal.main_v15) = v16 c
          ∧ r.2.mem ((c.tc : Thread Cert.Reference8Ideal.nD Cert.Reference8Ideal.τ).loc Cert.Reference8Ideal.main_v41) = v17 c
          ∧ r.2.mem ((c.tc : Thread Cert.Reference8Ideal.nD Cert.Reference8Ideal.τ).loc Cert.Reference8Ideal.main_v67) = v18 c
          ∧ r.2.mem ((c.tc : Thread Cert.Reference8Ideal.nD Cert.Reference8Ideal.τ).loc Cert.Reference8Ideal.main_v93) = v19 c
          ∧ r.2.mem ((c.tc : Thread Cert.Reference8Ideal.nD Cert.Reference8Ideal.τ).loc Cert.Reference8Ideal.main_v120) = v20 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S64x8x64x128 : Shape := ⟨4, ![64, 8, 64, 128]⟩
abbrev S64x8x64x64 : Shape := ⟨4, ![64, 8, 64, 64]⟩
abbrev S64x8 : Shape := ⟨2, ![64, 8]⟩
abbrev S64x8x128x128 : Shape := ⟨4, ![64, 8, 128, 128]⟩
abbrev S4096x1024 : Shape := ⟨2, ![4096, 1024]⟩
abbrev S1x128 : Shape := ⟨2, ![1, 128]⟩
abbrev S4096x512 : Shape := ⟨2, ![4096, 512]⟩
abbrev S1024x1024 : Shape := ⟨2, ![1024, 1024]⟩
abbrev S512x1024 : Shape := ⟨2, ![512, 1024]⟩
abbrev S_ : Shape := ⟨0, ![]⟩

class Facts : Prop where
  bcast_S_S64x8x64x128 : S_.BroadcastsInDim S64x8x64x128 (![] : Fin 0 → Fin S64x8x64x128.rank)
  reducesTo_S64x8x64x128_S_d0_1_2_3 : S64x8x64x128.ReducesTo [0, 1, 2, 3] S_
  h_S_ : 0 < S_.numel
  bitsLt_bf16_f32 : FTy.bits .bf16 < FTy.bits .f32
  bcast_S_S64x8x64x64 : S_.BroadcastsInDim S64x8x64x64 (![] : Fin 0 → Fin S64x8x64x64.rank)
  reducesTo_S64x8x64x64_S_d0_1_2_3 : S64x8x64x64.ReducesTo [0, 1, 2, 3] S_
  bcast_S_S64x8 : S_.BroadcastsInDim S64x8 (![] : Fin 0 → Fin S64x8.rank)
  reducesTo_S64x8_S_d0_1 : S64x8.ReducesTo [0, 1] S_
  bcast_S_S64x8x128x128 : S_.BroadcastsInDim S64x8x128x128 (![] : Fin 0 → Fin S64x8x128x128.rank)
  reducesTo_S64x8x128x128_S_d0_1_2_3 : S64x8x128x128.ReducesTo [0, 1, 2, 3] S_
  bcast_S_S4096x1024 : S_.BroadcastsInDim S4096x1024 (![] : Fin 0 → Fin S4096x1024.rank)
  reducesTo_S4096x1024_S_d0_1 : S4096x1024.ReducesTo [0, 1] S_
  bcast_S_S1x128 : S_.BroadcastsInDim S1x128 (![] : Fin 0 → Fin S1x128.rank)
  reducesTo_S1x128_S_d0_1 : S1x128.ReducesTo [0, 1] S_
  bcast_S_S4096x512 : S_.BroadcastsInDim S4096x512 (![] : Fin 0 → Fin S4096x512.rank)
  reducesTo_S4096x512_S_d0_1 : S4096x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part4 {F : FTy → Type} [FloatOps F] (main_arg13 : FVec F S4096x1024 .bf16) (main_arg14 : FVec F S4096x1024 .bf16) (main_v65 : IVec S_ 1) (main_v69 : IVec S512x1024 1) : IVec S_ 1 :=
  let main_c_24 : IVec S_ 1 := constantI S_ 1 1#1
  let main_v70 : IVec S_ 1 := (fun x v => Host.reduce IntOp.andi x v reducesTo_S512x1024_S_d0_1 h_S_) main_v69 main_c_24
  let main_v71 : IVec S_ 1 := andi main_v65 main_v70
  let main_v72 : FVec F S4096x1024 .f32 := (extf .f32 · bitsLt_bf16_f32) main_arg13
  let main_v73 : FVec F S4096x1024 .f32 := Host.absf main_v72
  let main_cst_25 : FVec F S_ .f32 := constant S_ .f32 0x7F800000#32
  let main_v74 : FVec F S4096x1024 .f32 := broadcastInDim S4096x1024 ![] bcast_S_S4096x1024 main_cst_25
  let main_v75 : IVec S4096x1024 1 := cmpf .olt main_v73 main_v74
  let main_c_26 : IVec S_ 1 := constantI S_ 1 1#1
  let main_v76 : IVec S_ 1 := (fun x v => Host.reduce IntOp.andi x v reducesTo_S4096x1024_S_d0_1 h_S_) main_v75 main_c_26
  let main_v77 : IVec S_ 1 := andi main_v71 main_v76
  let main_v78 : FVec F S4096x1024 .f32 := (extf .f32 · bitsLt_bf16_f32) main_arg14
  let main_v79 : FVec F S4096x1024 .f32 := Host.absf main_v78
  let main_cst_27 : FVec F S_ .f32 := constant S_ .f32 0x7F800000#32
  let main_v80 : FVec F S4096x1024 .f32 := broadcastInDim S4096x1024 ![] bcast_S_S4096x1024 main_cst_27
  let main_v81 : IVec S4096x1024 1 := cmpf .olt main_v79 main_v80
  let main_c_28 : IVec S_ 1 := constantI S_ 1 1#1
  let main_v82 : IVec S_ 1 := (fun x v => Host.reduce IntOp.andi x v reducesTo_S4096x1024_S_d0_1 h_S_) main_v81 main_c_28
  let main_v83 : IVec S_ 1 := andi main_v77 main_v82
  main_v83

def fn_part3 {F : FTy → Type} [FloatOps F] (main_arg10 : FVec F S4096x512 .f32) (main_arg11 : FVec F S1024x1024 .bf16) (main_arg12 : FVec F S512x1024 .bf16) (main_arg13 : FVec F S4096x1024 .bf16) (main_arg14 : FVec F S4096x1024 .bf16) (main_v49 : IVec S_ 1) (main_v50 : FVec F S4096x512 .f32) (main_v51 : FVec F S4096x512 .f32) : IVec S_ 1 :=
  let main_v52 : IVec S4096x512 1 := cmpf .olt main_v50 main_v51
  let main_c_18 : IVec S_ 1 := constantI S_ 1 1#1
  let main_v53 : IVec S_ 1 := (fun x v => Host.reduce IntOp.andi x v reducesTo_S4096x512_S_d0_1 h_S_) main_v52 main_c_18
  let main_v54 : IVec S_ 1 := andi main_v49 main_v53
  let main_v55 : FVec F S4096x512 .f32 := Host.absf main_arg10
  let main_cst_19 : FVec F S_ .f32 := constant S_ .f32 0x7F800000#32
  let main_v56 : FVec F S4096x512 .f32 := broadcastInDim S4096x512 ![] bcast_S_S4096x512 main_cst_19
  let main_v57 : IVec S4096x512 1 := cmpf .olt main_v55 main_v56
  let main_c_20 : IVec S_ 1 := constantI S_ 1 1#1
  let main_v58 : IVec S_ 1 := (fun x v => Host.reduce IntOp.andi x v reducesTo_S4096x512_S_d0_1 h_S_) main_v57 main_c_20
  let main_v59 : IVec S_ 1 := andi main_v54 main_v58
  let main_v60 : FVec F S1024x1024 .f32 := (extf .f32 · bitsLt_bf16_f32) main_arg11
  let main_v61 : FVec F S1024x1024 .f32 := Host.absf main_v60
  let main_cst_21 : FVec F S_ .f32 := constant S_ .f32 0x7F800000#32
  let main_v62 : FVec F S1024x1024 .f32 := broadcastInDim S1024x1024 ![] bcast_S_S1024x1024 main_cst_21
  let main_v63 : IVec S1024x1024 1 := cmpf .olt main_v61 main_v62
  let main_c_22 : IVec S_ 1 := constantI S_ 1 1#1
  let main_v64 : IVec S_ 1 := (fun x v => Host.reduce IntOp.andi x v reducesTo_S1024x1024_S_d0_1 h_S_) main_v63 main_c_22
  let main_v65 : IVec S_ 1 := andi main_v59 main_v64
  let main_v66 : FVec F S512x1024 .f32 := (extf .f32 · bitsLt_bf16_f32) main_arg12
  let main_v67 : FVec F S512x1024 .f32 := Host.absf main_v66
  let main_cst_23 : FVec F S_ .f32 := constant S_ .f32 0x7F800000#32
  let main_v68 : FVec F S512x1024 .f32 := broadcastInDim S512x1024 ![] bcast_S_S512x1024 main_cst_23
  let main_v69 : IVec S512x1024 1 := cmpf .olt main_v67 main_v68
  fn_part4 (F := F) main_arg13 main_arg14 main_v65 main_v69

def fn_part2 {F : FTy → Type} [FloatOps F] (main_arg7 : FVec F S4096x1024 .f32) (main_arg8 : FVec F S1x128 .f32) (main_arg9 : FVec F S4096x512 .f32) (main_arg10 : FVec F S4096x512 .f32) (main_arg11 : FVec F S1024x1024 .bf16) (main_arg12 : FVec F S512x1024 .bf16) (main_arg13 : FVec F S4096x1024 .bf16) (main_arg14 : FVec F S4096x1024 .bf16) (main_v33 : IVec S_ 1) (main_v34 : FVec F S64x8x128x128 .f32) : IVec S_ 1 :=
  let main_v35 : FVec F S64x8x128x128 .f32 := Host.absf main_v34
  let main_cst_11 : FVec F S_ .f32 := constant S_ .f32 0x7F800000#32
  let main_v36 : FVec F S64x8x128x128 .f32 := broadcastInDim S64x8x128x128 ![] bcast_S_S64x8x128x128 main_cst_11
  let main_v37 : IVec S64x8x128x128 1 := cmpf .olt main_v35 main_v36
  let main_c_12 : IVec S_ 1 := constantI S_ 1 1#1
  let main_v38 : IVec S_ 1 := (fun x v => Host.reduce IntOp.andi x v reducesTo_S64x8x128x128_S_d0_1_2_3 h_S_) main_v37 main_c_12
  let main_v39 : IVec S_ 1 := andi main_v33 main_v38
  let main_v40 : FVec F S4096x1024 .f32 := Host.absf main_arg7
  let main_cst_13 : FVec F S_ .f32 := constant S_ .f32 0x7F800000#32
  let main_v41 : FVec F S4096x1024 .f32 := broadcastInDim S4096x1024 ![] bcast_S_S4096x1024 main_cst_13
  let main_v42 : IVec S4096x1024 1 := cmpf .olt main_v40 main_v41
  let main_c_14 : IVec S_ 1 := constantI S_ 1 1#1
  let main_v43 : IVec S_ 1 := (fun x v => Host.reduce IntOp.andi x v reducesTo_S4096x1024_S_d0_1 h_S_) main_v42 main_c_14
  let main_v44 : IVec S_ 1 := andi main_v39 main_v43
  let main_v45 : FVec F S1x128 .f32 := Host.absf main_arg8
  let main_cst_15 : FVec F S_ .f32 := constant S_ .f32 0x7F800000#32
  let main_v46 : FVec F S1x128 .f32 := broadcastInDim S1x128 ![] bcast_S_S1x128 main_cst_15
  let main_v47 : IVec S1x128 1 := cmpf .olt main_v45 main_v46
  let main_c_16 : IVec S_ 1 := constantI S_ 1 1#1
  let main_v48 : IVec S_ 1 := (fun x v => Host.reduce IntOp.andi x v reducesTo_S1x128_S_d0_1 h_S_) main_v47 main_c_16
  let main_v49 : IVec S_ 1 := andi main_v44 main_v48
  let main_v50 : FVec F S4096x512 .f32 := Host.absf main_arg9
  let main_cst_17 : FVec F S_ .f32 := constant S_ .f32 0x7F800000#32
  let main_v51 : FVec F S4096x512 .f32 := broadcastInDim S4096x512 ![] bcast_S_S4096x512 main_cst_17
  fn_part3 (F := F) main_arg10 main_arg11 main_arg12 main_arg13 main_arg14 main_v49 main_v50 main_v51

def fn_part1 {F : FTy → Type} [FloatOps F] (main_arg3 : FVec F S64x8x64x128 .bf16) (main_arg4 : FVec F S64x8x64x128 .bf16) (main_arg5 : FVec F S64x8 .f32) (main_arg6 : FVec F S64x8x128x128 .bf16) (main_arg7 : FVec F S4096x1024 .f32) (main_arg8 : FVec F S1x128 .f32) (main_arg9 : FVec F S4096x512 .f32) (main_arg10 : FVec F S4096x512 .f32) (main_arg11 : FVec F S1024x1024 .bf16) (main_arg12 : FVec F S512x1024 .bf16) (main_arg13 : FVec F S4096x1024 .bf16) (main_arg14 : FVec F S4096x1024 .bf16) (main_v16 : IVec S_ 1) : IVec S_ 1 :=
  let main_v17 : FVec F S64x8x64x128 .f32 := (extf .f32 · bitsLt_bf16_f32) main_arg3
  let main_v18 : FVec F S64x8x64x128 .f32 := Host.absf main_v17
  let main_cst_5 : FVec F S_ .f32 := constant S_ .f32 0x7F800000#32
  let main_v19 : FVec F S64x8x64x128 .f32 := broadcastInDim S64x8x64x128 ![] bcast_S_S64x8x64x128 main_cst_5
  let main_v20 : IVec S64x8x64x128 1 := cmpf .olt main_v18 main_v19
  let main_c_6 : IVec S_ 1 := constantI S_ 1 1#1
  let main_v21 : IVec S_ 1 := (fun x v => Host.reduce IntOp.andi x v reducesTo_S64x8x64x128_S_d0_1_2_3 h_S_) main_v20 main_c_6
  let main_v22 : IVec S_ 1 := andi main_v16 main_v21
  let main_v23 : FVec F S64x8x64x128 .f32 := (extf .f32 · bitsLt_bf16_f32) main_arg4
  let main_v24 : FVec F S64x8x64x128 .f32 := Host.absf main_v23
  let main_cst_7 : FVec F S_ .f32 := constant S_ .f32 0x7F800000#32
  let main_v25 : FVec F S64x8x64x128 .f32 := broadcastInDim S64x8x64x128 ![] bcast_S_S64x8x64x128 main_cst_7
  let main_v26 : IVec S64x8x64x128 1 := cmpf .olt main_v24 main_v25
  let main_c_8 : IVec S_ 1 := constantI S_ 1 1#1
  let main_v27 : IVec S_ 1 := (fun x v => Host.reduce IntOp.andi x v reducesTo_S64x8x64x128_S_d0_1_2_3 h_S_) main_v26 main_c_8
  let main_v28 : IVec S_ 1 := andi main_v22 main_v27
  let main_v29 : FVec F S64x8 .f32 := Host.absf main_arg5
  let main_cst_9 : FVec F S_ .f32 := constant S_ .f32 0x7F800000#32
  let main_v30 : FVec F S64x8 .f32 := broadcastInDim S64x8 ![] bcast_S_S64x8 main_cst_9
  let main_v31 : IVec S64x8 1 := cmpf .olt main_v29 main_v30
  let main_c_10 : IVec S_ 1 := constantI S_ 1 1#1
  let main_v32 : IVec S_ 1 := (fun x v => Host.reduce IntOp.andi x v reducesTo_S64x8_S_d0_1 h_S_) main_v31 main_c_10
  let main_v33 : IVec S_ 1 := andi main_v28 main_v32
  let main_v34 : FVec F S64x8x128x128 .f32 := (extf .f32 · bitsLt_bf16_f32) main_arg6
  fn_part2 (F := F) main_arg7 main_arg8 main_arg9 main_arg10 main_arg11 main_arg12 main_arg13 main_arg14 main_v33 main_v34

def fn {F : FTy → Type} [FloatOps F] (main_arg0 : FVec F S64x8x64x128 .f32) (main_arg1 : FVec F S64x8x64x128 .bf16) (main_arg2 : FVec F S64x8x64x64 .bf16) (main_arg3 : FVec F S64x8x64x128 .bf16) (main_arg4 : FVec F S64x8x64x128 .bf16) (main_arg5 : FVec F S64x8 .f32) (main_arg6 : FVec F S64x8x128x128 .bf16) (main_arg7 : FVec F S4096x1024 .f32) (main_arg8 : FVec F S1x128 .f32) (main_arg9 : FVec F S4096x512 .f32) (main_arg10 : FVec F S4096x512 .f32) (main_arg11 : FVec F S1024x1024 .bf16) (main_arg12 : FVec F S512x1024 .bf16) (main_arg13 : FVec F S4096x1024 .bf16) (main_arg14 : FVec F S4096x1024 .bf16) : IVec S_ 1 :=
  let main_v0 : FVec F S64x8x64x128 .f32 := Host.absf main_arg0
  let main_cst : FVec F S_ .f32 := constant S_ .f32 0x7F800000#32
  let main_v1 : FVec F S64x8x64x128 .f32 := broadcastInDim S64x8x64x128 ![] bcast_S_S64x8x64x128 main_cst
  let main_v2 : IVec S64x8x64x128 1 := cmpf .olt main_v0 main_v1
  let main_c : IVec S_ 1 := constantI S_ 1 1#1
  let main_v3 : IVec S_ 1 := (fun x v => Host.reduce IntOp.andi x v reducesTo_S64x8x64x128_S_d0_1_2_3 h_S_) main_v2 main_c
  let main_c_0 : IVec S_ 1 := constantI S_ 1 1#1
  let main_v4 : IVec S_ 1 := andi main_c_0 main_v3
  let main_v5 : FVec F S64x8x64x128 .f32 := (extf .f32 · bitsLt_bf16_f32) main_arg1
  let main_v6 : FVec F S64x8x64x128 .f32 := Host.absf main_v5
  let main_cst_1 : FVec F S_ .f32 := constant S_ .f32 0x7F800000#32
  let main_v7 : FVec F S64x8x64x128 .f32 := broadcastInDim S64x8x64x128 ![] bcast_S_S64x8x64x128 main_cst_1
  let main_v8 : IVec S64x8x64x128 1 := cmpf .olt main_v6 main_v7
  let main_c_2 : IVec S_ 1 := constantI S_ 1 1#1
  let main_v9 : IVec S_ 1 := (fun x v => Host.reduce IntOp.andi x v reducesTo_S64x8x64x128_S_d0_1_2_3 h_S_) main_v8 main_c_2
  let main_v10 : IVec S_ 1 := andi main_v4 main_v9
  let main_v11 : FVec F S64x8x64x64 .f32 := (extf .f32 · bitsLt_bf16_f32) main_arg2
  let main_v12 : FVec F S64x8x64x64 .f32 := Host.absf main_v11
  let main_cst_3 : FVec F S_ .f32 := constant S_ .f32 0x7F800000#32
  let main_v13 : FVec F S64x8x64x64 .f32 := broadcastInDim S64x8x64x64 ![] bcast_S_S64x8x64x64 main_cst_3
  let main_v14 : IVec S64x8x64x64 1 := cmpf .olt main_v12 main_v13
  let main_c_4 : IVec S_ 1 := constantI S_ 1 1#1
  let main_v15 : IVec S_ 1 := (fun x v => Host.reduce IntOp.andi x v reducesTo_S64x8x64x64_S_d0_1_2_3 h_S_) main_v14 main_c_4
  let main_v16 : IVec S_ 1 := andi main_v10 main_v15
  fn_part1 (F := F) main_arg3 main_arg4 main_arg5 main_arg6 main_arg7 main_arg8 main_arg9 main_arg10 main_arg11 main_arg12 main_arg13 main_arg14 main_v16
-- ==== Kernel.lean ====
abbrev S64x8x64x128 : Shape := ⟨4, ![64, 8, 64, 128]⟩
abbrev S64x8x64x64 : Shape := ⟨4, ![64, 8, 64, 64]⟩
abbrev S64x8 : Shape := ⟨2, ![64, 8]⟩
abbrev S64x8x128x128 : Shape := ⟨4, ![64, 8, 128, 128]⟩
abbrev S4096x1024 : Shape := ⟨2, ![4096, 1024]⟩
abbrev S1x128 : Shape := ⟨2, ![1, 128]⟩
abbrev S4096x512 : Shape := ⟨2, ![4096, 512]⟩
abbrev S1024x1024 : Shape := ⟨2, ![1024, 1024]⟩
abbrev S512x1024 : Shape := ⟨2, ![512, 1024]⟩
abbrev S64x64x8x128 : Shape := ⟨4, ![64, 64, 8, 128]⟩
abbrev S64x8x1x1 : Shape := ⟨4, ![64, 8, 1, 1]⟩
abbrev S64x8x8x128 : Shape := ⟨4, ![64, 8, 8, 128]⟩
abbrev S8x128 : Shape := ⟨2, ![8, 128]⟩
abbrev S4x8x64x128 : Shape := ⟨4, ![4, 8, 64, 128]⟩
abbrev S4x8x64x64 : Shape := ⟨4, ![4, 8, 64, 64]⟩
abbrev S4x8x8x128 : Shape := ⟨4, ![4, 8, 8, 128]⟩
abbrev S4x8x128x128 : Shape := ⟨4, ![4, 8, 128, 128]⟩
abbrev S256x1024 : Shape := ⟨2, ![256, 1024]⟩
abbrev S256x512 : Shape := ⟨2, ![256, 512]⟩
abbrev S8x128x128 : Shape := ⟨3, ![8, 128, 128]⟩
abbrev S256x128 : Shape := ⟨2, ![256, 128]⟩
abbrev S256 : Shape := ⟨1, ![256]⟩
abbrev S256x1 : Shape := ⟨2, ![256, 1]⟩
abbrev S128 : Shape := ⟨1, ![128]⟩
abbrev S7x128 : Shape := ⟨2, ![7, 128]⟩
abbrev S64x128 : Shape := ⟨2, ![64, 128]⟩
abbrev S1x64x128 : Shape := ⟨3, ![1, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x64x128 : Shape := ⟨4, ![1, 8, 64, 128]⟩
abbrev S1x8x128x128 : Shape := ⟨4, ![1, 8, 128, 128]⟩
abbrev S8x128x1 : Shape := ⟨3, ![8, 128, 1]⟩
abbrev S8x1 : Shape := ⟨2, ![8, 1]⟩
abbrev S8x1x1 : Shape := ⟨3, ![8, 1, 1]⟩
abbrev S8x8x128 : Shape := ⟨3, ![8, 8, 128]⟩
abbrev S1x8x8x128 : Shape := ⟨4, ![1, 8, 8, 128]⟩
abbrev S8x1x128 : Shape := ⟨3, ![8, 1, 128]⟩

abbrev nBuf : Space → Nat
  | .hbm => 38
  | .vmem => 48
  | .smem => 0
  | _ => 0

abbrev bufTy : (tb : Table) → Fin (tcTables nBuf tb) → BufTy
  | .hbm, ⟨0, _⟩ => ⟨S64x8x64x128, .f32⟩
  | .hbm, ⟨1, _⟩ => ⟨S64x8x64x128, .bf16⟩
  | .hbm, ⟨2, _⟩ => ⟨S64x8x64x64, .bf16⟩
  | .hbm, ⟨3, _⟩ => ⟨S64x8x64x128, .bf16⟩
  | .hbm, ⟨4, _⟩ => ⟨S64x8x64x128, .bf16⟩
  | .hbm, ⟨5, _⟩ => ⟨S64x8, .f32⟩
  | .hbm, ⟨6, _⟩ => ⟨S64x8x128x128, .bf16⟩
  | .hbm, ⟨7, _⟩ => ⟨S4096x1024, .f32⟩
  | .hbm, ⟨8, _⟩ => ⟨S1x128, .f32⟩
  | .hbm, ⟨9, _⟩ => ⟨S4096x512, .f32⟩
  | .hbm, ⟨10, _⟩ => ⟨S4096x512, .f32⟩
  | .hbm, ⟨11, _⟩ => ⟨S1024x1024, .bf16⟩
  | .hbm, ⟨12, _⟩ => ⟨S512x1024, .bf16⟩
  | .hbm, ⟨13, _⟩ => ⟨S4096x1024, .bf16⟩
  | .hbm, ⟨14, _⟩ => ⟨S4096x1024, .bf16⟩
  | .hbm, ⟨15, _⟩ => ⟨S64x8x64x128, .f32⟩
  | .hbm, ⟨16, _⟩ => ⟨S64x8x64x64, .f32⟩
  | .hbm, ⟨17, _⟩ => ⟨S64x8x64x128, .f32⟩
  | .hbm, ⟨18, _⟩ => ⟨S64x8x128x128, .f32⟩
  | .hbm, ⟨19, _⟩ => ⟨S64x8x64x128, .f32⟩
  | .hbm, ⟨20, _⟩ => ⟨S64x8x64x128, .f32⟩
  | .hbm, ⟨21, _⟩ => ⟨S64x8x64x128, .f32⟩
  | .hbm, ⟨22, _⟩ => ⟨S64x8x64x128, .f32⟩
  | .hbm, ⟨23, _⟩ => ⟨S64x8x64x128, .f32⟩
  | .hbm, ⟨24, _⟩ => ⟨S64x64x8x128, .f32⟩
  | .hbm, ⟨25, _⟩ => ⟨S4096x1024, .f32⟩
  | .hbm, ⟨26, _⟩ => ⟨S64x8x1x1, .f32⟩
  | .hbm, ⟨27, _⟩ => ⟨S64x8x8x128, .f32⟩
  | .hbm, ⟨28, _⟩ => ⟨S64x8x64x128, .bf16⟩
  | .hbm, ⟨29, _⟩ => ⟨S64x8x64x128, .bf16⟩
  | .hbm, ⟨30, _⟩ => ⟨S64x8x64x128, .f32⟩
  | .hbm, ⟨31, _⟩ => ⟨S64x8x8x128, .f32⟩
  | .hbm, ⟨32, _⟩ => ⟨S4096x1024, .f32⟩
  | .hbm, ⟨33, _⟩ => ⟨S4096x1024, .bf16⟩
  | .hbm, ⟨34, _⟩ => ⟨S8x128, .f32⟩
  | .hbm, ⟨35, _⟩ => ⟨S4096x512, .f32⟩
  | .hbm, ⟨36, _⟩ => ⟨S4096x512, .bf16⟩
  | .hbm, ⟨37, _⟩ => ⟨S4096x512, .f32⟩
  | .local _ .vmem, ⟨0, _⟩ => ⟨S4x8x64x128, .bf16⟩
  | .local _ .vmem, ⟨1, _⟩ => ⟨S4x8x64x128, .bf16⟩
  | .local _ .vmem, ⟨2, _⟩ => ⟨S4x8x64x128, .bf16⟩
  | .local _ .vmem, ⟨3, _⟩ => ⟨S4x8x64x128, .bf16⟩
  | .local _ .vmem, ⟨4, _⟩ => ⟨S4x8x64x128, .bf16⟩
  | .local _ .vmem, ⟨5, _⟩ => ⟨S4x8x64x128, .bf16⟩
  | .local _ .vmem, ⟨6, _⟩ => ⟨S4x8x64x64, .bf16⟩
  | .local _ .vmem, ⟨7, _⟩ => ⟨S4x8x64x64, .bf16⟩
  | .local _ .vmem, ⟨8, _⟩ => ⟨S4x8x8x128, .f32⟩
  | .local _ .vmem, ⟨9, _⟩ => ⟨S4x8x8x128, .f32⟩
  | .local _ .vmem, ⟨10, _⟩ => ⟨S4x8x64x128, .bf16⟩
  | .local _ .vmem, ⟨11, _⟩ => ⟨S4x8x64x128, .bf16⟩
  | .local _ .vmem, ⟨12, _⟩ => ⟨S4x8x128x128, .bf16⟩
  | .local _ .vmem, ⟨13, _⟩ => ⟨S4x8x128x128, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x128, .f32⟩
  | .local _ .vmem, ⟨21, _⟩ => ⟨S1024x1024, .bf16⟩
  | .local _ .vmem, ⟨22, _⟩ => ⟨S256x1024, .bf16⟩
  | .local _ .vmem, ⟨23, _⟩ => ⟨S256x1024, .bf16⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S512x1024, .bf16⟩
  | .local _ .vmem, ⟨29, _⟩ => ⟨S4x8x64x128, .bf16⟩
  | .local _ .vmem, ⟨30, _⟩ => ⟨S4x8x64x128, .bf16⟩
  | .local _ .vmem, ⟨31, _⟩ => ⟨S4x8x64x128, .f32⟩
  | .local _ .vmem, ⟨32, _⟩ => ⟨S4x8x64x128, .f32⟩
  | .local _ .vmem, ⟨33, _⟩ => ⟨S4x8x8x128, .f32⟩
  | .local _ .vmem, ⟨34, _⟩ => ⟨S4x8x8x128, .f32⟩
  | .local _ .vmem, ⟨35, _⟩ => ⟨S256x1024, .f32⟩
  | .local _ .vmem, ⟨36, _⟩ => ⟨S256x1024, .f32⟩
  | .local _ .vmem, ⟨37, _⟩ => ⟨S256x1024, .bf16⟩
  | .local _ .vmem, ⟨38, _⟩ => ⟨S256x1024, .bf16⟩
  | .local _ .vmem, ⟨39, _⟩ => ⟨S8x128, .f32⟩
  | .local _ .vmem, ⟨40, _⟩ => ⟨S256x512, .f32⟩
  | .local _ .vmem, ⟨41, _⟩ => ⟨S256x512, .f32⟩
  | .local _ .vmem, ⟨42, _⟩ => ⟨S256x512, .bf16⟩
  | .local _ .vmem, ⟨43, _⟩ => ⟨S256x512, .bf16⟩
  | .local _ .vmem, ⟨44, _⟩ => ⟨S256x512, .f32⟩
  | .local _ .vmem, ⟨45, _⟩ => ⟨S256x512, .f32⟩
  | .local _ .vmem, ⟨46, _⟩ => ⟨S8x128x128, .f32⟩
  | .local _ .vmem, ⟨47, _⟩ => ⟨S256x1024, .f32⟩
  | _, _ => ⟨S64x8x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev main_v14_4 : Ref sig .tc := ⟨.hbm, 33, rfl⟩
abbrev main_v14_5 : Ref sig .tc := ⟨.hbm, 34, rfl⟩
abbrev main_v14_6 : Ref sig .tc := ⟨.hbm, 35, rfl⟩
abbrev main_v14_7 : Ref sig .tc := ⟨.hbm, 36, rfl⟩
abbrev main_v14_8 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_scratch0 : Ref sig .tc := ⟨.vmem, 46, rfl⟩
abbrev cc0_scratch1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_2 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_17 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_18 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_19 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_24 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S4x8x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x8x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4x8x64x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x8x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x8x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ReferenceIdeal.lean ====
abbrev S64x8x64x128 : Shape := ⟨4, ![64, 8, 64, 128]⟩
abbrev S64x8x64x64 : Shape := ⟨4, ![64, 8, 64, 64]⟩
abbrev S64x8 : Shape := ⟨2, ![64, 8]⟩
abbrev S64x8x128x128 : Shape := ⟨4, ![64, 8, 128, 128]⟩
abbrev S4096x1024 : Shape := ⟨2, ![4096, 1024]⟩
abbrev S1x128 : Shape := ⟨2, ![1, 128]⟩
abbrev S4096x512 : Shape := ⟨2, ![4096, 512]⟩
abbrev S1024x1024 : Shape := ⟨2, ![1024, 1024]⟩
abbrev S512x1024 : Shape := ⟨2, ![512, 1024]⟩
abbrev S_ : Shape := ⟨0, ![]⟩
abbrev S8x128x128 : Shape := ⟨3, ![8, 128, 128]⟩
abbrev S64x8x1x1 : Shape := ⟨4, ![64, 8, 1, 1]⟩
abbrev S64x64x8x128 : Shape := ⟨4, ![64, 64, 8, 128]⟩
abbrev S4096x8x128 : Shape := ⟨3, ![4096, 8, 128]⟩
abbrev S4096x8 : Shape := ⟨2, ![4096, 8]⟩
abbrev S4096x8x1 : Shape := ⟨3, ![4096, 8, 1]⟩
abbrev S128 : Shape := ⟨1, ![128]⟩
abbrev S1x1x128 : Shape := ⟨3, ![1, 1, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S1x8x128x128 : Shape := ⟨4, ![1, 8, 128, 128]⟩
abbrev S8x1x1 : Shape := ⟨3, ![8, 1, 1]⟩
abbrev S8x128x64 : Shape := ⟨3, ![8, 128, 64]⟩
abbrev S63x8x128x128 : Shape := ⟨4, ![63, 8, 128, 128]⟩
abbrev S64x8x128x64 : Shape := ⟨4, ![64, 8, 128, 64]⟩
abbrev S4096x4x128 : Shape := ⟨3, ![4096, 4, 128]⟩
abbrev S4096x4 : Shape := ⟨2, ![4096, 4]⟩
abbrev S64x8x8x128 : Shape := ⟨4, ![64, 8, 8, 128]⟩
abbrev S7x128 : Shape := ⟨2, ![7, 128]⟩
abbrev S8x128 : Shape := ⟨2, ![8, 128]⟩
abbrev S4096x4x1 : Shape := ⟨3, ![4096, 4, 1]⟩

abbrev nBuf : Space → Nat
  | .hbm => 392
  | .vmem => 0
  | .smem => 0
  | _ => 0

abbrev hbmTy0_0 (i : Nat) : BufTy := match i % 128 with
  | 0 => ⟨S64x8x64x128, .f32⟩
  | 1 => ⟨S64x8x64x128, .bf16⟩
  | 2 => ⟨S64x8x64x64, .bf16⟩
  | 3 => ⟨S64x8x64x128, .bf16⟩
  | 4 => ⟨S64x8x64x128, .bf16⟩
  | 5 => ⟨S64x8, .f32⟩
  | 6 => ⟨S64x8x128x128, .bf16⟩
  | 7 => ⟨S4096x1024, .f32⟩
  | 8 => ⟨S1x128, .f32⟩
  | 9 => ⟨S4096x512, .f32⟩
  | 10 => ⟨S4096x512, .f32⟩
  | 11 => ⟨S1024x1024, .bf16⟩
  | 12 => ⟨S512x1024, .bf16⟩
  | 13 => ⟨S4096x1024, .bf16⟩
  | 14 => ⟨S4096x1024, .bf16⟩
  | 15 => ⟨S_, .f32⟩
  | 16 => ⟨S8x128x128, .f32⟩
  | 17 => ⟨S_, .f32⟩
  | 18 => ⟨S64x8x128x128, .f32⟩
  | 19 => ⟨S64x8x128x128, .f32⟩
  | 20 => ⟨S64x8x64x128, .f32⟩
  | 21 => ⟨S64x8x64x64, .f32⟩
  | 22 => ⟨S64x8x64x128, .f32⟩
  | 23 => ⟨S64x8x64x128, .f32⟩
  | 24 => ⟨S1024x1024, .f32⟩
  | 25 => ⟨S512x1024, .f32⟩
  | 26 => ⟨S4096x1024, .f32⟩
  | 27 => ⟨S4096x1024, .f32⟩
  | 28 => ⟨S64x8x64x128, .f32⟩
  | 29 => ⟨S64x8x64x128, .f32⟩
  | 30 => ⟨S64x8x64x128, .f32⟩
  | 31 => ⟨S64x8x64x128, .f32⟩
  | 32 => ⟨S64x8x64x128, .f32⟩
  | 33 => ⟨S64x8x1x1, .f32⟩
  | 34 => ⟨S64x8x128x128, .f32⟩
  | 35 => ⟨S64x8x128x128, .f32⟩
  | 36 => ⟨S64x8x128x128, .f32⟩
  | 37 => ⟨S64x8x128x128, .f32⟩
  | 38 => ⟨S64x64x8x128, .f32⟩
  | 39 => ⟨S4096x1024, .f32⟩
  | 40 => ⟨S4096x8x128, .f32⟩
  | 41 => ⟨S4096x8x128, .f32⟩
  | 42 => ⟨S_, .f32⟩
  | 43 => ⟨S4096x8, .f32⟩
  | 44 => ⟨S4096x8x1, .f32⟩
  | 45 => ⟨S_, .f32⟩
  | 46 => ⟨S4096x8x1, .f32⟩
  | 47 => ⟨S4096x8x1, .f32⟩
  | 48 => ⟨S_, .f32⟩
  | 49 => ⟨S4096x8x1, .f32⟩
  | 50 => ⟨S4096x8x1, .f32⟩
  | 51 => ⟨S4096x8x1, .f32⟩
  | 52 => ⟨S4096x8x1, .f32⟩
  | 53 => ⟨S_, .f32⟩
  | 54 => ⟨S4096x8x1, .f32⟩
  | 55 => ⟨S4096x8x1, .f32⟩
  | 56 => ⟨S4096x8x128, .f32⟩
  | 57 => ⟨S4096x8x128, .f32⟩
  | 58 => ⟨S128, .f32⟩
  | 59 => ⟨S1x1x128, .f32⟩
  | 60 => ⟨S4096x8x128, .f32⟩
  | 61 => ⟨S4096x8x128, .f32⟩
  | 62 => ⟨S4096x8x128, .f32⟩
  | 63 => ⟨S4096x8x128, .f32⟩
  | 64 => ⟨S4096x8x128, .f32⟩
  | 65 => ⟨S_, .f32⟩
  | 66 => ⟨S4096x8x128, .f32⟩
  | 67 => ⟨S4096x8x128, .f32⟩
  | 68 => ⟨S_, .f32⟩
  | 69 => ⟨S4096x8x128, .f32⟩
  | 70 => ⟨S4096x8x128, .f32⟩
  | 71 => ⟨S_, .f32⟩
  | 72 => ⟨S4096x8x128, .f32⟩
  | 73 => ⟨S4096x8x128, .f32⟩
  | 74 => ⟨S4096x8x128, .f32⟩
  | 75 => ⟨S4096x8x128, .f32⟩
  | 76 => ⟨S4096x8x128, .f32⟩
  | 77 => ⟨S4096x1024, .f32⟩
  | 78 => ⟨S4096x1024, .f32⟩
  | 79 => ⟨S4096x512, .f32⟩
  | 80 => ⟨S4096x512, .f32⟩
  | 81 => ⟨S_, .f32⟩
  | 82 => ⟨S4096x512, .f32⟩
  | 83 => ⟨S4096x512, .f32⟩
  | 84 => ⟨S_, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S4096x1024, .f32⟩
  | 94 => ⟨S4096x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x1024, .f32⟩
  | 102 => ⟨S4096x8x128, .f32⟩
  | 103 => ⟨S4096x8x128, .f32⟩
  | 104 => ⟨S4096x8x128, .f32⟩
  | 105 => ⟨S4096x8x128, .f32⟩
  | 106 => ⟨S4096x8x128, .f32⟩
  | 107 => ⟨S4096x8x128, .f32⟩
  | 108 => ⟨S4096x8x128, .f32⟩
  | 109 => ⟨S4096x1024, .f32⟩
  | 110 => ⟨S4096x8x128, .f32⟩
  | 111 => ⟨S_, .f32⟩
  | 112 => ⟨S128, .f32⟩
  | 113 => ⟨S1x1x128, .f32⟩
  | 114 => ⟨S4096x8x128, .f32⟩
  | 115 => ⟨S4096x8x128, .f32⟩
  | 116 => ⟨S_, .f32⟩
  | 117 => ⟨S128, .f32⟩
  | 118 => ⟨S1x128, .f32⟩
  | 119 => ⟨S4096x8x128, .f32⟩
  | 120 => ⟨S_, .f32⟩
  | 121 => ⟨S4096x8, .f32⟩
  | 122 => ⟨S4096x8x1, .f32⟩
  | 123 => ⟨S4096x8x128, .f32⟩
  | 124 => ⟨S4096x8x128, .f32⟩
  | 125 => ⟨S4096x8x1, .f32⟩
  | 126 => ⟨S_, .f32⟩
  | 127 => ⟨S4096x8x1, .f32⟩
  | _ => ⟨S64x8x64x128, .f32⟩

abbrev hbmTy0_1 (i : Nat) : BufTy := match i % 128 with
  | 0 => ⟨S4096x8x1, .f32⟩
  | 1 => ⟨S_, .f32⟩
  | 2 => ⟨S4096x8, .f32⟩
  | 3 => ⟨S4096x8x128, .f32⟩
  | 4 => ⟨S4096x8x128, .f32⟩
  | 5 => ⟨S4096x8x128, .f32⟩
  | 6 => ⟨S4096x8x128, .f32⟩
  | 7 => ⟨S4096x8x128, .f32⟩
  | 8 => ⟨S4096x1024, .f32⟩
  | 9 => ⟨S64x64x8x128, .f32⟩
  | 10 => ⟨S64x8x64x128, .f32⟩
  | 11 => ⟨S64x8x64x128, .f32⟩
  | 12 => ⟨S64x8x64x64, .f32⟩
  | 13 => ⟨S64x8x64x128, .f32⟩
  | 14 => ⟨S64x8x64x128, .f32⟩
  | 15 => ⟨S64x8x128x128, .f32⟩
  | 16 => ⟨S_, .i32⟩
  | 17 => ⟨S64x8x64x128, .f32⟩
  | 18 => ⟨S64x8x64x128, .f32⟩
  | 19 => ⟨S64x8x64x64, .f32⟩
  | 20 => ⟨S64x8x64x128, .f32⟩
  | 21 => ⟨S64x8x64x128, .f32⟩
  | 22 => ⟨S64x8, .f32⟩
  | 23 => ⟨S64x8x128x128, .f32⟩
  | 24 => ⟨S64x8x64x128, .f32⟩
  | 25 => ⟨S_, .i32⟩
  | 26 => ⟨S8x128x128, .f32⟩
  | 27 => ⟨S64x8x128x128, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S1x8x64x128, .f32⟩
  | 38 => ⟨S8x64x128, .f32⟩
  | 39 => ⟨S_, .i32⟩
  | 40 => ⟨S_, .i32⟩
  | 41 => ⟨S_, .i32⟩
  | 42 => ⟨S1x8x64x128, .f32⟩
  | 43 => ⟨S8x64x128, .f32⟩
  | 44 => ⟨S_, .i32⟩
  | 45 => ⟨S_, .i32⟩
  | 46 => ⟨S_, .i32⟩
  | 47 => ⟨S1x8x64x64, .f32⟩
  | 48 => ⟨S8x64x64, .f32⟩
  | 49 => ⟨S_, .i32⟩
  | 50 => ⟨S_, .i32⟩
  | 51 => ⟨S_, .i32⟩
  | 52 => ⟨S1x8x64x128, .f32⟩
  | 53 => ⟨S8x64x128, .f32⟩
  | 54 => ⟨S_, .i32⟩
  | 55 => ⟨S_, .i32⟩
  | 56 => ⟨S_, .i32⟩
  | 57 => ⟨S1x8x64x128, .f32⟩
  | 58 => ⟨S8x64x128, .f32⟩
  | 59 => ⟨S_, .i32⟩
  | 60 => ⟨S1x8, .f32⟩
  | 61 => ⟨S8, .f32⟩
  | 62 => ⟨S_, .i32⟩
  | 63 => ⟨S_, .i32⟩
  | 64 => ⟨S_, .i32⟩
  | 65 => ⟨S1x8x128x128, .f32⟩
  | 66 => ⟨S8x128x128, .f32⟩
  | 67 => ⟨S_, .i32⟩
  | 68 => ⟨S_, .i32⟩
  | 69 => ⟨S_, .i32⟩
  | 70 => ⟨S1x8x64x128, .f32⟩
  | 71 => ⟨S8x64x128, .f32⟩
  | 72 => ⟨S8x64x128, .f32⟩
  | 73 => ⟨S8x64x128, .f32⟩
  | 74 => ⟨S8x64x128, .f32⟩
  | 75 => ⟨S8x64x128, .f32⟩
  | 76 => ⟨S8x64x128, .f32⟩
  | 77 => ⟨S8x1x1, .f32⟩
  | 78 => ⟨S8x128x128, .f32⟩
  | 79 => ⟨S8x128x128, .f32⟩
  | 80 => ⟨S8x128x128, .f32⟩
  | 81 => ⟨S8x128x128, .f32⟩
  | 82 => ⟨S8x128x64, .f32⟩
  | 83 => ⟨S8x64x128, .f32⟩
  | 84 => ⟨S8x128x128, .f32⟩
  | 85 => ⟨S8x128x128, .f32⟩
  | 86 => ⟨S8x128x64, .f32⟩
  | 87 => ⟨S8x64x128, .f32⟩
  | 88 => ⟨S8x64x128, .f32⟩
  | 89 => ⟨S8x128x128, .f32⟩
  | 90 => ⟨S8x128x128, .f32⟩
  | 91 => ⟨S8x128x128, .f32⟩
  | 92 => ⟨S8x64x128, .f32⟩
  | 93 => ⟨S8x128x128, .f32⟩
  | 94 => ⟨S8x128x128, .f32⟩
  | 95 => ⟨S8x128x128, .f32⟩
  | 96 => ⟨S1x8x128x128, .f32⟩
  | 97 => ⟨S63x8x128x128, .f32⟩
  | 98 => ⟨S64x8x128x128, .f32⟩
  | 99 => ⟨S_, .i32⟩
  | 100 => ⟨S_, .i32⟩
  | 101 => ⟨S64x8x128x128, .f32⟩
  | 102 => ⟨S64x8x64x128, .f32⟩
  | 103 => ⟨S64x8x64x64, .f32⟩
  | 104 => ⟨S64x8x64x128, .f32⟩
  | 105 => ⟨S64x8x64x128, .f32⟩
  | 106 => ⟨S1024x1024, .f32⟩
  | 107 => ⟨S512x1024, .f32⟩
  | 108 => ⟨S4096x1024, .f32⟩
  | 109 => ⟨S4096x1024, .f32⟩
  | 110 => ⟨S64x8x64x128, .f32⟩
  | 111 => ⟨S64x8x64x128, .f32⟩
  | 112 => ⟨S64x8x64x128, .f32⟩
  | 113 => ⟨S64x8x64x128, .f32⟩
  | 114 => ⟨S64x8x64x128, .f32⟩
  | 115 => ⟨S64x8x1x1, .f32⟩
  | 116 => ⟨S64x8x128x128, .f32⟩
  | 117 => ⟨S64x8x128x128, .f32⟩
  | 118 => ⟨S64x8x128x128, .f32⟩
  | 119 => ⟨S64x8x128x128, .f32⟩
  | 120 => ⟨S64x64x8x128, .f32⟩
  | 121 => ⟨S4096x1024, .f32⟩
  | 122 => ⟨S4096x8x128, .f32⟩
  | 123 => ⟨S4096x8x128, .f32⟩
  | 124 => ⟨S_, .f32⟩
  | 125 => ⟨S4096x8, .f32⟩
  | 126 => ⟨S4096x8x1, .f32⟩
  | 127 => ⟨S_, .f32⟩
  | _ => ⟨S64x8x64x128, .f32⟩

abbrev hbmTy0_2 (i : Nat) : BufTy := match i % 128 with
  | 0 => ⟨S4096x8x1, .f32⟩
  | 1 => ⟨S4096x8x1, .f32⟩
  | 2 => ⟨S_, .f32⟩
  | 3 => ⟨S4096x8x1, .f32⟩
  | 4 => ⟨S4096x8x1, .f32⟩
  | 5 => ⟨S4096x8x1, .f32⟩
  | 6 => ⟨S4096x8x1, .f32⟩
  | 7 => ⟨S_, .f32⟩
  | 8 => ⟨S4096x8x1, .f32⟩
  | 9 => ⟨S4096x8x1, .f32⟩
  | 10 => ⟨S4096x8x128, .f32⟩
  | 11 => ⟨S4096x8x128, .f32⟩
  | 12 => ⟨S128, .f32⟩
  | 13 => ⟨S1x1x128, .f32⟩
  | 14 => ⟨S4096x8x128, .f32⟩
  | 15 => ⟨S4096x8x128, .f32⟩
  | 16 => ⟨S4096x8x128, .f32⟩
  | 17 => ⟨S4096x8x128, .f32⟩
  | 18 => ⟨S4096x8x128, .f32⟩
  | 19 => ⟨S_, .f32⟩
  | 20 => ⟨S4096x8x128, .f32⟩
  | 21 => ⟨S4096x8x128, .f32⟩
  | 22 => ⟨S_, .f32⟩
  | 23 => ⟨S4096x8x128, .f32⟩
  | 24 => ⟨S4096x8x128, .f32⟩
  | 25 => ⟨S_, .f32⟩
  | 26 => ⟨S4096x8x128, .f32⟩
  | 27 => ⟨S4096x8x128, .f32⟩
  | 28 => ⟨S4096x8x128, .f32⟩
  | 29 => ⟨S4096x8x128, .f32⟩
  | 30 => ⟨S4096x8x128, .f32⟩
  | 31 => ⟨S4096x1024, .f32⟩
  | 32 => ⟨S4096x1024, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S_, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x1024, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S4096x1024, .f32⟩
  | 56 => ⟨S4096x8x128, .f32⟩
  | 57 => ⟨S4096x8x128, .f32⟩
  | 58 => ⟨S4096x8x128, .f32⟩
  | 59 => ⟨S4096x8x128, .f32⟩
  | 60 => ⟨S4096x8x128, .f32⟩
  | 61 => ⟨S4096x8x128, .f32⟩
  | 62 => ⟨S4096x8x128, .f32⟩
  | 63 => ⟨S4096x1024, .f32⟩
  | 64 => ⟨S4096x8x128, .f32⟩
  | 65 => ⟨S_, .f32⟩
  | 66 => ⟨S128, .f32⟩
  | 67 => ⟨S1x1x128, .f32⟩
  | 68 => ⟨S4096x8x128, .f32⟩
  | 69 => ⟨S4096x8x128, .f32⟩
  | 70 => ⟨S_, .f32⟩
  | 71 => ⟨S128, .f32⟩
  | 72 => ⟨S1x128, .f32⟩
  | 73 => ⟨S4096x8x128, .f32⟩
  | 74 => ⟨S_, .f32⟩
  | 75 => ⟨S4096x8, .f32⟩
  | 76 => ⟨S4096x8x1, .f32⟩
  | 77 => ⟨S4096x8x128, .f32⟩
  | 78 => ⟨S4096x8x128, .f32⟩
  | 79 => ⟨S4096x8x1, .f32⟩
  | 80 => ⟨S_, .f32⟩
  | 81 => ⟨S4096x8x1, .f32⟩
  | 82 => ⟨S4096x8x1, .f32⟩
  | 83 => ⟨S_, .f32⟩
  | 84 => ⟨S4096x8, .f32⟩
  | 85 => ⟨S4096x8x128, .f32⟩
  | 86 => ⟨S4096x8x128, .f32⟩
  | 87 => ⟨S4096x8x128, .f32⟩
  | 88 => ⟨S4096x8x128, .f32⟩
  | 89 => ⟨S4096x8x128, .f32⟩
  | 90 => ⟨S4096x1024, .f32⟩
  | 91 => ⟨S64x64x8x128, .f32⟩
  | 92 => ⟨S64x8x64x128, .f32⟩
  | 93 => ⟨S64x8x64x128, .f32⟩
  | 94 => ⟨S64x8x64x64, .f32⟩
  | 95 => ⟨S64x8x64x128, .f32⟩
  | 96 => ⟨S64x8x64x128, .f32⟩
  | 97 => ⟨S64x8x128x128, .f32⟩
  | 98 => ⟨S64x8x64x128, .f32⟩
  | 99 => ⟨S64x8x64x128, .f32⟩
  | 100 => ⟨S64x8x64x128, .f32⟩
  | 101 => ⟨S64x8x64x128, .f32⟩
  | 102 => ⟨S64x8x64x128, .f32⟩
  | 103 => ⟨S64x8x1x1, .f32⟩
  | 104 => ⟨S64x8x128x128, .f32⟩
  | 105 => ⟨S64x8x128x128, .f32⟩
  | 106 => ⟨S64x8x128x128, .f32⟩
  | 107 => ⟨S64x8x128x128, .f32⟩
  | 108 => ⟨S64x8x128x64, .f32⟩
  | 109 => ⟨S64x8x64x128, .f32⟩
  | 110 => ⟨S64x8x128x64, .f32⟩
  | 111 => ⟨S64x8x64x128, .f32⟩
  | 112 => ⟨S64x8x128x128, .f32⟩
  | 113 => ⟨S_, .f32⟩
  | 114 => ⟨S64x8, .f32⟩
  | 115 => ⟨S64x8x1x1, .f32⟩
  | 116 => ⟨S_, .f32⟩
  | 117 => ⟨S64x8, .f32⟩
  | 118 => ⟨S64x8x128x64, .f32⟩
  | 119 => ⟨S64x8x64x128, .f32⟩
  | 120 => ⟨S64x8x64x128, .f32⟩
  | 121 => ⟨S4096x512, .f32⟩
  | 122 => ⟨S4096x4x128, .f32⟩
  | 123 => ⟨S_, .f32⟩
  | 124 => ⟨S4096x4, .f32⟩
  | 125 => ⟨S64x8x64x128, .bf16⟩
  | 126 => ⟨S64x8x1x1, .f32⟩
  | 127 => ⟨S64x8x8x128, .f32⟩
  | _ => ⟨S64x8x64x128, .f32⟩

abbrev hbmTy0_3 (i : Nat) : BufTy := match i % 128 with
  | 0 => ⟨S4096x1024, .bf16⟩
  | 1 => ⟨S_, .f32⟩
  | 2 => ⟨S7x128, .f32⟩
  | 3 => ⟨S8x128, .f32⟩
  | 4 => ⟨S4096x512, .bf16⟩
  | 5 => ⟨S4096x4x1, .f32⟩
  | 6 => ⟨S4096x4x128, .f32⟩
  | 7 => ⟨S4096x512, .f32⟩
  | _ => ⟨S64x8x64x128, .f32⟩

abbrev hbmTy (i : Nat) : BufTy := match i / 128 with
  | 0 => hbmTy0_0 i
  | 1 => hbmTy0_1 i
  | 2 => hbmTy0_2 i
  | 3 => hbmTy0_3 i
  | _ => ⟨S64x8x64x128, .f32⟩

abbrev bufTy : (tb : Table) → Fin (tcTables nBuf tb) → BufTy
  | .hbm, ⟨i, _⟩ => hbmTy i
  | _, _ => ⟨S64x8x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v42_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v42_1 : Ref sig .tc := ⟨.hbm, 74, rfl⟩
abbrev main_v42_0 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_v46_2 : Ref sig .tc := ⟨.hbm, 86, rfl⟩
abbrev main_call1_cst_1 : Ref sig .tc := ⟨.hbm, 87, rfl⟩
abbrev main_call1_v6 : Ref sig .tc := ⟨.hbm, 88, rfl⟩
abbrev main_call1_v7 : Ref sig .tc := ⟨.hbm, 89, rfl⟩
abbrev main_v46_1 : Ref sig .tc := ⟨.hbm, 90, rfl⟩
abbrev main_v46_0 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_5 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_6 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_7 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_8 : Ref sig .tc := ⟨.hbm, 126, rfl⟩
abbrev main_v72 : Ref sig .tc := ⟨.hbm, 127, rfl⟩
abbrev main_v73 : Ref sig .tc := ⟨.hbm, 128, rfl⟩
abbrev main_cst_9 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_c : Ref sig .tc := ⟨.hbm, 144, rfl⟩
abbrev main_v88_0 : Ref sig .tc := ⟨.hbm, 145, rfl⟩
abbrev main_v88_1 : Ref sig .tc := ⟨.hbm, 146, rfl⟩
abbrev main_v88_2 : Ref sig .tc := ⟨.hbm, 147, rfl⟩
abbrev main_v88_3 : Ref sig .tc := ⟨.hbm, 148, rfl⟩
abbrev main_v88_4 : Ref sig .tc := ⟨.hbm, 149, rfl⟩
abbrev main_v88_5 : Ref sig .tc := ⟨.hbm, 150, rfl⟩
abbrev main_v88_6 : Ref sig .tc := ⟨.hbm, 151, rfl⟩
abbrev main_v88_7 : Ref sig .tc := ⟨.hbm, 152, rfl⟩
abbrev main_v88_8 : Ref sig .tc := ⟨.hbm, 153, rfl⟩
abbrev main_v88_9 : Ref sig .tc := ⟨.hbm, 154, rfl⟩
abbrev main_v88_10 : Ref sig .tc := ⟨.hbm, 155, rfl⟩
abbrev main_while0c_c_33 : Ref sig .tc := ⟨.hbm, 156, rfl⟩
abbrev main_while0c_v209 : Ref sig .tc := ⟨.hbm, 157, rfl⟩
abbrev main_while0b_c_33 : Ref sig .tc := ⟨.hbm, 158, rfl⟩
abbrev main_while0b_v209 : Ref sig .tc := ⟨.hbm, 159, rfl⟩
abbrev main_while0b_c_34 : Ref sig .tc := ⟨.hbm, 160, rfl⟩
abbrev main_while0b_v210 : Ref sig .tc := ⟨.hbm, 161, rfl⟩
abbrev main_while0b_call4_c : Ref sig .tc := ⟨.hbm, 162, rfl⟩
abbrev main_while0b_call4_c_0 : Ref sig .tc := ⟨.hbm, 163, rfl⟩
abbrev main_while0b_call4_c_1 : Ref sig .tc := ⟨.hbm, 164, rfl⟩
abbrev main_while0b_call4_v0 : Ref sig .tc := ⟨.hbm, 165, rfl⟩
abbrev main_while0b_v211 : Ref sig .tc := ⟨.hbm, 166, rfl⟩
abbrev main_while0b_call5_c : Ref sig .tc := ⟨.hbm, 167, rfl⟩
abbrev main_while0b_call5_c_0 : Ref sig .tc := ⟨.hbm, 168, rfl⟩
abbrev main_while0b_call5_c_1 : Ref sig .tc := ⟨.hbm, 169, rfl⟩
abbrev main_while0b_call5_v0 : Ref sig .tc := ⟨.hbm, 170, rfl⟩
abbrev main_while0b_v212 : Ref sig .tc := ⟨.hbm, 171, rfl⟩
abbrev main_while0b_call6_c : Ref sig .tc := ⟨.hbm, 172, rfl⟩
abbrev main_while0b_call6_c_0 : Ref sig .tc := ⟨.hbm, 173, rfl⟩
abbrev main_while0b_call6_c_1 : Ref sig .tc := ⟨.hbm, 174, rfl⟩
abbrev main_while0b_call6_v0 : Ref sig .tc := ⟨.hbm, 175, rfl⟩
abbrev main_while0b_v213 : Ref sig .tc := ⟨.hbm, 176, rfl⟩
abbrev main_while0b_call7_c : Ref sig .tc := ⟨.hbm, 177, rfl⟩
abbrev main_while0b_call7_c_0 : Ref sig .tc := ⟨.hbm, 178, rfl⟩
abbrev main_while0b_call7_c_1 : Ref sig .tc := ⟨.hbm, 179, rfl⟩
abbrev main_while0b_call7_v0 : Ref sig .tc := ⟨.hbm, 180, rfl⟩
abbrev main_while0b_v214 : Ref sig .tc := ⟨.hbm, 181, rfl⟩
abbrev main_while0b_call8_c : Ref sig .tc := ⟨.hbm, 182, rfl⟩
abbrev main_while0b_call8_c_0 : Ref sig .tc := ⟨.hbm, 183, rfl⟩
abbrev main_while0b_call8_c_1 : Ref sig .tc := ⟨.hbm, 184, rfl⟩
abbrev main_while0b_call8_v0 : Ref sig .tc := ⟨.hbm, 185, rfl⟩
abbrev main_while0b_v215 : Ref sig .tc := ⟨.hbm, 186, rfl⟩
abbrev main_while0b_call9_c : Ref sig .tc := ⟨.hbm, 187, rfl⟩
abbrev main_while0b_call9_v0 : Ref sig .tc := ⟨.hbm, 188, rfl⟩
abbrev main_while0b_v216 : Ref sig .tc := ⟨.hbm, 189, rfl⟩
abbrev main_while0b_call10_c : Ref sig .tc := ⟨.hbm, 190, rfl⟩
abbrev main_while0b_call10_c_0 : Ref sig .tc := ⟨.hbm, 191, rfl⟩
abbrev main_while0b_call10_c_1 : Ref sig .tc := ⟨.hbm, 192, rfl⟩
abbrev main_while0b_call10_v0 : Ref sig .tc := ⟨.hbm, 193, rfl⟩
abbrev main_while0b_v217 : Ref sig .tc := ⟨.hbm, 194, rfl⟩
abbrev main_while0b_call11_c : Ref sig .tc := ⟨.hbm, 195, rfl⟩
abbrev main_while0b_call11_c_0 : Ref sig .tc := ⟨.hbm, 196, rfl⟩
abbrev main_while0b_call11_c_1 : Ref sig .tc := ⟨.hbm, 197, rfl⟩
abbrev main_while0b_call11_v0 : Ref sig .tc := ⟨.hbm, 198, rfl⟩
abbrev main_while0b_v218 : Ref sig .tc := ⟨.hbm, 199, rfl⟩
abbrev main_while0b_v219 : Ref sig .tc := ⟨.hbm, 200, rfl⟩
abbrev main_while0b_v220 : Ref sig .tc := ⟨.hbm, 201, rfl⟩
abbrev main_while0b_v221 : Ref sig .tc := ⟨.hbm, 202, rfl⟩
abbrev main_while0b_v222 : Ref sig .tc := ⟨.hbm, 203, rfl⟩
abbrev main_while0b_v223 : Ref sig .tc := ⟨.hbm, 204, rfl⟩
abbrev main_while0b_v224 : Ref sig .tc := ⟨.hbm, 205, rfl⟩
abbrev main_while0b_v225 : Ref sig .tc := ⟨.hbm, 206, rfl⟩
abbrev main_while0b_v226 : Ref sig .tc := ⟨.hbm, 207, rfl⟩
abbrev main_while0b_v227 : Ref sig .tc := ⟨.hbm, 208, rfl⟩
abbrev main_while0b_v228 : Ref sig .tc := ⟨.hbm, 209, rfl⟩
abbrev main_while0b_v229 : Ref sig .tc := ⟨.hbm, 210, rfl⟩
abbrev main_while0b_v230 : Ref sig .tc := ⟨.hbm, 211, rfl⟩
abbrev main_while0b_v231 : Ref sig .tc := ⟨.hbm, 212, rfl⟩
abbrev main_while0b_v232 : Ref sig .tc := ⟨.hbm, 213, rfl⟩
abbrev main_while0b_v233 : Ref sig .tc := ⟨.hbm, 214, rfl⟩
abbrev main_while0b_v234 : Ref sig .tc := ⟨.hbm, 215, rfl⟩
abbrev main_while0b_v235 : Ref sig .tc := ⟨.hbm, 216, rfl⟩
abbrev main_while0b_v236 : Ref sig .tc := ⟨.hbm, 217, rfl⟩
abbrev main_while0b_v237 : Ref sig .tc := ⟨.hbm, 218, rfl⟩
abbrev main_while0b_v238 : Ref sig .tc := ⟨.hbm, 219, rfl⟩
abbrev main_while0b_v239 : Ref sig .tc := ⟨.hbm, 220, rfl⟩
abbrev main_while0b_v240 : Ref sig .tc := ⟨.hbm, 221, rfl⟩
abbrev main_while0b_v241 : Ref sig .tc := ⟨.hbm, 222, rfl⟩
abbrev main_while0b_v242 : Ref sig .tc := ⟨.hbm, 223, rfl⟩
abbrev main_while0b_v243 : Ref sig .tc := ⟨.hbm, 224, rfl⟩
abbrev main_while0b_v244 : Ref sig .tc := ⟨.hbm, 225, rfl⟩
abbrev main_while0b_v245 : Ref sig .tc := ⟨.hbm, 226, rfl⟩
abbrev main_while0b_c_35 : Ref sig .tc := ⟨.hbm, 227, rfl⟩
abbrev main_while0b_v246 : Ref sig .tc := ⟨.hbm, 228, rfl⟩
abbrev main_v89 : Ref sig .tc := ⟨.hbm, 229, rfl⟩
abbrev main_v90 : Ref sig .tc := ⟨.hbm, 230, rfl⟩
abbrev main_v91 : Ref sig .tc := ⟨.hbm, 231, rfl⟩
abbrev main_v92 : Ref sig .tc := ⟨.hbm, 232, rfl⟩
abbrev main_v93 : Ref sig .tc := ⟨.hbm, 233, rfl⟩
abbrev main_v94 : Ref sig .tc := ⟨.hbm, 234, rfl⟩
abbrev main_v95 : Ref sig .tc := ⟨.hbm, 235, rfl⟩
abbrev main_v96 : Ref sig .tc := ⟨.hbm, 236, rfl⟩
abbrev main_v97 : Ref sig .tc := ⟨.hbm, 237, rfl⟩
abbrev main_v98 : Ref sig .tc := ⟨.hbm, 238, rfl⟩
abbrev main_v99 : Ref sig .tc := ⟨.hbm, 239, rfl⟩
abbrev main_v100 : Ref sig .tc := ⟨.hbm, 240, rfl⟩
abbrev main_v101 : Ref sig .tc := ⟨.hbm, 241, rfl⟩
abbrev main_v102 : Ref sig .tc := ⟨.hbm, 242, rfl⟩
abbrev main_v103 : Ref sig .tc := ⟨.hbm, 243, rfl⟩
abbrev main_v104 : Ref sig .tc := ⟨.hbm, 244, rfl⟩
abbrev main_v105 : Ref sig .tc := ⟨.hbm, 245, rfl⟩
abbrev main_v106 : Ref sig .tc := ⟨.hbm, 246, rfl⟩
abbrev main_v107 : Ref sig .tc := ⟨.hbm, 247, rfl⟩
abbrev main_v108 : Ref sig .tc := ⟨.hbm, 248, rfl⟩
abbrev main_v109 : Ref sig .tc := ⟨.hbm, 249, rfl⟩
abbrev main_v110 : Ref sig .tc := ⟨.hbm, 250, rfl⟩
abbrev main_v111 : Ref sig .tc := ⟨.hbm, 251, rfl⟩
abbrev main_cst_10 : Ref sig .tc := ⟨.hbm, 252, rfl⟩
abbrev main_v112 : Ref sig .tc := ⟨.hbm, 253, rfl⟩
abbrev main_v113 : Ref sig .tc := ⟨.hbm, 254, rfl⟩
abbrev main_cst_11 : Ref sig .tc := ⟨.hbm, 255, rfl⟩
abbrev main_v114 : Ref sig .tc := ⟨.hbm, 256, rfl⟩
abbrev main_v115 : Ref sig .tc := ⟨.hbm, 257, rfl⟩
abbrev main_cst_12 : Ref sig .tc := ⟨.hbm, 258, rfl⟩
abbrev main_v116 : Ref sig .tc := ⟨.hbm, 259, rfl⟩
abbrev main_v117 : Ref sig .tc := ⟨.hbm, 260, rfl⟩
abbrev main_v118 : Ref sig .tc := ⟨.hbm, 261, rfl⟩
abbrev main_v119 : Ref sig .tc := ⟨.hbm, 262, rfl⟩
abbrev main_cst_13 : Ref sig .tc := ⟨.hbm, 263, rfl⟩
abbrev main_v120 : Ref sig .tc := ⟨.hbm, 264, rfl⟩
abbrev main_v121 : Ref sig .tc := ⟨.hbm, 265, rfl⟩
abbrev main_v122 : Ref sig .tc := ⟨.hbm, 266, rfl⟩
abbrev main_v123 : Ref sig .tc := ⟨.hbm, 267, rfl⟩
abbrev main_v124 : Ref sig .tc := ⟨.hbm, 268, rfl⟩
abbrev main_v125 : Ref sig .tc := ⟨.hbm, 269, rfl⟩
abbrev main_v126 : Ref sig .tc := ⟨.hbm, 270, rfl⟩
abbrev main_v127 : Ref sig .tc := ⟨.hbm, 271, rfl⟩
abbrev main_v128 : Ref sig .tc := ⟨.hbm, 272, rfl⟩
abbrev main_call12_v0 : Ref sig .tc := ⟨.hbm, 273, rfl⟩
abbrev main_call12_v1 : Ref sig .tc := ⟨.hbm, 274, rfl⟩
abbrev main_call12_cst : Ref sig .tc := ⟨.hbm, 275, rfl⟩
abbrev main_call12_v2 : Ref sig .tc := ⟨.hbm, 276, rfl⟩
abbrev main_call12_v3 : Ref sig .tc := ⟨.hbm, 277, rfl⟩
abbrev main_call12_cst_0 : Ref sig .tc := ⟨.hbm, 278, rfl⟩
abbrev main_call12_v4 : Ref sig .tc := ⟨.hbm, 279, rfl⟩
abbrev main_v129_2 : Ref sig .tc := ⟨.hbm, 280, rfl⟩
abbrev main_call12_cst_1 : Ref sig .tc := ⟨.hbm, 281, rfl⟩
abbrev main_call12_v6 : Ref sig .tc := ⟨.hbm, 282, rfl⟩
abbrev main_call12_v7 : Ref sig .tc := ⟨.hbm, 283, rfl⟩
abbrev main_v129_1 : Ref sig .tc := ⟨.hbm, 284, rfl⟩
abbrev main_v129_0 : Ref sig .tc := ⟨.hbm, 285, rfl⟩
abbrev main_v130 : Ref sig .tc := ⟨.hbm, 286, rfl⟩
abbrev main_v131 : Ref sig .tc := ⟨.hbm, 287, rfl⟩
abbrev main_v132 : Ref sig .tc := ⟨.hbm, 288, rfl⟩
abbrev main_call13_v0 : Ref sig .tc := ⟨.hbm, 289, rfl⟩
abbrev main_call13_v1 : Ref sig .tc := ⟨.hbm, 290, rfl⟩
abbrev main_call13_cst : Ref sig .tc := ⟨.hbm, 291, rfl⟩
abbrev main_call13_v2 : Ref sig .tc := ⟨.hbm, 292, rfl⟩
abbrev main_call13_v3 : Ref sig .tc := ⟨.hbm, 293, rfl⟩
abbrev main_call13_cst_0 : Ref sig .tc := ⟨.hbm, 294, rfl⟩
abbrev main_call13_v4 : Ref sig .tc := ⟨.hbm, 295, rfl⟩
abbrev main_v133_2 : Ref sig .tc := ⟨.hbm, 296, rfl⟩
abbrev main_call13_cst_1 : Ref sig .tc := ⟨.hbm, 297, rfl⟩
abbrev main_call13_v6 : Ref sig .tc := ⟨.hbm, 298, rfl⟩
abbrev main_call13_v7 : Ref sig .tc := ⟨.hbm, 299, rfl⟩
abbrev main_v133_1 : Ref sig .tc := ⟨.hbm, 300, rfl⟩
abbrev main_v133_0 : Ref sig .tc := ⟨.hbm, 301, rfl⟩
abbrev main_v134 : Ref sig .tc := ⟨.hbm, 302, rfl⟩
abbrev main_v135 : Ref sig .tc := ⟨.hbm, 303, rfl⟩
abbrev main_v136 : Ref sig .tc := ⟨.hbm, 304, rfl⟩
abbrev main_v137 : Ref sig .tc := ⟨.hbm, 305, rfl⟩
abbrev main_v138 : Ref sig .tc := ⟨.hbm, 306, rfl⟩
abbrev main_call14_v0 : Ref sig .tc := ⟨.hbm, 307, rfl⟩
abbrev main_call14_v1 : Ref sig .tc := ⟨.hbm, 308, rfl⟩
abbrev main_call14_v2 : Ref sig .tc := ⟨.hbm, 309, rfl⟩
abbrev main_v139 : Ref sig .tc := ⟨.hbm, 310, rfl⟩
abbrev main_v140 : Ref sig .tc := ⟨.hbm, 311, rfl⟩
abbrev main_v141 : Ref sig .tc := ⟨.hbm, 312, rfl⟩
abbrev main_v142 : Ref sig .tc := ⟨.hbm, 313, rfl⟩
abbrev main_v143 : Ref sig .tc := ⟨.hbm, 314, rfl⟩
abbrev main_call15_v0 : Ref sig .tc := ⟨.hbm, 315, rfl⟩
abbrev main_call15_v1 : Ref sig .tc := ⟨.hbm, 316, rfl⟩
abbrev main_call15_v2 : Ref sig .tc := ⟨.hbm, 317, rfl⟩
abbrev main_v144 : Ref sig .tc := ⟨.hbm, 318, rfl⟩
abbrev main_v145 : Ref sig .tc := ⟨.hbm, 319, rfl⟩
abbrev main_v146 : Ref sig .tc := ⟨.hbm, 320, rfl⟩
abbrev main_cst_14 : Ref sig .tc := ⟨.hbm, 321, rfl⟩
abbrev main_v147 : Ref sig .tc := ⟨.hbm, 322, rfl⟩
abbrev main_v148 : Ref sig .tc := ⟨.hbm, 323, rfl⟩
abbrev main_v149 : Ref sig .tc := ⟨.hbm, 324, rfl⟩
abbrev main_v150 : Ref sig .tc := ⟨.hbm, 325, rfl⟩
abbrev main_cst_15 : Ref sig .tc := ⟨.hbm, 326, rfl⟩
abbrev main_v151 : Ref sig .tc := ⟨.hbm, 327, rfl⟩
abbrev main_v152 : Ref sig .tc := ⟨.hbm, 328, rfl⟩
abbrev main_v153 : Ref sig .tc := ⟨.hbm, 329, rfl⟩
abbrev main_cst_16 : Ref sig .tc := ⟨.hbm, 330, rfl⟩
abbrev main_v154 : Ref sig .tc := ⟨.hbm, 331, rfl⟩
abbrev main_v155 : Ref sig .tc := ⟨.hbm, 332, rfl⟩
abbrev main_v156 : Ref sig .tc := ⟨.hbm, 333, rfl⟩
abbrev main_v157 : Ref sig .tc := ⟨.hbm, 334, rfl⟩
abbrev main_v158 : Ref sig .tc := ⟨.hbm, 335, rfl⟩
abbrev main_cst_17 : Ref sig .tc := ⟨.hbm, 336, rfl⟩
abbrev main_v159 : Ref sig .tc := ⟨.hbm, 337, rfl⟩
abbrev main_v160 : Ref sig .tc := ⟨.hbm, 338, rfl⟩
abbrev main_cst_18 : Ref sig .tc := ⟨.hbm, 339, rfl⟩
abbrev main_v161 : Ref sig .tc := ⟨.hbm, 340, rfl⟩
abbrev main_v162 : Ref sig .tc := ⟨.hbm, 341, rfl⟩
abbrev main_v163 : Ref sig .tc := ⟨.hbm, 342, rfl⟩
abbrev main_v164 : Ref sig .tc := ⟨.hbm, 343, rfl⟩
abbrev main_v165 : Ref sig .tc := ⟨.hbm, 344, rfl⟩
abbrev main_v166 : Ref sig .tc := ⟨.hbm, 345, rfl⟩
abbrev main_v167 : Ref sig .tc := ⟨.hbm, 346, rfl⟩
abbrev main_v168 : Ref sig .tc := ⟨.hbm, 347, rfl⟩
abbrev main_v169 : Ref sig .tc := ⟨.hbm, 348, rfl⟩
abbrev main_v170 : Ref sig .tc := ⟨.hbm, 349, rfl⟩
abbrev main_v171 : Ref sig .tc := ⟨.hbm, 350, rfl⟩
abbrev main_v172 : Ref sig .tc := ⟨.hbm, 351, rfl⟩
abbrev main_v173 : Ref sig .tc := ⟨.hbm, 352, rfl⟩
abbrev main_v174 : Ref sig .tc := ⟨.hbm, 353, rfl⟩
abbrev main_v175 : Ref sig .tc := ⟨.hbm, 354, rfl⟩
abbrev main_v176 : Ref sig .tc := ⟨.hbm, 355, rfl⟩
abbrev main_v177 : Ref sig .tc := ⟨.hbm, 356, rfl⟩
abbrev main_v178 : Ref sig .tc := ⟨.hbm, 357, rfl⟩
abbrev main_v179 : Ref sig .tc := ⟨.hbm, 358, rfl⟩
abbrev main_v180 : Ref sig .tc := ⟨.hbm, 359, rfl⟩
abbrev main_v181 : Ref sig .tc := ⟨.hbm, 360, rfl⟩
abbrev main_v182 : Ref sig .tc := ⟨.hbm, 361, rfl⟩
abbrev main_v183 : Ref sig .tc := ⟨.hbm, 362, rfl⟩
abbrev main_v184 : Ref sig .tc := ⟨.hbm, 363, rfl⟩
abbrev main_v185 : Ref sig .tc := ⟨.hbm, 364, rfl⟩
abbrev main_v186 : Ref sig .tc := ⟨.hbm, 365, rfl⟩
abbrev main_v187 : Ref sig .tc := ⟨.hbm, 366, rfl⟩
abbrev main_v188 : Ref sig .tc := ⟨.hbm, 367, rfl⟩
abbrev main_v189 : Ref sig .tc := ⟨.hbm, 368, rfl⟩
abbrev main_cst_19 : Ref sig .tc := ⟨.hbm, 369, rfl⟩
abbrev main_v190 : Ref sig .tc := ⟨.hbm, 370, rfl⟩
abbrev main_v191 : Ref sig .tc := ⟨.hbm, 371, rfl⟩
abbrev main_cst_20 : Ref sig .tc := ⟨.hbm, 372, rfl⟩
abbrev main_v192 : Ref sig .tc := ⟨.hbm, 373, rfl⟩
abbrev main_v193 : Ref sig .tc := ⟨.hbm, 374, rfl⟩
abbrev main_v194 : Ref sig .tc := ⟨.hbm, 375, rfl⟩
abbrev main_v195 : Ref sig .tc := ⟨.hbm, 376, rfl⟩
abbrev main_v196 : Ref sig .tc := ⟨.hbm, 377, rfl⟩
abbrev main_v197 : Ref sig .tc := ⟨.hbm, 378, rfl⟩
abbrev main_cst_21 : Ref sig .tc := ⟨.hbm, 379, rfl⟩
abbrev main_v198 : Ref sig .tc := ⟨.hbm, 380, rfl⟩
abbrev main_v199 : Ref sig .tc := ⟨.hbm, 381, rfl⟩
abbrev main_v200 : Ref sig .tc := ⟨.hbm, 382, rfl⟩
abbrev main_v201 : Ref sig .tc := ⟨.hbm, 383, rfl⟩
abbrev main_v202 : Ref sig .tc := ⟨.hbm, 384, rfl⟩
abbrev main_cst_22 : Ref sig .tc := ⟨.hbm, 385, rfl⟩
abbrev main_v203 : Ref sig .tc := ⟨.hbm, 386, rfl⟩
abbrev main_v204 : Ref sig .tc := ⟨.hbm, 387, rfl⟩
abbrev main_v205 : Ref sig .tc := ⟨.hbm, 388, rfl⟩
abbrev main_v206 : Ref sig .tc := ⟨.hbm, 389, rfl⟩
abbrev main_v207 : Ref sig .tc := ⟨.hbm, 390, rfl⟩
abbrev main_v208 : Ref sig .tc := ⟨.hbm, 391, rfl⟩

abbrev nD : Nat := 1
abbrev τ : Topo := Topo.v7x

variable {F : FTy → Type} [FloatOps F]

abbrev main_while0_count : Scf.Loop 32 := ⟨0#32, 64#32, 1#32⟩
-- ==== Kernel3.lean ====
abbrev S4096x1024 : Shape := ⟨2, ![4096, 1024]⟩
abbrev S1x1024 : Shape := ⟨2, ![1, 1024]⟩
abbrev S1x1024x11280 : Shape := ⟨3, ![1, 1024, 11280]⟩
abbrev S1024x11280 : Shape := ⟨2, ![1024, 11280]⟩
abbrev S11280x1024 : Shape := ⟨2, ![11280, 1024]⟩
abbrev S1x11280x1024 : Shape := ⟨3, ![1, 11280, 1024]⟩
abbrev S16x1024 : Shape := ⟨2, ![16, 1024]⟩
abbrev S_ : Shape := ⟨0, ![]⟩
abbrev S112x1024 : Shape := ⟨2, ![112, 1024]⟩
abbrev S128x1024 : Shape := ⟨2, ![128, 1024]⟩
abbrev S3072x1024 : Shape := ⟨2, ![3072, 1024]⟩
abbrev S1024x1024 : Shape := ⟨2, ![1024, 1024]⟩
abbrev S1536x1024 : Shape := ⟨2, ![1536, 1024]⟩
abbrev S512x1024 : Shape := ⟨2, ![512, 1024]⟩
abbrev S4096x3072 : Shape := ⟨2, ![4096, 3072]⟩
abbrev S4096x128 : Shape := ⟨2, ![4096, 128]⟩
abbrev S4096x512 : Shape := ⟨2, ![4096, 512]⟩
abbrev S256x1024 : Shape := ⟨2, ![256, 1024]⟩
abbrev S256x3072 : Shape := ⟨2, ![256, 3072]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S4096x1536 : Shape := ⟨2, ![4096, 1536]⟩
abbrev S256x1536 : Shape := ⟨2, ![256, 1536]⟩
abbrev S4096x16 : Shape := ⟨2, ![4096, 16]⟩

abbrev nBuf : Space → Nat
  | .hbm => 31
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x11280, .f32⟩
  | .hbm, ⟨3, _⟩ => ⟨S1024x11280, .f32⟩
  | .hbm, ⟨4, _⟩ => ⟨S11280x1024, .f32⟩
  | .hbm, ⟨5, _⟩ => ⟨S11280x1024, .bf16⟩
  | .hbm, ⟨6, _⟩ => ⟨S1x11280x1024, .bf16⟩
  | .hbm, ⟨7, _⟩ => ⟨S11280x1024, .bf16⟩
  | .hbm, ⟨8, _⟩ => ⟨S16x1024, .bf16⟩
  | .hbm, ⟨9, _⟩ => ⟨S_, .bf16⟩
  | .hbm, ⟨10, _⟩ => ⟨S112x1024, .bf16⟩
  | .hbm, ⟨11, _⟩ => ⟨S128x1024, .bf16⟩
  | .hbm, ⟨12, _⟩ => ⟨S3072x1024, .bf16⟩
  | .hbm, ⟨13, _⟩ => ⟨S1024x1024, .bf16⟩
  | .hbm, ⟨14, _⟩ => ⟨S1536x1024, .bf16⟩
  | .hbm, ⟨15, _⟩ => ⟨S1536x1024, .bf16⟩
  | .hbm, ⟨16, _⟩ => ⟨S1536x1024, .bf16⟩
  | .hbm, ⟨17, _⟩ => ⟨S512x1024, .bf16⟩
  | .hbm, ⟨18, _⟩ => ⟨S1024x1024, .bf16⟩
  | .hbm, ⟨19, _⟩ => ⟨S1024x1024, .bf16⟩
  | .hbm, ⟨20, _⟩ => ⟨S4096x1024, .bf16⟩
  | .hbm, ⟨21, _⟩ => ⟨S4096x3072, .f32⟩
  | .hbm, ⟨22, _⟩ => ⟨S4096x1024, .f32⟩
  | .hbm, ⟨23, _⟩ => ⟨S4096x128, .f32⟩
  | .hbm, ⟨24, _⟩ => ⟨S4096x512, .f32⟩
  | .hbm, ⟨25, _⟩ => ⟨S4096x1536, .f32⟩
  | .hbm, ⟨26, _⟩ => ⟨S4096x1536, .f32⟩
  | .hbm, ⟨27, _⟩ => ⟨S4096x1536, .f32⟩
  | .hbm, ⟨28, _⟩ => ⟨S4096x1024, .f32⟩
  | .hbm, ⟨29, _⟩ => ⟨S4096x1024, .f32⟩
  | .hbm, ⟨30, _⟩ => ⟨S4096x16, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S3072x1024, .bf16⟩
  | .local _ .vmem, ⟨4, _⟩ => ⟨S1024x1024, .bf16⟩
  | .local _ .vmem, ⟨5, _⟩ => ⟨S128x1024, .bf16⟩
  | .local _ .vmem, ⟨6, _⟩ => ⟨S512x1024, .bf16⟩
  | .local _ .vmem, ⟨7, _⟩ => ⟨S256x1024, .bf16⟩
  | .local _ .vmem, ⟨8, _⟩ => ⟨S256x1024, .bf16⟩
  | .local _ .vmem, ⟨9, _⟩ => ⟨S256x3072, .f32⟩
  | .local _ .vmem, ⟨10, _⟩ => ⟨S256x3072, .f32⟩
  | .local _ .vmem, ⟨11, _⟩ => ⟨S256x1024, .f32⟩
  | .local _ .vmem, ⟨12, _⟩ => ⟨S256x1024, .f32⟩
  | .local _ .vmem, ⟨13, _⟩ => ⟨S256x128, .f32⟩
  | .local _ .vmem, ⟨14, _⟩ => ⟨S256x128, .f32⟩
  | .local _ .vmem, ⟨15, _⟩ => ⟨S256x512, .f32⟩
  | .local _ .vmem, ⟨16, _⟩ => ⟨S256x512, .f32⟩
  | .local _ .vmem, ⟨17, _⟩ => ⟨S256x1024, .bf16⟩
  | .local _ .vmem, ⟨18, _⟩ => ⟨S256x1024, .bf16⟩
  | .local _ .vmem, ⟨19, _⟩ => ⟨S1536x1024, .bf16⟩
  | .local _ .vmem, ⟨20, _⟩ => ⟨S1536x1024, .bf16⟩
  | .local _ .vmem, ⟨21, _⟩ => ⟨S1536x1024, .bf16⟩
  | .local _ .vmem, ⟨22, _⟩ => ⟨S1024x1024, .bf16⟩
  | .local _ .vmem, ⟨23, _⟩ => ⟨S1024x1024, .bf16⟩
  | .local _ .vmem, ⟨24, _⟩ => ⟨S256x1536, .f32⟩
  | .local _ .vmem, ⟨25, _⟩ => ⟨S256x1536, .f32⟩
  | .local _ .vmem, ⟨26, _⟩ => ⟨S256x1536, .f32⟩
  | .local _ .vmem, ⟨27, _⟩ => ⟨S256x1536, .f32⟩
  | .local _ .vmem, ⟨28, _⟩ => ⟨S256x1536, .f32⟩
  | .local _ .vmem, ⟨29, _⟩ => ⟨S256x1536, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev main_v16_2 : Ref sig .tc := ⟨.hbm, 22, rfl⟩
abbrev main_v16_3 : Ref sig .tc := ⟨.hbm, 23, rfl⟩
abbrev main_v16_4 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1536x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1536x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1536x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1536 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1536 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== Reference3Ideal.lean ====
abbrev S4096x1024 : Shape := ⟨2, ![4096, 1024]⟩
abbrev S1x1024 : Shape := ⟨2, ![1, 1024]⟩
abbrev S1x1024x11280 : Shape := ⟨3, ![1, 1024, 11280]⟩
abbrev S_ : Shape := ⟨0, ![]⟩
abbrev S4096 : Shape := ⟨1, ![4096]⟩
abbrev S4096x1 : Shape := ⟨2, ![4096, 1]⟩
abbrev S1024x11280 : Shape := ⟨2, ![1024, 11280]⟩
abbrev S4096x11280 : Shape := ⟨2, ![4096, 11280]⟩
abbrev S4096x3072 : Shape := ⟨2, ![4096, 3072]⟩
abbrev S4096x16 : Shape := ⟨2, ![4096, 16]⟩
abbrev S4096x1536 : Shape := ⟨2, ![4096, 1536]⟩
abbrev S4096x512 : Shape := ⟨2, ![4096, 512]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x11280, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x11280, .f32⟩
  | .hbm, ⟨19, _⟩ => ⟨S4096x11280, .f32⟩
  | .hbm, ⟨20, _⟩ => ⟨S4096x3072, .f32⟩
  | .hbm, ⟨21, _⟩ => ⟨S4096x1024, .f32⟩
  | .hbm, ⟨22, _⟩ => ⟨S4096x16, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S4096x512, .f32⟩
  | .hbm, ⟨27, _⟩ => ⟨S4096x1024, .f32⟩
  | .hbm, ⟨28, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel2.lean ====
abbrev S1x1024x11280 : Shape := ⟨3, ![1, 1024, 11280]⟩
abbrev S4096x11280 : Shape := ⟨2, ![4096, 11280]⟩
abbrev S4096x1024 : Shape := ⟨2, ![4096, 1024]⟩
abbrev S4096x8 : Shape := ⟨2, ![4096, 8]⟩
abbrev S4096x1536 : Shape := ⟨2, ![4096, 1536]⟩
abbrev S4096x512 : Shape := ⟨2, ![4096, 512]⟩
abbrev S_ : Shape := ⟨0, ![]⟩
abbrev S4096x112 : Shape := ⟨2, ![4096, 112]⟩
abbrev S4096x128 : Shape := ⟨2, ![4096, 128]⟩
abbrev S4096x3072 : Shape := ⟨2, ![4096, 3072]⟩
abbrev S1024x11280 : Shape := ⟨2, ![1024, 11280]⟩
abbrev S11280x1024 : Shape := ⟨2, ![11280, 1024]⟩
abbrev S1x11280x1024 : Shape := ⟨3, ![1, 11280, 1024]⟩
abbrev S16x1024 : Shape := ⟨2, ![16, 1024]⟩
abbrev S112x1024 : Shape := ⟨2, ![112, 1024]⟩
abbrev S128x1024 : Shape := ⟨2, ![128, 1024]⟩
abbrev S3072x1024 : Shape := ⟨2, ![3072, 1024]⟩
abbrev S1024x1024 : Shape := ⟨2, ![1024, 1024]⟩
abbrev S1536x1024 : Shape := ⟨2, ![1536, 1024]⟩
abbrev S512x1024 : Shape := ⟨2, ![512, 1024]⟩
abbrev S256x512 : Shape := ⟨2, ![256, 512]⟩
abbrev S256x1024 : Shape := ⟨2, ![256, 1024]⟩

abbrev nBuf : Space → Nat
  | .hbm => 54
  | .vmem => 35
  | .smem => 0
  | _ => 0

abbrev bufTy : (tb : Table) → Fin (tcTables nBuf tb) → BufTy
  | .hbm, ⟨0, _⟩ => ⟨S1x1024x11280, .f32⟩
  | .hbm, ⟨1, _⟩ => ⟨S4096x11280, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x8, .bf16⟩
  | .hbm, ⟨7, _⟩ => ⟨S4096x8, .bf16⟩
  | .hbm, ⟨8, _⟩ => ⟨S4096x1536, .bf16⟩
  | .hbm, ⟨9, _⟩ => ⟨S4096x1536, .bf16⟩
  | .hbm, ⟨10, _⟩ => ⟨S4096x1536, .bf16⟩
  | .hbm, ⟨11, _⟩ => ⟨S4096x512, .bf16⟩
  | .hbm, ⟨12, _⟩ => ⟨S4096x1024, .bf16⟩
  | .hbm, ⟨13, _⟩ => ⟨S4096x1024, .bf16⟩
  | .hbm, ⟨14, _⟩ => ⟨S_, .bf16⟩
  | .hbm, ⟨15, _⟩ => ⟨S4096x112, .bf16⟩
  | .hbm, ⟨16, _⟩ => ⟨S4096x128, .bf16⟩
  | .hbm, ⟨17, _⟩ => ⟨S4096x3072, .bf16⟩
  | .hbm, ⟨18, _⟩ => ⟨S4096x512, .bf16⟩
  | .hbm, ⟨19, _⟩ => ⟨S4096x512, .bf16⟩
  | .hbm, ⟨20, _⟩ => ⟨S4096x512, .bf16⟩
  | .hbm, ⟨21, _⟩ => ⟨S4096x512, .bf16⟩
  | .hbm, ⟨22, _⟩ => ⟨S4096x512, .bf16⟩
  | .hbm, ⟨23, _⟩ => ⟨S4096x512, .bf16⟩
  | .hbm, ⟨24, _⟩ => ⟨S4096x512, .bf16⟩
  | .hbm, ⟨25, _⟩ => ⟨S4096x512, .bf16⟩
  | .hbm, ⟨26, _⟩ => ⟨S4096x512, .bf16⟩
  | .hbm, ⟨27, _⟩ => ⟨S1024x11280, .f32⟩
  | .hbm, ⟨28, _⟩ => ⟨S11280x1024, .f32⟩
  | .hbm, ⟨29, _⟩ => ⟨S11280x1024, .bf16⟩
  | .hbm, ⟨30, _⟩ => ⟨S1x11280x1024, .bf16⟩
  | .hbm, ⟨31, _⟩ => ⟨S11280x1024, .bf16⟩
  | .hbm, ⟨32, _⟩ => ⟨S16x1024, .bf16⟩
  | .hbm, ⟨33, _⟩ => ⟨S_, .bf16⟩
  | .hbm, ⟨34, _⟩ => ⟨S112x1024, .bf16⟩
  | .hbm, ⟨35, _⟩ => ⟨S128x1024, .bf16⟩
  | .hbm, ⟨36, _⟩ => ⟨S3072x1024, .bf16⟩
  | .hbm, ⟨37, _⟩ => ⟨S1024x1024, .bf16⟩
  | .hbm, ⟨38, _⟩ => ⟨S1536x1024, .bf16⟩
  | .hbm, ⟨39, _⟩ => ⟨S1536x1024, .bf16⟩
  | .hbm, ⟨40, _⟩ => ⟨S1536x1024, .bf16⟩
  | .hbm, ⟨41, _⟩ => ⟨S512x1024, .bf16⟩
  | .hbm, ⟨42, _⟩ => ⟨S1024x1024, .bf16⟩
  | .hbm, ⟨43, _⟩ => ⟨S1024x1024, .bf16⟩
  | .hbm, ⟨44, _⟩ => ⟨S512x1024, .bf16⟩
  | .hbm, ⟨45, _⟩ => ⟨S512x1024, .bf16⟩
  | .hbm, ⟨46, _⟩ => ⟨S512x1024, .bf16⟩
  | .hbm, ⟨47, _⟩ => ⟨S512x1024, .bf16⟩
  | .hbm, ⟨48, _⟩ => ⟨S512x1024, .bf16⟩
  | .hbm, ⟨49, _⟩ => ⟨S512x1024, .bf16⟩
  | .hbm, ⟨50, _⟩ => ⟨S512x1024, .bf16⟩
  | .hbm, ⟨51, _⟩ => ⟨S512x1024, .bf16⟩
  | .hbm, ⟨52, _⟩ => ⟨S512x1024, .bf16⟩
  | .hbm, ⟨53, _⟩ => ⟨S4096x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S1024x1024, .bf16⟩
  | .local _ .vmem, ⟨32, _⟩ => ⟨S1024x1024, .bf16⟩
  | .local _ .vmem, ⟨33, _⟩ => ⟨S256x1024, .f32⟩
  | .local _ .vmem, ⟨34, _⟩ => ⟨S256x1024, .f32⟩
  | _, _ => ⟨S1x1024x11280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst_0 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg22_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference2Ideal.lean ====
abbrev S1x1024x11280 : Shape := ⟨3, ![1, 1024, 11280]⟩
abbrev S4096x11280 : Shape := ⟨2, ![4096, 11280]⟩
abbrev S_ : Shape := ⟨0, ![]⟩
abbrev S4096x1024 : Shape := ⟨2, ![4096, 1024]⟩
abbrev S1024x11280 : Shape := ⟨2, ![1024, 11280]⟩
abbrev S1024x4112 : Shape := ⟨2, ![1024, 4112]⟩
abbrev S1024x4608 : Shape := ⟨2, ![1024, 4608]⟩
abbrev S1024x512 : Shape := ⟨2, ![1024, 512]⟩
abbrev S1024x2048 : Shape := ⟨2, ![1024, 2048]⟩
abbrev S4096x4608 : Shape := ⟨2, ![4096, 4608]⟩
abbrev S4096x2048 : Shape := ⟨2, ![4096, 2048]⟩
abbrev S4096x4112 : Shape := ⟨2, ![4096, 4112]⟩
abbrev S4096x512 : Shape := ⟨2, ![4096, 512]⟩

abbrev nBuf : Space → Nat
  | .hbm => 19
  | .vmem => 0
  | .smem => 0
  | _ => 0

abbrev bufTy : (tb : Table) → Fin (tcTables nBuf tb) → BufTy
  | .hbm, ⟨0, _⟩ => ⟨S1x1024x11280, .f32⟩
  | .hbm, ⟨1, _⟩ => ⟨S4096x11280, .bf16⟩
  | .hbm, ⟨2, _⟩ => ⟨S_, .f32⟩
  | .hbm, ⟨3, _⟩ => ⟨S4096x1024, .f32⟩
  | .hbm, ⟨4, _⟩ => ⟨S1024x11280, .f32⟩
  | .hbm, ⟨5, _⟩ => ⟨S1024x4112, .f32⟩
  | .hbm, ⟨6, _⟩ => ⟨S1024x4608, .f32⟩
  | .hbm, ⟨7, _⟩ => ⟨S1024x512, .f32⟩
  | .hbm, ⟨8, _⟩ => ⟨S1024x2048, .f32⟩
  | .hbm, ⟨9, _⟩ => ⟨S4096x4608, .f32⟩
  | .hbm, ⟨10, _⟩ => ⟨S4096x2048, .f32⟩
  | .hbm, ⟨11, _⟩ => ⟨S4096x11280, .f32⟩
  | .hbm, ⟨12, _⟩ => ⟨S4096x4112, .f32⟩
  | .hbm, ⟨13, _⟩ => ⟨S4096x4608, .f32⟩
  | .hbm, ⟨14, _⟩ => ⟨S4096x512, .f32⟩
  | .hbm, ⟨15, _⟩ => ⟨S4096x2048, .f32⟩
  | .hbm, ⟨16, _⟩ => ⟨S4096x1024, .f32⟩
  | .hbm, ⟨17, _⟩ => ⟨S4096x1024, .f32⟩
  | .hbm, ⟨18, _⟩ => ⟨S4096x1024, .f32⟩
  | _, _ => ⟨S1x1024x11280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1x1024x11280 : Shape := ⟨3, ![1, 1024, 11280]⟩
abbrev S4096x11280 : Shape := ⟨2, ![4096, 11280]⟩
abbrev S4096x8 : Shape := ⟨2, ![4096, 8]⟩
abbrev S4096x1536 : Shape := ⟨2, ![4096, 1536]⟩
abbrev S4096x512 : Shape := ⟨2, ![4096, 512]⟩
abbrev S_ : Shape := ⟨0, ![]⟩
abbrev S4096x112 : Shape := ⟨2, ![4096, 112]⟩
abbrev S4096x128 : Shape := ⟨2, ![4096, 128]⟩
abbrev S4096x3072 : Shape := ⟨2, ![4096, 3072]⟩
abbrev S1024x11280 : Shape := ⟨2, ![1024, 11280]⟩
abbrev S11280x1024 : Shape := ⟨2, ![11280, 1024]⟩
abbrev S1x11280x1024 : Shape := ⟨3, ![1, 11280, 1024]⟩
abbrev S16x1024 : Shape := ⟨2, ![16, 1024]⟩
abbrev S112x1024 : Shape := ⟨2, ![112, 1024]⟩
abbrev S128x1024 : Shape := ⟨2, ![128, 1024]⟩
abbrev S3072x1024 : Shape := ⟨2, ![3072, 1024]⟩
abbrev S1024x1024 : Shape := ⟨2, ![1024, 1024]⟩
abbrev S1536x1024 : Shape := ⟨2, ![1536, 1024]⟩
abbrev S512x1024 : Shape := ⟨2, ![512, 1024]⟩
abbrev S8x1024 : Shape := ⟨2, ![8, 1024]⟩
abbrev S256x3072 : Shape := ⟨2, ![256, 3072]⟩
abbrev S256x1024 : Shape := ⟨2, ![256, 1024]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S1024 : Shape := ⟨1, ![1024]⟩
abbrev S7x1024 : Shape := ⟨2, ![7, 1024]⟩

abbrev nBuf : Space → Nat
  | .hbm => 50
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x11280, .f32⟩
  | .hbm, ⟨3, _⟩ => ⟨S4096x11280, .bf16⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x8, .bf16⟩
  | .hbm, ⟨11, _⟩ => ⟨S4096x8, .bf16⟩
  | .hbm, ⟨12, _⟩ => ⟨S4096x1536, .bf16⟩
  | .hbm, ⟨13, _⟩ => ⟨S4096x1536, .bf16⟩
  | .hbm, ⟨14, _⟩ => ⟨S4096x1536, .bf16⟩
  | .hbm, ⟨15, _⟩ => ⟨S4096x512, .bf16⟩
  | .hbm, ⟨16, _⟩ => ⟨S4096x1024, .bf16⟩
  | .hbm, ⟨17, _⟩ => ⟨S4096x1024, .bf16⟩
  | .hbm, ⟨18, _⟩ => ⟨S_, .bf16⟩
  | .hbm, ⟨19, _⟩ => ⟨S4096x112, .bf16⟩
  | .hbm, ⟨20, _⟩ => ⟨S4096x128, .bf16⟩
  | .hbm, ⟨21, _⟩ => ⟨S4096x3072, .bf16⟩
  | .hbm, ⟨22, _⟩ => ⟨S4096x512, .bf16⟩
  | .hbm, ⟨23, _⟩ => ⟨S4096x512, .bf16⟩
  | .hbm, ⟨24, _⟩ => ⟨S4096x512, .bf16⟩
  | .hbm, ⟨25, _⟩ => ⟨S4096x512, .bf16⟩
  | .hbm, ⟨26, _⟩ => ⟨S4096x512, .bf16⟩
  | .hbm, ⟨27, _⟩ => ⟨S4096x512, .bf16⟩
  | .hbm, ⟨28, _⟩ => ⟨S4096x512, .bf16⟩
  | .hbm, ⟨29, _⟩ => ⟨S4096x512, .bf16⟩
  | .hbm, ⟨30, _⟩ => ⟨S4096x512, .bf16⟩
  | .hbm, ⟨31, _⟩ => ⟨S1024x11280, .f32⟩
  | .hbm, ⟨32, _⟩ => ⟨S11280x1024, .f32⟩
  | .hbm, ⟨33, _⟩ => ⟨S11280x1024, .bf16⟩
  | .hbm, ⟨34, _⟩ => ⟨S1x11280x1024, .bf16⟩
  | .hbm, ⟨35, _⟩ => ⟨S11280x1024, .bf16⟩
  | .hbm, ⟨36, _⟩ => ⟨S16x1024, .bf16⟩
  | .hbm, ⟨37, _⟩ => ⟨S_, .bf16⟩
  | .hbm, ⟨38, _⟩ => ⟨S112x1024, .bf16⟩
  | .hbm, ⟨39, _⟩ => ⟨S128x1024, .bf16⟩
  | .hbm, ⟨40, _⟩ => ⟨S3072x1024, .bf16⟩
  | .hbm, ⟨41, _⟩ => ⟨S1024x1024, .bf16⟩
  | .hbm, ⟨42, _⟩ => ⟨S1536x1024, .bf16⟩
  | .hbm, ⟨43, _⟩ => ⟨S1536x1024, .bf16⟩
  | .hbm, ⟨44, _⟩ => ⟨S1536x1024, .bf16⟩
  | .hbm, ⟨45, _⟩ => ⟨S512x1024, .bf16⟩
  | .hbm, ⟨46, _⟩ => ⟨S1024x1024, .bf16⟩
  | .hbm, ⟨47, _⟩ => ⟨S1024x1024, .bf16⟩
  | .hbm, ⟨48, _⟩ => ⟨S4096x1024, .f32⟩
  | .hbm, ⟨49, _⟩ => ⟨S8x1024, .f32⟩
  | .local _ .vmem, ⟨0, _⟩ => ⟨S256x3072, .bf16⟩
  | .local _ .vmem, ⟨1, _⟩ => ⟨S256x3072, .bf16⟩
  | .local _ .vmem, ⟨2, _⟩ => ⟨S256x1024, .bf16⟩
  | .local _ .vmem, ⟨3, _⟩ => ⟨S256x1024, .bf16⟩
  | .local _ .vmem, ⟨4, _⟩ => ⟨S256x128, .bf16⟩
  | .local _ .vmem, ⟨5, _⟩ => ⟨S256x128, .bf16⟩
  | .local _ .vmem, ⟨6, _⟩ => ⟨S256x512, .bf16⟩
  | .local _ .vmem, ⟨7, _⟩ => ⟨S256x512, .bf16⟩
  | .local _ .vmem, ⟨8, _⟩ => ⟨S3072x1024, .bf16⟩
  | .local _ .vmem, ⟨9, _⟩ => ⟨S1024x1024, .bf16⟩
  | .local _ .vmem, ⟨10, _⟩ => ⟨S128x1024, .bf16⟩
  | .local _ .vmem, ⟨11, _⟩ => ⟨S512x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40_0 : Ref sig .tc := ⟨.hbm, 48, rfl⟩
abbrev main_v40_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S4096x1024 : Shape := ⟨2, ![4096, 1024]⟩
abbrev S1x1024 : Shape := ⟨2, ![1, 1024]⟩
abbrev S1x1024x11280 : Shape := ⟨3, ![1, 1024, 11280]⟩
abbrev S4096x11280 : Shape := ⟨2, ![4096, 11280]⟩
abbrev S_ : Shape := ⟨0, ![]⟩
abbrev S4096 : Shape := ⟨1, ![4096]⟩
abbrev S4096x1 : Shape := ⟨2, ![4096, 1]⟩
abbrev S1024x11280 : Shape := ⟨2, ![1024, 11280]⟩
abbrev S1024x4112 : Shape := ⟨2, ![1024, 4112]⟩
abbrev S1024x4608 : Shape := ⟨2, ![1024, 4608]⟩
abbrev S1024x512 : Shape := ⟨2, ![1024, 512]⟩
abbrev S1024x2048 : Shape := ⟨2, ![1024, 2048]⟩
abbrev S4096x4112 : Shape := ⟨2, ![4096, 4112]⟩
abbrev S4096x512 : Shape := ⟨2, ![4096, 512]⟩
abbrev S4096x4608 : Shape := ⟨2, ![4096, 4608]⟩
abbrev S4096x2048 : Shape := ⟨2, ![4096, 2048]⟩
abbrev S1024 : Shape := ⟨1, ![1024]⟩
abbrev S7x1024 : Shape := ⟨2, ![7, 1024]⟩
abbrev S8x1024 : Shape := ⟨2, ![8, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x11280, .f32⟩
  | .hbm, ⟨3, _⟩ => ⟨S4096x11280, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x11280, .f32⟩
  | .hbm, ⟨26, _⟩ => ⟨S1024x4112, .f32⟩
  | .hbm, ⟨27, _⟩ => ⟨S1024x4608, .f32⟩
  | .hbm, ⟨28, _⟩ => ⟨S1024x512, .f32⟩
  | .hbm, ⟨29, _⟩ => ⟨S1024x2048, .f32⟩
  | .hbm, ⟨30, _⟩ => ⟨S4096x4112, .f32⟩
  | .hbm, ⟨31, _⟩ => ⟨S4096x512, .f32⟩
  | .hbm, ⟨32, _⟩ => ⟨S4096x11280, .f32⟩
  | .hbm, ⟨33, _⟩ => ⟨S4096x4112, .f32⟩
  | .hbm, ⟨34, _⟩ => ⟨S4096x4608, .f32⟩
  | .hbm, ⟨35, _⟩ => ⟨S4096x512, .f32⟩
  | .hbm, ⟨36, _⟩ => ⟨S4096x2048, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S7x1024, .f32⟩
  | .hbm, ⟨67, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel5.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference5Ideal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel6.lean ====
abbrev S4x512x128 : Shape := ⟨3, ![4, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S4x512x128, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S4x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S4x512x128 : Shape := ⟨3, ![4, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S4x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S4x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel7.lean ====
abbrev S4x4x384 : Shape := ⟨3, ![4, 4, 384]⟩
abbrev S4x384 : Shape := ⟨2, ![4, 384]⟩
abbrev S1x4x384 : Shape := ⟨3, ![1, 4, 384]⟩

abbrev nBuf : Space → Nat
  | .hbm => 8
  | .vmem => 8
  | .smem => 0
  | _ => 0

abbrev bufTy : (tb : Table) → Fin (tcTables nBuf tb) → BufTy
  | .hbm, ⟨0, _⟩ => ⟨S4x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S4x4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S4x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S4x4x384 : Shape := ⟨3, ![4, 4, 384]⟩
abbrev S4x384 : Shape := ⟨2, ![4, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S_, .f32⟩
  | .hbm, ⟨7, _⟩ => ⟨S4x384, .f32⟩
  | .hbm, ⟨8, _⟩ => ⟨S4x384, .f32⟩
  | .hbm, ⟨9, _⟩ => ⟨S_, .f32⟩
  | .hbm, ⟨10, _⟩ => ⟨S4x384, .f32⟩
  | .hbm, ⟨11, _⟩ => ⟨S4x384, .f32⟩
  | .hbm, ⟨12, _⟩ => ⟨S4x384, .f32⟩
  | .hbm, ⟨13, _⟩ => ⟨S_, .f32⟩
  | .hbm, ⟨14, _⟩ => ⟨S4x384, .f32⟩
  | .hbm, ⟨15, _⟩ => ⟨S4x384, .f32⟩
  | .hbm, ⟨16, _⟩ => ⟨S4x384, .f32⟩
  | .hbm, ⟨17, _⟩ => ⟨S_, .f32⟩
  | .hbm, ⟨18, _⟩ => ⟨S4x384, .f32⟩
  | .hbm, ⟨19, _⟩ => ⟨S4x384, .f32⟩
  | .hbm, ⟨20, _⟩ => ⟨S4x384, .f32⟩
  | .hbm, ⟨21, _⟩ => ⟨S_, .f32⟩
  | .hbm, ⟨22, _⟩ => ⟨S4x384, .f32⟩
  | .hbm, ⟨23, _⟩ => ⟨S4x384, .f32⟩
  | .hbm, ⟨24, _⟩ => ⟨S_, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S4x384, .f32⟩
  | .hbm, ⟨36, _⟩ => ⟨S_, .f32⟩
  | .hbm, ⟨37, _⟩ => ⟨S4x384, .f32⟩
  | .hbm, ⟨38, _⟩ => ⟨S4x384, .f32⟩
  | _, _ => ⟨S4x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel8.lean ====
abbrev S8x8x1024 : Shape := ⟨3, ![8, 8, 1024]⟩
abbrev S1x1024 : Shape := ⟨2, ![1, 1024]⟩
abbrev S1x8 : Shape := ⟨2, ![1, 8]⟩
abbrev S1x128 : Shape := ⟨2, ![1, 128]⟩
abbrev S1024 : Shape := ⟨1, ![1024]⟩
abbrev S_ : Shape := ⟨0, ![]⟩
abbrev S1x0 : Shape := ⟨2, ![1, 0]⟩
abbrev S1x896 : Shape := ⟨2, ![1, 896]⟩
abbrev S1x1016 : Shape := ⟨2, ![1, 1016]⟩
abbrev S1x1 : Shape := ⟨2, ![1, 1]⟩
abbrev S1x1023 : Shape := ⟨2, ![1, 1023]⟩
abbrev S2x1024 : Shape := ⟨2, ![2, 1024]⟩
abbrev S8x1024 : Shape := ⟨2, ![8, 1024]⟩
abbrev S1x8x1024 : Shape := ⟨3, ![1, 8, 1024]⟩

abbrev nBuf : Space → Nat
  | .hbm => 118
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S1x1024, .f32⟩
  | .hbm, ⟨2, _⟩ => ⟨S1x8, .f32⟩
  | .hbm, ⟨3, _⟩ => ⟨S1x8, .f32⟩
  | .hbm, ⟨4, _⟩ => ⟨S1x128, .f32⟩
  | .hbm, ⟨5, _⟩ => ⟨S1024, .f32⟩
  | .hbm, ⟨6, _⟩ => ⟨S1x1024, .f32⟩
  | .hbm, ⟨7, _⟩ => ⟨S1x8, .f32⟩
  | .hbm, ⟨8, _⟩ => ⟨S1x8, .f32⟩
  | .hbm, ⟨9, _⟩ => ⟨S1x128, .f32⟩
  | .hbm, ⟨10, _⟩ => ⟨S1024, .f32⟩
  | .hbm, ⟨11, _⟩ => ⟨S1x1024, .f32⟩
  | .hbm, ⟨12, _⟩ => ⟨S1x8, .f32⟩
  | .hbm, ⟨13, _⟩ => ⟨S1x8, .f32⟩
  | .hbm, ⟨14, _⟩ => ⟨S1x128, .f32⟩
  | .hbm, ⟨15, _⟩ => ⟨S1024, .f32⟩
  | .hbm, ⟨16, _⟩ => ⟨S_, .f32⟩
  | .hbm, ⟨17, _⟩ => ⟨S1x0, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x0, .f32⟩
  | .hbm, ⟨22, _⟩ => ⟨S1x1024, .f32⟩
  | .hbm, ⟨23, _⟩ => ⟨S_, .f32⟩
  | .hbm, ⟨24, _⟩ => ⟨S1x896, .f32⟩
  | .hbm, ⟨25, _⟩ => ⟨S1x1024, .f32⟩
  | .hbm, ⟨26, _⟩ => ⟨S_, .f32⟩
  | .hbm, ⟨27, _⟩ => ⟨S1x1016, .f32⟩
  | .hbm, ⟨28, _⟩ => ⟨S1x1024, .f32⟩
  | .hbm, ⟨29, _⟩ => ⟨S_, .f32⟩
  | .hbm, ⟨30, _⟩ => ⟨S1x1016, .f32⟩
  | .hbm, ⟨31, _⟩ => ⟨S1x1024, .f32⟩
  | .hbm, ⟨32, _⟩ => ⟨S_, .f32⟩
  | .hbm, ⟨33, _⟩ => ⟨S1x1, .f32⟩
  | .hbm, ⟨34, _⟩ => ⟨S_, .f32⟩
  | .hbm, ⟨35, _⟩ => ⟨S1x1023, .f32⟩
  | .hbm, ⟨36, _⟩ => ⟨S1x1024, .f32⟩
  | .hbm, ⟨37, _⟩ => ⟨S_, .f32⟩
  | .hbm, ⟨38, _⟩ => ⟨S2x1024, .f32⟩
  | .hbm, ⟨39, _⟩ => ⟨S8x1024, .f32⟩
  | .hbm, ⟨40, _⟩ => ⟨S_, .f32⟩
  | .hbm, ⟨41, _⟩ => ⟨S1x0, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x0, .f32⟩
  | .hbm, ⟨46, _⟩ => ⟨S1x1024, .f32⟩
  | .hbm, ⟨47, _⟩ => ⟨S_, .f32⟩
  | .hbm, ⟨48, _⟩ => ⟨S1x896, .f32⟩
  | .hbm, ⟨49, _⟩ => ⟨S1x1024, .f32⟩
  | .hbm, ⟨50, _⟩ => ⟨S_, .f32⟩
  | .hbm, ⟨51, _⟩ => ⟨S1x1016, .f32⟩
  | .hbm, ⟨52, _⟩ => ⟨S1x1024, .f32⟩
  | .hbm, ⟨53, _⟩ => ⟨S_, .f32⟩
  | .hbm, ⟨54, _⟩ => ⟨S1x1016, .f32⟩
  | .hbm, ⟨55, _⟩ => ⟨S1x1024, .f32⟩
  | .hbm, ⟨56, _⟩ => ⟨S_, .f32⟩
  | .hbm, ⟨57, _⟩ => ⟨S1x1, .f32⟩
  | .hbm, ⟨58, _⟩ => ⟨S_, .f32⟩
  | .hbm, ⟨59, _⟩ => ⟨S1x1023, .f32⟩
  | .hbm, ⟨60, _⟩ => ⟨S1x1024, .f32⟩
  | .hbm, ⟨61, _⟩ => ⟨S_, .f32⟩
  | .hbm, ⟨62, _⟩ => ⟨S2x1024, .f32⟩
  | .hbm, ⟨63, _⟩ => ⟨S8x1024, .f32⟩
  | .hbm, ⟨64, _⟩ => ⟨S_, .f32⟩
  | .hbm, ⟨65, _⟩ => ⟨S1x0, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x0, .f32⟩
  | .hbm, ⟨70, _⟩ => ⟨S1x1024, .f32⟩
  | .hbm, ⟨71, _⟩ => ⟨S_, .f32⟩
  | .hbm, ⟨72, _⟩ => ⟨S1x896, .f32⟩
  | .hbm, ⟨73, _⟩ => ⟨S1x1024, .f32⟩
  | .hbm, ⟨74, _⟩ => ⟨S_, .f32⟩
  | .hbm, ⟨75, _⟩ => ⟨S1x1016, .f32⟩
  | .hbm, ⟨76, _⟩ => ⟨S1x1024, .f32⟩
  | .hbm, ⟨77, _⟩ => ⟨S_, .f32⟩
  | .hbm, ⟨78, _⟩ => ⟨S1x1016, .f32⟩
  | .hbm, ⟨79, _⟩ => ⟨S1x1024, .f32⟩
  | .hbm, ⟨80, _⟩ => ⟨S_, .f32⟩
  | .hbm, ⟨81, _⟩ => ⟨S1x1, .f32⟩
  | .hbm, ⟨82, _⟩ => ⟨S_, .f32⟩
  | .hbm, ⟨83, _⟩ => ⟨S1x1023, .f32⟩
  | .hbm, ⟨84, _⟩ => ⟨S1x1024, .f32⟩
  | .hbm, ⟨85, _⟩ => ⟨S_, .f32⟩
  | .hbm, ⟨86, _⟩ => ⟨S2x1024, .f32⟩
  | .hbm, ⟨87, _⟩ => ⟨S8x1024, .f32⟩
  | .hbm, ⟨88, _⟩ => ⟨S8x1024, .f32⟩
  | .hbm, ⟨89, _⟩ => ⟨S8x1024, .f32⟩
  | .hbm, ⟨90, _⟩ => ⟨S8x1024, .f32⟩
  | .hbm, ⟨91, _⟩ => ⟨S8x1024, .f32⟩
  | .hbm, ⟨92, _⟩ => ⟨S1x1, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S1024, .f32⟩
  | .hbm, ⟨97, _⟩ => ⟨S1x128, .f32⟩
  | .hbm, ⟨98, _⟩ => ⟨S1x8, .f32⟩
  | .hbm, ⟨99, _⟩ => ⟨S1x8, .f32⟩
  | .hbm, ⟨100, _⟩ => ⟨S1x1024, .f32⟩
  | .hbm, ⟨101, _⟩ => ⟨S1x1024, .f32⟩
  | .hbm, ⟨102, _⟩ => ⟨S1024, .f32⟩
  | .hbm, ⟨103, _⟩ => ⟨S1x128, .f32⟩
  | .hbm, ⟨104, _⟩ => ⟨S1x8, .f32⟩
  | .hbm, ⟨105, _⟩ => ⟨S1x8, .f32⟩
  | .hbm, ⟨106, _⟩ => ⟨S1x1024, .f32⟩
  | .hbm, ⟨107, _⟩ => ⟨S1x1024, .f32⟩
  | .hbm, ⟨108, _⟩ => ⟨S1024, .f32⟩
  | .hbm, ⟨109, _⟩ => ⟨S1x128, .f32⟩
  | .hbm, ⟨110, _⟩ => ⟨S1x8, .f32⟩
  | .hbm, ⟨111, _⟩ => ⟨S1x8, .f32⟩
  | .hbm, ⟨112, _⟩ => ⟨S1x1024, .f32⟩
  | .hbm, ⟨113, _⟩ => ⟨S1x1024, .f32⟩
  | .hbm, ⟨114, _⟩ => ⟨S1024, .f32⟩
  | .hbm, ⟨115, _⟩ => ⟨S1x128, .f32⟩
  | .hbm, ⟨116, _⟩ => ⟨S1x8, .f32⟩
  | .hbm, ⟨117, _⟩ => ⟨S1x8, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_cst_4 : Ref sig .tc := ⟨.hbm, 32, rfl⟩
abbrev main_v11 : Ref sig .tc := ⟨.hbm, 33, rfl⟩
abbrev main_cst_5 : Ref sig .tc := ⟨.hbm, 34, rfl⟩
abbrev main_v12 : Ref sig .tc := ⟨.hbm, 35, rfl⟩
abbrev main_v13 : Ref sig .tc := ⟨.hbm, 36, rfl⟩
abbrev main_cst_6 : Ref sig .tc := ⟨.hbm, 37, rfl⟩
abbrev main_v14 : Ref sig .tc := ⟨.hbm, 38, rfl⟩
abbrev main_v15 : Ref sig .tc := ⟨.hbm, 39, rfl⟩
abbrev main_cst_7 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_8 : Ref sig .tc := ⟨.hbm, 44, rfl⟩
abbrev main_v19 : Ref sig .tc := ⟨.hbm, 45, rfl⟩
abbrev main_v20 : Ref sig .tc := ⟨.hbm, 46, rfl⟩
abbrev main_cst_9 : Ref sig .tc := ⟨.hbm, 47, rfl⟩
abbrev main_v21 : Ref sig .tc := ⟨.hbm, 48, rfl⟩
abbrev main_v22 : Ref sig .tc := ⟨.hbm, 49, rfl⟩
abbrev main_cst_10 : Ref sig .tc := ⟨.hbm, 50, rfl⟩
abbrev main_v23 : Ref sig .tc := ⟨.hbm, 51, rfl⟩
abbrev main_v24 : Ref sig .tc := ⟨.hbm, 52, rfl⟩
abbrev main_cst_11 : Ref sig .tc := ⟨.hbm, 53, rfl⟩
abbrev main_v25 : Ref sig .tc := ⟨.hbm, 54, rfl⟩
abbrev main_v26 : Ref sig .tc := ⟨.hbm, 55, rfl⟩
abbrev main_cst_12 : Ref sig .tc := ⟨.hbm, 56, rfl⟩
abbrev main_v27 : Ref sig .tc := ⟨.hbm, 57, rfl⟩
abbrev main_cst_13 : Ref sig .tc := ⟨.hbm, 58, rfl⟩
abbrev main_v28 : Ref sig .tc := ⟨.hbm, 59, rfl⟩
abbrev main_v29 : Ref sig .tc := ⟨.hbm, 60, rfl⟩
abbrev main_cst_14 : Ref sig .tc := ⟨.hbm, 61, rfl⟩
abbrev main_v30 : Ref sig .tc := ⟨.hbm, 62, rfl⟩
abbrev main_v31 : Ref sig .tc := ⟨.hbm, 63, rfl⟩
abbrev main_cst_15 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_16 : Ref sig .tc := ⟨.hbm, 68, rfl⟩
abbrev main_v35 : Ref sig .tc := ⟨.hbm, 69, rfl⟩
abbrev main_v36 : Ref sig .tc := ⟨.hbm, 70, rfl⟩
abbrev main_cst_17 : Ref sig .tc := ⟨.hbm, 71, rfl⟩
abbrev main_v37 : Ref sig .tc := ⟨.hbm, 72, rfl⟩
abbrev main_v38 : Ref sig .tc := ⟨.hbm, 73, rfl⟩
abbrev main_cst_18 : Ref sig .tc := ⟨.hbm, 74, rfl⟩
abbrev main_v39 : Ref sig .tc := ⟨.hbm, 75, rfl⟩
abbrev main_v40 : Ref sig .tc := ⟨.hbm, 76, rfl⟩
abbrev main_cst_19 : Ref sig .tc := ⟨.hbm, 77, rfl⟩
abbrev main_v41 : Ref sig .tc := ⟨.hbm, 78, rfl⟩
abbrev main_v42 : Ref sig .tc := ⟨.hbm, 79, rfl⟩
abbrev main_cst_20 : Ref sig .tc := ⟨.hbm, 80, rfl⟩
abbrev main_v43 : Ref sig .tc := ⟨.hbm, 81, rfl⟩
abbrev main_cst_21 : Ref sig .tc := ⟨.hbm, 82, rfl⟩
abbrev main_v44 : Ref sig .tc := ⟨.hbm, 83, rfl⟩
abbrev main_v45 : Ref sig .tc := ⟨.hbm, 84, rfl⟩
abbrev main_cst_22 : Ref sig .tc := ⟨.hbm, 85, rfl⟩
abbrev main_v46 : Ref sig .tc := ⟨.hbm, 86, rfl⟩
abbrev main_v47 : Ref sig .tc := ⟨.hbm, 87, rfl⟩
abbrev main_v48_0 : Ref sig .tc := ⟨.hbm, 88, rfl⟩
abbrev main_v48_1 : Ref sig .tc := ⟨.hbm, 89, rfl⟩
abbrev main_v48_2 : Ref sig .tc := ⟨.hbm, 90, rfl⟩
abbrev main_v48_3 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference8Ideal.lean ====
abbrev S8x8x1024 : Shape := ⟨3, ![8, 8, 1024]⟩
abbrev S1x1024 : Shape := ⟨2, ![1, 1024]⟩
abbrev S1x8 : Shape := ⟨2, ![1, 8]⟩
abbrev S1x128 : Shape := ⟨2, ![1, 128]⟩
abbrev S1024 : Shape := ⟨1, ![1024]⟩
abbrev S8x1x1 : Shape := ⟨3, ![8, 1, 1]⟩
abbrev S8 : Shape := ⟨1, ![8]⟩
abbrev S_ : Shape := ⟨0, ![]⟩
abbrev S8x1x1024 : Shape := ⟨3, ![8, 1, 1024]⟩
abbrev S8x1x8 : Shape := ⟨3, ![8, 1, 8]⟩
abbrev S8x1x128 : Shape := ⟨3, ![8, 1, 128]⟩
abbrev S8x1024 : Shape := ⟨2, ![8, 1024]⟩

abbrev nBuf : Space → Nat
  | .hbm => 201
  | .vmem => 0
  | .smem => 0
  | _ => 0

abbrev hbmTy0_0 (i : Nat) : BufTy := match i % 128 with
  | 0 => ⟨S8x8x1024, .f32⟩
  | 1 => ⟨S1x1024, .f32⟩
  | 2 => ⟨S1x8, .f32⟩
  | 3 => ⟨S1x8, .f32⟩
  | 4 => ⟨S1x128, .f32⟩
  | 5 => ⟨S1024, .f32⟩
  | 6 => ⟨S1x1024, .f32⟩
  | 7 => ⟨S1x8, .f32⟩
  | 8 => ⟨S1x8, .f32⟩
  | 9 => ⟨S1x128, .f32⟩
  | 10 => ⟨S1024, .f32⟩
  | 11 => ⟨S1x1024, .f32⟩
  | 12 => ⟨S1x8, .f32⟩
  | 13 => ⟨S1x8, .f32⟩
  | 14 => ⟨S1x128, .f32⟩
  | 15 => ⟨S1024, .f32⟩
  | 16 => ⟨S8x1x1, .f32⟩
  | 17 => ⟨S8, .f32⟩
  | 18 => ⟨S_, .f32⟩
  | 19 => ⟨S_, .f32⟩
  | 20 => ⟨S8x1x1024, .f32⟩
  | 21 => ⟨S_, .f32⟩
  | 22 => ⟨S1x1024, .f32⟩
  | 23 => ⟨S_, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S8x1x8, .f32⟩
  | 57 => ⟨S_, .f32⟩
  | 58 => ⟨S1x8, .f32⟩
  | 59 => ⟨S_, .f32⟩
  | 60 => ⟨S1x8, .f32⟩
  | 61 => ⟨S1x8, .f32⟩
  | 62 => ⟨S_, .f32⟩
  | 63 => ⟨S1x8, .f32⟩
  | 64 => ⟨S1x8, .f32⟩
  | 65 => ⟨S1x8, .f32⟩
  | 66 => ⟨S_, .f32⟩
  | 67 => ⟨S1x8, .f32⟩
  | 68 => ⟨S1x8, .f32⟩
  | 69 => ⟨S1x8, .f32⟩
  | 70 => ⟨S_, .f32⟩
  | 71 => ⟨S1x8, .f32⟩
  | 72 => ⟨S1x8, .f32⟩
  | 73 => ⟨S1x8, .f32⟩
  | 74 => ⟨S_, .f32⟩
  | 75 => ⟨S1x8, .f32⟩
  | 76 => ⟨S1x8, .f32⟩
  | 77 => ⟨S_, .f32⟩
  | 78 => ⟨S1x8, .f32⟩
  | 79 => ⟨S1x8, .f32⟩
  | 80 => ⟨S1x8, .f32⟩
  | 81 => ⟨S_, .f32⟩
  | 82 => ⟨S1x8, .f32⟩
  | 83 => ⟨S1x8, .f32⟩
  | 84 => ⟨S1x8, .f32⟩
  | 85 => ⟨S_, .f32⟩
  | 86 => ⟨S1x8, .f32⟩
  | 87 => ⟨S1x8, .f32⟩
  | 88 => ⟨S1x8, .f32⟩
  | 89 => ⟨S_, .f32⟩
  | 90 => ⟨S1x8, .f32⟩
  | 91 => ⟨S1x8, .f32⟩
  | 92 => ⟨S8x1x8, .f32⟩
  | 93 => ⟨S_, .f32⟩
  | 94 => ⟨S1x8, .f32⟩
  | 95 => ⟨S_, .f32⟩
  | 96 => ⟨S1x8, .f32⟩
  | 97 => ⟨S1x8, .f32⟩
  | 98 => ⟨S_, .f32⟩
  | 99 => ⟨S1x8, .f32⟩
  | 100 => ⟨S1x8, .f32⟩
  | 101 => ⟨S1x8, .f32⟩
  | 102 => ⟨S_, .f32⟩
  | 103 => ⟨S1x8, .f32⟩
  | 104 => ⟨S1x8, .f32⟩
  | 105 => ⟨S1x8, .f32⟩
  | 106 => ⟨S_, .f32⟩
  | 107 => ⟨S1x8, .f32⟩
  | 108 => ⟨S1x8, .f32⟩
  | 109 => ⟨S1x8, .f32⟩
  | 110 => ⟨S_, .f32⟩
  | 111 => ⟨S1x8, .f32⟩
  | 112 => ⟨S1x8, .f32⟩
  | 113 => ⟨S_, .f32⟩
  | 114 => ⟨S1x8, .f32⟩
  | 115 => ⟨S1x8, .f32⟩
  | 116 => ⟨S1x8, .f32⟩
  | 117 => ⟨S_, .f32⟩
  | 118 => ⟨S1x8, .f32⟩
  | 119 => ⟨S1x8, .f32⟩
  | 120 => ⟨S1x8, .f32⟩
  | 121 => ⟨S_, .f32⟩
  | 122 => ⟨S1x8, .f32⟩
  | 123 => ⟨S1x8, .f32⟩
  | 124 => ⟨S1x8, .f32⟩
  | 125 => ⟨S_, .f32⟩
  | 126 => ⟨S1x8, .f32⟩
  | 127 => ⟨S1x8, .f32⟩
  | _ => ⟨S8x8x1024, .f32⟩

abbrev hbmTy0_1 (i : Nat) : BufTy := match i % 128 with
  | 0 => ⟨S8x1x128, .f32⟩
  | 1 => ⟨S_, .f32⟩
  | 2 => ⟨S1x128, .f32⟩
  | 3 => ⟨S_, .f32⟩
  | 4 => ⟨S1x128, .f32⟩
  | 5 => ⟨S1x128, .f32⟩
  | 6 => ⟨S_, .f32⟩
  | 7 => ⟨S1x128, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S_, .f32⟩
  | 19 => ⟨S1x128, .f32⟩
  | 20 => ⟨S1x128, .f32⟩
  | 21 => ⟨S_, .f32⟩
  | 22 => ⟨S1x128, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S1x128, .f32⟩
  | 33 => ⟨S_, .f32⟩
  | 34 => ⟨S1x128, .f32⟩
  | 35 => ⟨S1x128, .f32⟩
  | 36 => ⟨S8x1x1024, .f32⟩
  | 37 => ⟨S8x1024, .f32⟩
  | 38 => ⟨S_, .f32⟩
  | 39 => ⟨S1024, .f32⟩
  | 40 => ⟨S_, .f32⟩
  | 41 => ⟨S1024, .f32⟩
  | 42 => ⟨S1024, .f32⟩
  | 43 => ⟨S_, .f32⟩
  | 44 => ⟨S1024, .f32⟩
  | 45 => ⟨S1024, .f32⟩
  | 46 => ⟨S1024, .f32⟩
  | 47 => ⟨S_, .f32⟩
  | 48 => ⟨S1024, .f32⟩
  | 49 => ⟨S1024, .f32⟩
  | 50 => ⟨S1024, .f32⟩
  | 51 => ⟨S_, .f32⟩
  | 52 => ⟨S1024, .f32⟩
  | 53 => ⟨S1024, .f32⟩
  | 54 => ⟨S1024, .f32⟩
  | 55 => ⟨S_, .f32⟩
  | 56 => ⟨S1024, .f32⟩
  | 57 => ⟨S1024, .f32⟩
  | 58 => ⟨S_, .f32⟩
  | 59 => ⟨S1024, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .f32⟩
  | 71 => ⟨S1024, .f32⟩
  | 72 => ⟨S1024, .f32⟩
  | _ => ⟨S8x8x1024, .f32⟩

abbrev hbmTy (i : Nat) : BufTy := match i / 128 with
  | 0 => hbmTy0_0 i
  | 1 => hbmTy0_1 i
  | _ => ⟨S8x8x1024, .f32⟩

abbrev bufTy : (tb : Table) → Fin (tcTables nBuf tb) → BufTy
  | .hbm, ⟨i, _⟩ => hbmTy i
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_7 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_10 : Ref sig .tc := ⟨.hbm, 57, rfl⟩
abbrev main_v30 : Ref sig .tc := ⟨.hbm, 58, rfl⟩
abbrev main_cst_11 : Ref sig .tc := ⟨.hbm, 59, rfl⟩
abbrev main_v31 : Ref sig .tc := ⟨.hbm, 60, rfl⟩
abbrev main_v32 : Ref sig .tc := ⟨.hbm, 61, rfl⟩
abbrev main_cst_12 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_14 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_15 : Ref sig .tc := ⟨.hbm, 74, rfl⟩
abbrev main_v42 : Ref sig .tc := ⟨.hbm, 75, rfl⟩
abbrev main_v43 : Ref sig .tc := ⟨.hbm, 76, rfl⟩
abbrev main_cst_16 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_17 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_cst_21 : Ref sig .tc := ⟨.hbm, 95, rfl⟩
abbrev main_v57 : Ref sig .tc := ⟨.hbm, 96, rfl⟩
abbrev main_v58 : Ref sig .tc := ⟨.hbm, 97, rfl⟩
abbrev main_cst_22 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_23 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_24 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_25 : Ref sig .tc := ⟨.hbm, 110, rfl⟩
abbrev main_v68 : Ref sig .tc := ⟨.hbm, 111, rfl⟩
abbrev main_v69 : Ref sig .tc := ⟨.hbm, 112, rfl⟩
abbrev main_cst_26 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_27 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_28 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_29 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_30 : Ref sig .tc := ⟨.hbm, 129, rfl⟩
abbrev main_v82 : Ref sig .tc := ⟨.hbm, 130, rfl⟩
abbrev main_cst_31 : Ref sig .tc := ⟨.hbm, 131, rfl⟩
abbrev main_v83 : Ref sig .tc := ⟨.hbm, 132, rfl⟩
abbrev main_v84 : Ref sig .tc := ⟨.hbm, 133, rfl⟩
abbrev main_cst_32 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_33 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_34 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_35 : Ref sig .tc := ⟨.hbm, 146, rfl⟩
abbrev main_v94 : Ref sig .tc := ⟨.hbm, 147, rfl⟩
abbrev main_v95 : Ref sig .tc := ⟨.hbm, 148, rfl⟩
abbrev main_cst_36 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_37 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_38 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_cst_39 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_40 : Ref sig .tc := ⟨.hbm, 166, rfl⟩
abbrev main_v109 : Ref sig .tc := ⟨.hbm, 167, rfl⟩
abbrev main_cst_41 : Ref sig .tc := ⟨.hbm, 168, rfl⟩
abbrev main_v110 : Ref sig .tc := ⟨.hbm, 169, rfl⟩
abbrev main_v111 : Ref sig .tc := ⟨.hbm, 170, rfl⟩
abbrev main_cst_42 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_cst_43 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_cst_44 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_cst_45 : Ref sig .tc := ⟨.hbm, 183, rfl⟩
abbrev main_v121 : Ref sig .tc := ⟨.hbm, 184, rfl⟩
abbrev main_v122 : Ref sig .tc := ⟨.hbm, 185, rfl⟩
abbrev main_cst_46 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_47 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_cst_48 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_cst_49 : Ref sig .tc := ⟨.hbm, 198, rfl⟩
abbrev main_v132 : Ref sig .tc := ⟨.hbm, 199, rfl⟩
abbrev main_v133 : Ref sig .tc := ⟨.hbm, 200, rfl⟩

abbrev nD : Nat := 1
abbrev τ : Topo := Topo.v7x

variable {F : FTy → Type} [FloatOps F]
-- ==== Proof.Scalar.lean ====
module

public import Idealize.ShloMosaic.PureOps.Ideal

/-! Extended reals that are reals, and the scalar identities between the two sides that need it. -/

@[expose] public section

noncomputable section

namespace Cert.Sc

open Idealize.ShloMosaic

/-- An extended real that is a real. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩

theorem IsR.add {x y : EReal} (hx : IsR x) (hy : IsR y) : IsR (x + y) := by
  obtain ⟨a, rfl⟩ := hx; obtain ⟨b, rfl⟩ := hy; exact ⟨a + b, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, rfl⟩

theorem IsR.sub {x y : EReal} (hx : IsR x) (hy : IsR y) : IsR (x - y) := by
  obtain ⟨a, rfl⟩ := hx; obtain ⟨b, rfl⟩ := hy; exact ⟨a - b, rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} (s : Finset ι) {f : ι → EReal} (h : ∀ i, IsR (f i)) : IsR (∑ i ∈ s, f i) := by
  choose g hg using h
  exact ⟨∑ i ∈ s, g i, by rw [coe_sum]; exact Finset.sum_congr rfl fun i _ => hg i⟩

/-- Taking away a sum of reals is adding the sum of their opposites. -/
theorem sub_sum {ι : Type*} [Fintype ι] (a : EReal) {f g : ι → EReal} (h : ∀ i, IsR (f i)) (e : ∀ i, g i = -f i) :
    a - ∑ i, f i = a + ∑ i, g i := by
  choose r hr using h
  have h1 : ∑ i, f i = ((∑ i, r i : ℝ) : EReal) := by rw [coe_sum]; exact Finset.sum_congr rfl fun i _ => hr i
  have h2 : ∑ i, g i = ((-∑ i, r i : ℝ) : EReal) := by
    rw [← Finset.sum_neg_distrib, coe_sum]
    exact Finset.sum_congr rfl fun i _ => by rw [e, hr, EReal.coe_neg]
  rw [h1, h2, EReal.coe_neg, sub_eq_add_neg]

/-! The constants of the two programs. -/

theorem ofBits_128 : Ideal.ofBits .f32 0x43000000#32 = ((128 : ℝ) : EReal) := by
  simp [Ideal.ofBits, Ideal.ieee, -EReal.coe_mul]; norm_num
theorem ofBits_mhalf : Ideal.ofBits .f32 0xBF000000#32 = ((-(1 / 2) : ℝ) : EReal) := by
  simp [Ideal.ofBits, Ideal.ieee, -EReal.coe_mul]; norm_num
theorem ofBits_eps : ∃ e : ℝ, 0 < e ∧ Ideal.ofBits .f32 0x358637BD#32 = (e : EReal) :=
  ⟨8796093 * 2 ^ (-43 : ℤ), by positivity, by simp [Ideal.ofBits, Ideal.ieee, -EReal.coe_mul]⟩

/-! The gate `silu` and its derivative. -/

/-- The logistic function as both programs write it. -/
def sg (z : EReal) : EReal := Ideal.div (1) (1 + Ideal.exp (-z))

theorem IsR.sg {z : EReal} (hz : IsR z) : IsR (sg z) := by
  obtain ⟨r, rfl⟩ := hz
  have hp : (1 + Real.exp (-r) : ℝ) ≠ 0 := by positivity
  refine ⟨1 * (1 / (1 + Real.exp (-r))), ?_⟩
  rw [Sc.sg, ← EReal.coe_neg, Ideal.exp_coe, ← EReal.coe_one, ← EReal.coe_add, Ideal.div_coe hp, ← EReal.coe_mul]

/-- The derivative of the gate in the kernel's factored form and in the form of the product rule. -/
theorem gate {x z s : EReal} (hx : IsR x) (hz : IsR z) (hs : IsR s) :
    x * (s * (1 + z * (1 - s)))
      = x * s + (z * x) * (s * (1 - s)) := by
  obtain ⟨x, rfl⟩ := hx; obtain ⟨z, rfl⟩ := hz; obtain ⟨s, rfl⟩ := hs
  rw [← EReal.coe_one]
  simp only [← EReal.coe_mul, ← EReal.coe_add, ← EReal.coe_sub]
  congr 1; ring

/-! The root-mean-square norm of one row. -/

/-- The mean square plus the constant, of a row of 128. -/
def var (o : Fin 128 → EReal) : EReal :=
  Ideal.div (∑ k, o k * o k) (Ideal.ofBits .f32 0x43000000#32) + Ideal.ofBits .f32 0x358637BD#32

/-- Its inverse root. -/
def inv (o : Fin 128 → EReal) : EReal := Ideal.rsqrt (var o)

theorem var_coe {o : Fin 128 → EReal} (h : ∀ k, IsR (o k)) : ∃ v : ℝ, 0 < v ∧ var o = (v : EReal) := by
  choose r hr using h
  obtain ⟨e, he, hE⟩ := ofBits_eps
  refine ⟨(∑ k, r k * r k) * (1 / 128) + e, by have : 0 ≤ ∑ k, r k * r k := Finset.sum_nonneg fun k _ => mul_self_nonneg _
                                               positivity, ?_⟩
  have h1 : ∑ k, o k * o k = ((∑ k, r k * r k : ℝ) : EReal) := by
    rw [coe_sum]; exact Finset.sum_congr rfl fun k _ => by rw [hr, EReal.coe_mul]
  rw [var, h1, ofBits_128, Ideal.div_coe (by norm_num), hE, ← EReal.coe_mul, ← EReal.coe_add]

theorem inv_coe {o : Fin 128 → EReal} {v : ℝ} (hv : 0 < v) (h : var o = (v : EReal)) : inv o = (((Real.sqrt v)⁻¹ : ℝ) : EReal) := by
  rw [inv, h, Ideal.rsqrt_coe, if_neg (not_lt.mpr hv.le), if_neg hv.ne']

theorem IsR.inv {o : Fin 128 → EReal} (h : ∀ k, IsR (o k)) : IsR (inv o) := by
  obtain ⟨v, hv, hV⟩ := var_coe h
  exact ⟨_, inv_coe hv hV⟩

/-- The gradient through the norm: the kernel's form and the reference's. -/
theorem norm_grad {o d : Fin 128 → EReal} (h : ∀ k, IsR (o k)) (hd : ∀ k, IsR (d k)) (k : Fin 128) :
    inv o * d k - (o k * ((inv o * inv o) * inv o))
        * Ideal.div (∑ j, d j * o j) (Ideal.ofBits .f32 0x43000000#32)
      = (d k * inv o
          + o k * (Ideal.div ((∑ j, o j * d j)
              * (Ideal.ofBits .f32 0xBF000000#32 * Ideal.div (inv o) (var o))) (Ideal.ofBits .f32 0x43000000#32)))
        + (Ideal.div ((∑ j, o j * d j)
              * (Ideal.ofBits .f32 0xBF000000#32 * Ideal.div (inv o) (var o))) (Ideal.ofBits .f32 0x43000000#32)) * o k := by
  obtain ⟨v, hv, hV⟩ := var_coe h
  have hI := inv_coe hv hV
  have hs : ∑ j, d j * o j = ∑ j, o j * d j := Finset.sum_congr rfl fun j _ => mul_comm _ _
  obtain ⟨S, hS⟩ := IsR.sum Finset.univ fun j => (h j).mul (hd j)
  obtain ⟨a, ha⟩ := h k
  obtain ⟨b, hb⟩ := hd k
  rw [hs, hS, hI, hV, ha, hb, ofBits_128, ofBits_mhalf]
  simp only [Ideal.div_coe hv.ne', Ideal.div_coe (show (128 : ℝ) ≠ 0 by norm_num), ← EReal.coe_mul,
    ← EReal.coe_add, ← EReal.coe_sub]
  congr 1
  have hq : (Real.sqrt v)⁻¹ * (Real.sqrt v)⁻¹ = 1 / v := by
    rw [← mul_inv, Real.mul_self_sqrt hv.le, one_div]
  rw [hq]; ring

end Cert.Sc
-- ==== Proof.Scan.lean ====
module

public import proofs.«01_k».proof.Proof.Scalar

/-! The backward recurrence over 64 chunks of 64 rows and 8 heads, as equations between extended reals. -/

@[expose] public section

noncomputable section

namespace Cert.Scan

open Cert.Sc

/-- The arrays the recurrence reads, by chunk, head, row of the chunk and lane. -/
structure Data where
  vn : Fin 64 → Fin 8 → Fin 64 → Fin 128 → EReal
  w : Fin 64 → Fin 8 → Fin 64 → Fin 128 → EReal
  aqk : Fin 64 → Fin 8 → Fin 64 → Fin 64 → EReal
  qd : Fin 64 → Fin 8 → Fin 64 → Fin 128 → EReal
  kd : Fin 64 → Fin 8 → Fin 64 → Fin 128 → EReal
  dl : Fin 64 → Fin 8 → EReal
  st : Fin 64 → Fin 8 → Fin 128 → Fin 128 → EReal
  dO : Fin 64 → Fin 8 → Fin 64 → Fin 128 → EReal

/-- A state's gradient: 8 heads of 128 × 128. -/
abbrev G : Type := Fin 8 → Fin 128 → Fin 128 → EReal

variable (D : Data)

/-- The gradient of a chunk's new values. -/
def dv (S : G) (n : Fin 64) (h : Fin 8) (c : Fin 64) (v : Fin 128) : EReal :=
  ∑ i, D.aqk n h i c * D.dO n h i v + ∑ k, D.kd n h c k * S h k v

/-- The gradient of a chunk's keys. -/
def dk (S : G) (n : Fin 64) (h : Fin 8) (c : Fin 64) (k : Fin 128) : EReal :=
  ∑ v, D.vn n h c v * S h k v

/-- The gradient of a chunk's decay. -/
def dd (S : G) (n : Fin 64) (h : Fin 8) : EReal :=
  ∑ k, ∑ v, D.st n h k v * S h k v

/-- The gradient of the state before a chunk from that after it. -/
def back (S : G) (n : Fin 64) : G := fun h k v =>
  (S h k v * D.dl n h + ∑ c, D.qd n h c k * D.dO n h c v) - ∑ c, D.w n h c k * dv D S n h c v

/-- The gradient of the state after `t` chunks have been gone back through, the last chunk first. -/
def dS : ℕ → G
  | 0 => fun _ _ _ => 0
  | t + 1 => back D (dS t) ⟨63 - t, by omega⟩

/-- Every array's every entry is a real. -/
structure Data.Real : Prop where
  w : ∀ n h c k, IsR (D.w n h c k)
  aqk : ∀ n h c k, IsR (D.aqk n h c k)
  qd : ∀ n h c k, IsR (D.qd n h c k)
  kd : ∀ n h c k, IsR (D.kd n h c k)
  dl : ∀ n h, IsR (D.dl n h)
  dO : ∀ n h c k, IsR (D.dO n h c k)

variable {D}

theorem dv_real (R : D.Real) {S : G} (hS : ∀ h k v, IsR (S h k v)) (n : Fin 64) (h : Fin 8) (c : Fin 64) (v : Fin 128) :
    IsR (dv D S n h c v) :=
  (IsR.sum _ fun i => (R.aqk n h i c).mul (R.dO n h i v)).add (IsR.sum _ fun k => (R.kd n h c k).mul (hS h k v))

theorem back_real (R : D.Real) {S : G} (hS : ∀ h k v, IsR (S h k v)) (n : Fin 64) (h : Fin 8) (k : Fin 128) (v : Fin 128) :
    IsR (back D S n h k v) :=
  ((((hS h k v).mul (R.dl n h)).add (IsR.sum _ fun c => (R.qd n h c k).mul (R.dO n h c v))).sub
    (IsR.sum _ fun c => (R.w n h c k).mul (dv_real R hS n h c v)))

theorem dS_real (R : D.Real) : ∀ t h k v, IsR (dS D t h k v)
  | 0, _, _, _ => IsR.zero
  | t + 1, h, k, v => back_real R (dS_real R t) _ h k v

end Cert.Scan
-- ==== Proof.Head.lean ====
module

public import proofs.«01_k».proof.Proof.Scan

/-! The gradients of the layer's two heads, row by row, as equations between extended reals. -/

@[expose] public section

noncomputable section

namespace Cert.Head

open Idealize.ShloMosaic Cert.Sc

/-- A head's lane as a column of the 1024 wide arrays. -/
abbrev col (h : Fin 8) (v : Fin 128) : Fin 1024 := ⟨h.val * 128 + v.val, by omega⟩

theorem col_of (j : Fin 1024) : col ⟨j.val / 128, by omega⟩ ⟨j.val % 128, Nat.mod_lt _ (by norm_num)⟩ = j :=
  Fin.ext (by simp only [col]; omega)

/-- The arrays the recurrent head's gradient reads, by row, head and lane. -/
structure Data where
  o : Fin 4096 → Fin 8 → Fin 128 → EReal
  z : Fin 4096 → Fin 8 → Fin 128 → EReal
  d : Fin 4096 → Fin 8 → Fin 128 → EReal
  nw : Fin 128 → EReal

structure Data.Real (H : Data) : Prop where
  o : ∀ r h v, IsR (H.o r h v)
  z : ∀ r h v, IsR (H.z r h v)
  d : ∀ r h v, IsR (H.d r h v)
  nw : ∀ v, IsR (H.nw v)

variable (H : Data)

/-- The gradient of the normalised output. -/
def dn (r : Fin 4096) (h : Fin 8) (v : Fin 128) : EReal :=
  (H.d r h v * H.nw v) * (H.z r h v * sg (H.z r h v))

/-- The gradient of the recurrence's output. -/
def dO (r : Fin 4096) (h : Fin 8) (v : Fin 128) : EReal :=
  inv (H.o r h) * dn H r h v
    - (H.o r h v * ((inv (H.o r h) * inv (H.o r h)) * inv (H.o r h)))
      * Ideal.div (∑ j, dn H r h j * H.o r h j) (Ideal.ofBits .f32 0x43000000#32)

/-- The gradient of the gate's argument. -/
def dz (r : Fin 4096) (h : Fin 8) (v : Fin 128) : EReal :=
  ((H.d r h v * (H.o r h v * inv (H.o r h))) * H.nw v)
    * (sg (H.z r h v) * (1 + H.z r h v * (1 - sg (H.z r h v))))

/-- One row's part of the gradient of the norm's weight. -/
def wt (r : Fin 4096) (h : Fin 8) (v : Fin 128) : EReal :=
  (H.d r h v * (H.o r h v * inv (H.o r h))) * (H.z r h v * sg (H.z r h v))

/-- The gradient of the norm's weight. -/
def dnw (v : Fin 128) : EReal := ∑ r, ∑ h, wt H r h v

variable {H}

theorem dn_real (R : H.Real) (r : Fin 4096) (h : Fin 8) (v : Fin 128) : IsR (dn H r h v) :=
  ((R.d r h v).mul (R.nw v)).mul ((R.z r h v).mul (R.z r h v).sg)

/-- The recurrence's output's gradient, by the rules of differentiation. -/
theorem dO_eq (R : H.Real) (r : Fin 4096) (h : Fin 8) (v : Fin 128) (e : Fin 128 → EReal)
    (he : ∀ j, e j = (H.d r h j * (H.z r h j * sg (H.z r h j))) * H.nw j) :
    (e v * inv (H.o r h)
          + H.o r h v * (Ideal.div ((∑ j, H.o r h j * e j)
              * (Ideal.ofBits .f32 0xBF000000#32 * Ideal.div (inv (H.o r h)) (var (H.o r h)))) (Ideal.ofBits .f32 0x43000000#32)))
        + (Ideal.div ((∑ j, H.o r h j * e j)
              * (Ideal.ofBits .f32 0xBF000000#32 * Ideal.div (inv (H.o r h)) (var (H.o r h)))) (Ideal.ofBits .f32 0x43000000#32))
          * H.o r h v = dO H r h v := by
  have e2 : e = dn H r h := funext fun j => by rw [he, dn, mul_right_comm]
  rw [e2, dO, norm_grad (R.o r h) (dn_real R r h)]

theorem real_div128 {x : EReal} (h : IsR x) : IsR (Ideal.div x (Ideal.ofBits .f32 0x43000000#32)) := by
  obtain ⟨a, rfl⟩ := h
  rw [ofBits_128, Ideal.div_coe (by norm_num), ← EReal.coe_mul]
  exact ⟨_, rfl⟩

theorem dO_real (R : H.Real) (r : Fin 4096) (h : Fin 8) (v : Fin 128) : IsR (dO H r h v) := by
  have hi := IsR.inv (R.o r h)
  exact (hi.mul (dn_real R r h v)).sub (((R.o r h v).mul ((hi.mul hi).mul hi)).mul
    (real_div128 (IsR.sum _ fun j => (dn_real R r h j).mul (R.o r h j))))

/-! The attention's gated output. -/

/-- The arrays the attention head's gradient reads, by row and column. -/
structure Att where
  oj : Fin 4096 → Fin 512 → EReal
  zb : Fin 4096 → Fin 512 → EReal
  d : Fin 4096 → Fin 512 → EReal

variable (A : Att)

def dob (r : Fin 4096) (j : Fin 512) : EReal := A.d r j * (A.zb r j * sg (A.zb r j))

def dzb (r : Fin 4096) (j : Fin 512) : EReal :=
  (A.d r j * A.oj r j) * (sg (A.zb r j) * (1 + A.zb r j * (1 - sg (A.zb r j))))

/-- A row's inner product of a head's output with its gradient. -/
def delta (r : Fin 4096) (h : Fin 4) : EReal :=
  ∑ v : Fin 128, dob A r ⟨h.val * 128 + v.val, by omega⟩ * A.oj r ⟨h.val * 128 + v.val, by omega⟩

/-! The arrays from the arguments of the step. -/

/-- The arguments by coordinates. -/
structure Args where
  u : Fin 64 → Fin 8 → Fin 64 → Fin 128 → EReal
  w : Fin 64 → Fin 8 → Fin 64 → Fin 128 → EReal
  aqk : Fin 64 → Fin 8 → Fin 64 → Fin 64 → EReal
  qd : Fin 64 → Fin 8 → Fin 64 → Fin 128 → EReal
  kd : Fin 64 → Fin 8 → Fin 64 → Fin 128 → EReal
  dl : Fin 64 → Fin 8 → EReal
  st : Fin 64 → Fin 8 → Fin 128 → Fin 128 → EReal
  z : Fin 4096 → Fin 1024 → EReal
  nw : Fin 128 → EReal
  oj : Fin 4096 → Fin 512 → EReal
  zb : Fin 4096 → Fin 512 → EReal
  wo : Fin 1024 → Fin 1024 → EReal
  wod : Fin 512 → Fin 1024 → EReal
  dya : Fin 4096 → Fin 1024 → EReal
  dyb : Fin 4096 → Fin 1024 → EReal

structure Args.Real (a : Args) : Prop where
  u : ∀ n h c k, IsR (a.u n h c k)
  w : ∀ n h c k, IsR (a.w n h c k)
  aqk : ∀ n h c k, IsR (a.aqk n h c k)
  qd : ∀ n h c k, IsR (a.qd n h c k)
  kd : ∀ n h c k, IsR (a.kd n h c k)
  dl : ∀ n h, IsR (a.dl n h)
  st : ∀ n h c k, IsR (a.st n h c k)
  z : ∀ r j, IsR (a.z r j)
  nw : ∀ v, IsR (a.nw v)
  oj : ∀ r j, IsR (a.oj r j)
  zb : ∀ r j, IsR (a.zb r j)
  wo : ∀ r j, IsR (a.wo r j)
  wod : ∀ r j, IsR (a.wod r j)
  dya : ∀ r j, IsR (a.dya r j)
  dyb : ∀ r j, IsR (a.dyb r j)

variable (a : Args)

/-- The new values of a chunk. -/
def vn (n : Fin 64) (h : Fin 8) (c : Fin 64) (v : Fin 128) : EReal :=
  a.u n h c v - ∑ k, a.w n h c k * a.st n h k v

/-- The output of a chunk. -/
def out (n : Fin 64) (h : Fin 8) (c : Fin 64) (v : Fin 128) : EReal :=
  ∑ k, a.qd n h c k * a.st n h k v + ∑ i, a.aqk n h c i * vn a n h i v

/-- A row's chunk and its place there. -/
abbrev ch (r : Fin 4096) : Fin 64 := ⟨r.val / 64, by omega⟩
abbrev pl (r : Fin 4096) : Fin 64 := ⟨r.val % 64, Nat.mod_lt _ (by norm_num)⟩
abbrev row (n c : Fin 64) : Fin 4096 := ⟨n.val * 64 + c.val, by omega⟩

def head : Data where
  o r h v := out a (ch r) h (pl r) v
  z r h v := a.z r (col h v)
  d r h v := ∑ k, a.dya r k * a.wo (col h v) k
  nw := a.nw

def att : Att where
  oj := a.oj
  zb := a.zb
  d r j := ∑ k, a.dyb r k * a.wod j k

def scan : Scan.Data where
  vn := vn a
  w := a.w
  aqk := a.aqk
  qd := a.qd
  kd := a.kd
  dl := a.dl
  st := a.st
  dO n h c v := dO (head a) (row n c) h v

variable {a} (R : a.Real)
include R

theorem vn_real (n : Fin 64) (h : Fin 8) (c : Fin 64) (v : Fin 128) : IsR (vn a n h c v) :=
  (R.u n h c v).sub (IsR.sum _ fun k => (R.w n h c k).mul (R.st n h k v))

theorem head_real : (head a).Real where
  o r h v := (IsR.sum _ fun k => (R.qd _ h _ k).mul (R.st _ h k v)).add
    (IsR.sum _ fun i => (R.aqk _ h _ i).mul (vn_real R _ h i v))
  z r h v := R.z r _
  d r h v := IsR.sum Finset.univ fun k => (R.dya r k).mul (R.wo (col h v) k)
  nw := R.nw

theorem att_real (r : Fin 4096) (j : Fin 512) : IsR ((att a).d r j) :=
  IsR.sum Finset.univ fun k => (R.dyb r k).mul (R.wod j k)

theorem scan_real : (scan a).Real where
  w := R.w
  aqk := R.aqk
  qd := R.qd
  kd := R.kd
  dl := R.dl
  dO n h c v := dO_real (head_real R) _ h v

end Cert.Head
-- ==== Proof.KIn.lean ====
module

public import proofs.«01_k».proof.Proof.Gen.KernelIdeal.Frame
public import proofs.«01_k».proof.Proof.Head
public import Idealize.ShloMosaic.Lib.Pipeline.ValueKit

/-! The blocks of a grid point as parts of the arrays: point `t` reads and writes the part `15 - t` of sixteen. -/

@[expose] public section

set_option maxRecDepth 16384

noncomputable section

namespace Cert.KIn

open Idealize.ShloMosaic Cert.KernelIdeal Cert.KernelIdeal.Gen

variable {F : FTy → Type} [FloatOps F]

theorem lt (t : Fin cfg0.N) : t.val < 16 := N_0 ▸ t.isLt

/-- The chunk of the arrays that is chunk `g` of the point's block. -/
abbrev ck (t : Fin cfg0.N) (g : Fin 4) : Fin 64 := ⟨4 * (15 - t.val) + g.val, by omega⟩

/-- The row of the arrays that is row `r` of the point's block. -/
abbrev rw (t : Fin cfg0.N) (r : Fin 256) : Fin 4096 := ⟨256 * (15 - t.val) + r.val, by omega⟩

theorem idx0 : ∀ t : Fin cfg0.N, win0_0.index t = ![15 - t.val, 0, 0, 0] :=
  (by decide +kernel : ∀ t : Fin grid0.N, _)

theorem rd0 (A : (⟨⟨4, ![64, 8, 64, 128]⟩, .bf16⟩ : BufTy).Contents (Elt F)) (t : Fin cfg0.N) (g : Fin 4) (h : Fin 8) (r : Fin 64) (v : Fin 128) :
    ((((cfg0.win 0).blk t).view.read (Elt F) A : Vec F ⟨4, ![4, 8, 64, 128]⟩ .bf16)) (ix4 g h r v) = A (ix4 (ck t g) h r v) := by
  have hi := idx0 t
  refine (View.read_apply _ _).trans ?_
  show A _ = A _
  refine congrArg A (funext fun a => Fin.ext ?_)
  match a with
  | ⟨0, _⟩ =>
    have e : win0_0.index t 0 = 15 - t.val := congrFun hi 0
    show win0_0.index t 0 * 4 + 1 * g.val = 4 * (15 - t.val) + g.val
    omega
  | ⟨1, _⟩ =>
    have e : win0_0.index t 1 = 0 := congrFun hi 1
    show win0_0.index t 1 * 8 + 1 * h.val = h.val
    omega
  | ⟨2, _⟩ =>
    have e : win0_0.index t 2 = 0 := congrFun hi 2
    show win0_0.index t 2 * 64 + 1 * r.val = r.val
    omega
  | ⟨3, _⟩ =>
    have e : win0_0.index t 3 = 0 := congrFun hi 3
    show win0_0.index t 3 * 128 + 1 * v.val = v.val
    omega

theorem idx1 : ∀ t : Fin cfg0.N, win0_1.index t = ![15 - t.val, 0, 0, 0] :=
  (by decide +kernel : ∀ t : Fin grid0.N, _)

theorem rd1 (A : (⟨⟨4, ![64, 8, 64, 128]⟩, .bf16⟩ : BufTy).Contents (Elt F)) (t : Fin cfg0.N) (g : Fin 4) (h : Fin 8) (r : Fin 64) (v : Fin 128) :
    ((((cfg0.win 1).blk t).view.read (Elt F) A : Vec F ⟨4, ![4, 8, 64, 128]⟩ .bf16)) (ix4 g h r v) = A (ix4 (ck t g) h r v) := by
  have hi := idx1 t
  refine (View.read_apply _ _).trans ?_
  show A _ = A _
  refine congrArg A (funext fun a => Fin.ext ?_)
  match a with
  | ⟨0, _⟩ =>
    have e : win0_1.index t 0 = 15 - t.val := congrFun hi 0
    show win0_1.index t 0 * 4 + 1 * g.val = 4 * (15 - t.val) + g.val
    omega
  | ⟨1, _⟩ =>
    have e : win0_1.index t 1 = 0 := congrFun hi 1
    show win0_1.index t 1 * 8 + 1 * h.val = h.val
    omega
  | ⟨2, _⟩ =>
    have e : win0_1.index t 2 = 0 := congrFun hi 2
    show win0_1.index t 2 * 64 + 1 * r.val = r.val
    omega
  | ⟨3, _⟩ =>
    have e : win0_1.index t 3 = 0 := congrFun hi 3
    show win0_1.index t 3 * 128 + 1 * v.val = v.val
    omega

theorem idx2 : ∀ t : Fin cfg0.N, win0_2.index t = ![15 - t.val, 0, 0, 0] :=
  (by decide +kernel : ∀ t : Fin grid0.N, _)

theorem rd2 (A : (⟨⟨4, ![64, 8, 64, 128]⟩, .bf16⟩ : BufTy).Contents (Elt F)) (t : Fin cfg0.N) (g : Fin 4) (h : Fin 8) (r : Fin 64) (v : Fin 128) :
    ((((cfg0.win 2).blk t).view.read (Elt F) A : Vec F ⟨4, ![4, 8, 64, 128]⟩ .bf16)) (ix4 g h r v) = A (ix4 (ck t g) h r v) := by
  have hi := idx2 t
  refine (View.read_apply _ _).trans ?_
  show A _ = A _
  refine congrArg A (funext fun a => Fin.ext ?_)
  match a with
  | ⟨0, _⟩ =>
    have e : win0_2.index t 0 = 15 - t.val := congrFun hi 0
    show win0_2.index t 0 * 4 + 1 * g.val = 4 * (15 - t.val) + g.val
    omega
  | ⟨1, _⟩ =>
    have e : win0_2.index t 1 = 0 := congrFun hi 1
    show win0_2.index t 1 * 8 + 1 * h.val = h.val
    omega
  | ⟨2, _⟩ =>
    have e : win0_2.index t 2 = 0 := congrFun hi 2
    show win0_2.index t 2 * 64 + 1 * r.val = r.val
    omega
  | ⟨3, _⟩ =>
    have e : win0_2.index t 3 = 0 := congrFun hi 3
    show win0_2.index t 3 * 128 + 1 * v.val = v.val
    omega

theorem idx3 : ∀ t : Fin cfg0.N, win0_3.index t = ![15 - t.val, 0, 0, 0] :=
  (by decide +kernel : ∀ t : Fin grid0.N, _)

theorem rd3 (A : (⟨⟨4, ![64, 8, 64, 64]⟩, .bf16⟩ : BufTy).Contents (Elt F)) (t : Fin cfg0.N) (g : Fin 4) (h : Fin 8) (r : Fin 64) (v : Fin 64) :
    ((((cfg0.win 3).blk t).view.read (Elt F) A : Vec F ⟨4, ![4, 8, 64, 64]⟩ .bf16)) (ix4 g h r v) = A (ix4 (ck t g) h r v) := by
  have hi := idx3 t
  refine (View.read_apply _ _).trans ?_
  show A _ = A _
  refine congrArg A (funext fun a => Fin.ext ?_)
  match a with
  | ⟨0, _⟩ =>
    have e : win0_3.index t 0 = 15 - t.val := congrFun hi 0
    show win0_3.index t 0 * 4 + 1 * g.val = 4 * (15 - t.val) + g.val
    omega
  | ⟨1, _⟩ =>
    have e : win0_3.index t 1 = 0 := congrFun hi 1
    show win0_3.index t 1 * 8 + 1 * h.val = h.val
    omega
  | ⟨2, _⟩ =>
    have e : win0_3.index t 2 = 0 := congrFun hi 2
    show win0_3.index t 2 * 64 + 1 * r.val = r.val
    omega
  | ⟨3, _⟩ =>
    have e : win0_3.index t 3 = 0 := congrFun hi 3
    show win0_3.index t 3 * 64 + 1 * v.val = v.val
    omega

theorem idx4 : ∀ t : Fin cfg0.N, win0_4.index t = ![15 - t.val, 0, 0, 0] :=
  (by decide +kernel : ∀ t : Fin grid0.N, _)

theorem rd4 (A : (⟨⟨4, ![64, 8, 8, 128]⟩, .f32⟩ : BufTy).Contents (Elt F)) (t : Fin cfg0.N) (g : Fin 4) (h : Fin 8) (r : Fin 8) (v : Fin 128) :
    ((((cfg0.win 4).blk t).view.read (Elt F) A : Vec F ⟨4, ![4, 8, 8, 128]⟩ .f32)) (ix4 g h r v) = A (ix4 (ck t g) h r v) := by
  have hi := idx4 t
  refine (View.read_apply _ _).trans ?_
  show A _ = A _
  refine congrArg A (funext fun a => Fin.ext ?_)
  match a with
  | ⟨0, _⟩ =>
    have e : win0_4.index t 0 = 15 - t.val := congrFun hi 0
    show win0_4.index t 0 * 4 + 1 * g.val = 4 * (15 - t.val) + g.val
    omega
  | ⟨1, _⟩ =>
    have e : win0_4.index t 1 = 0 := congrFun hi 1
    show win0_4.index t 1 * 8 + 1 * h.val = h.val
    omega
  | ⟨2, _⟩ =>
    have e : win0_4.index t 2 = 0 := congrFun hi 2
    show win0_4.index t 2 * 8 + 1 * r.val = r.val
    omega
  | ⟨3, _⟩ =>
    have e : win0_4.index t 3 = 0 := congrFun hi 3
    show win0_4.index t 3 * 128 + 1 * v.val = v.val
    omega

theorem idx5 : ∀ t : Fin cfg0.N, win0_5.index t = ![15 - t.val, 0, 0, 0] :=
  (by decide +kernel : ∀ t : Fin grid0.N, _)

theorem rd5 (A : (⟨⟨4, ![64, 8, 64, 128]⟩, .bf16⟩ : BufTy).Contents (Elt F)) (t : Fin cfg0.N) (g : Fin 4) (h : Fin 8) (r : Fin 64) (v : Fin 128) :
    ((((cfg0.win 5).blk t).view.read (Elt F) A : Vec F ⟨4, ![4, 8, 64, 128]⟩ .bf16)) (ix4 g h r v) = A (ix4 (ck t g) h r v) := by
  have hi := idx5 t
  refine (View.read_apply _ _).trans ?_
  show A _ = A _
  refine congrArg A (funext fun a => Fin.ext ?_)
  match a with
  | ⟨0, _⟩ =>
    have e : win0_5.index t 0 = 15 - t.val := congrFun hi 0
    show win0_5.index t 0 * 4 + 1 * g.val = 4 * (15 - t.val) + g.val
    omega
  | ⟨1, _⟩ =>
    have e : win0_5.index t 1 = 0 := congrFun hi 1
    show win0_5.index t 1 * 8 + 1 * h.val = h.val
    omega
  | ⟨2, _⟩ =>
    have e : win0_5.index t 2 = 0 := congrFun hi 2
    show win0_5.index t 2 * 64 + 1 * r.val = r.val
    omega
  | ⟨3, _⟩ =>
    have e : win0_5.index t 3 = 0 := congrFun hi 3
    show win0_5.index t 3 * 128 + 1 * v.val = v.val
    omega

theorem idx6 : ∀ t : Fin cfg0.N, win0_6.index t = ![15 - t.val, 0, 0, 0] :=
  (by decide +kernel : ∀ t : Fin grid0.N, _)

theorem rd6 (A : (⟨⟨4, ![64, 8, 128, 128]⟩, .bf16⟩ : BufTy).Contents (Elt F)) (t : Fin cfg0.N) (g : Fin 4) (h : Fin 8) (r : Fin 128) (v : Fin 128) :
    ((((cfg0.win 6).blk t).view.read (Elt F) A : Vec F ⟨4, ![4, 8, 128, 128]⟩ .bf16)) (ix4 g h r v) = A (ix4 (ck t g) h r v) := by
  have hi := idx6 t
  refine (View.read_apply _ _).trans ?_
  show A _ = A _
  refine congrArg A (funext fun a => Fin.ext ?_)
  match a with
  | ⟨0, _⟩ =>
    have e : win0_6.index t 0 = 15 - t.val := congrFun hi 0
    show win0_6.index t 0 * 4 + 1 * g.val = 4 * (15 - t.val) + g.val
    omega
  | ⟨1, _⟩ =>
    have e : win0_6.index t 1 = 0 := congrFun hi 1
    show win0_6.index t 1 * 8 + 1 * h.val = h.val
    omega
  | ⟨2, _⟩ =>
    have e : win0_6.index t 2 = 0 := congrFun hi 2
    show win0_6.index t 2 * 128 + 1 * r.val = r.val
    omega
  | ⟨3, _⟩ =>
    have e : win0_6.index t 3 = 0 := congrFun hi 3
    show win0_6.index t 3 * 128 + 1 * v.val = v.val
    omega

theorem idx7 : ∀ t : Fin cfg0.N, win0_7.index t = ![15 - t.val, 0] :=
  (by decide +kernel : ∀ t : Fin grid0.N, _)

theorem rd7 (A : (⟨⟨2, ![4096, 1024]⟩, .bf16⟩ : BufTy).Contents (Elt F)) (t : Fin cfg0.N) (r : Fin 256) (v : Fin 1024) :
    ((((cfg0.win 7).blk t).view.read (Elt F) A : Vec F ⟨2, ![256, 1024]⟩ .bf16)) (ix2 r v) = A (ix2 (rw t r) v) := by
  have hi := idx7 t
  refine (View.read_apply _ _).trans ?_
  show A _ = A _
  refine congrArg A (funext fun a => Fin.ext ?_)
  match a with
  | ⟨0, _⟩ =>
    have e : win0_7.index t 0 = 15 - t.val := congrFun hi 0
    show win0_7.index t 0 * 256 + 1 * r.val = 256 * (15 - t.val) + r.val
    omega
  | ⟨1, _⟩ =>
    have e : win0_7.index t 1 = 0 := congrFun hi 1
    show win0_7.index t 1 * 1024 + 1 * v.val = v.val
    omega

theorem idx8 : ∀ t : Fin cfg0.N, win0_8.index t = ![15 - t.val, 0] :=
  (by decide +kernel : ∀ t : Fin grid0.N, _)

theorem rd8 (A : (⟨⟨2, ![4096, 1024]⟩, .f32⟩ : BufTy).Contents (Elt F)) (t : Fin cfg0.N) (r : Fin 256) (v : Fin 1024) :
    ((((cfg0.win 8).blk t).view.read (Elt F) A : Vec F ⟨2, ![256, 1024]⟩ .f32)) (ix2 r v) = A (ix2 (rw t r) v) := by
  have hi := idx8 t
  refine (View.read_apply _ _).trans ?_
  show A _ = A _
  refine congrArg A (funext fun a => Fin.ext ?_)
  match a with
  | ⟨0, _⟩ =>
    have e : win0_8.index t 0 = 15 - t.val := congrFun hi 0
    show win0_8.index t 0 * 256 + 1 * r.val = 256 * (15 - t.val) + r.val
    omega
  | ⟨1, _⟩ =>
    have e : win0_8.index t 1 = 0 := congrFun hi 1
    show win0_8.index t 1 * 1024 + 1 * v.val = v.val
    omega

theorem idx9 : ∀ t : Fin cfg0.N, win0_9.index t = ![15 - t.val, 0] :=
  (by decide +kernel : ∀ t : Fin grid0.N, _)

theorem rd9 (A : (⟨⟨2, ![4096, 1024]⟩, .f32⟩ : BufTy).Contents (Elt F)) (t : Fin cfg0.N) (r : Fin 256) (v : Fin 1024) :
    ((((cfg0.win 9).blk t).view.read (Elt F) A : Vec F ⟨2, ![256, 1024]⟩ .f32)) (ix2 r v) = A (ix2 (rw t r) v) := by
  have hi := idx9 t
  refine (View.read_apply _ _).trans ?_
  show A _ = A _
  refine congrArg A (funext fun a => Fin.ext ?_)
  match a with
  | ⟨0, _⟩ =>
    have e : win0_9.index t 0 = 15 - t.val := congrFun hi 0
    show win0_9.index t 0 * 256 + 1 * r.val = 256 * (15 - t.val) + r.val
    omega
  | ⟨1, _⟩ =>
    have e : win0_9.index t 1 = 0 := congrFun hi 1
    show win0_9.index t 1 * 1024 + 1 * v.val = v.val
    omega

theorem idx10 : ∀ t : Fin cfg0.N, win0_10.index t = ![0, 0] :=
  (by decide +kernel : ∀ t : Fin grid0.N, _)

theorem rd10 (A : (⟨⟨2, ![1, 128]⟩, .f32⟩ : BufTy).Contents (Elt F)) (t : Fin cfg0.N) (r : Fin 1) (v : Fin 128) :
    ((((cfg0.win 10).blk t).view.read (Elt F) A : Vec F ⟨2, ![1, 128]⟩ .f32)) (ix2 r v) = A (ix2 r v) := by
  have hi := idx10 t
  refine (View.read_apply _ _).trans ?_
  show A _ = A _
  refine congrArg A (funext fun a => Fin.ext ?_)
  match a with
  | ⟨0, _⟩ =>
    have e : win0_10.index t 0 = 0 := congrFun hi 0
    show win0_10.index t 0 * 1 + 1 * r.val = r.val
    omega
  | ⟨1, _⟩ =>
    have e : win0_10.index t 1 = 0 := congrFun hi 1
    show win0_10.index t 1 * 128 + 1 * v.val = v.val
    omega

theorem idx11 : ∀ t : Fin cfg0.N, win0_11.index t = ![0, 0] :=
  (by decide +kernel : ∀ t : Fin grid0.N, _)

theorem rd11 (A : (⟨⟨2, ![1024, 1024]⟩, .bf16⟩ : BufTy).Contents (Elt F)) (t : Fin cfg0.N) (r : Fin 1024) (v : Fin 1024) :
    ((((cfg0.win 11).blk t).view.read (Elt F) A : Vec F ⟨2, ![1024, 1024]⟩ .bf16)) (ix2 r v) = A (ix2 r v) := by
  have hi := idx11 t
  refine (View.read_apply _ _).trans ?_
  show A _ = A _
  refine congrArg A (funext fun a => Fin.ext ?_)
  match a with
  | ⟨0, _⟩ =>
    have e : win0_11.index t 0 = 0 := congrFun hi 0
    show win0_11.index t 0 * 1024 + 1 * r.val = r.val
    omega
  | ⟨1, _⟩ =>
    have e : win0_11.index t 1 = 0 := congrFun hi 1
    show win0_11.index t 1 * 1024 + 1 * v.val = v.val
    omega

theorem idx12 : ∀ t : Fin cfg0.N, win0_12.index t = ![15 - t.val, 0] :=
  (by decide +kernel : ∀ t : Fin grid0.N, _)

theorem rd12 (A : (⟨⟨2, ![4096, 1024]⟩, .bf16⟩ : BufTy).Contents (Elt F)) (t : Fin cfg0.N) (r : Fin 256) (v : Fin 1024) :
    ((((cfg0.win 12).blk t).view.read (Elt F) A : Vec F ⟨2, ![256, 1024]⟩ .bf16)) (ix2 r v) = A (ix2 (rw t r) v) := by
  have hi := idx12 t
  refine (View.read_apply _ _).trans ?_
  show A _ = A _
  refine congrArg A (funext fun a => Fin.ext ?_)
  match a with
  | ⟨0, _⟩ =>
    have e : win0_12.index t 0 = 15 - t.val := congrFun hi 0
    show win0_12.index t 0 * 256 + 1 * r.val = 256 * (15 - t.val) + r.val
    omega
  | ⟨1, _⟩ =>
    have e : win0_12.index t 1 = 0 := congrFun hi 1
    show win0_12.index t 1 * 1024 + 1 * v.val = v.val
    omega

theorem idx13 : ∀ t : Fin cfg0.N, win0_13.index t = ![15 - t.val, 0] :=
  (by decide +kernel : ∀ t : Fin grid0.N, _)

theorem rd13 (A : (⟨⟨2, ![4096, 512]⟩, .f32⟩ : BufTy).Contents (Elt F)) (t : Fin cfg0.N) (r : Fin 256) (v : Fin 512) :
    ((((cfg0.win 13).blk t).view.read (Elt F) A : Vec F ⟨2, ![256, 512]⟩ .f32)) (ix2 r v) = A (ix2 (rw t r) v) := by
  have hi := idx13 t
  refine (View.read_apply _ _).trans ?_
  show A _ = A _
  refine congrArg A (funext fun a => Fin.ext ?_)
  match a with
  | ⟨0, _⟩ =>
    have e : win0_13.index t 0 = 15 - t.val := congrFun hi 0
    show win0_13.index t 0 * 256 + 1 * r.val = 256 * (15 - t.val) + r.val
    omega
  | ⟨1, _⟩ =>
    have e : win0_13.index t 1 = 0 := congrFun hi 1
    show win0_13.index t 1 * 512 + 1 * v.val = v.val
    omega

theorem idx14 : ∀ t : Fin cfg0.N, win0_14.index t = ![15 - t.val, 0] :=
  (by decide +kernel : ∀ t : Fin grid0.N, _)

theorem rd14 (A : (⟨⟨2, ![4096, 512]⟩, .f32⟩ : BufTy).Contents (Elt F)) (t : Fin cfg0.N) (r : Fin 256) (v : Fin 512) :
    ((((cfg0.win 14).blk t).view.read (Elt F) A : Vec F ⟨2, ![256, 512]⟩ .f32)) (ix2 r v) = A (ix2 (rw t r) v) := by
  have hi := idx14 t
  refine (View.read_apply _ _).trans ?_
  show A _ = A _
  refine congrArg A (funext fun a => Fin.ext ?_)
  match a with
  | ⟨0, _⟩ =>
    have e : win0_14.index t 0 = 15 - t.val := congrFun hi 0
    show win0_14.index t 0 * 256 + 1 * r.val = 256 * (15 - t.val) + r.val
    omega
  | ⟨1, _⟩ =>
    have e : win0_14.index t 1 = 0 := congrFun hi 1
    show win0_14.index t 1 * 512 + 1 * v.val = v.val
    omega

theorem idx15 : ∀ t : Fin cfg0.N, win0_15.index t = ![0, 0] :=
  (by decide +kernel : ∀ t : Fin grid0.N, _)

theorem rd15 (A : (⟨⟨2, ![512, 1024]⟩, .bf16⟩ : BufTy).Contents (Elt F)) (t : Fin cfg0.N) (r : Fin 512) (v : Fin 1024) :
    ((((cfg0.win 15).blk t).view.read (Elt F) A : Vec F ⟨2, ![512, 1024]⟩ .bf16)) (ix2 r v) = A (ix2 r v) := by
  have hi := idx15 t
  refine (View.read_apply _ _).trans ?_
  show A _ = A _
  refine congrArg A (funext fun a => Fin.ext ?_)
  match a with
  | ⟨0, _⟩ =>
    have e : win0_15.index t 0 = 0 := congrFun hi 0
    show win0_15.index t 0 * 512 + 1 * r.val = r.val
    omega
  | ⟨1, _⟩ =>
    have e : win0_15.index t 1 = 0 := congrFun hi 1
    show win0_15.index t 1 * 1024 + 1 * v.val = v.val
    omega

theorem idx16 : ∀ t : Fin cfg0.N, win0_16.index t = ![15 - t.val, 0, 0, 0] :=
  (by decide +kernel : ∀ t : Fin grid0.N, _)

theorem rd16 (A : (⟨⟨4, ![64, 8, 64, 128]⟩, .bf16⟩ : BufTy).Contents (Elt F)) (t : Fin cfg0.N) (g : Fin 4) (h : Fin 8) (r : Fin 64) (v : Fin 128) :
    ((((cfg0.win 16).blk t).view.read (Elt F) A : Vec F ⟨4, ![4, 8, 64, 128]⟩ .bf16)) (ix4 g h r v) = A (ix4 (ck t g) h r v) := by
  have hi := idx16 t
  refine (View.read_apply _ _).trans ?_
  show A _ = A _
  refine congrArg A (funext fun a => Fin.ext ?_)
  match a with
  | ⟨0, _⟩ =>
    have e : win0_16.index t 0 = 15 - t.val := congrFun hi 0
    show win0_16.index t 0 * 4 + 1 * g.val = 4 * (15 - t.val) + g.val
    omega
  | ⟨1, _⟩ =>
    have e : win0_16.index t 1 = 0 := congrFun hi 1
    show win0_16.index t 1 * 8 + 1 * h.val = h.val
    omega
  | ⟨2, _⟩ =>
    have e : win0_16.index t 2 = 0 := congrFun hi 2
    show win0_16.index t 2 * 64 + 1 * r.val = r.val
    omega
  | ⟨3, _⟩ =>
    have e : win0_16.index t 3 = 0 := congrFun hi 3
    show win0_16.index t 3 * 128 + 1 * v.val = v.val
    omega

theorem idx17 : ∀ t : Fin cfg0.N, win0_17.index t = ![15 - t.val, 0, 0, 0] :=
  (by decide +kernel : ∀ t : Fin grid0.N, _)

theorem rd17 (A : (⟨⟨4, ![64, 8, 64, 128]⟩, .f32⟩ : BufTy).Contents (Elt F)) (t : Fin cfg0.N) (g : Fin 4) (h : Fin 8) (r : Fin 64) (v : Fin 128) :
    ((((cfg0.win 17).blk t).view.read (Elt F) A : Vec F ⟨4, ![4, 8, 64, 128]⟩ .f32)) (ix4 g h r v) = A (ix4 (ck t g) h r v) := by
  have hi := idx17 t
  refine (View.read_apply _ _).trans ?_
  show A _ = A _
  refine congrArg A (funext fun a => Fin.ext ?_)
  match a with
  | ⟨0, _⟩ =>
    have e : win0_17.index t 0 = 15 - t.val := congrFun hi 0
    show win0_17.index t 0 * 4 + 1 * g.val = 4 * (15 - t.val) + g.val
    omega
  | ⟨1, _⟩ =>
    have e : win0_17.index t 1 = 0 := congrFun hi 1
    show win0_17.index t 1 * 8 + 1 * h.val = h.val
    omega
  | ⟨2, _⟩ =>
    have e : win0_17.index t 2 = 0 := congrFun hi 2
    show win0_17.index t 2 * 64 + 1 * r.val = r.val
    omega
  | ⟨3, _⟩ =>
    have e : win0_17.index t 3 = 0 := congrFun hi 3
    show win0_17.index t 3 * 128 + 1 * v.val = v.val
    omega

theorem idx18 : ∀ t : Fin cfg0.N, win0_18.index t = ![15 - t.val, 0, 0, 0] :=
  (by decide +kernel : ∀ t : Fin grid0.N, _)

theorem rd18 (A : (⟨⟨4, ![64, 8, 8, 128]⟩, .f32⟩ : BufTy).Contents (Elt F)) (t : Fin cfg0.N) (g : Fin 4) (h : Fin 8) (r : Fin 8) (v : Fin 128) :
    ((((cfg0.win 18).blk t).view.read (Elt F) A : Vec F ⟨4, ![4, 8, 8, 128]⟩ .f32)) (ix4 g h r v) = A (ix4 (ck t g) h r v) := by
  have hi := idx18 t
  refine (View.read_apply _ _).trans ?_
  show A _ = A _
  refine congrArg A (funext fun a => Fin.ext ?_)
  match a with
  | ⟨0, _⟩ =>
    have e : win0_18.index t 0 = 15 - t.val := congrFun hi 0
    show win0_18.index t 0 * 4 + 1 * g.val = 4 * (15 - t.val) + g.val
    omega
  | ⟨1, _⟩ =>
    have e : win0_18.index t 1 = 0 := congrFun hi 1
    show win0_18.index t 1 * 8 + 1 * h.val = h.val
    omega
  | ⟨2, _⟩ =>
    have e : win0_18.index t 2 = 0 := congrFun hi 2
    show win0_18.index t 2 * 8 + 1 * r.val = r.val
    omega
  | ⟨3, _⟩ =>
    have e : win0_18.index t 3 = 0 := congrFun hi 3
    show win0_18.index t 3 * 128 + 1 * v.val = v.val
    omega

theorem idx19 : ∀ t : Fin cfg0.N, win0_19.index t = ![15 - t.val, 0] :=
  (by decide +kernel : ∀ t : Fin grid0.N, _)

theorem rd19 (A : (⟨⟨2, ![4096, 1024]⟩, .f32⟩ : BufTy).Contents (Elt F)) (t : Fin cfg0.N) (r : Fin 256) (v : Fin 1024) :
    ((((cfg0.win 19).blk t).view.read (Elt F) A : Vec F ⟨2, ![256, 1024]⟩ .f32)) (ix2 r v) = A (ix2 (rw t r) v) := by
  have hi := idx19 t
  refine (View.read_apply _ _).trans ?_
  show A _ = A _
  refine congrArg A (funext fun a => Fin.ext ?_)
  match a with
  | ⟨0, _⟩ =>
    have e : win0_19.index t 0 = 15 - t.val := congrFun hi 0
    show win0_19.index t 0 * 256 + 1 * r.val = 256 * (15 - t.val) + r.val
    omega
  | ⟨1, _⟩ =>
    have e : win0_19.index t 1 = 0 := congrFun hi 1
    show win0_19.index t 1 * 1024 + 1 * v.val = v.val
    omega

theorem idx20 : ∀ t : Fin cfg0.N, win0_20.index t = ![15 - t.val, 0] :=
  (by decide +kernel : ∀ t : Fin grid0.N, _)

theorem rd20 (A : (⟨⟨2, ![4096, 1024]⟩, .bf16⟩ : BufTy).Contents (Elt F)) (t : Fin cfg0.N) (r : Fin 256) (v : Fin 1024) :
    ((((cfg0.win 20).blk t).view.read (Elt F) A : Vec F ⟨2, ![256, 1024]⟩ .bf16)) (ix2 r v) = A (ix2 (rw t r) v) := by
  have hi := idx20 t
  refine (View.read_apply _ _).trans ?_
  show A _ = A _
  refine congrArg A (funext fun a => Fin.ext ?_)
  match a with
  | ⟨0, _⟩ =>
    have e : win0_20.index t 0 = 15 - t.val := congrFun hi 0
    show win0_20.index t 0 * 256 + 1 * r.val = 256 * (15 - t.val) + r.val
    omega
  | ⟨1, _⟩ =>
    have e : win0_20.index t 1 = 0 := congrFun hi 1
    show win0_20.index t 1 * 1024 + 1 * v.val = v.val
    omega

theorem idx21 : ∀ t : Fin cfg0.N, win0_21.index t = ![0, 0] :=
  (by decide +kernel : ∀ t : Fin grid0.N, _)

theorem rd21 (A : (⟨⟨2, ![8, 128]⟩, .f32⟩ : BufTy).Contents (Elt F)) (t : Fin cfg0.N) (r : Fin 8) (v : Fin 128) :
    ((((cfg0.win 21).blk t).view.read (Elt F) A : Vec F ⟨2, ![8, 128]⟩ .f32)) (ix2 r v) = A (ix2 r v) := by
  have hi := idx21 t
  refine (View.read_apply _ _).trans ?_
  show A _ = A _
  refine congrArg A (funext fun a => Fin.ext ?_)
  match a with
  | ⟨0, _⟩ =>
    have e : win0_21.index t 0 = 0 := congrFun hi 0
    show win0_21.index t 0 * 8 + 1 * r.val = r.val
    omega
  | ⟨1, _⟩ =>
    have e : win0_21.index t 1 = 0 := congrFun hi 1
    show win0_21.index t 1 * 128 + 1 * v.val = v.val
    omega

theorem idx22 : ∀ t : Fin cfg0.N, win0_22.index t = ![15 - t.val, 0] :=
  (by decide +kernel : ∀ t : Fin grid0.N, _)

theorem rd22 (A : (⟨⟨2, ![4096, 512]⟩, .f32⟩ : BufTy).Contents (Elt F)) (t : Fin cfg0.N) (r : Fin 256) (v : Fin 512) :
    ((((cfg0.win 22).blk t).view.read (Elt F) A : Vec F ⟨2, ![256, 512]⟩ .f32)) (ix2 r v) = A (ix2 (rw t r) v) := by
  have hi := idx22 t
  refine (View.read_apply _ _).trans ?_
  show A _ = A _
  refine congrArg A (funext fun a => Fin.ext ?_)
  match a with
  | ⟨0, _⟩ =>
    have e : win0_22.index t 0 = 15 - t.val := congrFun hi 0
    show win0_22.index t 0 * 256 + 1 * r.val = 256 * (15 - t.val) + r.val
    omega
  | ⟨1, _⟩ =>
    have e : win0_22.index t 1 = 0 := congrFun hi 1
    show win0_22.index t 1 * 512 + 1 * v.val = v.val
    omega

theorem idx23 : ∀ t : Fin cfg0.N, win0_23.index t = ![15 - t.val, 0] :=
  (by decide +kernel : ∀ t : Fin grid0.N, _)

theorem rd23 (A : (⟨⟨2, ![4096, 512]⟩, .bf16⟩ : BufTy).Contents (Elt F)) (t : Fin cfg0.N) (r : Fin 256) (v : Fin 512) :
    ((((cfg0.win 23).blk t).view.read (Elt F) A : Vec F ⟨2, ![256, 512]⟩ .bf16)) (ix2 r v) = A (ix2 (rw t r) v) := by
  have hi := idx23 t
  refine (View.read_apply _ _).trans ?_
  show A _ = A _
  refine congrArg A (funext fun a => Fin.ext ?_)
  match a with
  | ⟨0, _⟩ =>
    have e : win0_23.index t 0 = 15 - t.val := congrFun hi 0
    show win0_23.index t 0 * 256 + 1 * r.val = 256 * (15 - t.val) + r.val
    omega
  | ⟨1, _⟩ =>
    have e : win0_23.index t 1 = 0 := congrFun hi 1
    show win0_23.index t 1 * 512 + 1 * v.val = v.val
    omega

theorem idx24 : ∀ t : Fin cfg0.N, win0_24.index t = ![15 - t.val, 0] :=
  (by decide +kernel : ∀ t : Fin grid0.N, _)

theorem rd24 (A : (⟨⟨2, ![4096, 512]⟩, .f32⟩ : BufTy).Contents (Elt F)) (t : Fin cfg0.N) (r : Fin 256) (v : Fin 512) :
    ((((cfg0.win 24).blk t).view.read (Elt F) A : Vec F ⟨2, ![256, 512]⟩ .f32)) (ix2 r v) = A (ix2 (rw t r) v) := by
  have hi := idx24 t
  refine (View.read_apply _ _).trans ?_
  show A _ = A _
  refine congrArg A (funext fun a => Fin.ext ?_)
  match a with
  | ⟨0, _⟩ =>
    have e : win0_24.index t 0 = 15 - t.val := congrFun hi 0
    show win0_24.index t 0 * 256 + 1 * r.val = 256 * (15 - t.val) + r.val
    omega
  | ⟨1, _⟩ =>
    have e : win0_24.index t 1 = 0 := congrFun hi 1
    show win0_24.index t 1 * 512 + 1 * v.val = v.val
    omega

end Cert.KIn
-- ==== Proof.Trip.lean ====
module

public import proofs.«01_k».proof.Proof.Gen.ReferenceIdeal.Step
public import Idealize.ShloMosaic.Lib.Pointwise

/-! One trip of the reference's loop, read at an index. Trip `j` handles chunk `63 - j`. -/

@[expose] public section

set_option maxRecDepth 16384

noncomputable section

namespace Cert.Trip

open Idealize.ShloMosaic Cert.ReferenceIdeal Cert.ReferenceIdeal.Gen Cert.ReferenceIdeal.Step

/-- The chunk a trip handles. -/
abbrev chunk (j : ℕ) : Fin 64 := ⟨63 - j, by omega⟩

variable (j : ℕ) (hj : j < 64) (s : State Ideal)

theorem word_toInt : ∀ j : Fin 64, (64#32 - BitVec.ofNat 32 j.val - 1#32).toInt = ((63 - j.val : ℕ) : Int) := by decide

include hj in
theorem b3_toInt (i : S_.Idx) : (b3 j s i).toInt = ((63 - j : ℕ) : Int) := word_toInt ⟨j, hj⟩

include hj in
theorem cl_S64x8x64x128_0 (h : S1x8x64x128.rank = S64x8x64x128.rank) : Host.clampedStart S64x8x64x128 S1x8x64x128 h
    (fun k => BitVec.toInt ((![b3 j s, constantI S_ 32 0#32, constantI S_ 32 0#32, constantI S_ 32 0#32] : Fin 4 → IVec S_ 32) k (Shape.Idx.first h_S_))) 0 = 63 - j :=
  Host.clampedStart_of_le h _ _ _ (b3_toInt j hj s _) (show 63 - j + 1 ≤ 64 by omega)
theorem cl_S64x8x64x128_1 (h : S1x8x64x128.rank = S64x8x64x128.rank) : Host.clampedStart S64x8x64x128 S1x8x64x128 h
    (fun k => BitVec.toInt ((![b3 j s, constantI S_ 32 0#32, constantI S_ 32 0#32, constantI S_ 32 0#32] : Fin 4 → IVec S_ 32) k (Shape.Idx.first h_S_))) 1 = 0 :=
  Host.clampedStart_of_le h _ _ _ (rfl) (Nat.le_of_ble_eq_true rfl)
theorem cl_S64x8x64x128_2 (h : S1x8x64x128.rank = S64x8x64x128.rank) : Host.clampedStart S64x8x64x128 S1x8x64x128 h
    (fun k => BitVec.toInt ((![b3 j s, constantI S_ 32 0#32, constantI S_ 32 0#32, constantI S_ 32 0#32] : Fin 4 → IVec S_ 32) k (Shape.Idx.first h_S_))) 2 = 0 :=
  Host.clampedStart_of_le h _ _ _ (rfl) (Nat.le_of_ble_eq_true rfl)
theorem cl_S64x8x64x128_3 (h : S1x8x64x128.rank = S64x8x64x128.rank) : Host.clampedStart S64x8x64x128 S1x8x64x128 h
    (fun k => BitVec.toInt ((![b3 j s, constantI S_ 32 0#32, constantI S_ 32 0#32, constantI S_ 32 0#32] : Fin 4 → IVec S_ 32) k (Shape.Idx.first h_S_))) 3 = 0 :=
  Host.clampedStart_of_le h _ _ _ (rfl) (Nat.le_of_ble_eq_true rfl)
include hj in
theorem cl_S64x8x64x64_0 (h : S1x8x64x64.rank = S64x8x64x64.rank) : Host.clampedStart S64x8x64x64 S1x8x64x64 h
    (fun k => BitVec.toInt ((![b3 j s, constantI S_ 32 0#32, constantI S_ 32 0#32, constantI S_ 32 0#32] : Fin 4 → IVec S_ 32) k (Shape.Idx.first h_S_))) 0 = 63 - j :=
  Host.clampedStart_of_le h _ _ _ (b3_toInt j hj s _) (show 63 - j + 1 ≤ 64 by omega)
theorem cl_S64x8x64x64_1 (h : S1x8x64x64.rank = S64x8x64x64.rank) : Host.clampedStart S64x8x64x64 S1x8x64x64 h
    (fun k => BitVec.toInt ((![b3 j s, constantI S_ 32 0#32, constantI S_ 32 0#32, constantI S_ 32 0#32] : Fin 4 → IVec S_ 32) k (Shape.Idx.first h_S_))) 1 = 0 :=
  Host.clampedStart_of_le h _ _ _ (rfl) (Nat.le_of_ble_eq_true rfl)
theorem cl_S64x8x64x64_2 (h : S1x8x64x64.rank = S64x8x64x64.rank) : Host.clampedStart S64x8x64x64 S1x8x64x64 h
    (fun k => BitVec.toInt ((![b3 j s, constantI S_ 32 0#32, constantI S_ 32 0#32, constantI S_ 32 0#32] : Fin 4 → IVec S_ 32) k (Shape.Idx.first h_S_))) 2 = 0 :=
  Host.clampedStart_of_le h _ _ _ (rfl) (Nat.le_of_ble_eq_true rfl)
theorem cl_S64x8x64x64_3 (h : S1x8x64x64.rank = S64x8x64x64.rank) : Host.clampedStart S64x8x64x64 S1x8x64x64 h
    (fun k => BitVec.toInt ((![b3 j s, constantI S_ 32 0#32, constantI S_ 32 0#32, constantI S_ 32 0#32] : Fin 4 → IVec S_ 32) k (Shape.Idx.first h_S_))) 3 = 0 :=
  Host.clampedStart_of_le h _ _ _ (rfl) (Nat.le_of_ble_eq_true rfl)
include hj in
theorem cl_S64x8x128x128_0 (h : S1x8x128x128.rank = S64x8x128x128.rank) : Host.clampedStart S64x8x128x128 S1x8x128x128 h
    (fun k => BitVec.toInt ((![b3 j s, constantI S_ 32 0#32, constantI S_ 32 0#32, constantI S_ 32 0#32] : Fin 4 → IVec S_ 32) k (Shape.Idx.first h_S_))) 0 = 63 - j :=
  Host.clampedStart_of_le h _ _ _ (b3_toInt j hj s _) (show 63 - j + 1 ≤ 64 by omega)
theorem cl_S64x8x128x128_1 (h : S1x8x128x128.rank = S64x8x128x128.rank) : Host.clampedStart S64x8x128x128 S1x8x128x128 h
    (fun k => BitVec.toInt ((![b3 j s, constantI S_ 32 0#32, constantI S_ 32 0#32, constantI S_ 32 0#32] : Fin 4 → IVec S_ 32) k (Shape.Idx.first h_S_))) 1 = 0 :=
  Host.clampedStart_of_le h _ _ _ (rfl) (Nat.le_of_ble_eq_true rfl)
theorem cl_S64x8x128x128_2 (h : S1x8x128x128.rank = S64x8x128x128.rank) : Host.clampedStart S64x8x128x128 S1x8x128x128 h
    (fun k => BitVec.toInt ((![b3 j s, constantI S_ 32 0#32, constantI S_ 32 0#32, constantI S_ 32 0#32] : Fin 4 → IVec S_ 32) k (Shape.Idx.first h_S_))) 2 = 0 :=
  Host.clampedStart_of_le h _ _ _ (rfl) (Nat.le_of_ble_eq_true rfl)
theorem cl_S64x8x128x128_3 (h : S1x8x128x128.rank = S64x8x128x128.rank) : Host.clampedStart S64x8x128x128 S1x8x128x128 h
    (fun k => BitVec.toInt ((![b3 j s, constantI S_ 32 0#32, constantI S_ 32 0#32, constantI S_ 32 0#32] : Fin 4 → IVec S_ 32) k (Shape.Idx.first h_S_))) 3 = 0 :=
  Host.clampedStart_of_le h _ _ _ (rfl) (Nat.le_of_ble_eq_true rfl)
include hj in
theorem cl_S64x8_0 (h : S1x8.rank = S64x8.rank) : Host.clampedStart S64x8 S1x8 h
    (fun k => BitVec.toInt ((![b3 j s, constantI S_ 32 0#32] : Fin 2 → IVec S_ 32) k (Shape.Idx.first h_S_))) 0 = 63 - j :=
  Host.clampedStart_of_le h _ _ _ (b3_toInt j hj s _) (show 63 - j + 1 ≤ 64 by omega)
theorem cl_S64x8_1 (h : S1x8.rank = S64x8.rank) : Host.clampedStart S64x8 S1x8 h
    (fun k => BitVec.toInt ((![b3 j s, constantI S_ 32 0#32] : Fin 2 → IVec S_ 32) k (Shape.Idx.first h_S_))) 1 = 0 :=
  Host.clampedStart_of_le h _ _ _ (rfl) (Nat.le_of_ble_eq_true rfl)

include hj in
theorem b13_at (h : Fin 8) (c : Fin 64) (k : Fin 128) :
    b13 j s (ix3 h c k) = s.main_v88_1 (ix4 (chunk j) h c k) := by
  pointwise [b13, b12, b9, b10, b11]
  simp only [cl_S64x8x64x128_0 j hj s, cl_S64x8x64x128_1 j s, cl_S64x8x64x128_2 j s, cl_S64x8x64x128_3 j s, Nat.zero_add, Fin.eta]

include hj in
theorem b18_at (h : Fin 8) (i : Fin 64) (c : Fin 64) :
    b18 j s (ix3 h i c) = s.main_v88_2 (ix4 (chunk j) h i c) := by
  pointwise [b18, b17, b14, b15, b16]
  simp only [cl_S64x8x64x64_0 j hj s, cl_S64x8x64x64_1 j s, cl_S64x8x64x64_2 j s, cl_S64x8x64x64_3 j s, Nat.zero_add, Fin.eta]

include hj in
theorem b23_at (h : Fin 8) (c : Fin 64) (k : Fin 128) :
    b23 j s (ix3 h c k) = s.main_v88_3 (ix4 (chunk j) h c k) := by
  pointwise [b23, b22, b19, b20, b21]
  simp only [cl_S64x8x64x128_0 j hj s, cl_S64x8x64x128_1 j s, cl_S64x8x64x128_2 j s, cl_S64x8x64x128_3 j s, Nat.zero_add, Fin.eta]

include hj in
theorem b28_at (h : Fin 8) (c : Fin 64) (k : Fin 128) :
    b28 j s (ix3 h c k) = s.main_v88_4 (ix4 (chunk j) h c k) := by
  pointwise [b28, b27, b24, b25, b26]
  simp only [cl_S64x8x64x128_0 j hj s, cl_S64x8x64x128_1 j s, cl_S64x8x64x128_2 j s, cl_S64x8x64x128_3 j s, Nat.zero_add, Fin.eta]

include hj in
theorem b31_at (h : Fin 8) :
    b31 j s (ix1 h) = s.main_v88_5 (ix2 (chunk j) h) := by
  pointwise [b31, b30, b29]
  simp only [cl_S64x8_0 j hj s, cl_S64x8_1 j s, Nat.zero_add, Fin.eta]

include hj in
theorem b41_at (h : Fin 8) (c : Fin 64) (v : Fin 128) :
    b41 j s (ix3 h c v) = s.main_v88_7 (ix4 (chunk j) h c v) := by
  pointwise [b41, b40, b37, b38, b39]
  simp only [cl_S64x8x64x128_0 j hj s, cl_S64x8x64x128_1 j s, cl_S64x8x64x128_2 j s, cl_S64x8x64x128_3 j s, Nat.zero_add, Fin.eta]

theorem b58_at (h : Fin 8) (c : Fin 64) (v : Fin 128) :
    b58 j s (ix3 h c v) = ∑ k, s.main_v88_9 (ix3 h k v) * b28 j s (ix3 h c k)
      + ∑ i, b41 j s (ix3 h i v) * b18 j s (ix3 h i c) := by
  pointwise [b58, b57, b56, b53, b52]

theorem b65_at (h : Fin 8) (k : Fin 128) (v : Fin 128) :
    b65 j s (ix3 h k v) = s.main_v88_9 (ix3 h k v) * b31 j s (ix1 h)
      + ∑ c, b41 j s (ix3 h c v) * b23 j s (ix3 h c k) + ∑ c, -b58 j s (ix3 h c v) * b13 j s (ix3 h c k) := by
  pointwise [b65, b64, b63, b62, b61, b60, b59, b55, b54, b47]

theorem b68_at (n : Fin 64) (h : Fin 8) (k : Fin 128) (v : Fin 128) :
    b68 j s (ix4 n h k v)
      = if n.val < 1 then s.main_v88_9 (ix3 h k v) else s.main_v88_10 (ix4 ⟨n.val - 1, by omega⟩ h k v) := by
  pointwise [b68, b67, b66]
  split_ifs <;> rfl

end Cert.Trip
-- ==== Proof.RefScan.lean ====
module

public import proofs.«01_k».proof.Proof.Scan
public import proofs.«01_k».proof.Proof.Trip

/-! The reference's 64 trips are the backward recurrence. -/

@[expose] public section

set_option maxRecDepth 16384

noncomputable section

namespace Cert.RefScan

open Idealize.ShloMosaic Cert.ReferenceIdeal Cert.ReferenceIdeal.Gen Cert.ReferenceIdeal.Step Cert.Sc Cert.Scan Cert.Trip

/-- The recurrence's arrays, read from a state of the loop. -/
def data (s : State Ideal) : Data where
  vn n h c v := s.main_v88_0 (ix4 n h c v) - ∑ k, s.main_v88_1 (ix4 n h c k) * s.main_v88_6 (ix4 n h k v)
  w n h c k := s.main_v88_1 (ix4 n h c k)
  aqk n h i c := s.main_v88_2 (ix4 n h i c)
  qd n h c k := s.main_v88_3 (ix4 n h c k)
  kd n h c k := s.main_v88_4 (ix4 n h c k)
  dl n h := s.main_v88_5 (ix2 n h)
  st n h k v := s.main_v88_6 (ix4 n h k v)
  dO n h c v := s.main_v88_7 (ix4 n h c v)

theorem data_step (j : ℕ) (s : State Ideal) : data (step j s) = data s := rfl

/-- What holds after `j` trips: the state's gradient, and the gradients after the chunks gone through, the newest first. -/
structure At (D : Data) (j : ℕ) (s : State Ideal) : Prop where
  data : data s = D
  grad : ∀ h k v, s.main_v88_9 (ix3 h k v) = dS D j h k v
  seen : ∀ n : Fin 64, n.val < j → ∀ h k v, s.main_v88_10 (ix4 n h k v) = dS D (j - 1 - n.val) h k v

section
variable {D : Data} {j : ℕ} (hj : j < 64) {s : State Ideal} (H : At D j s)
include hj H

theorem b58_eq (h : Fin 8) (c : Fin 64) (v : Fin 128) : b58 j s (ix3 h c v) = Scan.dv D (dS D j) (chunk j) h c v := by
  have e := H.data
  rw [b58_at, Scan.dv, ← e, add_comm]
  congr 1
  · exact Finset.sum_congr rfl fun i _ => by rw [b41_at j hj, b18_at j hj, mul_comm]; rfl
  · exact Finset.sum_congr rfl fun k _ => by rw [b28_at j hj, H.grad, mul_comm, e]; subst e; rfl

theorem b65_eq (R : D.Real) (h : Fin 8) (k v : Fin 128) : b65 j s (ix3 h k v) = dS D (j + 1) h k v := by
  have e := H.data
  rw [b65_at, dS, back, sub_sum (g := fun c => -b58 j s (ix3 h c v) * b13 j s (ix3 h c k)) _
    (fun c => (R.w _ h c k).mul (dv_real R (dS_real R j) _ h c v)) (fun c => ?_)]
  · congr 2
    · rw [H.grad, b31_at j hj]; subst e; rfl
    · exact Finset.sum_congr rfl fun c _ => by rw [b41_at j hj, b23_at j hj, mul_comm]; subst e; rfl
  · rw [b58_eq hj H, b13_at j hj, EReal.neg_mul, mul_comm]; subst e; rfl

theorem At.next (R : D.Real) : At D (j + 1) (step j s) := by
  refine ⟨(data_step j s).trans H.data, fun h k v => ?_, fun n hn h k v => ?_⟩
  · rw [step_main_v88_9]; exact b65_eq hj H R h k v
  · rw [step_main_v88_10, b68_at]
    split_ifs with hc
    · rw [H.grad, show j + 1 - 1 - n.val = j by omega]
    · rw [H.seen ⟨n.val - 1, by omega⟩ (by simp only []; omega)]
      rw [show j - 1 - (n.val - 1) = j + 1 - 1 - n.val by omega]

end

/-- The loop from a state whose gradient is zero. -/
theorem loop (it : ℕ → State Ideal) (h0 : ∀ i, (it 0).main_v88_9 i = 0) (hs : ∀ n, it (n + 1) = step n (it n))
    (R : (data (it 0)).Real) : ∀ j ≤ 64, At (data (it 0)) j (it j)
  | 0, _ => ⟨rfl, fun _ _ _ => h0 _, fun n hn => absurd hn (by omega)⟩
  | j + 1, hj => by rw [hs]; exact (loop it h0 hs R j (by omega)).next (by omega) R

end Cert.RefScan
-- ==== Proof.RefHead.lean ====
module

public import proofs.«01_k».proof.Proof.Head
public import proofs.«01_k».proof.Proof.RefScan

/-! The reference's results, read at an index. -/

@[expose] public section

set_option maxRecDepth 16384

noncomputable section

namespace Cert.RefHead

open Idealize.ShloMosaic Cert.ReferenceIdeal Cert.ReferenceIdeal.Gen Cert.ReferenceIdeal.Step Cert.Sc

variable (s : State Ideal)
  (a0 : (⟨S64x8x64x128, .f32⟩ : BufTy).Contents (Elt Ideal)) (a1 : (⟨S64x8x64x128, .bf16⟩ : BufTy).Contents (Elt Ideal))
  (a2 : (⟨S64x8x64x64, .bf16⟩ : BufTy).Contents (Elt Ideal)) (a3 a4 : (⟨S64x8x64x128, .bf16⟩ : BufTy).Contents (Elt Ideal))
  (a5 : (⟨S64x8, .f32⟩ : BufTy).Contents (Elt Ideal)) (a6 : (⟨S64x8x128x128, .bf16⟩ : BufTy).Contents (Elt Ideal))
  (a7 : (⟨S4096x1024, .f32⟩ : BufTy).Contents (Elt Ideal)) (a8 : (⟨S1x128, .f32⟩ : BufTy).Contents (Elt Ideal))
  (a9 a10 : (⟨S4096x512, .f32⟩ : BufTy).Contents (Elt Ideal)) (a11 : (⟨S1024x1024, .bf16⟩ : BufTy).Contents (Elt Ideal))
  (a12 : (⟨S512x1024, .bf16⟩ : BufTy).Contents (Elt Ideal)) (a13 a14 : (⟨S4096x1024, .bf16⟩ : BufTy).Contents (Elt Ideal))

/-- The arguments by coordinates. -/
def args : Head.Args where
  u n h c v := a0 (ix4 n h c v)
  w n h c k := a1 (ix4 n h c k)
  aqk n h i c := a2 (ix4 n h i c)
  qd n h c k := a3 (ix4 n h c k)
  kd n h c k := a4 (ix4 n h c k)
  dl n h := a5 (ix2 n h)
  st n h k v := a6 (ix4 n h k v)
  z r j := a7 (ix2 r j)
  nw v := a8 (ix2 0 v)
  oj r j := a9 (ix2 r j)
  zb r j := a10 (ix2 r j)
  wo j k := a11 (ix2 j k)
  wod j k := a12 (ix2 j k)
  dya r k := a13 (ix2 r k)
  dyb r k := a14 (ix2 r k)

theorem colq (h : Fin 8) (v : Fin 128) : (h.val * 128 + v.val) / 128 = h.val := by omega

theorem colm (h : Fin 8) (v : Fin 128) : (h.val * 128 + v.val) % 128 = v.val := by omega

/-- A sum over a rank 3 array's first two axes. -/
theorem sum_rows {a b c : ℕ} (h : (⟨3, ![a, b, c]⟩ : Shape).ReducesTo [0, 1] ⟨1, ![c]⟩) (x : (⟨3, ![a, b, c]⟩ : Shape).Idx → EReal)
    (z : EReal) (v : Fin c) : Ideal.hostReduceAdd h x z (ix1 v) = z + ∑ r, ∑ i, x (ix3 r i v) := by
  have key : ∑ i ∈ Finset.univ.filter (fun i => h.drop i = ix1 v), x i = ∑ p : Fin a × Fin b, x (ix3 p.1 p.2 v) := by
    refine (Finset.sum_bij (fun p _ => ix3 p.1 p.2 v) (fun p _ => ?_) (fun p _ q _ e => ?_) (fun i hi => ?_) fun _ _ => rfl).symm
    · refine Finset.mem_filter.2 ⟨Finset.mem_univ _, funext fun k => Fin.ext ?_⟩
      match k with
      | ⟨0, _⟩ => rfl
    · exact Prod.ext (congrFun e 0) (congrFun e 1)
    · refine ⟨(i 0, i 1), Finset.mem_univ _, funext fun k => Fin.ext ?_⟩
      match k with
      | ⟨0, _⟩ => rfl
      | ⟨1, _⟩ => rfl
      | ⟨2, _⟩ => exact (congrArg Fin.val (congrFun (Finset.mem_filter.1 hi).2 0)).symm
  exact congrArg (z + ·) (key.trans (Fintype.sum_prod_type _))

theorem colq4 (h : Fin 4) (v : Fin 128) : (h.val * 128 + v.val) / 128 = h.val := by omega

variable {a0 a1 a2 a3 a4 a5 a6 a7 a8 a9 a10 a11 a12 a13 a14}

theorem v22_at (r : Fin 4096) (h : Fin 8) (v : Fin 128) :
    A_main_v23 a0 a1 a2 a3 a4 a6 a7 a8 a11 a13 (ix3 r h v) = (Head.head (args a0 a1 a2 a3 a4 a5 a6 a7 a8 a9 a10 a11 a12 a13 a14)).o r h v := by
  pointwise [A_main_v23, A_main_v22, A_main_v21, A_main_v15, A_main_v14, A_main_v13, A_main_v12, A_main_v11, A_main_v2, A_main_v3, A_main_v4, A_main_v5]
  rfl

theorem v30_at (r : Fin 4096) (h : Fin 8) (x : Fin 1) :
    A_main_v31 a0 a1 a2 a3 a4 a6 a7 a8 a11 a13 (ix3 r h x) = inv ((Head.head (args a0 a1 a2 a3 a4 a5 a6 a7 a8 a9 a10 a11 a12 a13 a14)).o r h) := by
  pointwise [A_main_v31, A_main_v30, A_main_v28, A_main_v26, A_main_v25, A_main_v24, K_main_v27, K_main_v29, K_main_cst_1, K_main_cst_2, K_main_cst_3]
  simp only [v22_at (a5 := a5) (a9 := a9) (a10 := a10) (a12 := a12) (a14 := a14)]
  rfl

theorem v29_at (r : Fin 4096) (h : Fin 8) (x : Fin 1) :
    A_main_v30 a0 a1 a2 a3 a4 a6 a7 a8 a11 a13 (ix3 r h x) = var ((Head.head (args a0 a1 a2 a3 a4 a5 a6 a7 a8 a9 a10 a11 a12 a13 a14)).o r h) := by
  pointwise [A_main_v30, A_main_v28, A_main_v26, A_main_v25, A_main_v24, K_main_v27, K_main_v29, K_main_cst_1, K_main_cst_2, K_main_cst_3]
  simp only [v22_at (a5 := a5) (a9 := a9) (a10 := a10) (a12 := a12) (a14 := a14)]
  rfl

theorem v40_at (r : Fin 4096) (h : Fin 8) (v : Fin 128) :
    A_main_v41 a0 a1 a2 a3 a4 a6 a7 a8 a11 a13 (ix3 r h v) = (Head.head (args a0 a1 a2 a3 a4 a5 a6 a7 a8 a9 a10 a11 a12 a13 a14)).z r h v := by
  pointwise [A_main_v41]
  rfl

theorem v41_2_at (r : Fin 4096) (h : Fin 8) (v : Fin 128) :
    A_main_v42_2 a0 a1 a2 a3 a4 a6 a7 a8 a11 a13 (ix3 r h v) = sg ((Head.head (args a0 a1 a2 a3 a4 a5 a6 a7 a8 a9 a10 a11 a12 a13 a14)).z r h v) := by
  pointwise [A_main_v42_2, A_main_call0_v3, A_main_call0_v1, A_main_call0_v0, K_main_call0_v4, K_main_call0_v2, K_main_call0_cst, K_main_call0_cst_0]
  simp only [v40_at (a5 := a5) (a9 := a9) (a10 := a10) (a12 := a12) (a14 := a14)]
  rfl

theorem v53_at (r : Fin 4096) (h : Fin 8) (v : Fin 128) :
    A_main_v54 a0 a1 a2 a3 a4 a6 a7 a8 a11 a13 (ix3 r h v) = (Head.head (args a0 a1 a2 a3 a4 a5 a6 a7 a8 a9 a10 a11 a12 a13 a14)).d r h v := by
  pointwise [A_main_v54, A_main_v53, A_main_v7, A_main_v9]
  rfl

theorem v55_at (r : Fin 4096) (h : Fin 8) (v : Fin 128) :
    A_main_v56 a0 a1 a2 a3 a4 a6 a7 a8 a11 a13 (ix3 r h v)
      = (Head.head (args a0 a1 a2 a3 a4 a5 a6 a7 a8 a9 a10 a11 a12 a13 a14)).d r h v * ((Head.head (args a0 a1 a2 a3 a4 a5 a6 a7 a8 a9 a10 a11 a12 a13 a14)).z r h v * sg ((Head.head (args a0 a1 a2 a3 a4 a5 a6 a7 a8 a9 a10 a11 a12 a13 a14)).z r h v)) := by
  rw [← v53_at, ← v41_2_at, ← v40_at]
  pointwise [A_main_v56, A_main_v42_0]

theorem v61_at (r : Fin 4096) (h : Fin 8) (v : Fin 128) :
    A_main_v62 a0 a1 a2 a3 a4 a6 a7 a8 a11 a13 (ix3 r h v) = (Head.head (args a0 a1 a2 a3 a4 a5 a6 a7 a8 a9 a10 a11 a12 a13 a14)).nw v := by
  pointwise [A_main_v62, A_main_v38, A_main_v37]
  rfl

theorem v62_at (r : Fin 4096) (h : Fin 8) (v : Fin 128) :
    A_main_v63 a0 a1 a2 a3 a4 a6 a7 a8 a11 a13 (ix3 r h v)
      = (Head.head (args a0 a1 a2 a3 a4 a5 a6 a7 a8 a9 a10 a11 a12 a13 a14)).d r h v * ((Head.head (args a0 a1 a2 a3 a4 a5 a6 a7 a8 a9 a10 a11 a12 a13 a14)).z r h v * sg ((Head.head (args a0 a1 a2 a3 a4 a5 a6 a7 a8 a9 a10 a11 a12 a13 a14)).z r h v)) * (Head.head (args a0 a1 a2 a3 a4 a5 a6 a7 a8 a9 a10 a11 a12 a13 a14)).nw v := by
  rw [← v55_at, ← v61_at (r := r) (h := h)]
  pointwise [A_main_v63]

theorem v68_at (r : Fin 4096) (h : Fin 8) (v : Fin 128) :
    A_main_v69 a0 a1 a2 a3 a4 a6 a7 a8 a11 a13 (ix3 r h v) = inv ((Head.head (args a0 a1 a2 a3 a4 a5 a6 a7 a8 a9 a10 a11 a12 a13 a14)).o r h) := by
  pointwise [A_main_v69]
  exact v30_at ..

theorem v74_at (r : Fin 4096) (h : Fin 8) (v : Fin 128) :
    A_main_v75 a0 a1 a2 a3 a4 a6 a7 a8 a11 a13 (ix3 r h v)
      = Ideal.div ((∑ j, (Head.head (args a0 a1 a2 a3 a4 a5 a6 a7 a8 a9 a10 a11 a12 a13 a14)).o r h j * A_main_v63 a0 a1 a2 a3 a4 a6 a7 a8 a11 a13 (ix3 r h j))
          * (Ideal.ofBits .f32 0xBF000000#32 * Ideal.div (inv ((Head.head (args a0 a1 a2 a3 a4 a5 a6 a7 a8 a9 a10 a11 a12 a13 a14)).o r h)) (var ((Head.head (args a0 a1 a2 a3 a4 a5 a6 a7 a8 a9 a10 a11 a12 a13 a14)).o r h))))
        (Ideal.ofBits .f32 0x43000000#32) := by
  rw [← v29_at (x := 0), ← v30_at (x := 0)]
  simp only [← v22_at]
  pointwise [A_main_v75, A_main_v74, A_main_v73, A_main_v71, A_main_v68, A_main_v67, A_main_v66, A_main_v34, A_main_v32, K_main_v33, K_main_v72, K_main_cst_4, K_main_cst_7, K_main_cst_8, K_main_cst_9]
  simp only [Finset.univ_unique, Finset.sum_singleton, zero_add]
  rfl

theorem v78_at (R : (args a0 a1 a2 a3 a4 a5 a6 a7 a8 a9 a10 a11 a12 a13 a14).Real) (r : Fin 4096) (h : Fin 8) (v : Fin 128) :
    A_main_v79 a0 a1 a2 a3 a4 a6 a7 a8 a11 a13 (ix3 r h v) = Head.dO (Head.head (args a0 a1 a2 a3 a4 a5 a6 a7 a8 a9 a10 a11 a12 a13 a14)) r h v := by
  rw [← Head.dO_eq (Head.head_real R) r h v (fun j => A_main_v63 a0 a1 a2 a3 a4 a6 a7 a8 a11 a13 (ix3 r h j)) fun j => v62_at ..,
    ← v74_at (v := v), ← v22_at, ← v68_at (v := v)]
  pointwise [A_main_v79, A_main_v78, A_main_v77, A_main_v76, A_main_v70]

theorem v170_at (R : (args a0 a1 a2 a3 a4 a5 a6 a7 a8 a9 a10 a11 a12 a13 a14).Real) (r : Fin 4096) (h : Fin 8) (v : Fin 128) :
    R_main_v167 s a0 a1 a2 a3 a6 a7 a8 a11 a13 (ix2 r (Head.col h v)) = Head.dO (Head.head (args a0 a1 a2 a3 a4 a5 a6 a7 a8 a9 a10 a11 a12 a13 a14)) r h v := by
  have e : R_main_v167 s a0 a1 a2 a3 a6 a7 a8 a11 a13 = A_main_v80 a0 a1 a2 a3 a4 a6 a7 a8 a11 a13 := rfl
  rw [e, ← v78_at R]
  pointwise [A_main_v80]
  simp only [colq, colm, Fin.eta]

theorem v205_at (R : (args a0 a1 a2 a3 a4 a5 a6 a7 a8 a9 a10 a11 a12 a13 a14).Real) (r : Fin 4096) (h : Fin 8) (v : Fin 128) :
    R_main_v202 s a0 a1 a2 a3 a6 a7 a8 a11 a13 (ix2 r (Head.col h v)) = Head.dz (Head.head (args a0 a1 a2 a3 a4 a5 a6 a7 a8 a9 a10 a11 a12 a13 a14)) r h v := by
  have e : R_main_v202 s a0 a1 a2 a3 a6 a7 a8 a11 a13 = truncf .bf16 (shapeCast _
      (addf (mulf (mulf (mulf (mulf (A_main_v23 a0 a1 a2 a3 a4 a6 a7 a8 a11 a13) (A_main_v69 a0 a1 a2 a3 a4 a6 a7 a8 a11 a13)) (A_main_v62 a0 a1 a2 a3 a4 a6 a7 a8 a11 a13)) (A_main_v54 a0 a1 a2 a3 a4 a6 a7 a8 a11 a13)) (A_main_v42_2 a0 a1 a2 a3 a4 a6 a7 a8 a11 a13))
        (mulf (mulf (A_main_v41 a0 a1 a2 a3 a4 a6 a7 a8 a11 a13) (mulf (mulf (mulf (A_main_v23 a0 a1 a2 a3 a4 a6 a7 a8 a11 a13) (A_main_v69 a0 a1 a2 a3 a4 a6 a7 a8 a11 a13)) (A_main_v62 a0 a1 a2 a3 a4 a6 a7 a8 a11 a13)) (A_main_v54 a0 a1 a2 a3 a4 a6 a7 a8 a11 a13)))
          (mulf (A_main_v42_2 a0 a1 a2 a3 a4 a6 a7 a8 a11 a13) (subf (K_main_call0_v6 (F := Ideal)) (A_main_v42_2 a0 a1 a2 a3 a4 a6 a7 a8 a11 a13)))))
      shapeCasts_S4096x8x128_S4096x1024) bitsLt_bf16_f32 := rfl
  have H := Head.head_real R
  rw [e, Head.dz, gate (((H.d r h v).mul ((H.o r h v).mul (IsR.inv (H.o r h)))).mul (H.nw v)) (H.z r h v) (H.z r h v).sg,
    mul_assoc ((Head.head (args a0 a1 a2 a3 a4 a5 a6 a7 a8 a9 a10 a11 a12 a13 a14)).d r h v), mul_comm ((Head.head (args a0 a1 a2 a3 a4 a5 a6 a7 a8 a9 a10 a11 a12 a13 a14)).d r h v),
    ← v41_2_at, ← v40_at, ← v53_at, ← v61_at (r := r) (h := h), ← v22_at, ← v68_at (v := v)]
  pointwise [K_main_call0_v6, K_main_call0_cst_1]
  simp only [colq, colm, Fin.eta]

theorem v207_at (i : Fin 8) (v : Fin 128) :
    R_main_v204 s a0 a1 a2 a3 a6 a7 a11 a13 (ix2 i v) = if i.val < 1 then Head.dnw (Head.head (args a0 a1 a2 a3 a4 a5 a6 a7 a8 a9 a10 a11 a12 a13 a14)) v else 0 := by
  have e : R_main_v204 s a0 a1 a2 a3 a6 a7 a11 a13 = concatenate S8x128 0
      [⟨S1x128, broadcastInDim S1x128 ![1] bcast_S128_S1x128_1 (Host.reduceAdd (shapeCast _ (Host.reduceAdd
          (mulf (mulf (A_main_v23 a0 a1 a2 a3 a4 a6 a7 a8 a11 a13) (A_main_v69 a0 a1 a2 a3 a4 a6 a7 a8 a11 a13)) (A_main_v56 a0 a1 a2 a3 a4 a6 a7 a8 a11 a13)) (K_main_cst_9 (F := Ideal)) reducesTo_S4096x8x128_S128_d0_1 h_S_)
          shapeCasts_S128_S1x1x128) (K_main_cst_9 (F := Ideal)) reducesTo_S1x1x128_S128_d0_1 h_S_)⟩,
       ⟨S7x128, broadcastInDim S7x128 ![] bcast_S_S7x128 (K_main_cst_9 (F := Ideal))⟩] concatenates_S1x128_S7x128_S8x128_d0 := rfl
  rw [e]
  simp only [Head.dnw, Head.wt]
  simp only [mul_comm ((Head.head (args a0 a1 a2 a3 a4 a5 a6 a7 a8 a9 a10 a11 a12 a13 a14)).d _ _ _), mul_assoc ((Head.head (args a0 a1 a2 a3 a4 a5 a6 a7 a8 a9 a10 a11 a12 a13 a14)).d _ _ _)]
  simp only [← v68_at (a5 := a5) (a9 := a9) (a10 := a10) (a12 := a12) (a14 := a14) _ _ v, ← v22_at, ← v53_at]
  pointwise [K_main_cst_9]
  split_ifs with hi
  · rw [sum_rows]
    pointwise []
    rw [sum_rows]
    simp only [Finset.univ_unique, Finset.sum_singleton, zero_add]
    pointwise []
    refine Finset.sum_congr rfl fun r _ => Finset.sum_congr rfl fun h _ => ?_
    rw [v55_at (a5 := a5) (a9 := a9) (a10 := a10) (a12 := a12) (a14 := a14), ← v53_at]
    exact (mul_assoc _ _ _).symm
  · rfl

theorem v141_at (r : Fin 4096) (j : Fin 512) :
    R_main_v138 s a10 a12 a14 (ix2 r j) = Head.dob (Head.att (args a0 a1 a2 a3 a4 a5 a6 a7 a8 a9 a10 a11 a12 a13 a14)) r j := by
  pointwise [R_main_v138]
  rfl

theorem v208_at (R : (args a0 a1 a2 a3 a4 a5 a6 a7 a8 a9 a10 a11 a12 a13 a14).Real) (r : Fin 4096) (j : Fin 512) :
    R_main_v205 s a9 a10 a12 a14 (ix2 r j) = Head.dzb (Head.att (args a0 a1 a2 a3 a4 a5 a6 a7 a8 a9 a10 a11 a12 a13 a14)) r j := by
  refine Eq.trans ?_ (gate ((Head.att_real R r j).mul (R.oj r j)) (R.zb r j) (R.zb r j).sg).symm
  rw [mul_comm ((Head.att (args a0 a1 a2 a3 a4 a5 a6 a7 a8 a9 a10 a11 a12 a13 a14)).d r j)]
  pointwise [R_main_v205]
  rfl

theorem v211_at (r : Fin 4096) (h : Fin 4) (v : Fin 128) :
    R_main_v208 s a9 a10 a12 a14 (ix2 r ⟨h.val * 128 + v.val, by omega⟩) = Head.delta (Head.att (args a0 a1 a2 a3 a4 a5 a6 a7 a8 a9 a10 a11 a12 a13 a14)) r h := by
  pointwise [R_main_v208]
  rfl

theorem after_at {s : State Ideal} {D : Scan.Data} (H : RefScan.At D 64 s) (n : Fin 64) (h : Fin 8) (k v : Fin 128) :
    s.main_v88_10 (ix4 n h k v) = Scan.dS D (63 - n.val) h k v := H.seen n n.2 h k v

theorem v81_at (R : (args a0 a1 a2 a3 a4 a5 a6 a7 a8 a9 a10 a11 a12 a13 a14).Real) (n : Fin 64) (h : Fin 8) (c : Fin 64) (v : Fin 128) :
    A_main_v82 a0 a1 a2 a3 a4 a6 a7 a8 a11 a13 (ix4 n h c v) = (Head.scan (args a0 a1 a2 a3 a4 a5 a6 a7 a8 a9 a10 a11 a12 a13 a14)).dO n h c v := by
  refine Eq.trans ?_ (v78_at R (Head.row n c) h v)
  pointwise [A_main_v82, A_main_v81, A_main_v80]

theorem v202_at (n : Fin 64) (h : Fin 8) (c : Fin 64) (v : Fin 128) :
    R_main_v199 s a0 a1 a2 a3 a4 a6 a7 a8 a11 a13 (ix4 n h c v)
      = ∑ i, a2 (ix4 n h i c) * A_main_v82 a0 a1 a2 a3 a4 a6 a7 a8 a11 a13 (ix4 n h i v) + ∑ k, a4 (ix4 n h c k) * s.main_v88_10 (ix4 n h k v) := by
  have e : R_main_v199 s a0 a1 a2 a3 a4 a6 a7 a8 a11 a13 = truncf .bf16 (addf
      (transpose S64x8x64x128 [0, 1, 3, 2] (Host.dotGeneral dot_S64x8x128x128_S64x8x64x128_S64x8x128x64_2_3_3_2_01_01 none
        s.main_v88_10 (extf .f32 a4 bitsLt_bf16_f32)) transposes_S64x8x128x64_S64x8x64x128_0_1_3_2)
      (transpose S64x8x64x128 [0, 1, 3, 2] (Host.dotGeneral dot_S64x8x64x128_S64x8x64x64_S64x8x128x64_2_2_3_3_01_01 none
        (A_main_v82 a0 a1 a2 a3 a4 a6 a7 a8 a11 a13) (extf .f32 a2 bitsLt_bf16_f32)) transposes_S64x8x128x64_S64x8x64x128_0_1_3_2)) bitsLt_bf16_f32 := rfl
  rw [e]
  pointwise []
  rw [add_comm]
  congr 1 <;> exact Finset.sum_congr rfl fun _ _ => mul_comm _ _

theorem v191_at (n : Fin 64) (h : Fin 8) (c : Fin 64) (k : Fin 128) :
    R_main_v188 s a0 a1 a6 (ix4 n h c k)
      = ∑ v, (a0 (ix4 n h c v) - ∑ x, a1 (ix4 n h c x) * a6 (ix4 n h x v)) * s.main_v88_10 (ix4 n h k v) := by
  have e : R_main_v188 s a0 a1 a6 = transpose S64x8x64x128 [0, 1, 3, 2] (Host.dotGeneral (φ₁ := .f32) dot_S64x8x128x128_S64x8x64x128_S64x8x128x64_3_3_2_2_01_01 none
    (s.main_v88_10 : (⟨S64x8x128x128, .f32⟩ : BufTy).Contents (Elt Ideal)) (subf a0 (Host.dotGeneral (φ₁ := .f32) dot_S64x8x64x128_S64x8x128x128_S64x8x64x128_3_2_2_3_01_01 none (extf (F := Ideal) .f32 a1 bitsLt_bf16_f32)
      (extf (F := Ideal) .f32 a6 bitsLt_bf16_f32)))) transposes_S64x8x128x64_S64x8x64x128_0_1_3_2 := by rfl
  rw [e]
  pointwise []
  exact Finset.sum_congr rfl fun _ _ => mul_comm _ _

theorem v204_at (n : Fin 64) (h : Fin 8) (x : Fin 8) (y : Fin 128) :
    R_main_v201 s a6 (ix4 n h x y) = ∑ k, ∑ v, a6 (ix4 n h k v) * s.main_v88_10 (ix4 n h k v) := by
  have e : R_main_v201 s a6 = broadcastInDim S64x8x8x128 ![0, 1, 2, 3] bcast_S64x8x1x1_S64x8x8x128_0_1_2_3 (broadcastInDim S64x8x1x1 ![0, 1] bcast_S64x8_S64x8x1x1_0_1
    (Host.reduceAdd (shapeCast _ (Host.reduceAdd (mulf (extf (F := Ideal) .f32 a6 bitsLt_bf16_f32) s.main_v88_10) (constant S_ .f32 0x00000000#32) reducesTo_S64x8x128x128_S64x8_d2_3 h_S_)
      shapeCasts_S64x8_S64x8x1x1) (constant S_ .f32 0x00000000#32) reducesTo_S64x8x1x1_S64x8_d2_3 h_S_)) := by rfl
  rw [e]
  pointwise []
  simp only [Finset.univ_unique, Finset.sum_singleton]

end Cert.RefHead
-- ==== Proof.KHead.lean ====
module

public import proofs.«01_k».proof.Proof.Head
public import proofs.«01_k».proof.Proof.Gen.KernelIdeal.Skeleton
public import Idealize.ShloMosaic.Lib.Pointwise

/-! The kernel's two heads: what each store of a block of 256 rows is worth at an index. -/

@[expose] public section

set_option maxRecDepth 16384

noncomputable section

namespace Cert.KHead

open Idealize.ShloMosaic Cert.KernelIdeal Cert.KernelIdeal.Gen Cert.Sc

/-- One row and head of the gradient of the recurrence's output. -/
def dOl (o z d nw : Fin 128 → EReal) (v : Fin 128) : EReal :=
  inv o * ((d v * nw v) * (z v * sg (z v)))
    - (o v * ((inv o * inv o) * inv o)) * Ideal.div (∑ j, ((d j * nw j) * (z j * sg (z j))) * o j) (Ideal.ofBits .f32 0x43000000#32)

/-- One row and head of the gradient of the gate's argument. -/
def dzl (o z d nw : Fin 128 → EReal) (v : Fin 128) : EReal :=
  ((d v * (o v * inv o)) * nw v) * (sg (z v) * (1 + z v * (1 - sg (z v))))

/-- One row and head's part of the gradient of the norm's weight. -/
def wtl (o z d : Fin 128 → EReal) (v : Fin 128) : EReal :=
  (d v * (o v * inv o)) * (z v * sg (z v))

theorem sg_eq (z : EReal) : Ideal.div 1 (1 + Ideal.exp (0 - z)) = sg z := by rw [zero_sub, sg]

variable (X8 X9 D : FVec Ideal S256x128 .f32) (N A : FVec Ideal S1x128 .f32)

theorem do0 (r : Fin 256) (v : Fin 128) :
    (k0_pay24 (F := Ideal) (k0_pay17 X8) (k0_pay19 D X9 N) X8) (ix2 r v)
      = dOl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem do1 (r : Fin 256) (v : Fin 128) :
    (k0_pay37 (F := Ideal) (k0_pay31 D (k0_pay27 X9) N) (k0_pay34 X8) (k0_pay35 D (k0_pay27 X9) (k0_pay28 X8) N) (k0_pay36 (k0_pay28 X8) X8)) (ix2 r v)
      = dOl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem do2 (r : Fin 256) (v : Fin 128) :
    (k0_pay47 (F := Ideal) (k0_pay41 X8) (k0_pay43 D X9 N) X8) (ix2 r v)
      = dOl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem do3 (r : Fin 256) (v : Fin 128) :
    (k0_pay59 (F := Ideal) (k0_pay51 (k0_pay48 X8)) (k0_pay53 D X9 N) X8) (ix2 r v)
      = dOl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem do4 (r : Fin 256) (v : Fin 128) :
    (k0_pay73 (F := Ideal) (k0_pay70 D (k0_pay62 X9) (k0_pay63 X8) N) (k0_pay71 (k0_pay63 X8) X8) (k0_pay72 D (k0_pay62 X9) N X8)) (ix2 r v)
      = dOl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem do5 (r : Fin 256) (v : Fin 128) :
    (k0_pay82 (F := Ideal) (k0_pay77 X8) (k0_pay79 D X9 N) X8) (ix2 r v)
      = dOl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem do6 (r : Fin 256) (v : Fin 128) :
    (k0_pay92 (F := Ideal) (k0_pay86 (k0_pay83 X8)) (k0_pay88 D X9 N) X8) (ix2 r v)
      = dOl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem do7 (r : Fin 256) (v : Fin 128) :
    (k0_pay107 (F := Ideal) (k0_pay103 D (k0_pay95 X9) (k0_pay96 X8) N) (k0_pay104 (k0_pay96 X8) X8) (k0_pay105 D (k0_pay95 X9) N X8) k0_pay106) (ix2 r v)
      = dOl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem dz0 (r : Fin 256) (v : Fin 128) :
    (k0_pay23 (F := Ideal) (k0_pay15 X9) X9 (k0_pay21 X8 D N) (k0_pay22 X9)) (ix2 r v)
      = dzl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem dz1 (r : Fin 256) (v : Fin 128) :
    (k0_pay33 (F := Ideal) (k0_pay25 X8) (k0_pay26 X9) (k0_pay28 X8) D X9 N) (ix2 r v)
      = dzl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem dz2 (r : Fin 256) (v : Fin 128) :
    (k0_pay46 (F := Ideal) (k0_pay39 X9) (k0_pay42 X8) D X9 N) (ix2 r v)
      = dzl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem dz3 (r : Fin 256) (v : Fin 128) :
    (k0_pay58 (F := Ideal) (k0_pay49 X9) (k0_pay55 (k0_pay48 X8) D N) (k0_pay56 X9 X9) k0_pay57) (ix2 r v)
      = dzl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem dz4 (r : Fin 256) (v : Fin 128) :
    (k0_pay68 (F := Ideal) (k0_pay60 X8) (k0_pay61 X9) (k0_pay63 X8) D X9 N) (ix2 r v)
      = dzl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem dz5 (r : Fin 256) (v : Fin 128) :
    (k0_pay81 (F := Ideal) (k0_pay75 X9) (k0_pay78 X8) D X9 N) (ix2 r v)
      = dzl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem dz6 (r : Fin 256) (v : Fin 128) :
    (k0_pay91 (F := Ideal) (k0_pay90 (k0_pay83 X8) X9 D X9 N)) (ix2 r v)
      = dzl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem dz7 (r : Fin 256) (v : Fin 128) :
    (k0_pay101 (F := Ideal) (k0_pay93 X8) (k0_pay94 X9) (k0_pay96 X8) D X9 N) (ix2 r v)
      = dzl (fun j => X8 (ix2 r j)) (fun j => X9 (ix2 r j)) (fun j => D (ix2 r j)) (fun j => N (ix2 0 j)) v := by
  unfold_payloads
  pointwise
  simp only [Finset.univ_unique, Finset.sum_singleton, sg_eq]
  rfl

theorem acc0 (x : Fin 1) (v : Fin 128) :
    (k0_pay20 (F := Ideal) A X8 X9 D) (ix2 x v)
      = A (ix2 x v) + ∑ r, wtl (fun j => X8 (ix2 r j)) (fun j => X9 (ix2 r j)) (fun j => D (ix2 r j)) v := by
  unfold_payloads
  pointwise
  simp only [Finset.univ_unique, Finset.sum_singleton, sg_eq]
  rfl

theorem acc1 (x : Fin 1) (v : Fin 128) :
    (k0_pay32 (F := Ideal) A (k0_pay25 X8) (k0_pay27 X9) (k0_pay28 X8) D) (ix2 x v)
      = A (ix2 x v) + ∑ r, wtl (fun j => X8 (ix2 r j)) (fun j => X9 (ix2 r j)) (fun j => D (ix2 r j)) v := by
  unfold_payloads
  pointwise
  simp only [Finset.univ_unique, Finset.sum_singleton, sg_eq]
  rfl

theorem acc2 (x : Fin 1) (v : Fin 128) :
    (k0_pay45 (F := Ideal) A (k0_pay44 X8 X9 D)) (ix2 x v)
      = A (ix2 x v) + ∑ r, wtl (fun j => X8 (ix2 r j)) (fun j => X9 (ix2 r j)) (fun j => D (ix2 r j)) v := by
  unfold_payloads
  pointwise
  simp only [Finset.univ_unique, Finset.sum_singleton, sg_eq]
  rfl

theorem acc3 (x : Fin 1) (v : Fin 128) :
    (k0_pay54 (F := Ideal) A (k0_pay48 X8) X9 D) (ix2 x v)
      = A (ix2 x v) + ∑ r, wtl (fun j => X8 (ix2 r j)) (fun j => X9 (ix2 r j)) (fun j => D (ix2 r j)) v := by
  unfold_payloads
  pointwise
  simp only [Finset.univ_unique, Finset.sum_singleton, sg_eq]
  rfl

theorem acc4 (x : Fin 1) (v : Fin 128) :
    (k0_pay67 (F := Ideal) A (k0_pay60 X8) (k0_pay62 X9) (k0_pay63 X8) D) (ix2 x v)
      = A (ix2 x v) + ∑ r, wtl (fun j => X8 (ix2 r j)) (fun j => X9 (ix2 r j)) (fun j => D (ix2 r j)) v := by
  unfold_payloads
  pointwise
  simp only [Finset.univ_unique, Finset.sum_singleton, sg_eq]
  rfl

theorem acc5 (x : Fin 1) (v : Fin 128) :
    (k0_pay80 (F := Ideal) A X8 X9 D) (ix2 x v)
      = A (ix2 x v) + ∑ r, wtl (fun j => X8 (ix2 r j)) (fun j => X9 (ix2 r j)) (fun j => D (ix2 r j)) v := by
  unfold_payloads
  pointwise
  simp only [Finset.univ_unique, Finset.sum_singleton, sg_eq]
  rfl

theorem acc6 (x : Fin 1) (v : Fin 128) :
    (k0_pay89 (F := Ideal) A (k0_pay83 X8) X9 D) (ix2 x v)
      = A (ix2 x v) + ∑ r, wtl (fun j => X8 (ix2 r j)) (fun j => X9 (ix2 r j)) (fun j => D (ix2 r j)) v := by
  unfold_payloads
  pointwise
  simp only [Finset.univ_unique, Finset.sum_singleton, sg_eq]
  rfl

theorem acc7 (x : Fin 1) (v : Fin 128) :
    (k0_pay100 (F := Ideal) A (k0_pay93 X8) (k0_pay95 X9) (k0_pay96 X8) D) (ix2 x v)
      = A (ix2 x v) + ∑ r, wtl (fun j => X8 (ix2 r j)) (fun j => X9 (ix2 r j)) (fun j => D (ix2 r j)) v := by
  unfold_payloads
  pointwise
  simp only [Finset.univ_unique, Finset.sum_singleton, sg_eq]
  rfl

end Cert.KHead
-- ==== Proof.KScan.lean ====
module

public import proofs.«01_k».proof.Proof.Head
public import proofs.«01_k».proof.Proof.Gen.KernelIdeal.Skeleton
public import Idealize.ShloMosaic.Lib.Pointwise

/-! One chunk of the kernel's scan: what each of its stores is worth at an index. -/

@[expose] public section

set_option maxRecDepth 16384

noncomputable section

namespace Cert.KScan

open Idealize.ShloMosaic Cert.KernelIdeal Cert.KernelIdeal.Gen Cert.Sc

/-- The gradient of a chunk's new values from the state's after it. -/
def dvl (O : Fin 8 → Fin 64 → Fin 128 → EReal) (A : FVec Ideal S1x8x64x64 .bf16) (K : FVec Ideal S1x8x64x128 .bf16)
    (S : FVec Ideal S8x128x128 .f32) (h : Fin 8) (c : Fin 64) (v : Fin 128) : EReal :=
  ∑ i, A (ix4 0 h i c) * O h i v + ∑ k, K (ix4 0 h c k) * S (ix3 h k v)

/-- The state's gradient before a chunk from that after it. -/
def bkl (O : Fin 8 → Fin 64 → Fin 128 → EReal) (L : FVec Ideal S1x8x8x128 .f32) (Q W : FVec Ideal S1x8x64x128 .bf16)
    (B : FVec Ideal S8x64x128 .f32) (S : FVec Ideal S8x128x128 .f32) (h : Fin 8) (k v : Fin 128) : EReal :=
  (S (ix3 h k v) * L (ix4 0 h 0 v) + ∑ c, Q (ix4 0 h c k) * O h c v) - ∑ c, W (ix4 0 h c k) * B (ix3 h c v)

/-- Eight heads' rows, one over the other. -/
def stk (O0 O1 O2 O3 O4 O5 O6 O7 : FVec Ideal S64x128 .f32) (h : Fin 8) (c : Fin 64) (v : Fin 128) : EReal :=
  (![O0, O1, O2, O3, O4, O5, O6, O7] h) (ix2 c v)

variable (S : FVec Ideal S8x128x128 .f32) (A : FVec Ideal S1x8x64x64 .bf16) (K Q W V : FVec Ideal S1x8x64x128 .bf16)
  (T : FVec Ideal S1x8x128x128 .bf16) (L : FVec Ideal S1x8x8x128 .f32) (B : FVec Ideal S8x64x128 .f32)
  (O0 O1 O2 O3 O4 O5 O6 O7 : FVec Ideal S64x128 .f32)

theorem stk3 (h : Fin 8) (c : Fin 64) (v : Fin 128) :
    (k0_pay118 (F := Ideal) (k0_pay111 O0) (k0_pay112 O1) (k0_pay113 O2) (k0_pay114 O3) (k0_pay115 O4) (k0_pay116 O5) (k0_pay117 O6) O7) (ix3 h c v) = stk O0 O1 O2 O3 O4 O5 O6 O7 h c v := by
  unfold_payloads
  pointwise
  fin_cases h <;> rfl

theorem dv3 (h : Fin 8) (c : Fin 64) (v : Fin 128) :
    (k0_pay119 (F := Ideal) (k0_pay110 S) (k0_pay111 O0) (k0_pay112 O1) (k0_pay113 O2) (k0_pay114 O3) (k0_pay115 O4) (k0_pay116 O5) (k0_pay117 O6) O7 A K) (ix3 h c v) = dvl (stk O0 O1 O2 O3 O4 O5 O6 O7) A K S h c v := by
  unfold k0_pay119 k0_pay110
  pointwise
  simp only [Finset.univ_unique, Finset.sum_singleton, zero_add, stk3]
  rfl

theorem dvs3 (x : Fin 1) (h : Fin 8) (c : Fin 64) (v : Fin 128) :
    (k0_pay124 (F := Ideal) B) (ix4 x h c v) = B (ix3 h c v) := by
  unfold_payloads
  pointwise

theorem dk3 (x : Fin 1) (h : Fin 8) (c : Fin 64) (k : Fin 128) :
    (k0_pay120 (F := Ideal) (k0_pay110 S) V) (ix4 x h c k) = ∑ v, V (ix4 0 h c v) * S (ix3 h k v) := by
  unfold_payloads
  pointwise

theorem dd3 (x : Fin 1) (h : Fin 8) (i : Fin 8) (j : Fin 128) :
    (k0_pay122 (F := Ideal) (k0_pay121 S T)) (ix4 x h i j) = ∑ k, ∑ v, T (ix4 0 h k v) * S (ix3 h k v) := by
  unfold_payloads
  pointwise

theorem bk3 (h : Fin 8) (k v : Fin 128) :
    (k0_pay123 (F := Ideal) S (k0_pay118 (k0_pay111 O0) (k0_pay112 O1) (k0_pay113 O2) (k0_pay114 O3) (k0_pay115 O4) (k0_pay116 O5) (k0_pay117 O6) O7) B L Q W) (ix3 h k v) = bkl (stk O0 O1 O2 O3 O4 O5 O6 O7) L Q W B S h k v := by
  unfold k0_pay123
  pointwise
  simp only [Finset.univ_unique, Finset.sum_singleton, zero_add, stk3]
  rfl

theorem stk2 (h : Fin 8) (c : Fin 64) (v : Fin 128) :
    (k0_pay126 (F := Ideal) O0 O1 O2 O3 O4 O5 O6 O7) (ix3 h c v) = stk O0 O1 O2 O3 O4 O5 O6 O7 h c v := by
  unfold_payloads
  pointwise
  fin_cases h <;> rfl

theorem dv2 (h : Fin 8) (c : Fin 64) (v : Fin 128) :
    (k0_pay127 (F := Ideal) (k0_pay125 S) O0 O1 O2 O3 O4 O5 O6 O7 A K) (ix3 h c v) = dvl (stk O0 O1 O2 O3 O4 O5 O6 O7) A K S h c v := by
  unfold k0_pay127 k0_pay125
  pointwise
  simp only [Finset.univ_unique, Finset.sum_singleton, zero_add, stk2]
  rfl

theorem dvs2 (x : Fin 1) (h : Fin 8) (c : Fin 64) (v : Fin 128) :
    (k0_pay132 (F := Ideal) B) (ix4 x h c v) = B (ix3 h c v) := by
  unfold_payloads
  pointwise

theorem dk2 (x : Fin 1) (h : Fin 8) (c : Fin 64) (k : Fin 128) :
    (k0_pay128 (F := Ideal) (k0_pay125 S) V) (ix4 x h c k) = ∑ v, V (ix4 0 h c v) * S (ix3 h k v) := by
  unfold_payloads
  pointwise

theorem dd2 (x : Fin 1) (h : Fin 8) (i : Fin 8) (j : Fin 128) :
    (k0_pay129 (F := Ideal) S T) (ix4 x h i j) = ∑ k, ∑ v, T (ix4 0 h k v) * S (ix3 h k v) := by
  unfold_payloads
  pointwise

theorem bk2 (h : Fin 8) (k v : Fin 128) :
    (k0_pay131 (F := Ideal) B (k0_pay130 S (k0_pay126 O0 O1 O2 O3 O4 O5 O6 O7) L Q) W) (ix3 h k v) = bkl (stk O0 O1 O2 O3 O4 O5 O6 O7) L Q W B S h k v := by
  unfold k0_pay131 k0_pay130
  pointwise
  simp only [Finset.univ_unique, Finset.sum_singleton, zero_add, stk2]
  rfl

theorem stk1 (h : Fin 8) (c : Fin 64) (v : Fin 128) :
    (k0_pay141 (F := Ideal) (k0_pay134 O0) (k0_pay135 O1) (k0_pay136 O2) (k0_pay137 O3) (k0_pay138 O4) (k0_pay139 O5) (k0_pay140 O6) O7) (ix3 h c v) = stk O0 O1 O2 O3 O4 O5 O6 O7 h c v := by
  unfold_payloads
  pointwise
  fin_cases h <;> rfl

theorem dv1 (h : Fin 8) (c : Fin 64) (v : Fin 128) :
    (k0_pay142 (F := Ideal) (k0_pay133 S) (k0_pay134 O0) (k0_pay135 O1) (k0_pay136 O2) (k0_pay137 O3) (k0_pay138 O4) (k0_pay139 O5) (k0_pay140 O6) O7 A K) (ix3 h c v) = dvl (stk O0 O1 O2 O3 O4 O5 O6 O7) A K S h c v := by
  unfold k0_pay142 k0_pay133
  pointwise
  simp only [Finset.univ_unique, Finset.sum_singleton, zero_add, stk1]
  rfl

theorem dvs1 (x : Fin 1) (h : Fin 8) (c : Fin 64) (v : Fin 128) :
    (k0_pay147 (F := Ideal) B) (ix4 x h c v) = B (ix3 h c v) := by
  unfold_payloads
  pointwise

theorem dk1 (x : Fin 1) (h : Fin 8) (c : Fin 64) (k : Fin 128) :
    (k0_pay143 (F := Ideal) (k0_pay133 S) V) (ix4 x h c k) = ∑ v, V (ix4 0 h c v) * S (ix3 h k v) := by
  unfold_payloads
  pointwise

theorem dd1 (x : Fin 1) (h : Fin 8) (i : Fin 8) (j : Fin 128) :
    (k0_pay145 (F := Ideal) (k0_pay144 S T)) (ix4 x h i j) = ∑ k, ∑ v, T (ix4 0 h k v) * S (ix3 h k v) := by
  unfold_payloads
  pointwise

theorem bk1 (h : Fin 8) (k v : Fin 128) :
    (k0_pay146 (F := Ideal) S (k0_pay141 (k0_pay134 O0) (k0_pay135 O1) (k0_pay136 O2) (k0_pay137 O3) (k0_pay138 O4) (k0_pay139 O5) (k0_pay140 O6) O7) B L Q W) (ix3 h k v) = bkl (stk O0 O1 O2 O3 O4 O5 O6 O7) L Q W B S h k v := by
  unfold k0_pay146
  pointwise
  simp only [Finset.univ_unique, Finset.sum_singleton, zero_add, stk1]
  rfl

theorem stk0 (h : Fin 8) (c : Fin 64) (v : Fin 128) :
    (k0_pay149 (F := Ideal) O0 O1 O2 O3 O4 O5 O6 O7) (ix3 h c v) = stk O0 O1 O2 O3 O4 O5 O6 O7 h c v := by
  unfold_payloads
  pointwise
  fin_cases h <;> rfl

theorem dv0 (h : Fin 8) (c : Fin 64) (v : Fin 128) :
    (k0_pay150 (F := Ideal) (k0_pay148 S) O0 O1 O2 O3 O4 O5 O6 O7 A K) (ix3 h c v) = dvl (stk O0 O1 O2 O3 O4 O5 O6 O7) A K S h c v := by
  unfold k0_pay150 k0_pay148
  pointwise
  simp only [Finset.univ_unique, Finset.sum_singleton, zero_add, stk0]
  rfl

theorem dvs0 (x : Fin 1) (h : Fin 8) (c : Fin 64) (v : Fin 128) :
    (k0_pay2 (F := Ideal) B) (ix4 x h c v) = B (ix3 h c v) := by
  unfold_payloads
  pointwise

theorem dk0 (x : Fin 1) (h : Fin 8) (c : Fin 64) (k : Fin 128) :
    (k0_pay151 (F := Ideal) (k0_pay148 S) V) (ix4 x h c k) = ∑ v, V (ix4 0 h c v) * S (ix3 h k v) := by
  unfold_payloads
  pointwise

theorem dd0 (x : Fin 1) (h : Fin 8) (i : Fin 8) (j : Fin 128) :
    (k0_pay152 (F := Ideal) S T) (ix4 x h i j) = ∑ k, ∑ v, T (ix4 0 h k v) * S (ix3 h k v) := by
  unfold_payloads
  pointwise

theorem bk0 (h : Fin 8) (k v : Fin 128) :
    (k0_pay1 (F := Ideal) B (k0_pay153 S (k0_pay149 O0 O1 O2 O3 O4 O5 O6 O7) L Q) W) (ix3 h k v) = bkl (stk O0 O1 O2 O3 O4 O5 O6 O7) L Q W B S h k v := by
  unfold k0_pay1 k0_pay153
  pointwise
  simp only [Finset.univ_unique, Finset.sum_singleton, zero_add, stk0]
  rfl

end Cert.KScan
-- ==== Proof.KAtt.lean ====
module

public import proofs.«01_k».proof.Proof.Head
public import proofs.«01_k».proof.Proof.Gen.KernelIdeal.Skeleton
public import Idealize.ShloMosaic.Lib.Pointwise

/-! The kernel's products with the two heads' weights, its attention head, and the sum over the blocks. -/

@[expose] public section

set_option maxRecDepth 16384

noncomputable section

namespace Cert.KAtt

open Idealize.ShloMosaic Cert.KernelIdeal Cert.KernelIdeal.Gen Cert.Sc

/-- The attention head's product, entry by entry. -/
def da (Y : FVec Ideal S256x1024 .bf16) (M : FVec Ideal S512x1024 .bf16) (r : Fin 256) (j : Fin 512) : EReal :=
  ∑ k, Y (ix2 r k) * M (ix2 j k)

/-- The gradient of the attention's output. -/
def dobl (Z : FVec Ideal S256x512 .f32) (Y : FVec Ideal S256x1024 .bf16) (M : FVec Ideal S512x1024 .bf16)
    (r : Fin 256) (j : Fin 512) : EReal :=
  da Y M r j * (Z (ix2 r j) * sg (Z (ix2 r j)))

/-- The gradient of its gate's argument. -/
def dzbl (Z O : FVec Ideal S256x512 .f32) (Y : FVec Ideal S256x1024 .bf16) (M : FVec Ideal S512x1024 .bf16)
    (r : Fin 256) (j : Fin 512) : EReal :=
  (da Y M r j * O (ix2 r j)) * (sg (Z (ix2 r j)) * (1 + Z (ix2 r j) * (1 - sg (Z (ix2 r j)))))

/-- A row's inner product over a head. -/
def dltl (Z O : FVec Ideal S256x512 .f32) (Y : FVec Ideal S256x1024 .bf16) (M : FVec Ideal S512x1024 .bf16)
    (r : Fin 256) (h : Fin 4) : EReal :=
  ∑ v : Fin 128, dobl Z Y M r ⟨h.val * 128 + v.val, by omega⟩ * O (ix2 r ⟨h.val * 128 + v.val, by omega⟩)

theorem sg_eq (z : EReal) : Ideal.div 1 (1 + Ideal.exp (0 - z)) = sg z := by rw [zero_sub, sg]

variable (Z O : FVec Ideal S256x512 .f32) (Y : FVec Ideal S256x1024 .bf16) (M : FVec Ideal S512x1024 .bf16)
  (X : FVec Ideal S1024x1024 .bf16) (P : FVec Ideal S8x128 .f32) (A : FVec Ideal S1x128 .f32)

theorem dr (r : Fin 256) (j : Fin 1024) : (k0_pay12 (F := Ideal) Y X) (ix2 r j) = ∑ k, Y (ix2 r k) * X (ix2 j k) := by
  unfold_payloads
  pointwise

theorem dob (r : Fin 256) (j : Fin 512) : (k0_pay6 (F := Ideal) Z Y M) (ix2 r j) = dobl Z Y M r j := by
  unfold_payloads
  pointwise
  simp only [sg_eq]
  rfl

theorem dzb (r : Fin 256) (j : Fin 512) : (k0_pay7 (F := Ideal) Z Y M O) (ix2 r j) = dzbl Z O Y M r j := by
  unfold_payloads
  pointwise
  simp only [sg_eq]
  rfl

theorem delta0 (r : Fin 256) (v : Fin 128) : (k0_pay8 (F := Ideal) Z Y M O) (ix2 r v) = dltl Z O Y M r 0 := by
  unfold k0_pay8
  pointwise
  simp only [dob]
  refine Finset.sum_congr rfl fun v _ => ?_
  have e : (⟨(0 : Fin 4).val * 128 + v.val, by simp; omega⟩ : Fin 512) = ⟨v.val, by omega⟩ := Fin.ext (by simp)
  rw [e]

theorem delta1 (r : Fin 256) (v : Fin 128) : (k0_pay9 (F := Ideal) O (k0_pay6 Z Y M)) (ix2 r v) = dltl Z O Y M r 1 := by
  unfold k0_pay9
  pointwise
  simp only [dob]
  refine Finset.sum_congr rfl fun v _ => ?_
  congr 2 <;> congr 1 <;> exact Fin.ext (by simp)

theorem delta2 (r : Fin 256) (v : Fin 128) : (k0_pay10 (F := Ideal) O (k0_pay6 Z Y M)) (ix2 r v) = dltl Z O Y M r 2 := by
  unfold k0_pay10
  pointwise
  simp only [dob]
  refine Finset.sum_congr rfl fun v _ => ?_
  congr 2 <;> congr 1 <;> exact Fin.ext (by simp)

theorem delta3 (r : Fin 256) (v : Fin 128) : (k0_pay11 (F := Ideal) O (k0_pay6 Z Y M)) (ix2 r v) = dltl Z O Y M r 3 := by
  unfold k0_pay11
  pointwise
  simp only [dob]
  refine Finset.sum_congr rfl fun v _ => ?_
  congr 2 <;> congr 1 <;> exact Fin.ext (by simp)

theorem zero8 (i : Fin 8) (v : Fin 128) : (k0_pay108 (F := Ideal)) (ix2 i v) = 0 := by
  unfold_payloads
  pointwise

theorem zero1 (i : Fin 1) (v : Fin 128) : (k0_pay13 (F := Ideal)) (ix2 i v) = 0 := by
  unfold_payloads
  pointwise

theorem zeroS (h : Fin 8) (k v : Fin 128) : (k0_pay3 (F := Ideal)) (ix3 h k v) = 0 := by
  unfold_payloads
  pointwise

/-- The sum over the blocks takes a block's part in its first row. -/
theorem put (i : Fin 8) (v : Fin 128) :
    (k0_pay109 A P) (ix2 i v) = P (ix2 i v) + if i.val < 1 then A (ix2 0 v) else 0 := by
  unfold_payloads
  pointwise
  have h1 : ∀ h : i.val < 1, (⟨i.val, h⟩ : Fin 1) = 0 := fun h => Fin.ext (by simp; omega)
  split_ifs with h
  · rw [h1 h]
  · rfl

end Cert.KAtt
-- ==== Proof.KBlk.lean ====
module

public import proofs.«01_k».proof.Proof.KHead
public import proofs.«01_k».proof.Proof.KScan
public import proofs.«01_k».proof.Proof.KAtt
public import Idealize.ShloMosaic.Lib.Pipeline.ValueKit

/-! What a block of the kernel reads and stores, entry by entry. -/

@[expose] public section

set_option maxRecDepth 16384

noncomputable section

namespace Cert.KBlk

open Idealize.ShloMosaic Cert.KernelIdeal Cert.KernelIdeal.Gen Cert.Sc Cert.Head

/-- A load through a unit rectangle of a reference that holds `x`. -/
theorem rd {S : Shape} {e : EltTy} (arg : Memref sig .tc .vmem S e) (h : arg.IsWhole) (x : Vec Ideal S e)
    (off size : Fin S.rank → Nat) (inb) (i : (Rect.unit off size inb).shape.Idx) (y : S.Idx)
    (hy : ∀ a, (y a : Nat) = off a + i a) :
    View.readAt (Elt Ideal) arg.view (Rect.unit off size inb).toLoadRect (h.unread x) i = x y := by
  rw [View.readAt_eq_ld, h.read_unread]
  exact View.ld_unit_apply_of x off size inb i y hy

/-- 128 columns of 1024. -/
theorem rdc {e : EltTy} (arg : Memref sig .tc .vmem S256x1024 e) (h : arg.IsWhole) (x : Vec Ideal S256x1024 e) (o : Nat) (inb)
    (r : Fin 256) (v : Fin 128) (p : Fin 1024) (hp : p.val = o + v.val) :
    View.readAt (Elt Ideal) arg.view (Rect.unit (s := S256x1024) ![0, o] S256x128.size inb).toLoadRect (h.unread x) (ix2 r v) = x (ix2 r p) :=
  rd arg h x _ _ inb _ _ fun a => by
    match a with
    | ⟨0, _⟩ => exact (Nat.zero_add _).symm
    | ⟨1, _⟩ => exact hp

/-- A whole two-dimensional reference. -/
theorem rdw {e : EltTy} {m n : Nat} (arg : Memref sig .tc .vmem ⟨2, ![m, n]⟩ e) (h : arg.IsWhole) (x : Vec Ideal ⟨2, ![m, n]⟩ e) (inb)
    (r : Fin m) (v : Fin n) :
    View.readAt (Elt Ideal) arg.view (Rect.unit (s := ⟨2, ![m, n]⟩) ![0, 0] (⟨2, ![m, n]⟩ : Shape).size inb).toLoadRect (h.unread x) (ix2 r v) = x (ix2 r v) :=
  rd arg h x _ _ inb _ _ fun a => by
    match a with
    | ⟨0, _⟩ => exact (Nat.zero_add _).symm
    | ⟨1, _⟩ => exact (Nat.zero_add _).symm

/-- A whole three-dimensional reference. -/
theorem rd3 {e : EltTy} {l m n : Nat} (arg : Memref sig .tc .vmem ⟨3, ![l, m, n]⟩ e) (h : arg.IsWhole) (x : Vec Ideal ⟨3, ![l, m, n]⟩ e) (inb)
    (p : Fin l) (r : Fin m) (v : Fin n) :
    View.readAt (Elt Ideal) arg.view (Rect.unit (s := ⟨3, ![l, m, n]⟩) ![0, 0, 0] (⟨3, ![l, m, n]⟩ : Shape).size inb).toLoadRect (h.unread x) (ix3 p r v) = x (ix3 p r v) :=
  rd arg h x _ _ inb _ _ fun a => by
    match a with
    | ⟨0, _⟩ => exact (Nat.zero_add _).symm
    | ⟨1, _⟩ => exact (Nat.zero_add _).symm
    | ⟨2, _⟩ => exact (Nat.zero_add _).symm

/-- One chunk of four. -/
theorem rd4 {e : EltTy} {l m n : Nat} (arg : Memref sig .tc .vmem ⟨4, ![4, l, m, n]⟩ e) (h : arg.IsWhole) (x : Vec Ideal ⟨4, ![4, l, m, n]⟩ e)
    (g : Nat) (inb) (q : Fin 4) (hq : q.val = g) (p : Fin l) (r : Fin m) (v : Fin n) :
    View.readAt (Elt Ideal) arg.view (Rect.unit (s := ⟨4, ![4, l, m, n]⟩) ![g, 0, 0, 0] (⟨4, ![1, l, m, n]⟩ : Shape).size inb).toLoadRect (h.unread x) (ix4 (0 : Fin 1) p r v)
      = x (ix4 q p r v) :=
  rd arg h x _ _ inb _ _ fun a => by
    match a with
    | ⟨0, _⟩ => exact hq
    | ⟨1, _⟩ => exact (Nat.zero_add _).symm
    | ⟨2, _⟩ => exact (Nat.zero_add _).symm
    | ⟨3, _⟩ => exact (Nat.zero_add _).symm

/-- A load of what the stores left, where they left `G`. -/
theorem rcv {m n : Nat} {e : EltTy} (arg : Memref sig .tc .vmem ⟨2, ![m, n]⟩ e) (L : List (View.Piece (Elt Ideal) ⟨2, ![m, n]⟩ e))
    (G : Fin m → Fin n → Elt Ideal e) (hL : ∀ r j, View.canon L (ix2 r j) = G r j) (a b : Nat) {k l : Nat} (inb) (r : Fin k) (v : Fin l)
    (p : Fin m) (q : Fin n) (hp : p.val = a + r.val) (hq : q.val = b + v.val) :
    arg.view.readCov L (Rect.unit (s := ⟨2, ![m, n]⟩) ![a, b] (⟨2, ![k, l]⟩ : Shape).size inb).toLoadRect (ix2 r v) = G p q := by
  rw [View.readCov_eq_canon', ← hL]
  refine congrArg (View.canon L) (funext fun d => Fin.ext ?_)
  refine (Rect.idx_unit_val _ _ inb _ d).trans ?_
  match d with
  | ⟨0, _⟩ => exact hp.symm
  | ⟨1, _⟩ => exact hq.symm

/-- A store of some columns agrees with `G` wherever it holds an index. -/
theorem tile {m n : Nat} {e : EltTy} (G : Fin m → Fin n → Elt Ideal e) (o l : Nat) (r : Fin m) (j : Fin n)
    (w : (⟨2, ![m, l]⟩ : Shape).Idx → Elt Ideal e) (q : Fin l → Fin n) (hq : ∀ v, (q v).val = o + v.val)
    (hw : ∀ r v, w (ix2 r v) = G r (q v)) :
    View.TileAt (S := ⟨2, ![m, n]⟩) (Val := Elt Ideal) (e := e) (ix2 r j) ![0, o] (⟨2, ![m, l]⟩ : Shape).size w (G r j) := by
  intro x hx
  have h0 : r.val = 0 + (x 0).val := hx 0
  have h1 : j.val = o + (x 1).val := hx 1
  have e0 : x 0 = r := Fin.ext (by omega)
  have e1 : q (x 1) = j := Fin.ext ((hq (x 1)).trans h1.symm)
  have ex : x = ix2 (n0 := m) (n1 := l) (x 0) (x 1) := funext fun a => by
    match a with
    | ⟨0, _⟩ => rfl
    | ⟨1, _⟩ => rfl
  exact (congrArg w ex).trans ((hw (x 0) (x 1)).trans (congrArg₂ G e0 e1))

/-- A store of one chunk likewise. -/
theorem tile4 {a b c : Nat} {e : EltTy} (G : Fin 4 → Fin a → Fin b → Fin c → Elt Ideal e) (g : Nat) (q : Fin 4) (hq : q.val = g)
    (n : Fin 4) (h : Fin a) (r : Fin b) (j : Fin c)
    (w : (⟨4, ![1, a, b, c]⟩ : Shape).Idx → Elt Ideal e)
    (hw : ∀ h r v, w (ix4 (0 : Fin 1) h r v) = G q h r v) :
    View.TileAt (S := ⟨4, ![4, a, b, c]⟩) (Val := Elt Ideal) (e := e) (ix4 n h r j) ![g, 0, 0, 0] (⟨4, ![1, a, b, c]⟩ : Shape).size w (G n h r j) := by
  intro x hx
  have h0 : n.val = g + (x 0).val := hx 0
  have l0 : (x 0).val < 1 := (x 0).isLt
  have h1 : h.val = 0 + (x 1).val := hx 1
  have h2 : r.val = 0 + (x 2).val := hx 2
  have h3 : j.val = 0 + (x 3).val := hx 3
  have e0 : q = n := Fin.ext (by omega)
  have e1 : x 1 = h := Fin.ext (by omega)
  have e2 : x 2 = r := Fin.ext (by omega)
  have e3 : x 3 = j := Fin.ext (by omega)
  have ex : x = ix4 (n0 := 1) (n1 := a) (n2 := b) (n3 := c) (0 : Fin 1) (x 1) (x 2) (x 3) := funext fun a => by
    match a with
    | ⟨0, _⟩ => exact Fin.ext (by show (x 0).val = 0; omega)
    | ⟨1, _⟩ => rfl
    | ⟨2, _⟩ => rfl
    | ⟨3, _⟩ => rfl
  refine (congrArg w ex).trans ((hw (x 1) (x 2) (x 3)).trans ?_)
  rw [← e0]
  exact congr (congr (congrArg (G q) e1) e2) e3

variable (x0 x1 x2 : FVec Ideal S4x8x64x128 .bf16) (x3 : FVec Ideal S4x8x64x64 .bf16) (x4 : FVec Ideal S4x8x8x128 .f32)
  (x5 : FVec Ideal S4x8x64x128 .bf16) (x6 : FVec Ideal S4x8x128x128 .bf16)
  (x7 : FVec Ideal S256x1024 .bf16) (x8 x9 : FVec Ideal S256x1024 .f32) (x10 : FVec Ideal S1x128 .f32) (x11 : FVec Ideal S1024x1024 .bf16)

/-- The product with the first head's weight. -/
def bd (r : Fin 256) (j : Fin 1024) : EReal := ∑ k, x7 (ix2 r k) * x11 (ix2 j k)

/-- The recurrence's output's gradient in a block. -/
def bO (r : Fin 256) (h : Fin 8) (v : Fin 128) : EReal :=
  KHead.dOl (fun k => x8 (ix2 r (col h k))) (fun k => x9 (ix2 r (col h k))) (fun k => bd x7 x11 r (col h k)) (fun k => x10 (ix2 0 k)) v

/-- The gate's argument's gradient in a block. -/
def bZ (r : Fin 256) (h : Fin 8) (v : Fin 128) : EReal :=
  KHead.dzl (fun k => x8 (ix2 r (col h k))) (fun k => x9 (ix2 r (col h k))) (fun k => bd x7 x11 r (col h k)) (fun k => x10 (ix2 0 k)) v

/-- A row's part of the norm's weight's gradient. -/
def bW (r : Fin 256) (h : Fin 8) (v : Fin 128) : EReal :=
  KHead.wtl (fun k => x8 (ix2 r (col h k))) (fun k => x9 (ix2 r (col h k))) (fun k => bd x7 x11 r (col h k)) v

/-- One head's tiles. -/
structure Hd (h : Fin 8) (X8 X9 D : FVec Ideal S256x128 .f32) (N : FVec Ideal S1x128 .f32) : Prop where
  o : ∀ r, (fun v => X8 (ix2 r v)) = fun v => x8 (ix2 r (col h v))
  z : ∀ r, (fun v => X9 (ix2 r v)) = fun v => x9 (ix2 r (col h v))
  d : ∀ r, (fun v => D (ix2 r v)) = fun v => bd x7 x11 r (col h v)
  n : (fun v => N (ix2 (0 : Fin 1) v)) = fun v => x10 (ix2 0 v)

/-- The four chunks of a block, by the number of a chunk. -/
def sD : Scan.Data where
  w n h c k := x0 (ix4 ⟨n.val % 4, Nat.mod_lt _ (by norm_num)⟩ h c k)
  qd n h c k := x1 (ix4 ⟨n.val % 4, Nat.mod_lt _ (by norm_num)⟩ h c k)
  kd n h c k := x2 (ix4 ⟨n.val % 4, Nat.mod_lt _ (by norm_num)⟩ h c k)
  aqk n h c k := x3 (ix4 ⟨n.val % 4, Nat.mod_lt _ (by norm_num)⟩ h c k)
  dl n h := x4 (ix4 ⟨n.val % 4, Nat.mod_lt _ (by norm_num)⟩ h 0 0)
  vn n h c k := x5 (ix4 ⟨n.val % 4, Nat.mod_lt _ (by norm_num)⟩ h c k)
  st n h c k := x6 (ix4 ⟨n.val % 4, Nat.mod_lt _ (by norm_num)⟩ h c k)
  dO n h c v := bO x7 x8 x9 x10 x11 ⟨n.val % 4 * 64 + c.val, by omega⟩ h v

variable {x7 x8 x9 x10 x11}

theorem Hd.mk' {h : Fin 8} {X8 X9 D : FVec Ideal S256x128 .f32} {N : FVec Ideal S1x128 .f32}
    (o : ∀ r v, X8 (ix2 r v) = x8 (ix2 r (col h v))) (z : ∀ r v, X9 (ix2 r v) = x9 (ix2 r (col h v)))
    (d : ∀ r v, D (ix2 r v) = bd x7 x11 r (col h v)) (n : ∀ v, N (ix2 (0 : Fin 1) v) = x10 (ix2 0 v)) : Hd x7 x8 x9 x10 x11 h X8 X9 D N :=
  ⟨fun r => funext (o r), fun r => funext (z r), fun r => funext (d r), funext n⟩

variable {h : Fin 8} {X8 X9 D : FVec Ideal S256x128 .f32} {N : FVec Ideal S1x128 .f32} (H : Hd x7 x8 x9 x10 x11 h X8 X9 D N)
include H

theorem Hd.dO (r : Fin 256) (v : Fin 128) :
    KHead.dOl (fun j => X8 (ix2 r j)) (fun j => X9 (ix2 r j)) (fun j => D (ix2 r j)) (fun j => N (ix2 (0 : Fin 1) j)) v = bO x7 x8 x9 x10 x11 r h v := by
  rw [H.o, H.z, H.d, H.n]; rfl

theorem Hd.dz (r : Fin 256) (v : Fin 128) :
    KHead.dzl (fun j => X8 (ix2 r j)) (fun j => X9 (ix2 r j)) (fun j => D (ix2 r j)) (fun j => N (ix2 (0 : Fin 1) j)) v = bZ x7 x8 x9 x10 x11 r h v := by
  rw [H.o, H.z, H.d, H.n]; rfl

theorem Hd.wt (v : Fin 128) :
    ∑ r, KHead.wtl (fun j => X8 (ix2 r j)) (fun j => X9 (ix2 r j)) (fun j => D (ix2 r j)) v = ∑ r, bW x7 x8 x9 x11 r h v :=
  Finset.sum_congr rfl fun r _ => by rw [H.o, H.z, H.d]; rfl

omit H

theorem col_hd (h : Fin 8) (v : Fin 128) : (⟨(col h v).val / 128, by omega⟩ : Fin 8) = h := Fin.ext (by simp only [col]; omega)
theorem col_ln (h : Fin 8) (v : Fin 128) : (⟨(col h v).val % 128, Nat.mod_lt _ (by norm_num)⟩ : Fin 128) = v := Fin.ext (by simp only [col]; omega)

/-- A function of rows, heads and lanes as one of rows and columns. -/
def flat {m : Nat} (G : Fin m → Fin 8 → Fin 128 → EReal) (r : Fin m) (j : Fin 1024) : EReal :=
  G r ⟨j.val / 128, by omega⟩ ⟨j.val % 128, Nat.mod_lt _ (by norm_num)⟩

theorem flat_col {m : Nat} (G : Fin m → Fin 8 → Fin 128 → EReal) (r : Fin m) (h : Fin 8) (v : Fin 128) : flat G r (col h v) = G r h v := by
  unfold flat; rw [col_hd, col_ln]

/-! One chunk's products as the recurrence's. -/

variable {D : Scan.Data} {n : Fin 64} {O : Fin 8 → Fin 64 → Fin 128 → EReal} {A : FVec Ideal S1x8x64x64 .bf16}
  {K Q W V : FVec Ideal S1x8x64x128 .bf16} {T : FVec Ideal S1x8x128x128 .bf16}
  {L : FVec Ideal S1x8x8x128 .f32} {B : FVec Ideal S8x64x128 .f32} {S : FVec Ideal S8x128x128 .f32} {s : Scan.G}

theorem dv_eq (hS : ∀ h k v, S (ix3 h k v) = s h k v) (hO : ∀ h c v, O h c v = D.dO n h c v)
    (hA : ∀ h c i, A (ix4 0 h c i) = D.aqk n h c i) (hK : ∀ h c k, K (ix4 0 h c k) = D.kd n h c k) (h : Fin 8) (c : Fin 64) (v : Fin 128) :
    KScan.dvl O A K S h c v = Scan.dv D s n h c v := by
  simp only [KScan.dvl, Scan.dv, hS, hO, hA, hK]

theorem bk_eq (hS : ∀ h k v, S (ix3 h k v) = s h k v) (hO : ∀ h c v, O h c v = D.dO n h c v)
    (hL : ∀ h v, L (ix4 0 h 0 v) = D.dl n h) (hQ : ∀ h c k, Q (ix4 0 h c k) = D.qd n h c k) (hW : ∀ h c k, W (ix4 0 h c k) = D.w n h c k)
    (hB : ∀ h c v, B (ix3 h c v) = Scan.dv D s n h c v) (h : Fin 8) (k v : Fin 128) :
    KScan.bkl O L Q W B S h k v = Scan.back D s n h k v := by
  simp only [KScan.bkl, Scan.back, hS, hO, hL, hQ, hW, hB]

theorem dk_eq (hS : ∀ h k v, S (ix3 h k v) = s h k v) (hV : ∀ h c k, V (ix4 0 h c k) = D.vn n h c k) (h : Fin 8) (c : Fin 64) (k : Fin 128) :
    ∑ v, V (ix4 0 h c v) * S (ix3 h k v) = Scan.dk D s n h c k := by
  simp only [Scan.dk, hS, hV]

theorem dd_eq (hS : ∀ h k v, S (ix3 h k v) = s h k v) (hT : ∀ h k v, T (ix4 0 h k v) = D.st n h k v) (h : Fin 8) :
    ∑ k, ∑ v, T (ix4 0 h k v) * S (ix3 h k v) = Scan.dd D s n h := by
  simp only [Scan.dd, hS, hT]

theorem stk_eq {O0 O1 O2 O3 O4 O5 O6 O7 : FVec Ideal S64x128 .f32} {G : Fin 8 → Fin 64 → Fin 128 → EReal}
    (h0 : ∀ c v, O0 (ix2 c v) = G 0 c v) (h1 : ∀ c v, O1 (ix2 c v) = G 1 c v) (h2 : ∀ c v, O2 (ix2 c v) = G 2 c v)
    (h3 : ∀ c v, O3 (ix2 c v) = G 3 c v) (h4 : ∀ c v, O4 (ix2 c v) = G 4 c v) (h5 : ∀ c v, O5 (ix2 c v) = G 5 c v)
    (h6 : ∀ c v, O6 (ix2 c v) = G 6 c v) (h7 : ∀ c v, O7 (ix2 c v) = G 7 c v) (h : Fin 8) (c : Fin 64) (v : Fin 128) :
    KScan.stk O0 O1 O2 O3 O4 O5 O6 O7 h c v = G h c v := by
  match h with
  | ⟨0, _⟩ => exact h0 c v
  | ⟨1, _⟩ => exact h1 c v
  | ⟨2, _⟩ => exact h2 c v
  | ⟨3, _⟩ => exact h3 c v
  | ⟨4, _⟩ => exact h4 c v
  | ⟨5, _⟩ => exact h5 c v
  | ⟨6, _⟩ => exact h6 c v
  | ⟨7, _⟩ => exact h7 c v

/-- The block's product with the weight, read by columns. -/
theorem drd (arg27 : Memref sig .tc .vmem S256x1024 .f32) (arg8 : Memref sig .tc .vmem S256x1024 .bf16) (h8 : arg8.IsWhole)
    (arg12 : Memref sig .tc .vmem S1024x1024 .bf16) (h12 : arg12.IsWhole) (o : Nat) (inb0 inb1 inb2 inb) (r : Fin 256) (v : Fin 128) (p : Fin 1024)
    (hp : p.val = o + v.val) :
    arg27.view.readCov (Val := Elt Ideal) [(⟨Rect.unit (s := S256x1024) ![0, 0] S256x1024.size inb0,
        k0_pay12 (F := Ideal) (View.readAt (Elt Ideal) arg8.view (Rect.unit (s := S256x1024) ![0, 0] S256x1024.size inb1).toLoadRect (h8.unread x7))
          (View.readAt (Elt Ideal) arg12.view (Rect.unit (s := S1024x1024) ![0, 0] S1024x1024.size inb2).toLoadRect (h12.unread x11))⟩ :
            View.Piece (Elt Ideal) S256x1024 .f32)]
      (Rect.unit (s := S256x1024) ![0, o] S256x128.size inb).toLoadRect (ix2 r v) = bd x7 x11 r p := by
  refine rcv arg27 _ (bd x7 x11) (fun r j => ?_) 0 o inb r v r p (Nat.zero_add _).symm hp
  rw [View.canon_cons_unit_lit' _ _ _ (by decide), KAtt.dr]
  exact Finset.sum_congr rfl fun k _ => congrArg₂ (· * ·) (rdw arg8 h8 x7 inb1 r k) (rdw arg12 h12 x11 inb2 j k)

/-- The state's gradient after some of a block's chunks. -/
def bst (D : Scan.Data) (S : Scan.G) : Nat → Scan.G
  | 0 => S
  | t + 1 => Scan.back D (bst D S t) ⟨3 - t, by omega⟩

theorem dobl_eq {Z Z' : FVec Ideal S256x512 .f32} {Y Y' : FVec Ideal S256x1024 .bf16} {M M' : FVec Ideal S512x1024 .bf16}
    (hZ : ∀ r j, Z (ix2 r j) = Z' (ix2 r j)) (hY : ∀ r j, Y (ix2 r j) = Y' (ix2 r j)) (hM : ∀ r j, M (ix2 r j) = M' (ix2 r j))
    (r : Fin 256) (j : Fin 512) : KAtt.dobl Z Y M r j = KAtt.dobl Z' Y' M' r j := by
  simp only [KAtt.dobl, KAtt.da, hZ, hY, hM]

theorem dzbl_eq {Z Z' O O' : FVec Ideal S256x512 .f32} {Y Y' : FVec Ideal S256x1024 .bf16} {M M' : FVec Ideal S512x1024 .bf16}
    (hZ : ∀ r j, Z (ix2 r j) = Z' (ix2 r j)) (hO : ∀ r j, O (ix2 r j) = O' (ix2 r j)) (hY : ∀ r j, Y (ix2 r j) = Y' (ix2 r j))
    (hM : ∀ r j, M (ix2 r j) = M' (ix2 r j)) (r : Fin 256) (j : Fin 512) : KAtt.dzbl Z O Y M r j = KAtt.dzbl Z' O' Y' M' r j := by
  simp only [KAtt.dzbl, KAtt.da, hZ, hO, hY, hM]

theorem dltl_eq {Z Z' O O' : FVec Ideal S256x512 .f32} {Y Y' : FVec Ideal S256x1024 .bf16} {M M' : FVec Ideal S512x1024 .bf16}
    (hZ : ∀ r j, Z (ix2 r j) = Z' (ix2 r j)) (hO : ∀ r j, O (ix2 r j) = O' (ix2 r j)) (hY : ∀ r j, Y (ix2 r j) = Y' (ix2 r j))
    (hM : ∀ r j, M (ix2 r j) = M' (ix2 r j)) (r : Fin 256) (h : Fin 4) : KAtt.dltl Z O Y M r h = KAtt.dltl Z' O' Y' M' r h := by
  simp only [KAtt.dltl, hO, dobl_eq hZ hY hM]

end Cert.KBlk
-- ==== Proof.KHost.lean ====
module

public import proofs.«01_k».proof.Proof.KIn
public import proofs.«01_k».proof.Proof.RefHead
public import proofs.«01_k».proof.Proof.KBlk
public import Idealize.ShloMosaic.Lib.Pointwise

/-! The blocks the kernel reads, entry by entry, from the arguments of the step. -/

@[expose] public section

set_option maxRecDepth 16384

noncomputable section

namespace Cert.KHost

open Idealize.ShloMosaic Cert.KernelIdeal Cert.KernelIdeal.Gen Cert.Sc Cert.Head Cert.KIn Cert.KBlk

variable (m : (ℓ : Loc nD τ sig) → Buf (Elt Ideal) ℓ) (c : Dev nD)

/-- The arguments of device `c`, by coordinates. -/
def args : Args :=
  RefHead.args (m (c.tc.loc main_arg0)) (m (c.tc.loc main_arg1)) (m (c.tc.loc main_arg2))
    (m (c.tc.loc main_arg3)) (m (c.tc.loc main_arg4)) (m (c.tc.loc main_arg5))
    (m (c.tc.loc main_arg6)) (m (c.tc.loc main_arg7)) (m (c.tc.loc main_arg8))
    (m (c.tc.loc main_arg9)) (m (c.tc.loc main_arg10)) (m (c.tc.loc main_arg11))
    (m (c.tc.loc main_arg12)) (m (c.tc.loc main_arg13)) (m (c.tc.loc main_arg14))

def hw (a : FVec Ideal S64x8x64x128 .bf16) (s : FVec Ideal S64x8x128x128 .bf16) : FVec Ideal S64x8x64x128 .f32 :=
  Host.dotGeneral dot_S64x8x64x128_S64x8x128x128_S64x8x64x128_3_2_2_3_01_01 none (extf .f32 a bitsLt_bf16_f32) (extf .f32 s bitsLt_bf16_f32)

def hv (u : FVec Ideal S64x8x64x128 .f32) (w : FVec Ideal S64x8x64x128 .bf16) (s : FVec Ideal S64x8x128x128 .bf16) : FVec Ideal S64x8x64x128 .f32 :=
  subf u (hw w s)

def ho (u : FVec Ideal S64x8x64x128 .f32) (w q : FVec Ideal S64x8x64x128 .bf16) (a : FVec Ideal S64x8x64x64 .bf16) (s : FVec Ideal S64x8x128x128 .bf16) :
    FVec Ideal S4096x1024 .f32 :=
  shapeCast S4096x1024 (transpose S64x64x8x128 [0, 2, 1, 3]
    (addf (hw q s) (Host.dotGeneral dot_S64x8x64x64_S64x8x64x128_S64x8x64x128_3_2_2_3_01_01 none (extf .f32 a bitsLt_bf16_f32) (hv u w s)))
    transposes_S64x8x64x128_S64x64x8x128_0_2_1_3) shapeCasts_S64x64x8x128_S4096x1024

theorem V_v13 : V m c main_v13 = truncf (F := Ideal) .bf16 (hv (m (c.tc.loc main_arg0)) (m (c.tc.loc main_arg1)) (m (c.tc.loc main_arg6))) bitsLt_bf16_f32 := by
  unfold V
  after_results <;> rfl

theorem V_v10 : V m c main_v10 = ho (m (c.tc.loc main_arg0)) (m (c.tc.loc main_arg1)) (m (c.tc.loc main_arg3)) (m (c.tc.loc main_arg2)) (m (c.tc.loc main_arg6)) := by
  unfold V
  after_results <;> rfl

theorem V_v12 : V m c main_v12 = broadcastInDim S64x8x8x128 ![0, 1, 2, 3] bcast_S64x8x1x1_S64x8x8x128_0_1_2_3 (broadcastInDim S64x8x1x1 ![0, 1] bcast_S64x8_S64x8x1x1_0_1 (m (c.tc.loc main_arg5))) := by
  unfold V
  after_results <;> rfl

theorem v13_at (n : Fin 64) (h : Fin 8) (r : Fin 64) (v : Fin 128) : (V m c main_v13 : Vec Ideal S64x8x64x128 .bf16) (ix4 n h r v) = vn (args m c) n h r v := by
  rw [V_v13]
  pointwise [hv, hw]
  rfl

theorem v12_at (n : Fin 64) (h : Fin 8) (r : Fin 8) (v : Fin 128) : (V m c main_v12 : Vec Ideal S64x8x8x128 .f32) (ix4 n h r v) = (args m c).dl n h := by
  rw [V_v12]
  pointwise
  rfl

theorem v10_flat (r : Fin 4096) (j : Fin 1024) : (V m c main_v10 : Vec Ideal S4096x1024 .f32) (ix2 r j) = flat (head (args m c)).o r j := by
  rw [V_v10]
  pointwise [ho, hv, hw]
  rfl

theorem v10_at (r : Fin 4096) (h : Fin 8) (v : Fin 128) : (V m c main_v10 : Vec Ideal S4096x1024 .f32) (ix2 r (col h v)) = (head (args m c)).o r h v :=
  (v10_flat m c r (col h v)).trans (flat_col _ r h v)

variable (t : Fin cfg0.N)

theorem b0 (g : Fin 4) (h : Fin 8) (r : Fin 64) (v : Fin 128) : (iblk m c 0 t : Vec Ideal ⟨4, ![4, 8, 64, 128]⟩ .bf16) (ix4 g h r v) = (args m c).w (ck t g) h r v := by
  unfold iblk
  refine (rd0 _ t g h r v).trans ?_
  exact congrFun (V_main_arg1 m c) _

theorem b1 (g : Fin 4) (h : Fin 8) (r : Fin 64) (v : Fin 128) : (iblk m c 1 t : Vec Ideal ⟨4, ![4, 8, 64, 128]⟩ .bf16) (ix4 g h r v) = (args m c).qd (ck t g) h r v := by
  unfold iblk
  refine (rd1 _ t g h r v).trans ?_
  exact congrFun (V_main_arg3 m c) _

theorem b2 (g : Fin 4) (h : Fin 8) (r : Fin 64) (v : Fin 128) : (iblk m c 2 t : Vec Ideal ⟨4, ![4, 8, 64, 128]⟩ .bf16) (ix4 g h r v) = (args m c).kd (ck t g) h r v := by
  unfold iblk
  refine (rd2 _ t g h r v).trans ?_
  exact congrFun (V_main_arg4 m c) _

theorem b3 (g : Fin 4) (h : Fin 8) (r : Fin 64) (v : Fin 64) : (iblk m c 3 t : Vec Ideal ⟨4, ![4, 8, 64, 64]⟩ .bf16) (ix4 g h r v) = (args m c).aqk (ck t g) h r v := by
  unfold iblk
  refine (rd3 _ t g h r v).trans ?_
  exact congrFun (V_main_arg2 m c) _

theorem b4 (g : Fin 4) (h : Fin 8) (r : Fin 8) (v : Fin 128) : (iblk m c 4 t : Vec Ideal ⟨4, ![4, 8, 8, 128]⟩ .f32) (ix4 g h r v) = (args m c).dl (ck t g) h := by
  unfold iblk
  refine (rd4 _ t g h r v).trans ?_
  exact v12_at m c _ h r v

theorem b5 (g : Fin 4) (h : Fin 8) (r : Fin 64) (v : Fin 128) : (iblk m c 5 t : Vec Ideal ⟨4, ![4, 8, 64, 128]⟩ .bf16) (ix4 g h r v) = vn (args m c) (ck t g) h r v := by
  unfold iblk
  refine (rd5 _ t g h r v).trans ?_
  exact v13_at m c _ h r v

theorem b6 (g : Fin 4) (h : Fin 8) (r : Fin 128) (v : Fin 128) : (iblk m c 6 t : Vec Ideal ⟨4, ![4, 8, 128, 128]⟩ .bf16) (ix4 g h r v) = (args m c).st (ck t g) h r v := by
  unfold iblk
  refine (rd6 _ t g h r v).trans ?_
  exact congrFun (V_main_arg6 m c) _

theorem b7 (r : Fin 256) (v : Fin 1024) : (iblk m c 7 t : Vec Ideal ⟨2, ![256, 1024]⟩ .bf16) (ix2 r v) = (args m c).dya (rw t r) v := by
  unfold iblk
  refine (rd7 _ t r v).trans ?_
  exact congrFun (V_main_arg13 m c) _

theorem b8 (r : Fin 256) (h : Fin 8) (v : Fin 128) : (iblk m c 8 t : Vec Ideal ⟨2, ![256, 1024]⟩ .f32) (ix2 r (col h v)) = (head (args m c)).o (rw t r) h v := by
  unfold iblk
  refine (rd8 _ t r (col h v)).trans ?_
  exact v10_at m c _ h v

theorem b9 (r : Fin 256) (v : Fin 1024) : (iblk m c 9 t : Vec Ideal ⟨2, ![256, 1024]⟩ .f32) (ix2 r v) = (args m c).z (rw t r) v := by
  unfold iblk
  refine (rd9 _ t r v).trans ?_
  exact congrFun (V_main_arg7 m c) _

theorem b10 (v : Fin 128) : (iblk m c 10 t : Vec Ideal ⟨2, ![1, 128]⟩ .f32) (ix2 0 v) = (args m c).nw v := by
  unfold iblk
  refine (rd10 _ t 0 v).trans ?_
  exact congrFun (V_main_arg8 m c) _

theorem b11 (r : Fin 1024) (v : Fin 1024) : (iblk m c 11 t : Vec Ideal ⟨2, ![1024, 1024]⟩ .bf16) (ix2 r v) = (args m c).wo r v := by
  unfold iblk
  refine (rd11 _ t r v).trans ?_
  exact congrFun (V_main_arg11 m c) _

theorem b12 (r : Fin 256) (v : Fin 1024) : (iblk m c 12 t : Vec Ideal ⟨2, ![256, 1024]⟩ .bf16) (ix2 r v) = (args m c).dyb (rw t r) v := by
  unfold iblk
  refine (rd12 _ t r v).trans ?_
  exact congrFun (V_main_arg14 m c) _

theorem b13 (r : Fin 256) (v : Fin 512) : (iblk m c 13 t : Vec Ideal ⟨2, ![256, 512]⟩ .f32) (ix2 r v) = (args m c).oj (rw t r) v := by
  unfold iblk
  refine (rd13 _ t r v).trans ?_
  exact congrFun (V_main_arg9 m c) _

theorem b14 (r : Fin 256) (v : Fin 512) : (iblk m c 14 t : Vec Ideal ⟨2, ![256, 512]⟩ .f32) (ix2 r v) = (args m c).zb (rw t r) v := by
  unfold iblk
  refine (rd14 _ t r v).trans ?_
  exact congrFun (V_main_arg10 m c) _

theorem b15 (r : Fin 512) (v : Fin 1024) : (iblk m c 15 t : Vec Ideal ⟨2, ![512, 1024]⟩ .bf16) (ix2 r v) = (args m c).wod r v := by
  unfold iblk
  refine (rd15 _ t r v).trans ?_
  exact congrFun (V_main_arg12 m c) _

end Cert.KHost
-- ==== Proof.Spec.lean ====
module

public import proofs.«01_k».proof.Proof.Head

/-! The nine results as functions of the arguments. -/

@[expose] public section

noncomputable section

namespace Cert.Spec

open Idealize.ShloMosaic Cert.Sc Cert.Head

variable (a : Args)

/-- The state's gradient after a chunk. -/
abbrev aft (n : Fin 64) : Scan.G := Scan.dS (scan a) (63 - n.val)

def du : (⟨4, ![64, 8, 64, 128]⟩ : Shape).Idx → EReal := fun i => Scan.dv (scan a) (aft a (i 0)) (i 0) (i 1) (i 2) (i 3)

def dkd : (⟨4, ![64, 8, 64, 128]⟩ : Shape).Idx → EReal := fun i => Scan.dk (scan a) (aft a (i 0)) (i 0) (i 1) (i 2) (i 3)

def ddl : (⟨4, ![64, 8, 8, 128]⟩ : Shape).Idx → EReal := fun i => Scan.dd (scan a) (aft a (i 0)) (i 0) (i 1)

/-- The head and the lane of a column. -/
abbrev hd (j : Fin 1024) : Fin 8 := ⟨j.val / 128, by omega⟩
abbrev ln (j : Fin 1024) : Fin 128 := ⟨j.val % 128, Nat.mod_lt _ (by norm_num)⟩

def dO : (⟨2, ![4096, 1024]⟩ : Shape).Idx → EReal := fun i => Head.dO (head a) (i 0) (hd (i 1)) (ln (i 1))

def dz : (⟨2, ![4096, 1024]⟩ : Shape).Idx → EReal := fun i => Head.dz (head a) (i 0) (hd (i 1)) (ln (i 1))

def dnw : (⟨2, ![8, 128]⟩ : Shape).Idx → EReal := fun i => if (i 0).val < 1 then Head.dnw (head a) (i 1) else 0

def dob : (⟨2, ![4096, 512]⟩ : Shape).Idx → EReal := fun i => Head.dob (att a) (i 0) (i 1)

def dzb : (⟨2, ![4096, 512]⟩ : Shape).Idx → EReal := fun i => Head.dzb (att a) (i 0) (i 1)

def delta : (⟨2, ![4096, 512]⟩ : Shape).Idx → EReal := fun i => Head.delta (att a) (i 0) ⟨(i 1).val / 128, by have := (i 1).isLt; simp at this; omega⟩

end Cert.Spec
-- ==== Proof.KPt.lean ====
module

public import proofs.«01_k».proof.Proof.KHost
public import proofs.«01_k».proof.Proof.Spec

/-! A block's values as the recurrence's and the heads' at the block's chunks and rows. -/

@[expose] public section

set_option maxRecDepth 16384

noncomputable section

namespace Cert.Scan

/-- Two families of arrays that agree at a chunk each. -/
structure Same (D : Data) (n : Fin 64) (E : Data) (p : Fin 64) : Prop where
  vn : D.vn n = E.vn p
  w : D.w n = E.w p
  aqk : D.aqk n = E.aqk p
  qd : D.qd n = E.qd p
  kd : D.kd n = E.kd p
  dl : D.dl n = E.dl p
  st : D.st n = E.st p
  dO : D.dO n = E.dO p

variable {D E : Data} {n p : Fin 64} (H : Same D n E p) (S : G)
include H

theorem Same.dv_eq (h : Fin 8) (c : Fin 64) (v : Fin 128) : Scan.dv D S n h c v = Scan.dv E S p h c v := by
  simp only [Scan.dv, H.aqk, H.dO, H.kd]

theorem Same.dk_eq (h : Fin 8) (c : Fin 64) (v : Fin 128) : Scan.dk D S n h c v = Scan.dk E S p h c v := by
  simp only [Scan.dk, H.vn]

theorem Same.dd_eq (h : Fin 8) : Scan.dd D S n h = Scan.dd E S p h := by
  simp only [Scan.dd, H.st]

theorem Same.back_eq : Scan.back D S n = Scan.back E S p := by
  funext h k v
  simp only [Scan.back, H.dv_eq, H.dl, H.qd, H.dO, H.w]

end Cert.Scan

namespace Cert.KPt

open Idealize.ShloMosaic Cert.KernelIdeal Cert.KernelIdeal.Gen Cert.Sc Cert.Head Cert.KIn Cert.KBlk Cert.KHost

variable (m : (ℓ : Loc nD τ sig) → Buf (Elt Ideal) ℓ) (c : Dev nD) (t : Fin cfg0.N)

theorem bd_at (r : Fin 256) (h : Fin 8) (k : Fin 128) :
    bd (iblk m c 7 t) (iblk m c 11 t) r (col h k) = (head (args m c)).d (rw t r) h k :=
  Finset.sum_congr rfl fun j _ => congrArg₂ (fun x y : EReal => x * y) (b7 m c t r j) (b11 m c t (col h k) j)

theorem bO_at (r : Fin 256) (h : Fin 8) (v : Fin 128) :
    bO (iblk m c 7 t) (iblk m c 8 t) (iblk m c 9 t) (iblk m c 10 t) (iblk m c 11 t) r h v = Head.dO (head (args m c)) (rw t r) h v := by
  have e8 := fun k => b8 m c t r h k
  have e9 := fun k => b9 m c t r (col h k)
  have e10 := fun k => b10 m c t k
  simp only [bO, e8, e9, e10, bd_at]
  rfl

theorem bZ_at (r : Fin 256) (h : Fin 8) (v : Fin 128) :
    bZ (iblk m c 7 t) (iblk m c 8 t) (iblk m c 9 t) (iblk m c 10 t) (iblk m c 11 t) r h v = Head.dz (head (args m c)) (rw t r) h v := by
  have e8 := fun k => b8 m c t r h k
  have e9 := fun k => b9 m c t r (col h k)
  have e10 := fun k => b10 m c t k
  simp only [bZ, e8, e9, e10, bd_at]
  rfl

theorem bW_at (r : Fin 256) (h : Fin 8) (v : Fin 128) :
    bW (iblk m c 7 t) (iblk m c 8 t) (iblk m c 9 t) (iblk m c 11 t) r h v = Head.wt (head (args m c)) (rw t r) h v := by
  have e8 := fun k => b8 m c t r h k
  have e9 := fun k => b9 m c t r (col h k)
  simp only [bW, e8, e9, bd_at]
  rfl

/-- The block's chunks. -/
abbrev SB : Scan.Data :=
  sD (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem same (g : Fin 4) : Scan.Same (SB m c t) ⟨g.val, by omega⟩ (scan (args m c)) (ck t g) := by
  have hg : (⟨g.val % 4, Nat.mod_lt _ (by norm_num)⟩ : Fin 4) = g := Fin.ext (Nat.mod_eq_of_lt g.isLt)
  constructor
  · funext h r v; exact (congrArg (fun g => (iblk m c 5 t : Vec Ideal S4x8x64x128 .bf16) (ix4 g h r v)) hg).trans (b5 m c t g h r v)
  · funext h r v; exact (congrArg (fun g => (iblk m c 0 t : Vec Ideal S4x8x64x128 .bf16) (ix4 g h r v)) hg).trans (b0 m c t g h r v)
  · funext h r v; exact (congrArg (fun g => (iblk m c 3 t : Vec Ideal S4x8x64x64 .bf16) (ix4 g h r v)) hg).trans (b3 m c t g h r v)
  · funext h r v; exact (congrArg (fun g => (iblk m c 1 t : Vec Ideal S4x8x64x128 .bf16) (ix4 g h r v)) hg).trans (b1 m c t g h r v)
  · funext h r v; exact (congrArg (fun g => (iblk m c 2 t : Vec Ideal S4x8x64x128 .bf16) (ix4 g h r v)) hg).trans (b2 m c t g h r v)
  · funext h; exact (congrArg (fun g => (iblk m c 4 t : Vec Ideal S4x8x8x128 .f32) (ix4 g h 0 0)) hg).trans (b4 m c t g h 0 0)
  · funext h r v; exact (congrArg (fun g => (iblk m c 6 t : Vec Ideal S4x8x128x128 .bf16) (ix4 g h r v)) hg).trans (b6 m c t g h r v)
  · funext h r v
    refine (bO_at m c t _ h v).trans ?_
    have e : rw t ⟨g.val % 4 * 64 + r.val, by omega⟩ = row (ck t g) r := Fin.ext (by simp only [rw, row, ck]; omega)
    exact congrArg (fun x => Head.dO (head (args m c)) x h v) e

theorem hx4 (g : Fin 4) (h : Fin 8) (v : Fin 128) :
    (iblk m c 4 t : Vec Ideal S4x8x8x128 .f32) (ix4 g h 0 v) = (iblk m c 4 t : Vec Ideal S4x8x8x128 .f32) (ix4 g h 0 0) :=
  (b4 m c t g h 0 v).trans (b4 m c t g h 0 0).symm

/-- The state's gradient within a block. -/
theorem bst_at (k : Nat) (hk : k ≤ 4) : bst (SB m c t) (Scan.dS (scan (args m c)) (4 * t.val)) k = Scan.dS (scan (args m c)) (4 * t.val + k) := by
  induction k with
  | zero => rfl
  | succ k ih =>
    have ht := lt t
    have e : (⟨63 - (4 * t.val + k), by omega⟩ : Fin 64) = ck t ⟨3 - k, by omega⟩ := Fin.ext (by simp only [ck]; omega)
    show Scan.back (SB m c t) (bst (SB m c t) _ k) ⟨3 - k, _⟩ = Scan.back (scan (args m c)) (Scan.dS (scan (args m c)) (4 * t.val + k)) ⟨63 - (4 * t.val + k), _⟩
    rw [ih (by omega), e]
    exact (same m c t ⟨3 - k, by omega⟩).back_eq _

theorem aft_at (n : Fin 4) : bst (SB m c t) (Scan.dS (scan (args m c)) (4 * t.val)) (3 - n.val) = Spec.aft (args m c) (ck t n) := by
  have ht := lt t
  rw [bst_at m c t _ (by omega)]
  have e : 4 * t.val + (3 - n.val) = 63 - (ck t n).val := by simp only [ck]; omega
  exact congrArg (Scan.dS (scan (args m c))) e

/-! The kernel's stores at a point, entry by entry. -/

theorem s16 (n : Fin 4) (h : Fin 8) (r : Fin 64) (v : Fin 128) :
    Scan.dv (SB m c t) (bst (SB m c t) (Scan.dS (scan (args m c)) (4 * t.val)) (3 - n.val)) ⟨n.val, by omega⟩ h r v = Spec.du (args m c) (ix4 (ck t n) h r v) := by
  rw [aft_at]
  exact (same m c t n).dv_eq _ h r v

theorem s17 (n : Fin 4) (h : Fin 8) (r : Fin 64) (v : Fin 128) :
    Scan.dk (SB m c t) (bst (SB m c t) (Scan.dS (scan (args m c)) (4 * t.val)) (3 - n.val)) ⟨n.val, by omega⟩ h r v = Spec.dkd (args m c) (ix4 (ck t n) h r v) := by
  rw [aft_at]
  exact (same m c t n).dk_eq _ h r v

theorem s18 (n : Fin 4) (h : Fin 8) (r : Fin 8) (v : Fin 128) :
    Scan.dd (SB m c t) (bst (SB m c t) (Scan.dS (scan (args m c)) (4 * t.val)) (3 - n.val)) ⟨n.val, by omega⟩ h = Spec.ddl (args m c) (ix4 (ck t n) h r v) := by
  rw [aft_at]
  exact (same m c t n).dd_eq _ h

theorem s19 (r : Fin 256) (j : Fin 1024) :
    flat (bO (iblk m c 7 t) (iblk m c 8 t) (iblk m c 9 t) (iblk m c 10 t) (iblk m c 11 t)) r j = Spec.dO (args m c) (ix2 (rw t r) j) :=
  bO_at m c t r _ _

theorem s20 (r : Fin 256) (j : Fin 1024) :
    flat (bZ (iblk m c 7 t) (iblk m c 8 t) (iblk m c 9 t) (iblk m c 10 t) (iblk m c 11 t)) r j = Spec.dz (args m c) (ix2 (rw t r) j) :=
  bZ_at m c t r _ _

theorem da_at (r : Fin 256) (j : Fin 512) : KAtt.da (iblk m c 12 t) (iblk m c 15 t) r j = (att (args m c)).d (rw t r) j :=
  Finset.sum_congr rfl fun k _ => congrArg₂ (fun x y : EReal => x * y) (b12 m c t r k) (b15 m c t j k)

theorem s22 (r : Fin 256) (j : Fin 512) :
    KAtt.dobl (iblk m c 14 t) (iblk m c 12 t) (iblk m c 15 t) r j = Spec.dob (args m c) (ix2 (rw t r) j) := by
  have e14 := b14 m c t r j
  simp only [KAtt.dobl, da_at, e14]
  rfl

theorem s23 (r : Fin 256) (j : Fin 512) :
    KAtt.dzbl (iblk m c 14 t) (iblk m c 13 t) (iblk m c 12 t) (iblk m c 15 t) r j = Spec.dzb (args m c) (ix2 (rw t r) j) := by
  have e14 := b14 m c t r j
  have e13 := b13 m c t r j
  simp only [KAtt.dzbl, da_at, e14, e13]
  rfl

theorem s24 (r : Fin 256) (j : Fin 512) (hj : j.val / 128 < 4) :
    KAtt.dltl (iblk m c 14 t) (iblk m c 13 t) (iblk m c 12 t) (iblk m c 15 t) r ⟨j.val / 128, hj⟩ = Spec.delta (args m c) (ix2 (rw t r) j) := by
  have e13 := fun j => b13 m c t r j
  have e22 := fun j => s22 m c t r j
  simp only [KAtt.dltl, e13, e22]
  rfl

theorem s21 (v : Fin 128) :
    ∑ h, ∑ r, bW (iblk m c 7 t) (iblk m c 8 t) (iblk m c 9 t) (iblk m c 11 t) r h v = ∑ r, ∑ h, Head.wt (head (args m c)) (rw t r) h v := by
  rw [Finset.sum_comm]
  exact Finset.sum_congr rfl fun r _ => Finset.sum_congr rfl fun h _ => bW_at m c t r h v

end Cert.KPt
-- ==== Proof.KRunA.lean ====
module

public import proofs.«01_k».proof.Proof.KBlk
public import proofs.«01_k».proof.Proof.Gen.KernelIdeal.Frame.RunA

/-! What a block of the kernel stores at the first grid point. -/

@[expose] public section

set_option maxRecDepth 16384
set_option maxHeartbeats 1000000

noncomputable section

namespace Cert.KRunA

open Idealize.ShloMosaic Cert.KernelIdeal Cert.KernelIdeal.Gen Cert.Sc Cert.Head Cert.KBlk

theorem t0 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 0 (View.readAt (Elt Ideal) arg9.view (Rect.unit (s := S256x1024) ![0, 0] S256x128.size inb_S256x1024_S256x128_0_0).toLoadRect (harg9.unread x8))
      (View.readAt (Elt Ideal) arg10.view (Rect.unit (s := S256x1024) ![0, 0] S256x128.size inb_S256x1024_S256x128_0_0).toLoadRect (harg10.unread x9))
      (kernelRun0_A.sl.v67 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 0 _ r v (col 0 v) rfl)
    (fun r v => rdc arg10 harg10 x9 0 _ r v (col 0 v) rfl)
    (fun r v => drd arg27 arg8 harg8 arg12 harg12 0 _ _ _ _ r v (col 0 v) rfl)
    (fun v => rdw arg11 harg11 x10 _ 0 v)

theorem t1 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 1 (View.readAt (Elt Ideal) arg9.view (Rect.unit (s := S256x1024) ![0, 128] S256x128.size inb_S256x1024_S256x128_0_128).toLoadRect (harg9.unread x8))
      (View.readAt (Elt Ideal) arg10.view (Rect.unit (s := S256x1024) ![0, 128] S256x128.size inb_S256x1024_S256x128_0_128).toLoadRect (harg10.unread x9))
      (kernelRun0_A.sl.v131 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 128 _ r v (col 1 v) rfl)
    (fun r v => rdc arg10 harg10 x9 128 _ r v (col 1 v) rfl)
    (fun r v => drd arg27 arg8 harg8 arg12 harg12 128 _ _ _ _ r v (col 1 v) rfl)
    (fun v => rdw arg11 harg11 x10 _ 0 v)

theorem t2 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 2 (View.readAt (Elt Ideal) arg9.view (Rect.unit (s := S256x1024) ![0, 256] S256x128.size inb_S256x1024_S256x128_0_256).toLoadRect (harg9.unread x8))
      (View.readAt (Elt Ideal) arg10.view (Rect.unit (s := S256x1024) ![0, 256] S256x128.size inb_S256x1024_S256x128_0_256).toLoadRect (harg10.unread x9))
      (kernelRun0_A.sl.v195 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 256 _ r v (col 2 v) rfl)
    (fun r v => rdc arg10 harg10 x9 256 _ r v (col 2 v) rfl)
    (fun r v => drd arg27 arg8 harg8 arg12 harg12 256 _ _ _ _ r v (col 2 v) rfl)
    (fun v => rdw arg11 harg11 x10 _ 0 v)

theorem t3 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 3 (View.readAt (Elt Ideal) arg9.view (Rect.unit (s := S256x1024) ![0, 384] S256x128.size inb_S256x1024_S256x128_0_384).toLoadRect (harg9.unread x8))
      (View.readAt (Elt Ideal) arg10.view (Rect.unit (s := S256x1024) ![0, 384] S256x128.size inb_S256x1024_S256x128_0_384).toLoadRect (harg10.unread x9))
      (kernelRun0_A.sl.v259 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 384 _ r v (col 3 v) rfl)
    (fun r v => rdc arg10 harg10 x9 384 _ r v (col 3 v) rfl)
    (fun r v => drd arg27 arg8 harg8 arg12 harg12 384 _ _ _ _ r v (col 3 v) rfl)
    (fun v => rdw arg11 harg11 x10 _ 0 v)

theorem t4 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 4 (View.readAt (Elt Ideal) arg9.view (Rect.unit (s := S256x1024) ![0, 512] S256x128.size inb_S256x1024_S256x128_0_512).toLoadRect (harg9.unread x8))
      (View.readAt (Elt Ideal) arg10.view (Rect.unit (s := S256x1024) ![0, 512] S256x128.size inb_S256x1024_S256x128_0_512).toLoadRect (harg10.unread x9))
      (kernelRun0_A.sl.v323 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 512 _ r v (col 4 v) rfl)
    (fun r v => rdc arg10 harg10 x9 512 _ r v (col 4 v) rfl)
    (fun r v => drd arg27 arg8 harg8 arg12 harg12 512 _ _ _ _ r v (col 4 v) rfl)
    (fun v => rdw arg11 harg11 x10 _ 0 v)

theorem t5 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 5 (View.readAt (Elt Ideal) arg9.view (Rect.unit (s := S256x1024) ![0, 640] S256x128.size inb_S256x1024_S256x128_0_640).toLoadRect (harg9.unread x8))
      (View.readAt (Elt Ideal) arg10.view (Rect.unit (s := S256x1024) ![0, 640] S256x128.size inb_S256x1024_S256x128_0_640).toLoadRect (harg10.unread x9))
      (kernelRun0_A.sl.v387 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 640 _ r v (col 5 v) rfl)
    (fun r v => rdc arg10 harg10 x9 640 _ r v (col 5 v) rfl)
    (fun r v => drd arg27 arg8 harg8 arg12 harg12 640 _ _ _ _ r v (col 5 v) rfl)
    (fun v => rdw arg11 harg11 x10 _ 0 v)

theorem t6 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 6 (View.readAt (Elt Ideal) arg9.view (Rect.unit (s := S256x1024) ![0, 768] S256x128.size inb_S256x1024_S256x128_0_768).toLoadRect (harg9.unread x8))
      (View.readAt (Elt Ideal) arg10.view (Rect.unit (s := S256x1024) ![0, 768] S256x128.size inb_S256x1024_S256x128_0_768).toLoadRect (harg10.unread x9))
      (kernelRun0_A.sl.v451 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 768 _ r v (col 6 v) rfl)
    (fun r v => rdc arg10 harg10 x9 768 _ r v (col 6 v) rfl)
    (fun r v => drd arg27 arg8 harg8 arg12 harg12 768 _ _ _ _ r v (col 6 v) rfl)
    (fun v => rdw arg11 harg11 x10 _ 0 v)

theorem t7 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 7 (View.readAt (Elt Ideal) arg9.view (Rect.unit (s := S256x1024) ![0, 896] S256x128.size inb_S256x1024_S256x128_0_896).toLoadRect (harg9.unread x8))
      (View.readAt (Elt Ideal) arg10.view (Rect.unit (s := S256x1024) ![0, 896] S256x128.size inb_S256x1024_S256x128_0_896).toLoadRect (harg10.unread x9))
      (kernelRun0_A.sl.v515 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 896 _ r v (col 7 v) rfl)
    (fun r v => rdc arg10 harg10 x9 896 _ r v (col 7 v) rfl)
    (fun r v => drd arg27 arg8 harg8 arg12 harg12 896 _ _ _ _ r v (col 7 v) rfl)
    (fun v => rdw arg11 harg11 x10 _ 0 v)

theorem cDo (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (r : Fin 256) (j : Fin 1024) :
    View.canon (kernelRun0_A.sl.H19_8 (F := Ideal) dev arg8 harg8 arg9 harg9 arg10 harg10 arg11 harg11 arg12 harg12 arg27 x7 x8 x9 x10 x11) (ix2 r j) = flat (bO x7 x8 x9 x10 x11) r j := by
  unfold kernelRun0_A.sl.H19_8
  refine View.canon_eq_of_allAt _ _ _ (View.cover_of_tiled_head _ _ _ rfl _) ?_
  exact View.allAt_cons_unit _ _ _ _ _ (tile (m := 256) (n := 1024) (e := .f32) (flat (bO x7 x8 x9 x10 x11)) 896 128 r j _ (col 7) (fun _ => rfl) fun r v =>
      ((KHead.do7 _ _ _ _ r v).trans ((t7 dev arg8 harg8 arg9 harg9 arg10 harg10 arg11 harg11 arg12 harg12 arg27 x7 x8 x9 x10 x11).dO r v)).trans (flat_col _ r 7 v).symm) <|
    View.allAt_cons_unit _ _ _ _ _ (tile (m := 256) (n := 1024) (e := .f32) (flat (bO x7 x8 x9 x10 x11)) 768 128 r j _ (col 6) (fun _ => rfl) fun r v =>
      ((KHead.do6 _ _ _ _ r v).trans ((t6 dev arg8 harg8 arg9 harg9 arg10 harg10 arg11 harg11 arg12 harg12 arg27 x7 x8 x9 x10 x11).dO r v)).trans (flat_col _ r 6 v).symm) <|
    View.allAt_cons_unit _ _ _ _ _ (tile (m := 256) (n := 1024) (e := .f32) (flat (bO x7 x8 x9 x10 x11)) 640 128 r j _ (col 5) (fun _ => rfl) fun r v =>
      ((KHead.do5 _ _ _ _ r v).trans ((t5 dev arg8 harg8 arg9 harg9 arg10 harg10 arg11 harg11 arg12 harg12 arg27 x7 x8 x9 x10 x11).dO r v)).trans (flat_col _ r 5 v).symm) <|
    View.allAt_cons_unit _ _ _ _ _ (tile (m := 256) (n := 1024) (e := .f32) (flat (bO x7 x8 x9 x10 x11)) 512 128 r j _ (col 4) (fun _ => rfl) fun r v =>
      ((KHead.do4 _ _ _ _ r v).trans ((t4 dev arg8 harg8 arg9 harg9 arg10 harg10 arg11 harg11 arg12 harg12 arg27 x7 x8 x9 x10 x11).dO r v)).trans (flat_col _ r 4 v).symm) <|
    View.allAt_cons_unit _ _ _ _ _ (tile (m := 256) (n := 1024) (e := .f32) (flat (bO x7 x8 x9 x10 x11)) 384 128 r j _ (col 3) (fun _ => rfl) fun r v =>
      ((KHead.do3 _ _ _ _ r v).trans ((t3 dev arg8 harg8 arg9 harg9 arg10 harg10 arg11 harg11 arg12 harg12 arg27 x7 x8 x9 x10 x11).dO r v)).trans (flat_col _ r 3 v).symm) <|
    View.allAt_cons_unit _ _ _ _ _ (tile (m := 256) (n := 1024) (e := .f32) (flat (bO x7 x8 x9 x10 x11)) 256 128 r j _ (col 2) (fun _ => rfl) fun r v =>
      ((KHead.do2 _ _ _ _ r v).trans ((t2 dev arg8 harg8 arg9 harg9 arg10 harg10 arg11 harg11 arg12 harg12 arg27 x7 x8 x9 x10 x11).dO r v)).trans (flat_col _ r 2 v).symm) <|
    View.allAt_cons_unit _ _ _ _ _ (tile (m := 256) (n := 1024) (e := .f32) (flat (bO x7 x8 x9 x10 x11)) 128 128 r j _ (col 1) (fun _ => rfl) fun r v =>
      ((KHead.do1 _ _ _ _ r v).trans ((t1 dev arg8 harg8 arg9 harg9 arg10 harg10 arg11 harg11 arg12 harg12 arg27 x7 x8 x9 x10 x11).dO r v)).trans (flat_col _ r 1 v).symm) <|
    View.allAt_cons_unit _ _ _ _ _ (tile (m := 256) (n := 1024) (e := .f32) (flat (bO x7 x8 x9 x10 x11)) 0 128 r j _ (col 0) (fun _ => rfl) fun r v =>
      ((KHead.do0 _ _ _ _ r v).trans ((t0 dev arg8 harg8 arg9 harg9 arg10 harg10 arg11 harg11 arg12 harg12 arg27 x7 x8 x9 x10 x11).dO r v)).trans (flat_col _ r 0 v).symm) <|
    View.allAt_nil _ _

theorem stk3 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (h : Fin 8) (c : Fin 64) (v : Fin 128) :
    KScan.stk (kernelRun0_A.sl.v590 (F := Ideal) dev arg8 harg8 arg9 harg9 arg10 harg10 arg11 harg11 arg12 harg12 arg20 arg27 x7 x8 x9 x10 x11) (kernelRun0_A.sl.v592 (F := Ideal) dev arg8 harg8 arg9 harg9 arg10 harg10 arg11 harg11 arg12 harg12 arg20 arg27 x7 x8 x9 x10 x11) (kernelRun0_A.sl.v594 (F := Ideal) dev arg8 harg8 arg9 harg9 arg10 harg10 arg11 harg11 arg12 harg12 arg20 arg27 x7 x8 x9 x10 x11) (kernelRun0_A.sl.v596 (F := Ideal) dev arg8 harg8 arg9 harg9 arg10 harg10 arg11 harg11 arg12 harg12 arg20 arg27 x7 x8 x9 x10 x11) (kernelRun0_A.sl.v598 (F := Ideal) dev arg8 harg8 arg9 harg9 arg10 harg10 arg11 harg11 arg12 harg12 arg20 arg27 x7 x8 x9 x10 x11) (kernelRun0_A.sl.v600 (F := Ideal) dev arg8 harg8 arg9 harg9 arg10 harg10 arg11 harg11 arg12 harg12 arg20 arg27 x7 x8 x9 x10 x11) (kernelRun0_A.sl.v602 (F := Ideal) dev arg8 harg8 arg9 harg9 arg10 harg10 arg11 harg11 arg12 harg12 arg20 arg27 x7 x8 x9 x10 x11) (kernelRun0_A.sl.v604 (F := Ideal) dev arg8 harg8 arg9 harg9 arg10 harg10 arg11 harg11 arg12 harg12 arg20 arg27 x7 x8 x9 x10 x11) h c v
      = bO x7 x8 x9 x10 x11 ⟨192 + c.val, by omega⟩ h v := stk_eq
    (G := fun h (c : Fin 64) v => bO x7 x8 x9 x10 x11 ⟨192 + c.val, by omega⟩ h v)
    (fun c v => (rcv arg20 _ _ (cDo dev arg8 harg8 arg9 harg9 arg10 harg10 arg11 harg11 arg12 harg12 arg27 x7 x8 x9 x10 x11) 192 0 _ c v ⟨192 + c.val, by omega⟩ (col 0 v) rfl rfl).trans (flat_col _ _ _ _))
    (fun c v => (rcv arg20 _ _ (cDo dev arg8 harg8 arg9 harg9 arg10 harg10 arg11 harg11 arg12 harg12 arg27 x7 x8 x9 x10 x11) 192 128 _ c v ⟨192 + c.val, by omega⟩ (col 1 v) rfl rfl).trans (flat_col _ _ _ _))
    (fun c v => (rcv arg20 _ _ (cDo dev arg8 harg8 arg9 harg9 arg10 harg10 arg11 harg11 arg12 harg12 arg27 x7 x8 x9 x10 x11) 192 256 _ c v ⟨192 + c.val, by omega⟩ (col 2 v) rfl rfl).trans (flat_col _ _ _ _))
    (fun c v => (rcv arg20 _ _ (cDo dev arg8 harg8 arg9 harg9 arg10 harg10 arg11 harg11 arg12 harg12 arg27 x7 x8 x9 x10 x11) 192 384 _ c v ⟨192 + c.val, by omega⟩ (col 3 v) rfl rfl).trans (flat_col _ _ _ _))
    (fun c v => (rcv arg20 _ _ (cDo dev arg8 harg8 arg9 harg9 arg10 harg10 arg11 harg11 arg12 harg12 arg27 x7 x8 x9 x10 x11) 192 512 _ c v ⟨192 + c.val, by omega⟩ (col 4 v) rfl rfl).trans (flat_col _ _ _ _))
    (fun c v => (rcv arg20 _ _ (cDo dev arg8 harg8 arg9 harg9 arg10 harg10 arg11 harg11 arg12 harg12 arg27 x7 x8 x9 x10 x11) 192 640 _ c v ⟨192 + c.val, by omega⟩ (col 5 v) rfl rfl).trans (flat_col _ _ _ _))
    (fun c v => (rcv arg20 _ _ (cDo dev arg8 harg8 arg9 harg9 arg10 harg10 arg11 harg11 arg12 harg12 arg27 x7 x8 x9 x10 x11) 192 768 _ c v ⟨192 + c.val, by omega⟩ (col 6 v) rfl rfl).trans (flat_col _ _ _ _))
    (fun c v => (rcv arg20 _ _ (cDo dev arg8 harg8 arg9 harg9 arg10 harg10 arg11 harg11 arg12 harg12 arg27 x7 x8 x9 x10 x11) 192 896 _ c v ⟨192 + c.val, by omega⟩ (col 7 v) rfl rfl).trans (flat_col _ _ _ _)) h c v

theorem stk2 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (h : Fin 8) (c : Fin 64) (v : Fin 128) :
    KScan.stk (kernelRun0_A.sl.v666 (F := Ideal) dev arg8 harg8 arg9 harg9 arg10 harg10 arg11 harg11 arg12 harg12 arg20 arg27 x7 x8 x9 x10 x11) (kernelRun0_A.sl.v668 (F := Ideal) dev arg8 harg8 arg9 harg9 arg10 harg10 arg11 harg11 arg12 harg12 arg20 arg27 x7 x8 x9 x10 x11) (kernelRun0_A.sl.v670 (F := Ideal) dev arg8 harg8 arg9 harg9 arg10 harg10 arg11 harg11 arg12 harg12 arg20 arg27 x7 x8 x9 x10 x11) (kernelRun0_A.sl.v672 (F := Ideal) dev arg8 harg8 arg9 harg9 arg10 harg10 arg11 harg11 arg12 harg12 arg20 arg27 x7 x8 x9 x10 x11) (kernelRun0_A.sl.v674 (F := Ideal) dev arg8 harg8 arg9 harg9 arg10 harg10 arg11 harg11 arg12 harg12 arg20 arg27 x7 x8 x9 x10 x11) (kernelRun0_A.sl.v676 (F := Ideal) dev arg8 harg8 arg9 harg9 arg10 harg10 arg11 harg11 arg12 harg12 arg20 arg27 x7 x8 x9 x10 x11) (kernelRun0_A.sl.v678 (F := Ideal) dev arg8 harg8 arg9 harg9 arg10 harg10 arg11 harg11 arg12 harg12 arg20 arg27 x7 x8 x9 x10 x11) (kernelRun0_A.sl.v680 (F := Ideal) dev arg8 harg8 arg9 harg9 arg10 harg10 arg11 harg11 arg12 harg12 arg20 arg27 x7 x8 x9 x10 x11) h c v
      = bO x7 x8 x9 x10 x11 ⟨128 + c.val, by omega⟩ h v := stk_eq
    (G := fun h (c : Fin 64) v => bO x7 x8 x9 x10 x11 ⟨128 + c.val, by omega⟩ h v)
    (fun c v => (rcv arg20 _ _ (cDo dev arg8 harg8 arg9 harg9 arg10 harg10 arg11 harg11 arg12 harg12 arg27 x7 x8 x9 x10 x11) 128 0 _ c v ⟨128 + c.val, by omega⟩ (col 0 v) rfl rfl).trans (flat_col _ _ _ _))
    (fun c v => (rcv arg20 _ _ (cDo dev arg8 harg8 arg9 harg9 arg10 harg10 arg11 harg11 arg12 harg12 arg27 x7 x8 x9 x10 x11) 128 128 _ c v ⟨128 + c.val, by omega⟩ (col 1 v) rfl rfl).trans (flat_col _ _ _ _))
    (fun c v => (rcv arg20 _ _ (cDo dev arg8 harg8 arg9 harg9 arg10 harg10 arg11 harg11 arg12 harg12 arg27 x7 x8 x9 x10 x11) 128 256 _ c v ⟨128 + c.val, by omega⟩ (col 2 v) rfl rfl).trans (flat_col _ _ _ _))
    (fun c v => (rcv arg20 _ _ (cDo dev arg8 harg8 arg9 harg9 arg10 harg10 arg11 harg11 arg12 harg12 arg27 x7 x8 x9 x10 x11) 128 384 _ c v ⟨128 + c.val, by omega⟩ (col 3 v) rfl rfl).trans (flat_col _ _ _ _))
    (fun c v => (rcv arg20 _ _ (cDo dev arg8 harg8 arg9 harg9 arg10 harg10 arg11 harg11 arg12 harg12 arg27 x7 x8 x9 x10 x11) 128 512 _ c v ⟨128 + c.val, by omega⟩ (col 4 v) rfl rfl).trans (flat_col _ _ _ _))
    (fun c v => (rcv arg20 _ _ (cDo dev arg8 harg8 arg9 harg9 arg10 harg10 arg11 harg11 arg12 harg12 arg27 x7 x8 x9 x10 x11) 128 640 _ c v ⟨128 + c.val, by omega⟩ (col 5 v) rfl rfl).trans (flat_col _ _ _ _))
    (fun c v => (rcv arg20 _ _ (cDo dev arg8 harg8 arg9 harg9 arg10 harg10 arg11 harg11 arg12 harg12 arg27 x7 x8 x9 x10 x11) 128 768 _ c v ⟨128 + c.val, by omega⟩ (col 6 v) rfl rfl).trans (flat_col _ _ _ _))
    (fun c v => (rcv arg20 _ _ (cDo dev arg8 harg8 arg9 harg9 arg10 harg10 arg11 harg11 arg12 harg12 arg27 x7 x8 x9 x10 x11) 128 896 _ c v ⟨128 + c.val, by omega⟩ (col 7 v) rfl rfl).trans (flat_col _ _ _ _)) h c v

theorem stk1 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (h : Fin 8) (c : Fin 64) (v : Fin 128) :
    KScan.stk (kernelRun0_A.sl.v742 (F := Ideal) dev arg8 harg8 arg9 harg9 arg10 harg10 arg11 harg11 arg12 harg12 arg20 arg27 x7 x8 x9 x10 x11) (kernelRun0_A.sl.v744 (F := Ideal) dev arg8 harg8 arg9 harg9 arg10 harg10 arg11 harg11 arg12 harg12 arg20 arg27 x7 x8 x9 x10 x11) (kernelRun0_A.sl.v746 (F := Ideal) dev arg8 harg8 arg9 harg9 arg10 harg10 arg11 harg11 arg12 harg12 arg20 arg27 x7 x8 x9 x10 x11) (kernelRun0_A.sl.v748 (F := Ideal) dev arg8 harg8 arg9 harg9 arg10 harg10 arg11 harg11 arg12 harg12 arg20 arg27 x7 x8 x9 x10 x11) (kernelRun0_A.sl.v750 (F := Ideal) dev arg8 harg8 arg9 harg9 arg10 harg10 arg11 harg11 arg12 harg12 arg20 arg27 x7 x8 x9 x10 x11) (kernelRun0_A.sl.v752 (F := Ideal) dev arg8 harg8 arg9 harg9 arg10 harg10 arg11 harg11 arg12 harg12 arg20 arg27 x7 x8 x9 x10 x11) (kernelRun0_A.sl.v754 (F := Ideal) dev arg8 harg8 arg9 harg9 arg10 harg10 arg11 harg11 arg12 harg12 arg20 arg27 x7 x8 x9 x10 x11) (kernelRun0_A.sl.v756 (F := Ideal) dev arg8 harg8 arg9 harg9 arg10 harg10 arg11 harg11 arg12 harg12 arg20 arg27 x7 x8 x9 x10 x11) h c v
      = bO x7 x8 x9 x10 x11 ⟨64 + c.val, by omega⟩ h v := stk_eq
    (G := fun h (c : Fin 64) v => bO x7 x8 x9 x10 x11 ⟨64 + c.val, by omega⟩ h v)
    (fun c v => (rcv arg20 _ _ (cDo dev arg8 harg8 arg9 harg9 arg10 harg10 arg11 harg11 arg12 harg12 arg27 x7 x8 x9 x10 x11) 64 0 _ c v ⟨64 + c.val, by omega⟩ (col 0 v) rfl rfl).trans (flat_col _ _ _ _))
    (fun c v => (rcv arg20 _ _ (cDo dev arg8 harg8 arg9 harg9 arg10 harg10 arg11 harg11 arg12 harg12 arg27 x7 x8 x9 x10 x11) 64 128 _ c v ⟨64 + c.val, by omega⟩ (col 1 v) rfl rfl).trans (flat_col _ _ _ _))
    (fun c v => (rcv arg20 _ _ (cDo dev arg8 harg8 arg9 harg9 arg10 harg10 arg11 harg11 arg12 harg12 arg27 x7 x8 x9 x10 x11) 64 256 _ c v ⟨64 + c.val, by omega⟩ (col 2 v) rfl rfl).trans (flat_col _ _ _ _))
    (fun c v => (rcv arg20 _ _ (cDo dev arg8 harg8 arg9 harg9 arg10 harg10 arg11 harg11 arg12 harg12 arg27 x7 x8 x9 x10 x11) 64 384 _ c v ⟨64 + c.val, by omega⟩ (col 3 v) rfl rfl).trans (flat_col _ _ _ _))
    (fun c v => (rcv arg20 _ _ (cDo dev arg8 harg8 arg9 harg9 arg10 harg10 arg11 harg11 arg12 harg12 arg27 x7 x8 x9 x10 x11) 64 512 _ c v ⟨64 + c.val, by omega⟩ (col 4 v) rfl rfl).trans (flat_col _ _ _ _))
    (fun c v => (rcv arg20 _ _ (cDo dev arg8 harg8 arg9 harg9 arg10 harg10 arg11 harg11 arg12 harg12 arg27 x7 x8 x9 x10 x11) 64 640 _ c v ⟨64 + c.val, by omega⟩ (col 5 v) rfl rfl).trans (flat_col _ _ _ _))
    (fun c v => (rcv arg20 _ _ (cDo dev arg8 harg8 arg9 harg9 arg10 harg10 arg11 harg11 arg12 harg12 arg27 x7 x8 x9 x10 x11) 64 768 _ c v ⟨64 + c.val, by omega⟩ (col 6 v) rfl rfl).trans (flat_col _ _ _ _))
    (fun c v => (rcv arg20 _ _ (cDo dev arg8 harg8 arg9 harg9 arg10 harg10 arg11 harg11 arg12 harg12 arg27 x7 x8 x9 x10 x11) 64 896 _ c v ⟨64 + c.val, by omega⟩ (col 7 v) rfl rfl).trans (flat_col _ _ _ _)) h c v

theorem stk0 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (h : Fin 8) (c : Fin 64) (v : Fin 128) :
    KScan.stk (kernelRun0_A.sl.v818 (F := Ideal) dev arg8 harg8 arg9 harg9 arg10 harg10 arg11 harg11 arg12 harg12 arg20 arg27 x7 x8 x9 x10 x11) (kernelRun0_A.sl.v820 (F := Ideal) dev arg8 harg8 arg9 harg9 arg10 harg10 arg11 harg11 arg12 harg12 arg20 arg27 x7 x8 x9 x10 x11) (kernelRun0_A.sl.v822 (F := Ideal) dev arg8 harg8 arg9 harg9 arg10 harg10 arg11 harg11 arg12 harg12 arg20 arg27 x7 x8 x9 x10 x11) (kernelRun0_A.sl.v824 (F := Ideal) dev arg8 harg8 arg9 harg9 arg10 harg10 arg11 harg11 arg12 harg12 arg20 arg27 x7 x8 x9 x10 x11) (kernelRun0_A.sl.v826 (F := Ideal) dev arg8 harg8 arg9 harg9 arg10 harg10 arg11 harg11 arg12 harg12 arg20 arg27 x7 x8 x9 x10 x11) (kernelRun0_A.sl.v828 (F := Ideal) dev arg8 harg8 arg9 harg9 arg10 harg10 arg11 harg11 arg12 harg12 arg20 arg27 x7 x8 x9 x10 x11) (kernelRun0_A.sl.v830 (F := Ideal) dev arg8 harg8 arg9 harg9 arg10 harg10 arg11 harg11 arg12 harg12 arg20 arg27 x7 x8 x9 x10 x11) (kernelRun0_A.sl.v832 (F := Ideal) dev arg8 harg8 arg9 harg9 arg10 harg10 arg11 harg11 arg12 harg12 arg20 arg27 x7 x8 x9 x10 x11) h c v
      = bO x7 x8 x9 x10 x11 ⟨0 + c.val, by omega⟩ h v := stk_eq
    (G := fun h (c : Fin 64) v => bO x7 x8 x9 x10 x11 ⟨0 + c.val, by omega⟩ h v)
    (fun c v => (rcv arg20 _ _ (cDo dev arg8 harg8 arg9 harg9 arg10 harg10 arg11 harg11 arg12 harg12 arg27 x7 x8 x9 x10 x11) 0 0 _ c v ⟨0 + c.val, by omega⟩ (col 0 v) rfl rfl).trans (flat_col _ _ _ _))
    (fun c v => (rcv arg20 _ _ (cDo dev arg8 harg8 arg9 harg9 arg10 harg10 arg11 harg11 arg12 harg12 arg27 x7 x8 x9 x10 x11) 0 128 _ c v ⟨0 + c.val, by omega⟩ (col 1 v) rfl rfl).trans (flat_col _ _ _ _))
    (fun c v => (rcv arg20 _ _ (cDo dev arg8 harg8 arg9 harg9 arg10 harg10 arg11 harg11 arg12 harg12 arg27 x7 x8 x9 x10 x11) 0 256 _ c v ⟨0 + c.val, by omega⟩ (col 2 v) rfl rfl).trans (flat_col _ _ _ _))
    (fun c v => (rcv arg20 _ _ (cDo dev arg8 harg8 arg9 harg9 arg10 harg10 arg11 harg11 arg12 harg12 arg27 x7 x8 x9 x10 x11) 0 384 _ c v ⟨0 + c.val, by omega⟩ (col 3 v) rfl rfl).trans (flat_col _ _ _ _))
    (fun c v => (rcv arg20 _ _ (cDo dev arg8 harg8 arg9 harg9 arg10 harg10 arg11 harg11 arg12 harg12 arg27 x7 x8 x9 x10 x11) 0 512 _ c v ⟨0 + c.val, by omega⟩ (col 4 v) rfl rfl).trans (flat_col _ _ _ _))
    (fun c v => (rcv arg20 _ _ (cDo dev arg8 harg8 arg9 harg9 arg10 harg10 arg11 harg11 arg12 harg12 arg27 x7 x8 x9 x10 x11) 0 640 _ c v ⟨0 + c.val, by omega⟩ (col 5 v) rfl rfl).trans (flat_col _ _ _ _))
    (fun c v => (rcv arg20 _ _ (cDo dev arg8 harg8 arg9 harg9 arg10 harg10 arg11 harg11 arg12 harg12 arg27 x7 x8 x9 x10 x11) 0 768 _ c v ⟨0 + c.val, by omega⟩ (col 6 v) rfl rfl).trans (flat_col _ _ _ _))
    (fun c v => (rcv arg20 _ _ (cDo dev arg8 harg8 arg9 harg9 arg10 harg10 arg11 harg11 arg12 harg12 arg27 x7 x8 x9 x10 x11) 0 896 _ c v ⟨0 + c.val, by omega⟩ (col 7 v) rfl rfl).trans (flat_col _ _ _ _)) h c v

theorem s3 (dev : Dev nD) (arg26 : Memref sig .tc .vmem S8x128x128 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (h : Fin 8) (k v : Fin 128) :
    (kernelRun0_A.sl.v588 (F := Ideal) dev arg26) (ix3 h k v) = (bst (sD x0 x1 x2 x3 x4 x5 x6 x7 x8 x9 x10 x11) (fun _ _ _ => 0) 0) h k v :=
  (congrFun (View.readCov_cons_unit_lit' arg26.view _ _ _ _ (by decide) (by decide)) _).trans (KAtt.zeroS h k v)

theorem dv3 (dev : Dev nD) (arg3 : Memref sig .tc .vmem S4x8x64x128 .bf16) (harg3 : arg3.IsWhole) (arg4 : Memref sig .tc .vmem S4x8x64x64 .bf16) (harg4 : arg4.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (h : Fin 8) (c : Fin 64) (v : Fin 128) :
    (kernelRun0_A.sl.r_68 (F := Ideal) dev arg3 harg3 arg4 harg4 arg8 harg8 arg9 harg9 arg10 harg10 arg11 harg11 arg12 harg12 arg20 arg26 arg27 x2 x3 x7 x8 x9 x10 x11) (ix3 h c v) = Scan.dv (sD x0 x1 x2 x3 x4 x5 x6 x7 x8 x9 x10 x11) (bst (sD x0 x1 x2 x3 x4 x5 x6 x7 x8 x9 x10 x11) (fun _ _ _ => 0) 0) 3 h c v :=
  (KScan.dv3 _ _ _ _ _ _ _ _ _ _ _ h c v).trans (dv_eq (s3 dev arg26 x0 x1 x2 x3 x4 x5 x6 x7 x8 x9 x10 x11) (stk3 dev arg8 harg8 arg9 harg9 arg10 harg10 arg11 harg11 arg12 harg12 arg20 arg27 x7 x8 x9 x10 x11)
    (fun h c i => rd4 arg4 harg4 x3 3 _ 3 rfl h c i) (fun h c k => rd4 arg3 harg3 x2 3 _ 3 rfl h c k) h c v)

theorem s2 (dev : Dev nD) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (hx4 : ∀ (g : Fin 4) (h : Fin 8) (v : Fin 128), x4 (ix4 g h 0 v) = x4 (ix4 g h 0 0)) (h : Fin 8) (k v : Fin 128) :
    (kernelRun0_A.sl.v664 (F := Ideal) dev arg1 harg1 arg2 harg2 arg3 harg3 arg4 harg4 arg5 harg5 arg8 harg8 arg9 harg9 arg10 harg10 arg11 harg11 arg12 harg12 arg20 arg26 arg27 x0 x1 x2 x3 x4 x7 x8 x9 x10 x11) (ix3 h k v) = (bst (sD x0 x1 x2 x3 x4 x5 x6 x7 x8 x9 x10 x11) (fun _ _ _ => 0) 1) h k v :=
  (congrFun (View.readCov_cons_unit_lit' arg26.view _ _ _ _ (by decide) (by decide)) _).trans <|
  (KScan.bk3 _ _ _ _ _ _ _ _ _ _ _ _ _ h k v).trans (bk_eq (s3 dev arg26 x0 x1 x2 x3 x4 x5 x6 x7 x8 x9 x10 x11) (stk3 dev arg8 harg8 arg9 harg9 arg10 harg10 arg11 harg11 arg12 harg12 arg20 arg27 x7 x8 x9 x10 x11)
    (fun h v => (rd4 arg5 harg5 x4 3 _ 3 rfl h 0 v).trans (hx4 3 h v)) (fun h c k => rd4 arg2 harg2 x1 3 _ 3 rfl h c k)
    (fun h c k => rd4 arg1 harg1 x0 3 _ 3 rfl h c k) (dv3 dev arg3 harg3 arg4 harg4 arg8 harg8 arg9 harg9 arg10 harg10 arg11 harg11 arg12 harg12 arg20 arg26 arg27 x0 x1 x2 x3 x4 x5 x6 x7 x8 x9 x10 x11) h k v)

theorem dv2 (dev : Dev nD) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (hx4 : ∀ (g : Fin 4) (h : Fin 8) (v : Fin 128), x4 (ix4 g h 0 v) = x4 (ix4 g h 0 0)) (h : Fin 8) (c : Fin 64) (v : Fin 128) :
    (kernelRun0_A.sl.r_72 (F := Ideal) dev arg1 harg1 arg2 harg2 arg3 harg3 arg4 harg4 arg5 harg5 arg8 harg8 arg9 harg9 arg10 harg10 arg11 harg11 arg12 harg12 arg20 arg26 arg27 x0 x1 x2 x3 x4 x7 x8 x9 x10 x11) (ix3 h c v) = Scan.dv (sD x0 x1 x2 x3 x4 x5 x6 x7 x8 x9 x10 x11) (bst (sD x0 x1 x2 x3 x4 x5 x6 x7 x8 x9 x10 x11) (fun _ _ _ => 0) 1) 2 h c v :=
  (KScan.dv2 _ _ _ _ _ _ _ _ _ _ _ h c v).trans (dv_eq (s2 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) (stk2 dev arg8 harg8 arg9 harg9 arg10 harg10 arg11 harg11 arg12 harg12 arg20 arg27 x7 x8 x9 x10 x11)
    (fun h c i => rd4 arg4 harg4 x3 2 _ 2 rfl h c i) (fun h c k => rd4 arg3 harg3 x2 2 _ 2 rfl h c k) h c v)

theorem s1 (dev : Dev nD) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (hx4 : ∀ (g : Fin 4) (h : Fin 8) (v : Fin 128), x4 (ix4 g h 0 v) = x4 (ix4 g h 0 0)) (h : Fin 8) (k v : Fin 128) :
    (kernelRun0_A.sl.v740 (F := Ideal) dev arg1 harg1 arg2 harg2 arg3 harg3 arg4 harg4 arg5 harg5 arg8 harg8 arg9 harg9 arg10 harg10 arg11 harg11 arg12 harg12 arg20 arg26 arg27 x0 x1 x2 x3 x4 x7 x8 x9 x10 x11) (ix3 h k v) = (bst (sD x0 x1 x2 x3 x4 x5 x6 x7 x8 x9 x10 x11) (fun _ _ _ => 0) 2) h k v :=
  (congrFun (View.readCov_cons_unit_lit' arg26.view _ _ _ _ (by decide) (by decide)) _).trans <|
  (KScan.bk2 _ _ _ _ _ _ _ _ _ _ _ _ _ h k v).trans (bk_eq (s2 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) (stk2 dev arg8 harg8 arg9 harg9 arg10 harg10 arg11 harg11 arg12 harg12 arg20 arg27 x7 x8 x9 x10 x11)
    (fun h v => (rd4 arg5 harg5 x4 2 _ 2 rfl h 0 v).trans (hx4 2 h v)) (fun h c k => rd4 arg2 harg2 x1 2 _ 2 rfl h c k)
    (fun h c k => rd4 arg1 harg1 x0 2 _ 2 rfl h c k) (dv2 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) h k v)

theorem dv1 (dev : Dev nD) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (hx4 : ∀ (g : Fin 4) (h : Fin 8) (v : Fin 128), x4 (ix4 g h 0 v) = x4 (ix4 g h 0 0)) (h : Fin 8) (c : Fin 64) (v : Fin 128) :
    (kernelRun0_A.sl.r_83 (F := Ideal) dev arg1 harg1 arg2 harg2 arg3 harg3 arg4 harg4 arg5 harg5 arg8 harg8 arg9 harg9 arg10 harg10 arg11 harg11 arg12 harg12 arg20 arg26 arg27 x0 x1 x2 x3 x4 x7 x8 x9 x10 x11) (ix3 h c v) = Scan.dv (sD x0 x1 x2 x3 x4 x5 x6 x7 x8 x9 x10 x11) (bst (sD x0 x1 x2 x3 x4 x5 x6 x7 x8 x9 x10 x11) (fun _ _ _ => 0) 2) 1 h c v :=
  (KScan.dv1 _ _ _ _ _ _ _ _ _ _ _ h c v).trans (dv_eq (s1 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) (stk1 dev arg8 harg8 arg9 harg9 arg10 harg10 arg11 harg11 arg12 harg12 arg20 arg27 x7 x8 x9 x10 x11)
    (fun h c i => rd4 arg4 harg4 x3 1 _ 1 rfl h c i) (fun h c k => rd4 arg3 harg3 x2 1 _ 1 rfl h c k) h c v)

theorem s0 (dev : Dev nD) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (hx4 : ∀ (g : Fin 4) (h : Fin 8) (v : Fin 128), x4 (ix4 g h 0 v) = x4 (ix4 g h 0 0)) (h : Fin 8) (k v : Fin 128) :
    (kernelRun0_A.sl.v816 (F := Ideal) dev arg1 harg1 arg2 harg2 arg3 harg3 arg4 harg4 arg5 harg5 arg8 harg8 arg9 harg9 arg10 harg10 arg11 harg11 arg12 harg12 arg20 arg26 arg27 x0 x1 x2 x3 x4 x7 x8 x9 x10 x11) (ix3 h k v) = (bst (sD x0 x1 x2 x3 x4 x5 x6 x7 x8 x9 x10 x11) (fun _ _ _ => 0) 3) h k v :=
  (congrFun (View.readCov_cons_unit_lit' arg26.view _ _ _ _ (by decide) (by decide)) _).trans <|
  (KScan.bk1 _ _ _ _ _ _ _ _ _ _ _ _ _ h k v).trans (bk_eq (s1 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) (stk1 dev arg8 harg8 arg9 harg9 arg10 harg10 arg11 harg11 arg12 harg12 arg20 arg27 x7 x8 x9 x10 x11)
    (fun h v => (rd4 arg5 harg5 x4 1 _ 1 rfl h 0 v).trans (hx4 1 h v)) (fun h c k => rd4 arg2 harg2 x1 1 _ 1 rfl h c k)
    (fun h c k => rd4 arg1 harg1 x0 1 _ 1 rfl h c k) (dv1 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) h k v)

theorem dv0 (dev : Dev nD) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (hx4 : ∀ (g : Fin 4) (h : Fin 8) (v : Fin 128), x4 (ix4 g h 0 v) = x4 (ix4 g h 0 0)) (h : Fin 8) (c : Fin 64) (v : Fin 128) :
    (kernelRun0_A.sl.r_87 (F := Ideal) dev arg1 harg1 arg2 harg2 arg3 harg3 arg4 harg4 arg5 harg5 arg8 harg8 arg9 harg9 arg10 harg10 arg11 harg11 arg12 harg12 arg20 arg26 arg27 x0 x1 x2 x3 x4 x7 x8 x9 x10 x11) (ix3 h c v) = Scan.dv (sD x0 x1 x2 x3 x4 x5 x6 x7 x8 x9 x10 x11) (bst (sD x0 x1 x2 x3 x4 x5 x6 x7 x8 x9 x10 x11) (fun _ _ _ => 0) 3) 0 h c v :=
  (KScan.dv0 _ _ _ _ _ _ _ _ _ _ _ h c v).trans (dv_eq (s0 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) (stk0 dev arg8 harg8 arg9 harg9 arg10 harg10 arg11 harg11 arg12 harg12 arg20 arg27 x7 x8 x9 x10 x11)
    (fun h c i => rd4 arg4 harg4 x3 0 _ 0 rfl h c i) (fun h c k => rd4 arg3 harg3 x2 0 _ 0 rfl h c k) h c v)

theorem o16 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : cond0_0 pt) (hc1 : cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (hx4 : ∀ (g : Fin 4) (h : Fin 8) (v : Fin 128), x4 (ix4 g h 0 v) = x4 (ix4 g h 0 0)) (n : Fin 4) (h : Fin 8) (c : Fin 64) (v : Fin 128) :
    View.canon (kernelRun0_A (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15).1 (ix4 n h c v) = Scan.dv (sD x0 x1 x2 x3 x4 x5 x6 x7 x8 x9 x10 x11) (bst (sD x0 x1 x2 x3 x4 x5 x6 x7 x8 x9 x10 x11) (fun _ _ _ => 0) (3 - n.val)) ⟨n.val, by omega⟩ h c v := by
  unfold kernelRun0_A
  dsimp only
  refine View.canon_eq_of_allAt _ _ _ (View.cover_of_tiled_head _ _ _ rfl _) ?_
  exact View.allAt_cons_unit _ _ _ _ _ (tile4 (a := 8) (b := 64) (c := 128) (e := .bf16) (fun n h c v => Scan.dv (sD x0 x1 x2 x3 x4 x5 x6 x7 x8 x9 x10 x11) (bst (sD x0 x1 x2 x3 x4 x5 x6 x7 x8 x9 x10 x11) (fun _ _ _ => 0) (3 - n.val)) ⟨n.val, by omega⟩ h c v) 0 0 rfl n h c v _ fun h c v =>
      (KScan.dvs0 _ 0 h c v).trans ((dv0 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) h c v)) <|
    View.allAt_cons_unit _ _ _ _ _ (tile4 (a := 8) (b := 64) (c := 128) (e := .bf16) (fun n h c v => Scan.dv (sD x0 x1 x2 x3 x4 x5 x6 x7 x8 x9 x10 x11) (bst (sD x0 x1 x2 x3 x4 x5 x6 x7 x8 x9 x10 x11) (fun _ _ _ => 0) (3 - n.val)) ⟨n.val, by omega⟩ h c v) 1 1 rfl n h c v _ fun h c v =>
      (KScan.dvs1 _ 0 h c v).trans ((dv1 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) h c v)) <|
    View.allAt_cons_unit _ _ _ _ _ (tile4 (a := 8) (b := 64) (c := 128) (e := .bf16) (fun n h c v => Scan.dv (sD x0 x1 x2 x3 x4 x5 x6 x7 x8 x9 x10 x11) (bst (sD x0 x1 x2 x3 x4 x5 x6 x7 x8 x9 x10 x11) (fun _ _ _ => 0) (3 - n.val)) ⟨n.val, by omega⟩ h c v) 2 2 rfl n h c v _ fun h c v =>
      (KScan.dvs2 _ 0 h c v).trans ((dv2 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) h c v)) <|
    View.allAt_cons_unit _ _ _ _ _ (tile4 (a := 8) (b := 64) (c := 128) (e := .bf16) (fun n h c v => Scan.dv (sD x0 x1 x2 x3 x4 x5 x6 x7 x8 x9 x10 x11) (bst (sD x0 x1 x2 x3 x4 x5 x6 x7 x8 x9 x10 x11) (fun _ _ _ => 0) (3 - n.val)) ⟨n.val, by omega⟩ h c v) 3 3 rfl n h c v _ fun h c v =>
      (KScan.dvs3 _ 0 h c v).trans ((dv3 dev arg3 harg3 arg4 harg4 arg8 harg8 arg9 harg9 arg10 harg10 arg11 harg11 arg12 harg12 arg20 arg26 arg27 x0 x1 x2 x3 x4 x5 x6 x7 x8 x9 x10 x11) h c v)) <|
    View.allAt_nil _ _

theorem o17 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : cond0_0 pt) (hc1 : cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (hx4 : ∀ (g : Fin 4) (h : Fin 8) (v : Fin 128), x4 (ix4 g h 0 v) = x4 (ix4 g h 0 0)) (n : Fin 4) (h : Fin 8) (c : Fin 64) (v : Fin 128) :
    View.canon (kernelRun0_A (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15).2.1 (ix4 n h c v) = Scan.dk (sD x0 x1 x2 x3 x4 x5 x6 x7 x8 x9 x10 x11) (bst (sD x0 x1 x2 x3 x4 x5 x6 x7 x8 x9 x10 x11) (fun _ _ _ => 0) (3 - n.val)) ⟨n.val, by omega⟩ h c v := by
  unfold kernelRun0_A
  dsimp only
  refine View.canon_eq_of_allAt _ _ _ (View.cover_of_tiled_head _ _ _ rfl _) ?_
  exact View.allAt_cons_unit _ _ _ _ _ (tile4 (a := 8) (b := 64) (c := 128) (e := .f32) (fun n h c v => Scan.dk (sD x0 x1 x2 x3 x4 x5 x6 x7 x8 x9 x10 x11) (bst (sD x0 x1 x2 x3 x4 x5 x6 x7 x8 x9 x10 x11) (fun _ _ _ => 0) (3 - n.val)) ⟨n.val, by omega⟩ h c v) 0 0 rfl n h c v _ fun h c v =>
      (KScan.dk0 _ _ 0 h c v).trans (dk_eq (s0 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) (fun h c k => rd4 arg6 harg6 x5 0 _ 0 rfl h c k) h c v)) <|
    View.allAt_cons_unit _ _ _ _ _ (tile4 (a := 8) (b := 64) (c := 128) (e := .f32) (fun n h c v => Scan.dk (sD x0 x1 x2 x3 x4 x5 x6 x7 x8 x9 x10 x11) (bst (sD x0 x1 x2 x3 x4 x5 x6 x7 x8 x9 x10 x11) (fun _ _ _ => 0) (3 - n.val)) ⟨n.val, by omega⟩ h c v) 1 1 rfl n h c v _ fun h c v =>
      (KScan.dk1 _ _ 0 h c v).trans (dk_eq (s1 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) (fun h c k => rd4 arg6 harg6 x5 1 _ 1 rfl h c k) h c v)) <|
    View.allAt_cons_unit _ _ _ _ _ (tile4 (a := 8) (b := 64) (c := 128) (e := .f32) (fun n h c v => Scan.dk (sD x0 x1 x2 x3 x4 x5 x6 x7 x8 x9 x10 x11) (bst (sD x0 x1 x2 x3 x4 x5 x6 x7 x8 x9 x10 x11) (fun _ _ _ => 0) (3 - n.val)) ⟨n.val, by omega⟩ h c v) 2 2 rfl n h c v _ fun h c v =>
      (KScan.dk2 _ _ 0 h c v).trans (dk_eq (s2 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) (fun h c k => rd4 arg6 harg6 x5 2 _ 2 rfl h c k) h c v)) <|
    View.allAt_cons_unit _ _ _ _ _ (tile4 (a := 8) (b := 64) (c := 128) (e := .f32) (fun n h c v => Scan.dk (sD x0 x1 x2 x3 x4 x5 x6 x7 x8 x9 x10 x11) (bst (sD x0 x1 x2 x3 x4 x5 x6 x7 x8 x9 x10 x11) (fun _ _ _ => 0) (3 - n.val)) ⟨n.val, by omega⟩ h c v) 3 3 rfl n h c v _ fun h c v =>
      (KScan.dk3 _ _ 0 h c v).trans (dk_eq (s3 dev arg26 x0 x1 x2 x3 x4 x5 x6 x7 x8 x9 x10 x11) (fun h c k => rd4 arg6 harg6 x5 3 _ 3 rfl h c k) h c v)) <|
    View.allAt_nil _ _

theorem o18 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : cond0_0 pt) (hc1 : cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (hx4 : ∀ (g : Fin 4) (h : Fin 8) (v : Fin 128), x4 (ix4 g h 0 v) = x4 (ix4 g h 0 0)) (n : Fin 4) (h : Fin 8) (c : Fin 8) (v : Fin 128) :
    View.canon (kernelRun0_A (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15).2.2.1 (ix4 n h c v) = Scan.dd (sD x0 x1 x2 x3 x4 x5 x6 x7 x8 x9 x10 x11) (bst (sD x0 x1 x2 x3 x4 x5 x6 x7 x8 x9 x10 x11) (fun _ _ _ => 0) (3 - n.val)) ⟨n.val, by omega⟩ h := by
  unfold kernelRun0_A
  dsimp only
  refine View.canon_eq_of_allAt _ _ _ (View.cover_of_tiled_head _ _ _ rfl _) ?_
  exact View.allAt_cons_unit _ _ _ _ _ (tile4 (a := 8) (b := 8) (c := 128) (e := .f32) (fun n h c v => Scan.dd (sD x0 x1 x2 x3 x4 x5 x6 x7 x8 x9 x10 x11) (bst (sD x0 x1 x2 x3 x4 x5 x6 x7 x8 x9 x10 x11) (fun _ _ _ => 0) (3 - n.val)) ⟨n.val, by omega⟩ h) 0 0 rfl n h c v _ fun h c v =>
      (KScan.dd0 _ _ 0 h c v).trans (dd_eq (s0 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) (fun h c k => rd4 arg7 harg7 x6 0 _ 0 rfl h c k) h)) <|
    View.allAt_cons_unit _ _ _ _ _ (tile4 (a := 8) (b := 8) (c := 128) (e := .f32) (fun n h c v => Scan.dd (sD x0 x1 x2 x3 x4 x5 x6 x7 x8 x9 x10 x11) (bst (sD x0 x1 x2 x3 x4 x5 x6 x7 x8 x9 x10 x11) (fun _ _ _ => 0) (3 - n.val)) ⟨n.val, by omega⟩ h) 1 1 rfl n h c v _ fun h c v =>
      (KScan.dd1 _ _ 0 h c v).trans (dd_eq (s1 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) (fun h c k => rd4 arg7 harg7 x6 1 _ 1 rfl h c k) h)) <|
    View.allAt_cons_unit _ _ _ _ _ (tile4 (a := 8) (b := 8) (c := 128) (e := .f32) (fun n h c v => Scan.dd (sD x0 x1 x2 x3 x4 x5 x6 x7 x8 x9 x10 x11) (bst (sD x0 x1 x2 x3 x4 x5 x6 x7 x8 x9 x10 x11) (fun _ _ _ => 0) (3 - n.val)) ⟨n.val, by omega⟩ h) 2 2 rfl n h c v _ fun h c v =>
      (KScan.dd2 _ _ 0 h c v).trans (dd_eq (s2 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) (fun h c k => rd4 arg7 harg7 x6 2 _ 2 rfl h c k) h)) <|
    View.allAt_cons_unit _ _ _ _ _ (tile4 (a := 8) (b := 8) (c := 128) (e := .f32) (fun n h c v => Scan.dd (sD x0 x1 x2 x3 x4 x5 x6 x7 x8 x9 x10 x11) (bst (sD x0 x1 x2 x3 x4 x5 x6 x7 x8 x9 x10 x11) (fun _ _ _ => 0) (3 - n.val)) ⟨n.val, by omega⟩ h) 3 3 rfl n h c v _ fun h c v =>
      (KScan.dd3 _ _ 0 h c v).trans (dd_eq (s3 dev arg26 x0 x1 x2 x3 x4 x5 x6 x7 x8 x9 x10 x11) (fun h c k => rd4 arg7 harg7 x6 3 _ 3 rfl h c k) h)) <|
    View.allAt_nil _ _

theorem o19 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : cond0_0 pt) (hc1 : cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (hx4 : ∀ (g : Fin 4) (h : Fin 8) (v : Fin 128), x4 (ix4 g h 0 v) = x4 (ix4 g h 0 0)) (r : Fin 256) (j : Fin 1024) :
    View.canon (kernelRun0_A (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15).2.2.2.1 (ix2 r j) = flat (bO x7 x8 x9 x10 x11) r j := by
  unfold kernelRun0_A
  dsimp only
  exact (cDo dev arg8 harg8 arg9 harg9 arg10 harg10 arg11 harg11 arg12 harg12 arg27 x7 x8 x9 x10 x11) r j

theorem o20 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : cond0_0 pt) (hc1 : cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (hx4 : ∀ (g : Fin 4) (h : Fin 8) (v : Fin 128), x4 (ix4 g h 0 v) = x4 (ix4 g h 0 0)) (r : Fin 256) (j : Fin 1024) :
    View.canon (kernelRun0_A (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15).2.2.2.2.1 (ix2 r j) = flat (bZ x7 x8 x9 x10 x11) r j := by
  unfold kernelRun0_A
  dsimp only
  refine View.canon_eq_of_allAt _ _ _ (View.cover_of_tiled_head _ _ _ rfl _) ?_
  exact View.allAt_cons_unit _ _ _ _ _ (tile (m := 256) (n := 1024) (e := .bf16) (flat (bZ x7 x8 x9 x10 x11)) 896 128 r j _ (col 7) (fun _ => rfl) fun r v =>
      ((KHead.dz7 _ _ _ _ r v).trans ((t7 dev arg8 harg8 arg9 harg9 arg10 harg10 arg11 harg11 arg12 harg12 arg27 x7 x8 x9 x10 x11).dz r v)).trans (flat_col _ r 7 v).symm) <|
    View.allAt_cons_unit _ _ _ _ _ (tile (m := 256) (n := 1024) (e := .bf16) (flat (bZ x7 x8 x9 x10 x11)) 768 128 r j _ (col 6) (fun _ => rfl) fun r v =>
      ((KHead.dz6 _ _ _ _ r v).trans ((t6 dev arg8 harg8 arg9 harg9 arg10 harg10 arg11 harg11 arg12 harg12 arg27 x7 x8 x9 x10 x11).dz r v)).trans (flat_col _ r 6 v).symm) <|
    View.allAt_cons_unit _ _ _ _ _ (tile (m := 256) (n := 1024) (e := .bf16) (flat (bZ x7 x8 x9 x10 x11)) 640 128 r j _ (col 5) (fun _ => rfl) fun r v =>
      ((KHead.dz5 _ _ _ _ r v).trans ((t5 dev arg8 harg8 arg9 harg9 arg10 harg10 arg11 harg11 arg12 harg12 arg27 x7 x8 x9 x10 x11).dz r v)).trans (flat_col _ r 5 v).symm) <|
    View.allAt_cons_unit _ _ _ _ _ (tile (m := 256) (n := 1024) (e := .bf16) (flat (bZ x7 x8 x9 x10 x11)) 512 128 r j _ (col 4) (fun _ => rfl) fun r v =>
      ((KHead.dz4 _ _ _ _ r v).trans ((t4 dev arg8 harg8 arg9 harg9 arg10 harg10 arg11 harg11 arg12 harg12 arg27 x7 x8 x9 x10 x11).dz r v)).trans (flat_col _ r 4 v).symm) <|
    View.allAt_cons_unit _ _ _ _ _ (tile (m := 256) (n := 1024) (e := .bf16) (flat (bZ x7 x8 x9 x10 x11)) 384 128 r j _ (col 3) (fun _ => rfl) fun r v =>
      ((KHead.dz3 _ _ _ _ r v).trans ((t3 dev arg8 harg8 arg9 harg9 arg10 harg10 arg11 harg11 arg12 harg12 arg27 x7 x8 x9 x10 x11).dz r v)).trans (flat_col _ r 3 v).symm) <|
    View.allAt_cons_unit _ _ _ _ _ (tile (m := 256) (n := 1024) (e := .bf16) (flat (bZ x7 x8 x9 x10 x11)) 256 128 r j _ (col 2) (fun _ => rfl) fun r v =>
      ((KHead.dz2 _ _ _ _ r v).trans ((t2 dev arg8 harg8 arg9 harg9 arg10 harg10 arg11 harg11 arg12 harg12 arg27 x7 x8 x9 x10 x11).dz r v)).trans (flat_col _ r 2 v).symm) <|
    View.allAt_cons_unit _ _ _ _ _ (tile (m := 256) (n := 1024) (e := .bf16) (flat (bZ x7 x8 x9 x10 x11)) 128 128 r j _ (col 1) (fun _ => rfl) fun r v =>
      ((KHead.dz1 _ _ _ _ r v).trans ((t1 dev arg8 harg8 arg9 harg9 arg10 harg10 arg11 harg11 arg12 harg12 arg27 x7 x8 x9 x10 x11).dz r v)).trans (flat_col _ r 1 v).symm) <|
    View.allAt_cons_unit _ _ _ _ _ (tile (m := 256) (n := 1024) (e := .bf16) (flat (bZ x7 x8 x9 x10 x11)) 0 128 r j _ (col 0) (fun _ => rfl) fun r v =>
      ((KHead.dz0 _ _ _ _ r v).trans ((t0 dev arg8 harg8 arg9 harg9 arg10 harg10 arg11 harg11 arg12 harg12 arg27 x7 x8 x9 x10 x11).dz r v)).trans (flat_col _ r 0 v).symm) <|
    View.allAt_nil _ _

theorem a0 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_A.sl.r_6 (F := Ideal) dev arg8 harg8 arg9 harg9 arg10 harg10 arg12 harg12 arg27 x7 x8 x9 x11) (ix2 (0 : Fin 1) v) = 0 + ∑ r, bW x7 x8 x9 x11 r 0 v :=
  (KHead.acc0 _ _ _ _ 0 v).trans (congrArg₂ (· + ·) (KAtt.zero1 0 v) ((t0 dev arg8 harg8 arg9 harg9 arg10 harg10 arg11 harg11 arg12 harg12 arg27 x7 x8 x9 x10 x11).wt v))

theorem a1 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_A.sl.r_15 (F := Ideal) dev arg8 harg8 arg9 harg9 arg10 harg10 arg12 harg12 arg27 x7 x8 x9 x11) (ix2 (0 : Fin 1) v) = (kernelRun0_A.sl.r_6 (F := Ideal) dev arg8 harg8 arg9 harg9 arg10 harg10 arg12 harg12 arg27 x7 x8 x9 x11) (ix2 0 v) + ∑ r, bW x7 x8 x9 x11 r 1 v :=
  (KHead.acc1 _ _ _ _ 0 v).trans (congrArg₂ (· + ·) rfl ((t1 dev arg8 harg8 arg9 harg9 arg10 harg10 arg11 harg11 arg12 harg12 arg27 x7 x8 x9 x10 x11).wt v))

theorem a2 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_A.sl.r_24 (F := Ideal) dev arg8 harg8 arg9 harg9 arg10 harg10 arg12 harg12 arg27 x7 x8 x9 x11) (ix2 (0 : Fin 1) v) = (kernelRun0_A.sl.r_15 (F := Ideal) dev arg8 harg8 arg9 harg9 arg10 harg10 arg12 harg12 arg27 x7 x8 x9 x11) (ix2 0 v) + ∑ r, bW x7 x8 x9 x11 r 2 v :=
  (KHead.acc2 _ _ _ _ 0 v).trans (congrArg₂ (· + ·) rfl ((t2 dev arg8 harg8 arg9 harg9 arg10 harg10 arg11 harg11 arg12 harg12 arg27 x7 x8 x9 x10 x11).wt v))

theorem a3 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_A.sl.r_29 (F := Ideal) dev arg8 harg8 arg9 harg9 arg10 harg10 arg12 harg12 arg27 x7 x8 x9 x11) (ix2 (0 : Fin 1) v) = (kernelRun0_A.sl.r_24 (F := Ideal) dev arg8 harg8 arg9 harg9 arg10 harg10 arg12 harg12 arg27 x7 x8 x9 x11) (ix2 0 v) + ∑ r, bW x7 x8 x9 x11 r 3 v :=
  (KHead.acc3 _ _ _ _ 0 v).trans (congrArg₂ (· + ·) rfl ((t3 dev arg8 harg8 arg9 harg9 arg10 harg10 arg11 harg11 arg12 harg12 arg27 x7 x8 x9 x10 x11).wt v))

theorem a4 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_A.sl.r_36 (F := Ideal) dev arg8 harg8 arg9 harg9 arg10 harg10 arg12 harg12 arg27 x7 x8 x9 x11) (ix2 (0 : Fin 1) v) = (kernelRun0_A.sl.r_29 (F := Ideal) dev arg8 harg8 arg9 harg9 arg10 harg10 arg12 harg12 arg27 x7 x8 x9 x11) (ix2 0 v) + ∑ r, bW x7 x8 x9 x11 r 4 v :=
  (KHead.acc4 _ _ _ _ 0 v).trans (congrArg₂ (· + ·) rfl ((t4 dev arg8 harg8 arg9 harg9 arg10 harg10 arg11 harg11 arg12 harg12 arg27 x7 x8 x9 x10 x11).wt v))

theorem a5 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_A.sl.r_44 (F := Ideal) dev arg8 harg8 arg9 harg9 arg10 harg10 arg12 harg12 arg27 x7 x8 x9 x11) (ix2 (0 : Fin 1) v) = (kernelRun0_A.sl.r_36 (F := Ideal) dev arg8 harg8 arg9 harg9 arg10 harg10 arg12 harg12 arg27 x7 x8 x9 x11) (ix2 0 v) + ∑ r, bW x7 x8 x9 x11 r 5 v :=
  (KHead.acc5 _ _ _ _ 0 v).trans (congrArg₂ (· + ·) rfl ((t5 dev arg8 harg8 arg9 harg9 arg10 harg10 arg11 harg11 arg12 harg12 arg27 x7 x8 x9 x10 x11).wt v))

theorem a6 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_A.sl.r_49 (F := Ideal) dev arg8 harg8 arg9 harg9 arg10 harg10 arg12 harg12 arg27 x7 x8 x9 x11) (ix2 (0 : Fin 1) v) = (kernelRun0_A.sl.r_44 (F := Ideal) dev arg8 harg8 arg9 harg9 arg10 harg10 arg12 harg12 arg27 x7 x8 x9 x11) (ix2 0 v) + ∑ r, bW x7 x8 x9 x11 r 6 v :=
  (KHead.acc6 _ _ _ _ 0 v).trans (congrArg₂ (· + ·) rfl ((t6 dev arg8 harg8 arg9 harg9 arg10 harg10 arg11 harg11 arg12 harg12 arg27 x7 x8 x9 x10 x11).wt v))

theorem a7 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_A.sl.r_55 (F := Ideal) dev arg8 harg8 arg9 harg9 arg10 harg10 arg12 harg12 arg27 x7 x8 x9 x11) (ix2 (0 : Fin 1) v) = (kernelRun0_A.sl.r_49 (F := Ideal) dev arg8 harg8 arg9 harg9 arg10 harg10 arg12 harg12 arg27 x7 x8 x9 x11) (ix2 0 v) + ∑ r, bW x7 x8 x9 x11 r 7 v :=
  (KHead.acc7 _ _ _ _ 0 v).trans (congrArg₂ (· + ·) rfl ((t7 dev arg8 harg8 arg9 harg9 arg10 harg10 arg11 harg11 arg12 harg12 arg27 x7 x8 x9 x10 x11).wt v))

theorem acc (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_A.sl.r_55 (F := Ideal) dev arg8 harg8 arg9 harg9 arg10 harg10 arg12 harg12 arg27 x7 x8 x9 x11) (ix2 (0 : Fin 1) v) = ∑ h, ∑ r, bW x7 x8 x9 x11 r h v := by
  rw [(a7 dev arg8 harg8 arg9 harg9 arg10 harg10 arg11 harg11 arg12 harg12 arg27 x7 x8 x9 x10 x11), (a6 dev arg8 harg8 arg9 harg9 arg10 harg10 arg11 harg11 arg12 harg12 arg27 x7 x8 x9 x10 x11), (a5 dev arg8 harg8 arg9 harg9 arg10 harg10 arg11 harg11 arg12 harg12 arg27 x7 x8 x9 x10 x11), (a4 dev arg8 harg8 arg9 harg9 arg10 harg10 arg11 harg11 arg12 harg12 arg27 x7 x8 x9 x10 x11), (a3 dev arg8 harg8 arg9 harg9 arg10 harg10 arg11 harg11 arg12 harg12 arg27 x7 x8 x9 x10 x11), (a2 dev arg8 harg8 arg9 harg9 arg10 harg10 arg11 harg11 arg12 harg12 arg27 x7 x8 x9 x10 x11), (a1 dev arg8 harg8 arg9 harg9 arg10 harg10 arg11 harg11 arg12 harg12 arg27 x7 x8 x9 x10 x11), (a0 dev arg8 harg8 arg9 harg9 arg10 harg10 arg11 harg11 arg12 harg12 arg27 x7 x8 x9 x10 x11), Fin.sum_univ_eight, zero_add]

theorem o21 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : cond0_0 pt) (hc1 : cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (hx4 : ∀ (g : Fin 4) (h : Fin 8) (v : Fin 128), x4 (ix4 g h 0 v) = x4 (ix4 g h 0 0)) (p : Fin 8) (v : Fin 128) :
    View.canon (kernelRun0_A (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15).2.2.2.2.2.1 (ix2 p v) = 0 + if p.val < 1 then ∑ h, ∑ r, bW x7 x8 x9 x11 r h v else 0 := by
  unfold kernelRun0_A
  dsimp only
  rw [View.canon_cons_unit_lit' _ _ _ (by decide)]
  refine (KAtt.put _ _ p v).trans (congrArg₂ (· + ·) ((congrFun (View.readCov_cons_unit_lit' arg22.view _ _ _ _ (by decide) (by decide)) _).trans (KAtt.zero8 p v)) ?_)
  split_ifs
  · exact (acc dev arg8 harg8 arg9 harg9 arg10 harg10 arg11 harg11 arg12 harg12 arg27 x7 x8 x9 x10 x11) v
  · rfl

theorem o22 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : cond0_0 pt) (hc1 : cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (hx4 : ∀ (g : Fin 4) (h : Fin 8) (v : Fin 128), x4 (ix4 g h 0 v) = x4 (ix4 g h 0 0)) (r : Fin 256) (j : Fin 512) :
    View.canon (kernelRun0_A (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15).2.2.2.2.2.2.1 (ix2 r j) = KAtt.dobl x14 x12 x15 r j := by
  unfold kernelRun0_A
  dsimp only
  rw [View.canon_cons_unit_lit' _ _ _ (by decide)]
  exact (KAtt.dob _ _ _ r j).trans (dobl_eq (fun r j => rdw arg15 harg15 x14 _ r j) (fun r j => rdw arg13 harg13 x12 _ r j) (fun r j => rdw arg16 harg16 x15 _ r j) r j)

theorem o23 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : cond0_0 pt) (hc1 : cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (hx4 : ∀ (g : Fin 4) (h : Fin 8) (v : Fin 128), x4 (ix4 g h 0 v) = x4 (ix4 g h 0 0)) (r : Fin 256) (j : Fin 512) :
    View.canon (kernelRun0_A (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15).2.2.2.2.2.2.2.1 (ix2 r j) = KAtt.dzbl x14 x13 x12 x15 r j := by
  unfold kernelRun0_A
  dsimp only
  rw [View.canon_cons_unit_lit' _ _ _ (by decide)]
  exact (KAtt.dzb _ _ _ _ r j).trans (dzbl_eq (fun r j => rdw arg15 harg15 x14 _ r j) (fun r j => rdw arg14 harg14 x13 _ r j) (fun r j => rdw arg13 harg13 x12 _ r j) (fun r j => rdw arg16 harg16 x15 _ r j) r j)

theorem o24 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : cond0_0 pt) (hc1 : cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (hx4 : ∀ (g : Fin 4) (h : Fin 8) (v : Fin 128), x4 (ix4 g h 0 v) = x4 (ix4 g h 0 0)) (r : Fin 256) (j : Fin 512) :
    View.canon (kernelRun0_A (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15).2.2.2.2.2.2.2.2.1 (ix2 r j) = KAtt.dltl x14 x13 x12 x15 r ⟨j.val / 128, by omega⟩ := by
  unfold kernelRun0_A
  dsimp only
  refine View.canon_eq_of_allAt _ _ _ (View.cover_of_tiled_head _ _ _ rfl _) ?_
  exact View.allAt_cons_unit _ _ _ _ _ (tile (m := 256) (n := 512) (e := .f32) (fun r (j : Fin 512) => KAtt.dltl x14 x13 x12 x15 r ⟨j.val / 128, by omega⟩) 384 128 r j _ (fun v => ⟨384 + v.val, by omega⟩) (fun _ => rfl) fun r v =>
      ((KAtt.delta3 _ _ _ _ r v).trans (dltl_eq (fun r j => rdw arg15 harg15 x14 _ r j) (fun r j => rdw arg14 harg14 x13 _ r j) (fun r j => rdw arg13 harg13 x12 _ r j) (fun r j => rdw arg16 harg16 x15 _ r j) r 3)).trans (congrArg (KAtt.dltl x14 x13 x12 x15 r) (Fin.ext (show 3 = (384 + v.val) / 128 by omega)))) <|
    View.allAt_cons_unit _ _ _ _ _ (tile (m := 256) (n := 512) (e := .f32) (fun r (j : Fin 512) => KAtt.dltl x14 x13 x12 x15 r ⟨j.val / 128, by omega⟩) 256 128 r j _ (fun v => ⟨256 + v.val, by omega⟩) (fun _ => rfl) fun r v =>
      ((KAtt.delta2 _ _ _ _ r v).trans (dltl_eq (fun r j => rdw arg15 harg15 x14 _ r j) (fun r j => rdw arg14 harg14 x13 _ r j) (fun r j => rdw arg13 harg13 x12 _ r j) (fun r j => rdw arg16 harg16 x15 _ r j) r 2)).trans (congrArg (KAtt.dltl x14 x13 x12 x15 r) (Fin.ext (show 2 = (256 + v.val) / 128 by omega)))) <|
    View.allAt_cons_unit _ _ _ _ _ (tile (m := 256) (n := 512) (e := .f32) (fun r (j : Fin 512) => KAtt.dltl x14 x13 x12 x15 r ⟨j.val / 128, by omega⟩) 128 128 r j _ (fun v => ⟨128 + v.val, by omega⟩) (fun _ => rfl) fun r v =>
      ((KAtt.delta1 _ _ _ _ r v).trans (dltl_eq (fun r j => rdw arg15 harg15 x14 _ r j) (fun r j => rdw arg14 harg14 x13 _ r j) (fun r j => rdw arg13 harg13 x12 _ r j) (fun r j => rdw arg16 harg16 x15 _ r j) r 1)).trans (congrArg (KAtt.dltl x14 x13 x12 x15 r) (Fin.ext (show 1 = (128 + v.val) / 128 by omega)))) <|
    View.allAt_cons_unit _ _ _ _ _ (tile (m := 256) (n := 512) (e := .f32) (fun r (j : Fin 512) => KAtt.dltl x14 x13 x12 x15 r ⟨j.val / 128, by omega⟩) 0 128 r j _ (fun v => ⟨0 + v.val, by omega⟩) (fun _ => rfl) fun r v =>
      ((KAtt.delta0 _ _ _ _ r v).trans (dltl_eq (fun r j => rdw arg15 harg15 x14 _ r j) (fun r j => rdw arg14 harg14 x13 _ r j) (fun r j => rdw arg13 harg13 x12 _ r j) (fun r j => rdw arg16 harg16 x15 _ r j) r 0)).trans (congrArg (KAtt.dltl x14 x13 x12 x15 r) (Fin.ext (show 0 = (0 + v.val) / 128 by omega)))) <|
    View.allAt_nil _ _

theorem oS (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : cond0_0 pt) (hc1 : cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (hx4 : ∀ (g : Fin 4) (h : Fin 8) (v : Fin 128), x4 (ix4 g h 0 v) = x4 (ix4 g h 0 0)) (h : Fin 8) (k v : Fin 128) :
    View.canon (kernelRun0_A (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15).2.2.2.2.2.2.2.2.2.1 (ix3 h k v) = bst (sD x0 x1 x2 x3 x4 x5 x6 x7 x8 x9 x10 x11) (fun _ _ _ => 0) 4 h k v := by
  unfold kernelRun0_A
  dsimp only
  rw [View.canon_cons_unit_lit' _ _ _ (by decide)]
  exact (KScan.bk0 _ _ _ _ _ _ _ _ _ _ _ _ _ h k v).trans (bk_eq (s0 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) (stk0 dev arg8 harg8 arg9 harg9 arg10 harg10 arg11 harg11 arg12 harg12 arg20 arg27 x7 x8 x9 x10 x11)
    (fun h v => (rd4 arg5 harg5 x4 0 _ 0 rfl h 0 v).trans (hx4 0 h v)) (fun h c k => rd4 arg2 harg2 x1 0 _ 0 rfl h c k)
    (fun h c k => rd4 arg1 harg1 x0 0 _ 0 rfl h c k) (dv0 dev arg1 harg1 arg2 harg2 arg3 harg3 arg4 harg4 arg5 harg5 arg8 harg8 arg9 harg9 arg10 harg10 arg11 harg11 arg12 harg12 arg20 arg26 arg27 x0 x1 x2 x3 x4 x5 x6 x7 x8 x9 x10 x11 hx4) h k v)

end Cert.KRunA
-- ==== Proof.KOutA.lean ====
module

public import proofs.«01_k».proof.Proof.KPt
public import proofs.«01_k».proof.Proof.KRunA
public import proofs.«01_k».proof.Proof.Gen.KernelIdeal.Frame

/-! What point zero leaves in each output's buffer and in the scratch. -/

@[expose] public section

set_option maxRecDepth 16384

noncomputable section

namespace Cert.KOut

open Idealize.ShloMosaic Cert.KernelIdeal Cert.KernelIdeal.Gen Cert.Sc Cert.Head Cert.KIn Cert.KBlk Cert.KHost Cert.KPt

variable (m : (ℓ : Loc nD τ sig) → Buf (Elt Ideal) ℓ) (c : Dev nD) (t : Fin cfg0.N)

variable (h0 : t.val % 16 = 0)
include h0

theorem a16 (n : Fin 4) (h : Fin 8) (r : Fin 64) (v : Fin 128) :
    (outsAt0 m c t.val t.isLt).1 (ix4 n h r v)
      = Scan.dv (SB m c t) (bst (SB m c t) (fun _ _ _ => 0) (3 - n.val)) ⟨n.val, by omega⟩ h r v := by
  rw [outsAt0_A m c t h0 h0]
  dsimp only
  unfold out0_A_16
  rw [View.read_writes_junk_eq_canon]
  exact KRunA.o16 (hx4 := hx4 m c t) ..

theorem a17 (n : Fin 4) (h : Fin 8) (r : Fin 64) (v : Fin 128) :
    (outsAt0 m c t.val t.isLt).2.1 (ix4 n h r v)
      = Scan.dk (SB m c t) (bst (SB m c t) (fun _ _ _ => 0) (3 - n.val)) ⟨n.val, by omega⟩ h r v := by
  rw [outsAt0_A m c t h0 h0]
  dsimp only
  unfold out0_A_17
  rw [View.read_writes_junk_eq_canon]
  exact KRunA.o17 (hx4 := hx4 m c t) ..

theorem a18 (n : Fin 4) (h : Fin 8) (r : Fin 8) (v : Fin 128) :
    (outsAt0 m c t.val t.isLt).2.2.1 (ix4 n h r v)
      = Scan.dd (SB m c t) (bst (SB m c t) (fun _ _ _ => 0) (3 - n.val)) ⟨n.val, by omega⟩ h := by
  rw [outsAt0_A m c t h0 h0]
  dsimp only
  unfold out0_A_18
  rw [View.read_writes_junk_eq_canon]
  exact KRunA.o18 (hx4 := hx4 m c t) ..

theorem a19 (r : Fin 256) (j : Fin 1024) :
    (outsAt0 m c t.val t.isLt).2.2.2.1 (ix2 r j)
      = flat (bO (iblk m c 7 t) (iblk m c 8 t) (iblk m c 9 t) (iblk m c 10 t) (iblk m c 11 t)) r j := by
  rw [outsAt0_A m c t h0 h0]
  dsimp only
  unfold out0_A_19
  rw [View.read_writes_junk_eq_canon]
  exact KRunA.o19 (hx4 := hx4 m c t) ..

theorem a20 (r : Fin 256) (j : Fin 1024) :
    (outsAt0 m c t.val t.isLt).2.2.2.2.1 (ix2 r j)
      = flat (bZ (iblk m c 7 t) (iblk m c 8 t) (iblk m c 9 t) (iblk m c 10 t) (iblk m c 11 t)) r j := by
  rw [outsAt0_A m c t h0 h0]
  dsimp only
  unfold out0_A_20
  rw [View.read_writes_junk_eq_canon]
  exact KRunA.o20 (hx4 := hx4 m c t) ..

theorem a21 (p : Fin 8) (v : Fin 128) :
    (outsAt0 m c t.val t.isLt).2.2.2.2.2.1 (ix2 p v)
      = 0 + if p.val < 1 then ∑ h, ∑ r, bW (iblk m c 7 t) (iblk m c 8 t) (iblk m c 9 t) (iblk m c 11 t) r h v else 0 := by
  rw [outsAt0_A m c t h0 h0]
  dsimp only
  unfold out0_A_21
  rw [View.read_writes_junk_eq_canon]
  exact KRunA.o21 (hx4 := hx4 m c t) ..

theorem a22 (r : Fin 256) (j : Fin 512) :
    (outsAt0 m c t.val t.isLt).2.2.2.2.2.2.1 (ix2 r j)
      = KAtt.dobl (iblk m c 14 t) (iblk m c 12 t) (iblk m c 15 t) r j := by
  rw [outsAt0_A m c t h0 h0]
  dsimp only
  unfold out0_A_22
  rw [View.read_writes_junk_eq_canon]
  exact KRunA.o22 (hx4 := hx4 m c t) ..

theorem a23 (r : Fin 256) (j : Fin 512) :
    (outsAt0 m c t.val t.isLt).2.2.2.2.2.2.2.1 (ix2 r j)
      = KAtt.dzbl (iblk m c 14 t) (iblk m c 13 t) (iblk m c 12 t) (iblk m c 15 t) r j := by
  rw [outsAt0_A m c t h0 h0]
  dsimp only
  unfold out0_A_23
  rw [View.read_writes_junk_eq_canon]
  exact KRunA.o23 (hx4 := hx4 m c t) ..

theorem a24 (r : Fin 256) (j : Fin 512) :
    (outsAt0 m c t.val t.isLt).2.2.2.2.2.2.2.2.1 (ix2 r j)
      = KAtt.dltl (iblk m c 14 t) (iblk m c 13 t) (iblk m c 12 t) (iblk m c 15 t) r ⟨j.val / 128, by omega⟩ := by
  rw [outsAt0_A m c t h0 h0]
  dsimp only
  unfold out0_A_24
  rw [View.read_writes_junk_eq_canon]
  exact KRunA.o24 (hx4 := hx4 m c t) ..

theorem aS (h : Fin 8) (k v : Fin 128) :
    (outsAt0 m c t.val t.isLt).2.2.2.2.2.2.2.2.2 (ix3 h k v)
      = bst (SB m c t) (fun _ _ _ => 0) 4 h k v := by
  rw [outsAt0_A m c t h0 h0]
  dsimp only
  unfold sout0_A_0
  rw [View.read_writes_junk_eq_canon]
  exact KRunA.oS (hx4 := hx4 m c t) ..

end Cert.KOut
-- ==== Proof.KRunB.lean ====
module

public import proofs.«01_k».proof.Proof.KBlk
public import proofs.«01_k».proof.Proof.Gen.KernelIdeal.Frame.RunB

/-! What a block of the kernel stores at a later grid point. -/

@[expose] public section

set_option maxRecDepth 16384
set_option maxHeartbeats 1000000

noncomputable section

namespace Cert.KRunB

open Idealize.ShloMosaic Cert.KernelIdeal Cert.KernelIdeal.Gen Cert.Sc Cert.Head Cert.KBlk

theorem t0 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 0 (View.readAt (Elt Ideal) arg9.view (Rect.unit (s := S256x1024) ![0, 0] S256x128.size inb_S256x1024_S256x128_0_0).toLoadRect (harg9.unread x8))
      (View.readAt (Elt Ideal) arg10.view (Rect.unit (s := S256x1024) ![0, 0] S256x128.size inb_S256x1024_S256x128_0_0).toLoadRect (harg10.unread x9))
      (kernelRun0_B.sl.v67 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 0 _ r v (col 0 v) rfl)
    (fun r v => rdc arg10 harg10 x9 0 _ r v (col 0 v) rfl)
    (fun r v => drd arg27 arg8 harg8 arg12 harg12 0 _ _ _ _ r v (col 0 v) rfl)
    (fun v => rdw arg11 harg11 x10 _ 0 v)

theorem t1 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 1 (View.readAt (Elt Ideal) arg9.view (Rect.unit (s := S256x1024) ![0, 128] S256x128.size inb_S256x1024_S256x128_0_128).toLoadRect (harg9.unread x8))
      (View.readAt (Elt Ideal) arg10.view (Rect.unit (s := S256x1024) ![0, 128] S256x128.size inb_S256x1024_S256x128_0_128).toLoadRect (harg10.unread x9))
      (kernelRun0_B.sl.v131 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 128 _ r v (col 1 v) rfl)
    (fun r v => rdc arg10 harg10 x9 128 _ r v (col 1 v) rfl)
    (fun r v => drd arg27 arg8 harg8 arg12 harg12 128 _ _ _ _ r v (col 1 v) rfl)
    (fun v => rdw arg11 harg11 x10 _ 0 v)

theorem t2 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 2 (View.readAt (Elt Ideal) arg9.view (Rect.unit (s := S256x1024) ![0, 256] S256x128.size inb_S256x1024_S256x128_0_256).toLoadRect (harg9.unread x8))
      (View.readAt (Elt Ideal) arg10.view (Rect.unit (s := S256x1024) ![0, 256] S256x128.size inb_S256x1024_S256x128_0_256).toLoadRect (harg10.unread x9))
      (kernelRun0_B.sl.v195 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 256 _ r v (col 2 v) rfl)
    (fun r v => rdc arg10 harg10 x9 256 _ r v (col 2 v) rfl)
    (fun r v => drd arg27 arg8 harg8 arg12 harg12 256 _ _ _ _ r v (col 2 v) rfl)
    (fun v => rdw arg11 harg11 x10 _ 0 v)

theorem t3 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 3 (View.readAt (Elt Ideal) arg9.view (Rect.unit (s := S256x1024) ![0, 384] S256x128.size inb_S256x1024_S256x128_0_384).toLoadRect (harg9.unread x8))
      (View.readAt (Elt Ideal) arg10.view (Rect.unit (s := S256x1024) ![0, 384] S256x128.size inb_S256x1024_S256x128_0_384).toLoadRect (harg10.unread x9))
      (kernelRun0_B.sl.v259 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 384 _ r v (col 3 v) rfl)
    (fun r v => rdc arg10 harg10 x9 384 _ r v (col 3 v) rfl)
    (fun r v => drd arg27 arg8 harg8 arg12 harg12 384 _ _ _ _ r v (col 3 v) rfl)
    (fun v => rdw arg11 harg11 x10 _ 0 v)

theorem t4 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 4 (View.readAt (Elt Ideal) arg9.view (Rect.unit (s := S256x1024) ![0, 512] S256x128.size inb_S256x1024_S256x128_0_512).toLoadRect (harg9.unread x8))
      (View.readAt (Elt Ideal) arg10.view (Rect.unit (s := S256x1024) ![0, 512] S256x128.size inb_S256x1024_S256x128_0_512).toLoadRect (harg10.unread x9))
      (kernelRun0_B.sl.v323 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 512 _ r v (col 4 v) rfl)
    (fun r v => rdc arg10 harg10 x9 512 _ r v (col 4 v) rfl)
    (fun r v => drd arg27 arg8 harg8 arg12 harg12 512 _ _ _ _ r v (col 4 v) rfl)
    (fun v => rdw arg11 harg11 x10 _ 0 v)

theorem t5 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 5 (View.readAt (Elt Ideal) arg9.view (Rect.unit (s := S256x1024) ![0, 640] S256x128.size inb_S256x1024_S256x128_0_640).toLoadRect (harg9.unread x8))
      (View.readAt (Elt Ideal) arg10.view (Rect.unit (s := S256x1024) ![0, 640] S256x128.size inb_S256x1024_S256x128_0_640).toLoadRect (harg10.unread x9))
      (kernelRun0_B.sl.v387 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 640 _ r v (col 5 v) rfl)
    (fun r v => rdc arg10 harg10 x9 640 _ r v (col 5 v) rfl)
    (fun r v => drd arg27 arg8 harg8 arg12 harg12 640 _ _ _ _ r v (col 5 v) rfl)
    (fun v => rdw arg11 harg11 x10 _ 0 v)

theorem t6 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 6 (View.readAt (Elt Ideal) arg9.view (Rect.unit (s := S256x1024) ![0, 768] S256x128.size inb_S256x1024_S256x128_0_768).toLoadRect (harg9.unread x8))
      (View.readAt (Elt Ideal) arg10.view (Rect.unit (s := S256x1024) ![0, 768] S256x128.size inb_S256x1024_S256x128_0_768).toLoadRect (harg10.unread x9))
      (kernelRun0_B.sl.v451 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 768 _ r v (col 6 v) rfl)
    (fun r v => rdc arg10 harg10 x9 768 _ r v (col 6 v) rfl)
    (fun r v => drd arg27 arg8 harg8 arg12 harg12 768 _ _ _ _ r v (col 6 v) rfl)
    (fun v => rdw arg11 harg11 x10 _ 0 v)

theorem t7 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) :
    Hd x7 x8 x9 x10 x11 7 (View.readAt (Elt Ideal) arg9.view (Rect.unit (s := S256x1024) ![0, 896] S256x128.size inb_S256x1024_S256x128_0_896).toLoadRect (harg9.unread x8))
      (View.readAt (Elt Ideal) arg10.view (Rect.unit (s := S256x1024) ![0, 896] S256x128.size inb_S256x1024_S256x128_0_896).toLoadRect (harg10.unread x9))
      (kernelRun0_B.sl.v515 (F := Ideal) dev arg8 harg8 arg12 harg12 arg27 x7 x11)
      (View.readAt (Elt Ideal) arg11.view (Rect.unit (s := S1x128) ![0, 0] S1x128.size inb_S1x128_S1x128_0_0).toLoadRect (harg11.unread x10)) := .mk'
    (fun r v => rdc arg9 harg9 x8 896 _ r v (col 7 v) rfl)
    (fun r v => rdc arg10 harg10 x9 896 _ r v (col 7 v) rfl)
    (fun r v => drd arg27 arg8 harg8 arg12 harg12 896 _ _ _ _ r v (col 7 v) rfl)
    (fun v => rdw arg11 harg11 x10 _ 0 v)

theorem cDo (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (r : Fin 256) (j : Fin 1024) :
    View.canon (kernelRun0_B.sl.H19_8 (F := Ideal) dev arg8 harg8 arg9 harg9 arg10 harg10 arg11 harg11 arg12 harg12 arg27 x7 x8 x9 x10 x11) (ix2 r j) = flat (bO x7 x8 x9 x10 x11) r j := by
  unfold kernelRun0_B.sl.H19_8
  refine View.canon_eq_of_allAt _ _ _ (View.cover_of_tiled_head _ _ _ rfl _) ?_
  exact View.allAt_cons_unit _ _ _ _ _ (tile (m := 256) (n := 1024) (e := .f32) (flat (bO x7 x8 x9 x10 x11)) 896 128 r j _ (col 7) (fun _ => rfl) fun r v =>
      ((KHead.do7 _ _ _ _ r v).trans ((t7 dev arg8 harg8 arg9 harg9 arg10 harg10 arg11 harg11 arg12 harg12 arg27 x7 x8 x9 x10 x11).dO r v)).trans (flat_col _ r 7 v).symm) <|
    View.allAt_cons_unit _ _ _ _ _ (tile (m := 256) (n := 1024) (e := .f32) (flat (bO x7 x8 x9 x10 x11)) 768 128 r j _ (col 6) (fun _ => rfl) fun r v =>
      ((KHead.do6 _ _ _ _ r v).trans ((t6 dev arg8 harg8 arg9 harg9 arg10 harg10 arg11 harg11 arg12 harg12 arg27 x7 x8 x9 x10 x11).dO r v)).trans (flat_col _ r 6 v).symm) <|
    View.allAt_cons_unit _ _ _ _ _ (tile (m := 256) (n := 1024) (e := .f32) (flat (bO x7 x8 x9 x10 x11)) 640 128 r j _ (col 5) (fun _ => rfl) fun r v =>
      ((KHead.do5 _ _ _ _ r v).trans ((t5 dev arg8 harg8 arg9 harg9 arg10 harg10 arg11 harg11 arg12 harg12 arg27 x7 x8 x9 x10 x11).dO r v)).trans (flat_col _ r 5 v).symm) <|
    View.allAt_cons_unit _ _ _ _ _ (tile (m := 256) (n := 1024) (e := .f32) (flat (bO x7 x8 x9 x10 x11)) 512 128 r j _ (col 4) (fun _ => rfl) fun r v =>
      ((KHead.do4 _ _ _ _ r v).trans ((t4 dev arg8 harg8 arg9 harg9 arg10 harg10 arg11 harg11 arg12 harg12 arg27 x7 x8 x9 x10 x11).dO r v)).trans (flat_col _ r 4 v).symm) <|
    View.allAt_cons_unit _ _ _ _ _ (tile (m := 256) (n := 1024) (e := .f32) (flat (bO x7 x8 x9 x10 x11)) 384 128 r j _ (col 3) (fun _ => rfl) fun r v =>
      ((KHead.do3 _ _ _ _ r v).trans ((t3 dev arg8 harg8 arg9 harg9 arg10 harg10 arg11 harg11 arg12 harg12 arg27 x7 x8 x9 x10 x11).dO r v)).trans (flat_col _ r 3 v).symm) <|
    View.allAt_cons_unit _ _ _ _ _ (tile (m := 256) (n := 1024) (e := .f32) (flat (bO x7 x8 x9 x10 x11)) 256 128 r j _ (col 2) (fun _ => rfl) fun r v =>
      ((KHead.do2 _ _ _ _ r v).trans ((t2 dev arg8 harg8 arg9 harg9 arg10 harg10 arg11 harg11 arg12 harg12 arg27 x7 x8 x9 x10 x11).dO r v)).trans (flat_col _ r 2 v).symm) <|
    View.allAt_cons_unit _ _ _ _ _ (tile (m := 256) (n := 1024) (e := .f32) (flat (bO x7 x8 x9 x10 x11)) 128 128 r j _ (col 1) (fun _ => rfl) fun r v =>
      ((KHead.do1 _ _ _ _ r v).trans ((t1 dev arg8 harg8 arg9 harg9 arg10 harg10 arg11 harg11 arg12 harg12 arg27 x7 x8 x9 x10 x11).dO r v)).trans (flat_col _ r 1 v).symm) <|
    View.allAt_cons_unit _ _ _ _ _ (tile (m := 256) (n := 1024) (e := .f32) (flat (bO x7 x8 x9 x10 x11)) 0 128 r j _ (col 0) (fun _ => rfl) fun r v =>
      ((KHead.do0 _ _ _ _ r v).trans ((t0 dev arg8 harg8 arg9 harg9 arg10 harg10 arg11 harg11 arg12 harg12 arg27 x7 x8 x9 x10 x11).dO r v)).trans (flat_col _ r 0 v).symm) <|
    View.allAt_nil _ _

theorem stk3 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (h : Fin 8) (c : Fin 64) (v : Fin 128) :
    KScan.stk (kernelRun0_B.sl.v590 (F := Ideal) dev arg8 harg8 arg9 harg9 arg10 harg10 arg11 harg11 arg12 harg12 arg20 arg27 x7 x8 x9 x10 x11) (kernelRun0_B.sl.v592 (F := Ideal) dev arg8 harg8 arg9 harg9 arg10 harg10 arg11 harg11 arg12 harg12 arg20 arg27 x7 x8 x9 x10 x11) (kernelRun0_B.sl.v594 (F := Ideal) dev arg8 harg8 arg9 harg9 arg10 harg10 arg11 harg11 arg12 harg12 arg20 arg27 x7 x8 x9 x10 x11) (kernelRun0_B.sl.v596 (F := Ideal) dev arg8 harg8 arg9 harg9 arg10 harg10 arg11 harg11 arg12 harg12 arg20 arg27 x7 x8 x9 x10 x11) (kernelRun0_B.sl.v598 (F := Ideal) dev arg8 harg8 arg9 harg9 arg10 harg10 arg11 harg11 arg12 harg12 arg20 arg27 x7 x8 x9 x10 x11) (kernelRun0_B.sl.v600 (F := Ideal) dev arg8 harg8 arg9 harg9 arg10 harg10 arg11 harg11 arg12 harg12 arg20 arg27 x7 x8 x9 x10 x11) (kernelRun0_B.sl.v602 (F := Ideal) dev arg8 harg8 arg9 harg9 arg10 harg10 arg11 harg11 arg12 harg12 arg20 arg27 x7 x8 x9 x10 x11) (kernelRun0_B.sl.v604 (F := Ideal) dev arg8 harg8 arg9 harg9 arg10 harg10 arg11 harg11 arg12 harg12 arg20 arg27 x7 x8 x9 x10 x11) h c v
      = bO x7 x8 x9 x10 x11 ⟨192 + c.val, by omega⟩ h v := stk_eq
    (G := fun h (c : Fin 64) v => bO x7 x8 x9 x10 x11 ⟨192 + c.val, by omega⟩ h v)
    (fun c v => (rcv arg20 _ _ (cDo dev arg8 harg8 arg9 harg9 arg10 harg10 arg11 harg11 arg12 harg12 arg27 x7 x8 x9 x10 x11) 192 0 _ c v ⟨192 + c.val, by omega⟩ (col 0 v) rfl rfl).trans (flat_col _ _ _ _))
    (fun c v => (rcv arg20 _ _ (cDo dev arg8 harg8 arg9 harg9 arg10 harg10 arg11 harg11 arg12 harg12 arg27 x7 x8 x9 x10 x11) 192 128 _ c v ⟨192 + c.val, by omega⟩ (col 1 v) rfl rfl).trans (flat_col _ _ _ _))
    (fun c v => (rcv arg20 _ _ (cDo dev arg8 harg8 arg9 harg9 arg10 harg10 arg11 harg11 arg12 harg12 arg27 x7 x8 x9 x10 x11) 192 256 _ c v ⟨192 + c.val, by omega⟩ (col 2 v) rfl rfl).trans (flat_col _ _ _ _))
    (fun c v => (rcv arg20 _ _ (cDo dev arg8 harg8 arg9 harg9 arg10 harg10 arg11 harg11 arg12 harg12 arg27 x7 x8 x9 x10 x11) 192 384 _ c v ⟨192 + c.val, by omega⟩ (col 3 v) rfl rfl).trans (flat_col _ _ _ _))
    (fun c v => (rcv arg20 _ _ (cDo dev arg8 harg8 arg9 harg9 arg10 harg10 arg11 harg11 arg12 harg12 arg27 x7 x8 x9 x10 x11) 192 512 _ c v ⟨192 + c.val, by omega⟩ (col 4 v) rfl rfl).trans (flat_col _ _ _ _))
    (fun c v => (rcv arg20 _ _ (cDo dev arg8 harg8 arg9 harg9 arg10 harg10 arg11 harg11 arg12 harg12 arg27 x7 x8 x9 x10 x11) 192 640 _ c v ⟨192 + c.val, by omega⟩ (col 5 v) rfl rfl).trans (flat_col _ _ _ _))
    (fun c v => (rcv arg20 _ _ (cDo dev arg8 harg8 arg9 harg9 arg10 harg10 arg11 harg11 arg12 harg12 arg27 x7 x8 x9 x10 x11) 192 768 _ c v ⟨192 + c.val, by omega⟩ (col 6 v) rfl rfl).trans (flat_col _ _ _ _))
    (fun c v => (rcv arg20 _ _ (cDo dev arg8 harg8 arg9 harg9 arg10 harg10 arg11 harg11 arg12 harg12 arg27 x7 x8 x9 x10 x11) 192 896 _ c v ⟨192 + c.val, by omega⟩ (col 7 v) rfl rfl).trans (flat_col _ _ _ _)) h c v

theorem stk2 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (h : Fin 8) (c : Fin 64) (v : Fin 128) :
    KScan.stk (kernelRun0_B.sl.v666 (F := Ideal) dev arg8 harg8 arg9 harg9 arg10 harg10 arg11 harg11 arg12 harg12 arg20 arg27 x7 x8 x9 x10 x11) (kernelRun0_B.sl.v668 (F := Ideal) dev arg8 harg8 arg9 harg9 arg10 harg10 arg11 harg11 arg12 harg12 arg20 arg27 x7 x8 x9 x10 x11) (kernelRun0_B.sl.v670 (F := Ideal) dev arg8 harg8 arg9 harg9 arg10 harg10 arg11 harg11 arg12 harg12 arg20 arg27 x7 x8 x9 x10 x11) (kernelRun0_B.sl.v672 (F := Ideal) dev arg8 harg8 arg9 harg9 arg10 harg10 arg11 harg11 arg12 harg12 arg20 arg27 x7 x8 x9 x10 x11) (kernelRun0_B.sl.v674 (F := Ideal) dev arg8 harg8 arg9 harg9 arg10 harg10 arg11 harg11 arg12 harg12 arg20 arg27 x7 x8 x9 x10 x11) (kernelRun0_B.sl.v676 (F := Ideal) dev arg8 harg8 arg9 harg9 arg10 harg10 arg11 harg11 arg12 harg12 arg20 arg27 x7 x8 x9 x10 x11) (kernelRun0_B.sl.v678 (F := Ideal) dev arg8 harg8 arg9 harg9 arg10 harg10 arg11 harg11 arg12 harg12 arg20 arg27 x7 x8 x9 x10 x11) (kernelRun0_B.sl.v680 (F := Ideal) dev arg8 harg8 arg9 harg9 arg10 harg10 arg11 harg11 arg12 harg12 arg20 arg27 x7 x8 x9 x10 x11) h c v
      = bO x7 x8 x9 x10 x11 ⟨128 + c.val, by omega⟩ h v := stk_eq
    (G := fun h (c : Fin 64) v => bO x7 x8 x9 x10 x11 ⟨128 + c.val, by omega⟩ h v)
    (fun c v => (rcv arg20 _ _ (cDo dev arg8 harg8 arg9 harg9 arg10 harg10 arg11 harg11 arg12 harg12 arg27 x7 x8 x9 x10 x11) 128 0 _ c v ⟨128 + c.val, by omega⟩ (col 0 v) rfl rfl).trans (flat_col _ _ _ _))
    (fun c v => (rcv arg20 _ _ (cDo dev arg8 harg8 arg9 harg9 arg10 harg10 arg11 harg11 arg12 harg12 arg27 x7 x8 x9 x10 x11) 128 128 _ c v ⟨128 + c.val, by omega⟩ (col 1 v) rfl rfl).trans (flat_col _ _ _ _))
    (fun c v => (rcv arg20 _ _ (cDo dev arg8 harg8 arg9 harg9 arg10 harg10 arg11 harg11 arg12 harg12 arg27 x7 x8 x9 x10 x11) 128 256 _ c v ⟨128 + c.val, by omega⟩ (col 2 v) rfl rfl).trans (flat_col _ _ _ _))
    (fun c v => (rcv arg20 _ _ (cDo dev arg8 harg8 arg9 harg9 arg10 harg10 arg11 harg11 arg12 harg12 arg27 x7 x8 x9 x10 x11) 128 384 _ c v ⟨128 + c.val, by omega⟩ (col 3 v) rfl rfl).trans (flat_col _ _ _ _))
    (fun c v => (rcv arg20 _ _ (cDo dev arg8 harg8 arg9 harg9 arg10 harg10 arg11 harg11 arg12 harg12 arg27 x7 x8 x9 x10 x11) 128 512 _ c v ⟨128 + c.val, by omega⟩ (col 4 v) rfl rfl).trans (flat_col _ _ _ _))
    (fun c v => (rcv arg20 _ _ (cDo dev arg8 harg8 arg9 harg9 arg10 harg10 arg11 harg11 arg12 harg12 arg27 x7 x8 x9 x10 x11) 128 640 _ c v ⟨128 + c.val, by omega⟩ (col 5 v) rfl rfl).trans (flat_col _ _ _ _))
    (fun c v => (rcv arg20 _ _ (cDo dev arg8 harg8 arg9 harg9 arg10 harg10 arg11 harg11 arg12 harg12 arg27 x7 x8 x9 x10 x11) 128 768 _ c v ⟨128 + c.val, by omega⟩ (col 6 v) rfl rfl).trans (flat_col _ _ _ _))
    (fun c v => (rcv arg20 _ _ (cDo dev arg8 harg8 arg9 harg9 arg10 harg10 arg11 harg11 arg12 harg12 arg27 x7 x8 x9 x10 x11) 128 896 _ c v ⟨128 + c.val, by omega⟩ (col 7 v) rfl rfl).trans (flat_col _ _ _ _)) h c v

theorem stk1 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (h : Fin 8) (c : Fin 64) (v : Fin 128) :
    KScan.stk (kernelRun0_B.sl.v742 (F := Ideal) dev arg8 harg8 arg9 harg9 arg10 harg10 arg11 harg11 arg12 harg12 arg20 arg27 x7 x8 x9 x10 x11) (kernelRun0_B.sl.v744 (F := Ideal) dev arg8 harg8 arg9 harg9 arg10 harg10 arg11 harg11 arg12 harg12 arg20 arg27 x7 x8 x9 x10 x11) (kernelRun0_B.sl.v746 (F := Ideal) dev arg8 harg8 arg9 harg9 arg10 harg10 arg11 harg11 arg12 harg12 arg20 arg27 x7 x8 x9 x10 x11) (kernelRun0_B.sl.v748 (F := Ideal) dev arg8 harg8 arg9 harg9 arg10 harg10 arg11 harg11 arg12 harg12 arg20 arg27 x7 x8 x9 x10 x11) (kernelRun0_B.sl.v750 (F := Ideal) dev arg8 harg8 arg9 harg9 arg10 harg10 arg11 harg11 arg12 harg12 arg20 arg27 x7 x8 x9 x10 x11) (kernelRun0_B.sl.v752 (F := Ideal) dev arg8 harg8 arg9 harg9 arg10 harg10 arg11 harg11 arg12 harg12 arg20 arg27 x7 x8 x9 x10 x11) (kernelRun0_B.sl.v754 (F := Ideal) dev arg8 harg8 arg9 harg9 arg10 harg10 arg11 harg11 arg12 harg12 arg20 arg27 x7 x8 x9 x10 x11) (kernelRun0_B.sl.v756 (F := Ideal) dev arg8 harg8 arg9 harg9 arg10 harg10 arg11 harg11 arg12 harg12 arg20 arg27 x7 x8 x9 x10 x11) h c v
      = bO x7 x8 x9 x10 x11 ⟨64 + c.val, by omega⟩ h v := stk_eq
    (G := fun h (c : Fin 64) v => bO x7 x8 x9 x10 x11 ⟨64 + c.val, by omega⟩ h v)
    (fun c v => (rcv arg20 _ _ (cDo dev arg8 harg8 arg9 harg9 arg10 harg10 arg11 harg11 arg12 harg12 arg27 x7 x8 x9 x10 x11) 64 0 _ c v ⟨64 + c.val, by omega⟩ (col 0 v) rfl rfl).trans (flat_col _ _ _ _))
    (fun c v => (rcv arg20 _ _ (cDo dev arg8 harg8 arg9 harg9 arg10 harg10 arg11 harg11 arg12 harg12 arg27 x7 x8 x9 x10 x11) 64 128 _ c v ⟨64 + c.val, by omega⟩ (col 1 v) rfl rfl).trans (flat_col _ _ _ _))
    (fun c v => (rcv arg20 _ _ (cDo dev arg8 harg8 arg9 harg9 arg10 harg10 arg11 harg11 arg12 harg12 arg27 x7 x8 x9 x10 x11) 64 256 _ c v ⟨64 + c.val, by omega⟩ (col 2 v) rfl rfl).trans (flat_col _ _ _ _))
    (fun c v => (rcv arg20 _ _ (cDo dev arg8 harg8 arg9 harg9 arg10 harg10 arg11 harg11 arg12 harg12 arg27 x7 x8 x9 x10 x11) 64 384 _ c v ⟨64 + c.val, by omega⟩ (col 3 v) rfl rfl).trans (flat_col _ _ _ _))
    (fun c v => (rcv arg20 _ _ (cDo dev arg8 harg8 arg9 harg9 arg10 harg10 arg11 harg11 arg12 harg12 arg27 x7 x8 x9 x10 x11) 64 512 _ c v ⟨64 + c.val, by omega⟩ (col 4 v) rfl rfl).trans (flat_col _ _ _ _))
    (fun c v => (rcv arg20 _ _ (cDo dev arg8 harg8 arg9 harg9 arg10 harg10 arg11 harg11 arg12 harg12 arg27 x7 x8 x9 x10 x11) 64 640 _ c v ⟨64 + c.val, by omega⟩ (col 5 v) rfl rfl).trans (flat_col _ _ _ _))
    (fun c v => (rcv arg20 _ _ (cDo dev arg8 harg8 arg9 harg9 arg10 harg10 arg11 harg11 arg12 harg12 arg27 x7 x8 x9 x10 x11) 64 768 _ c v ⟨64 + c.val, by omega⟩ (col 6 v) rfl rfl).trans (flat_col _ _ _ _))
    (fun c v => (rcv arg20 _ _ (cDo dev arg8 harg8 arg9 harg9 arg10 harg10 arg11 harg11 arg12 harg12 arg27 x7 x8 x9 x10 x11) 64 896 _ c v ⟨64 + c.val, by omega⟩ (col 7 v) rfl rfl).trans (flat_col _ _ _ _)) h c v

theorem stk0 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (h : Fin 8) (c : Fin 64) (v : Fin 128) :
    KScan.stk (kernelRun0_B.sl.v818 (F := Ideal) dev arg8 harg8 arg9 harg9 arg10 harg10 arg11 harg11 arg12 harg12 arg20 arg27 x7 x8 x9 x10 x11) (kernelRun0_B.sl.v820 (F := Ideal) dev arg8 harg8 arg9 harg9 arg10 harg10 arg11 harg11 arg12 harg12 arg20 arg27 x7 x8 x9 x10 x11) (kernelRun0_B.sl.v822 (F := Ideal) dev arg8 harg8 arg9 harg9 arg10 harg10 arg11 harg11 arg12 harg12 arg20 arg27 x7 x8 x9 x10 x11) (kernelRun0_B.sl.v824 (F := Ideal) dev arg8 harg8 arg9 harg9 arg10 harg10 arg11 harg11 arg12 harg12 arg20 arg27 x7 x8 x9 x10 x11) (kernelRun0_B.sl.v826 (F := Ideal) dev arg8 harg8 arg9 harg9 arg10 harg10 arg11 harg11 arg12 harg12 arg20 arg27 x7 x8 x9 x10 x11) (kernelRun0_B.sl.v828 (F := Ideal) dev arg8 harg8 arg9 harg9 arg10 harg10 arg11 harg11 arg12 harg12 arg20 arg27 x7 x8 x9 x10 x11) (kernelRun0_B.sl.v830 (F := Ideal) dev arg8 harg8 arg9 harg9 arg10 harg10 arg11 harg11 arg12 harg12 arg20 arg27 x7 x8 x9 x10 x11) (kernelRun0_B.sl.v832 (F := Ideal) dev arg8 harg8 arg9 harg9 arg10 harg10 arg11 harg11 arg12 harg12 arg20 arg27 x7 x8 x9 x10 x11) h c v
      = bO x7 x8 x9 x10 x11 ⟨0 + c.val, by omega⟩ h v := stk_eq
    (G := fun h (c : Fin 64) v => bO x7 x8 x9 x10 x11 ⟨0 + c.val, by omega⟩ h v)
    (fun c v => (rcv arg20 _ _ (cDo dev arg8 harg8 arg9 harg9 arg10 harg10 arg11 harg11 arg12 harg12 arg27 x7 x8 x9 x10 x11) 0 0 _ c v ⟨0 + c.val, by omega⟩ (col 0 v) rfl rfl).trans (flat_col _ _ _ _))
    (fun c v => (rcv arg20 _ _ (cDo dev arg8 harg8 arg9 harg9 arg10 harg10 arg11 harg11 arg12 harg12 arg27 x7 x8 x9 x10 x11) 0 128 _ c v ⟨0 + c.val, by omega⟩ (col 1 v) rfl rfl).trans (flat_col _ _ _ _))
    (fun c v => (rcv arg20 _ _ (cDo dev arg8 harg8 arg9 harg9 arg10 harg10 arg11 harg11 arg12 harg12 arg27 x7 x8 x9 x10 x11) 0 256 _ c v ⟨0 + c.val, by omega⟩ (col 2 v) rfl rfl).trans (flat_col _ _ _ _))
    (fun c v => (rcv arg20 _ _ (cDo dev arg8 harg8 arg9 harg9 arg10 harg10 arg11 harg11 arg12 harg12 arg27 x7 x8 x9 x10 x11) 0 384 _ c v ⟨0 + c.val, by omega⟩ (col 3 v) rfl rfl).trans (flat_col _ _ _ _))
    (fun c v => (rcv arg20 _ _ (cDo dev arg8 harg8 arg9 harg9 arg10 harg10 arg11 harg11 arg12 harg12 arg27 x7 x8 x9 x10 x11) 0 512 _ c v ⟨0 + c.val, by omega⟩ (col 4 v) rfl rfl).trans (flat_col _ _ _ _))
    (fun c v => (rcv arg20 _ _ (cDo dev arg8 harg8 arg9 harg9 arg10 harg10 arg11 harg11 arg12 harg12 arg27 x7 x8 x9 x10 x11) 0 640 _ c v ⟨0 + c.val, by omega⟩ (col 5 v) rfl rfl).trans (flat_col _ _ _ _))
    (fun c v => (rcv arg20 _ _ (cDo dev arg8 harg8 arg9 harg9 arg10 harg10 arg11 harg11 arg12 harg12 arg27 x7 x8 x9 x10 x11) 0 768 _ c v ⟨0 + c.val, by omega⟩ (col 6 v) rfl rfl).trans (flat_col _ _ _ _))
    (fun c v => (rcv arg20 _ _ (cDo dev arg8 harg8 arg9 harg9 arg10 harg10 arg11 harg11 arg12 harg12 arg27 x7 x8 x9 x10 x11) 0 896 _ c v ⟨0 + c.val, by omega⟩ (col 7 v) rfl rfl).trans (flat_col _ _ _ _)) h c v

theorem s3 (dev : Dev nD) (arg26 : Memref sig .tc .vmem S8x128x128 .f32) (harg26 : arg26.IsWhole) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (xs0 : Vec Ideal S8x128x128 .f32) (h : Fin 8) (k v : Fin 128) :
    (kernelRun0_B.sl.r_59 (F := Ideal) dev arg26 harg26 xs0) (ix3 h k v) = (bst (sD x0 x1 x2 x3 x4 x5 x6 x7 x8 x9 x10 x11) (fun h k v => xs0 (ix3 h k v)) 0) h k v :=
  rd3 arg26 harg26 xs0 _ h k v

theorem dv3 (dev : Dev nD) (arg3 : Memref sig .tc .vmem S4x8x64x128 .bf16) (harg3 : arg3.IsWhole) (arg4 : Memref sig .tc .vmem S4x8x64x64 .bf16) (harg4 : arg4.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (harg26 : arg26.IsWhole) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (xs0 : Vec Ideal S8x128x128 .f32) (h : Fin 8) (c : Fin 64) (v : Fin 128) :
    (kernelRun0_B.sl.r_69 (F := Ideal) dev arg3 harg3 arg4 harg4 arg8 harg8 arg9 harg9 arg10 harg10 arg11 harg11 arg12 harg12 arg20 arg26 harg26 arg27 x2 x3 x7 x8 x9 x10 x11 xs0) (ix3 h c v) = Scan.dv (sD x0 x1 x2 x3 x4 x5 x6 x7 x8 x9 x10 x11) (bst (sD x0 x1 x2 x3 x4 x5 x6 x7 x8 x9 x10 x11) (fun h k v => xs0 (ix3 h k v)) 0) 3 h c v :=
  (KScan.dv3 _ _ _ _ _ _ _ _ _ _ _ h c v).trans (dv_eq (s3 dev arg26 harg26 x0 x1 x2 x3 x4 x5 x6 x7 x8 x9 x10 x11 xs0) (stk3 dev arg8 harg8 arg9 harg9 arg10 harg10 arg11 harg11 arg12 harg12 arg20 arg27 x7 x8 x9 x10 x11)
    (fun h c i => rd4 arg4 harg4 x3 3 _ 3 rfl h c i) (fun h c k => rd4 arg3 harg3 x2 3 _ 3 rfl h c k) h c v)

theorem s2 (dev : Dev nD) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (harg26 : arg26.IsWhole) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (xs0 : Vec Ideal S8x128x128 .f32) (hx4 : ∀ (g : Fin 4) (h : Fin 8) (v : Fin 128), x4 (ix4 g h 0 v) = x4 (ix4 g h 0 0)) (h : Fin 8) (k v : Fin 128) :
    (kernelRun0_B.sl.v664 (F := Ideal) dev arg1 harg1 arg2 harg2 arg3 harg3 arg4 harg4 arg5 harg5 arg8 harg8 arg9 harg9 arg10 harg10 arg11 harg11 arg12 harg12 arg20 arg26 harg26 arg27 x0 x1 x2 x3 x4 x7 x8 x9 x10 x11 xs0) (ix3 h k v) = (bst (sD x0 x1 x2 x3 x4 x5 x6 x7 x8 x9 x10 x11) (fun h k v => xs0 (ix3 h k v)) 1) h k v :=
  (congrFun (View.readCov_cons_unit_lit' arg26.view _ _ _ _ (by decide) (by decide)) _).trans <|
  (KScan.bk3 _ _ _ _ _ _ _ _ _ _ _ _ _ h k v).trans (bk_eq (s3 dev arg26 harg26 x0 x1 x2 x3 x4 x5 x6 x7 x8 x9 x10 x11 xs0) (stk3 dev arg8 harg8 arg9 harg9 arg10 harg10 arg11 harg11 arg12 harg12 arg20 arg27 x7 x8 x9 x10 x11)
    (fun h v => (rd4 arg5 harg5 x4 3 _ 3 rfl h 0 v).trans (hx4 3 h v)) (fun h c k => rd4 arg2 harg2 x1 3 _ 3 rfl h c k)
    (fun h c k => rd4 arg1 harg1 x0 3 _ 3 rfl h c k) (dv3 dev arg3 harg3 arg4 harg4 arg8 harg8 arg9 harg9 arg10 harg10 arg11 harg11 arg12 harg12 arg20 arg26 harg26 arg27 x0 x1 x2 x3 x4 x5 x6 x7 x8 x9 x10 x11 xs0) h k v)

theorem dv2 (dev : Dev nD) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (harg26 : arg26.IsWhole) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (xs0 : Vec Ideal S8x128x128 .f32) (hx4 : ∀ (g : Fin 4) (h : Fin 8) (v : Fin 128), x4 (ix4 g h 0 v) = x4 (ix4 g h 0 0)) (h : Fin 8) (c : Fin 64) (v : Fin 128) :
    (kernelRun0_B.sl.r_73 (F := Ideal) dev arg1 harg1 arg2 harg2 arg3 harg3 arg4 harg4 arg5 harg5 arg8 harg8 arg9 harg9 arg10 harg10 arg11 harg11 arg12 harg12 arg20 arg26 harg26 arg27 x0 x1 x2 x3 x4 x7 x8 x9 x10 x11 xs0) (ix3 h c v) = Scan.dv (sD x0 x1 x2 x3 x4 x5 x6 x7 x8 x9 x10 x11) (bst (sD x0 x1 x2 x3 x4 x5 x6 x7 x8 x9 x10 x11) (fun h k v => xs0 (ix3 h k v)) 1) 2 h c v :=
  (KScan.dv2 _ _ _ _ _ _ _ _ _ _ _ h c v).trans (dv_eq (s2 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) (stk2 dev arg8 harg8 arg9 harg9 arg10 harg10 arg11 harg11 arg12 harg12 arg20 arg27 x7 x8 x9 x10 x11)
    (fun h c i => rd4 arg4 harg4 x3 2 _ 2 rfl h c i) (fun h c k => rd4 arg3 harg3 x2 2 _ 2 rfl h c k) h c v)

theorem s1 (dev : Dev nD) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (harg26 : arg26.IsWhole) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (xs0 : Vec Ideal S8x128x128 .f32) (hx4 : ∀ (g : Fin 4) (h : Fin 8) (v : Fin 128), x4 (ix4 g h 0 v) = x4 (ix4 g h 0 0)) (h : Fin 8) (k v : Fin 128) :
    (kernelRun0_B.sl.v740 (F := Ideal) dev arg1 harg1 arg2 harg2 arg3 harg3 arg4 harg4 arg5 harg5 arg8 harg8 arg9 harg9 arg10 harg10 arg11 harg11 arg12 harg12 arg20 arg26 harg26 arg27 x0 x1 x2 x3 x4 x7 x8 x9 x10 x11 xs0) (ix3 h k v) = (bst (sD x0 x1 x2 x3 x4 x5 x6 x7 x8 x9 x10 x11) (fun h k v => xs0 (ix3 h k v)) 2) h k v :=
  (congrFun (View.readCov_cons_unit_lit' arg26.view _ _ _ _ (by decide) (by decide)) _).trans <|
  (KScan.bk2 _ _ _ _ _ _ _ _ _ _ _ _ _ h k v).trans (bk_eq (s2 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) (stk2 dev arg8 harg8 arg9 harg9 arg10 harg10 arg11 harg11 arg12 harg12 arg20 arg27 x7 x8 x9 x10 x11)
    (fun h v => (rd4 arg5 harg5 x4 2 _ 2 rfl h 0 v).trans (hx4 2 h v)) (fun h c k => rd4 arg2 harg2 x1 2 _ 2 rfl h c k)
    (fun h c k => rd4 arg1 harg1 x0 2 _ 2 rfl h c k) (dv2 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) h k v)

theorem dv1 (dev : Dev nD) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (harg26 : arg26.IsWhole) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (xs0 : Vec Ideal S8x128x128 .f32) (hx4 : ∀ (g : Fin 4) (h : Fin 8) (v : Fin 128), x4 (ix4 g h 0 v) = x4 (ix4 g h 0 0)) (h : Fin 8) (c : Fin 64) (v : Fin 128) :
    (kernelRun0_B.sl.r_84 (F := Ideal) dev arg1 harg1 arg2 harg2 arg3 harg3 arg4 harg4 arg5 harg5 arg8 harg8 arg9 harg9 arg10 harg10 arg11 harg11 arg12 harg12 arg20 arg26 harg26 arg27 x0 x1 x2 x3 x4 x7 x8 x9 x10 x11 xs0) (ix3 h c v) = Scan.dv (sD x0 x1 x2 x3 x4 x5 x6 x7 x8 x9 x10 x11) (bst (sD x0 x1 x2 x3 x4 x5 x6 x7 x8 x9 x10 x11) (fun h k v => xs0 (ix3 h k v)) 2) 1 h c v :=
  (KScan.dv1 _ _ _ _ _ _ _ _ _ _ _ h c v).trans (dv_eq (s1 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) (stk1 dev arg8 harg8 arg9 harg9 arg10 harg10 arg11 harg11 arg12 harg12 arg20 arg27 x7 x8 x9 x10 x11)
    (fun h c i => rd4 arg4 harg4 x3 1 _ 1 rfl h c i) (fun h c k => rd4 arg3 harg3 x2 1 _ 1 rfl h c k) h c v)

theorem s0 (dev : Dev nD) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (harg26 : arg26.IsWhole) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (xs0 : Vec Ideal S8x128x128 .f32) (hx4 : ∀ (g : Fin 4) (h : Fin 8) (v : Fin 128), x4 (ix4 g h 0 v) = x4 (ix4 g h 0 0)) (h : Fin 8) (k v : Fin 128) :
    (kernelRun0_B.sl.v816 (F := Ideal) dev arg1 harg1 arg2 harg2 arg3 harg3 arg4 harg4 arg5 harg5 arg8 harg8 arg9 harg9 arg10 harg10 arg11 harg11 arg12 harg12 arg20 arg26 harg26 arg27 x0 x1 x2 x3 x4 x7 x8 x9 x10 x11 xs0) (ix3 h k v) = (bst (sD x0 x1 x2 x3 x4 x5 x6 x7 x8 x9 x10 x11) (fun h k v => xs0 (ix3 h k v)) 3) h k v :=
  (congrFun (View.readCov_cons_unit_lit' arg26.view _ _ _ _ (by decide) (by decide)) _).trans <|
  (KScan.bk1 _ _ _ _ _ _ _ _ _ _ _ _ _ h k v).trans (bk_eq (s1 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) (stk1 dev arg8 harg8 arg9 harg9 arg10 harg10 arg11 harg11 arg12 harg12 arg20 arg27 x7 x8 x9 x10 x11)
    (fun h v => (rd4 arg5 harg5 x4 1 _ 1 rfl h 0 v).trans (hx4 1 h v)) (fun h c k => rd4 arg2 harg2 x1 1 _ 1 rfl h c k)
    (fun h c k => rd4 arg1 harg1 x0 1 _ 1 rfl h c k) (dv1 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) h k v)

theorem dv0 (dev : Dev nD) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg20 : Memref sig .tc .vmem S256x1024 .f32) (arg26 : Memref sig .tc .vmem S8x128x128 .f32) (harg26 : arg26.IsWhole) (arg27 : Memref sig .tc .vmem S256x1024 .f32) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (xs0 : Vec Ideal S8x128x128 .f32) (hx4 : ∀ (g : Fin 4) (h : Fin 8) (v : Fin 128), x4 (ix4 g h 0 v) = x4 (ix4 g h 0 0)) (h : Fin 8) (c : Fin 64) (v : Fin 128) :
    (kernelRun0_B.sl.r_88 (F := Ideal) dev arg1 harg1 arg2 harg2 arg3 harg3 arg4 harg4 arg5 harg5 arg8 harg8 arg9 harg9 arg10 harg10 arg11 harg11 arg12 harg12 arg20 arg26 harg26 arg27 x0 x1 x2 x3 x4 x7 x8 x9 x10 x11 xs0) (ix3 h c v) = Scan.dv (sD x0 x1 x2 x3 x4 x5 x6 x7 x8 x9 x10 x11) (bst (sD x0 x1 x2 x3 x4 x5 x6 x7 x8 x9 x10 x11) (fun h k v => xs0 (ix3 h k v)) 3) 0 h c v :=
  (KScan.dv0 _ _ _ _ _ _ _ _ _ _ _ h c v).trans (dv_eq (s0 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) (stk0 dev arg8 harg8 arg9 harg9 arg10 harg10 arg11 harg11 arg12 harg12 arg20 arg27 x7 x8 x9 x10 x11)
    (fun h c i => rd4 arg4 harg4 x3 0 _ 0 rfl h c i) (fun h c k => rd4 arg3 harg3 x2 0 _ 0 rfl h c k) h c v)

theorem o16 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : ¬cond0_0 pt) (hc1 : ¬cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (xo21 : Vec Ideal S8x128 .f32) (xs0 : Vec Ideal S8x128x128 .f32) (hx4 : ∀ (g : Fin 4) (h : Fin 8) (v : Fin 128), x4 (ix4 g h 0 v) = x4 (ix4 g h 0 0)) (n : Fin 4) (h : Fin 8) (c : Fin 64) (v : Fin 128) :
    View.canon (kernelRun0_B (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xo21 xs0).1 (ix4 n h c v) = Scan.dv (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h c v := by
  unfold kernelRun0_B
  dsimp only
  refine View.canon_eq_of_allAt _ _ _ (View.cover_of_tiled_head _ _ _ rfl _) ?_
  exact View.allAt_cons_unit _ _ _ _ _ (tile4 (a := 8) (b := 64) (c := 128) (e := .bf16) (fun n h c v => Scan.dv (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h c v) 0 0 rfl n h c v _ fun h c v =>
      (KScan.dvs0 _ 0 h c v).trans ((dv0 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) h c v)) <|
    View.allAt_cons_unit _ _ _ _ _ (tile4 (a := 8) (b := 64) (c := 128) (e := .bf16) (fun n h c v => Scan.dv (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h c v) 1 1 rfl n h c v _ fun h c v =>
      (KScan.dvs1 _ 0 h c v).trans ((dv1 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) h c v)) <|
    View.allAt_cons_unit _ _ _ _ _ (tile4 (a := 8) (b := 64) (c := 128) (e := .bf16) (fun n h c v => Scan.dv (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h c v) 2 2 rfl n h c v _ fun h c v =>
      (KScan.dvs2 _ 0 h c v).trans ((dv2 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) h c v)) <|
    View.allAt_cons_unit _ _ _ _ _ (tile4 (a := 8) (b := 64) (c := 128) (e := .bf16) (fun n h c v => Scan.dv (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h c v) 3 3 rfl n h c v _ fun h c v =>
      (KScan.dvs3 _ 0 h c v).trans ((dv3 dev arg3 harg3 arg4 harg4 arg8 harg8 arg9 harg9 arg10 harg10 arg11 harg11 arg12 harg12 arg20 arg26 harg26 arg27 x0 x1 x2 x3 x4 x5 x6 x7 x8 x9 x10 x11 xs0) h c v)) <|
    View.allAt_nil _ _

theorem o17 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : ¬cond0_0 pt) (hc1 : ¬cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (xo21 : Vec Ideal S8x128 .f32) (xs0 : Vec Ideal S8x128x128 .f32) (hx4 : ∀ (g : Fin 4) (h : Fin 8) (v : Fin 128), x4 (ix4 g h 0 v) = x4 (ix4 g h 0 0)) (n : Fin 4) (h : Fin 8) (c : Fin 64) (v : Fin 128) :
    View.canon (kernelRun0_B (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xo21 xs0).2.1 (ix4 n h c v) = Scan.dk (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h c v := by
  unfold kernelRun0_B
  dsimp only
  refine View.canon_eq_of_allAt _ _ _ (View.cover_of_tiled_head _ _ _ rfl _) ?_
  exact View.allAt_cons_unit _ _ _ _ _ (tile4 (a := 8) (b := 64) (c := 128) (e := .f32) (fun n h c v => Scan.dk (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h c v) 0 0 rfl n h c v _ fun h c v =>
      (KScan.dk0 _ _ 0 h c v).trans (dk_eq (s0 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) (fun h c k => rd4 arg6 harg6 x5 0 _ 0 rfl h c k) h c v)) <|
    View.allAt_cons_unit _ _ _ _ _ (tile4 (a := 8) (b := 64) (c := 128) (e := .f32) (fun n h c v => Scan.dk (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h c v) 1 1 rfl n h c v _ fun h c v =>
      (KScan.dk1 _ _ 0 h c v).trans (dk_eq (s1 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) (fun h c k => rd4 arg6 harg6 x5 1 _ 1 rfl h c k) h c v)) <|
    View.allAt_cons_unit _ _ _ _ _ (tile4 (a := 8) (b := 64) (c := 128) (e := .f32) (fun n h c v => Scan.dk (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h c v) 2 2 rfl n h c v _ fun h c v =>
      (KScan.dk2 _ _ 0 h c v).trans (dk_eq (s2 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) (fun h c k => rd4 arg6 harg6 x5 2 _ 2 rfl h c k) h c v)) <|
    View.allAt_cons_unit _ _ _ _ _ (tile4 (a := 8) (b := 64) (c := 128) (e := .f32) (fun n h c v => Scan.dk (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h c v) 3 3 rfl n h c v _ fun h c v =>
      (KScan.dk3 _ _ 0 h c v).trans (dk_eq (s3 dev arg26 harg26 x0 x1 x2 x3 x4 x5 x6 x7 x8 x9 x10 x11 xs0) (fun h c k => rd4 arg6 harg6 x5 3 _ 3 rfl h c k) h c v)) <|
    View.allAt_nil _ _

theorem o18 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : ¬cond0_0 pt) (hc1 : ¬cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (xo21 : Vec Ideal S8x128 .f32) (xs0 : Vec Ideal S8x128x128 .f32) (hx4 : ∀ (g : Fin 4) (h : Fin 8) (v : Fin 128), x4 (ix4 g h 0 v) = x4 (ix4 g h 0 0)) (n : Fin 4) (h : Fin 8) (c : Fin 8) (v : Fin 128) :
    View.canon (kernelRun0_B (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xo21 xs0).2.2.1 (ix4 n h c v) = Scan.dd (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h := by
  unfold kernelRun0_B
  dsimp only
  refine View.canon_eq_of_allAt _ _ _ (View.cover_of_tiled_head _ _ _ rfl _) ?_
  exact View.allAt_cons_unit _ _ _ _ _ (tile4 (a := 8) (b := 8) (c := 128) (e := .f32) (fun n h c v => Scan.dd (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h) 0 0 rfl n h c v _ fun h c v =>
      (KScan.dd0 _ _ 0 h c v).trans (dd_eq (s0 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) (fun h c k => rd4 arg7 harg7 x6 0 _ 0 rfl h c k) h)) <|
    View.allAt_cons_unit _ _ _ _ _ (tile4 (a := 8) (b := 8) (c := 128) (e := .f32) (fun n h c v => Scan.dd (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h) 1 1 rfl n h c v _ fun h c v =>
      (KScan.dd1 _ _ 0 h c v).trans (dd_eq (s1 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) (fun h c k => rd4 arg7 harg7 x6 1 _ 1 rfl h c k) h)) <|
    View.allAt_cons_unit _ _ _ _ _ (tile4 (a := 8) (b := 8) (c := 128) (e := .f32) (fun n h c v => Scan.dd (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h) 2 2 rfl n h c v _ fun h c v =>
      (KScan.dd2 _ _ 0 h c v).trans (dd_eq (s2 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) (fun h c k => rd4 arg7 harg7 x6 2 _ 2 rfl h c k) h)) <|
    View.allAt_cons_unit _ _ _ _ _ (tile4 (a := 8) (b := 8) (c := 128) (e := .f32) (fun n h c v => Scan.dd (sD x0 x1 x2 x3 x4 x5 x6 x7 x8 x9 x10 x11) (bst (sD x0 x1 x2 x3 x4 x5 x6 x7 x8 x9 x10 x11) (fun h k v => xs0 (ix3 h k v)) (3 - n.val)) ⟨n.val, by omega⟩ h) 3 3 rfl n h c v _ fun h c v =>
      (KScan.dd3 _ _ 0 h c v).trans (dd_eq (s3 dev arg26 harg26 x0 x1 x2 x3 x4 x5 x6 x7 x8 x9 x10 x11 xs0) (fun h c k => rd4 arg7 harg7 x6 3 _ 3 rfl h c k) h)) <|
    View.allAt_nil _ _

theorem o19 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : ¬cond0_0 pt) (hc1 : ¬cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (xo21 : Vec Ideal S8x128 .f32) (xs0 : Vec Ideal S8x128x128 .f32) (hx4 : ∀ (g : Fin 4) (h : Fin 8) (v : Fin 128), x4 (ix4 g h 0 v) = x4 (ix4 g h 0 0)) (r : Fin 256) (j : Fin 1024) :
    View.canon (kernelRun0_B (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xo21 xs0).2.2.2.1 (ix2 r j) = flat (bO x7 x8 x9 x10 x11) r j := by
  unfold kernelRun0_B
  dsimp only
  exact (cDo dev arg8 harg8 arg9 harg9 arg10 harg10 arg11 harg11 arg12 harg12 arg27 x7 x8 x9 x10 x11) r j

theorem o20 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : ¬cond0_0 pt) (hc1 : ¬cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (xo21 : Vec Ideal S8x128 .f32) (xs0 : Vec Ideal S8x128x128 .f32) (hx4 : ∀ (g : Fin 4) (h : Fin 8) (v : Fin 128), x4 (ix4 g h 0 v) = x4 (ix4 g h 0 0)) (r : Fin 256) (j : Fin 1024) :
    View.canon (kernelRun0_B (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xo21 xs0).2.2.2.2.1 (ix2 r j) = flat (bZ x7 x8 x9 x10 x11) r j := by
  unfold kernelRun0_B
  dsimp only
  refine View.canon_eq_of_allAt _ _ _ (View.cover_of_tiled_head _ _ _ rfl _) ?_
  exact View.allAt_cons_unit _ _ _ _ _ (tile (m := 256) (n := 1024) (e := .bf16) (flat (bZ x7 x8 x9 x10 x11)) 896 128 r j _ (col 7) (fun _ => rfl) fun r v =>
      ((KHead.dz7 _ _ _ _ r v).trans ((t7 dev arg8 harg8 arg9 harg9 arg10 harg10 arg11 harg11 arg12 harg12 arg27 x7 x8 x9 x10 x11).dz r v)).trans (flat_col _ r 7 v).symm) <|
    View.allAt_cons_unit _ _ _ _ _ (tile (m := 256) (n := 1024) (e := .bf16) (flat (bZ x7 x8 x9 x10 x11)) 768 128 r j _ (col 6) (fun _ => rfl) fun r v =>
      ((KHead.dz6 _ _ _ _ r v).trans ((t6 dev arg8 harg8 arg9 harg9 arg10 harg10 arg11 harg11 arg12 harg12 arg27 x7 x8 x9 x10 x11).dz r v)).trans (flat_col _ r 6 v).symm) <|
    View.allAt_cons_unit _ _ _ _ _ (tile (m := 256) (n := 1024) (e := .bf16) (flat (bZ x7 x8 x9 x10 x11)) 640 128 r j _ (col 5) (fun _ => rfl) fun r v =>
      ((KHead.dz5 _ _ _ _ r v).trans ((t5 dev arg8 harg8 arg9 harg9 arg10 harg10 arg11 harg11 arg12 harg12 arg27 x7 x8 x9 x10 x11).dz r v)).trans (flat_col _ r 5 v).symm) <|
    View.allAt_cons_unit _ _ _ _ _ (tile (m := 256) (n := 1024) (e := .bf16) (flat (bZ x7 x8 x9 x10 x11)) 512 128 r j _ (col 4) (fun _ => rfl) fun r v =>
      ((KHead.dz4 _ _ _ _ r v).trans ((t4 dev arg8 harg8 arg9 harg9 arg10 harg10 arg11 harg11 arg12 harg12 arg27 x7 x8 x9 x10 x11).dz r v)).trans (flat_col _ r 4 v).symm) <|
    View.allAt_cons_unit _ _ _ _ _ (tile (m := 256) (n := 1024) (e := .bf16) (flat (bZ x7 x8 x9 x10 x11)) 384 128 r j _ (col 3) (fun _ => rfl) fun r v =>
      ((KHead.dz3 _ _ _ _ r v).trans ((t3 dev arg8 harg8 arg9 harg9 arg10 harg10 arg11 harg11 arg12 harg12 arg27 x7 x8 x9 x10 x11).dz r v)).trans (flat_col _ r 3 v).symm) <|
    View.allAt_cons_unit _ _ _ _ _ (tile (m := 256) (n := 1024) (e := .bf16) (flat (bZ x7 x8 x9 x10 x11)) 256 128 r j _ (col 2) (fun _ => rfl) fun r v =>
      ((KHead.dz2 _ _ _ _ r v).trans ((t2 dev arg8 harg8 arg9 harg9 arg10 harg10 arg11 harg11 arg12 harg12 arg27 x7 x8 x9 x10 x11).dz r v)).trans (flat_col _ r 2 v).symm) <|
    View.allAt_cons_unit _ _ _ _ _ (tile (m := 256) (n := 1024) (e := .bf16) (flat (bZ x7 x8 x9 x10 x11)) 128 128 r j _ (col 1) (fun _ => rfl) fun r v =>
      ((KHead.dz1 _ _ _ _ r v).trans ((t1 dev arg8 harg8 arg9 harg9 arg10 harg10 arg11 harg11 arg12 harg12 arg27 x7 x8 x9 x10 x11).dz r v)).trans (flat_col _ r 1 v).symm) <|
    View.allAt_cons_unit _ _ _ _ _ (tile (m := 256) (n := 1024) (e := .bf16) (flat (bZ x7 x8 x9 x10 x11)) 0 128 r j _ (col 0) (fun _ => rfl) fun r v =>
      ((KHead.dz0 _ _ _ _ r v).trans ((t0 dev arg8 harg8 arg9 harg9 arg10 harg10 arg11 harg11 arg12 harg12 arg27 x7 x8 x9 x10 x11).dz r v)).trans (flat_col _ r 0 v).symm) <|
    View.allAt_nil _ _

theorem a0 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_B.sl.r_6 (F := Ideal) dev arg8 harg8 arg9 harg9 arg10 harg10 arg12 harg12 arg27 x7 x8 x9 x11) (ix2 (0 : Fin 1) v) = 0 + ∑ r, bW x7 x8 x9 x11 r 0 v :=
  (KHead.acc0 _ _ _ _ 0 v).trans (congrArg₂ (· + ·) (KAtt.zero1 0 v) ((t0 dev arg8 harg8 arg9 harg9 arg10 harg10 arg11 harg11 arg12 harg12 arg27 x7 x8 x9 x10 x11).wt v))

theorem a1 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_B.sl.r_15 (F := Ideal) dev arg8 harg8 arg9 harg9 arg10 harg10 arg12 harg12 arg27 x7 x8 x9 x11) (ix2 (0 : Fin 1) v) = (kernelRun0_B.sl.r_6 (F := Ideal) dev arg8 harg8 arg9 harg9 arg10 harg10 arg12 harg12 arg27 x7 x8 x9 x11) (ix2 0 v) + ∑ r, bW x7 x8 x9 x11 r 1 v :=
  (KHead.acc1 _ _ _ _ 0 v).trans (congrArg₂ (· + ·) rfl ((t1 dev arg8 harg8 arg9 harg9 arg10 harg10 arg11 harg11 arg12 harg12 arg27 x7 x8 x9 x10 x11).wt v))

theorem a2 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_B.sl.r_24 (F := Ideal) dev arg8 harg8 arg9 harg9 arg10 harg10 arg12 harg12 arg27 x7 x8 x9 x11) (ix2 (0 : Fin 1) v) = (kernelRun0_B.sl.r_15 (F := Ideal) dev arg8 harg8 arg9 harg9 arg10 harg10 arg12 harg12 arg27 x7 x8 x9 x11) (ix2 0 v) + ∑ r, bW x7 x8 x9 x11 r 2 v :=
  (KHead.acc2 _ _ _ _ 0 v).trans (congrArg₂ (· + ·) rfl ((t2 dev arg8 harg8 arg9 harg9 arg10 harg10 arg11 harg11 arg12 harg12 arg27 x7 x8 x9 x10 x11).wt v))

theorem a3 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_B.sl.r_29 (F := Ideal) dev arg8 harg8 arg9 harg9 arg10 harg10 arg12 harg12 arg27 x7 x8 x9 x11) (ix2 (0 : Fin 1) v) = (kernelRun0_B.sl.r_24 (F := Ideal) dev arg8 harg8 arg9 harg9 arg10 harg10 arg12 harg12 arg27 x7 x8 x9 x11) (ix2 0 v) + ∑ r, bW x7 x8 x9 x11 r 3 v :=
  (KHead.acc3 _ _ _ _ 0 v).trans (congrArg₂ (· + ·) rfl ((t3 dev arg8 harg8 arg9 harg9 arg10 harg10 arg11 harg11 arg12 harg12 arg27 x7 x8 x9 x10 x11).wt v))

theorem a4 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_B.sl.r_36 (F := Ideal) dev arg8 harg8 arg9 harg9 arg10 harg10 arg12 harg12 arg27 x7 x8 x9 x11) (ix2 (0 : Fin 1) v) = (kernelRun0_B.sl.r_29 (F := Ideal) dev arg8 harg8 arg9 harg9 arg10 harg10 arg12 harg12 arg27 x7 x8 x9 x11) (ix2 0 v) + ∑ r, bW x7 x8 x9 x11 r 4 v :=
  (KHead.acc4 _ _ _ _ 0 v).trans (congrArg₂ (· + ·) rfl ((t4 dev arg8 harg8 arg9 harg9 arg10 harg10 arg11 harg11 arg12 harg12 arg27 x7 x8 x9 x10 x11).wt v))

theorem a5 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_B.sl.r_44 (F := Ideal) dev arg8 harg8 arg9 harg9 arg10 harg10 arg12 harg12 arg27 x7 x8 x9 x11) (ix2 (0 : Fin 1) v) = (kernelRun0_B.sl.r_36 (F := Ideal) dev arg8 harg8 arg9 harg9 arg10 harg10 arg12 harg12 arg27 x7 x8 x9 x11) (ix2 0 v) + ∑ r, bW x7 x8 x9 x11 r 5 v :=
  (KHead.acc5 _ _ _ _ 0 v).trans (congrArg₂ (· + ·) rfl ((t5 dev arg8 harg8 arg9 harg9 arg10 harg10 arg11 harg11 arg12 harg12 arg27 x7 x8 x9 x10 x11).wt v))

theorem a6 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_B.sl.r_49 (F := Ideal) dev arg8 harg8 arg9 harg9 arg10 harg10 arg12 harg12 arg27 x7 x8 x9 x11) (ix2 (0 : Fin 1) v) = (kernelRun0_B.sl.r_44 (F := Ideal) dev arg8 harg8 arg9 harg9 arg10 harg10 arg12 harg12 arg27 x7 x8 x9 x11) (ix2 0 v) + ∑ r, bW x7 x8 x9 x11 r 6 v :=
  (KHead.acc6 _ _ _ _ 0 v).trans (congrArg₂ (· + ·) rfl ((t6 dev arg8 harg8 arg9 harg9 arg10 harg10 arg11 harg11 arg12 harg12 arg27 x7 x8 x9 x10 x11).wt v))

theorem a7 (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_B.sl.r_55 (F := Ideal) dev arg8 harg8 arg9 harg9 arg10 harg10 arg12 harg12 arg27 x7 x8 x9 x11) (ix2 (0 : Fin 1) v) = (kernelRun0_B.sl.r_49 (F := Ideal) dev arg8 harg8 arg9 harg9 arg10 harg10 arg12 harg12 arg27 x7 x8 x9 x11) (ix2 0 v) + ∑ r, bW x7 x8 x9 x11 r 7 v :=
  (KHead.acc7 _ _ _ _ 0 v).trans (congrArg₂ (· + ·) rfl ((t7 dev arg8 harg8 arg9 harg9 arg10 harg10 arg11 harg11 arg12 harg12 arg27 x7 x8 x9 x10 x11).wt v))

theorem acc (dev : Dev nD) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg27 : Memref sig .tc .vmem S256x1024 .f32) (x7 : Vec Ideal S256x1024 .bf16) (x8 : Vec Ideal S256x1024 .f32) (x9 : Vec Ideal S256x1024 .f32) (x10 : Vec Ideal S1x128 .f32) (x11 : Vec Ideal S1024x1024 .bf16) (v : Fin 128) :
    (kernelRun0_B.sl.r_55 (F := Ideal) dev arg8 harg8 arg9 harg9 arg10 harg10 arg12 harg12 arg27 x7 x8 x9 x11) (ix2 (0 : Fin 1) v) = ∑ h, ∑ r, bW x7 x8 x9 x11 r h v := by
  rw [(a7 dev arg8 harg8 arg9 harg9 arg10 harg10 arg11 harg11 arg12 harg12 arg27 x7 x8 x9 x10 x11), (a6 dev arg8 harg8 arg9 harg9 arg10 harg10 arg11 harg11 arg12 harg12 arg27 x7 x8 x9 x10 x11), (a5 dev arg8 harg8 arg9 harg9 arg10 harg10 arg11 harg11 arg12 harg12 arg27 x7 x8 x9 x10 x11), (a4 dev arg8 harg8 arg9 harg9 arg10 harg10 arg11 harg11 arg12 harg12 arg27 x7 x8 x9 x10 x11), (a3 dev arg8 harg8 arg9 harg9 arg10 harg10 arg11 harg11 arg12 harg12 arg27 x7 x8 x9 x10 x11), (a2 dev arg8 harg8 arg9 harg9 arg10 harg10 arg11 harg11 arg12 harg12 arg27 x7 x8 x9 x10 x11), (a1 dev arg8 harg8 arg9 harg9 arg10 harg10 arg11 harg11 arg12 harg12 arg27 x7 x8 x9 x10 x11), (a0 dev arg8 harg8 arg9 harg9 arg10 harg10 arg11 harg11 arg12 harg12 arg27 x7 x8 x9 x10 x11), Fin.sum_univ_eight, zero_add]

theorem o21 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : ¬cond0_0 pt) (hc1 : ¬cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (xo21 : Vec Ideal S8x128 .f32) (xs0 : Vec Ideal S8x128x128 .f32) (hx4 : ∀ (g : Fin 4) (h : Fin 8) (v : Fin 128), x4 (ix4 g h 0 v) = x4 (ix4 g h 0 0)) (p : Fin 8) (v : Fin 128) :
    View.canon (kernelRun0_B (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xo21 xs0).2.2.2.2.2.1 (ix2 p v) = xo21 (ix2 p v) + if p.val < 1 then ∑ h, ∑ r, bW x7 x8 x9 x11 r h v else 0 := by
  unfold kernelRun0_B
  dsimp only
  rw [View.canon_cons_unit_lit' _ _ _ (by decide)]
  refine (KAtt.put _ _ p v).trans (congrArg₂ (· + ·) (rdw arg22 harg22 xo21 _ p v) ?_)
  split_ifs
  · exact (acc dev arg8 harg8 arg9 harg9 arg10 harg10 arg11 harg11 arg12 harg12 arg27 x7 x8 x9 x10 x11) v
  · rfl

theorem o22 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : ¬cond0_0 pt) (hc1 : ¬cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (xo21 : Vec Ideal S8x128 .f32) (xs0 : Vec Ideal S8x128x128 .f32) (hx4 : ∀ (g : Fin 4) (h : Fin 8) (v : Fin 128), x4 (ix4 g h 0 v) = x4 (ix4 g h 0 0)) (r : Fin 256) (j : Fin 512) :
    View.canon (kernelRun0_B (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xo21 xs0).2.2.2.2.2.2.1 (ix2 r j) = KAtt.dobl x14 x12 x15 r j := by
  unfold kernelRun0_B
  dsimp only
  rw [View.canon_cons_unit_lit' _ _ _ (by decide)]
  exact (KAtt.dob _ _ _ r j).trans (dobl_eq (fun r j => rdw arg15 harg15 x14 _ r j) (fun r j => rdw arg13 harg13 x12 _ r j) (fun r j => rdw arg16 harg16 x15 _ r j) r j)

theorem o23 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : ¬cond0_0 pt) (hc1 : ¬cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (xo21 : Vec Ideal S8x128 .f32) (xs0 : Vec Ideal S8x128x128 .f32) (hx4 : ∀ (g : Fin 4) (h : Fin 8) (v : Fin 128), x4 (ix4 g h 0 v) = x4 (ix4 g h 0 0)) (r : Fin 256) (j : Fin 512) :
    View.canon (kernelRun0_B (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xo21 xs0).2.2.2.2.2.2.2.1 (ix2 r j) = KAtt.dzbl x14 x13 x12 x15 r j := by
  unfold kernelRun0_B
  dsimp only
  rw [View.canon_cons_unit_lit' _ _ _ (by decide)]
  exact (KAtt.dzb _ _ _ _ r j).trans (dzbl_eq (fun r j => rdw arg15 harg15 x14 _ r j) (fun r j => rdw arg14 harg14 x13 _ r j) (fun r j => rdw arg13 harg13 x12 _ r j) (fun r j => rdw arg16 harg16 x15 _ r j) r j)

theorem o24 (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : ¬cond0_0 pt) (hc1 : ¬cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (xo21 : Vec Ideal S8x128 .f32) (xs0 : Vec Ideal S8x128x128 .f32) (hx4 : ∀ (g : Fin 4) (h : Fin 8) (v : Fin 128), x4 (ix4 g h 0 v) = x4 (ix4 g h 0 0)) (r : Fin 256) (j : Fin 512) :
    View.canon (kernelRun0_B (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xo21 xs0).2.2.2.2.2.2.2.2.1 (ix2 r j) = KAtt.dltl x14 x13 x12 x15 r ⟨j.val / 128, by omega⟩ := by
  unfold kernelRun0_B
  dsimp only
  refine View.canon_eq_of_allAt _ _ _ (View.cover_of_tiled_head _ _ _ rfl _) ?_
  exact View.allAt_cons_unit _ _ _ _ _ (tile (m := 256) (n := 512) (e := .f32) (fun r (j : Fin 512) => KAtt.dltl x14 x13 x12 x15 r ⟨j.val / 128, by omega⟩) 384 128 r j _ (fun v => ⟨384 + v.val, by omega⟩) (fun _ => rfl) fun r v =>
      ((KAtt.delta3 _ _ _ _ r v).trans (dltl_eq (fun r j => rdw arg15 harg15 x14 _ r j) (fun r j => rdw arg14 harg14 x13 _ r j) (fun r j => rdw arg13 harg13 x12 _ r j) (fun r j => rdw arg16 harg16 x15 _ r j) r 3)).trans (congrArg (KAtt.dltl x14 x13 x12 x15 r) (Fin.ext (show 3 = (384 + v.val) / 128 by omega)))) <|
    View.allAt_cons_unit _ _ _ _ _ (tile (m := 256) (n := 512) (e := .f32) (fun r (j : Fin 512) => KAtt.dltl x14 x13 x12 x15 r ⟨j.val / 128, by omega⟩) 256 128 r j _ (fun v => ⟨256 + v.val, by omega⟩) (fun _ => rfl) fun r v =>
      ((KAtt.delta2 _ _ _ _ r v).trans (dltl_eq (fun r j => rdw arg15 harg15 x14 _ r j) (fun r j => rdw arg14 harg14 x13 _ r j) (fun r j => rdw arg13 harg13 x12 _ r j) (fun r j => rdw arg16 harg16 x15 _ r j) r 2)).trans (congrArg (KAtt.dltl x14 x13 x12 x15 r) (Fin.ext (show 2 = (256 + v.val) / 128 by omega)))) <|
    View.allAt_cons_unit _ _ _ _ _ (tile (m := 256) (n := 512) (e := .f32) (fun r (j : Fin 512) => KAtt.dltl x14 x13 x12 x15 r ⟨j.val / 128, by omega⟩) 128 128 r j _ (fun v => ⟨128 + v.val, by omega⟩) (fun _ => rfl) fun r v =>
      ((KAtt.delta1 _ _ _ _ r v).trans (dltl_eq (fun r j => rdw arg15 harg15 x14 _ r j) (fun r j => rdw arg14 harg14 x13 _ r j) (fun r j => rdw arg13 harg13 x12 _ r j) (fun r j => rdw arg16 harg16 x15 _ r j) r 1)).trans (congrArg (KAtt.dltl x14 x13 x12 x15 r) (Fin.ext (show 1 = (128 + v.val) / 128 by omega)))) <|
    View.allAt_cons_unit _ _ _ _ _ (tile (m := 256) (n := 512) (e := .f32) (fun r (j : Fin 512) => KAtt.dltl x14 x13 x12 x15 r ⟨j.val / 128, by omega⟩) 0 128 r j _ (fun v => ⟨0 + v.val, by omega⟩) (fun _ => rfl) fun r v =>
      ((KAtt.delta0 _ _ _ _ r v).trans (dltl_eq (fun r j => rdw arg15 harg15 x14 _ r j) (fun r j => rdw arg14 harg14 x13 _ r j) (fun r j => rdw arg13 harg13 x12 _ r j) (fun r j => rdw arg16 harg16 x15 _ r j) r 0)).trans (congrArg (KAtt.dltl x14 x13 x12 x15 r) (Fin.ext (show 0 = (0 + v.val) / 128 by omega)))) <|
    View.allAt_nil _ _

theorem oS (dev : Dev nD) (pt : grid0.Coords) (arg1 : Memref sig .tc .vmem S4x8x64x128 .bf16) (harg1 : arg1.IsWhole) (arg2 : Memref sig .tc .vmem S4x8x64x128 .bf16) (harg2 : arg2.IsWhole) (arg3 : Memref sig .tc .vmem S4x8x64x128 .bf16) (harg3 : arg3.IsWhole) (arg4 : Memref sig .tc .vmem S4x8x64x64 .bf16) (harg4 : arg4.IsWhole) (arg5 : Memref sig .tc .vmem S4x8x8x128 .f32) (harg5 : arg5.IsWhole) (arg6 : Memref sig .tc .vmem S4x8x64x128 .bf16) (harg6 : arg6.IsWhole) (arg7 : Memref sig .tc .vmem S4x8x128x128 .bf16) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x128 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x512 .f32) (harg14 : arg14.IsWhole) (arg15 : Memref sig .tc .vmem S256x512 .f32) (harg15 : arg15.IsWhole) (arg16 : Memref sig .tc .vmem S512x1024 .bf16) (harg16 : arg16.IsWhole) (arg17 : Memref sig .tc .vmem S4x8x64x128 .bf16) (harg17 : arg17.IsWhole) (arg18 : Memref sig .tc .vmem S4x8x64x128 .f32) (harg18 : arg18.IsWhole) (arg19 : Memref sig .tc .vmem S4x8x8x128 .f32) (harg19 : arg19.IsWhole) (arg20 : Memref sig .tc .vmem S256x1024 .f32) (harg20 : arg20.IsWhole) (arg21 : Memref sig .tc .vmem S256x1024 .bf16) (harg21 : arg21.IsWhole) (arg22 : Memref sig .tc .vmem S8x128 .f32) (harg22 : arg22.IsWhole) (arg23 : Memref sig .tc .vmem S256x512 .f32) (harg23 : arg23.IsWhole) (arg24 : Memref sig .tc .vmem S256x512 .bf16) (harg24 : arg24.IsWhole) (arg25 : Memref sig .tc .vmem S256x512 .f32) (harg25 : arg25.IsWhole) (arg26 : Memref sig .tc .vmem S8x128x128 .f32) (harg26 : arg26.IsWhole) (arg27 : Memref sig .tc .vmem S256x1024 .f32) (harg27 : arg27.IsWhole) (hc0 : ¬cond0_0 pt) (hc1 : ¬cond0_1 pt) (x0 : Vec Ideal S4x8x64x128 .bf16) (x1 : Vec Ideal S4x8x64x128 .bf16) (x2 : Vec Ideal S4x8x64x128 .bf16) (x3 : Vec Ideal S4x8x64x64 .bf16) (x4 : Vec Ideal S4x8x8x128 .f32) (x5 : Vec Ideal S4x8x64x128 .bf16) (x6 : Vec Ideal S4x8x128x128 .bf16) (x7 : Vec Ideal S256x1024 .bf16) (x8 : Vec Ideal S256x1024 .f32) (x9 : Vec Ideal S256x1024 .f32) (x10 : Vec Ideal S1x128 .f32) (x11 : Vec Ideal S1024x1024 .bf16) (x12 : Vec Ideal S256x1024 .bf16) (x13 : Vec Ideal S256x512 .f32) (x14 : Vec Ideal S256x512 .f32) (x15 : Vec Ideal S512x1024 .bf16) (xo21 : Vec Ideal S8x128 .f32) (xs0 : Vec Ideal S8x128x128 .f32) (hx4 : ∀ (g : Fin 4) (h : Fin 8) (v : Fin 128), x4 (ix4 g h 0 v) = x4 (ix4 g h 0 0)) (h : Fin 8) (k v : Fin 128) :
    View.canon (kernelRun0_B (F := Ideal) dev pt arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 x12 x13 x14 x15 xo21 xs0).2.2.2.2.2.2.2.2.2.1 (ix3 h k v) = bst (sD x0 x1 x2 x3 x4 x5 x6 x7 x8 x9 x10 x11) (fun h k v => xs0 (ix3 h k v)) 4 h k v := by
  unfold kernelRun0_B
  dsimp only
  rw [View.canon_cons_unit_lit' _ _ _ (by decide)]
  exact (KScan.bk0 _ _ _ _ _ _ _ _ _ _ _ _ _ h k v).trans (bk_eq (s0 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) (stk0 dev arg8 harg8 arg9 harg9 arg10 harg10 arg11 harg11 arg12 harg12 arg20 arg27 x7 x8 x9 x10 x11)
    (fun h v => (rd4 arg5 harg5 x4 0 _ 0 rfl h 0 v).trans (hx4 0 h v)) (fun h c k => rd4 arg2 harg2 x1 0 _ 0 rfl h c k)
    (fun h c k => rd4 arg1 harg1 x0 0 _ 0 rfl h c k) (dv0 dev arg1 harg1 arg2 harg2 arg3 harg3 arg4 harg4 arg5 harg5 arg8 harg8 arg9 harg9 arg10 harg10 arg11 harg11 arg12 harg12 arg20 arg26 harg26 arg27 x0 x1 x2 x3 x4 x5 x6 x7 x8 x9 x10 x11 xs0 hx4) h k v)

end Cert.KRunB
-- ==== Proof.KOutB.lean ====
module

public import proofs.«01_k».proof.Proof.KPt
public import proofs.«01_k».proof.Proof.KRunB
public import proofs.«01_k».proof.Proof.Gen.KernelIdeal.Frame

/-! What point any later point leaves in each output's buffer and in the scratch. -/

@[expose] public section

set_option maxRecDepth 16384

noncomputable section

namespace Cert.KOut

open Idealize.ShloMosaic Cert.KernelIdeal Cert.KernelIdeal.Gen Cert.Sc Cert.Head Cert.KIn Cert.KBlk Cert.KHost Cert.KPt

variable (m : (ℓ : Loc nD τ sig) → Buf (Elt Ideal) ℓ) (c : Dev nD) (t : Fin cfg0.N)

variable (h0 : ¬t.val % 16 = 0)
include h0

theorem b16 (n : Fin 4) (h : Fin 8) (r : Fin 64) (v : Fin 128) :
    (outsAt0 m c t.val t.isLt).1 (ix4 n h r v)
      = Scan.dv (SB m c t) (bst (SB m c t) (fun h k v => (outsAt0 m c (t.val - 1) (Nat.lt_of_le_of_lt (Nat.sub_le _ _) t.isLt)).2.2.2.2.2.2.2.2.2 (ix3 h k v)) (3 - n.val)) ⟨n.val, by omega⟩ h r v := by
  rw [outsAt0_B m c t h0 h0]
  dsimp only
  unfold out0_B_16
  rw [View.read_writes_junk_eq_canon]
  exact KRunB.o16 (hx4 := hx4 m c t) ..

theorem b17 (n : Fin 4) (h : Fin 8) (r : Fin 64) (v : Fin 128) :
    (outsAt0 m c t.val t.isLt).2.1 (ix4 n h r v)
      = Scan.dk (SB m c t) (bst (SB m c t) (fun h k v => (outsAt0 m c (t.val - 1) (Nat.lt_of_le_of_lt (Nat.sub_le _ _) t.isLt)).2.2.2.2.2.2.2.2.2 (ix3 h k v)) (3 - n.val)) ⟨n.val, by omega⟩ h r v := by
  rw [outsAt0_B m c t h0 h0]
  dsimp only
  unfold out0_B_17
  rw [View.read_writes_junk_eq_canon]
  exact KRunB.o17 (hx4 := hx4 m c t) ..

theorem b18 (n : Fin 4) (h : Fin 8) (r : Fin 8) (v : Fin 128) :
    (outsAt0 m c t.val t.isLt).2.2.1 (ix4 n h r v)
      = Scan.dd (SB m c t) (bst (SB m c t) (fun h k v => (outsAt0 m c (t.val - 1) (Nat.lt_of_le_of_lt (Nat.sub_le _ _) t.isLt)).2.2.2.2.2.2.2.2.2 (ix3 h k v)) (3 - n.val)) ⟨n.val, by omega⟩ h := by
  rw [outsAt0_B m c t h0 h0]
  dsimp only
  unfold out0_B_18
  rw [View.read_writes_junk_eq_canon]
  exact KRunB.o18 (hx4 := hx4 m c t) ..

theorem b19 (r : Fin 256) (j : Fin 1024) :
    (outsAt0 m c t.val t.isLt).2.2.2.1 (ix2 r j)
      = flat (bO (iblk m c 7 t) (iblk m c 8 t) (iblk m c 9 t) (iblk m c 10 t) (iblk m c 11 t)) r j := by
  rw [outsAt0_B m c t h0 h0]
  dsimp only
  unfold out0_B_19
  rw [View.read_writes_junk_eq_canon]
  exact KRunB.o19 (hx4 := hx4 m c t) ..

theorem b20 (r : Fin 256) (j : Fin 1024) :
    (outsAt0 m c t.val t.isLt).2.2.2.2.1 (ix2 r j)
      = flat (bZ (iblk m c 7 t) (iblk m c 8 t) (iblk m c 9 t) (iblk m c 10 t) (iblk m c 11 t)) r j := by
  rw [outsAt0_B m c t h0 h0]
  dsimp only
  unfold out0_B_20
  rw [View.read_writes_junk_eq_canon]
  exact KRunB.o20 (hx4 := hx4 m c t) ..

theorem b21 (p : Fin 8) (v : Fin 128) :
    (outsAt0 m c t.val t.isLt).2.2.2.2.2.1 (ix2 p v)
      = (outsAt0 m c (t.val - 1) (Nat.lt_of_le_of_lt (Nat.sub_le _ _) t.isLt)).2.2.2.2.2.1 (ix2 p v) + if p.val < 1 then ∑ h, ∑ r, bW (iblk m c 7 t) (iblk m c 8 t) (iblk m c 9 t) (iblk m c 11 t) r h v else 0 := by
  rw [outsAt0_B m c t h0 h0]
  dsimp only
  unfold out0_B_21
  rw [View.read_writes_junk_eq_canon]
  exact KRunB.o21 (hx4 := hx4 m c t) ..

theorem b22 (r : Fin 256) (j : Fin 512) :
    (outsAt0 m c t.val t.isLt).2.2.2.2.2.2.1 (ix2 r j)
      = KAtt.dobl (iblk m c 14 t) (iblk m c 12 t) (iblk m c 15 t) r j := by
  rw [outsAt0_B m c t h0 h0]
  dsimp only
  unfold out0_B_22
  rw [View.read_writes_junk_eq_canon]
  exact KRunB.o22 (hx4 := hx4 m c t) ..

theorem b23 (r : Fin 256) (j : Fin 512) :
    (outsAt0 m c t.val t.isLt).2.2.2.2.2.2.2.1 (ix2 r j)
      = KAtt.dzbl (iblk m c 14 t) (iblk m c 13 t) (iblk m c 12 t) (iblk m c 15 t) r j := by
  rw [outsAt0_B m c t h0 h0]
  dsimp only
  unfold out0_B_23
  rw [View.read_writes_junk_eq_canon]
  exact KRunB.o23 (hx4 := hx4 m c t) ..

theorem b24 (r : Fin 256) (j : Fin 512) :
    (outsAt0 m c t.val t.isLt).2.2.2.2.2.2.2.2.1 (ix2 r j)
      = KAtt.dltl (iblk m c 14 t) (iblk m c 13 t) (iblk m c 12 t) (iblk m c 15 t) r ⟨j.val / 128, by omega⟩ := by
  rw [outsAt0_B m c t h0 h0]
  dsimp only
  unfold out0_B_24
  rw [View.read_writes_junk_eq_canon]
  exact KRunB.o24 (hx4 := hx4 m c t) ..

theorem bS (h : Fin 8) (k v : Fin 128) :
    (outsAt0 m c t.val t.isLt).2.2.2.2.2.2.2.2.2 (ix3 h k v)
      = bst (SB m c t) (fun h k v => (outsAt0 m c (t.val - 1) (Nat.lt_of_le_of_lt (Nat.sub_le _ _) t.isLt)).2.2.2.2.2.2.2.2.2 (ix3 h k v)) 4 h k v := by
  rw [outsAt0_B m c t h0 h0]
  dsimp only
  unfold sout0_B_0
  rw [View.read_writes_junk_eq_canon]
  exact KRunB.oS (hx4 := hx4 m c t) ..

end Cert.KOut
-- ==== Proof.KFin.lean ====
module

public import proofs.«01_k».proof.Proof.KOutA
public import proofs.«01_k».proof.Proof.KOutB
public import proofs.«01_k».proof.Proof.Gen.KernelIdeal.Value

/-! The kernel's result arrays after the run. -/

@[expose] public section

set_option maxRecDepth 16384

noncomputable section

namespace Cert.KFin

open Idealize.ShloMosaic Cert.KernelIdeal Cert.KernelIdeal.Gen Cert.KernelIdeal.Value Cert.Sc Cert.Head Cert.KIn Cert.KBlk Cert.KHost Cert.KPt Cert.KOut

variable (m : (ℓ : Loc nD τ sig) → Buf (Elt Ideal) ℓ) (c : Dev nD)

/-- The scratch after a point is the state's gradient there. -/
theorem scr : ∀ (n : Nat) (hn : n < cfg0.N) (h : Fin 8) (k v : Fin 128),
    (outsAt0 m c n hn).2.2.2.2.2.2.2.2.2 (ix3 h k v) = Scan.dS (scan (args m c)) (4 * n + 4) h k v
  | 0, hn, h, k, v =>
    (aS m c ⟨0, hn⟩ rfl h k v).trans (congrFun (congrFun (congrFun (bst_at m c ⟨0, hn⟩ 4 le_rfl) h) k) v)
  | n + 1, hn, h, k, v => by
    have h1 := lt ⟨n + 1, hn⟩
    have hm : ¬ (n + 1) % 16 = 0 := by have : n + 1 < 16 := h1; omega
    have e : (fun h k v => (outsAt0 m c (n + 1 - 1) (Nat.lt_of_le_of_lt (Nat.sub_le _ _) hn)).2.2.2.2.2.2.2.2.2 (ix3 h k v)) = Scan.dS (scan (args m c)) (4 * (n + 1)) :=
      funext fun h => funext fun k => funext fun v => scr n (Nat.lt_of_succ_lt hn) h k v
    refine (bS m c ⟨n + 1, hn⟩ hm h k v).trans ?_
    refine Eq.trans ?_ (congrFun (congrFun (congrFun (bst_at m c ⟨n + 1, hn⟩ 4 le_rfl) h) k) v)
    exact congrArg (fun S => bst (SB m c ⟨n + 1, hn⟩) S 4 h k v) e

/-- The state's gradient a point begins from. -/
theorem pre (t : Fin cfg0.N) (h0 : ¬t.val % 16 = 0) :
    (fun h k v => (outsAt0 m c (t.val - 1) (Nat.lt_of_le_of_lt (Nat.sub_le _ _) t.isLt)).2.2.2.2.2.2.2.2.2 (ix3 h k v)) = Scan.dS (scan (args m c)) (4 * t.val) :=
  funext fun h => funext fun k => funext fun v => by
    have e : 4 * (t.val - 1) + 4 = 4 * t.val := by omega
    rw [scr, e]

theorem pre0 (t : Fin cfg0.N) (h0 : t.val % 16 = 0) : (fun _ _ _ => 0) = Scan.dS (scan (args m c)) (4 * t.val) := by
  have ht := lt t
  have e : 4 * t.val = 0 := by omega
  rw [e]; rfl

/-- A block's part of the norm's weight's gradient. -/
def part (k : Nat) (v : Fin 128) : EReal := ∑ r : Fin 256, ∑ h, Head.wt (head (args m c)) ⟨256 * (15 - k) + r.val, by omega⟩ h v

theorem acc : ∀ (n : Nat) (hn : n < cfg0.N) (p : Fin 8) (v : Fin 128),
    (outsAt0 m c n hn).2.2.2.2.2.1 (ix2 p v) = if p.val < 1 then ∑ k ∈ Finset.range (n + 1), part m c k v else 0
  | 0, hn, p, v => by
    refine (a21 m c ⟨0, hn⟩ rfl p v).trans ?_
    rw [s21, zero_add, Finset.sum_range_one]
    rfl
  | n + 1, hn, p, v => by
    have h1 := lt ⟨n + 1, hn⟩
    have hm : ¬ (n + 1) % 16 = 0 := by have : n + 1 < 16 := h1; omega
    refine (b21 m c ⟨n + 1, hn⟩ hm p v).trans ?_
    have e := acc n (Nat.lt_of_succ_lt hn) p v
    refine (congrArg₂ (fun x y : EReal => x + y) e (congrArg (fun x : EReal => if p.val < 1 then x else 0) (s21 m c ⟨n + 1, hn⟩ v))).trans ?_
    rw [Finset.sum_range_succ _ (n + 1)]
    split_ifs
    · rfl
    · exact add_zero 0

theorem sum_parts (v : Fin 128) : ∑ k ∈ Finset.range 16, part m c k v = Head.dnw (head (args m c)) v := by
  rw [Finset.sum_range, ← Equiv.sum_comp Fin.revPerm, Head.dnw, ← Equiv.sum_comp (finProdFinEquiv (m := 16) (n := 256)), Fintype.sum_prod_type]
  refine Finset.sum_congr rfl fun k _ => Finset.sum_congr rfl fun r _ => ?_
  have e : (⟨256 * (15 - (Fin.revPerm k).val) + r.val, by omega⟩ : Fin 4096) = finProdFinEquiv (k, r) := Fin.ext (by
    show 256 * (15 - (Fin.rev k).val) + r.val = r.val + 256 * k.val
    rw [Fin.val_rev]; omega)
  exact Finset.sum_congr rfl fun h _ => congrArg (fun x => Head.wt (head (args m c)) x h v) e

variable (t : Fin cfg0.N)

theorem p16 (n : Fin 4) (h : Fin 8) (r : Fin 64) (v : Fin 128) : (outsAt0 m c t.val t.isLt).1 (ix4 n h r v) = Spec.du (args m c) (ix4 (ck t n) h r v) := by
  by_cases h0 : t.val % 16 = 0
  · refine (a16 m c t h0 n h r v).trans (Eq.trans ?_ (s16 m c t n h r v))
    exact congrArg (fun S => Scan.dv (SB m c t) (bst (SB m c t) S (3 - n.val)) ⟨n.val, by omega⟩ h r v) (pre0 m c t h0)
  · refine (b16 m c t h0 n h r v).trans (Eq.trans ?_ (s16 m c t n h r v))
    exact congrArg (fun S => Scan.dv (SB m c t) (bst (SB m c t) S (3 - n.val)) ⟨n.val, by omega⟩ h r v) (pre m c t h0)

theorem p17 (n : Fin 4) (h : Fin 8) (r : Fin 64) (v : Fin 128) : (outsAt0 m c t.val t.isLt).2.1 (ix4 n h r v) = Spec.dkd (args m c) (ix4 (ck t n) h r v) := by
  by_cases h0 : t.val % 16 = 0
  · refine (a17 m c t h0 n h r v).trans (Eq.trans ?_ (s17 m c t n h r v))
    exact congrArg (fun S => Scan.dk (SB m c t) (bst (SB m c t) S (3 - n.val)) ⟨n.val, by omega⟩ h r v) (pre0 m c t h0)
  · refine (b17 m c t h0 n h r v).trans (Eq.trans ?_ (s17 m c t n h r v))
    exact congrArg (fun S => Scan.dk (SB m c t) (bst (SB m c t) S (3 - n.val)) ⟨n.val, by omega⟩ h r v) (pre m c t h0)

theorem p18 (n : Fin 4) (h : Fin 8) (r : Fin 8) (v : Fin 128) : (outsAt0 m c t.val t.isLt).2.2.1 (ix4 n h r v) = Spec.ddl (args m c) (ix4 (ck t n) h r v) := by
  by_cases h0 : t.val % 16 = 0
  · refine (a18 m c t h0 n h r v).trans (Eq.trans ?_ (s18 m c t n h r v))
    exact congrArg (fun S => Scan.dd (SB m c t) (bst (SB m c t) S (3 - n.val)) ⟨n.val, by omega⟩ h) (pre0 m c t h0)
  · refine (b18 m c t h0 n h r v).trans (Eq.trans ?_ (s18 m c t n h r v))
    exact congrArg (fun S => Scan.dd (SB m c t) (bst (SB m c t) S (3 - n.val)) ⟨n.val, by omega⟩ h) (pre m c t h0)

theorem p19 (r : Fin 256) (j : Fin 1024) : (outsAt0 m c t.val t.isLt).2.2.2.1 (ix2 r j) = Spec.dO (args m c) (ix2 (rw t r) j) := by
  by_cases h0 : t.val % 16 = 0
  · exact (a19 m c t h0 r j).trans (s19 m c t r j)
  · exact (b19 m c t h0 r j).trans (s19 m c t r j)

theorem p20 (r : Fin 256) (j : Fin 1024) : (outsAt0 m c t.val t.isLt).2.2.2.2.1 (ix2 r j) = Spec.dz (args m c) (ix2 (rw t r) j) := by
  by_cases h0 : t.val % 16 = 0
  · exact (a20 m c t h0 r j).trans (s20 m c t r j)
  · exact (b20 m c t h0 r j).trans (s20 m c t r j)

theorem p22 (r : Fin 256) (j : Fin 512) : (outsAt0 m c t.val t.isLt).2.2.2.2.2.2.1 (ix2 r j) = Spec.dob (args m c) (ix2 (rw t r) j) := by
  by_cases h0 : t.val % 16 = 0
  · exact (a22 m c t h0 r j).trans (s22 m c t r j)
  · exact (b22 m c t h0 r j).trans (s22 m c t r j)

theorem p23 (r : Fin 256) (j : Fin 512) : (outsAt0 m c t.val t.isLt).2.2.2.2.2.2.2.1 (ix2 r j) = Spec.dzb (args m c) (ix2 (rw t r) j) := by
  by_cases h0 : t.val % 16 = 0
  · exact (a23 m c t h0 r j).trans (s23 m c t r j)
  · exact (b23 m c t h0 r j).trans (s23 m c t r j)

theorem p24 (r : Fin 256) (j : Fin 512) : (outsAt0 m c t.val t.isLt).2.2.2.2.2.2.2.2.1 (ix2 r j) = Spec.delta (args m c) (ix2 (rw t r) j) := by
  by_cases h0 : t.val % 16 = 0
  · exact (a24 m c t h0 r j).trans (s24 m c t r j _)
  · exact (b24 m c t h0 r j).trans (s24 m c t r j _)

theorem f16 : (dats m 0 c).arrAt 16 cfg0.N = Spec.du (args m c) := by
  funext i
  idx_vars i
  have hl := i0.isLt
  let t : Fin cfg0.N := ⟨15 - i0.val / 4, lt_of_lt_of_eq (by omega : 15 - i0.val / 4 < 16) N_0.symm⟩
  have e : ck t ⟨i0.val % 4, Nat.mod_lt _ (by norm_num)⟩ = i0 := Fin.ext (by simp only [ck, t]; omega)
  have q := (rd16 ((dats m 0 c).arrAt 16 cfg0.N) t ⟨i0.val % 4, Nat.mod_lt _ (by norm_num)⟩ i1 i2 i3).symm.trans
    ((congrFun ((blocks16 m c t (flush0_16 t)).trans (flushed16 m c t)) _).trans (p16 m c t ⟨i0.val % 4, Nat.mod_lt _ (by norm_num)⟩ i1 i2 i3))
  rw [e] at q
  exact q

theorem f17 : (dats m 0 c).arrAt 17 cfg0.N = Spec.dkd (args m c) := by
  funext i
  idx_vars i
  have hl := i0.isLt
  let t : Fin cfg0.N := ⟨15 - i0.val / 4, lt_of_lt_of_eq (by omega : 15 - i0.val / 4 < 16) N_0.symm⟩
  have e : ck t ⟨i0.val % 4, Nat.mod_lt _ (by norm_num)⟩ = i0 := Fin.ext (by simp only [ck, t]; omega)
  have q := (rd17 ((dats m 0 c).arrAt 17 cfg0.N) t ⟨i0.val % 4, Nat.mod_lt _ (by norm_num)⟩ i1 i2 i3).symm.trans
    ((congrFun ((blocks17 m c t (flush0_17 t)).trans (flushed17 m c t)) _).trans (p17 m c t ⟨i0.val % 4, Nat.mod_lt _ (by norm_num)⟩ i1 i2 i3))
  rw [e] at q
  exact q

theorem f18 : (dats m 0 c).arrAt 18 cfg0.N = Spec.ddl (args m c) := by
  funext i
  idx_vars i
  have hl := i0.isLt
  let t : Fin cfg0.N := ⟨15 - i0.val / 4, lt_of_lt_of_eq (by omega : 15 - i0.val / 4 < 16) N_0.symm⟩
  have e : ck t ⟨i0.val % 4, Nat.mod_lt _ (by norm_num)⟩ = i0 := Fin.ext (by simp only [ck, t]; omega)
  have q := (rd18 ((dats m 0 c).arrAt 18 cfg0.N) t ⟨i0.val % 4, Nat.mod_lt _ (by norm_num)⟩ i1 i2 i3).symm.trans
    ((congrFun ((blocks18 m c t (flush0_18 t)).trans (flushed18 m c t)) _).trans (p18 m c t ⟨i0.val % 4, Nat.mod_lt _ (by norm_num)⟩ i1 i2 i3))
  rw [e] at q
  exact q

theorem f19 : (dats m 0 c).arrAt 19 cfg0.N = Spec.dO (args m c) := by
  funext i
  idx_vars i
  have hl := i0.isLt
  let t : Fin cfg0.N := ⟨15 - i0.val / 256, lt_of_lt_of_eq (by omega : 15 - i0.val / 256 < 16) N_0.symm⟩
  have e : rw t ⟨i0.val % 256, Nat.mod_lt _ (by norm_num)⟩ = i0 := Fin.ext (by simp only [rw, t]; omega)
  have q := (rd19 ((dats m 0 c).arrAt 19 cfg0.N) t ⟨i0.val % 256, Nat.mod_lt _ (by norm_num)⟩ i1).symm.trans
    ((congrFun ((blocks19 m c t (flush0_19 t)).trans (flushed19 m c t)) _).trans (p19 m c t ⟨i0.val % 256, Nat.mod_lt _ (by norm_num)⟩ i1))
  rw [e] at q
  exact q

theorem f20 : (dats m 0 c).arrAt 20 cfg0.N = Spec.dz (args m c) := by
  funext i
  idx_vars i
  have hl := i0.isLt
  let t : Fin cfg0.N := ⟨15 - i0.val / 256, lt_of_lt_of_eq (by omega : 15 - i0.val / 256 < 16) N_0.symm⟩
  have e : rw t ⟨i0.val % 256, Nat.mod_lt _ (by norm_num)⟩ = i0 := Fin.ext (by simp only [rw, t]; omega)
  have q := (rd20 ((dats m 0 c).arrAt 20 cfg0.N) t ⟨i0.val % 256, Nat.mod_lt _ (by norm_num)⟩ i1).symm.trans
    ((congrFun ((blocks20 m c t (flush0_20 t)).trans (flushed20 m c t)) _).trans (p20 m c t ⟨i0.val % 256, Nat.mod_lt _ (by norm_num)⟩ i1))
  rw [e] at q
  exact q

theorem f22 : (dats m 0 c).arrAt 22 cfg0.N = Spec.dob (args m c) := by
  funext i
  idx_vars i
  have hl := i0.isLt
  let t : Fin cfg0.N := ⟨15 - i0.val / 256, lt_of_lt_of_eq (by omega : 15 - i0.val / 256 < 16) N_0.symm⟩
  have e : rw t ⟨i0.val % 256, Nat.mod_lt _ (by norm_num)⟩ = i0 := Fin.ext (by simp only [rw, t]; omega)
  have q := (rd22 ((dats m 0 c).arrAt 22 cfg0.N) t ⟨i0.val % 256, Nat.mod_lt _ (by norm_num)⟩ i1).symm.trans
    ((congrFun ((blocks22 m c t (flush0_22 t)).trans (flushed22 m c t)) _).trans (p22 m c t ⟨i0.val % 256, Nat.mod_lt _ (by norm_num)⟩ i1))
  rw [e] at q
  exact q

theorem f23 : (dats m 0 c).arrAt 23 cfg0.N = Spec.dzb (args m c) := by
  funext i
  idx_vars i
  have hl := i0.isLt
  let t : Fin cfg0.N := ⟨15 - i0.val / 256, lt_of_lt_of_eq (by omega : 15 - i0.val / 256 < 16) N_0.symm⟩
  have e : rw t ⟨i0.val % 256, Nat.mod_lt _ (by norm_num)⟩ = i0 := Fin.ext (by simp only [rw, t]; omega)
  have q := (rd23 ((dats m 0 c).arrAt 23 cfg0.N) t ⟨i0.val % 256, Nat.mod_lt _ (by norm_num)⟩ i1).symm.trans
    ((congrFun ((blocks23 m c t (flush0_23 t)).trans (flushed23 m c t)) _).trans (p23 m c t ⟨i0.val % 256, Nat.mod_lt _ (by norm_num)⟩ i1))
  rw [e] at q
  exact q

theorem f24 : (dats m 0 c).arrAt 24 cfg0.N = Spec.delta (args m c) := by
  funext i
  idx_vars i
  have hl := i0.isLt
  let t : Fin cfg0.N := ⟨15 - i0.val / 256, lt_of_lt_of_eq (by omega : 15 - i0.val / 256 < 16) N_0.symm⟩
  have e : rw t ⟨i0.val % 256, Nat.mod_lt _ (by norm_num)⟩ = i0 := Fin.ext (by simp only [rw, t]; omega)
  have q := (rd24 ((dats m 0 c).arrAt 24 cfg0.N) t ⟨i0.val % 256, Nat.mod_lt _ (by norm_num)⟩ i1).symm.trans
    ((congrFun ((blocks24 m c t (flush0_24 t)).trans (flushed24 m c t)) _).trans (p24 m c t ⟨i0.val % 256, Nat.mod_lt _ (by norm_num)⟩ i1))
  rw [e] at q
  exact q

theorem f21 : (dats m 0 c).arrAt 21 cfg0.N = Spec.dnw (args m c) := by
  funext i
  idx_vars i
  let t : Fin cfg0.N := ⟨15, lt_of_lt_of_eq (by norm_num : 15 < 16) N_0.symm⟩
  have hb := (dats m 0 c).read_blk_arrAt_eq_flushed 21 (fun a b ha hb hn => absurd (Fin.ext (by
    have h1 := (flush0_21 a).mp ha
    have h2 := (flush0_21 b).mp hb
    have h3 := lt a
    have h4 := lt b
    omega)) hn) cfg0.N t t.isLt ((flush0_21 t).mpr rfl)
  refine (rd21 ((dats m 0 c).arrAt 21 cfg0.N) t i0 i1).symm.trans ((congrFun (hb.trans (flushed21 m c t)) _).trans ((acc m c 15 t.isLt i0 i1).trans ?_))
  show _ = if i0.val < 1 then Head.dnw (head (args m c)) i1 else 0
  rw [sum_parts]

end Cert.KFin
-- ==== Proof.KEnd.lean ====
module

public import proofs.«01_k».proof.Proof.KFin

/-! The kernel's run, its results the nine arrays. -/

@[expose] public section

set_option maxRecDepth 16384

noncomputable section

namespace Cert.KEnd

open Idealize.ShloMosaic Idealize.SL.Sem Cert.KernelIdeal Cert.KernelIdeal.Gen Cert.KHost

variable (m : (ℓ : Loc nD τ sig) → Buf (Elt Ideal) ℓ) (ρ : Dev nD → PrngReg)

theorem run : θ_run (defs (F := Ideal)) (onTc (τ := τ) (main (F := Ideal))) ⟨m, fun _ => 0, ρ⟩ fun r => ∀ c : Dev nD,
      r.2.mem (c.tc.loc main_v14_0) = Spec.du (args m c)
      ∧ r.2.mem (c.tc.loc main_v14_1) = Spec.dkd (args m c)
      ∧ r.2.mem (c.tc.loc main_v14_2) = Spec.ddl (args m c)
      ∧ r.2.mem (c.tc.loc main_v14_3) = Spec.dO (args m c)
      ∧ r.2.mem (c.tc.loc main_v14_4) = Spec.dz (args m c)
      ∧ r.2.mem (c.tc.loc main_v14_5) = Spec.dnw (args m c)
      ∧ r.2.mem (c.tc.loc main_v14_6) = Spec.dob (args m c)
      ∧ r.2.mem (c.tc.loc main_v14_7) = Spec.dzb (args m c)
      ∧ r.2.mem (c.tc.loc main_v14_8) = Spec.delta (args m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14) :=
  (θ_run _ _ _).mono (fun _ h c => by
    obtain ⟨q0, q1, q2, q3, q4, q5, q6, q7, q8, k⟩ := h c
    exact ⟨q0.trans (KFin.f16 m c), q1.trans (KFin.f17 m c), q2.trans (KFin.f18 m c), q3.trans (KFin.f19 m c), q4.trans (KFin.f20 m c), q5.trans (KFin.f21 m c), q6.trans (KFin.f22 m c), q7.trans (KFin.f23 m c), q8.trans (KFin.f24 m c), k⟩)
    (KernelIdeal.Value.run_blocks m ρ)

end Cert.KEnd
-- ==== Proof.RefValue.lean ====
module

public import proofs.«01_k».proof.Proof.Spec
public import proofs.«01_k».proof.Proof.RefHead

/-! The reference's results are the nine arrays. -/

@[expose] public section

set_option maxRecDepth 16384

noncomputable section

namespace Cert.RefHead

open Idealize.ShloMosaic Cert.ReferenceIdeal Cert.ReferenceIdeal.Gen Cert.ReferenceIdeal.Step Cert.Sc

variable {s : State Ideal}
  {a0 : (⟨S64x8x64x128, .f32⟩ : BufTy).Contents (Elt Ideal)} {a1 : (⟨S64x8x64x128, .bf16⟩ : BufTy).Contents (Elt Ideal)}
  {a2 : (⟨S64x8x64x64, .bf16⟩ : BufTy).Contents (Elt Ideal)} {a3 a4 : (⟨S64x8x64x128, .bf16⟩ : BufTy).Contents (Elt Ideal)}
  {a5 : (⟨S64x8, .f32⟩ : BufTy).Contents (Elt Ideal)} {a6 : (⟨S64x8x128x128, .bf16⟩ : BufTy).Contents (Elt Ideal)}
  {a7 : (⟨S4096x1024, .f32⟩ : BufTy).Contents (Elt Ideal)} {a8 : (⟨S1x128, .f32⟩ : BufTy).Contents (Elt Ideal)}
  {a9 a10 : (⟨S4096x512, .f32⟩ : BufTy).Contents (Elt Ideal)} {a11 : (⟨S1024x1024, .bf16⟩ : BufTy).Contents (Elt Ideal)}
  {a12 : (⟨S512x1024, .bf16⟩ : BufTy).Contents (Elt Ideal)} {a13 a14 : (⟨S4096x1024, .bf16⟩ : BufTy).Contents (Elt Ideal)}

theorem data_init (R : (args a0 a1 a2 a3 a4 a5 a6 a7 a8 a9 a10 a11 a12 a13 a14).Real) :
    RefScan.data (init a0 a5 a1 a2 a3 a4 a6 a7 a8 a11 a13) = Head.scan (args a0 a1 a2 a3 a4 a5 a6 a7 a8 a9 a10 a11 a12 a13 a14) := by
  have e : (RefScan.data (init a0 a5 a1 a2 a3 a4 a6 a7 a8 a11 a13)).dO = (Head.scan (args a0 a1 a2 a3 a4 a5 a6 a7 a8 a9 a10 a11 a12 a13 a14)).dO :=
    funext fun n => funext fun h => funext fun c => funext fun v => v81_at R n h c v
  exact (congrArg (fun d => ({ Head.scan (args a0 a1 a2 a3 a4 a5 a6 a7 a8 a9 a10 a11 a12 a13 a14) with dO := d } : Scan.Data)) e)

theorem init_zero (i : S8x128x128.Idx) : (init (F := Ideal) a0 a5 a1 a2 a3 a4 a6 a7 a8 a11 a13).main_v88_9 i = 0 := by
  show K_main_v0 (F := Ideal) i = 0
  idx_vars i
  pointwise [K_main_v0, K_main_cst]

variable (R : (args a0 a1 a2 a3 a4 a5 a6 a7 a8 a9 a10 a11 a12 a13 a14).Real)
include R

theorem du_eq (H : RefScan.At (Head.scan (args a0 a1 a2 a3 a4 a5 a6 a7 a8 a9 a10 a11 a12 a13 a14)) 64 s) :
    R_main_v199 s a0 a1 a2 a3 a4 a6 a7 a8 a11 a13 = Spec.du (args a0 a1 a2 a3 a4 a5 a6 a7 a8 a9 a10 a11 a12 a13 a14) := by
  funext i
  idx_vars i
  rw [v202_at]
  refine congrArg₂ (· + ·) (Finset.sum_congr rfl fun k _ => ?_) (Finset.sum_congr rfl fun k _ => ?_)
  · rw [v81_at R]; rfl
  · rw [after_at H]; rfl

theorem dz_eq : R_main_v202 s a0 a1 a2 a3 a6 a7 a8 a11 a13 = Spec.dz (args a0 a1 a2 a3 a4 a5 a6 a7 a8 a9 a10 a11 a12 a13 a14) := by
  funext i
  idx_vars i
  exact (congrArg (fun j => R_main_v202 s a0 a1 a2 a3 a6 a7 a8 a11 a13 (ix2 i0 j)) (Head.col_of i1)).symm.trans (v205_at s R i0 (Spec.hd i1) (Spec.ln i1))

theorem dO_eq : R_main_v167 s a0 a1 a2 a3 a6 a7 a8 a11 a13 = Spec.dO (args a0 a1 a2 a3 a4 a5 a6 a7 a8 a9 a10 a11 a12 a13 a14) := by
  funext i
  idx_vars i
  exact (congrArg (fun j => R_main_v167 s a0 a1 a2 a3 a6 a7 a8 a11 a13 (ix2 i0 j)) (Head.col_of i1)).symm.trans (v170_at s R i0 (Spec.hd i1) (Spec.ln i1))

theorem dzb_eq : R_main_v205 s a9 a10 a12 a14 = Spec.dzb (args a0 a1 a2 a3 a4 a5 a6 a7 a8 a9 a10 a11 a12 a13 a14) := by
  funext i
  idx_vars i
  exact v208_at s R i0 i1

omit R

theorem dkd_eq (H : RefScan.At (Head.scan (args a0 a1 a2 a3 a4 a5 a6 a7 a8 a9 a10 a11 a12 a13 a14)) 64 s) :
    R_main_v188 s a0 a1 a6 = Spec.dkd (args a0 a1 a2 a3 a4 a5 a6 a7 a8 a9 a10 a11 a12 a13 a14) := by
  funext i
  idx_vars i
  simp only [v191_at, after_at H]
  rfl

theorem ddl_eq (H : RefScan.At (Head.scan (args a0 a1 a2 a3 a4 a5 a6 a7 a8 a9 a10 a11 a12 a13 a14)) 64 s) :
    R_main_v201 s a6 = Spec.ddl (args a0 a1 a2 a3 a4 a5 a6 a7 a8 a9 a10 a11 a12 a13 a14) := by
  funext i
  idx_vars i
  simp only [v204_at, after_at H]
  rfl

theorem dnw_eq : R_main_v204 s a0 a1 a2 a3 a6 a7 a11 a13 = Spec.dnw (args a0 a1 a2 a3 a4 a5 a6 a7 a8 a9 a10 a11 a12 a13 a14) := by
  funext i
  idx_vars i
  exact v207_at s i0 i1

theorem dob_eq : R_main_v138 s a10 a12 a14 = Spec.dob (args a0 a1 a2 a3 a4 a5 a6 a7 a8 a9 a10 a11 a12 a13 a14) := by
  funext i
  idx_vars i
  exact v141_at s i0 i1

theorem delta_eq : R_main_v208 s a9 a10 a12 a14 = Spec.delta (args a0 a1 a2 a3 a4 a5 a6 a7 a8 a9 a10 a11 a12 a13 a14) := by
  funext i
  idx_vars i
  have e : (⟨i1.val / 128 * 128 + i1.val % 128, by omega⟩ : Fin 512) = i1 := Fin.ext (by simp only []; omega)
  exact (congrArg (fun j => R_main_v208 s a9 a10 a12 a14 (ix2 i0 j)) e).symm.trans
    (v211_at s i0 ⟨i1.val / 128, by omega⟩ ⟨i1.val % 128, by omega⟩)

end Cert.RefHead
-- ==== Proof.RefEnd.lean ====
module

public import proofs.«01_k».proof.Proof.RefValue
public import proofs.«01_k».proof.Proof.Gen.ReferenceIdeal.StepRun

/-! The reference's run, its results the nine arrays. -/

@[expose] public section

set_option maxRecDepth 16384

noncomputable section

namespace Cert.RefEnd

open Idealize.ShloMosaic Idealize.SL.Sem Cert.ReferenceIdeal Cert.ReferenceIdeal.Gen Cert.ReferenceIdeal.Step Cert.Sc

variable (m : (ℓ : Loc nD τ sig) → Buf (Elt Ideal) ℓ) (ρ : Dev nD → PrngReg)

/-- The arguments of device `c`, by coordinates. -/
def args (c : Dev nD) : Head.Args :=
  RefHead.args (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14))

/-- The carried values after a number of trips. -/
def it (c : Dev nD) : Nat → State Ideal
  | 0 => StepRun.initState m c
  | n + 1 => step n (it c n)

theorem last (R : ∀ c, (args m c).Real) (c : Dev nD) : RefScan.At (Head.scan (args m c)) 64 (it m c 64) := by
  have e : RefScan.data (it m c 0) = Head.scan (args m c) := RefHead.data_init (R c)
  have h := RefScan.loop (it m c) (fun i => RefHead.init_zero i) (fun _ => rfl) (e ▸ Head.scan_real (R c)) 64 le_rfl
  rwa [e] at h

theorem run (R : ∀ c, (args m c).Real) :
    θ_run (defs (F := Ideal)) (onTc (τ := τ) (main (F := Ideal))) ⟨m, fun _ => 0, ρ⟩ fun r => ∀ c : Dev nD,
      r.2.mem (c.tc.loc main_v199) = Spec.du (args m c)
      ∧ r.2.mem (c.tc.loc main_v188) = Spec.dkd (args m c)
      ∧ r.2.mem (c.tc.loc main_v201) = Spec.ddl (args m c)
      ∧ r.2.mem (c.tc.loc main_v167) = Spec.dO (args m c)
      ∧ r.2.mem (c.tc.loc main_v202) = Spec.dz (args m c)
      ∧ r.2.mem (c.tc.loc main_v204) = Spec.dnw (args m c)
      ∧ r.2.mem (c.tc.loc main_v138) = Spec.dob (args m c)
      ∧ r.2.mem (c.tc.loc main_v205) = Spec.dzb (args m c)
      ∧ r.2.mem (c.tc.loc main_v208) = Spec.delta (args m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14) :=
  (θ_run _ _ _).mono (fun _ h c => by
    obtain ⟨q0, q1, q2, q3, q4, q5, q6, q7, q8, k⟩ := h c
    exact ⟨q0.trans (RefHead.du_eq (R c) (last m R c)), q1.trans (RefHead.dkd_eq (last m R c)), q2.trans (RefHead.ddl_eq (last m R c)), q3.trans (RefHead.dO_eq (R c)), q4.trans (RefHead.dz_eq (R c)), q5.trans (RefHead.dnw_eq), q6.trans (RefHead.dob_eq), q7.trans (RefHead.dzb_eq (R c)), q8.trans (RefHead.delta_eq), k⟩)
    (StepRun.run_iter m ρ (it m) (fun _ => rfl) fun _ _ => rfl)

end Cert.RefEnd
-- ==== Proof.PreReal.lean ====
module

public import proofs.«01_k».proof.Proof.RefHead
public import proofs.«01_k».proof.Proof.Gen.Pre_finite
public import Idealize.ShloMosaic.Lib.ReduceAll
public import Idealize.ShloMosaic.Lib.Pointwise

/-! The precondition read back: every entry of every argument is a real number. -/

@[expose] public section

set_option maxRecDepth 16384

noncomputable section

namespace Cert.PreReal

open Idealize.ShloMosaic Cert.Sc Cert.Pre_finite

/-- Smaller in absolute value than infinity: a real number. -/
theorem isR_of_lt {x : EReal} (h : Ideal.cmp .olt (max x (-x)) (Ideal.ofBits .f32 0x7F800000#32) = 1#1) : IsR x := by
  have ht : Ideal.ofBits .f32 0x7F800000#32 = ⊤ := by simp [Ideal.ofBits, Ideal.ieee]
  rw [ht] at h
  have hl : max x (-x) < ⊤ := by
    by_contra hn
    simp [Ideal.cmp, hn] at h
  induction x using EReal.rec with
  | bot => simp at hl
  | top => simp at hl
  | coe r => exact ⟨r, rfl⟩

theorem andi1 {a b : IVec S_ 1} (h : andi a b = fun _ => 1#1) : a = (fun _ => 1#1) ∧ b = fun _ => 1#1 :=
  ⟨funext fun i => (IntOp.andi_eq_one.1 (congrFun h i)).1, funext fun i => (IntOp.andi_eq_one.1 (congrFun h i)).2⟩

/-- One argument's conjunct. -/
theorem isR_all {s : Shape} {axes : List (Fin s.rank)} (x : FVec Ideal s .f32) (hb : S_.BroadcastsInDim s ![]) (h : s.ReducesTo axes S_)
    (hu : 0 < S_.numel)
    (e : Host.reduce IntOp.andi (cmpf .olt (Host.absf x) (broadcastInDim s ![] hb (constant S_ .f32 0x7F800000#32))) (constantI S_ 1 1#1) h hu
      = fun _ => 1#1) (i : s.Idx) : IsR (x i) := by
  haveI : Subsingleton S_.Idx := ⟨fun a b => funext fun k => k.elim0⟩
  exact isR_of_lt (Host.reduce_andi_all _ _ h hu default (congrFun e default) i)

variable
  (a0 : (⟨S64x8x64x128, .f32⟩ : BufTy).Contents (Elt Ideal)) (a1 : (⟨S64x8x64x128, .bf16⟩ : BufTy).Contents (Elt Ideal))
  (a2 : (⟨S64x8x64x64, .bf16⟩ : BufTy).Contents (Elt Ideal)) (a3 a4 : (⟨S64x8x64x128, .bf16⟩ : BufTy).Contents (Elt Ideal))
  (a5 : (⟨S64x8, .f32⟩ : BufTy).Contents (Elt Ideal)) (a6 : (⟨S64x8x128x128, .bf16⟩ : BufTy).Contents (Elt Ideal))
  (a7 : (⟨S4096x1024, .f32⟩ : BufTy).Contents (Elt Ideal)) (a8 : (⟨S1x128, .f32⟩ : BufTy).Contents (Elt Ideal))
  (a9 a10 : (⟨S4096x512, .f32⟩ : BufTy).Contents (Elt Ideal)) (a11 : (⟨S1024x1024, .bf16⟩ : BufTy).Contents (Elt Ideal))
  (a12 : (⟨S512x1024, .bf16⟩ : BufTy).Contents (Elt Ideal)) (a13 a14 : (⟨S4096x1024, .bf16⟩ : BufTy).Contents (Elt Ideal))

theorem real (h : Cert.Pre_finite.fn (F := Ideal) a0 a1 a2 a3 a4 a5 a6 a7 a8 a9 a10 a11 a12 a13 a14 = fun _ => 1#1) :
    (RefHead.args a0 a1 a2 a3 a4 a5 a6 a7 a8 a9 a10 a11 a12 a13 a14).Real := by
  unfold fn fn_part1 fn_part2 fn_part3 at h
  dsimp only at h
  obtain ⟨h, h14⟩ := andi1 h
  obtain ⟨h, h13⟩ := andi1 h
  obtain ⟨h, h12⟩ := andi1 h
  obtain ⟨h, h11⟩ := andi1 h
  obtain ⟨h, h10⟩ := andi1 h
  obtain ⟨h, h9⟩ := andi1 h
  obtain ⟨h, h8⟩ := andi1 h
  obtain ⟨h, h7⟩ := andi1 h
  obtain ⟨h, h6⟩ := andi1 h
  obtain ⟨h, h5⟩ := andi1 h
  obtain ⟨h, h4⟩ := andi1 h
  obtain ⟨h, h3⟩ := andi1 h
  obtain ⟨h, h2⟩ := andi1 h
  obtain ⟨h, h1⟩ := andi1 h
  obtain ⟨_, h0⟩ := andi1 h
  exact {
    u := fun n h c k => isR_all a0 _ _ _ h0 (ix4 n h c k)
    w := fun n h c k => isR_all _ _ _ _ h1 (ix4 n h c k)
    aqk := fun n h c k => isR_all _ _ _ _ h2 (ix4 n h c k)
    qd := fun n h c k => isR_all _ _ _ _ h3 (ix4 n h c k)
    kd := fun n h c k => isR_all _ _ _ _ h4 (ix4 n h c k)
    dl := fun n h => isR_all _ _ _ _ h5 (ix2 n h)
    st := fun n h c k => isR_all _ _ _ _ h6 (ix4 n h c k)
    z := fun r j => isR_all _ _ _ _ h7 (ix2 r j)
    nw := fun v => isR_all _ _ _ _ h8 (ix2 0 v)
    oj := fun r j => isR_all _ _ _ _ h9 (ix2 r j)
    zb := fun r j => isR_all _ _ _ _ h10 (ix2 r j)
    wo := fun r j => isR_all _ _ _ _ h11 (ix2 r j)
    wod := fun r j => isR_all _ _ _ _ h12 (ix2 r j)
    dya := fun r j => isR_all _ _ _ _ h13 (ix2 r j)
    dyb := fun r j => isR_all _ _ _ _ h14 (ix2 r j) }

end Cert.PreReal
-- ==== Proof.Lin.lean ====
module

public import Idealize.ShloMosaic.PureOps.Ideal
public import Idealize.ShloMosaic.Lib.Pointwise
public import Idealize.ShloMosaic.Lib.Pipeline.ValueKit

/-! Facts of extended reals and of whole two-dimensional blocks that the input projection's proofs use. -/

@[expose] public section

set_option maxRecDepth 16384

noncomputable section

namespace Cert.Lin

open Idealize.ShloMosaic

/-! ## The norm of one row of 1024 -/

theorem b1024 : Ideal.ofBits .f32 0x44800000#32 = ((1024 : ℝ) : EReal) := by
  simp [Ideal.ofBits, Ideal.ieee, -EReal.coe_mul]; norm_num
theorem bhalf : Ideal.ofBits .f32 0xBF000000#32 = ((-(1 / 2) : ℝ) : EReal) := by
  simp [Ideal.ofBits, Ideal.ieee, -EReal.coe_mul]; norm_num
theorem beps : ∃ e : ℝ, 0 < e ∧ Ideal.ofBits .f32 0x358637BD#32 = (e : EReal) :=
  ⟨8796093 * 2 ^ (-43 : ℤ), by positivity, by simp [Ideal.ofBits, Ideal.ieee, -EReal.coe_mul]⟩

/-- The mean square plus the constant. -/
def var (x : Fin 1024 → EReal) : EReal :=
  Ideal.div (∑ k, x k * x k) (Ideal.ofBits .f32 0x44800000#32) + Ideal.ofBits .f32 0x358637BD#32

/-- Its inverse root. -/
def inv (x : Fin 1024 → EReal) : EReal := Ideal.rsqrt (var x)

theorem sq_nonneg (a : EReal) : 0 ≤ a * a := by
  rcases le_total 0 a with h | h
  · exact mul_nonneg h h
  · rw [← neg_mul_neg]; exact mul_nonneg (EReal.neg_nonneg.2 h) (EReal.neg_nonneg.2 h)

/-- The mean square plus the constant is the top element, or a positive real. -/
theorem var_cases (x : Fin 1024 → EReal) : var x = ⊤ ∨ ∃ v : ℝ, 0 < v ∧ var x = (v : EReal) := by
  obtain ⟨e, he, hE⟩ := beps
  have hs : 0 ≤ ∑ k, x k * x k := Finset.sum_nonneg fun k _ => sq_nonneg (x k)
  unfold var
  rw [b1024, Ideal.div_coe (by norm_num), hE]
  generalize (∑ k, x k * x k) = S at hs
  induction S with
  | bot => exact absurd hs (by simp)
  | top => exact Or.inl (by rw [EReal.top_mul_coe_of_pos (by norm_num), EReal.top_add_coe])
  | coe s =>
    have h0 : 0 ≤ s := by exact_mod_cast hs
    exact Or.inr ⟨s * (1 / 1024) + e, by positivity, by rw [← EReal.coe_mul, ← EReal.coe_add]⟩

theorem two_same (y : EReal) : y + y = ((2 : ℝ) : EReal) * y := by
  induction y with
  | bot => rw [EReal.coe_mul_bot_of_pos (by norm_num)]; rfl
  | top => rw [EReal.coe_mul_top_of_pos (by norm_num)]; rfl
  | coe s => rw [← EReal.coe_mul, ← EReal.coe_add]; congr 1; ring

/-- The gradient through the norm: the term the kernel takes away is the two equal terms the derivative adds. -/
theorem norm_grad (x : Fin 1024 → EReal) (a S : EReal) :
    -((a * ((inv x * inv x) * inv x)) * Ideal.div S (Ideal.ofBits .f32 0x44800000#32))
      = a * (Ideal.div (S * (Ideal.ofBits .f32 0xBF000000#32 * Ideal.div (inv x) (var x))) (Ideal.ofBits .f32 0x44800000#32))
        + (Ideal.div (S * (Ideal.ofBits .f32 0xBF000000#32 * Ideal.div (inv x) (var x))) (Ideal.ofBits .f32 0x44800000#32)) * a := by
  rw [mul_comm (Ideal.div (S * _) _) a, two_same, b1024, bhalf]
  simp only [Ideal.div_coe (show (1024 : ℝ) ≠ 0 by norm_num)]
  rcases var_cases x with h | ⟨v, hv, h⟩
  · have hi : inv x = 0 := by rw [inv, h]; rfl
    have hd : Ideal.div (inv x) (var x) = 0 := by rw [hi, h]; simp [Ideal.div]
    rw [hd, hi]; simp
  · have hi : inv x = (((Real.sqrt v)⁻¹ : ℝ) : EReal) := by
      rw [inv, h, Ideal.rsqrt_coe, if_neg (not_lt.mpr hv.le), if_neg hv.ne']
    have hq : (Real.sqrt v)⁻¹ * (Real.sqrt v)⁻¹ = 1 / v := by
      rw [← mul_inv, Real.mul_self_sqrt hv.le, one_div]
    rw [h, Ideal.div_coe hv.ne', hi]
    simp only [← EReal.coe_mul]
    rw [hq]
    have e1 : ∀ p q : ℝ, (a * (p : EReal)) * (S * (q : EReal)) = (a * S) * ((p * q : ℝ) : EReal) := fun p q => by
      rw [EReal.coe_mul]; exact mul_mul_mul_comm _ _ _ _
    have e2 : ∀ p q r : ℝ, (p : EReal) * (a * (S * (q : EReal) * (r : EReal))) = (a * S) * ((p * (q * r) : ℝ) : EReal) := fun p q r => by
      rw [EReal.coe_mul, EReal.coe_mul, mul_assoc S, ← mul_assoc a S, mul_left_comm]
    rw [e1, e2, ← mul_neg, ← EReal.coe_neg]
    congr 2
    ring

/-! ## Whole blocks -/

/-- A load of a whole reference that holds `x`. -/
theorem rdw {e : EltTy} {m n : Nat} {sig : RefSig} (arg : Memref sig .tc .vmem ⟨2, ![m, n]⟩ e) (h : arg.IsWhole) (x : Vec Ideal ⟨2, ![m, n]⟩ e) (inb)
    (r : Fin m) (v : Fin n) :
    View.readAt (Elt Ideal) arg.view (Rect.unit (s := ⟨2, ![m, n]⟩) ![0, 0] (⟨2, ![m, n]⟩ : Shape).size inb).toLoadRect (h.unread x) (ix2 r v) = x (ix2 r v) := by
  rw [View.readAt_eq_ld, h.read_unread]
  exact View.ld_unit_apply_of x _ _ inb _ _ fun a => by
    match a with
    | ⟨0, _⟩ => exact (Nat.zero_add _).symm
    | ⟨1, _⟩ => exact (Nat.zero_add _).symm

/-- A load of a part of a reference that holds `x`. -/
theorem rdp {e : EltTy} {m n k l : Nat} {sig : RefSig} (arg : Memref sig .tc .vmem ⟨2, ![m, n]⟩ e) (h : arg.IsWhole) (x : Vec Ideal ⟨2, ![m, n]⟩ e) (a b : Nat) (inb)
    (r : Fin k) (v : Fin l) (p : Fin m) (q : Fin n) (hp : p.val = a + r.val) (hq : q.val = b + v.val) :
    View.readAt (Elt Ideal) arg.view (Rect.unit (s := ⟨2, ![m, n]⟩) ![a, b] (⟨2, ![k, l]⟩ : Shape).size inb).toLoadRect (h.unread x) (ix2 r v) = x (ix2 p q) := by
  rw [View.readAt_eq_ld, h.read_unread]
  exact View.ld_unit_apply_of x _ _ inb _ _ fun d => by
    match d with
    | ⟨0, _⟩ => exact hp
    | ⟨1, _⟩ => exact hq

/-! ## Sums over consecutive columns -/

/-- The columns from `o` on of a row of 11280. -/
def part (f : Fin 11280 → EReal) (o n : Nat) (h : o + n ≤ 11280) : EReal := ∑ k : Fin n, f ⟨o + k.val, by omega⟩

theorem part_add (f : Fin 11280 → EReal) (o n k : Nat) (h : o + (n + k) ≤ 11280) :
    part f o (n + k) h = part f o n (by omega) + part f (o + n) k (by omega) := by
  unfold part
  rw [Fin.sum_univ_add]
  refine congrArg₂ (· + ·) rfl (Finset.sum_congr rfl fun i _ => congrArg f (Fin.ext ?_))
  simp only [Fin.val_natAdd]; omega

theorem part_all (f : Fin 11280 → EReal) : ∑ j, f j = part f 0 11280 (by omega) :=
  Finset.sum_congr rfl fun j _ => congrArg f (Fin.ext (Nat.zero_add _).symm)

/-- The whole row by the segments the kernel keeps. -/
theorem split (f : Fin 11280 → EReal) : ∑ j, f j =
    (((part f 0 3072 (by omega) + part f 3072 1024 (by omega)) + part f 4096 16 (by omega))
      + ((((((((part f 4112 512 (by omega) + part f 4624 512 (by omega)) + part f 5136 512 (by omega)) + part f 5648 512 (by omega)) + part f 6160 512 (by omega))
        + part f 6672 512 (by omega)) + part f 7184 512 (by omega)) + part f 7696 512 (by omega)) + part f 8208 512 (by omega)))
      + ((part f 8720 512 (by omega) + part f 9232 1024 (by omega)) + part f 10256 1024 (by omega)) := by
  rw [part_all]
  rw [part_add f 0 10256 1024, part_add f 0 9232 1024, part_add f 0 8720 512, part_add f 0 8208 512, part_add f 0 7696 512, part_add f 0 7184 512, part_add f 0 6672 512,
    part_add f 0 6160 512, part_add f 0 5648 512, part_add f 0 5136 512, part_add f 0 4624 512, part_add f 0 4112 512, part_add f 0 4096 16, part_add f 0 3072 1024]
  simp only [Nat.zero_add, add_assoc]

/-- Sixteen columns padded with zeros to 128. -/
theorem pad (g : Fin 128 → EReal) (f : Fin 11280 → EReal) (o : Nat) (h : o + 16 ≤ 11280) (h0 : ∀ k : Fin 128, ¬ k.val < 16 → g k = 0)
    (h1 : ∀ (k : Fin 128) (hk : k.val < 16), g k = f ⟨o + k.val, by omega⟩) : ∑ k, g k = part f o 16 h := by
  unfold part
  rw [show (∑ k : Fin 128, g k) = ∑ k : Fin (16 + 112), g k from rfl, Fin.sum_univ_add]
  rw [show (∑ i : Fin 112, g (Fin.natAdd 16 i)) = 0 from Finset.sum_eq_zero fun i _ => h0 _ (by simp), add_zero]
  exact Finset.sum_congr rfl fun i _ => (h1 _ (by simp)).trans rfl

/-! ## Products stored by columns -/

/-- A load of a whole block. -/
theorem ldw {e : EltTy} {m n : Nat} (x : Vec Ideal ⟨2, ![m, n]⟩ e) (inb) (r : Fin m) (v : Fin n) :
    View.ld x (Rect.unit (s := ⟨2, ![m, n]⟩) ![0, 0] (⟨2, ![m, n]⟩ : Shape).size inb) (ix2 r v) = x (ix2 r v) :=
  View.ld_unit_apply_of x _ _ inb _ _ fun a => by
    match a with
    | ⟨0, _⟩ => exact (Nat.zero_add _).symm
    | ⟨1, _⟩ => exact (Nat.zero_add _).symm

/-- A load of some rows of a block. -/
theorem ldr {e : EltTy} {m n k : Nat} (x : Vec Ideal ⟨2, ![m, n]⟩ e) (a : Nat) (inb) (r : Fin k) (v : Fin n) (p : Fin m) (hp : p.val = a + r.val) :
    View.ld x (Rect.unit (s := ⟨2, ![m, n]⟩) ![a, 0] (⟨2, ![k, n]⟩ : Shape).size inb) (ix2 r v) = x (ix2 p v) :=
  View.ld_unit_apply_of x _ _ inb _ _ fun d => by
    match d with
    | ⟨0, _⟩ => exact hp
    | ⟨1, _⟩ => exact (Nat.zero_add _).symm

/-- The product of the rows `A` with the transpose of `X`. -/
def dot {m n K : Nat} (A : Fin m → Fin K → EReal) (X : Vec Ideal ⟨2, ![n, K]⟩ .bf16) (r : Fin m) (j : Fin n) : EReal :=
  ∑ k, A r k * (X (ix2 j k) : EReal)

/-- A store of some columns of a product, wherever it holds an index. -/
theorem nt {m n l K : Nat} (A : Fin m → Fin K → EReal) (v : Vec Ideal ⟨2, ![m, K]⟩ .bf16) (hv : ∀ r k, v (ix2 r k) = A r k)
    (X : Vec Ideal ⟨2, ![n, K]⟩ .bf16) (o : Nat) (inb) (ho : o + l ≤ n) (w : (⟨2, ![m, l]⟩ : Shape).Idx → Elt Ideal .f32)
    (hw : ∀ (r : Fin m) (j : Fin l), w (ix2 r j) =
      ∑ k : Fin K, (v (ix2 r k) : EReal) * (View.ld X (Rect.unit (s := ⟨2, ![n, K]⟩) ![o, 0] (⟨2, ![l, K]⟩ : Shape).size inb) (ix2 j k) : EReal))
    (r : Fin m) (j : Fin n) :
    View.TileAt (S := ⟨2, ![m, n]⟩) (Val := Elt Ideal) (e := .f32) (ix2 r j) ![0, o] (⟨2, ![m, l]⟩ : Shape).size w (dot A X r j) := by
  intro x hx
  have h0 : r.val = 0 + (x 0).val := hx 0
  have h1 : j.val = o + (x 1).val := hx 1
  have e0 : x 0 = r := Fin.ext (by omega)
  have ex : x = ix2 (n0 := m) (n1 := l) (x 0) (x 1) := funext fun a => by
    match a with
    | ⟨0, _⟩ => rfl
    | ⟨1, _⟩ => rfl
  refine (congrArg w ex).trans ((hw (x 0) (x 1)).trans (Finset.sum_congr rfl fun k _ => congrArg₂ (fun a b : EReal => a * b) ?_ ?_))
  · exact (hv (x 0) k).trans (congrArg (fun q => A q k) e0)
  · exact ldr X o inb (x 1) k j h1

/-- A row divided by its root mean square, times the weight. -/
def hb {m : Nat} (x : Vec Ideal ⟨2, ![m, 1024]⟩ .f32) (w : Vec Ideal ⟨2, ![1, 1024]⟩ .f32) (r : Fin m) (k : Fin 1024) : EReal :=
  ((x (ix2 r k) : EReal) * inv fun k => x (ix2 r k)) * (w (ix2 0 k) : EReal)

/-- The projection of the normalised rows. -/
def proj (x : Vec Ideal ⟨2, ![4096, 1024]⟩ .f32) (w : Vec Ideal ⟨2, ![1, 1024]⟩ .f32) (W : Vec Ideal ⟨3, ![1, 1024, 11280]⟩ .f32) (r : Fin 4096) (j : Fin 11280) : EReal :=
  ∑ k : Fin 1024, hb x w r k * (W (ix3 0 k j) : EReal)

/-- Some columns of the projection. -/
def seg (x : Vec Ideal ⟨2, ![4096, 1024]⟩ .f32) (w : Vec Ideal ⟨2, ![1, 1024]⟩ .f32) (W : Vec Ideal ⟨3, ![1, 1024, 11280]⟩ .f32) (o n : Nat) (h : o + n ≤ 11280) :
    Vec Ideal ⟨2, ![4096, n]⟩ .f32 := fun i => proj x w W (i 0) ⟨o + (i 1).val, Nat.lt_of_lt_of_le (Nat.add_lt_add_left (i 1).isLt o) h⟩

theorem hb_congr {m m' : Nat} {x : Vec Ideal ⟨2, ![m, 1024]⟩ .f32} {x' : Vec Ideal ⟨2, ![m', 1024]⟩ .f32} {w w' : Vec Ideal ⟨2, ![1, 1024]⟩ .f32} {r : Fin m} {r' : Fin m'}
    (hx : ∀ k, x (ix2 r k) = x' (ix2 r' k)) (hw : ∀ k, w (ix2 0 k) = w' (ix2 0 k)) (k : Fin 1024) : hb x w r k = hb x' w' r' k := by
  unfold hb
  simp only [hx, hw]

theorem dot_congr {m m' n K : Nat} {A : Fin m → Fin K → EReal} {A' : Fin m' → Fin K → EReal} {X X' : Vec Ideal ⟨2, ![n, K]⟩ .bf16} {r : Fin m} {r' : Fin m'} {j : Fin n}
    (hA : ∀ k, A r k = A' r' k) (hX : ∀ k, X (ix2 j k) = X' (ix2 j k)) : dot A X r j = dot A' X' r' j :=
  Finset.sum_congr rfl fun k _ => congrArg₂ (fun a b : EReal => a * b) (hA k) (hX k)

end Cert.Lin
-- ==== Proof.K3Body.lean ====
module

public import proofs.«01_k».proof.Proof.Gen.Kernel3Ideal.Frame
public import proofs.«01_k».proof.Proof.Lin

/-! The blocks the two calls of the input projection leave, entry by entry. -/

@[expose] public section

set_option maxRecDepth 16384

noncomputable section

namespace Cert.K3Body

open Idealize.ShloMosaic Cert.Kernel3Ideal Cert.Kernel3Ideal.Gen Cert.Lin

theorem p0_2 (x : Vec Ideal S256x1024 .f32) (w : Vec Ideal S1x1024 .f32) (r : Fin 256) (k : Fin 1024) :
    (k0_pay2 x w) (ix2 r k) = hb (m := 256) x w r k := by
  unfold_payloads
  pointwise
  rfl

theorem p0_1 (v : FVec Ideal S256x1024 .bf16) (w : Vec Ideal S512x1024 .bf16) (r : Fin 256) (j : Fin 512) :
    (k0_pay1 v w) (ix2 r j) = ∑ k : Fin 1024, (v (ix2 r k) : EReal) * (w (ix2 j k) : EReal) := by
  unfold_payloads
  pointwise

theorem p0_6 (v : FVec Ideal S256x1024 .bf16) (w : Vec Ideal S512x1024 .bf16) (r : Fin 256) (j : Fin 512) :
    (k0_pay6 v w) (ix2 r j) = ∑ k : Fin 1024, (v (ix2 r k) : EReal) * (w (ix2 j k) : EReal) := by
  unfold_payloads
  pointwise

theorem p0_7 (v : FVec Ideal S256x1024 .bf16) (w : Vec Ideal S512x1024 .bf16) (r : Fin 256) (j : Fin 512) :
    (k0_pay7 v w) (ix2 r j) = ∑ k : Fin 1024, (v (ix2 r k) : EReal) * (w (ix2 j k) : EReal) := by
  unfold_payloads
  pointwise

theorem p0_8 (v : FVec Ideal S256x1024 .bf16) (w : Vec Ideal S512x1024 .bf16) (r : Fin 256) (j : Fin 512) :
    (k0_pay8 v w) (ix2 r j) = ∑ k : Fin 1024, (v (ix2 r k) : EReal) * (w (ix2 j k) : EReal) := by
  unfold_payloads
  pointwise

theorem p0_9 (v : FVec Ideal S256x1024 .bf16) (w : Vec Ideal S512x1024 .bf16) (r : Fin 256) (j : Fin 512) :
    (k0_pay9 v w) (ix2 r j) = ∑ k : Fin 1024, (v (ix2 r k) : EReal) * (w (ix2 j k) : EReal) := by
  unfold_payloads
  pointwise

theorem p0_10 (v : FVec Ideal S256x1024 .bf16) (w : Vec Ideal S512x1024 .bf16) (r : Fin 256) (j : Fin 512) :
    (k0_pay10 v w) (ix2 r j) = ∑ k : Fin 1024, (v (ix2 r k) : EReal) * (w (ix2 j k) : EReal) := by
  unfold_payloads
  pointwise

theorem p0_11 (v : FVec Ideal S256x1024 .bf16) (w : Vec Ideal S128x1024 .bf16) (r : Fin 256) (j : Fin 128) :
    (k0_pay11 v w) (ix2 r j) = ∑ k : Fin 1024, (v (ix2 r k) : EReal) * (w (ix2 j k) : EReal) := by
  unfold_payloads
  pointwise

theorem p0_3 (x : Vec Ideal S256x1024 .f32) (y : Vec Ideal S1x1024 .f32) (w : Vec Ideal S512x1024 .bf16) (r : Fin 256) (j : Fin 512) :
    (k0_pay3 x y w) (ix2 r j) = ∑ k : Fin 1024, ((k0_pay2 x y) (ix2 r k) : EReal) * (w (ix2 j k) : EReal) := by
  unfold k0_pay3
  pointwise

theorem p0_4 (x : Vec Ideal S256x1024 .f32) (y : Vec Ideal S1x1024 .f32) (w : Vec Ideal S512x1024 .bf16) (r : Fin 256) (j : Fin 512) :
    (k0_pay4 x y w) (ix2 r j) = ∑ k : Fin 1024, ((k0_pay2 x y) (ix2 r k) : EReal) * (w (ix2 j k) : EReal) := by
  unfold k0_pay4
  pointwise

theorem p0_5 (x : Vec Ideal S256x1024 .f32) (y : Vec Ideal S1x1024 .f32) (w : Vec Ideal S512x1024 .bf16) (r : Fin 256) (j : Fin 512) :
    (k0_pay5 x y w) (ix2 r j) = ∑ k : Fin 1024, ((k0_pay2 x y) (ix2 r k) : EReal) * (w (ix2 j k) : EReal) := by
  unfold k0_pay5
  pointwise

theorem p1_4 (v : FVec Ideal S256x1024 .bf16) (w : Vec Ideal S512x1024 .bf16) (r : Fin 256) (j : Fin 512) :
    (k1_pay4 v w) (ix2 r j) = ∑ k : Fin 1024, (v (ix2 r k) : EReal) * (w (ix2 j k) : EReal) := by
  unfold_payloads
  pointwise

theorem p1_5 (v : FVec Ideal S256x1024 .bf16) (w : Vec Ideal S512x1024 .bf16) (r : Fin 256) (j : Fin 512) :
    (k1_pay5 v w) (ix2 r j) = ∑ k : Fin 1024, (v (ix2 r k) : EReal) * (w (ix2 j k) : EReal) := by
  unfold_payloads
  pointwise

theorem p1_6 (v : FVec Ideal S256x1024 .bf16) (w : Vec Ideal S512x1024 .bf16) (r : Fin 256) (j : Fin 512) :
    (k1_pay6 v w) (ix2 r j) = ∑ k : Fin 1024, (v (ix2 r k) : EReal) * (w (ix2 j k) : EReal) := by
  unfold_payloads
  pointwise

theorem p1_7 (v : FVec Ideal S256x1024 .bf16) (w : Vec Ideal S512x1024 .bf16) (r : Fin 256) (j : Fin 512) :
    (k1_pay7 v w) (ix2 r j) = ∑ k : Fin 1024, (v (ix2 r k) : EReal) * (w (ix2 j k) : EReal) := by
  unfold_payloads
  pointwise

theorem p1_8 (v : FVec Ideal S256x1024 .bf16) (w : Vec Ideal S512x1024 .bf16) (r : Fin 256) (j : Fin 512) :
    (k1_pay8 v w) (ix2 r j) = ∑ k : Fin 1024, (v (ix2 r k) : EReal) * (w (ix2 j k) : EReal) := by
  unfold_payloads
  pointwise

theorem p1_2 (v : FVec Ideal S256x1024 .bf16) (w : Vec Ideal S512x1024 .bf16) (r : Fin 256) (j : Fin 512) :
    (k1_pay2 v w) (ix2 r j) = ∑ k : Fin 1024, (v (ix2 r k) : EReal) * (w (ix2 j k) : EReal) := by
  unfold_payloads
  pointwise

theorem p1_11 (v : FVec Ideal S256x1024 .bf16) (w : Vec Ideal S512x1024 .bf16) (r : Fin 256) (j : Fin 512) :
    (k1_pay11 v w) (ix2 r j) = ∑ k : Fin 1024, (v (ix2 r k) : EReal) * (w (ix2 j k) : EReal) := by
  unfold_payloads
  pointwise

theorem p1_12 (v : FVec Ideal S256x1024 .bf16) (w : Vec Ideal S512x1024 .bf16) (r : Fin 256) (j : Fin 512) :
    (k1_pay12 v w) (ix2 r j) = ∑ k : Fin 1024, (v (ix2 r k) : EReal) * (w (ix2 j k) : EReal) := by
  unfold_payloads
  pointwise

theorem p1_13 (v : FVec Ideal S256x1024 .bf16) (w : Vec Ideal S512x1024 .bf16) (r : Fin 256) (j : Fin 512) :
    (k1_pay13 v w) (ix2 r j) = ∑ k : Fin 1024, (v (ix2 r k) : EReal) * (w (ix2 j k) : EReal) := by
  unfold_payloads
  pointwise

theorem p1_14 (v : FVec Ideal S256x1024 .bf16) (w : Vec Ideal S512x1024 .bf16) (r : Fin 256) (j : Fin 512) :
    (k1_pay14 v w) (ix2 r j) = ∑ k : Fin 1024, (v (ix2 r k) : EReal) * (w (ix2 j k) : EReal) := by
  unfold_payloads
  pointwise

theorem p1_15 (v : FVec Ideal S256x1024 .bf16) (w : Vec Ideal S512x1024 .bf16) (r : Fin 256) (j : Fin 512) :
    (k1_pay15 v w) (ix2 r j) = ∑ k : Fin 1024, (v (ix2 r k) : EReal) * (w (ix2 j k) : EReal) := by
  unfold_payloads
  pointwise

theorem p1_10 (v : FVec Ideal S256x1024 .bf16) (w : Vec Ideal S512x1024 .bf16) (r : Fin 256) (j : Fin 512) :
    (k1_pay10 v (k1_pay9 w) (constant S256x512 .f32 0x00000000#32)) (ix2 r j) = ∑ k : Fin 1024, (v (ix2 r k) : EReal) * (w (ix2 j k) : EReal) := by
  unfold_payloads
  pointwise

theorem p1_1 (v : FVec Ideal S256x1024 .bf16) (w : Vec Ideal S512x1024 .bf16) (r : Fin 256) (j : Fin 512) :
    (k1_pay1 v (k1_pay16 w) (constant S256x512 .f32 0x00000000#32)) (ix2 r j) = ∑ k : Fin 1024, (v (ix2 r k) : EReal) * (w (ix2 j k) : EReal) := by
  unfold_payloads
  pointwise

theorem p1_3 (v : Vec Ideal S256x1024 .bf16) (r : Fin 256) (k : Fin 1024) : (k1_pay3 v) (ix2 r k) = v (ix2 r k) := by
  unfold_payloads
  pointwise

section
variable (x0 : Vec Ideal S256x1024 .f32) (x1 : Vec Ideal S1x1024 .f32) (x2 : Vec Ideal S3072x1024 .bf16) (x3 : Vec Ideal S1024x1024 .bf16) (x4 : Vec Ideal S128x1024 .bf16) (x5 : Vec Ideal S512x1024 .bf16)

/-- The normalised rows from the loads of whole blocks. -/
theorem row (r : Fin 256) (k : Fin 1024) : (k0_pay2 (View.ld x0 r0_0) (View.ld x1 r0_1)) (ix2 r k) = hb (m := 256) x0 x1 r k := by
  refine (p0_2 _ _ r k).trans ?_
  have e : ∀ k : Fin 1024, (View.ld x0 r0_0) (ix2 r k) = x0 (ix2 r k) := fun k => ldw x0 _ r k
  have e1 : (View.ld x1 r0_1) (ix2 0 k) = x1 (ix2 0 k) := ldw x1 _ 0 k
  unfold hb
  simp only [e, e1]

theorem row12 (r : Fin 256) (k : Fin 1024) : (k0_pay12 x0 x1 x2 x3 x4 x5) (ix2 r k) = hb (m := 256) x0 x1 r k := row x0 x1 r k

theorem o6 (r : Fin 256) (k : Fin 1024) : (out0_6 x0 x1 x2 x3 x4 x5) (ix2 r k) = hb (m := 256) x0 x1 r k := by
  unfold out0_6
  rw [View.canon_cons_unit_lit' _ _ _ (by decide)]
  exact row x0 x1 r k

theorem o7 (r : Fin 256) (j : Fin 3072) : (out0_7 x0 x1 x2 x3 x4 x5) (ix2 r j) = dot (m := 256) (n := 3072) (hb x0 x1) x2 r j := by
  unfold out0_7
  refine View.canon_eq_of_allAt _ _ _ (View.cover_of_tiled_head _ _ _ rfl _) ?_
  exact View.allAt_cons_unit _ _ _ _ _ (nt (m := 256) (n := 3072) (l := 512) (K := 1024) (hb x0 x1) _ (row12 x0 x1 x2 x3 x4 x5) x2 2560 _ (by norm_num) _ (fun r j => p0_8 _ _ r j) r j) <|
    View.allAt_cons_unit _ _ _ _ _ (nt (m := 256) (n := 3072) (l := 512) (K := 1024) (hb x0 x1) _ (row12 x0 x1 x2 x3 x4 x5) x2 2048 _ (by norm_num) _ (fun r j => p0_7 _ _ r j) r j) <|
    View.allAt_cons_unit _ _ _ _ _ (nt (m := 256) (n := 3072) (l := 512) (K := 1024) (hb x0 x1) _ (row12 x0 x1 x2 x3 x4 x5) x2 1536 _ (by norm_num) _ (fun r j => p0_6 _ _ r j) r j) <|
    View.allAt_cons_unit _ _ _ _ _ (nt (m := 256) (n := 3072) (l := 512) (K := 1024) (hb x0 x1) _ (row x0 x1) x2 1024 _ (by norm_num) _ (fun r j => p0_5 _ _ _ r j) r j) <|
    View.allAt_cons_unit _ _ _ _ _ (nt (m := 256) (n := 3072) (l := 512) (K := 1024) (hb x0 x1) _ (row x0 x1) x2 512 _ (by norm_num) _ (fun r j => p0_4 _ _ _ r j) r j) <|
    View.allAt_cons_unit _ _ _ _ _ (nt (m := 256) (n := 3072) (l := 512) (K := 1024) (hb x0 x1) _ (row x0 x1) x2 0 _ (by norm_num) _ (fun r j => p0_3 _ _ _ r j) r j) <|
    View.allAt_nil _ _

theorem o8 (r : Fin 256) (j : Fin 1024) : (out0_8 x0 x1 x2 x3 x4 x5) (ix2 r j) = dot (m := 256) (n := 1024) (hb x0 x1) x3 r j := by
  unfold out0_8
  refine View.canon_eq_of_allAt _ _ _ (View.cover_of_tiled_head _ _ _ rfl _) ?_
  exact View.allAt_cons_unit _ _ _ _ _ (nt (m := 256) (n := 1024) (l := 512) (K := 1024) (hb x0 x1) _ (row12 x0 x1 x2 x3 x4 x5) x3 512 _ (by norm_num) _ (fun r j => p0_10 _ _ r j) r j) <|
    View.allAt_cons_unit _ _ _ _ _ (nt (m := 256) (n := 1024) (l := 512) (K := 1024) (hb x0 x1) _ (row12 x0 x1 x2 x3 x4 x5) x3 0 _ (by norm_num) _ (fun r j => p0_9 _ _ r j) r j) <|
    View.allAt_nil _ _

theorem o9 (r : Fin 256) (j : Fin 128) : (out0_9 x0 x1 x2 x3 x4 x5) (ix2 r j) = dot (m := 256) (n := 128) (hb x0 x1) x4 r j := by
  unfold out0_9
  refine View.canon_eq_of_allAt _ _ _ (View.cover_of_tiled_head _ _ _ rfl _) ?_
  exact View.allAt_cons_unit _ _ _ _ _ (nt (m := 256) (n := 128) (l := 128) (K := 1024) (hb x0 x1) _ (row12 x0 x1 x2 x3 x4 x5) x4 0 _ (by norm_num) _ (fun r j => p0_11 _ _ r j) r j) <|
    View.allAt_nil _ _

theorem o10 (r : Fin 256) (j : Fin 512) : (out0_10 x0 x1 x2 x3 x4 x5) (ix2 r j) = dot (m := 256) (n := 512) (hb x0 x1) x5 r j := by
  unfold out0_10
  refine View.canon_eq_of_allAt _ _ _ (View.cover_of_tiled_head _ _ _ rfl _) ?_
  exact View.allAt_cons_unit _ _ _ _ _ (nt (m := 256) (n := 512) (l := 512) (K := 1024) (hb x0 x1) _ (row12 x0 x1 x2 x3 x4 x5) x5 0 _ (by norm_num) _ (fun r j => p0_1 _ _ r j) r j) <|
    View.allAt_nil _ _

end

section
variable (x0 : Vec Ideal S256x1024 .bf16) (x1 : Vec Ideal S1536x1024 .bf16) (x2 : Vec Ideal S1536x1024 .bf16) (x3 : Vec Ideal S1536x1024 .bf16) (x4 : Vec Ideal S1024x1024 .bf16) (x5 : Vec Ideal S1024x1024 .bf16)

theorem rows (r : Fin 256) (k : Fin 1024) : (View.ld x0 r1_0) (ix2 r k) = x0 (ix2 r k) := ldw x0 _ r k

theorem rows17 (r : Fin 256) (k : Fin 1024) : (k1_pay17 x0 x1 x2 x3 x4 x5) (ix2 r k) = x0 (ix2 r k) := (p1_3 _ r k).trans (ldw x0 _ r k)

theorem o'6 (r : Fin 256) (j : Fin 1536) : (out1_6 x0 x1 x2 x3 x4 x5) (ix2 r j) = dot (m := 256) (n := 1536) (fun r k => x0 (ix2 r k)) x1 r j := by
  unfold out1_6
  refine View.canon_eq_of_allAt _ _ _ (View.cover_of_tiled_head _ _ _ rfl _) ?_
  exact View.allAt_cons_unit _ _ _ _ _ (nt (m := 256) (n := 1536) (l := 512) (K := 1024) (fun r k => x0 (ix2 r k)) _ (rows x0) x1 1024 _ (by norm_num) _ (fun r j => p1_6 _ _ r j) r j) <|
    View.allAt_cons_unit _ _ _ _ _ (nt (m := 256) (n := 1536) (l := 512) (K := 1024) (fun r k => x0 (ix2 r k)) _ (rows x0) x1 512 _ (by norm_num) _ (fun r j => p1_5 _ _ r j) r j) <|
    View.allAt_cons_unit _ _ _ _ _ (nt (m := 256) (n := 1536) (l := 512) (K := 1024) (fun r k => x0 (ix2 r k)) _ (rows x0) x1 0 _ (by norm_num) _ (fun r j => p1_4 _ _ r j) r j) <|
    View.allAt_nil _ _

theorem o'7 (r : Fin 256) (j : Fin 1536) : (out1_7 x0 x1 x2 x3 x4 x5) (ix2 r j) = dot (m := 256) (n := 1536) (fun r k => x0 (ix2 r k)) x2 r j := by
  unfold out1_7
  refine View.canon_eq_of_allAt _ _ _ (View.cover_of_tiled_head _ _ _ rfl _) ?_
  exact View.allAt_cons_unit _ _ _ _ _ (nt (m := 256) (n := 1536) (l := 512) (K := 1024) (fun r k => x0 (ix2 r k)) _ (rows17 x0 x1 x2 x3 x4 x5) x2 1024 _ (by norm_num) _ (fun r j => p1_10 _ _ r j) r j) <|
    View.allAt_cons_unit _ _ _ _ _ (nt (m := 256) (n := 1536) (l := 512) (K := 1024) (fun r k => x0 (ix2 r k)) _ (rows x0) x2 512 _ (by norm_num) _ (fun r j => p1_8 _ _ r j) r j) <|
    View.allAt_cons_unit _ _ _ _ _ (nt (m := 256) (n := 1536) (l := 512) (K := 1024) (fun r k => x0 (ix2 r k)) _ (rows x0) x2 0 _ (by norm_num) _ (fun r j => p1_7 _ _ r j) r j) <|
    View.allAt_nil _ _

theorem o'8 (r : Fin 256) (j : Fin 1536) : (out1_8 x0 x1 x2 x3 x4 x5) (ix2 r j) = dot (m := 256) (n := 1536) (fun r k => x0 (ix2 r k)) x3 r j := by
  unfold out1_8
  refine View.canon_eq_of_allAt _ _ _ (View.cover_of_tiled_head _ _ _ rfl _) ?_
  exact View.allAt_cons_unit _ _ _ _ _ (nt (m := 256) (n := 1536) (l := 512) (K := 1024) (fun r k => x0 (ix2 r k)) _ (rows17 x0 x1 x2 x3 x4 x5) x3 1024 _ (by norm_num) _ (fun r j => p1_13 _ _ r j) r j) <|
    View.allAt_cons_unit _ _ _ _ _ (nt (m := 256) (n := 1536) (l := 512) (K := 1024) (fun r k => x0 (ix2 r k)) _ (rows17 x0 x1 x2 x3 x4 x5) x3 512 _ (by norm_num) _ (fun r j => p1_12 _ _ r j) r j) <|
    View.allAt_cons_unit _ _ _ _ _ (nt (m := 256) (n := 1536) (l := 512) (K := 1024) (fun r k => x0 (ix2 r k)) _ (rows17 x0 x1 x2 x3 x4 x5) x3 0 _ (by norm_num) _ (fun r j => p1_11 _ _ r j) r j) <|
    View.allAt_nil _ _

theorem o'9 (r : Fin 256) (j : Fin 1024) : (out1_9 x0 x1 x2 x3 x4 x5) (ix2 r j) = dot (m := 256) (n := 1024) (fun r k => x0 (ix2 r k)) x4 r j := by
  unfold out1_9
  refine View.canon_eq_of_allAt _ _ _ (View.cover_of_tiled_head _ _ _ rfl _) ?_
  exact View.allAt_cons_unit _ _ _ _ _ (nt (m := 256) (n := 1024) (l := 512) (K := 1024) (fun r k => x0 (ix2 r k)) _ (rows17 x0 x1 x2 x3 x4 x5) x4 512 _ (by norm_num) _ (fun r j => p1_15 _ _ r j) r j) <|
    View.allAt_cons_unit _ _ _ _ _ (nt (m := 256) (n := 1024) (l := 512) (K := 1024) (fun r k => x0 (ix2 r k)) _ (rows17 x0 x1 x2 x3 x4 x5) x4 0 _ (by norm_num) _ (fun r j => p1_14 _ _ r j) r j) <|
    View.allAt_nil _ _

theorem o'10 (r : Fin 256) (j : Fin 1024) : (out1_10 x0 x1 x2 x3 x4 x5) (ix2 r j) = dot (m := 256) (n := 1024) (fun r k => x0 (ix2 r k)) x5 r j := by
  unfold out1_10
  refine View.canon_eq_of_allAt _ _ _ (View.cover_of_tiled_head _ _ _ rfl _) ?_
  exact View.allAt_cons_unit _ _ _ _ _ (nt (m := 256) (n := 1024) (l := 512) (K := 1024) (fun r k => x0 (ix2 r k)) _ (rows17 x0 x1 x2 x3 x4 x5) x5 512 _ (by norm_num) _ (fun r j => p1_2 _ _ r j) r j) <|
    View.allAt_cons_unit _ _ _ _ _ (nt (m := 256) (n := 1024) (l := 512) (K := 1024) (fun r k => x0 (ix2 r k)) _ (rows17 x0 x1 x2 x3 x4 x5) x5 0 _ (by norm_num) _ (fun r j => p1_1 _ _ r j) r j) <|
    View.allAt_nil _ _

end

end Cert.K3Body
-- ==== Proof.K3Rd.lean ====
module

public import proofs.«01_k».proof.Proof.K3Body

/-! The blocks of a grid point as parts of the arrays. -/

@[expose] public section

set_option maxRecDepth 16384

noncomputable section

namespace Cert.K3Rd

open Idealize.ShloMosaic Cert.Kernel3Ideal Cert.Kernel3Ideal.Gen Cert.Lin Cert.K3Body

theorem N0 : cfg0.N = 16 := by decide
theorem N1 : cfg1.N = 16 := by decide
theorem lt0 (t : Fin cfg0.N) : t.val < 16 := N0 ▸ t.isLt
theorem lt1 (t : Fin cfg1.N) : t.val < 16 := N1 ▸ t.isLt

/-- Row `r` of the part a point reads or writes. -/
abbrev rw0 (t : Fin cfg0.N) (r : Fin 256) : Fin 4096 := ⟨256 * t.val + r.val, by have := lt0 t; omega⟩
abbrev rw1 (t : Fin cfg1.N) (r : Fin 256) : Fin 4096 := ⟨256 * t.val + r.val, by have := lt1 t; omega⟩

theorem idx0_0 : ∀ t : Fin cfg0.N, win0_0.index t = ![t.val, 0] :=
  (by decide +kernel : ∀ t : Fin grid0.N, _)

theorem rd0_0 (A : (⟨⟨2, ![4096, 1024]⟩, .f32⟩ : BufTy).Contents (Elt Ideal)) (t : Fin cfg0.N) (r : Fin 256) (v : Fin 1024) :
    ((((cfg0.win 0).blk t).view.read (Elt Ideal) A : Vec Ideal ⟨2, ![256, 1024]⟩ .f32)) (ix2 r v) = A (ix2 (rw0 t r) v) := by
  have hi := idx0_0 t
  refine (View.read_apply _ _).trans ?_
  show A _ = A _
  refine congrArg A (funext fun a => Fin.ext ?_)
  match a with
  | ⟨0, _⟩ =>
    have e : win0_0.index t 0 = t.val := congrFun hi 0
    show win0_0.index t 0 * 256 + 1 * r.val = 256 * t.val + r.val
    omega
  | ⟨1, _⟩ =>
    have e : win0_0.index t 1 = 0 := congrFun hi 1
    show win0_0.index t 1 * 1024 + 1 * v.val = v.val
    omega

theorem idx0_1 : ∀ t : Fin cfg0.N, win0_1.index t = ![0, 0] :=
  (by decide +kernel : ∀ t : Fin grid0.N, _)

theorem rd0_1 (A : (⟨⟨2, ![1, 1024]⟩, .f32⟩ : BufTy).Contents (Elt Ideal)) (t : Fin cfg0.N) (r : Fin 1) (v : Fin 1024) :
    ((((cfg0.win 1).blk t).view.read (Elt Ideal) A : Vec Ideal ⟨2, ![1, 1024]⟩ .f32)) (ix2 r v) = A (ix2 (r) v) := by
  have hi := idx0_1 t
  refine (View.read_apply _ _).trans ?_
  show A _ = A _
  refine congrArg A (funext fun a => Fin.ext ?_)
  match a with
  | ⟨0, _⟩ =>
    have e : win0_1.index t 0 = 0 := congrFun hi 0
    show win0_1.index t 0 * 1 + 1 * r.val = r.val
    omega
  | ⟨1, _⟩ =>
    have e : win0_1.index t 1 = 0 := congrFun hi 1
    show win0_1.index t 1 * 1024 + 1 * v.val = v.val
    omega

theorem idx0_2 : ∀ t : Fin cfg0.N, win0_2.index t = ![0, 0] :=
  (by decide +kernel : ∀ t : Fin grid0.N, _)

theorem rd0_2 (A : (⟨⟨2, ![3072, 1024]⟩, .bf16⟩ : BufTy).Contents (Elt Ideal)) (t : Fin cfg0.N) (r : Fin 3072) (v : Fin 1024) :
    ((((cfg0.win 2).blk t).view.read (Elt Ideal) A : Vec Ideal ⟨2, ![3072, 1024]⟩ .bf16)) (ix2 r v) = A (ix2 (r) v) := by
  have hi := idx0_2 t
  refine (View.read_apply _ _).trans ?_
  show A _ = A _
  refine congrArg A (funext fun a => Fin.ext ?_)
  match a with
  | ⟨0, _⟩ =>
    have e : win0_2.index t 0 = 0 := congrFun hi 0
    show win0_2.index t 0 * 3072 + 1 * r.val = r.val
    omega
  | ⟨1, _⟩ =>
    have e : win0_2.index t 1 = 0 := congrFun hi 1
    show win0_2.index t 1 * 1024 + 1 * v.val = v.val
    omega

theorem idx0_3 : ∀ t : Fin cfg0.N, win0_3.index t = ![0, 0] :=
  (by decide +kernel : ∀ t : Fin grid0.N, _)

theorem rd0_3 (A : (⟨⟨2, ![1024, 1024]⟩, .bf16⟩ : BufTy).Contents (Elt Ideal)) (t : Fin cfg0.N) (r : Fin 1024) (v : Fin 1024) :
    ((((cfg0.win 3).blk t).view.read (Elt Ideal) A : Vec Ideal ⟨2, ![1024, 1024]⟩ .bf16)) (ix2 r v) = A (ix2 (r) v) := by
  have hi := idx0_3 t
  refine (View.read_apply _ _).trans ?_
  show A _ = A _
  refine congrArg A (funext fun a => Fin.ext ?_)
  match a with
  | ⟨0, _⟩ =>
    have e : win0_3.index t 0 = 0 := congrFun hi 0
    show win0_3.index t 0 * 1024 + 1 * r.val = r.val
    omega
  | ⟨1, _⟩ =>
    have e : win0_3.index t 1 = 0 := congrFun hi 1
    show win0_3.index t 1 * 1024 + 1 * v.val = v.val
    omega

theorem idx0_4 : ∀ t : Fin cfg0.N, win0_4.index t = ![0, 0] :=
  (by decide +kernel : ∀ t : Fin grid0.N, _)

theorem rd0_4 (A : (⟨⟨2, ![128, 1024]⟩, .bf16⟩ : BufTy).Contents (Elt Ideal)) (t : Fin cfg0.N) (r : Fin 128) (v : Fin 1024) :
    ((((cfg0.win 4).blk t).view.read (Elt Ideal) A : Vec Ideal ⟨2, ![128, 1024]⟩ .bf16)) (ix2 r v) = A (ix2 (r) v) := by
  have hi := idx0_4 t
  refine (View.read_apply _ _).trans ?_
  show A _ = A _
  refine congrArg A (funext fun a => Fin.ext ?_)
  match a with
  | ⟨0, _⟩ =>
    have e : win0_4.index t 0 = 0 := congrFun hi 0
    show win0_4.index t 0 * 128 + 1 * r.val = r.val
    omega
  | ⟨1, _⟩ =>
    have e : win0_4.index t 1 = 0 := congrFun hi 1
    show win0_4.index t 1 * 1024 + 1 * v.val = v.val
    omega

theorem idx0_5 : ∀ t : Fin cfg0.N, win0_5.index t = ![0, 0] :=
  (by decide +kernel : ∀ t : Fin grid0.N, _)

theorem rd0_5 (A : (⟨⟨2, ![512, 1024]⟩, .bf16⟩ : BufTy).Contents (Elt Ideal)) (t : Fin cfg0.N) (r : Fin 512) (v : Fin 1024) :
    ((((cfg0.win 5).blk t).view.read (Elt Ideal) A : Vec Ideal ⟨2, ![512, 1024]⟩ .bf16)) (ix2 r v) = A (ix2 (r) v) := by
  have hi := idx0_5 t
  refine (View.read_apply _ _).trans ?_
  show A _ = A _
  refine congrArg A (funext fun a => Fin.ext ?_)
  match a with
  | ⟨0, _⟩ =>
    have e : win0_5.index t 0 = 0 := congrFun hi 0
    show win0_5.index t 0 * 512 + 1 * r.val = r.val
    omega
  | ⟨1, _⟩ =>
    have e : win0_5.index t 1 = 0 := congrFun hi 1
    show win0_5.index t 1 * 1024 + 1 * v.val = v.val
    omega

theorem idx0_6 : ∀ t : Fin cfg0.N, win0_6.index t = ![t.val, 0] :=
  (by decide +kernel : ∀ t : Fin grid0.N, _)

theorem rd0_6 (A : (⟨⟨2, ![4096, 1024]⟩, .bf16⟩ : BufTy).Contents (Elt Ideal)) (t : Fin cfg0.N) (r : Fin 256) (v : Fin 1024) :
    ((((cfg0.win 6).blk t).view.read (Elt Ideal) A : Vec Ideal ⟨2, ![256, 1024]⟩ .bf16)) (ix2 r v) = A (ix2 (rw0 t r) v) := by
  have hi := idx0_6 t
  refine (View.read_apply _ _).trans ?_
  show A _ = A _
  refine congrArg A (funext fun a => Fin.ext ?_)
  match a with
  | ⟨0, _⟩ =>
    have e : win0_6.index t 0 = t.val := congrFun hi 0
    show win0_6.index t 0 * 256 + 1 * r.val = 256 * t.val + r.val
    omega
  | ⟨1, _⟩ =>
    have e : win0_6.index t 1 = 0 := congrFun hi 1
    show win0_6.index t 1 * 1024 + 1 * v.val = v.val
    omega

theorem idx0_7 : ∀ t : Fin cfg0.N, win0_7.index t = ![t.val, 0] :=
  (by decide +kernel : ∀ t : Fin grid0.N, _)

theorem rd0_7 (A : (⟨⟨2, ![4096, 3072]⟩, .f32⟩ : BufTy).Contents (Elt Ideal)) (t : Fin cfg0.N) (r : Fin 256) (v : Fin 3072) :
    ((((cfg0.win 7).blk t).view.read (Elt Ideal) A : Vec Ideal ⟨2, ![256, 3072]⟩ .f32)) (ix2 r v) = A (ix2 (rw0 t r) v) := by
  have hi := idx0_7 t
  refine (View.read_apply _ _).trans ?_
  show A _ = A _
  refine congrArg A (funext fun a => Fin.ext ?_)
  match a with
  | ⟨0, _⟩ =>
    have e : win0_7.index t 0 = t.val := congrFun hi 0
    show win0_7.index t 0 * 256 + 1 * r.val = 256 * t.val + r.val
    omega
  | ⟨1, _⟩ =>
    have e : win0_7.index t 1 = 0 := congrFun hi 1
    show win0_7.index t 1 * 3072 + 1 * v.val = v.val
    omega

theorem idx0_8 : ∀ t : Fin cfg0.N, win0_8.index t = ![t.val, 0] :=
  (by decide +kernel : ∀ t : Fin grid0.N, _)

theorem rd0_8 (A : (⟨⟨2, ![4096, 1024]⟩, .f32⟩ : BufTy).Contents (Elt Ideal)) (t : Fin cfg0.N) (r : Fin 256) (v : Fin 1024) :
    ((((cfg0.win 8).blk t).view.read (Elt Ideal) A : Vec Ideal ⟨2, ![256, 1024]⟩ .f32)) (ix2 r v) = A (ix2 (rw0 t r) v) := by
  have hi := idx0_8 t
  refine (View.read_apply _ _).trans ?_
  show A _ = A _
  refine congrArg A (funext fun a => Fin.ext ?_)
  match a with
  | ⟨0, _⟩ =>
    have e : win0_8.index t 0 = t.val := congrFun hi 0
    show win0_8.index t 0 * 256 + 1 * r.val = 256 * t.val + r.val
    omega
  | ⟨1, _⟩ =>
    have e : win0_8.index t 1 = 0 := congrFun hi 1
    show win0_8.index t 1 * 1024 + 1 * v.val = v.val
    omega

theorem idx0_9 : ∀ t : Fin cfg0.N, win0_9.index t = ![t.val, 0] :=
  (by decide +kernel : ∀ t : Fin grid0.N, _)

theorem rd0_9 (A : (⟨⟨2, ![4096, 128]⟩, .f32⟩ : BufTy).Contents (Elt Ideal)) (t : Fin cfg0.N) (r : Fin 256) (v : Fin 128) :
    ((((cfg0.win 9).blk t).view.read (Elt Ideal) A : Vec Ideal ⟨2, ![256, 128]⟩ .f32)) (ix2 r v) = A (ix2 (rw0 t r) v) := by
  have hi := idx0_9 t
  refine (View.read_apply _ _).trans ?_
  show A _ = A _
  refine congrArg A (funext fun a => Fin.ext ?_)
  match a with
  | ⟨0, _⟩ =>
    have e : win0_9.index t 0 = t.val := congrFun hi 0
    show win0_9.index t 0 * 256 + 1 * r.val = 256 * t.val + r.val
    omega
  | ⟨1, _⟩ =>
    have e : win0_9.index t 1 = 0 := congrFun hi 1
    show win0_9.index t 1 * 128 + 1 * v.val = v.val
    omega

theorem idx0_10 : ∀ t : Fin cfg0.N, win0_10.index t = ![t.val, 0] :=
  (by decide +kernel : ∀ t : Fin grid0.N, _)

theorem rd0_10 (A : (⟨⟨2, ![4096, 512]⟩, .f32⟩ : BufTy).Contents (Elt Ideal)) (t : Fin cfg0.N) (r : Fin 256) (v : Fin 512) :
    ((((cfg0.win 10).blk t).view.read (Elt Ideal) A : Vec Ideal ⟨2, ![256, 512]⟩ .f32)) (ix2 r v) = A (ix2 (rw0 t r) v) := by
  have hi := idx0_10 t
  refine (View.read_apply _ _).trans ?_
  show A _ = A _
  refine congrArg A (funext fun a => Fin.ext ?_)
  match a with
  | ⟨0, _⟩ =>
    have e : win0_10.index t 0 = t.val := congrFun hi 0
    show win0_10.index t 0 * 256 + 1 * r.val = 256 * t.val + r.val
    omega
  | ⟨1, _⟩ =>
    have e : win0_10.index t 1 = 0 := congrFun hi 1
    show win0_10.index t 1 * 512 + 1 * v.val = v.val
    omega

theorem idx1_0 : ∀ t : Fin cfg1.N, win1_0.index t = ![t.val, 0] :=
  (by decide +kernel : ∀ t : Fin grid1.N, _)

theorem rd1_0 (A : (⟨⟨2, ![4096, 1024]⟩, .bf16⟩ : BufTy).Contents (Elt Ideal)) (t : Fin cfg1.N) (r : Fin 256) (v : Fin 1024) :
    ((((cfg1.win 0).blk t).view.read (Elt Ideal) A : Vec Ideal ⟨2, ![256, 1024]⟩ .bf16)) (ix2 r v) = A (ix2 (rw1 t r) v) := by
  have hi := idx1_0 t
  refine (View.read_apply _ _).trans ?_
  show A _ = A _
  refine congrArg A (funext fun a => Fin.ext ?_)
  match a with
  | ⟨0, _⟩ =>
    have e : win1_0.index t 0 = t.val := congrFun hi 0
    show win1_0.index t 0 * 256 + 1 * r.val = 256 * t.val + r.val
    omega
  | ⟨1, _⟩ =>
    have e : win1_0.index t 1 = 0 := congrFun hi 1
    show win1_0.index t 1 * 1024 + 1 * v.val = v.val
    omega

theorem idx1_1 : ∀ t : Fin cfg1.N, win1_1.index t = ![0, 0] :=
  (by decide +kernel : ∀ t : Fin grid1.N, _)

theorem rd1_1 (A : (⟨⟨2, ![1536, 1024]⟩, .bf16⟩ : BufTy).Contents (Elt Ideal)) (t : Fin cfg1.N) (r : Fin 1536) (v : Fin 1024) :
    ((((cfg1.win 1).blk t).view.read (Elt Ideal) A : Vec Ideal ⟨2, ![1536, 1024]⟩ .bf16)) (ix2 r v) = A (ix2 (r) v) := by
  have hi := idx1_1 t
  refine (View.read_apply _ _).trans ?_
  show A _ = A _
  refine congrArg A (funext fun a => Fin.ext ?_)
  match a with
  | ⟨0, _⟩ =>
    have e : win1_1.index t 0 = 0 := congrFun hi 0
    show win1_1.index t 0 * 1536 + 1 * r.val = r.val
    omega
  | ⟨1, _⟩ =>
    have e : win1_1.index t 1 = 0 := congrFun hi 1
    show win1_1.index t 1 * 1024 + 1 * v.val = v.val
    omega

theorem idx1_2 : ∀ t : Fin cfg1.N, win1_2.index t = ![0, 0] :=
  (by decide +kernel : ∀ t : Fin grid1.N, _)

theorem rd1_2 (A : (⟨⟨2, ![1536, 1024]⟩, .bf16⟩ : BufTy).Contents (Elt Ideal)) (t : Fin cfg1.N) (r : Fin 1536) (v : Fin 1024) :
    ((((cfg1.win 2).blk t).view.read (Elt Ideal) A : Vec Ideal ⟨2, ![1536, 1024]⟩ .bf16)) (ix2 r v) = A (ix2 (r) v) := by
  have hi := idx1_2 t
  refine (View.read_apply _ _).trans ?_
  show A _ = A _
  refine congrArg A (funext fun a => Fin.ext ?_)
  match a with
  | ⟨0, _⟩ =>
    have e : win1_2.index t 0 = 0 := congrFun hi 0
    show win1_2.index t 0 * 1536 + 1 * r.val = r.val
    omega
  | ⟨1, _⟩ =>
    have e : win1_2.index t 1 = 0 := congrFun hi 1
    show win1_2.index t 1 * 1024 + 1 * v.val = v.val
    omega

theorem idx1_3 : ∀ t : Fin cfg1.N, win1_3.index t = ![0, 0] :=
  (by decide +kernel : ∀ t : Fin grid1.N, _)

theorem rd1_3 (A : (⟨⟨2, ![1536, 1024]⟩, .bf16⟩ : BufTy).Contents (Elt Ideal)) (t : Fin cfg1.N) (r : Fin 1536) (v : Fin 1024) :
    ((((cfg1.win 3).blk t).view.read (Elt Ideal) A : Vec Ideal ⟨2, ![1536, 1024]⟩ .bf16)) (ix2 r v) = A (ix2 (r) v) := by
  have hi := idx1_3 t
  refine (View.read_apply _ _).trans ?_
  show A _ = A _
  refine congrArg A (funext fun a => Fin.ext ?_)
  match a with
  | ⟨0, _⟩ =>
    have e : win1_3.index t 0 = 0 := congrFun hi 0
    show win1_3.index t 0 * 1536 + 1 * r.val = r.val
    omega
  | ⟨1, _⟩ =>
    have e : win1_3.index t 1 = 0 := congrFun hi 1
    show win1_3.index t 1 * 1024 + 1 * v.val = v.val
    omega

theorem idx1_4 : ∀ t : Fin cfg1.N, win1_4.index t = ![0, 0] :=
  (by decide +kernel : ∀ t : Fin grid1.N, _)

theorem rd1_4 (A : (⟨⟨2, ![1024, 1024]⟩, .bf16⟩ : BufTy).Contents (Elt Ideal)) (t : Fin cfg1.N) (r : Fin 1024) (v : Fin 1024) :
    ((((cfg1.win 4).blk t).view.read (Elt Ideal) A : Vec Ideal ⟨2, ![1024, 1024]⟩ .bf16)) (ix2 r v) = A (ix2 (r) v) := by
  have hi := idx1_4 t
  refine (View.read_apply _ _).trans ?_
  show A _ = A _
  refine congrArg A (funext fun a => Fin.ext ?_)
  match a with
  | ⟨0, _⟩ =>
    have e : win1_4.index t 0 = 0 := congrFun hi 0
    show win1_4.index t 0 * 1024 + 1 * r.val = r.val
    omega
  | ⟨1, _⟩ =>
    have e : win1_4.index t 1 = 0 := congrFun hi 1
    show win1_4.index t 1 * 1024 + 1 * v.val = v.val
    omega

theorem idx1_5 : ∀ t : Fin cfg1.N, win1_5.index t = ![0, 0] :=
  (by decide +kernel : ∀ t : Fin grid1.N, _)

theorem rd1_5 (A : (⟨⟨2, ![1024, 1024]⟩, .bf16⟩ : BufTy).Contents (Elt Ideal)) (t : Fin cfg1.N) (r : Fin 1024) (v : Fin 1024) :
    ((((cfg1.win 5).blk t).view.read (Elt Ideal) A : Vec Ideal ⟨2, ![1024, 1024]⟩ .bf16)) (ix2 r v) = A (ix2 (r) v) := by
  have hi := idx1_5 t
  refine (View.read_apply _ _).trans ?_
  show A _ = A _
  refine congrArg A (funext fun a => Fin.ext ?_)
  match a with
  | ⟨0, _⟩ =>
    have e : win1_5.index t 0 = 0 := congrFun hi 0
    show win1_5.index t 0 * 1024 + 1 * r.val = r.val
    omega
  | ⟨1, _⟩ =>
    have e : win1_5.index t 1 = 0 := congrFun hi 1
    show win1_5.index t 1 * 1024 + 1 * v.val = v.val
    omega

theorem idx1_6 : ∀ t : Fin cfg1.N, win1_6.index t = ![t.val, 0] :=
  (by decide +kernel : ∀ t : Fin grid1.N, _)

theorem rd1_6 (A : (⟨⟨2, ![4096, 1536]⟩, .f32⟩ : BufTy).Contents (Elt Ideal)) (t : Fin cfg1.N) (r : Fin 256) (v : Fin 1536) :
    ((((cfg1.win 6).blk t).view.read (Elt Ideal) A : Vec Ideal ⟨2, ![256, 1536]⟩ .f32)) (ix2 r v) = A (ix2 (rw1 t r) v) := by
  have hi := idx1_6 t
  refine (View.read_apply _ _).trans ?_
  show A _ = A _
  refine congrArg A (funext fun a => Fin.ext ?_)
  match a with
  | ⟨0, _⟩ =>
    have e : win1_6.index t 0 = t.val := congrFun hi 0
    show win1_6.index t 0 * 256 + 1 * r.val = 256 * t.val + r.val
    omega
  | ⟨1, _⟩ =>
    have e : win1_6.index t 1 = 0 := congrFun hi 1
    show win1_6.index t 1 * 1536 + 1 * v.val = v.val
    omega

theorem idx1_7 : ∀ t : Fin cfg1.N, win1_7.index t = ![t.val, 0] :=
  (by decide +kernel : ∀ t : Fin grid1.N, _)

theorem rd1_7 (A : (⟨⟨2, ![4096, 1536]⟩, .f32⟩ : BufTy).Contents (Elt Ideal)) (t : Fin cfg1.N) (r : Fin 256) (v : Fin 1536) :
    ((((cfg1.win 7).blk t).view.read (Elt Ideal) A : Vec Ideal ⟨2, ![256, 1536]⟩ .f32)) (ix2 r v) = A (ix2 (rw1 t r) v) := by
  have hi := idx1_7 t
  refine (View.read_apply _ _).trans ?_
  show A _ = A _
  refine congrArg A (funext fun a => Fin.ext ?_)
  match a with
  | ⟨0, _⟩ =>
    have e : win1_7.index t 0 = t.val := congrFun hi 0
    show win1_7.index t 0 * 256 + 1 * r.val = 256 * t.val + r.val
    omega
  | ⟨1, _⟩ =>
    have e : win1_7.index t 1 = 0 := congrFun hi 1
    show win1_7.index t 1 * 1536 + 1 * v.val = v.val
    omega

theorem idx1_8 : ∀ t : Fin cfg1.N, win1_8.index t = ![t.val, 0] :=
  (by decide +kernel : ∀ t : Fin grid1.N, _)

theorem rd1_8 (A : (⟨⟨2, ![4096, 1536]⟩, .f32⟩ : BufTy).Contents (Elt Ideal)) (t : Fin cfg1.N) (r : Fin 256) (v : Fin 1536) :
    ((((cfg1.win 8).blk t).view.read (Elt Ideal) A : Vec Ideal ⟨2, ![256, 1536]⟩ .f32)) (ix2 r v) = A (ix2 (rw1 t r) v) := by
  have hi := idx1_8 t
  refine (View.read_apply _ _).trans ?_
  show A _ = A _
  refine congrArg A (funext fun a => Fin.ext ?_)
  match a with
  | ⟨0, _⟩ =>
    have e : win1_8.index t 0 = t.val := congrFun hi 0
    show win1_8.index t 0 * 256 + 1 * r.val = 256 * t.val + r.val
    omega
  | ⟨1, _⟩ =>
    have e : win1_8.index t 1 = 0 := congrFun hi 1
    show win1_8.index t 1 * 1536 + 1 * v.val = v.val
    omega

theorem idx1_9 : ∀ t : Fin cfg1.N, win1_9.index t = ![t.val, 0] :=
  (by decide +kernel : ∀ t : Fin grid1.N, _)

theorem rd1_9 (A : (⟨⟨2, ![4096, 1024]⟩, .f32⟩ : BufTy).Contents (Elt Ideal)) (t : Fin cfg1.N) (r : Fin 256) (v : Fin 1024) :
    ((((cfg1.win 9).blk t).view.read (Elt Ideal) A : Vec Ideal ⟨2, ![256, 1024]⟩ .f32)) (ix2 r v) = A (ix2 (rw1 t r) v) := by
  have hi := idx1_9 t
  refine (View.read_apply _ _).trans ?_
  show A _ = A _
  refine congrArg A (funext fun a => Fin.ext ?_)
  match a with
  | ⟨0, _⟩ =>
    have e : win1_9.index t 0 = t.val := congrFun hi 0
    show win1_9.index t 0 * 256 + 1 * r.val = 256 * t.val + r.val
    omega
  | ⟨1, _⟩ =>
    have e : win1_9.index t 1 = 0 := congrFun hi 1
    show win1_9.index t 1 * 1024 + 1 * v.val = v.val
    omega

theorem idx1_10 : ∀ t : Fin cfg1.N, win1_10.index t = ![t.val, 0] :=
  (by decide +kernel : ∀ t : Fin grid1.N, _)

theorem rd1_10 (A : (⟨⟨2, ![4096, 1024]⟩, .f32⟩ : BufTy).Contents (Elt Ideal)) (t : Fin cfg1.N) (r : Fin 256) (v : Fin 1024) :
    ((((cfg1.win 10).blk t).view.read (Elt Ideal) A : Vec Ideal ⟨2, ![256, 1024]⟩ .f32)) (ix2 r v) = A (ix2 (rw1 t r) v) := by
  have hi := idx1_10 t
  refine (View.read_apply _ _).trans ?_
  show A _ = A _
  refine congrArg A (funext fun a => Fin.ext ?_)
  match a with
  | ⟨0, _⟩ =>
    have e : win1_10.index t 0 = t.val := congrFun hi 0
    show win1_10.index t 0 * 256 + 1 * r.val = 256 * t.val + r.val
    omega
  | ⟨1, _⟩ =>
    have e : win1_10.index t 1 = 0 := congrFun hi 1
    show win1_10.index t 1 * 1024 + 1 * v.val = v.val
    omega

end Cert.K3Rd
-- ==== Proof.K3Arr.lean ====
module

public import proofs.«01_k».proof.Proof.K3Rd

/-! The arrays the two calls leave. -/

@[expose] public section

set_option maxRecDepth 16384

noncomputable section

namespace Cert.K3Arr

open Idealize.ShloMosaic Cert.Kernel3Ideal Cert.Kernel3Ideal.Gen Cert.Lin Cert.K3Body Cert.K3Rd

variable (V : (c : Dev nD) → (b : Ref sig .tc) → Buf (Elt Ideal) ((c.tc : Idealize.ShloMosaic.Thread nD τ).loc b)) (c : Dev nD)

/-- The normalised rows of the first call's arguments. -/
abbrev H : Fin 4096 → Fin 1024 → EReal := hb (m := 4096) (V c main_arg0) (V c main_arg1)

theorem hbk (t : Fin cfg0.N) (r : Fin 256) (k : Fin 1024) : hb (m := 256) (iblk0 V c 0 t) (iblk0 V c 1 t) r k = H V c (rw0 t r) k :=
  hb_congr (fun k => rd0_0 (V c main_arg0) t r k) (fun k => rd0_1 (V c main_arg1) t 0 k) k

/-- The rows the second call takes. -/
abbrev B : Fin 4096 → Fin 1024 → EReal := fun r k => (V c main_v16_0 : Vec Ideal S4096x1024 .bf16) (ix2 r k)

theorem bbk (t : Fin cfg1.N) (r : Fin 256) (k : Fin 1024) : (iblk1 V c 0 t : Vec Ideal S256x1024 .bf16) (ix2 r k) = B V c (rw1 t r) k :=
  rd1_0 (V c main_v16_0) t r k

theorem blk0_6 (t : Fin cfg0.N) : ((cfg0.win 6).blk t).view.read (Elt Ideal) ((dat0 V c).arrAt 6 cfg0.N) = (dat0 V c).flushed 6 t :=
  (dat0 V c).read_blk_arrAt_eq_flushed 6 (fun a b _ _ hn => (cfg0.win 6).disjoint_blk fun h => hn
    ((by decide +kernel : ∀ a b : Fin grid0.N, win0_6.index a = win0_6.index b → a = b) a b h)) cfg0.N t t.isLt (flush0_6 t)

theorem f0_6 (r : Fin 4096) (j : Fin 1024) : ((dat0 V c).arrAt 6 cfg0.N : Vec Ideal S4096x1024 .bf16) (ix2 r j) = H V c r j := by
  have hl := r.isLt
  let t : Fin cfg0.N := ⟨r.val / 256, lt_of_lt_of_eq (by omega : r.val / 256 < 16) N0.symm⟩
  have e : rw0 t ⟨r.val % 256, Nat.mod_lt _ (by norm_num)⟩ = r := Fin.ext (by simp only [rw0, t]; omega)
  have f : ∀ p : Fin 256, ((dat0 V c).flushed 6 t : Vec Ideal S256x1024 .bf16) (ix2 p j) = H V c (rw0 t p) j := fun p => by
    show ((dat0 V c).after 6 t : Vec Ideal S256x1024 .bf16) (ix2 p j) = _
    rw [after0_6]
    exact (o6 (iblk0 V c 0 t) (iblk0 V c 1 t) (iblk0 V c 2 t) (iblk0 V c 3 t) (iblk0 V c 4 t) (iblk0 V c 5 t) p j).trans (hbk V c t p j)
  have q := (rd0_6 ((dat0 V c).arrAt 6 cfg0.N) t ⟨r.val % 256, Nat.mod_lt _ (by norm_num)⟩ j).symm.trans
    ((congrFun (blk0_6 V c t) _).trans (f _))
  rw [e] at q
  exact q

theorem blk0_7 (t : Fin cfg0.N) : ((cfg0.win 7).blk t).view.read (Elt Ideal) ((dat0 V c).arrAt 7 cfg0.N) = (dat0 V c).flushed 7 t :=
  (dat0 V c).read_blk_arrAt_eq_flushed 7 (fun a b _ _ hn => (cfg0.win 7).disjoint_blk fun h => hn
    ((by decide +kernel : ∀ a b : Fin grid0.N, win0_7.index a = win0_7.index b → a = b) a b h)) cfg0.N t t.isLt (flush0_7 t)

theorem f0_7 (r : Fin 4096) (j : Fin 3072) : ((dat0 V c).arrAt 7 cfg0.N : Vec Ideal S4096x3072 .f32) (ix2 r j) = dot (n := 3072) (H V c) (V c main_v8) r j := by
  have hl := r.isLt
  let t : Fin cfg0.N := ⟨r.val / 256, lt_of_lt_of_eq (by omega : r.val / 256 < 16) N0.symm⟩
  have e : rw0 t ⟨r.val % 256, Nat.mod_lt _ (by norm_num)⟩ = r := Fin.ext (by simp only [rw0, t]; omega)
  have f : ∀ p : Fin 256, ((dat0 V c).flushed 7 t : Vec Ideal S256x3072 .f32) (ix2 p j) = dot (n := 3072) (H V c) (V c main_v8) (rw0 t p) j := fun p => by
    show ((dat0 V c).after 7 t : Vec Ideal S256x3072 .f32) (ix2 p j) = _
    rw [after0_7]
    exact (o7 (iblk0 V c 0 t) (iblk0 V c 1 t) (iblk0 V c 2 t) (iblk0 V c 3 t) (iblk0 V c 4 t) (iblk0 V c 5 t) p j).trans (dot_congr (hbk V c t p) fun k => rd0_2 (V c main_v8) t j k)
  have q := (rd0_7 ((dat0 V c).arrAt 7 cfg0.N) t ⟨r.val % 256, Nat.mod_lt _ (by norm_num)⟩ j).symm.trans
    ((congrFun (blk0_7 V c t) _).trans (f _))
  rw [e] at q
  exact q

theorem blk0_8 (t : Fin cfg0.N) : ((cfg0.win 8).blk t).view.read (Elt Ideal) ((dat0 V c).arrAt 8 cfg0.N) = (dat0 V c).flushed 8 t :=
  (dat0 V c).read_blk_arrAt_eq_flushed 8 (fun a b _ _ hn => (cfg0.win 8).disjoint_blk fun h => hn
    ((by decide +kernel : ∀ a b : Fin grid0.N, win0_8.index a = win0_8.index b → a = b) a b h)) cfg0.N t t.isLt (flush0_8 t)

theorem f0_8 (r : Fin 4096) (j : Fin 1024) : ((dat0 V c).arrAt 8 cfg0.N : Vec Ideal S4096x1024 .f32) (ix2 r j) = dot (n := 1024) (H V c) (V c main_v9) r j := by
  have hl := r.isLt
  let t : Fin cfg0.N := ⟨r.val / 256, lt_of_lt_of_eq (by omega : r.val / 256 < 16) N0.symm⟩
  have e : rw0 t ⟨r.val % 256, Nat.mod_lt _ (by norm_num)⟩ = r := Fin.ext (by simp only [rw0, t]; omega)
  have f : ∀ p : Fin 256, ((dat0 V c).flushed 8 t : Vec Ideal S256x1024 .f32) (ix2 p j) = dot (n := 1024) (H V c) (V c main_v9) (rw0 t p) j := fun p => by
    show ((dat0 V c).after 8 t : Vec Ideal S256x1024 .f32) (ix2 p j) = _
    rw [after0_8]
    exact (o8 (iblk0 V c 0 t) (iblk0 V c 1 t) (iblk0 V c 2 t) (iblk0 V c 3 t) (iblk0 V c 4 t) (iblk0 V c 5 t) p j).trans (dot_congr (hbk V c t p) fun k => rd0_3 (V c main_v9) t j k)
  have q := (rd0_8 ((dat0 V c).arrAt 8 cfg0.N) t ⟨r.val % 256, Nat.mod_lt _ (by norm_num)⟩ j).symm.trans
    ((congrFun (blk0_8 V c t) _).trans (f _))
  rw [e] at q
  exact q

theorem blk0_9 (t : Fin cfg0.N) : ((cfg0.win 9).blk t).view.read (Elt Ideal) ((dat0 V c).arrAt 9 cfg0.N) = (dat0 V c).flushed 9 t :=
  (dat0 V c).read_blk_arrAt_eq_flushed 9 (fun a b _ _ hn => (cfg0.win 9).disjoint_blk fun h => hn
    ((by decide +kernel : ∀ a b : Fin grid0.N, win0_9.index a = win0_9.index b → a = b) a b h)) cfg0.N t t.isLt (flush0_9 t)

theorem f0_9 (r : Fin 4096) (j : Fin 128) : ((dat0 V c).arrAt 9 cfg0.N : Vec Ideal S4096x128 .f32) (ix2 r j) = dot (n := 128) (H V c) (V c main_v7) r j := by
  have hl := r.isLt
  let t : Fin cfg0.N := ⟨r.val / 256, lt_of_lt_of_eq (by omega : r.val / 256 < 16) N0.symm⟩
  have e : rw0 t ⟨r.val % 256, Nat.mod_lt _ (by norm_num)⟩ = r := Fin.ext (by simp only [rw0, t]; omega)
  have f : ∀ p : Fin 256, ((dat0 V c).flushed 9 t : Vec Ideal S256x128 .f32) (ix2 p j) = dot (n := 128) (H V c) (V c main_v7) (rw0 t p) j := fun p => by
    show ((dat0 V c).after 9 t : Vec Ideal S256x128 .f32) (ix2 p j) = _
    rw [after0_9]
    exact (o9 (iblk0 V c 0 t) (iblk0 V c 1 t) (iblk0 V c 2 t) (iblk0 V c 3 t) (iblk0 V c 4 t) (iblk0 V c 5 t) p j).trans (dot_congr (hbk V c t p) fun k => rd0_4 (V c main_v7) t j k)
  have q := (rd0_9 ((dat0 V c).arrAt 9 cfg0.N) t ⟨r.val % 256, Nat.mod_lt _ (by norm_num)⟩ j).symm.trans
    ((congrFun (blk0_9 V c t) _).trans (f _))
  rw [e] at q
  exact q

theorem blk0_10 (t : Fin cfg0.N) : ((cfg0.win 10).blk t).view.read (Elt Ideal) ((dat0 V c).arrAt 10 cfg0.N) = (dat0 V c).flushed 10 t :=
  (dat0 V c).read_blk_arrAt_eq_flushed 10 (fun a b _ _ hn => (cfg0.win 10).disjoint_blk fun h => hn
    ((by decide +kernel : ∀ a b : Fin grid0.N, win0_10.index a = win0_10.index b → a = b) a b h)) cfg0.N t t.isLt (flush0_10 t)

theorem f0_10 (r : Fin 4096) (j : Fin 512) : ((dat0 V c).arrAt 10 cfg0.N : Vec Ideal S4096x512 .f32) (ix2 r j) = dot (n := 512) (H V c) (V c main_v13) r j := by
  have hl := r.isLt
  let t : Fin cfg0.N := ⟨r.val / 256, lt_of_lt_of_eq (by omega : r.val / 256 < 16) N0.symm⟩
  have e : rw0 t ⟨r.val % 256, Nat.mod_lt _ (by norm_num)⟩ = r := Fin.ext (by simp only [rw0, t]; omega)
  have f : ∀ p : Fin 256, ((dat0 V c).flushed 10 t : Vec Ideal S256x512 .f32) (ix2 p j) = dot (n := 512) (H V c) (V c main_v13) (rw0 t p) j := fun p => by
    show ((dat0 V c).after 10 t : Vec Ideal S256x512 .f32) (ix2 p j) = _
    rw [after0_10]
    exact (o10 (iblk0 V c 0 t) (iblk0 V c 1 t) (iblk0 V c 2 t) (iblk0 V c 3 t) (iblk0 V c 4 t) (iblk0 V c 5 t) p j).trans (dot_congr (hbk V c t p) fun k => rd0_5 (V c main_v13) t j k)
  have q := (rd0_10 ((dat0 V c).arrAt 10 cfg0.N) t ⟨r.val % 256, Nat.mod_lt _ (by norm_num)⟩ j).symm.trans
    ((congrFun (blk0_10 V c t) _).trans (f _))
  rw [e] at q
  exact q

theorem blk1_6 (t : Fin cfg1.N) : ((cfg1.win 6).blk t).view.read (Elt Ideal) ((dat1 V c).arrAt 6 cfg1.N) = (dat1 V c).flushed 6 t :=
  (dat1 V c).read_blk_arrAt_eq_flushed 6 (fun a b _ _ hn => (cfg1.win 6).disjoint_blk fun h => hn
    ((by decide +kernel : ∀ a b : Fin grid1.N, win1_6.index a = win1_6.index b → a = b) a b h)) cfg1.N t t.isLt (flush1_6 t)

theorem f1_6 (r : Fin 4096) (j : Fin 1536) : ((dat1 V c).arrAt 6 cfg1.N : Vec Ideal S4096x1536 .f32) (ix2 r j) = dot (n := 1536) (B V c) (V c main_v10) r j := by
  have hl := r.isLt
  let t : Fin cfg1.N := ⟨r.val / 256, lt_of_lt_of_eq (by omega : r.val / 256 < 16) N1.symm⟩
  have e : rw1 t ⟨r.val % 256, Nat.mod_lt _ (by norm_num)⟩ = r := Fin.ext (by simp only [rw1, t]; omega)
  have f : ∀ p : Fin 256, ((dat1 V c).flushed 6 t : Vec Ideal S256x1536 .f32) (ix2 p j) = dot (n := 1536) (B V c) (V c main_v10) (rw1 t p) j := fun p => by
    show ((dat1 V c).after 6 t : Vec Ideal S256x1536 .f32) (ix2 p j) = _
    rw [after1_6]
    exact (o'6 (iblk1 V c 0 t) (iblk1 V c 1 t) (iblk1 V c 2 t) (iblk1 V c 3 t) (iblk1 V c 4 t) (iblk1 V c 5 t) p j).trans (dot_congr (bbk V c t p) fun k => rd1_1 (V c main_v10) t j k)
  have q := (rd1_6 ((dat1 V c).arrAt 6 cfg1.N) t ⟨r.val % 256, Nat.mod_lt _ (by norm_num)⟩ j).symm.trans
    ((congrFun (blk1_6 V c t) _).trans (f _))
  rw [e] at q
  exact q

theorem blk1_7 (t : Fin cfg1.N) : ((cfg1.win 7).blk t).view.read (Elt Ideal) ((dat1 V c).arrAt 7 cfg1.N) = (dat1 V c).flushed 7 t :=
  (dat1 V c).read_blk_arrAt_eq_flushed 7 (fun a b _ _ hn => (cfg1.win 7).disjoint_blk fun h => hn
    ((by decide +kernel : ∀ a b : Fin grid1.N, win1_7.index a = win1_7.index b → a = b) a b h)) cfg1.N t t.isLt (flush1_7 t)

theorem f1_7 (r : Fin 4096) (j : Fin 1536) : ((dat1 V c).arrAt 7 cfg1.N : Vec Ideal S4096x1536 .f32) (ix2 r j) = dot (n := 1536) (B V c) (V c main_v11) r j := by
  have hl := r.isLt
  let t : Fin cfg1.N := ⟨r.val / 256, lt_of_lt_of_eq (by omega : r.val / 256 < 16) N1.symm⟩
  have e : rw1 t ⟨r.val % 256, Nat.mod_lt _ (by norm_num)⟩ = r := Fin.ext (by simp only [rw1, t]; omega)
  have f : ∀ p : Fin 256, ((dat1 V c).flushed 7 t : Vec Ideal S256x1536 .f32) (ix2 p j) = dot (n := 1536) (B V c) (V c main_v11) (rw1 t p) j := fun p => by
    show ((dat1 V c).after 7 t : Vec Ideal S256x1536 .f32) (ix2 p j) = _
    rw [after1_7]
    exact (o'7 (iblk1 V c 0 t) (iblk1 V c 1 t) (iblk1 V c 2 t) (iblk1 V c 3 t) (iblk1 V c 4 t) (iblk1 V c 5 t) p j).trans (dot_congr (bbk V c t p) fun k => rd1_2 (V c main_v11) t j k)
  have q := (rd1_7 ((dat1 V c).arrAt 7 cfg1.N) t ⟨r.val % 256, Nat.mod_lt _ (by norm_num)⟩ j).symm.trans
    ((congrFun (blk1_7 V c t) _).trans (f _))
  rw [e] at q
  exact q

theorem blk1_8 (t : Fin cfg1.N) : ((cfg1.win 8).blk t).view.read (Elt Ideal) ((dat1 V c).arrAt 8 cfg1.N) = (dat1 V c).flushed 8 t :=
  (dat1 V c).read_blk_arrAt_eq_flushed 8 (fun a b _ _ hn => (cfg1.win 8).disjoint_blk fun h => hn
    ((by decide +kernel : ∀ a b : Fin grid1.N, win1_8.index a = win1_8.index b → a = b) a b h)) cfg1.N t t.isLt (flush1_8 t)

theorem f1_8 (r : Fin 4096) (j : Fin 1536) : ((dat1 V c).arrAt 8 cfg1.N : Vec Ideal S4096x1536 .f32) (ix2 r j) = dot (n := 1536) (B V c) (V c main_v12) r j := by
  have hl := r.isLt
  let t : Fin cfg1.N := ⟨r.val / 256, lt_of_lt_of_eq (by omega : r.val / 256 < 16) N1.symm⟩
  have e : rw1 t ⟨r.val % 256, Nat.mod_lt _ (by norm_num)⟩ = r := Fin.ext (by simp only [rw1, t]; omega)
  have f : ∀ p : Fin 256, ((dat1 V c).flushed 8 t : Vec Ideal S256x1536 .f32) (ix2 p j) = dot (n := 1536) (B V c) (V c main_v12) (rw1 t p) j := fun p => by
    show ((dat1 V c).after 8 t : Vec Ideal S256x1536 .f32) (ix2 p j) = _
    rw [after1_8]
    exact (o'8 (iblk1 V c 0 t) (iblk1 V c 1 t) (iblk1 V c 2 t) (iblk1 V c 3 t) (iblk1 V c 4 t) (iblk1 V c 5 t) p j).trans (dot_congr (bbk V c t p) fun k => rd1_3 (V c main_v12) t j k)
  have q := (rd1_8 ((dat1 V c).arrAt 8 cfg1.N) t ⟨r.val % 256, Nat.mod_lt _ (by norm_num)⟩ j).symm.trans
    ((congrFun (blk1_8 V c t) _).trans (f _))
  rw [e] at q
  exact q

theorem blk1_9 (t : Fin cfg1.N) : ((cfg1.win 9).blk t).view.read (Elt Ideal) ((dat1 V c).arrAt 9 cfg1.N) = (dat1 V c).flushed 9 t :=
  (dat1 V c).read_blk_arrAt_eq_flushed 9 (fun a b _ _ hn => (cfg1.win 9).disjoint_blk fun h => hn
    ((by decide +kernel : ∀ a b : Fin grid1.N, win1_9.index a = win1_9.index b → a = b) a b h)) cfg1.N t t.isLt (flush1_9 t)

theorem f1_9 (r : Fin 4096) (j : Fin 1024) : ((dat1 V c).arrAt 9 cfg1.N : Vec Ideal S4096x1024 .f32) (ix2 r j) = dot (n := 1024) (B V c) (V c main_v14) r j := by
  have hl := r.isLt
  let t : Fin cfg1.N := ⟨r.val / 256, lt_of_lt_of_eq (by omega : r.val / 256 < 16) N1.symm⟩
  have e : rw1 t ⟨r.val % 256, Nat.mod_lt _ (by norm_num)⟩ = r := Fin.ext (by simp only [rw1, t]; omega)
  have f : ∀ p : Fin 256, ((dat1 V c).flushed 9 t : Vec Ideal S256x1024 .f32) (ix2 p j) = dot (n := 1024) (B V c) (V c main_v14) (rw1 t p) j := fun p => by
    show ((dat1 V c).after 9 t : Vec Ideal S256x1024 .f32) (ix2 p j) = _
    rw [after1_9]
    exact (o'9 (iblk1 V c 0 t) (iblk1 V c 1 t) (iblk1 V c 2 t) (iblk1 V c 3 t) (iblk1 V c 4 t) (iblk1 V c 5 t) p j).trans (dot_congr (bbk V c t p) fun k => rd1_4 (V c main_v14) t j k)
  have q := (rd1_9 ((dat1 V c).arrAt 9 cfg1.N) t ⟨r.val % 256, Nat.mod_lt _ (by norm_num)⟩ j).symm.trans
    ((congrFun (blk1_9 V c t) _).trans (f _))
  rw [e] at q
  exact q

theorem blk1_10 (t : Fin cfg1.N) : ((cfg1.win 10).blk t).view.read (Elt Ideal) ((dat1 V c).arrAt 10 cfg1.N) = (dat1 V c).flushed 10 t :=
  (dat1 V c).read_blk_arrAt_eq_flushed 10 (fun a b _ _ hn => (cfg1.win 10).disjoint_blk fun h => hn
    ((by decide +kernel : ∀ a b : Fin grid1.N, win1_10.index a = win1_10.index b → a = b) a b h)) cfg1.N t t.isLt (flush1_10 t)

theorem f1_10 (r : Fin 4096) (j : Fin 1024) : ((dat1 V c).arrAt 10 cfg1.N : Vec Ideal S4096x1024 .f32) (ix2 r j) = dot (n := 1024) (B V c) (V c main_v15) r j := by
  have hl := r.isLt
  let t : Fin cfg1.N := ⟨r.val / 256, lt_of_lt_of_eq (by omega : r.val / 256 < 16) N1.symm⟩
  have e : rw1 t ⟨r.val % 256, Nat.mod_lt _ (by norm_num)⟩ = r := Fin.ext (by simp only [rw1, t]; omega)
  have f : ∀ p : Fin 256, ((dat1 V c).flushed 10 t : Vec Ideal S256x1024 .f32) (ix2 p j) = dot (n := 1024) (B V c) (V c main_v15) (rw1 t p) j := fun p => by
    show ((dat1 V c).after 10 t : Vec Ideal S256x1024 .f32) (ix2 p j) = _
    rw [after1_10]
    exact (o'10 (iblk1 V c 0 t) (iblk1 V c 1 t) (iblk1 V c 2 t) (iblk1 V c 3 t) (iblk1 V c 4 t) (iblk1 V c 5 t) p j).trans (dot_congr (bbk V c t p) fun k => rd1_5 (V c main_v15) t j k)
  have q := (rd1_10 ((dat1 V c).arrAt 10 cfg1.N) t ⟨r.val % 256, Nat.mod_lt _ (by norm_num)⟩ j).symm.trans
    ((congrFun (blk1_10 V c t) _).trans (f _))
  rw [e] at q
  exact q

end Cert.K3Arr
-- ==== Proof.K3End.lean ====
module

public import proofs.«01_k».proof.Proof.K3Arr
public import Idealize.ShloMosaic.Lib.Pointwise

/-! The input projection's run: its nine results are columns of the projection. -/

@[expose] public section

set_option maxRecDepth 16384

noncomputable section

namespace Cert.K3End

open Idealize.ShloMosaic Cert.Kernel3Ideal Cert.Kernel3Ideal.Gen Cert.Lin Cert.K3Rd Cert.K3Arr

variable (m : (ℓ : Loc nD τ sig) → Buf (Elt Ideal) ℓ) (ρ : Dev nD → PrngReg) (c : Dev nD)

abbrev X : Vec Ideal S4096x1024 .f32 := m (c.tc.loc main_arg0)
abbrev Nw : Vec Ideal S1x1024 .f32 := m (c.tc.loc main_arg1)
abbrev Wi : Vec Ideal S1x1024x11280 .f32 := m (c.tc.loc main_arg2)

/-- The weights transposed, as the host prepares them. -/
def wt (W : Vec Ideal S1x1024x11280 .f32) : FVec Ideal S11280x1024 .bf16 :=
  shapeCast S11280x1024 (broadcastInDim S1x11280x1024 ![1, 2] bcast_S11280x1024_S1x11280x1024_1_2
    (truncf (F := Ideal) .bf16 (transpose S11280x1024 [1, 0] (shapeCast S1024x11280 W shapeCasts_S1x1024x11280_S1024x11280) transposes_S1024x11280_S11280x1024_1_0) bitsLt_bf16_f32))
    shapeCasts_S1x11280x1024_S11280x1024

theorem wt_at (W : Vec Ideal S1x1024x11280 .f32) (j : Fin 11280) (k : Fin 1024) : (wt W) (ix2 j k) = W (ix3 0 k j) := by
  pointwise [wt]

theorem v8 : V1 m ρ c main_v8 = extractStridedSlice S3072x1024 ![0, 0] (wt (Wi m c)) slices_S11280x1024_S3072x1024_0_0 := by
  show StableHlo.after hostOps0 (W0 m ρ c) (Proc.devRef .tc main_v8) = _
  after_results <;> rfl

theorem v8_at (j : Fin 3072) (k : Fin 1024) : (V1 m ρ c main_v8 : Vec Ideal S3072x1024 .bf16) (ix2 j k) = Wi m c (ix3 0 k ⟨0 + j.val, by omega⟩) := by
  rw [v8]
  refine Eq.trans ?_ (wt_at _ _ k)
  pointwise

theorem v9 : V1 m ρ c main_v9 = extractStridedSlice S1024x1024 ![3072, 0] (wt (Wi m c)) slices_S11280x1024_S1024x1024_3072_0 := by
  show StableHlo.after hostOps0 (W0 m ρ c) (Proc.devRef .tc main_v9) = _
  after_results <;> rfl

theorem v9_at (j : Fin 1024) (k : Fin 1024) : (V1 m ρ c main_v9 : Vec Ideal S1024x1024 .bf16) (ix2 j k) = Wi m c (ix3 0 k ⟨3072 + j.val, by omega⟩) := by
  rw [v9]
  refine Eq.trans ?_ (wt_at _ _ k)
  pointwise

theorem v13 : V1 m ρ c main_v13 = extractStridedSlice S512x1024 ![8720, 0] (wt (Wi m c)) slices_S11280x1024_S512x1024_8720_0 := by
  show StableHlo.after hostOps0 (W0 m ρ c) (Proc.devRef .tc main_v13) = _
  after_results <;> rfl

theorem v13_at (j : Fin 512) (k : Fin 1024) : (V1 m ρ c main_v13 : Vec Ideal S512x1024 .bf16) (ix2 j k) = Wi m c (ix3 0 k ⟨8720 + j.val, by omega⟩) := by
  rw [v13]
  refine Eq.trans ?_ (wt_at _ _ k)
  pointwise

theorem v10 : V1 m ρ c main_v10 = extractStridedSlice S1536x1024 ![4112, 0] (wt (Wi m c)) slices_S11280x1024_S1536x1024_4112_0 := by
  show StableHlo.after hostOps0 (W0 m ρ c) (Proc.devRef .tc main_v10) = _
  after_results <;> rfl

theorem v10_at (j : Fin 1536) (k : Fin 1024) : (V1 m ρ c main_v10 : Vec Ideal S1536x1024 .bf16) (ix2 j k) = Wi m c (ix3 0 k ⟨4112 + j.val, by omega⟩) := by
  rw [v10]
  refine Eq.trans ?_ (wt_at _ _ k)
  pointwise

theorem v11 : V1 m ρ c main_v11 = extractStridedSlice S1536x1024 ![5648, 0] (wt (Wi m c)) slices_S11280x1024_S1536x1024_5648_0 := by
  show StableHlo.after hostOps0 (W0 m ρ c) (Proc.devRef .tc main_v11) = _
  after_results <;> rfl

theorem v11_at (j : Fin 1536) (k : Fin 1024) : (V1 m ρ c main_v11 : Vec Ideal S1536x1024 .bf16) (ix2 j k) = Wi m c (ix3 0 k ⟨5648 + j.val, by omega⟩) := by
  rw [v11]
  refine Eq.trans ?_ (wt_at _ _ k)
  pointwise

theorem v12 : V1 m ρ c main_v12 = extractStridedSlice S1536x1024 ![7184, 0] (wt (Wi m c)) slices_S11280x1024_S1536x1024_7184_0 := by
  show StableHlo.after hostOps0 (W0 m ρ c) (Proc.devRef .tc main_v12) = _
  after_results <;> rfl

theorem v12_at (j : Fin 1536) (k : Fin 1024) : (V1 m ρ c main_v12 : Vec Ideal S1536x1024 .bf16) (ix2 j k) = Wi m c (ix3 0 k ⟨7184 + j.val, by omega⟩) := by
  rw [v12]
  refine Eq.trans ?_ (wt_at _ _ k)
  pointwise

theorem v14 : V1 m ρ c main_v14 = extractStridedSlice S1024x1024 ![9232, 0] (wt (Wi m c)) slices_S11280x1024_S1024x1024_9232_0 := by
  show StableHlo.after hostOps0 (W0 m ρ c) (Proc.devRef .tc main_v14) = _
  after_results <;> rfl

theorem v14_at (j : Fin 1024) (k : Fin 1024) : (V1 m ρ c main_v14 : Vec Ideal S1024x1024 .bf16) (ix2 j k) = Wi m c (ix3 0 k ⟨9232 + j.val, by omega⟩) := by
  rw [v14]
  refine Eq.trans ?_ (wt_at _ _ k)
  pointwise

theorem v15 : V1 m ρ c main_v15 = extractStridedSlice S1024x1024 ![10256, 0] (wt (Wi m c)) slices_S11280x1024_S1024x1024_10256_0 := by
  show StableHlo.after hostOps0 (W0 m ρ c) (Proc.devRef .tc main_v15) = _
  after_results <;> rfl

theorem v15_at (j : Fin 1024) (k : Fin 1024) : (V1 m ρ c main_v15 : Vec Ideal S1024x1024 .bf16) (ix2 j k) = Wi m c (ix3 0 k ⟨10256 + j.val, by omega⟩) := by
  rw [v15]
  refine Eq.trans ?_ (wt_at _ _ k)
  pointwise

theorem v7 : V1 m ρ c main_v7 = concatenate S128x1024 0 [⟨S16x1024, extractStridedSlice S16x1024 ![4096, 0] (wt (Wi m c)) slices_S11280x1024_S16x1024_4096_0⟩,
    ⟨S112x1024, broadcastInDim S112x1024 ![] bcast_S_S112x1024 (constant (F := Ideal) S_ .bf16 0x0000#16)⟩] concatenates_S16x1024_S112x1024_S128x1024_d0 := by
  show StableHlo.after hostOps0 (W0 m ρ c) (Proc.devRef .tc main_v7) = _
  after_results <;> rfl

theorem v7_at (j : Fin 16) (k : Fin 1024) : (V1 m ρ c main_v7 : Vec Ideal S128x1024 .bf16) (ix2 ⟨j.val, by omega⟩ k) = Wi m c (ix3 0 k ⟨4096 + j.val, by omega⟩) := by
  rw [v7]
  refine Eq.trans ?_ (wt_at _ _ k)
  pointwise

/-- Equal at every pair of indices. -/
theorem ext2 {e : EltTy} {m n : Nat} {f g : Vec Ideal ⟨2, ![m, n]⟩ e} (h : ∀ r j, f (ix2 r j) = g (ix2 r j)) : f = g := funext fun i => by
  have ei : i = ix2 (n0 := m) (n1 := n) (i 0) (i 1) := funext fun a => by
    match a with
    | ⟨0, _⟩ => rfl
    | ⟨1, _⟩ => rfl
  rw [ei]
  exact h _ _

/-- A product with some columns of the weights is those columns of the projection. -/
theorem to_seg {A : Fin 4096 → Fin 1024 → EReal} {n o : Nat} {Y : Vec Ideal ⟨2, ![n, 1024]⟩ .bf16} (h : o + n ≤ 11280)
    (x : Vec Ideal S4096x1024 .f32) (w : Vec Ideal S1x1024 .f32) (W : Vec Ideal S1x1024x11280 .f32)
    (hA : ∀ r k, A r k = hb x w r k) (j : Fin n) (hY : ∀ k, Y (ix2 j k) = W (ix3 0 k ⟨o + j.val, by omega⟩)) (r : Fin 4096) :
    dot A Y r j = seg x w W o n h (ix2 r j) :=
  Finset.sum_congr rfl fun k _ => congrArg₂ (fun a b : EReal => a * b) (hA r k) (hY k)

theorem arg0 : V1 m ρ c main_arg0 = X m c := W1_args m ρ c main_arg0 (by decide)
theorem arg1 : V1 m ρ c main_arg1 = Nw m c := W1_args m ρ c main_arg1 (by decide)

theorem hA (r : Fin 4096) (k : Fin 1024) : H (V1 m ρ) c r k = hb (X m c) (Nw m c) r k := by
  show hb (m := 4096) (V1 m ρ c main_arg0) (V1 m ρ c main_arg1) r k = _
  rw [arg0, arg1]

theorem hB (r : Fin 4096) (k : Fin 1024) : B (V2 m ρ) c r k = hb (X m c) (Nw m c) r k :=
  ((congrFun (W2_arr m ρ c 6) (ix2 r k)).trans (f0_6 (V1 m ρ) c r k)).trans (hA m ρ c r k)

theorem w10 : V2 m ρ c main_v10 = V1 m ρ c main_v10 := W2_of_ne m ρ c main_v10 (by decide)
theorem w11 : V2 m ρ c main_v11 = V1 m ρ c main_v11 := W2_of_ne m ρ c main_v11 (by decide)
theorem w12 : V2 m ρ c main_v12 = V1 m ρ c main_v12 := W2_of_ne m ρ c main_v12 (by decide)
theorem w14 : V2 m ρ c main_v14 = V1 m ρ c main_v14 := W2_of_ne m ρ c main_v14 (by decide)
theorem w15 : V2 m ρ c main_v15 = V1 m ρ c main_v15 := W2_of_ne m ρ c main_v15 (by decide)

theorem r0 : W4 m ρ c (Proc.devRef .tc main_v16_1) = seg (X m c) (Nw m c) (Wi m c) 0 3072 (by norm_num) := by
  rw [W4_of m ρ c main_v16_1 (by decide), W3_of_ne m ρ c main_v16_1 (by decide)]
  refine (W2_arr m ρ c 7).trans (ext2 fun r j => ?_)
  exact (f0_7 (V1 m ρ) c r j).trans (to_seg (by norm_num) _ _ _ (hA m ρ c) j (fun k => v8_at m ρ c j k) r)

theorem r3072 : W4 m ρ c (Proc.devRef .tc main_v16_2) = seg (X m c) (Nw m c) (Wi m c) 3072 1024 (by norm_num) := by
  rw [W4_of m ρ c main_v16_2 (by decide), W3_of_ne m ρ c main_v16_2 (by decide)]
  refine (W2_arr m ρ c 8).trans (ext2 fun r j => ?_)
  exact (f0_8 (V1 m ρ) c r j).trans (to_seg (by norm_num) _ _ _ (hA m ρ c) j (fun k => v9_at m ρ c j k) r)

theorem r8720 : W4 m ρ c (Proc.devRef .tc main_v16_4) = seg (X m c) (Nw m c) (Wi m c) 8720 512 (by norm_num) := by
  rw [W4_of m ρ c main_v16_4 (by decide), W3_of_ne m ρ c main_v16_4 (by decide)]
  refine (W2_arr m ρ c 10).trans (ext2 fun r j => ?_)
  exact (f0_10 (V1 m ρ) c r j).trans (to_seg (by norm_num) _ _ _ (hA m ρ c) j (fun k => v13_at m ρ c j k) r)

theorem r4112 : W4 m ρ c (Proc.devRef .tc main_v17_0) = seg (X m c) (Nw m c) (Wi m c) 4112 1536 (by norm_num) := by
  rw [W4_of m ρ c main_v17_0 (by decide)]
  refine (W3_arr m ρ c 6).trans (ext2 fun r j => ?_)
  exact (f1_6 (V2 m ρ) c r j).trans (to_seg (by norm_num) _ _ _ (hB m ρ c) j (fun k => (congrFun (w10 m ρ c) (ix2 j k)).trans (v10_at m ρ c j k)) r)

theorem r5648 : W4 m ρ c (Proc.devRef .tc main_v17_1) = seg (X m c) (Nw m c) (Wi m c) 5648 1536 (by norm_num) := by
  rw [W4_of m ρ c main_v17_1 (by decide)]
  refine (W3_arr m ρ c 7).trans (ext2 fun r j => ?_)
  exact (f1_7 (V2 m ρ) c r j).trans (to_seg (by norm_num) _ _ _ (hB m ρ c) j (fun k => (congrFun (w11 m ρ c) (ix2 j k)).trans (v11_at m ρ c j k)) r)

theorem r7184 : W4 m ρ c (Proc.devRef .tc main_v17_2) = seg (X m c) (Nw m c) (Wi m c) 7184 1536 (by norm_num) := by
  rw [W4_of m ρ c main_v17_2 (by decide)]
  refine (W3_arr m ρ c 8).trans (ext2 fun r j => ?_)
  exact (f1_8 (V2 m ρ) c r j).trans (to_seg (by norm_num) _ _ _ (hB m ρ c) j (fun k => (congrFun (w12 m ρ c) (ix2 j k)).trans (v12_at m ρ c j k)) r)

theorem r9232 : W4 m ρ c (Proc.devRef .tc main_v17_3) = seg (X m c) (Nw m c) (Wi m c) 9232 1024 (by norm_num) := by
  rw [W4_of m ρ c main_v17_3 (by decide)]
  refine (W3_arr m ρ c 9).trans (ext2 fun r j => ?_)
  exact (f1_9 (V2 m ρ) c r j).trans (to_seg (by norm_num) _ _ _ (hB m ρ c) j (fun k => (congrFun (w14 m ρ c) (ix2 j k)).trans (v14_at m ρ c j k)) r)

theorem r10256 : W4 m ρ c (Proc.devRef .tc main_v17_4) = seg (X m c) (Nw m c) (Wi m c) 10256 1024 (by norm_num) := by
  rw [W4_of m ρ c main_v17_4 (by decide)]
  refine (W3_arr m ρ c 10).trans (ext2 fun r j => ?_)
  exact (f1_10 (V2 m ρ) c r j).trans (to_seg (by norm_num) _ _ _ (hB m ρ c) j (fun k => (congrFun (w15 m ρ c) (ix2 j k)).trans (v15_at m ρ c j k)) r)

theorem r4096' : W4 m ρ c (Proc.devRef .tc main_v18) = extractStridedSlice S4096x16 ![0, 0] (W3 m ρ c (Proc.devRef .tc main_v16_3)) slices_S4096x128_S4096x16_0_0 := by
  show StableHlo.after hostOps2 (W3 m ρ c) (Proc.devRef .tc main_v18) = _
  after_results <;> rfl

theorem r4096 : W4 m ρ c (Proc.devRef .tc main_v18) = seg (X m c) (Nw m c) (Wi m c) 4096 16 (by norm_num) := by
  rw [r4096', W3_of_ne m ρ c main_v16_3 (by decide)]
  refine ext2 fun r j => ?_
  have q : (W2 m ρ c (Proc.devRef .tc main_v16_3) : Vec Ideal S4096x128 .f32) (ix2 r ⟨j.val, by omega⟩) = dot (n := 128) (H (V1 m ρ) c) (V1 m ρ c main_v7) r ⟨j.val, by omega⟩ :=
    (congrFun (W2_arr m ρ c 9) _).trans (f0_9 (V1 m ρ) c r ⟨j.val, by omega⟩)
  refine Eq.trans ?_ (q.trans (Finset.sum_congr rfl fun k _ => congrArg₂ (fun a b : EReal => a * b) (hA m ρ c r k) (v7_at m ρ c j k)))
  pointwise

end Cert.K3End
-- ==== Proof.K3Run.lean ====
module

public import proofs.«01_k».proof.Proof.K3End

/-! The input projection's run, its results the columns of the projection. -/

@[expose] public section

set_option maxRecDepth 16384

noncomputable section

namespace Cert.K3Run

open Idealize.ShloMosaic Idealize.SL.Sem Idealize.SL Cert.Kernel3Ideal Cert.Kernel3Ideal.Gen Cert.Lin Cert.K3End
open Idealize.ShloMosaic.TcCoe Idealize.ShloMosaic.Rounds Idealize.SL.RA Idealize.SL.BI Idealize.SL.BI.BIBase Idealize.SL.BI.Laws Idealize.SL.ProofMode
open scoped Idealize.SL.BI

variable (m : (ℓ : Loc nD τ sig) → Buf (Elt Ideal) ℓ) (ρ : Dev nD → PrngReg)

theorem run : θ_run (defs (F := Ideal)) (onTc (τ := τ) (main (F := Ideal))) ⟨m, fun _ => 0, ρ⟩ fun r => ∀ c : Dev nD,
      r.2.mem ((c.tc : Thread nD τ).loc main_v16_1) = seg (X m c) (Nw m c) (Wi m c) 0 3072 (by norm_num)
      ∧ r.2.mem ((c.tc : Thread nD τ).loc main_v16_2) = seg (X m c) (Nw m c) (Wi m c) 3072 1024 (by norm_num)
      ∧ r.2.mem ((c.tc : Thread nD τ).loc main_v18) = seg (X m c) (Nw m c) (Wi m c) 4096 16 (by norm_num)
      ∧ r.2.mem ((c.tc : Thread nD τ).loc main_v17_0) = seg (X m c) (Nw m c) (Wi m c) 4112 1536 (by norm_num)
      ∧ r.2.mem ((c.tc : Thread nD τ).loc main_v17_1) = seg (X m c) (Nw m c) (Wi m c) 5648 1536 (by norm_num)
      ∧ r.2.mem ((c.tc : Thread nD τ).loc main_v17_2) = seg (X m c) (Nw m c) (Wi m c) 7184 1536 (by norm_num)
      ∧ r.2.mem ((c.tc : Thread nD τ).loc main_v16_4) = seg (X m c) (Nw m c) (Wi m c) 8720 512 (by norm_num)
      ∧ r.2.mem ((c.tc : Thread nD τ).loc main_v17_3) = seg (X m c) (Nw m c) (Wi m c) 9232 1024 (by norm_num)
      ∧ r.2.mem ((c.tc : Thread nD τ).loc main_v17_4) = seg (X m c) (Nw m c) (Wi m c) 10256 1024 (by norm_num)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v16_1 (by decide))).trans (r0 m ρ c),
       (h c _ (mem_uc main_v16_2 (by decide))).trans (r3072 m ρ c),
       (h c _ (mem_uc main_v18 (by decide))).trans (r4096 m ρ c),
       (h c _ (mem_uc main_v17_0 (by decide))).trans (r4112 m ρ c),
       (h c _ (mem_uc main_v17_1 (by decide))).trans (r5648 m ρ c),
       (h c _ (mem_uc main_v17_2 (by decide))).trans (r7184 m ρ c),
       (h c _ (mem_uc main_v16_4 (by decide))).trans (r8720 m ρ c),
       (h c _ (mem_uc main_v17_3 (by decide))).trans (r9232 m ρ c),
       (h c _ (mem_uc main_v17_4 (by decide))).trans (r10256 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.K3Run
-- ==== Proof.R3.lean ====
module

public import proofs.«01_k».proof.Proof.Lin
public import proofs.«01_k».proof.Proof.Gen.Reference3Ideal.Run
public import Idealize.ShloMosaic.Lib.Pointwise

/-! The reference of the input projection: its nine results are columns of the projection. -/

@[expose] public section

set_option maxRecDepth 16384

noncomputable section

namespace Cert.R3

open Idealize.ShloMosaic Idealize.SL.Sem Cert.Reference3Ideal Cert.Reference3Ideal.Gen Cert.Lin

variable (x : FVec Ideal S4096x1024 .f32) (w : FVec Ideal S1x1024 .f32) (W : FVec Ideal S1x1024x11280 .f32)

/-- The projection as the reference computes it. -/
def whole : FVec Ideal S4096x11280 .f32 := (Host.dotGeneral dot_S4096x1024_S1024x11280_S4096x11280_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 w)) (shapeCast _ W shapeCasts_S1x1024x11280_S1024x11280))

theorem whole_at (r : Fin 4096) (j : Fin 11280) : whole x w W (ix2 r j) = proj x w W r j := by
  unfold proj hb
  pointwise [whole]
  rfl

theorem r0 : extractStridedSlice S4096x3072 ![0, 0] (whole x w W) slices_S4096x11280_S4096x3072_0_0 = seg x w W 0 3072 (by norm_num) := funext fun i => by
  idx_vars i
  refine Eq.trans ?_ (whole_at x w W _ _)
  pointwise

theorem r3072 : extractStridedSlice S4096x1024 ![0, 3072] (whole x w W) slices_S4096x11280_S4096x1024_0_3072 = seg x w W 3072 1024 (by norm_num) := funext fun i => by
  idx_vars i
  refine Eq.trans ?_ (whole_at x w W _ _)
  pointwise

theorem r4096 : extractStridedSlice S4096x16 ![0, 4096] (whole x w W) slices_S4096x11280_S4096x16_0_4096 = seg x w W 4096 16 (by norm_num) := funext fun i => by
  idx_vars i
  refine Eq.trans ?_ (whole_at x w W _ _)
  pointwise

theorem r4112 : extractStridedSlice S4096x1536 ![0, 4112] (whole x w W) slices_S4096x11280_S4096x1536_0_4112 = seg x w W 4112 1536 (by norm_num) := funext fun i => by
  idx_vars i
  refine Eq.trans ?_ (whole_at x w W _ _)
  pointwise

theorem r5648 : extractStridedSlice S4096x1536 ![0, 5648] (whole x w W) slices_S4096x11280_S4096x1536_0_5648 = seg x w W 5648 1536 (by norm_num) := funext fun i => by
  idx_vars i
  refine Eq.trans ?_ (whole_at x w W _ _)
  pointwise

theorem r7184 : extractStridedSlice S4096x1536 ![0, 7184] (whole x w W) slices_S4096x11280_S4096x1536_0_7184 = seg x w W 7184 1536 (by norm_num) := funext fun i => by
  idx_vars i
  refine Eq.trans ?_ (whole_at x w W _ _)
  pointwise

theorem r8720 : extractStridedSlice S4096x512 ![0, 8720] (whole x w W) slices_S4096x11280_S4096x512_0_8720 = seg x w W 8720 512 (by norm_num) := funext fun i => by
  idx_vars i
  refine Eq.trans ?_ (whole_at x w W _ _)
  pointwise

theorem r9232 : extractStridedSlice S4096x1024 ![0, 9232] (whole x w W) slices_S4096x11280_S4096x1024_0_9232 = seg x w W 9232 1024 (by norm_num) := funext fun i => by
  idx_vars i
  refine Eq.trans ?_ (whole_at x w W _ _)
  pointwise

theorem r10256 : extractStridedSlice S4096x1024 ![0, 10256] (whole x w W) slices_S4096x11280_S4096x1024_0_10256 = seg x w W 10256 1024 (by norm_num) := funext fun i => by
  idx_vars i
  refine Eq.trans ?_ (whole_at x w W _ _)
  pointwise

variable (m : (ℓ : Loc nD τ sig) → Buf (Elt Ideal) ℓ) (ρ : Dev nD → PrngReg)

theorem run : θ_run (defs (F := Ideal)) (onTc (τ := τ) (main (F := Ideal))) ⟨m, fun _ => 0, ρ⟩ fun r => ∀ c : Dev nD,
      r.2.mem (c.tc.loc main_v14) = seg (m (c.tc.loc main_arg0)) (m (c.tc.loc main_arg1)) (m (c.tc.loc main_arg2)) 0 3072 (by norm_num)
      ∧ r.2.mem (c.tc.loc main_v15) = seg (m (c.tc.loc main_arg0)) (m (c.tc.loc main_arg1)) (m (c.tc.loc main_arg2)) 3072 1024 (by norm_num)
      ∧ r.2.mem (c.tc.loc main_v16) = seg (m (c.tc.loc main_arg0)) (m (c.tc.loc main_arg1)) (m (c.tc.loc main_arg2)) 4096 16 (by norm_num)
      ∧ r.2.mem (c.tc.loc main_v17) = seg (m (c.tc.loc main_arg0)) (m (c.tc.loc main_arg1)) (m (c.tc.loc main_arg2)) 4112 1536 (by norm_num)
      ∧ r.2.mem (c.tc.loc main_v18) = seg (m (c.tc.loc main_arg0)) (m (c.tc.loc main_arg1)) (m (c.tc.loc main_arg2)) 5648 1536 (by norm_num)
      ∧ r.2.mem (c.tc.loc main_v19) = seg (m (c.tc.loc main_arg0)) (m (c.tc.loc main_arg1)) (m (c.tc.loc main_arg2)) 7184 1536 (by norm_num)
      ∧ r.2.mem (c.tc.loc main_v20) = seg (m (c.tc.loc main_arg0)) (m (c.tc.loc main_arg1)) (m (c.tc.loc main_arg2)) 8720 512 (by norm_num)
      ∧ r.2.mem (c.tc.loc main_v21) = seg (m (c.tc.loc main_arg0)) (m (c.tc.loc main_arg1)) (m (c.tc.loc main_arg2)) 9232 1024 (by norm_num)
      ∧ r.2.mem (c.tc.loc main_v22) = seg (m (c.tc.loc main_arg0)) (m (c.tc.loc main_arg1)) (m (c.tc.loc main_arg2)) 10256 1024 (by norm_num)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run _ _ _).mono (fun _ h c => by
    obtain ⟨q0, q1, q2, q3, q4, q5, q6, q7, q8, k⟩ := h c
    exact ⟨q0.trans (r0 _ _ _), q1.trans (r3072 _ _ _), q2.trans (r4096 _ _ _), q3.trans (r4112 _ _ _), q4.trans (r5648 _ _ _), q5.trans (r7184 _ _ _), q6.trans (r8720 _ _ _), q7.trans (r9232 _ _ _), q8.trans (r10256 _ _ _), k⟩)
    (Reference3Ideal.Value.run (F := Ideal) m ρ)

end Cert.R3
-- ==== Proof.K2Spec.lean ====
module

public import proofs.«01_k».proof.Proof.Lin

/-! The projection's backward pass to its argument, entry by entry. -/

@[expose] public section

set_option maxRecDepth 16384

noncomputable section

namespace Cert.K2Spec

open Idealize.ShloMosaic Cert.Lin

/-- One row of the gradient to the norm's argument: `x` the row, `w` the weight, `d2` the gradient that is added, `d` the gradient to the norm's result. -/
def dxrow (x w d2 d : Fin 1024 → EReal) (k : Fin 1024) : EReal :=
  (d2 k + Lin.inv x * (d k * w k)) + -((x k * ((Lin.inv x * Lin.inv x) * Lin.inv x)) * Ideal.div (∑ k, (d k * w k) * x k) (Ideal.ofBits .f32 0x44800000#32))

/-- The products of a row of the gradient to the projection and a row of the weights. -/
def cols (P : Vec Ideal ⟨2, ![4096, 11280]⟩ .bf16) (W : Vec Ideal ⟨3, ![1, 1024, 11280]⟩ .f32) (r : Fin 4096) (k : Fin 1024) : Fin 11280 → EReal := fun j =>
  (P (ix2 r j) : EReal) * (W (ix3 0 k j) : EReal)

/-- One branch's part of the gradient to the projection's argument. -/
def dB (P : Vec Ideal ⟨2, ![4096, 11280]⟩ .bf16) (W : Vec Ideal ⟨3, ![1, 1024, 11280]⟩ .f32) : Vec Ideal ⟨2, ![4096, 1024]⟩ .f32 := fun i =>
  Lin.part (cols P W (i 0) (i 1)) 9232 2048 (by omega) + Lin.part (cols P W (i 0) (i 1)) 4112 4608 (by omega)

/-- The gradient to the norm's result: the other branch's part is given. -/
def dA (P : Vec Ideal ⟨2, ![4096, 11280]⟩ .bf16) (W : Vec Ideal ⟨3, ![1, 1024, 11280]⟩ .f32) (e : Vec Ideal ⟨2, ![4096, 1024]⟩ .f32) (r : Fin 4096) (k : Fin 1024) : EReal :=
  ((e (ix2 r k) : EReal) + Lin.part (cols P W r k) 8720 512 (by omega)) + Lin.part (cols P W r k) 0 4112 (by omega)

/-- The gradient to the norm's argument. -/
def dX (x : Vec Ideal ⟨2, ![4096, 1024]⟩ .f32) (w : Vec Ideal ⟨2, ![1, 1024]⟩ .f32) (W : Vec Ideal ⟨3, ![1, 1024, 11280]⟩ .f32) (P : Vec Ideal ⟨2, ![4096, 11280]⟩ .bf16)
    (d2 e : Vec Ideal ⟨2, ![4096, 1024]⟩ .f32) : Vec Ideal ⟨2, ![4096, 1024]⟩ .f32 := fun i =>
  dxrow (fun k => x (ix2 (n0 := 4096) (n1 := 1024) (i 0) k)) (fun k => w (ix2 0 k)) (fun k => d2 (ix2 (n0 := 4096) (n1 := 1024) (i 0) k)) (dA P W e (i 0)) (i 1)

/-- The gradient to the norm's weight, in the first of eight rows. -/
def dW (x : Vec Ideal ⟨2, ![4096, 1024]⟩ .f32) (W : Vec Ideal ⟨3, ![1, 1024, 11280]⟩ .f32) (P : Vec Ideal ⟨2, ![4096, 11280]⟩ .bf16)
    (e : Vec Ideal ⟨2, ![4096, 1024]⟩ .f32) : Vec Ideal ⟨2, ![8, 1024]⟩ .f32 := fun i =>
  if (i 0).val = 0 then ∑ r : Fin 4096, (dA P W e r (i 1) * (x (ix2 (n0 := 4096) (n1 := 1024) r (i 1)) : EReal)) * Lin.inv fun k => x (ix2 r k) else 0

/-- Equal at every pair of indices. -/
theorem ext2 {e : EltTy} {m n : Nat} {f g : Vec Ideal ⟨2, ![m, n]⟩ e} (h : ∀ r j, f (ix2 r j) = g (ix2 r j)) : f = g := funext fun i => by
  have ei : i = ix2 (n0 := m) (n1 := n) (i 0) (i 1) := funext fun a => by
    match a with
    | ⟨0, _⟩ => rfl
    | ⟨1, _⟩ => rfl
  rw [ei]
  exact h _ _

end Cert.K2Spec
-- ==== Proof.K2Pay.lean ====
module

public import proofs.«01_k».proof.Proof.Gen.Kernel2Ideal.Skeleton
public import proofs.«01_k».proof.Proof.K2Spec

/-! What the first call of the projection's backward pass computes from their blocks, entry by entry. -/

@[expose] public section

set_option maxRecDepth 16384

noncomputable section

namespace Cert.K2Pay

open Idealize.ShloMosaic Cert.Kernel2Ideal Cert.Kernel2Ideal.Gen Cert.Lin Cert.K2Spec

/-- A product of two blocks. -/
def mm {m n K : Nat} (A : Vec Ideal ⟨2, ![m, K]⟩ .bf16) (X : Vec Ideal ⟨2, ![K, n]⟩ .bf16) (r : Fin m) (k : Fin n) : EReal :=
  ∑ j, (A (ix2 r j) : EReal) * (X (ix2 j k) : EReal)

theorem q0_2 (a0 a1 a2 a3 a4 : Vec Ideal S256x512 .bf16) (b0 b1 b2 b3 b4 : Vec Ideal S512x1024 .bf16) (r : Fin 256) (k : Fin 1024) :
    (k0_pay2 a0 b0 a1 b1 a2 b2 a3 b3 a4 b4) (ix2 r k)
      = (((mm (m := 256) (n := 1024) (K := 512) a0 b0 r k + mm (m := 256) (n := 1024) (K := 512) a1 b1 r k) + mm (m := 256) (n := 1024) (K := 512) a2 b2 r k)
        + mm (m := 256) (n := 1024) (K := 512) a3 b3 r k) + mm (m := 256) (n := 1024) (K := 512) a4 b4 r k := by
  unfold mm
  unfold_payloads
  pointwise

theorem q0_3 (a : Vec Ideal S256x512 .bf16) (r : Fin 256) (j : Fin 512) : (k0_pay3 a) (ix2 r j) = a (ix2 r j) := by
  unfold_payloads
  pointwise

theorem q0_4 (s : FVec Ideal S256x1024 .f32) (a0 : FVec Ideal S256x512 .bf16) (a1 a2 a3 : Vec Ideal S256x512 .bf16) (b0 b1 b2 b3 : Vec Ideal S512x1024 .bf16)
    (a4 : Vec Ideal S256x1024 .bf16) (b4 : Vec Ideal S1024x1024 .bf16) (r : Fin 256) (k : Fin 1024) :
    (k0_pay4 s a0 b0 a1 b1 a2 b2 a3 b3 a4 b4) (ix2 r k)
      = ((((s (ix2 r k) + mm (m := 256) (n := 1024) (K := 512) a0 b0 r k) + mm (m := 256) (n := 1024) (K := 512) a1 b1 r k)
        + mm (m := 256) (n := 1024) (K := 512) a2 b2 r k)
        + mm (m := 256) (n := 1024) (K := 512) a3 b3 r k) + mm (m := 256) (n := 1024) (K := 1024) a4 b4 r k := by
  unfold mm
  unfold_payloads
  pointwise

theorem q0_5 (a : Vec Ideal S256x1024 .bf16) (b : Vec Ideal S1024x1024 .bf16) (r : Fin 256) (k : Fin 1024) :
    (k0_pay5 a b) (ix2 r k) = mm (m := 256) (n := 1024) (K := 1024) a b r k := by
  unfold mm
  unfold_payloads
  pointwise

theorem q0_1 (a b : FVec Ideal S256x1024 .f32) (r : Fin 256) (k : Fin 1024) : (k0_pay1 a b) (ix2 r k) = a (ix2 r k) + b (ix2 r k) := by
  unfold_payloads
  pointwise

end Cert.K2Pay
-- ==== Proof.K2Rd.lean ====
module

public import proofs.«01_k».proof.Proof.Gen.Kernel2Ideal.Launch
public import proofs.«01_k».proof.Proof.Gen.Kernel2Ideal.Points
public import proofs.«01_k».proof.Proof.K2Spec

/-! The blocks of a grid point as parts of the arrays. -/

@[expose] public section

set_option maxRecDepth 16384

noncomputable section

namespace Cert.K2Rd

open Idealize.ShloMosaic Cert.Kernel2Ideal Cert.Kernel2Ideal.Gen

theorem N0 : cfg0.N = 16 := by decide
theorem lt0 (t : Fin cfg0.N) : t.val < 16 := N0 ▸ t.isLt
/-- Row `r` of the part a point reads or writes. -/
abbrev rw0 (t : Fin cfg0.N) (r : Fin 256) : Fin 4096 := ⟨256 * t.val + r.val, by have := lt0 t; omega⟩
theorem idx0_0 : ∀ t : Fin cfg0.N, win0_0.index t = ![t.val, 0] :=
  (by decide +kernel : ∀ t : Fin grid0.N, _)

theorem rd0_0 (A : (⟨⟨2, ![4096, 512]⟩, .bf16⟩ : BufTy).Contents (Elt Ideal)) (t : Fin cfg0.N) (r : Fin 256) (v : Fin 512) :
    ((((cfg0.win 0).blk t).view.read (Elt Ideal) A : Vec Ideal ⟨2, ![256, 512]⟩ .bf16)) (ix2 r v) = A (ix2 (rw0 t r) v) := by
  have hi := idx0_0 t
  refine (View.read_apply _ _).trans ?_
  show A _ = A _
  refine congrArg A (funext fun a => Fin.ext ?_)
  match a with
  | ⟨0, _⟩ =>
    have e : win0_0.index t 0 = t.val := congrFun hi 0
    show win0_0.index t 0 * 256 + 1 * r.val = 256 * t.val + r.val
    omega
  | ⟨1, _⟩ =>
    have e : win0_0.index t 1 = 0 := congrFun hi 1
    show win0_0.index t 1 * 512 + 1 * v.val = v.val
    omega

theorem idx0_1 : ∀ t : Fin cfg0.N, win0_1.index t = ![t.val, 0] :=
  (by decide +kernel : ∀ t : Fin grid0.N, _)

theorem rd0_1 (A : (⟨⟨2, ![4096, 512]⟩, .bf16⟩ : BufTy).Contents (Elt Ideal)) (t : Fin cfg0.N) (r : Fin 256) (v : Fin 512) :
    ((((cfg0.win 1).blk t).view.read (Elt Ideal) A : Vec Ideal ⟨2, ![256, 512]⟩ .bf16)) (ix2 r v) = A (ix2 (rw0 t r) v) := by
  have hi := idx0_1 t
  refine (View.read_apply _ _).trans ?_
  show A _ = A _
  refine congrArg A (funext fun a => Fin.ext ?_)
  match a with
  | ⟨0, _⟩ =>
    have e : win0_1.index t 0 = t.val := congrFun hi 0
    show win0_1.index t 0 * 256 + 1 * r.val = 256 * t.val + r.val
    omega
  | ⟨1, _⟩ =>
    have e : win0_1.index t 1 = 0 := congrFun hi 1
    show win0_1.index t 1 * 512 + 1 * v.val = v.val
    omega

theorem idx0_2 : ∀ t : Fin cfg0.N, win0_2.index t = ![t.val, 0] :=
  (by decide +kernel : ∀ t : Fin grid0.N, _)

theorem rd0_2 (A : (⟨⟨2, ![4096, 512]⟩, .bf16⟩ : BufTy).Contents (Elt Ideal)) (t : Fin cfg0.N) (r : Fin 256) (v : Fin 512) :
    ((((cfg0.win 2).blk t).view.read (Elt Ideal) A : Vec Ideal ⟨2, ![256, 512]⟩ .bf16)) (ix2 r v) = A (ix2 (rw0 t r) v) := by
  have hi := idx0_2 t
  refine (View.read_apply _ _).trans ?_
  show A _ = A _
  refine congrArg A (funext fun a => Fin.ext ?_)
  match a with
  | ⟨0, _⟩ =>
    have e : win0_2.index t 0 = t.val := congrFun hi 0
    show win0_2.index t 0 * 256 + 1 * r.val = 256 * t.val + r.val
    omega
  | ⟨1, _⟩ =>
    have e : win0_2.index t 1 = 0 := congrFun hi 1
    show win0_2.index t 1 * 512 + 1 * v.val = v.val
    omega

theorem idx0_3 : ∀ t : Fin cfg0.N, win0_3.index t = ![t.val, 0] :=
  (by decide +kernel : ∀ t : Fin grid0.N, _)

theorem rd0_3 (A : (⟨⟨2, ![4096, 512]⟩, .bf16⟩ : BufTy).Contents (Elt Ideal)) (t : Fin cfg0.N) (r : Fin 256) (v : Fin 512) :
    ((((cfg0.win 3).blk t).view.read (Elt Ideal) A : Vec Ideal ⟨2, ![256, 512]⟩ .bf16)) (ix2 r v) = A (ix2 (rw0 t r) v) := by
  have hi := idx0_3 t
  refine (View.read_apply _ _).trans ?_
  show A _ = A _
  refine congrArg A (funext fun a => Fin.ext ?_)
  match a with
  | ⟨0, _⟩ =>
    have e : win0_3.index t 0 = t.val := congrFun hi 0
    show win0_3.index t 0 * 256 + 1 * r.val = 256 * t.val + r.val
    omega
  | ⟨1, _⟩ =>
    have e : win0_3.index t 1 = 0 := congrFun hi 1
    show win0_3.index t 1 * 512 + 1 * v.val = v.val
    omega

theorem idx0_4 : ∀ t : Fin cfg0.N, win0_4.index t = ![t.val, 0] :=
  (by decide +kernel : ∀ t : Fin grid0.N, _)

theorem rd0_4 (A : (⟨⟨2, ![4096, 512]⟩, .bf16⟩ : BufTy).Contents (Elt Ideal)) (t : Fin cfg0.N) (r : Fin 256) (v : Fin 512) :
    ((((cfg0.win 4).blk t).view.read (Elt Ideal) A : Vec Ideal ⟨2, ![256, 512]⟩ .bf16)) (ix2 r v) = A (ix2 (rw0 t r) v) := by
  have hi := idx0_4 t
  refine (View.read_apply _ _).trans ?_
  show A _ = A _
  refine congrArg A (funext fun a => Fin.ext ?_)
  match a with
  | ⟨0, _⟩ =>
    have e : win0_4.index t 0 = t.val := congrFun hi 0
    show win0_4.index t 0 * 256 + 1 * r.val = 256 * t.val + r.val
    omega
  | ⟨1, _⟩ =>
    have e : win0_4.index t 1 = 0 := congrFun hi 1
    show win0_4.index t 1 * 512 + 1 * v.val = v.val
    omega

theorem idx0_5 : ∀ t : Fin cfg0.N, win0_5.index t = ![t.val, 0] :=
  (by decide +kernel : ∀ t : Fin grid0.N, _)

theorem rd0_5 (A : (⟨⟨2, ![4096, 512]⟩, .bf16⟩ : BufTy).Contents (Elt Ideal)) (t : Fin cfg0.N) (r : Fin 256) (v : Fin 512) :
    ((((cfg0.win 5).blk t).view.read (Elt Ideal) A : Vec Ideal ⟨2, ![256, 512]⟩ .bf16)) (ix2 r v) = A (ix2 (rw0 t r) v) := by
  have hi := idx0_5 t
  refine (View.read_apply _ _).trans ?_
  show A _ = A _
  refine congrArg A (funext fun a => Fin.ext ?_)
  match a with
  | ⟨0, _⟩ =>
    have e : win0_5.index t 0 = t.val := congrFun hi 0
    show win0_5.index t 0 * 256 + 1 * r.val = 256 * t.val + r.val
    omega
  | ⟨1, _⟩ =>
    have e : win0_5.index t 1 = 0 := congrFun hi 1
    show win0_5.index t 1 * 512 + 1 * v.val = v.val
    omega

theorem idx0_6 : ∀ t : Fin cfg0.N, win0_6.index t = ![t.val, 0] :=
  (by decide +kernel : ∀ t : Fin grid0.N, _)

theorem rd0_6 (A : (⟨⟨2, ![4096, 512]⟩, .bf16⟩ : BufTy).Contents (Elt Ideal)) (t : Fin cfg0.N) (r : Fin 256) (v : Fin 512) :
    ((((cfg0.win 6).blk t).view.read (Elt Ideal) A : Vec Ideal ⟨2, ![256, 512]⟩ .bf16)) (ix2 r v) = A (ix2 (rw0 t r) v) := by
  have hi := idx0_6 t
  refine (View.read_apply _ _).trans ?_
  show A _ = A _
  refine congrArg A (funext fun a => Fin.ext ?_)
  match a with
  | ⟨0, _⟩ =>
    have e : win0_6.index t 0 = t.val := congrFun hi 0
    show win0_6.index t 0 * 256 + 1 * r.val = 256 * t.val + r.val
    omega
  | ⟨1, _⟩ =>
    have e : win0_6.index t 1 = 0 := congrFun hi 1
    show win0_6.index t 1 * 512 + 1 * v.val = v.val
    omega

theorem idx0_7 : ∀ t : Fin cfg0.N, win0_7.index t = ![t.val, 0] :=
  (by decide +kernel : ∀ t : Fin grid0.N, _)

theorem rd0_7 (A : (⟨⟨2, ![4096, 512]⟩, .bf16⟩ : BufTy).Contents (Elt Ideal)) (t : Fin cfg0.N) (r : Fin 256) (v : Fin 512) :
    ((((cfg0.win 7).blk t).view.read (Elt Ideal) A : Vec Ideal ⟨2, ![256, 512]⟩ .bf16)) (ix2 r v) = A (ix2 (rw0 t r) v) := by
  have hi := idx0_7 t
  refine (View.read_apply _ _).trans ?_
  show A _ = A _
  refine congrArg A (funext fun a => Fin.ext ?_)
  match a with
  | ⟨0, _⟩ =>
    have e : win0_7.index t 0 = t.val := congrFun hi 0
    show win0_7.index t 0 * 256 + 1 * r.val = 256 * t.val + r.val
    omega
  | ⟨1, _⟩ =>
    have e : win0_7.index t 1 = 0 := congrFun hi 1
    show win0_7.index t 1 * 512 + 1 * v.val = v.val
    omega

theorem idx0_8 : ∀ t : Fin cfg0.N, win0_8.index t = ![t.val, 0] :=
  (by decide +kernel : ∀ t : Fin grid0.N, _)

theorem rd0_8 (A : (⟨⟨2, ![4096, 512]⟩, .bf16⟩ : BufTy).Contents (Elt Ideal)) (t : Fin cfg0.N) (r : Fin 256) (v : Fin 512) :
    ((((cfg0.win 8).blk t).view.read (Elt Ideal) A : Vec Ideal ⟨2, ![256, 512]⟩ .bf16)) (ix2 r v) = A (ix2 (rw0 t r) v) := by
  have hi := idx0_8 t
  refine (View.read_apply _ _).trans ?_
  show A _ = A _
  refine congrArg A (funext fun a => Fin.ext ?_)
  match a with
  | ⟨0, _⟩ =>
    have e : win0_8.index t 0 = t.val := congrFun hi 0
    show win0_8.index t 0 * 256 + 1 * r.val = 256 * t.val + r.val
    omega
  | ⟨1, _⟩ =>
    have e : win0_8.index t 1 = 0 := congrFun hi 1
    show win0_8.index t 1 * 512 + 1 * v.val = v.val
    omega

theorem idx0_9 : ∀ t : Fin cfg0.N, win0_9.index t = ![t.val, 0] :=
  (by decide +kernel : ∀ t : Fin grid0.N, _)

theorem rd0_9 (A : (⟨⟨2, ![4096, 1024]⟩, .bf16⟩ : BufTy).Contents (Elt Ideal)) (t : Fin cfg0.N) (r : Fin 256) (v : Fin 1024) :
    ((((cfg0.win 9).blk t).view.read (Elt Ideal) A : Vec Ideal ⟨2, ![256, 1024]⟩ .bf16)) (ix2 r v) = A (ix2 (rw0 t r) v) := by
  have hi := idx0_9 t
  refine (View.read_apply _ _).trans ?_
  show A _ = A _
  refine congrArg A (funext fun a => Fin.ext ?_)
  match a with
  | ⟨0, _⟩ =>
    have e : win0_9.index t 0 = t.val := congrFun hi 0
    show win0_9.index t 0 * 256 + 1 * r.val = 256 * t.val + r.val
    omega
  | ⟨1, _⟩ =>
    have e : win0_9.index t 1 = 0 := congrFun hi 1
    show win0_9.index t 1 * 1024 + 1 * v.val = v.val
    omega

theorem idx0_10 : ∀ t : Fin cfg0.N, win0_10.index t = ![t.val, 0] :=
  (by decide +kernel : ∀ t : Fin grid0.N, _)

theorem rd0_10 (A : (⟨⟨2, ![4096, 1024]⟩, .bf16⟩ : BufTy).Contents (Elt Ideal)) (t : Fin cfg0.N) (r : Fin 256) (v : Fin 1024) :
    ((((cfg0.win 10).blk t).view.read (Elt Ideal) A : Vec Ideal ⟨2, ![256, 1024]⟩ .bf16)) (ix2 r v) = A (ix2 (rw0 t r) v) := by
  have hi := idx0_10 t
  refine (View.read_apply _ _).trans ?_
  show A _ = A _
  refine congrArg A (funext fun a => Fin.ext ?_)
  match a with
  | ⟨0, _⟩ =>
    have e : win0_10.index t 0 = t.val := congrFun hi 0
    show win0_10.index t 0 * 256 + 1 * r.val = 256 * t.val + r.val
    omega
  | ⟨1, _⟩ =>
    have e : win0_10.index t 1 = 0 := congrFun hi 1
    show win0_10.index t 1 * 1024 + 1 * v.val = v.val
    omega

theorem idx0_11 : ∀ t : Fin cfg0.N, win0_11.index t = ![0, 0] :=
  (by decide +kernel : ∀ t : Fin grid0.N, _)

theorem rd0_11 (A : (⟨⟨2, ![512, 1024]⟩, .bf16⟩ : BufTy).Contents (Elt Ideal)) (t : Fin cfg0.N) (r : Fin 512) (v : Fin 1024) :
    ((((cfg0.win 11).blk t).view.read (Elt Ideal) A : Vec Ideal ⟨2, ![512, 1024]⟩ .bf16)) (ix2 r v) = A (ix2 r v) := by
  have hi := idx0_11 t
  refine (View.read_apply _ _).trans ?_
  show A _ = A _
  refine congrArg A (funext fun a => Fin.ext ?_)
  match a with
  | ⟨0, _⟩ =>
    have e : win0_11.index t 0 = 0 := congrFun hi 0
    show win0_11.index t 0 * 512 + 1 * r.val = r.val
    omega
  | ⟨1, _⟩ =>
    have e : win0_11.index t 1 = 0 := congrFun hi 1
    show win0_11.index t 1 * 1024 + 1 * v.val = v.val
    omega

theorem idx0_12 : ∀ t : Fin cfg0.N, win0_12.index t = ![0, 0] :=
  (by decide +kernel : ∀ t : Fin grid0.N, _)

theorem rd0_12 (A : (⟨⟨2, ![512, 1024]⟩, .bf16⟩ : BufTy).Contents (Elt Ideal)) (t : Fin cfg0.N) (r : Fin 512) (v : Fin 1024) :
    ((((cfg0.win 12).blk t).view.read (Elt Ideal) A : Vec Ideal ⟨2, ![512, 1024]⟩ .bf16)) (ix2 r v) = A (ix2 r v) := by
  have hi := idx0_12 t
  refine (View.read_apply _ _).trans ?_
  show A _ = A _
  refine congrArg A (funext fun a => Fin.ext ?_)
  match a with
  | ⟨0, _⟩ =>
    have e : win0_12.index t 0 = 0 := congrFun hi 0
    show win0_12.index t 0 * 512 + 1 * r.val = r.val
    omega
  | ⟨1, _⟩ =>
    have e : win0_12.index t 1 = 0 := congrFun hi 1
    show win0_12.index t 1 * 1024 + 1 * v.val = v.val
    omega

theorem idx0_13 : ∀ t : Fin cfg0.N, win0_13.index t = ![0, 0] :=
  (by decide +kernel : ∀ t : Fin grid0.N, _)

theorem rd0_13 (A : (⟨⟨2, ![512, 1024]⟩, .bf16⟩ : BufTy).Contents (Elt Ideal)) (t : Fin cfg0.N) (r : Fin 512) (v : Fin 1024) :
    ((((cfg0.win 13).blk t).view.read (Elt Ideal) A : Vec Ideal ⟨2, ![512, 1024]⟩ .bf16)) (ix2 r v) = A (ix2 r v) := by
  have hi := idx0_13 t
  refine (View.read_apply _ _).trans ?_
  show A _ = A _
  refine congrArg A (funext fun a => Fin.ext ?_)
  match a with
  | ⟨0, _⟩ =>
    have e : win0_13.index t 0 = 0 := congrFun hi 0
    show win0_13.index t 0 * 512 + 1 * r.val = r.val
    omega
  | ⟨1, _⟩ =>
    have e : win0_13.index t 1 = 0 := congrFun hi 1
    show win0_13.index t 1 * 1024 + 1 * v.val = v.val
    omega

theorem idx0_14 : ∀ t : Fin cfg0.N, win0_14.index t = ![0, 0] :=
  (by decide +kernel : ∀ t : Fin grid0.N, _)

theorem rd0_14 (A : (⟨⟨2, ![512, 1024]⟩, .bf16⟩ : BufTy).Contents (Elt Ideal)) (t : Fin cfg0.N) (r : Fin 512) (v : Fin 1024) :
    ((((cfg0.win 14).blk t).view.read (Elt Ideal) A : Vec Ideal ⟨2, ![512, 1024]⟩ .bf16)) (ix2 r v) = A (ix2 r v) := by
  have hi := idx0_14 t
  refine (View.read_apply _ _).trans ?_
  show A _ = A _
  refine congrArg A (funext fun a => Fin.ext ?_)
  match a with
  | ⟨0, _⟩ =>
    have e : win0_14.index t 0 = 0 := congrFun hi 0
    show win0_14.index t 0 * 512 + 1 * r.val = r.val
    omega
  | ⟨1, _⟩ =>
    have e : win0_14.index t 1 = 0 := congrFun hi 1
    show win0_14.index t 1 * 1024 + 1 * v.val = v.val
    omega

theorem idx0_15 : ∀ t : Fin cfg0.N, win0_15.index t = ![0, 0] :=
  (by decide +kernel : ∀ t : Fin grid0.N, _)

theorem rd0_15 (A : (⟨⟨2, ![512, 1024]⟩, .bf16⟩ : BufTy).Contents (Elt Ideal)) (t : Fin cfg0.N) (r : Fin 512) (v : Fin 1024) :
    ((((cfg0.win 15).blk t).view.read (Elt Ideal) A : Vec Ideal ⟨2, ![512, 1024]⟩ .bf16)) (ix2 r v) = A (ix2 r v) := by
  have hi := idx0_15 t
  refine (View.read_apply _ _).trans ?_
  show A _ = A _
  refine congrArg A (funext fun a => Fin.ext ?_)
  match a with
  | ⟨0, _⟩ =>
    have e : win0_15.index t 0 = 0 := congrFun hi 0
    show win0_15.index t 0 * 512 + 1 * r.val = r.val
    omega
  | ⟨1, _⟩ =>
    have e : win0_15.index t 1 = 0 := congrFun hi 1
    show win0_15.index t 1 * 1024 + 1 * v.val = v.val
    omega

theorem idx0_16 : ∀ t : Fin cfg0.N, win0_16.index t = ![0, 0] :=
  (by decide +kernel : ∀ t : Fin grid0.N, _)

theorem rd0_16 (A : (⟨⟨2, ![512, 1024]⟩, .bf16⟩ : BufTy).Contents (Elt Ideal)) (t : Fin cfg0.N) (r : Fin 512) (v : Fin 1024) :
    ((((cfg0.win 16).blk t).view.read (Elt Ideal) A : Vec Ideal ⟨2, ![512, 1024]⟩ .bf16)) (ix2 r v) = A (ix2 r v) := by
  have hi := idx0_16 t
  refine (View.read_apply _ _).trans ?_
  show A _ = A _
  refine congrArg A (funext fun a => Fin.ext ?_)
  match a with
  | ⟨0, _⟩ =>
    have e : win0_16.index t 0 = 0 := congrFun hi 0
    show win0_16.index t 0 * 512 + 1 * r.val = r.val
    omega
  | ⟨1, _⟩ =>
    have e : win0_16.index t 1 = 0 := congrFun hi 1
    show win0_16.index t 1 * 1024 + 1 * v.val = v.val
    omega

theorem idx0_17 : ∀ t : Fin cfg0.N, win0_17.index t = ![0, 0] :=
  (by decide +kernel : ∀ t : Fin grid0.N, _)

theorem rd0_17 (A : (⟨⟨2, ![512, 1024]⟩, .bf16⟩ : BufTy).Contents (Elt Ideal)) (t : Fin cfg0.N) (r : Fin 512) (v : Fin 1024) :
    ((((cfg0.win 17).blk t).view.read (Elt Ideal) A : Vec Ideal ⟨2, ![512, 1024]⟩ .bf16)) (ix2 r v) = A (ix2 r v) := by
  have hi := idx0_17 t
  refine (View.read_apply _ _).trans ?_
  show A _ = A _
  refine congrArg A (funext fun a => Fin.ext ?_)
  match a with
  | ⟨0, _⟩ =>
    have e : win0_17.index t 0 = 0 := congrFun hi 0
    show win0_17.index t 0 * 512 + 1 * r.val = r.val
    omega
  | ⟨1, _⟩ =>
    have e : win0_17.index t 1 = 0 := congrFun hi 1
    show win0_17.index t 1 * 1024 + 1 * v.val = v.val
    omega

theorem idx0_18 : ∀ t : Fin cfg0.N, win0_18.index t = ![0, 0] :=
  (by decide +kernel : ∀ t : Fin grid0.N, _)

theorem rd0_18 (A : (⟨⟨2, ![512, 1024]⟩, .bf16⟩ : BufTy).Contents (Elt Ideal)) (t : Fin cfg0.N) (r : Fin 512) (v : Fin 1024) :
    ((((cfg0.win 18).blk t).view.read (Elt Ideal) A : Vec Ideal ⟨2, ![512, 1024]⟩ .bf16)) (ix2 r v) = A (ix2 r v) := by
  have hi := idx0_18 t
  refine (View.read_apply _ _).trans ?_
  show A _ = A _
  refine congrArg A (funext fun a => Fin.ext ?_)
  match a with
  | ⟨0, _⟩ =>
    have e : win0_18.index t 0 = 0 := congrFun hi 0
    show win0_18.index t 0 * 512 + 1 * r.val = r.val
    omega
  | ⟨1, _⟩ =>
    have e : win0_18.index t 1 = 0 := congrFun hi 1
    show win0_18.index t 1 * 1024 + 1 * v.val = v.val
    omega

theorem idx0_19 : ∀ t : Fin cfg0.N, win0_19.index t = ![0, 0] :=
  (by decide +kernel : ∀ t : Fin grid0.N, _)

theorem rd0_19 (A : (⟨⟨2, ![512, 1024]⟩, .bf16⟩ : BufTy).Contents (Elt Ideal)) (t : Fin cfg0.N) (r : Fin 512) (v : Fin 1024) :
    ((((cfg0.win 19).blk t).view.read (Elt Ideal) A : Vec Ideal ⟨2, ![512, 1024]⟩ .bf16)) (ix2 r v) = A (ix2 r v) := by
  have hi := idx0_19 t
  refine (View.read_apply _ _).trans ?_
  show A _ = A _
  refine congrArg A (funext fun a => Fin.ext ?_)
  match a with
  | ⟨0, _⟩ =>
    have e : win0_19.index t 0 = 0 := congrFun hi 0
    show win0_19.index t 0 * 512 + 1 * r.val = r.val
    omega
  | ⟨1, _⟩ =>
    have e : win0_19.index t 1 = 0 := congrFun hi 1
    show win0_19.index t 1 * 1024 + 1 * v.val = v.val
    omega

theorem idx0_20 : ∀ t : Fin cfg0.N, win0_20.index t = ![0, 0] :=
  (by decide +kernel : ∀ t : Fin grid0.N, _)

theorem rd0_20 (A : (⟨⟨2, ![1024, 1024]⟩, .bf16⟩ : BufTy).Contents (Elt Ideal)) (t : Fin cfg0.N) (r : Fin 1024) (v : Fin 1024) :
    ((((cfg0.win 20).blk t).view.read (Elt Ideal) A : Vec Ideal ⟨2, ![1024, 1024]⟩ .bf16)) (ix2 r v) = A (ix2 r v) := by
  have hi := idx0_20 t
  refine (View.read_apply _ _).trans ?_
  show A _ = A _
  refine congrArg A (funext fun a => Fin.ext ?_)
  match a with
  | ⟨0, _⟩ =>
    have e : win0_20.index t 0 = 0 := congrFun hi 0
    show win0_20.index t 0 * 1024 + 1 * r.val = r.val
    omega
  | ⟨1, _⟩ =>
    have e : win0_20.index t 1 = 0 := congrFun hi 1
    show win0_20.index t 1 * 1024 + 1 * v.val = v.val
    omega

theorem idx0_21 : ∀ t : Fin cfg0.N, win0_21.index t = ![0, 0] :=
  (by decide +kernel : ∀ t : Fin grid0.N, _)

theorem rd0_21 (A : (⟨⟨2, ![1024, 1024]⟩, .bf16⟩ : BufTy).Contents (Elt Ideal)) (t : Fin cfg0.N) (r : Fin 1024) (v : Fin 1024) :
    ((((cfg0.win 21).blk t).view.read (Elt Ideal) A : Vec Ideal ⟨2, ![1024, 1024]⟩ .bf16)) (ix2 r v) = A (ix2 r v) := by
  have hi := idx0_21 t
  refine (View.read_apply _ _).trans ?_
  show A _ = A _
  refine congrArg A (funext fun a => Fin.ext ?_)
  match a with
  | ⟨0, _⟩ =>
    have e : win0_21.index t 0 = 0 := congrFun hi 0
    show win0_21.index t 0 * 1024 + 1 * r.val = r.val
    omega
  | ⟨1, _⟩ =>
    have e : win0_21.index t 1 = 0 := congrFun hi 1
    show win0_21.index t 1 * 1024 + 1 * v.val = v.val
    omega

theorem idx0_22 : ∀ t : Fin cfg0.N, win0_22.index t = ![t.val, 0] :=
  (by decide +kernel : ∀ t : Fin grid0.N, _)

theorem rd0_22 (A : (⟨⟨2, ![4096, 1024]⟩, .f32⟩ : BufTy).Contents (Elt Ideal)) (t : Fin cfg0.N) (r : Fin 256) (v : Fin 1024) :
    ((((cfg0.win 22).blk t).view.read (Elt Ideal) A : Vec Ideal ⟨2, ![256, 1024]⟩ .f32)) (ix2 r v) = A (ix2 (rw0 t r) v) := by
  have hi := idx0_22 t
  refine (View.read_apply _ _).trans ?_
  show A _ = A _
  refine congrArg A (funext fun a => Fin.ext ?_)
  match a with
  | ⟨0, _⟩ =>
    have e : win0_22.index t 0 = t.val := congrFun hi 0
    show win0_22.index t 0 * 256 + 1 * r.val = 256 * t.val + r.val
    omega
  | ⟨1, _⟩ =>
    have e : win0_22.index t 1 = 0 := congrFun hi 1
    show win0_22.index t 1 * 1024 + 1 * v.val = v.val
    omega

end Cert.K2Rd
-- ==== Proof.K2Host.lean ====
module

public import proofs.«01_k».proof.Proof.Gen.Kernel2Ideal.Launch
public import proofs.«01_k».proof.Proof.K2Spec
public import Idealize.ShloMosaic.Lib.Pointwise

/-! The arrays the host prepares for the first call of the projection's backward pass. -/

@[expose] public section

set_option maxRecDepth 16384

noncomputable section

namespace Cert.K2Host

open Idealize.ShloMosaic Cert.Kernel2Ideal Cert.Kernel2Ideal.Gen Cert.Lin

/-- The weights transposed, as the host prepares them. -/
def wt (W : Vec Ideal S1x1024x11280 .f32) : FVec Ideal S11280x1024 .bf16 :=
  shapeCast S11280x1024 (broadcastInDim S1x11280x1024 ![1, 2] bcast_S11280x1024_S1x11280x1024_1_2
    (truncf (F := Ideal) .bf16 (transpose S11280x1024 [1, 0] (shapeCast S1024x11280 W shapeCasts_S1x1024x11280_S1024x11280) transposes_S1024x11280_S11280x1024_1_0) bitsLt_bf16_f32))
    shapeCasts_S1x11280x1024_S11280x1024

theorem wt_at (W : Vec Ideal S1x1024x11280 .f32) (j : Fin 11280) (k : Fin 1024) : (wt W) (ix2 j k) = W (ix3 0 k j) := by
  pointwise [wt]

variable (w : Valuation τ sig (Elt Ideal))

abbrev Pj : Vec Ideal S4096x11280 .bf16 := w (Proc.devRef .tc main_arg1)
abbrev Wi : Vec Ideal S1x1024x11280 .f32 := w (Proc.devRef .tc main_arg0)
/-- The buffers after the host's operations. -/
abbrev A (b : Ref sig .tc) : b.ty.Contents (Elt Ideal) := StableHlo.after (hostOps0 (F := Ideal)) w (Proc.devRef .tc b)

theorem v10 : A w main_v10 = extractStridedSlice S4096x1024 ![0, 9232] (Pj w) slices_S4096x11280_S4096x1024_0_9232 := by
  show StableHlo.after hostOps0 w (Proc.devRef .tc main_v10) = _
  after_results <;> rfl

theorem v10_at (r : Fin 4096) (j : Fin 1024) : (A w main_v10 : Vec Ideal S4096x1024 .bf16) (ix2 r j) = Pj w (ix2 r ⟨9232 + j.val, by omega⟩) := by
  rw [v10]
  pointwise

theorem v11 : A w main_v11 = extractStridedSlice S4096x1024 ![0, 10256] (Pj w) slices_S4096x11280_S4096x1024_0_10256 := by
  show StableHlo.after hostOps0 w (Proc.devRef .tc main_v11) = _
  after_results <;> rfl

theorem v11_at (r : Fin 4096) (j : Fin 1024) : (A w main_v11 : Vec Ideal S4096x1024 .bf16) (ix2 r j) = Pj w (ix2 r ⟨10256 + j.val, by omega⟩) := by
  rw [v11]
  pointwise

theorem v15 : A w main_v15 = extractStridedSlice S4096x512 ![0, 0] (extractStridedSlice S4096x1536 ![0, 4112] (Pj w) slices_S4096x11280_S4096x1536_0_4112) slices_S4096x1536_S4096x512_0_0 := by
  show StableHlo.after hostOps0 w (Proc.devRef .tc main_v15) = _
  after_results <;> rfl

theorem v15_at (r : Fin 4096) (j : Fin 512) : (A w main_v15 : Vec Ideal S4096x512 .bf16) (ix2 r j) = Pj w (ix2 r ⟨4112 + j.val, by omega⟩) := by
  rw [v15]
  pointwise

theorem v16 : A w main_v16 = extractStridedSlice S4096x512 ![0, 512] (extractStridedSlice S4096x1536 ![0, 4112] (Pj w) slices_S4096x11280_S4096x1536_0_4112) slices_S4096x1536_S4096x512_0_512 := by
  show StableHlo.after hostOps0 w (Proc.devRef .tc main_v16) = _
  after_results <;> rfl

theorem v16_at (r : Fin 4096) (j : Fin 512) : (A w main_v16 : Vec Ideal S4096x512 .bf16) (ix2 r j) = Pj w (ix2 r ⟨4624 + j.val, by omega⟩) := by
  rw [v16]
  pointwise
  simp only [← Nat.add_assoc, Nat.reduceAdd]

theorem v17 : A w main_v17 = extractStridedSlice S4096x512 ![0, 1024] (extractStridedSlice S4096x1536 ![0, 4112] (Pj w) slices_S4096x11280_S4096x1536_0_4112) slices_S4096x1536_S4096x512_0_1024 := by
  show StableHlo.after hostOps0 w (Proc.devRef .tc main_v17) = _
  after_results <;> rfl

theorem v17_at (r : Fin 4096) (j : Fin 512) : (A w main_v17 : Vec Ideal S4096x512 .bf16) (ix2 r j) = Pj w (ix2 r ⟨5136 + j.val, by omega⟩) := by
  rw [v17]
  pointwise
  simp only [← Nat.add_assoc, Nat.reduceAdd]

theorem v18 : A w main_v18 = extractStridedSlice S4096x512 ![0, 0] (extractStridedSlice S4096x1536 ![0, 5648] (Pj w) slices_S4096x11280_S4096x1536_0_5648) slices_S4096x1536_S4096x512_0_0 := by
  show StableHlo.after hostOps0 w (Proc.devRef .tc main_v18) = _
  after_results <;> rfl

theorem v18_at (r : Fin 4096) (j : Fin 512) : (A w main_v18 : Vec Ideal S4096x512 .bf16) (ix2 r j) = Pj w (ix2 r ⟨5648 + j.val, by omega⟩) := by
  rw [v18]
  pointwise

theorem v19 : A w main_v19 = extractStridedSlice S4096x512 ![0, 512] (extractStridedSlice S4096x1536 ![0, 5648] (Pj w) slices_S4096x11280_S4096x1536_0_5648) slices_S4096x1536_S4096x512_0_512 := by
  show StableHlo.after hostOps0 w (Proc.devRef .tc main_v19) = _
  after_results <;> rfl

theorem v19_at (r : Fin 4096) (j : Fin 512) : (A w main_v19 : Vec Ideal S4096x512 .bf16) (ix2 r j) = Pj w (ix2 r ⟨6160 + j.val, by omega⟩) := by
  rw [v19]
  pointwise
  simp only [← Nat.add_assoc, Nat.reduceAdd]

theorem v20 : A w main_v20 = extractStridedSlice S4096x512 ![0, 1024] (extractStridedSlice S4096x1536 ![0, 5648] (Pj w) slices_S4096x11280_S4096x1536_0_5648) slices_S4096x1536_S4096x512_0_1024 := by
  show StableHlo.after hostOps0 w (Proc.devRef .tc main_v20) = _
  after_results <;> rfl

theorem v20_at (r : Fin 4096) (j : Fin 512) : (A w main_v20 : Vec Ideal S4096x512 .bf16) (ix2 r j) = Pj w (ix2 r ⟨6672 + j.val, by omega⟩) := by
  rw [v20]
  pointwise
  simp only [← Nat.add_assoc, Nat.reduceAdd]

theorem v21 : A w main_v21 = extractStridedSlice S4096x512 ![0, 0] (extractStridedSlice S4096x1536 ![0, 7184] (Pj w) slices_S4096x11280_S4096x1536_0_7184) slices_S4096x1536_S4096x512_0_0 := by
  show StableHlo.after hostOps0 w (Proc.devRef .tc main_v21) = _
  after_results <;> rfl

theorem v21_at (r : Fin 4096) (j : Fin 512) : (A w main_v21 : Vec Ideal S4096x512 .bf16) (ix2 r j) = Pj w (ix2 r ⟨7184 + j.val, by omega⟩) := by
  rw [v21]
  pointwise

theorem v22 : A w main_v22 = extractStridedSlice S4096x512 ![0, 512] (extractStridedSlice S4096x1536 ![0, 7184] (Pj w) slices_S4096x11280_S4096x1536_0_7184) slices_S4096x1536_S4096x512_0_512 := by
  show StableHlo.after hostOps0 w (Proc.devRef .tc main_v22) = _
  after_results <;> rfl

theorem v22_at (r : Fin 4096) (j : Fin 512) : (A w main_v22 : Vec Ideal S4096x512 .bf16) (ix2 r j) = Pj w (ix2 r ⟨7696 + j.val, by omega⟩) := by
  rw [v22]
  pointwise
  simp only [← Nat.add_assoc, Nat.reduceAdd]

theorem v23 : A w main_v23 = extractStridedSlice S4096x512 ![0, 1024] (extractStridedSlice S4096x1536 ![0, 7184] (Pj w) slices_S4096x11280_S4096x1536_0_7184) slices_S4096x1536_S4096x512_0_1024 := by
  show StableHlo.after hostOps0 w (Proc.devRef .tc main_v23) = _
  after_results <;> rfl

theorem v23_at (r : Fin 4096) (j : Fin 512) : (A w main_v23 : Vec Ideal S4096x512 .bf16) (ix2 r j) = Pj w (ix2 r ⟨8208 + j.val, by omega⟩) := by
  rw [v23]
  pointwise
  simp only [← Nat.add_assoc, Nat.reduceAdd]

theorem v38 : A w main_v38 = extractStridedSlice S1024x1024 ![9232, 0] (wt (Wi w)) slices_S11280x1024_S1024x1024_9232_0 := by
  show StableHlo.after hostOps0 w (Proc.devRef .tc main_v38) = _
  after_results <;> rfl

theorem v38_at (j : Fin 1024) (k : Fin 1024) : (A w main_v38 : Vec Ideal S1024x1024 .bf16) (ix2 j k) = Wi w (ix3 0 k ⟨9232 + j.val, by omega⟩) := by
  rw [v38]
  refine Eq.trans ?_ (wt_at _ _ k)
  pointwise

theorem v39 : A w main_v39 = extractStridedSlice S1024x1024 ![10256, 0] (wt (Wi w)) slices_S11280x1024_S1024x1024_10256_0 := by
  show StableHlo.after hostOps0 w (Proc.devRef .tc main_v39) = _
  after_results <;> rfl

theorem v39_at (j : Fin 1024) (k : Fin 1024) : (A w main_v39 : Vec Ideal S1024x1024 .bf16) (ix2 j k) = Wi w (ix3 0 k ⟨10256 + j.val, by omega⟩) := by
  rw [v39]
  refine Eq.trans ?_ (wt_at _ _ k)
  pointwise

theorem v40 : A w main_v40 = extractStridedSlice S512x1024 ![0, 0] (extractStridedSlice S1536x1024 ![4112, 0] (wt (Wi w)) slices_S11280x1024_S1536x1024_4112_0) slices_S1536x1024_S512x1024_0_0 := by
  show StableHlo.after hostOps0 w (Proc.devRef .tc main_v40) = _
  after_results <;> rfl

theorem v40_at (j : Fin 512) (k : Fin 1024) : (A w main_v40 : Vec Ideal S512x1024 .bf16) (ix2 j k) = Wi w (ix3 0 k ⟨4112 + j.val, by omega⟩) := by
  rw [v40]
  refine Eq.trans ?_ (wt_at _ _ k)
  pointwise

theorem v41 : A w main_v41 = extractStridedSlice S512x1024 ![512, 0] (extractStridedSlice S1536x1024 ![4112, 0] (wt (Wi w)) slices_S11280x1024_S1536x1024_4112_0) slices_S1536x1024_S512x1024_512_0 := by
  show StableHlo.after hostOps0 w (Proc.devRef .tc main_v41) = _
  after_results <;> rfl

theorem v41_at (j : Fin 512) (k : Fin 1024) : (A w main_v41 : Vec Ideal S512x1024 .bf16) (ix2 j k) = Wi w (ix3 0 k ⟨4624 + j.val, by omega⟩) := by
  rw [v41]
  refine Eq.trans ?_ (wt_at _ _ k)
  pointwise
  simp only [← Nat.add_assoc, Nat.reduceAdd]

theorem v42 : A w main_v42 = extractStridedSlice S512x1024 ![1024, 0] (extractStridedSlice S1536x1024 ![4112, 0] (wt (Wi w)) slices_S11280x1024_S1536x1024_4112_0) slices_S1536x1024_S512x1024_1024_0 := by
  show StableHlo.after hostOps0 w (Proc.devRef .tc main_v42) = _
  after_results <;> rfl

theorem v42_at (j : Fin 512) (k : Fin 1024) : (A w main_v42 : Vec Ideal S512x1024 .bf16) (ix2 j k) = Wi w (ix3 0 k ⟨5136 + j.val, by omega⟩) := by
  rw [v42]
  refine Eq.trans ?_ (wt_at _ _ k)
  pointwise
  simp only [← Nat.add_assoc, Nat.reduceAdd]

theorem v43 : A w main_v43 = extractStridedSlice S512x1024 ![0, 0] (extractStridedSlice S1536x1024 ![5648, 0] (wt (Wi w)) slices_S11280x1024_S1536x1024_5648_0) slices_S1536x1024_S512x1024_0_0 := by
  show StableHlo.after hostOps0 w (Proc.devRef .tc main_v43) = _
  after_results <;> rfl

theorem v43_at (j : Fin 512) (k : Fin 1024) : (A w main_v43 : Vec Ideal S512x1024 .bf16) (ix2 j k) = Wi w (ix3 0 k ⟨5648 + j.val, by omega⟩) := by
  rw [v43]
  refine Eq.trans ?_ (wt_at _ _ k)
  pointwise

theorem v44 : A w main_v44 = extractStridedSlice S512x1024 ![512, 0] (extractStridedSlice S1536x1024 ![5648, 0] (wt (Wi w)) slices_S11280x1024_S1536x1024_5648_0) slices_S1536x1024_S512x1024_512_0 := by
  show StableHlo.after hostOps0 w (Proc.devRef .tc main_v44) = _
  after_results <;> rfl

theorem v44_at (j : Fin 512) (k : Fin 1024) : (A w main_v44 : Vec Ideal S512x1024 .bf16) (ix2 j k) = Wi w (ix3 0 k ⟨6160 + j.val, by omega⟩) := by
  rw [v44]
  refine Eq.trans ?_ (wt_at _ _ k)
  pointwise
  simp only [← Nat.add_assoc, Nat.reduceAdd]

theorem v45 : A w main_v45 = extractStridedSlice S512x1024 ![1024, 0] (extractStridedSlice S1536x1024 ![5648, 0] (wt (Wi w)) slices_S11280x1024_S1536x1024_5648_0) slices_S1536x1024_S512x1024_1024_0 := by
  show StableHlo.after hostOps0 w (Proc.devRef .tc main_v45) = _
  after_results <;> rfl

theorem v45_at (j : Fin 512) (k : Fin 1024) : (A w main_v45 : Vec Ideal S512x1024 .bf16) (ix2 j k) = Wi w (ix3 0 k ⟨6672 + j.val, by omega⟩) := by
  rw [v45]
  refine Eq.trans ?_ (wt_at _ _ k)
  pointwise
  simp only [← Nat.add_assoc, Nat.reduceAdd]

theorem v46 : A w main_v46 = extractStridedSlice S512x1024 ![0, 0] (extractStridedSlice S1536x1024 ![7184, 0] (wt (Wi w)) slices_S11280x1024_S1536x1024_7184_0) slices_S1536x1024_S512x1024_0_0 := by
  show StableHlo.after hostOps0 w (Proc.devRef .tc main_v46) = _
  after_results <;> rfl

theorem v46_at (j : Fin 512) (k : Fin 1024) : (A w main_v46 : Vec Ideal S512x1024 .bf16) (ix2 j k) = Wi w (ix3 0 k ⟨7184 + j.val, by omega⟩) := by
  rw [v46]
  refine Eq.trans ?_ (wt_at _ _ k)
  pointwise

theorem v47 : A w main_v47 = extractStridedSlice S512x1024 ![512, 0] (extractStridedSlice S1536x1024 ![7184, 0] (wt (Wi w)) slices_S11280x1024_S1536x1024_7184_0) slices_S1536x1024_S512x1024_512_0 := by
  show StableHlo.after hostOps0 w (Proc.devRef .tc main_v47) = _
  after_results <;> rfl

theorem v47_at (j : Fin 512) (k : Fin 1024) : (A w main_v47 : Vec Ideal S512x1024 .bf16) (ix2 j k) = Wi w (ix3 0 k ⟨7696 + j.val, by omega⟩) := by
  rw [v47]
  refine Eq.trans ?_ (wt_at _ _ k)
  pointwise
  simp only [← Nat.add_assoc, Nat.reduceAdd]

theorem v48 : A w main_v48 = extractStridedSlice S512x1024 ![1024, 0] (extractStridedSlice S1536x1024 ![7184, 0] (wt (Wi w)) slices_S11280x1024_S1536x1024_7184_0) slices_S1536x1024_S512x1024_1024_0 := by
  show StableHlo.after hostOps0 w (Proc.devRef .tc main_v48) = _
  after_results <;> rfl

theorem v48_at (j : Fin 512) (k : Fin 1024) : (A w main_v48 : Vec Ideal S512x1024 .bf16) (ix2 j k) = Wi w (ix3 0 k ⟨8208 + j.val, by omega⟩) := by
  rw [v48]
  refine Eq.trans ?_ (wt_at _ _ k)
  pointwise
  simp only [← Nat.add_assoc, Nat.reduceAdd]

end Cert.K2Host
-- ==== Proof.K2End.lean ====
module

public import proofs.«01_k».proof.Proof.K2Pay
public import proofs.«01_k».proof.Proof.K2Rd
public import proofs.«01_k».proof.Proof.K2Host
public import proofs.«01_k».proof.Proof.Gen.Kernel2Ideal.Value

/-! The first call of the projection's backward pass: its array after the run. -/

@[expose] public section

set_option maxRecDepth 16384

noncomputable section

namespace Cert.K2End

open Idealize.ShloMosaic Idealize.SL.Sem Cert.Kernel2Ideal Cert.Kernel2Ideal.Gen Cert.Kernel2Ideal.Value Cert.Lin Cert.K2Spec Cert.K2Pay Cert.K2Rd

/-- A product of two whole blocks is some columns' products. -/
theorem mmp {n : Nat} {X : Vec Ideal ⟨2, ![256, n]⟩ .bf16} {Y : Vec Ideal ⟨2, ![n, 1024]⟩ .bf16} {i1 i2} {P : Vec Ideal ⟨2, ![4096, 11280]⟩ .bf16}
    {W : Vec Ideal ⟨3, ![1, 1024, 11280]⟩ .f32} {R : Fin 4096} {o : Nat} (ho : o + n ≤ 11280) {r : Fin 256} {k : Fin 1024}
    (h1 : ∀ j : Fin n, X (ix2 r j) = P (ix2 R ⟨o + j.val, by omega⟩)) (h2 : ∀ j : Fin n, Y (ix2 j k) = W (ix3 0 k ⟨o + j.val, by omega⟩)) :
    mm (m := 256) (n := 1024) (K := n) (View.ld X (Rect.unit (s := ⟨2, ![256, n]⟩) ![0, 0] (⟨2, ![256, n]⟩ : Shape).size i1))
      (View.ld Y (Rect.unit (s := ⟨2, ![n, 1024]⟩) ![0, 0] (⟨2, ![n, 1024]⟩ : Shape).size i2)) r k = Lin.part (cols P W R k) o n ho :=
  Finset.sum_congr rfl fun j _ => congrArg₂ (fun a b : EReal => a * b) ((Lin.ldw X i1 r j).trans (h1 j)) ((Lin.ldw Y i2 j k).trans (h2 j))

variable (m : (ℓ : Loc nD τ sig) → Buf (Elt Ideal) ℓ) (ρ : Dev nD → PrngReg) (c : Dev nD)

abbrev W : Vec Ideal S1x1024x11280 .f32 := m (c.tc.loc main_arg0)
abbrev P : Vec Ideal S4096x11280 .bf16 := m (c.tc.loc main_arg1)
/-- The buffers at the launch. -/
abbrev w0 : Valuation τ sig (Elt Ideal) := fun b => m (c, b)

variable (t : Fin cfg0.N) (r : Fin 256) (k : Fin 1024)

theorem a0 (j : Fin 512) : (iblk m c 0 t : Vec Ideal S256x512 .bf16) (ix2 r j) = P m c (ix2 (rw0 t r) ⟨4112 + j.val, by omega⟩) :=
  (rd0_0 (V m c main_v15) t r j).trans (K2Host.v15_at (w0 m c) (rw0 t r) j)

theorem b0 (j : Fin 512) : (iblk m c 11 t : Vec Ideal S512x1024 .bf16) (ix2 j k) = W m c (ix3 0 k ⟨4112 + j.val, by omega⟩) :=
  (rd0_11 (V m c main_v40) t j k).trans (K2Host.v40_at (w0 m c) j k)

theorem a1 (j : Fin 512) : (iblk m c 1 t : Vec Ideal S256x512 .bf16) (ix2 r j) = P m c (ix2 (rw0 t r) ⟨4624 + j.val, by omega⟩) :=
  (rd0_1 (V m c main_v16) t r j).trans (K2Host.v16_at (w0 m c) (rw0 t r) j)

theorem b1 (j : Fin 512) : (iblk m c 12 t : Vec Ideal S512x1024 .bf16) (ix2 j k) = W m c (ix3 0 k ⟨4624 + j.val, by omega⟩) :=
  (rd0_12 (V m c main_v41) t j k).trans (K2Host.v41_at (w0 m c) j k)

theorem a2 (j : Fin 512) : (iblk m c 2 t : Vec Ideal S256x512 .bf16) (ix2 r j) = P m c (ix2 (rw0 t r) ⟨5136 + j.val, by omega⟩) :=
  (rd0_2 (V m c main_v17) t r j).trans (K2Host.v17_at (w0 m c) (rw0 t r) j)

theorem b2 (j : Fin 512) : (iblk m c 13 t : Vec Ideal S512x1024 .bf16) (ix2 j k) = W m c (ix3 0 k ⟨5136 + j.val, by omega⟩) :=
  (rd0_13 (V m c main_v42) t j k).trans (K2Host.v42_at (w0 m c) j k)

theorem a3 (j : Fin 512) : (iblk m c 3 t : Vec Ideal S256x512 .bf16) (ix2 r j) = P m c (ix2 (rw0 t r) ⟨5648 + j.val, by omega⟩) :=
  (rd0_3 (V m c main_v18) t r j).trans (K2Host.v18_at (w0 m c) (rw0 t r) j)

theorem b3 (j : Fin 512) : (iblk m c 14 t : Vec Ideal S512x1024 .bf16) (ix2 j k) = W m c (ix3 0 k ⟨5648 + j.val, by omega⟩) :=
  (rd0_14 (V m c main_v43) t j k).trans (K2Host.v43_at (w0 m c) j k)

theorem a4 (j : Fin 512) : (iblk m c 4 t : Vec Ideal S256x512 .bf16) (ix2 r j) = P m c (ix2 (rw0 t r) ⟨6160 + j.val, by omega⟩) :=
  (rd0_4 (V m c main_v19) t r j).trans (K2Host.v19_at (w0 m c) (rw0 t r) j)

theorem b4 (j : Fin 512) : (iblk m c 15 t : Vec Ideal S512x1024 .bf16) (ix2 j k) = W m c (ix3 0 k ⟨6160 + j.val, by omega⟩) :=
  (rd0_15 (V m c main_v44) t j k).trans (K2Host.v44_at (w0 m c) j k)

theorem a5 (j : Fin 512) : (iblk m c 5 t : Vec Ideal S256x512 .bf16) (ix2 r j) = P m c (ix2 (rw0 t r) ⟨6672 + j.val, by omega⟩) :=
  (rd0_5 (V m c main_v20) t r j).trans (K2Host.v20_at (w0 m c) (rw0 t r) j)

theorem b5 (j : Fin 512) : (iblk m c 16 t : Vec Ideal S512x1024 .bf16) (ix2 j k) = W m c (ix3 0 k ⟨6672 + j.val, by omega⟩) :=
  (rd0_16 (V m c main_v45) t j k).trans (K2Host.v45_at (w0 m c) j k)

theorem a6 (j : Fin 512) : (iblk m c 6 t : Vec Ideal S256x512 .bf16) (ix2 r j) = P m c (ix2 (rw0 t r) ⟨7184 + j.val, by omega⟩) :=
  (rd0_6 (V m c main_v21) t r j).trans (K2Host.v21_at (w0 m c) (rw0 t r) j)

theorem b6 (j : Fin 512) : (iblk m c 17 t : Vec Ideal S512x1024 .bf16) (ix2 j k) = W m c (ix3 0 k ⟨7184 + j.val, by omega⟩) :=
  (rd0_17 (V m c main_v46) t j k).trans (K2Host.v46_at (w0 m c) j k)

theorem a7 (j : Fin 512) : (iblk m c 7 t : Vec Ideal S256x512 .bf16) (ix2 r j) = P m c (ix2 (rw0 t r) ⟨7696 + j.val, by omega⟩) :=
  (rd0_7 (V m c main_v22) t r j).trans (K2Host.v22_at (w0 m c) (rw0 t r) j)

theorem b7 (j : Fin 512) : (iblk m c 18 t : Vec Ideal S512x1024 .bf16) (ix2 j k) = W m c (ix3 0 k ⟨7696 + j.val, by omega⟩) :=
  (rd0_18 (V m c main_v47) t j k).trans (K2Host.v47_at (w0 m c) j k)

theorem a8 (j : Fin 512) : (iblk m c 8 t : Vec Ideal S256x512 .bf16) (ix2 r j) = P m c (ix2 (rw0 t r) ⟨8208 + j.val, by omega⟩) :=
  (rd0_8 (V m c main_v23) t r j).trans (K2Host.v23_at (w0 m c) (rw0 t r) j)

theorem b8 (j : Fin 512) : (iblk m c 19 t : Vec Ideal S512x1024 .bf16) (ix2 j k) = W m c (ix3 0 k ⟨8208 + j.val, by omega⟩) :=
  (rd0_19 (V m c main_v48) t j k).trans (K2Host.v48_at (w0 m c) j k)

theorem a9 (j : Fin 1024) : (iblk m c 9 t : Vec Ideal S256x1024 .bf16) (ix2 r j) = P m c (ix2 (rw0 t r) ⟨9232 + j.val, by omega⟩) :=
  (rd0_9 (V m c main_v10) t r j).trans (K2Host.v10_at (w0 m c) (rw0 t r) j)

theorem b9 (j : Fin 1024) : (iblk m c 20 t : Vec Ideal S1024x1024 .bf16) (ix2 j k) = W m c (ix3 0 k ⟨9232 + j.val, by omega⟩) :=
  (rd0_20 (V m c main_v38) t j k).trans (K2Host.v38_at (w0 m c) j k)

theorem a10 (j : Fin 1024) : (iblk m c 10 t : Vec Ideal S256x1024 .bf16) (ix2 r j) = P m c (ix2 (rw0 t r) ⟨10256 + j.val, by omega⟩) :=
  (rd0_10 (V m c main_v11) t r j).trans (K2Host.v11_at (w0 m c) (rw0 t r) j)

theorem b10 (j : Fin 1024) : (iblk m c 21 t : Vec Ideal S1024x1024 .bf16) (ix2 j k) = W m c (ix3 0 k ⟨10256 + j.val, by omega⟩) :=
  (rd0_21 (V m c main_v39) t j k).trans (K2Host.v39_at (w0 m c) j k)

theorem o22 : (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) (ix2 r k)
    = ((((((((((Lin.part (cols (P m c) (W m c) (rw0 t r) k) 4112 512 (by omega) + Lin.part (cols (P m c) (W m c) (rw0 t r) k) 4624 512 (by omega)) + Lin.part (cols (P m c) (W m c) (rw0 t r) k) 5136 512 (by omega)) + Lin.part (cols (P m c) (W m c) (rw0 t r) k) 5648 512 (by omega)) + Lin.part (cols (P m c) (W m c) (rw0 t r) k) 6160 512 (by omega)) + Lin.part (cols (P m c) (W m c) (rw0 t r) k) 6672 512 (by omega)) + Lin.part (cols (P m c) (W m c) (rw0 t r) k) 7184 512 (by omega)) + Lin.part (cols (P m c) (W m c) (rw0 t r) k) 7696 512 (by omega)) + Lin.part (cols (P m c) (W m c) (rw0 t r) k) 8208 512 (by omega)) + Lin.part (cols (P m c) (W m c) (rw0 t r) k) 9232 1024 (by omega)) + Lin.part (cols (P m c) (W m c) (rw0 t r) k) 10256 1024 (by omega)) := by
  unfold out0_22
  rw [View.canon_cons_unit_lit' _ _ _ (by decide)]
  refine (q0_1 _ _ r k).trans (congrArg₂ (fun a b : EReal => a + b) ((q0_4 _ _ _ _ _ _ _ _ _ _ _ r k).trans ?_) ((q0_5 _ _ r k).trans (mmp (n := 1024) (by omega) (a10 m c t r) (b10 m c t k))))
  refine congrArg₂ (fun a b : EReal => a + b) ?_ (mmp (n := 1024) (by omega) (a9 m c t r) (b9 m c t k))
  refine congrArg₂ (fun a b : EReal => a + b) ?_ (mmp (n := 512) (by omega) (a8 m c t r) (b8 m c t k))
  refine congrArg₂ (fun a b : EReal => a + b) ?_ (mmp (n := 512) (by omega) (a7 m c t r) (b7 m c t k))
  refine congrArg₂ (fun a b : EReal => a + b) ?_ (mmp (n := 512) (by omega) (a6 m c t r) (b6 m c t k))
  refine congrArg₂ (fun a b : EReal => a + b) ((q0_2 _ _ _ _ _ _ _ _ _ _ r k).trans ?_) ?_
  · refine congrArg₂ (fun a b : EReal => a + b) ?_ (mmp (n := 512) (by omega) (a4 m c t r) (b4 m c t k))
    refine congrArg₂ (fun a b : EReal => a + b) ?_ (mmp (n := 512) (by omega) (a3 m c t r) (b3 m c t k))
    refine congrArg₂ (fun a b : EReal => a + b) ?_ (mmp (n := 512) (by omega) (a2 m c t r) (b2 m c t k))
    exact congrArg₂ (fun a b : EReal => a + b) (mmp (n := 512) (by omega) (a0 m c t r) (b0 m c t k)) (mmp (n := 512) (by omega) (a1 m c t r) (b1 m c t k))
  · exact (congrArg (fun A => mm (m := 256) (n := 1024) (K := 512) A (View.ld (iblk m c 16 t) r0_1) r k)
      (ext2 (e := .bf16) (m := 256) (n := 512) fun r j => q0_3 (View.ld (iblk m c 5 t) r0_0) r j)).trans (mmp (n := 512) (by omega) (a5 m c t r) (b5 m c t k))

theorem p22 : (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) (ix2 r k) = dB (P m c) (W m c) (ix2 (rw0 t r) k) := by
  rw [o22]
  show _ = Lin.part (cols (P m c) (W m c) (rw0 t r) k) 9232 2048 _ + Lin.part (cols (P m c) (W m c) (rw0 t r) k) 4112 4608 _
  generalize cols (P m c) (W m c) (rw0 t r) k = f
  rw [Lin.part_add f 9232 1024 1024, Lin.part_add f 4112 4096 512, Lin.part_add f 4112 3584 512, Lin.part_add f 4112 3072 512, Lin.part_add f 4112 2560 512,
    Lin.part_add f 4112 2048 512, Lin.part_add f 4112 1536 512, Lin.part_add f 4112 1024 512, Lin.part_add f 4112 512 512]
  rw [add_assoc _ (Lin.part f 9232 1024 _) (Lin.part f 10256 1024 _)]
  exact add_comm _ _

theorem f22 : (dats m 0 c).arrAt 22 cfg0.N = dB (P m c) (W m c) := ext2 (e := .f32) (m := 4096) (n := 1024) fun i j => by
  have hl := i.isLt
  let t : Fin cfg0.N := ⟨i.val / 256, lt_of_lt_of_eq (by omega : i.val / 256 < 16) N0.symm⟩
  have e : rw0 t ⟨i.val % 256, Nat.mod_lt _ (by norm_num)⟩ = i := Fin.ext (by simp only [rw0, t]; omega)
  have q := (rd0_22 ((dats m 0 c).arrAt 22 cfg0.N) t ⟨i.val % 256, Nat.mod_lt _ (by norm_num)⟩ j).symm.trans
    ((congrFun ((blocks22 m c t (flush0_22 t)).trans (flushed22 m c t)) _).trans (p22 m c t ⟨i.val % 256, Nat.mod_lt _ (by norm_num)⟩ j))
  rw [e] at q
  exact q

theorem run : θ_run (defs (F := Ideal)) (onTc (τ := τ) (main (F := Ideal))) ⟨m, fun _ => 0, ρ⟩ fun r => ∀ c : Dev nD,
      r.2.mem (c.tc.loc main_v49) = dB (P m c) (W m c)
      ∧ r.2.mem (c.tc.loc main_arg0) = m (c.tc.loc main_arg0)
      ∧ r.2.mem (c.tc.loc main_arg1) = m (c.tc.loc main_arg1) :=
  (θ_run _ _ _).mono (fun _ h c => ⟨(h c).1.trans (f22 m c), (h c).2⟩) (run_blocks m ρ)

end Cert.K2End
-- ==== Proof.R2.lean ====
module

public import proofs.«01_k».proof.Proof.K2Spec
public import proofs.«01_k».proof.Proof.Gen.Reference2Ideal.Run
public import Idealize.ShloMosaic.Lib.Pointwise

/-! The reference of the first call of the projection's backward pass, entry by entry. -/

@[expose] public section

set_option maxRecDepth 16384

noncomputable section

namespace Cert.R2

open Idealize.ShloMosaic Idealize.SL.Sem Cert.Reference2Ideal Cert.Reference2Ideal.Gen Cert.Lin Cert.K2Spec

variable (W : FVec Ideal S1x1024x11280 .f32) (P : FVec Ideal S4096x11280 .bf16)

/-- The products of 2048 columns. -/
def g1 : FVec Ideal S4096x1024 .f32 :=
  Host.dotGeneral dot_S4096x2048_S1024x2048_S4096x1024_1_1_0_0_n_n none
    (extractStridedSlice S4096x2048 ![0, 9232] (extf .f32 P bitsLt_bf16_f32) slices_S4096x11280_S4096x2048_0_9232)
    (extractStridedSlice S1024x2048 ![0, 9232] (shapeCast S1024x11280 W shapeCasts_S1x1024x11280_S1024x11280) slices_S1024x11280_S1024x2048_0_9232)

theorem g1_at (r : Fin 4096) (k : Fin 1024) : (g1 W P) (ix2 r k) = Lin.part (cols P W r k) 9232 2048 (by omega) := by
  unfold Lin.part cols
  pointwise [g1]

/-- The products of 4608 columns. -/
def g2 : FVec Ideal S4096x1024 .f32 :=
  Host.dotGeneral dot_S4096x4608_S1024x4608_S4096x1024_1_1_0_0_n_n none
    (extractStridedSlice S4096x4608 ![0, 4112] (extf .f32 P bitsLt_bf16_f32) slices_S4096x11280_S4096x4608_0_4112)
    (extractStridedSlice S1024x4608 ![0, 4112] (shapeCast S1024x11280 W shapeCasts_S1x1024x11280_S1024x11280) slices_S1024x11280_S1024x4608_0_4112)

theorem g2_at (r : Fin 4096) (k : Fin 1024) : (g2 W P) (ix2 r k) = Lin.part (cols P W r k) 4112 4608 (by omega) := by
  unfold Lin.part cols
  pointwise [g2]

theorem g_eq : addf (g1 W P) (g2 W P) = dB P W := ext2 (e := .f32) (m := 4096) (n := 1024) fun r k => by
  show _ = Lin.part (cols P W r k) 9232 2048 _ + Lin.part (cols P W r k) 4112 4608 _
  rw [← g1_at, ← g2_at]
  pointwise

variable (m : (ℓ : Loc nD τ sig) → Buf (Elt Ideal) ℓ) (ρ : Dev nD → PrngReg)

theorem run : θ_run (defs (F := Ideal)) (onTc (τ := τ) (main (F := Ideal))) ⟨m, fun _ => 0, ρ⟩ fun r => ∀ c : Dev nD,
      r.2.mem (c.tc.loc main_v15) = dB (m (c.tc.loc main_arg1)) (m (c.tc.loc main_arg0))
      ∧ r.2.mem (c.tc.loc main_arg0) = m (c.tc.loc main_arg0)
      ∧ r.2.mem (c.tc.loc main_arg1) = m (c.tc.loc main_arg1) :=
  (θ_run _ _ _).mono (fun _ h c => ⟨(h c).1.trans (g_eq _ _), (h c).2⟩) (Reference2Ideal.Value.run (F := Ideal) m ρ)

end Cert.R2
-- ==== Proof.K4Pay.lean ====
module

public import proofs.«01_k».proof.Proof.Gen.Kernel4Ideal.Skeleton
public import proofs.«01_k».proof.Proof.K2Spec

/-! What the second call of the projection's backward pass computes from their blocks, entry by entry. -/

@[expose] public section

set_option maxRecDepth 16384

noncomputable section

namespace Cert.K4Pay

open Idealize.ShloMosaic Cert.Kernel4Ideal Cert.Kernel4Ideal.Gen Cert.Lin Cert.K2Spec

/-- A product of two blocks. -/
def mm {m n K : Nat} (A : Vec Ideal ⟨2, ![m, K]⟩ .bf16) (X : Vec Ideal ⟨2, ![K, n]⟩ .bf16) (r : Fin m) (k : Fin n) : EReal :=
  ∑ j, (A (ix2 r j) : EReal) * (X (ix2 j k) : EReal)

theorem q0_3 (s : Vec Ideal S256x1024 .f32) (a : Vec Ideal S256x1024 .bf16) (b : Vec Ideal S1024x1024 .bf16) (r : Fin 256) (k : Fin 1024) :
    (k0_pay3 s a b) (ix2 r k) = s (ix2 r k) + mm (m := 256) (n := 1024) (K := 1024) a b r k := by
  unfold mm
  unfold_payloads
  pointwise

theorem q0_4 (s : Vec Ideal S256x1024 .f32) (a : Vec Ideal S256x1024 .bf16) (b : Vec Ideal S1024x1024 .bf16) (r : Fin 256) (k : Fin 1024) :
    (k0_pay4 s a b) (ix2 r k) = s (ix2 r k) + mm (m := 256) (n := 1024) (K := 1024) a b r k := by
  unfold mm
  unfold_payloads
  pointwise

theorem q0_7 (s : Vec Ideal S256x1024 .f32) (a : Vec Ideal S256x1024 .bf16) (b : Vec Ideal S1024x1024 .bf16) (r : Fin 256) (k : Fin 1024) :
    (k0_pay7 (k0_pay5 s) (k0_pay6 a b)) (ix2 r k) = s (ix2 r k) + mm (m := 256) (n := 1024) (K := 1024) a b r k := by
  unfold mm
  unfold_payloads
  pointwise

theorem q0_8 (s : Vec Ideal S256x1024 .f32) (a : Vec Ideal S256x1024 .bf16) (b : Vec Ideal S1024x1024 .bf16) (r : Fin 256) (k : Fin 1024) :
    (k0_pay8 s a b) (ix2 r k) = s (ix2 r k) + mm (m := 256) (n := 1024) (K := 1024) a b r k := by
  unfold mm
  unfold_payloads
  pointwise

theorem q0_9 (s : Vec Ideal S256x1024 .f32) (a : Vec Ideal S256x128 .bf16) (b : Vec Ideal S128x1024 .bf16) (r : Fin 256) (k : Fin 1024) :
    (k0_pay9 s a b) (ix2 r k) = s (ix2 r k) + mm (m := 256) (n := 1024) (K := 128) a b r k := by
  unfold mm
  unfold_payloads
  pointwise

theorem q0_10 (s : Vec Ideal S256x1024 .f32) (a : Vec Ideal S256x512 .bf16) (b : Vec Ideal S512x1024 .bf16) (r : Fin 256) (k : Fin 1024) :
    (k0_pay10 s a b) (ix2 r k) = s (ix2 r k) + mm (m := 256) (n := 1024) (K := 512) a b r k := by
  unfold mm
  unfold_payloads
  pointwise

theorem q0_11 (x : Vec Ideal S256x1024 .f32) (r : Fin 256) : (k0_pay11 x) (ix2 r (0 : Fin 1)) = Lin.inv fun k => x (ix2 r k) := by
  unfold Lin.inv var
  unfold_payloads
  pointwise

theorem q0_13 (x d : Vec Ideal S256x1024 .f32) (w : Vec Ideal S1x1024 .f32) (d2 : Vec Ideal S256x1024 .f32) (r : Fin 256) (k : Fin 1024) :
    (k0_pay13 x d w d2) (ix2 r k) = dxrow (fun k => x (ix2 r k)) (fun k => w (ix2 (0 : Fin 1) k)) (fun k => d2 (ix2 r k)) (fun k => d (ix2 r k)) k := by
  unfold dxrow
  simp only [← q0_11]
  unfold k0_pay13 k0_pay12
  pointwise
  rfl

theorem q0_14 (x d : Vec Ideal S256x1024 .f32) (p : Fin 8) (k : Fin 1024) :
    (k0_pay14 x d) (ix2 p k) = if p.val = 0 then ∑ r : Fin 256, ((d (ix2 r k) : EReal) * (x (ix2 r k) : EReal)) * Lin.inv fun k => x (ix2 r k) else 0 := by
  simp only [← q0_11]
  unfold k0_pay14 k0_pay12
  pointwise
  by_cases h : p.val = 0
  · simp [h]
  · simp [h]

theorem q0_1 (p : Fin 8) (k : Fin 1024) : (k0_pay1 (F := Ideal)) (ix2 p k) = (0 : EReal) := by
  unfold_payloads
  pointwise

theorem q0_2 (a : FVec Ideal S8x1024 .f32) (b : Vec Ideal S8x1024 .f32) (p : Fin 8) (k : Fin 1024) : (k0_pay2 a b) (ix2 p k) = b (ix2 p k) + a (ix2 p k) := by
  unfold_payloads
  pointwise

end Cert.K4Pay
-- ==== Proof.K4Body.lean ====
module

public import proofs.«01_k».proof.Proof.K4Pay
public import proofs.«01_k».proof.Proof.Gen.Kernel4Ideal.Frame

/-! What one point of the second call of the projection's backward pass leaves in its output buffers. -/

@[expose] public section

set_option maxRecDepth 16384

noncomputable section

namespace Cert.K4Body

open Idealize.ShloMosaic Cert.Kernel4Ideal Cert.Kernel4Ideal.Gen Cert.Lin Cert.K2Spec Cert.K4Pay

/-- The products of a row of some columns of one block and a column of the same rows of another. -/
def seg {q : Nat} (x : Vec Ideal ⟨2, ![256, q]⟩ .bf16) (y : Vec Ideal ⟨2, ![q, 1024]⟩ .bf16) (o n : Nat) (h : o + n ≤ q) (r : Fin 256) (k : Fin 1024) : EReal :=
  ∑ j : Fin n, (x (ix2 r ⟨o + j.val, by omega⟩) : EReal) * (y (ix2 ⟨o + j.val, by omega⟩ k) : EReal)

/-- A product of loaded parts. -/
theorem mml {q n : Nat} (arg : Memref sig .tc .vmem ⟨2, ![256, q]⟩ .bf16) (h : arg.IsWhole) (x : Vec Ideal ⟨2, ![256, q]⟩ .bf16)
    (arg' : Memref sig .tc .vmem ⟨2, ![q, 1024]⟩ .bf16) (h' : arg'.IsWhole) (y : Vec Ideal ⟨2, ![q, 1024]⟩ .bf16) (o : Nat) (ho : o + n ≤ q) (i1) (i2) (r : Fin 256) (k : Fin 1024) :
    mm (m := 256) (n := 1024) (K := n)
      (View.readAt (Elt Ideal) arg.view (Rect.unit (s := ⟨2, ![256, q]⟩) ![0, o] (⟨2, ![256, n]⟩ : Shape).size i1).toLoadRect (h.unread x))
      (View.readAt (Elt Ideal) arg'.view (Rect.unit (s := ⟨2, ![q, 1024]⟩) ![o, 0] (⟨2, ![n, 1024]⟩ : Shape).size i2).toLoadRect (h'.unread y)) r k = seg x y o n ho r k :=
  Finset.sum_congr rfl fun j _ => congrArg₂ (fun a b : EReal => a * b)
    (Lin.rdp arg h x 0 o i1 r j r ⟨o + j.val, by omega⟩ (Nat.zero_add _).symm rfl) (Lin.rdp arg' h' y o 0 i2 j k ⟨o + j.val, by omega⟩ k rfl (Nat.zero_add _).symm)

/-- A block's gradient to the norm's result: the other branch's part and the products. -/
def dh (x0 : Vec Ideal S256x3072 .bf16) (x1 : Vec Ideal S256x1024 .bf16) (x2 : Vec Ideal S256x128 .bf16) (x3 : Vec Ideal S256x512 .bf16)
    (x4 : Vec Ideal S3072x1024 .bf16) (x5 : Vec Ideal S1024x1024 .bf16) (x6 : Vec Ideal S128x1024 .bf16) (x7 : Vec Ideal S512x1024 .bf16) (x8 : Vec Ideal S256x1024 .f32)
    (r : Fin 256) (k : Fin 1024) : EReal :=
  ((((((x8 (ix2 r k) : EReal) + seg x0 x4 0 1024 (by omega) r k) + seg x0 x4 1024 1024 (by omega) r k) + seg x0 x4 2048 1024 (by omega) r k) + seg x1 x5 0 1024 (by omega) r k)
    + seg x2 x6 0 128 (by omega) r k) + seg x3 x7 0 512 (by omega) r k

/-- One row of a block's gradient to the norm's argument. -/
abbrev ox (x9 x10 : Vec Ideal S256x1024 .f32) (x11 : Vec Ideal S1x1024 .f32) (D : Fin 256 → Fin 1024 → EReal) (r : Fin 256) (k : Fin 1024) : EReal :=
  dxrow (fun k => x9 (ix2 r k)) (fun k => x11 (ix2 (0 : Fin 1) k)) (fun k => x10 (ix2 r k)) (D r) k

/-- A block's part of the gradient to the norm's weight. -/
def ow (x9 : Vec Ideal S256x1024 .f32) (D : Fin 256 → Fin 1024 → EReal) (k : Fin 1024) : EReal :=
  ∑ r : Fin 256, (D r k * (x9 (ix2 r k) : EReal)) * Lin.inv fun k => x9 (ix2 r k)

theorem ox_eq (x9 d : Vec Ideal S256x1024 .f32) (w : Vec Ideal S1x1024 .f32) (x10 X9 X10 : Vec Ideal S256x1024 .f32) (W : Vec Ideal S1x1024 .f32) (D : Fin 256 → Fin 1024 → EReal)
    (h9 : x9 = X9) (hd : ∀ r k, d (ix2 r k) = D r k) (hw : w = W) (h10 : x10 = X10) (r : Fin 256) (k : Fin 1024) : (k0_pay13 x9 d w x10) (ix2 r k) = ox X9 X10 W D r k := by
  subst h9 hw h10
  exact (q0_13 x9 d w x10 r k).trans (congrArg (fun D => dxrow (fun k => x9 (ix2 r k)) (fun k => w (ix2 (0 : Fin 1) k)) (fun k => x10 (ix2 r k)) D k) (funext fun k => hd r k))

theorem ow_eq (x9 d X9 : Vec Ideal S256x1024 .f32) (D : Fin 256 → Fin 1024 → EReal)
    (h9 : x9 = X9) (hd : ∀ r k, d (ix2 r k) = D r k) (p : Fin 8) (k : Fin 1024) : (k0_pay14 x9 d) (ix2 p k) = if p.val = 0 then ow X9 D k else 0 := by
  subst h9
  refine (q0_14 x9 d p k).trans (congrArg (fun a : EReal => if p.val = 0 then a else 0) ?_)
  exact Finset.sum_congr rfl fun r _ => congrArg (fun a : EReal => (a * (x9 (ix2 r k) : EReal)) * Lin.inv fun k => x9 (ix2 r k)) (hd r k)

variable (c : Dev nD) (i : grid0.Coords)
variable (arg1 : Memref sig .tc .vmem S256x3072 .bf16) (harg1 : arg1.IsWhole)
variable (arg2 : Memref sig .tc .vmem S256x1024 .bf16) (harg2 : arg2.IsWhole)
variable (arg3 : Memref sig .tc .vmem S256x128 .bf16) (harg3 : arg3.IsWhole)
variable (arg4 : Memref sig .tc .vmem S256x512 .bf16) (harg4 : arg4.IsWhole)
variable (arg5 : Memref sig .tc .vmem S3072x1024 .bf16) (harg5 : arg5.IsWhole)
variable (arg6 : Memref sig .tc .vmem S1024x1024 .bf16) (harg6 : arg6.IsWhole)
variable (arg7 : Memref sig .tc .vmem S128x1024 .bf16) (harg7 : arg7.IsWhole)
variable (arg8 : Memref sig .tc .vmem S512x1024 .bf16) (harg8 : arg8.IsWhole)
variable (arg9 : Memref sig .tc .vmem S256x1024 .f32) (harg9 : arg9.IsWhole)
variable (arg10 : Memref sig .tc .vmem S256x1024 .f32) (harg10 : arg10.IsWhole)
variable (arg11 : Memref sig .tc .vmem S256x1024 .f32) (harg11 : arg11.IsWhole)
variable (arg12 : Memref sig .tc .vmem S1x1024 .f32) (harg12 : arg12.IsWhole)
variable (arg13 : Memref sig .tc .vmem S256x1024 .f32) (harg13 : arg13.IsWhole)
variable (arg14 : Memref sig .tc .vmem S8x1024 .f32) (harg14 : arg14.IsWhole)
variable (x0 : Vec Ideal S256x3072 .bf16)
variable (x1 : Vec Ideal S256x1024 .bf16)
variable (x2 : Vec Ideal S256x128 .bf16)
variable (x3 : Vec Ideal S256x512 .bf16)
variable (x4 : Vec Ideal S3072x1024 .bf16)
variable (x5 : Vec Ideal S1024x1024 .bf16)
variable (x6 : Vec Ideal S128x1024 .bf16)
variable (x7 : Vec Ideal S512x1024 .bf16)
variable (x8 : Vec Ideal S256x1024 .f32)
variable (x9 : Vec Ideal S256x1024 .f32)
variable (x10 : Vec Ideal S256x1024 .f32)
variable (x11 : Vec Ideal S1x1024 .f32)
variable (xo13 : Vec Ideal S8x1024 .f32)

theorem A2 (r : Fin 256) (k : Fin 1024) : (kernelRun0_A.sl.v2 (F := Ideal) c arg9 harg9 arg13 x8) (ix2 r k) = x8 (ix2 r k) := by
  unfold kernelRun0_A.sl.v2 kernelRun0_A.sl.H12_1
  exact (congrFun (View.readCov_cons_unit_lit' arg13.view _ _ _ _ (by decide) (by decide)) _).trans (Lin.rdw arg9 harg9 x8 _ r k)

theorem A11 (r : Fin 256) (k : Fin 1024) : (kernelRun0_A.sl.v11 (F := Ideal) c arg1 harg1 arg5 harg5 arg9 harg9 arg13 x0 x4 x8) (ix2 r k) = ((x8 (ix2 r k) : EReal) + seg x0 x4 0 1024 (by omega) r k) := by
  unfold kernelRun0_A.sl.v11 kernelRun0_A.sl.H12_2
  exact (congrFun (View.readCov_cons_unit_lit' arg13.view _ _ _ _ (by decide) (by decide)) _).trans ((q0_3 _ _ _ r k).trans (congrArg₂ (fun a b : EReal => a + b) (A2 c arg9 harg9 arg13 x8 r k) (mml arg1 harg1 x0 arg5 harg5 x4 0 (by omega) _ _ r k)))

theorem A20 (r : Fin 256) (k : Fin 1024) : (kernelRun0_A.sl.v20 (F := Ideal) c arg1 harg1 arg5 harg5 arg9 harg9 arg13 x0 x4 x8) (ix2 r k) = (((x8 (ix2 r k) : EReal) + seg x0 x4 0 1024 (by omega) r k) + seg x0 x4 1024 1024 (by omega) r k) := by
  unfold kernelRun0_A.sl.v20 kernelRun0_A.sl.H12_3
  exact (congrFun (View.readCov_cons_unit_lit' arg13.view _ _ _ _ (by decide) (by decide)) _).trans ((q0_4 _ _ _ r k).trans (congrArg₂ (fun a b : EReal => a + b) (A11 c arg1 harg1 arg5 harg5 arg9 harg9 arg13 x0 x4 x8 r k) (mml arg1 harg1 x0 arg5 harg5 x4 1024 (by omega) _ _ r k)))

theorem A29 (r : Fin 256) (k : Fin 1024) : (kernelRun0_A.sl.v29 (F := Ideal) c arg1 harg1 arg5 harg5 arg9 harg9 arg13 x0 x4 x8) (ix2 r k) = ((((x8 (ix2 r k) : EReal) + seg x0 x4 0 1024 (by omega) r k) + seg x0 x4 1024 1024 (by omega) r k) + seg x0 x4 2048 1024 (by omega) r k) := by
  unfold kernelRun0_A.sl.v29 kernelRun0_A.sl.H12_4 kernelRun0_A.sl.r kernelRun0_A.sl.r_1
  exact (congrFun (View.readCov_cons_unit_lit' arg13.view _ _ _ _ (by decide) (by decide)) _).trans ((q0_7 _ _ _ r k).trans (congrArg₂ (fun a b : EReal => a + b) (A20 c arg1 harg1 arg5 harg5 arg9 harg9 arg13 x0 x4 x8 r k) (mml arg1 harg1 x0 arg5 harg5 x4 2048 (by omega) _ _ r k)))

theorem A38 (r : Fin 256) (k : Fin 1024) : (kernelRun0_A.sl.v38 (F := Ideal) c arg1 harg1 arg2 harg2 arg5 harg5 arg6 harg6 arg9 harg9 arg13 x0 x1 x4 x5 x8) (ix2 r k) = (((((x8 (ix2 r k) : EReal) + seg x0 x4 0 1024 (by omega) r k) + seg x0 x4 1024 1024 (by omega) r k) + seg x0 x4 2048 1024 (by omega) r k) + seg x1 x5 0 1024 (by omega) r k) := by
  unfold kernelRun0_A.sl.v38 kernelRun0_A.sl.H12_5
  exact (congrFun (View.readCov_cons_unit_lit' arg13.view _ _ _ _ (by decide) (by decide)) _).trans ((q0_8 _ _ _ r k).trans (congrArg₂ (fun a b : EReal => a + b) (A29 c arg1 harg1 arg5 harg5 arg9 harg9 arg13 x0 x4 x8 r k) (mml arg2 harg2 x1 arg6 harg6 x5 0 (by omega) _ _ r k)))

theorem A47 (r : Fin 256) (k : Fin 1024) : (kernelRun0_A.sl.v47 (F := Ideal) c arg1 harg1 arg2 harg2 arg3 harg3 arg5 harg5 arg6 harg6 arg7 harg7 arg9 harg9 arg13 x0 x1 x2 x4 x5 x6 x8) (ix2 r k) = ((((((x8 (ix2 r k) : EReal) + seg x0 x4 0 1024 (by omega) r k) + seg x0 x4 1024 1024 (by omega) r k) + seg x0 x4 2048 1024 (by omega) r k) + seg x1 x5 0 1024 (by omega) r k) + seg x2 x6 0 128 (by omega) r k) := by
  unfold kernelRun0_A.sl.v47 kernelRun0_A.sl.H12_6
  exact (congrFun (View.readCov_cons_unit_lit' arg13.view _ _ _ _ (by decide) (by decide)) _).trans ((q0_9 _ _ _ r k).trans (congrArg₂ (fun a b : EReal => a + b) (A38 c arg1 harg1 arg2 harg2 arg5 harg5 arg6 harg6 arg9 harg9 arg13 x0 x1 x4 x5 x8 r k) (mml arg3 harg3 x2 arg7 harg7 x6 0 (by omega) _ _ r k)))

theorem A65 (r : Fin 256) (k : Fin 1024) : (kernelRun0_A.sl.v65 (F := Ideal) c arg1 harg1 arg2 harg2 arg3 harg3 arg4 harg4 arg5 harg5 arg6 harg6 arg7 harg7 arg8 harg8 arg9 harg9 arg13 x0 x1 x2 x3 x4 x5 x6 x7 x8) (ix2 r k) = dh x0 x1 x2 x3 x4 x5 x6 x7 x8 r k := by
  unfold kernelRun0_A.sl.v65 kernelRun0_A.sl.H12_7 kernelRun0_A.sl.r_2
  exact (congrFun (View.readCov_cons_unit_lit' arg13.view _ _ _ _ (by decide) (by decide)) _).trans ((q0_10 _ _ _ r k).trans (congrArg₂ (fun a b : EReal => a + b) (A47 c arg1 harg1 arg2 harg2 arg3 harg3 arg5 harg5 arg6 harg6 arg7 harg7 arg9 harg9 arg13 x0 x1 x2 x4 x5 x6 x8 r k) (mml arg4 harg4 x3 arg8 harg8 x7 0 (by omega) _ _ r k)))

theorem Ax (hc0 : cond0_0 i) (r : Fin 256) (k : Fin 1024) : (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11) (ix2 r k) = ox x9 x10 x11 (dh x0 x1 x2 x3 x4 x5 x6 x7 x8) r k := by
  unfold out0_A_12
  rw [View.read_writes_junk_eq_canon]
  unfold kernelRun0_A
  dsimp only
  rw [View.canon_cons_unit_lit' _ _ _ (by decide)]
  exact ox_eq _ _ _ _ x9 x10 x11 _ (ext2 (e := .f32) (m := 256) (n := 1024) fun r k => Lin.rdw arg10 harg10 x9 _ r k) (fun r k => A65 c arg1 harg1 arg2 harg2 arg3 harg3 arg4 harg4 arg5 harg5 arg6 harg6 arg7 harg7 arg8 harg8 arg9 harg9 arg13 x0 x1 x2 x3 x4 x5 x6 x7 x8 r k) (ext2 (e := .f32) (m := 1) (n := 1024) fun r k => Lin.rdw arg12 harg12 x11 _ r k) (ext2 (e := .f32) (m := 256) (n := 1024) fun r k => Lin.rdw arg11 harg11 x10 _ r k) r k

theorem Aw (hc0 : cond0_0 i) (p : Fin 8) (k : Fin 1024) : (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11) (ix2 p k) = 0 + if p.val = 0 then ow x9 (dh x0 x1 x2 x3 x4 x5 x6 x7 x8) k else 0 := by
  unfold out0_A_13
  rw [View.read_writes_junk_eq_canon]
  unfold kernelRun0_A
  dsimp only
  rw [View.canon_cons_unit_lit' _ _ _ (by decide)]
  unfold kernelRun0_A.sl.v97 kernelRun0_A.sl.H13_1
  unfold kernelRun0_A.sl.r_3
  exact (q0_2 _ _ p k).trans (congrArg₂ (fun a b : EReal => a + b) ((congrFun (View.readCov_cons_unit_lit' arg14.view _ _ _ _ (by decide) (by decide)) _).trans (q0_1 p k)) (ow_eq _ _ x9 _ (ext2 (e := .f32) (m := 256) (n := 1024) fun r k => Lin.rdw arg10 harg10 x9 _ r k) (fun r k => A65 c arg1 harg1 arg2 harg2 arg3 harg3 arg4 harg4 arg5 harg5 arg6 harg6 arg7 harg7 arg8 harg8 arg9 harg9 arg13 x0 x1 x2 x3 x4 x5 x6 x7 x8 r k) p k))

theorem B2 (r : Fin 256) (k : Fin 1024) : (kernelRun0_B.sl.v2 (F := Ideal) c arg9 harg9 arg13 x8) (ix2 r k) = x8 (ix2 r k) := by
  unfold kernelRun0_B.sl.v2 kernelRun0_B.sl.H12_1
  exact (congrFun (View.readCov_cons_unit_lit' arg13.view _ _ _ _ (by decide) (by decide)) _).trans (Lin.rdw arg9 harg9 x8 _ r k)

theorem B11 (r : Fin 256) (k : Fin 1024) : (kernelRun0_B.sl.v11 (F := Ideal) c arg1 harg1 arg5 harg5 arg9 harg9 arg13 x0 x4 x8) (ix2 r k) = ((x8 (ix2 r k) : EReal) + seg x0 x4 0 1024 (by omega) r k) := by
  unfold kernelRun0_B.sl.v11 kernelRun0_B.sl.H12_2
  exact (congrFun (View.readCov_cons_unit_lit' arg13.view _ _ _ _ (by decide) (by decide)) _).trans ((q0_3 _ _ _ r k).trans (congrArg₂ (fun a b : EReal => a + b) (B2 c arg9 harg9 arg13 x8 r k) (mml arg1 harg1 x0 arg5 harg5 x4 0 (by omega) _ _ r k)))

theorem B20 (r : Fin 256) (k : Fin 1024) : (kernelRun0_B.sl.v20 (F := Ideal) c arg1 harg1 arg5 harg5 arg9 harg9 arg13 x0 x4 x8) (ix2 r k) = (((x8 (ix2 r k) : EReal) + seg x0 x4 0 1024 (by omega) r k) + seg x0 x4 1024 1024 (by omega) r k) := by
  unfold kernelRun0_B.sl.v20 kernelRun0_B.sl.H12_3
  exact (congrFun (View.readCov_cons_unit_lit' arg13.view _ _ _ _ (by decide) (by decide)) _).trans ((q0_4 _ _ _ r k).trans (congrArg₂ (fun a b : EReal => a + b) (B11 c arg1 harg1 arg5 harg5 arg9 harg9 arg13 x0 x4 x8 r k) (mml arg1 harg1 x0 arg5 harg5 x4 1024 (by omega) _ _ r k)))

theorem B29 (r : Fin 256) (k : Fin 1024) : (kernelRun0_B.sl.v29 (F := Ideal) c arg1 harg1 arg5 harg5 arg9 harg9 arg13 x0 x4 x8) (ix2 r k) = ((((x8 (ix2 r k) : EReal) + seg x0 x4 0 1024 (by omega) r k) + seg x0 x4 1024 1024 (by omega) r k) + seg x0 x4 2048 1024 (by omega) r k) := by
  unfold kernelRun0_B.sl.v29 kernelRun0_B.sl.H12_4 kernelRun0_B.sl.r kernelRun0_B.sl.r_1
  exact (congrFun (View.readCov_cons_unit_lit' arg13.view _ _ _ _ (by decide) (by decide)) _).trans ((q0_7 _ _ _ r k).trans (congrArg₂ (fun a b : EReal => a + b) (B20 c arg1 harg1 arg5 harg5 arg9 harg9 arg13 x0 x4 x8 r k) (mml arg1 harg1 x0 arg5 harg5 x4 2048 (by omega) _ _ r k)))

theorem B38 (r : Fin 256) (k : Fin 1024) : (kernelRun0_B.sl.v38 (F := Ideal) c arg1 harg1 arg2 harg2 arg5 harg5 arg6 harg6 arg9 harg9 arg13 x0 x1 x4 x5 x8) (ix2 r k) = (((((x8 (ix2 r k) : EReal) + seg x0 x4 0 1024 (by omega) r k) + seg x0 x4 1024 1024 (by omega) r k) + seg x0 x4 2048 1024 (by omega) r k) + seg x1 x5 0 1024 (by omega) r k) := by
  unfold kernelRun0_B.sl.v38 kernelRun0_B.sl.H12_5
  exact (congrFun (View.readCov_cons_unit_lit' arg13.view _ _ _ _ (by decide) (by decide)) _).trans ((q0_8 _ _ _ r k).trans (congrArg₂ (fun a b : EReal => a + b) (B29 c arg1 harg1 arg5 harg5 arg9 harg9 arg13 x0 x4 x8 r k) (mml arg2 harg2 x1 arg6 harg6 x5 0 (by omega) _ _ r k)))

theorem B47 (r : Fin 256) (k : Fin 1024) : (kernelRun0_B.sl.v47 (F := Ideal) c arg1 harg1 arg2 harg2 arg3 harg3 arg5 harg5 arg6 harg6 arg7 harg7 arg9 harg9 arg13 x0 x1 x2 x4 x5 x6 x8) (ix2 r k) = ((((((x8 (ix2 r k) : EReal) + seg x0 x4 0 1024 (by omega) r k) + seg x0 x4 1024 1024 (by omega) r k) + seg x0 x4 2048 1024 (by omega) r k) + seg x1 x5 0 1024 (by omega) r k) + seg x2 x6 0 128 (by omega) r k) := by
  unfold kernelRun0_B.sl.v47 kernelRun0_B.sl.H12_6
  exact (congrFun (View.readCov_cons_unit_lit' arg13.view _ _ _ _ (by decide) (by decide)) _).trans ((q0_9 _ _ _ r k).trans (congrArg₂ (fun a b : EReal => a + b) (B38 c arg1 harg1 arg2 harg2 arg5 harg5 arg6 harg6 arg9 harg9 arg13 x0 x1 x4 x5 x8 r k) (mml arg3 harg3 x2 arg7 harg7 x6 0 (by omega) _ _ r k)))

theorem B65 (r : Fin 256) (k : Fin 1024) : (kernelRun0_B.sl.v65 (F := Ideal) c arg1 harg1 arg2 harg2 arg3 harg3 arg4 harg4 arg5 harg5 arg6 harg6 arg7 harg7 arg8 harg8 arg9 harg9 arg13 x0 x1 x2 x3 x4 x5 x6 x7 x8) (ix2 r k) = dh x0 x1 x2 x3 x4 x5 x6 x7 x8 r k := by
  unfold kernelRun0_B.sl.v65 kernelRun0_B.sl.H12_7 kernelRun0_B.sl.r_2
  exact (congrFun (View.readCov_cons_unit_lit' arg13.view _ _ _ _ (by decide) (by decide)) _).trans ((q0_10 _ _ _ r k).trans (congrArg₂ (fun a b : EReal => a + b) (B47 c arg1 harg1 arg2 harg2 arg3 harg3 arg5 harg5 arg6 harg6 arg7 harg7 arg9 harg9 arg13 x0 x1 x2 x4 x5 x6 x8 r k) (mml arg4 harg4 x3 arg8 harg8 x7 0 (by omega) _ _ r k)))

theorem Bx (hc0 : ¬cond0_0 i) (r : Fin 256) (k : Fin 1024) : (out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xo13) (ix2 r k) = ox x9 x10 x11 (dh x0 x1 x2 x3 x4 x5 x6 x7 x8) r k := by
  unfold out0_B_12
  rw [View.read_writes_junk_eq_canon]
  unfold kernelRun0_B
  dsimp only
  rw [View.canon_cons_unit_lit' _ _ _ (by decide)]
  exact ox_eq _ _ _ _ x9 x10 x11 _ (ext2 (e := .f32) (m := 256) (n := 1024) fun r k => Lin.rdw arg10 harg10 x9 _ r k) (fun r k => B65 c arg1 harg1 arg2 harg2 arg3 harg3 arg4 harg4 arg5 harg5 arg6 harg6 arg7 harg7 arg8 harg8 arg9 harg9 arg13 x0 x1 x2 x3 x4 x5 x6 x7 x8 r k) (ext2 (e := .f32) (m := 1) (n := 1024) fun r k => Lin.rdw arg12 harg12 x11 _ r k) (ext2 (e := .f32) (m := 256) (n := 1024) fun r k => Lin.rdw arg11 harg11 x10 _ r k) r k

theorem Bw (hc0 : ¬cond0_0 i) (p : Fin 8) (k : Fin 1024) : (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xo13) (ix2 p k) = (xo13 (ix2 p k) : EReal) + if p.val = 0 then ow x9 (dh x0 x1 x2 x3 x4 x5 x6 x7 x8) k else 0 := by
  unfold out0_B_13
  rw [View.read_writes_junk_eq_canon]
  unfold kernelRun0_B
  dsimp only
  rw [View.canon_cons_unit_lit' _ _ _ (by decide)]
  unfold kernelRun0_B.sl.r_3
  exact (q0_2 _ _ p k).trans (congrArg₂ (fun a b : EReal => a + b) (Lin.rdw arg14 harg14 xo13 _ p k) (ow_eq _ _ x9 _ (ext2 (e := .f32) (m := 256) (n := 1024) fun r k => Lin.rdw arg10 harg10 x9 _ r k) (fun r k => B65 c arg1 harg1 arg2 harg2 arg3 harg3 arg4 harg4 arg5 harg5 arg6 harg6 arg7 harg7 arg8 harg8 arg9 harg9 arg13 x0 x1 x2 x3 x4 x5 x6 x7 x8 r k) p k))

end Cert.K4Body
-- ==== Proof.K4Rd.lean ====
module

public import proofs.«01_k».proof.Proof.Gen.Kernel4Ideal.Launch
public import proofs.«01_k».proof.Proof.Gen.Kernel4Ideal.Points
public import proofs.«01_k».proof.Proof.K2Spec

/-! The blocks of a grid point as parts of the arrays. -/

@[expose] public section

set_option maxRecDepth 16384

noncomputable section

namespace Cert.K4Rd

open Idealize.ShloMosaic Cert.Kernel4Ideal Cert.Kernel4Ideal.Gen

theorem N0 : cfg0.N = 16 := by decide
theorem lt0 (t : Fin cfg0.N) : t.val < 16 := N0 ▸ t.isLt

/-- Row `r` of the part a point reads or writes. -/
abbrev rw0 (t : Fin cfg0.N) (r : Fin 256) : Fin 4096 := ⟨256 * t.val + r.val, by have := lt0 t; omega⟩

theorem idx0_0 : ∀ t : Fin cfg0.N, win0_0.index t = ![t.val, 0] :=
  (by decide +kernel : ∀ t : Fin grid0.N, _)

theorem rd0_0 (A : (⟨⟨2, ![4096, 3072]⟩, .bf16⟩ : BufTy).Contents (Elt Ideal)) (t : Fin cfg0.N) (r : Fin 256) (v : Fin 3072) :
    ((((cfg0.win 0).blk t).view.read (Elt Ideal) A : Vec Ideal ⟨2, ![256, 3072]⟩ .bf16)) (ix2 r v) = A (ix2 (rw0 t r) v) := by
  have hi := idx0_0 t
  refine (View.read_apply _ _).trans ?_
  show A _ = A _
  refine congrArg A (funext fun a => Fin.ext ?_)
  match a with
  | ⟨0, _⟩ =>
    have e : win0_0.index t 0 = t.val := congrFun hi 0
    show win0_0.index t 0 * 256 + 1 * r.val = 256 * t.val + r.val
    omega
  | ⟨1, _⟩ =>
    have e : win0_0.index t 1 = 0 := congrFun hi 1
    show win0_0.index t 1 * 3072 + 1 * v.val = v.val
    omega

theorem idx0_1 : ∀ t : Fin cfg0.N, win0_1.index t = ![t.val, 0] :=
  (by decide +kernel : ∀ t : Fin grid0.N, _)

theorem rd0_1 (A : (⟨⟨2, ![4096, 1024]⟩, .bf16⟩ : BufTy).Contents (Elt Ideal)) (t : Fin cfg0.N) (r : Fin 256) (v : Fin 1024) :
    ((((cfg0.win 1).blk t).view.read (Elt Ideal) A : Vec Ideal ⟨2, ![256, 1024]⟩ .bf16)) (ix2 r v) = A (ix2 (rw0 t r) v) := by
  have hi := idx0_1 t
  refine (View.read_apply _ _).trans ?_
  show A _ = A _
  refine congrArg A (funext fun a => Fin.ext ?_)
  match a with
  | ⟨0, _⟩ =>
    have e : win0_1.index t 0 = t.val := congrFun hi 0
    show win0_1.index t 0 * 256 + 1 * r.val = 256 * t.val + r.val
    omega
  | ⟨1, _⟩ =>
    have e : win0_1.index t 1 = 0 := congrFun hi 1
    show win0_1.index t 1 * 1024 + 1 * v.val = v.val
    omega

theorem idx0_2 : ∀ t : Fin cfg0.N, win0_2.index t = ![t.val, 0] :=
  (by decide +kernel : ∀ t : Fin grid0.N, _)

theorem rd0_2 (A : (⟨⟨2, ![4096, 128]⟩, .bf16⟩ : BufTy).Contents (Elt Ideal)) (t : Fin cfg0.N) (r : Fin 256) (v : Fin 128) :
    ((((cfg0.win 2).blk t).view.read (Elt Ideal) A : Vec Ideal ⟨2, ![256, 128]⟩ .bf16)) (ix2 r v) = A (ix2 (rw0 t r) v) := by
  have hi := idx0_2 t
  refine (View.read_apply _ _).trans ?_
  show A _ = A _
  refine congrArg A (funext fun a => Fin.ext ?_)
  match a with
  | ⟨0, _⟩ =>
    have e : win0_2.index t 0 = t.val := congrFun hi 0
    show win0_2.index t 0 * 256 + 1 * r.val = 256 * t.val + r.val
    omega
  | ⟨1, _⟩ =>
    have e : win0_2.index t 1 = 0 := congrFun hi 1
    show win0_2.index t 1 * 128 + 1 * v.val = v.val
    omega

theorem idx0_3 : ∀ t : Fin cfg0.N, win0_3.index t = ![t.val, 0] :=
  (by decide +kernel : ∀ t : Fin grid0.N, _)

theorem rd0_3 (A : (⟨⟨2, ![4096, 512]⟩, .bf16⟩ : BufTy).Contents (Elt Ideal)) (t : Fin cfg0.N) (r : Fin 256) (v : Fin 512) :
    ((((cfg0.win 3).blk t).view.read (Elt Ideal) A : Vec Ideal ⟨2, ![256, 512]⟩ .bf16)) (ix2 r v) = A (ix2 (rw0 t r) v) := by
  have hi := idx0_3 t
  refine (View.read_apply _ _).trans ?_
  show A _ = A _
  refine congrArg A (funext fun a => Fin.ext ?_)
  match a with
  | ⟨0, _⟩ =>
    have e : win0_3.index t 0 = t.val := congrFun hi 0
    show win0_3.index t 0 * 256 + 1 * r.val = 256 * t.val + r.val
    omega
  | ⟨1, _⟩ =>
    have e : win0_3.index t 1 = 0 := congrFun hi 1
    show win0_3.index t 1 * 512 + 1 * v.val = v.val
    omega

theorem idx0_4 : ∀ t : Fin cfg0.N, win0_4.index t = ![0, 0] :=
  (by decide +kernel : ∀ t : Fin grid0.N, _)

theorem rd0_4 (A : (⟨⟨2, ![3072, 1024]⟩, .bf16⟩ : BufTy).Contents (Elt Ideal)) (t : Fin cfg0.N) (r : Fin 3072) (v : Fin 1024) :
    ((((cfg0.win 4).blk t).view.read (Elt Ideal) A : Vec Ideal ⟨2, ![3072, 1024]⟩ .bf16)) (ix2 r v) = A (ix2 r v) := by
  have hi := idx0_4 t
  refine (View.read_apply _ _).trans ?_
  show A _ = A _
  refine congrArg A (funext fun a => Fin.ext ?_)
  match a with
  | ⟨0, _⟩ =>
    have e : win0_4.index t 0 = 0 := congrFun hi 0
    show win0_4.index t 0 * 3072 + 1 * r.val = r.val
    omega
  | ⟨1, _⟩ =>
    have e : win0_4.index t 1 = 0 := congrFun hi 1
    show win0_4.index t 1 * 1024 + 1 * v.val = v.val
    omega

theorem idx0_5 : ∀ t : Fin cfg0.N, win0_5.index t = ![0, 0] :=
  (by decide +kernel : ∀ t : Fin grid0.N, _)

theorem rd0_5 (A : (⟨⟨2, ![1024, 1024]⟩, .bf16⟩ : BufTy).Contents (Elt Ideal)) (t : Fin cfg0.N) (r : Fin 1024) (v : Fin 1024) :
    ((((cfg0.win 5).blk t).view.read (Elt Ideal) A : Vec Ideal ⟨2, ![1024, 1024]⟩ .bf16)) (ix2 r v) = A (ix2 r v) := by
  have hi := idx0_5 t
  refine (View.read_apply _ _).trans ?_
  show A _ = A _
  refine congrArg A (funext fun a => Fin.ext ?_)
  match a with
  | ⟨0, _⟩ =>
    have e : win0_5.index t 0 = 0 := congrFun hi 0
    show win0_5.index t 0 * 1024 + 1 * r.val = r.val
    omega
  | ⟨1, _⟩ =>
    have e : win0_5.index t 1 = 0 := congrFun hi 1
    show win0_5.index t 1 * 1024 + 1 * v.val = v.val
    omega

theorem idx0_6 : ∀ t : Fin cfg0.N, win0_6.index t = ![0, 0] :=
  (by decide +kernel : ∀ t : Fin grid0.N, _)

theorem rd0_6 (A : (⟨⟨2, ![128, 1024]⟩, .bf16⟩ : BufTy).Contents (Elt Ideal)) (t : Fin cfg0.N) (r : Fin 128) (v : Fin 1024) :
    ((((cfg0.win 6).blk t).view.read (Elt Ideal) A : Vec Ideal ⟨2, ![128, 1024]⟩ .bf16)) (ix2 r v) = A (ix2 r v) := by
  have hi := idx0_6 t
  refine (View.read_apply _ _).trans ?_
  show A _ = A _
  refine congrArg A (funext fun a => Fin.ext ?_)
  match a with
  | ⟨0, _⟩ =>
    have e : win0_6.index t 0 = 0 := congrFun hi 0
    show win0_6.index t 0 * 128 + 1 * r.val = r.val
    omega
  | ⟨1, _⟩ =>
    have e : win0_6.index t 1 = 0 := congrFun hi 1
    show win0_6.index t 1 * 1024 + 1 * v.val = v.val
    omega

theorem idx0_7 : ∀ t : Fin cfg0.N, win0_7.index t = ![0, 0] :=
  (by decide +kernel : ∀ t : Fin grid0.N, _)

theorem rd0_7 (A : (⟨⟨2, ![512, 1024]⟩, .bf16⟩ : BufTy).Contents (Elt Ideal)) (t : Fin cfg0.N) (r : Fin 512) (v : Fin 1024) :
    ((((cfg0.win 7).blk t).view.read (Elt Ideal) A : Vec Ideal ⟨2, ![512, 1024]⟩ .bf16)) (ix2 r v) = A (ix2 r v) := by
  have hi := idx0_7 t
  refine (View.read_apply _ _).trans ?_
  show A _ = A _
  refine congrArg A (funext fun a => Fin.ext ?_)
  match a with
  | ⟨0, _⟩ =>
    have e : win0_7.index t 0 = 0 := congrFun hi 0
    show win0_7.index t 0 * 512 + 1 * r.val = r.val
    omega
  | ⟨1, _⟩ =>
    have e : win0_7.index t 1 = 0 := congrFun hi 1
    show win0_7.index t 1 * 1024 + 1 * v.val = v.val
    omega

theorem idx0_8 : ∀ t : Fin cfg0.N, win0_8.index t = ![t.val, 0] :=
  (by decide +kernel : ∀ t : Fin grid0.N, _)

theorem rd0_8 (A : (⟨⟨2, ![4096, 1024]⟩, .f32⟩ : BufTy).Contents (Elt Ideal)) (t : Fin cfg0.N) (r : Fin 256) (v : Fin 1024) :
    ((((cfg0.win 8).blk t).view.read (Elt Ideal) A : Vec Ideal ⟨2, ![256, 1024]⟩ .f32)) (ix2 r v) = A (ix2 (rw0 t r) v) := by
  have hi := idx0_8 t
  refine (View.read_apply _ _).trans ?_
  show A _ = A _
  refine congrArg A (funext fun a => Fin.ext ?_)
  match a with
  | ⟨0, _⟩ =>
    have e : win0_8.index t 0 = t.val := congrFun hi 0
    show win0_8.index t 0 * 256 + 1 * r.val = 256 * t.val + r.val
    omega
  | ⟨1, _⟩ =>
    have e : win0_8.index t 1 = 0 := congrFun hi 1
    show win0_8.index t 1 * 1024 + 1 * v.val = v.val
    omega

theorem idx0_9 : ∀ t : Fin cfg0.N, win0_9.index t = ![t.val, 0] :=
  (by decide +kernel : ∀ t : Fin grid0.N, _)

theorem rd0_9 (A : (⟨⟨2, ![4096, 1024]⟩, .f32⟩ : BufTy).Contents (Elt Ideal)) (t : Fin cfg0.N) (r : Fin 256) (v : Fin 1024) :
    ((((cfg0.win 9).blk t).view.read (Elt Ideal) A : Vec Ideal ⟨2, ![256, 1024]⟩ .f32)) (ix2 r v) = A (ix2 (rw0 t r) v) := by
  have hi := idx0_9 t
  refine (View.read_apply _ _).trans ?_
  show A _ = A _
  refine congrArg A (funext fun a => Fin.ext ?_)
  match a with
  | ⟨0, _⟩ =>
    have e : win0_9.index t 0 = t.val := congrFun hi 0
    show win0_9.index t 0 * 256 + 1 * r.val = 256 * t.val + r.val
    omega
  | ⟨1, _⟩ =>
    have e : win0_9.index t 1 = 0 := congrFun hi 1
    show win0_9.index t 1 * 1024 + 1 * v.val = v.val
    omega

theorem idx0_10 : ∀ t : Fin cfg0.N, win0_10.index t = ![t.val, 0] :=
  (by decide +kernel : ∀ t : Fin grid0.N, _)

theorem rd0_10 (A : (⟨⟨2, ![4096, 1024]⟩, .f32⟩ : BufTy).Contents (Elt Ideal)) (t : Fin cfg0.N) (r : Fin 256) (v : Fin 1024) :
    ((((cfg0.win 10).blk t).view.read (Elt Ideal) A : Vec Ideal ⟨2, ![256, 1024]⟩ .f32)) (ix2 r v) = A (ix2 (rw0 t r) v) := by
  have hi := idx0_10 t
  refine (View.read_apply _ _).trans ?_
  show A _ = A _
  refine congrArg A (funext fun a => Fin.ext ?_)
  match a with
  | ⟨0, _⟩ =>
    have e : win0_10.index t 0 = t.val := congrFun hi 0
    show win0_10.index t 0 * 256 + 1 * r.val = 256 * t.val + r.val
    omega
  | ⟨1, _⟩ =>
    have e : win0_10.index t 1 = 0 := congrFun hi 1
    show win0_10.index t 1 * 1024 + 1 * v.val = v.val
    omega

theorem idx0_11 : ∀ t : Fin cfg0.N, win0_11.index t = ![0, 0] :=
  (by decide +kernel : ∀ t : Fin grid0.N, _)

theorem rd0_11 (A : (⟨⟨2, ![1, 1024]⟩, .f32⟩ : BufTy).Contents (Elt Ideal)) (t : Fin cfg0.N) (r : Fin 1) (v : Fin 1024) :
    ((((cfg0.win 11).blk t).view.read (Elt Ideal) A : Vec Ideal ⟨2, ![1, 1024]⟩ .f32)) (ix2 r v) = A (ix2 r v) := by
  have hi := idx0_11 t
  refine (View.read_apply _ _).trans ?_
  show A _ = A _
  refine congrArg A (funext fun a => Fin.ext ?_)
  match a with
  | ⟨0, _⟩ =>
    have e : win0_11.index t 0 = 0 := congrFun hi 0
    show win0_11.index t 0 * 1 + 1 * r.val = r.val
    omega
  | ⟨1, _⟩ =>
    have e : win0_11.index t 1 = 0 := congrFun hi 1
    show win0_11.index t 1 * 1024 + 1 * v.val = v.val
    omega

theorem idx0_12 : ∀ t : Fin cfg0.N, win0_12.index t = ![t.val, 0] :=
  (by decide +kernel : ∀ t : Fin grid0.N, _)

theorem rd0_12 (A : (⟨⟨2, ![4096, 1024]⟩, .f32⟩ : BufTy).Contents (Elt Ideal)) (t : Fin cfg0.N) (r : Fin 256) (v : Fin 1024) :
    ((((cfg0.win 12).blk t).view.read (Elt Ideal) A : Vec Ideal ⟨2, ![256, 1024]⟩ .f32)) (ix2 r v) = A (ix2 (rw0 t r) v) := by
  have hi := idx0_12 t
  refine (View.read_apply _ _).trans ?_
  show A _ = A _
  refine congrArg A (funext fun a => Fin.ext ?_)
  match a with
  | ⟨0, _⟩ =>
    have e : win0_12.index t 0 = t.val := congrFun hi 0
    show win0_12.index t 0 * 256 + 1 * r.val = 256 * t.val + r.val
    omega
  | ⟨1, _⟩ =>
    have e : win0_12.index t 1 = 0 := congrFun hi 1
    show win0_12.index t 1 * 1024 + 1 * v.val = v.val
    omega

theorem idx0_13 : ∀ t : Fin cfg0.N, win0_13.index t = ![0, 0] :=
  (by decide +kernel : ∀ t : Fin grid0.N, _)

theorem rd0_13 (A : (⟨⟨2, ![8, 1024]⟩, .f32⟩ : BufTy).Contents (Elt Ideal)) (t : Fin cfg0.N) (r : Fin 8) (v : Fin 1024) :
    ((((cfg0.win 13).blk t).view.read (Elt Ideal) A : Vec Ideal ⟨2, ![8, 1024]⟩ .f32)) (ix2 r v) = A (ix2 r v) := by
  have hi := idx0_13 t
  refine (View.read_apply _ _).trans ?_
  show A _ = A _
  refine congrArg A (funext fun a => Fin.ext ?_)
  match a with
  | ⟨0, _⟩ =>
    have e : win0_13.index t 0 = 0 := congrFun hi 0
    show win0_13.index t 0 * 8 + 1 * r.val = r.val
    omega
  | ⟨1, _⟩ =>
    have e : win0_13.index t 1 = 0 := congrFun hi 1
    show win0_13.index t 1 * 1024 + 1 * v.val = v.val
    omega

end Cert.K4Rd
-- ==== Proof.K4Host.lean ====
module

public import proofs.«01_k».proof.Proof.Gen.Kernel4Ideal.Launch
public import proofs.«01_k».proof.Proof.K2Spec
public import Idealize.ShloMosaic.Lib.Pointwise

/-! The arrays the host prepares for the second call of the projection's backward pass. -/

@[expose] public section

set_option maxRecDepth 16384

noncomputable section

namespace Cert.K4Host

open Idealize.ShloMosaic Cert.Kernel4Ideal Cert.Kernel4Ideal.Gen Cert.Lin

/-- The weights transposed, as the host prepares them. -/
def wt (W : Vec Ideal S1x1024x11280 .f32) : FVec Ideal S11280x1024 .bf16 :=
  shapeCast S11280x1024 (broadcastInDim S1x11280x1024 ![1, 2] bcast_S11280x1024_S1x11280x1024_1_2
    (truncf (F := Ideal) .bf16 (transpose S11280x1024 [1, 0] (shapeCast S1024x11280 W shapeCasts_S1x1024x11280_S1024x11280) transposes_S1024x11280_S11280x1024_1_0) bitsLt_bf16_f32))
    shapeCasts_S1x11280x1024_S11280x1024

theorem wt_at (W : Vec Ideal S1x1024x11280 .f32) (j : Fin 11280) (k : Fin 1024) : (wt W) (ix2 j k) = W (ix3 0 k j) := by
  pointwise [wt]

variable (w : Valuation τ sig (Elt Ideal))

abbrev Pj : Vec Ideal S4096x11280 .bf16 := w (Proc.devRef .tc main_arg3)
abbrev Wi : Vec Ideal S1x1024x11280 .f32 := w (Proc.devRef .tc main_arg2)
/-- The buffers after the host's operations. -/
abbrev A (b : Ref sig .tc) : b.ty.Contents (Elt Ideal) := StableHlo.after (hostOps0 (F := Ideal)) w (Proc.devRef .tc b)

theorem v3 : A w main_v3 = extractStridedSlice S4096x1024 ![0, 3072] (Pj w) slices_S4096x11280_S4096x1024_0_3072 := by
  show StableHlo.after hostOps0 w (Proc.devRef .tc main_v3) = _
  after_results <;> rfl

theorem v3_at (r : Fin 4096) (j : Fin 1024) : (A w main_v3 : Vec Ideal S4096x1024 .bf16) (ix2 r j) = Pj w (ix2 r ⟨3072 + j.val, by omega⟩) := by
  rw [v3]
  pointwise

theorem v9 : A w main_v9 = extractStridedSlice S4096x512 ![0, 8720] (Pj w) slices_S4096x11280_S4096x512_0_8720 := by
  show StableHlo.after hostOps0 w (Proc.devRef .tc main_v9) = _
  after_results <;> rfl

theorem v9_at (r : Fin 4096) (j : Fin 512) : (A w main_v9 : Vec Ideal S4096x512 .bf16) (ix2 r j) = Pj w (ix2 r ⟨8720 + j.val, by omega⟩) := by
  rw [v9]
  pointwise

theorem v32 : A w main_v32 = extractStridedSlice S3072x1024 ![0, 0] (wt (Wi w)) slices_S11280x1024_S3072x1024_0_0 := by
  show StableHlo.after hostOps0 w (Proc.devRef .tc main_v32) = _
  after_results <;> rfl

theorem v32_at (j : Fin 3072) (k : Fin 1024) : (A w main_v32 : Vec Ideal S3072x1024 .bf16) (ix2 j k) = Wi w (ix3 0 k ⟨0 + j.val, by omega⟩) := by
  rw [v32]
  refine Eq.trans ?_ (wt_at _ _ k)
  pointwise

theorem v33 : A w main_v33 = extractStridedSlice S1024x1024 ![3072, 0] (wt (Wi w)) slices_S11280x1024_S1024x1024_3072_0 := by
  show StableHlo.after hostOps0 w (Proc.devRef .tc main_v33) = _
  after_results <;> rfl

theorem v33_at (j : Fin 1024) (k : Fin 1024) : (A w main_v33 : Vec Ideal S1024x1024 .bf16) (ix2 j k) = Wi w (ix3 0 k ⟨3072 + j.val, by omega⟩) := by
  rw [v33]
  refine Eq.trans ?_ (wt_at _ _ k)
  pointwise

theorem v37 : A w main_v37 = extractStridedSlice S512x1024 ![8720, 0] (wt (Wi w)) slices_S11280x1024_S512x1024_8720_0 := by
  show StableHlo.after hostOps0 w (Proc.devRef .tc main_v37) = _
  after_results <;> rfl

theorem v37_at (j : Fin 512) (k : Fin 1024) : (A w main_v37 : Vec Ideal S512x1024 .bf16) (ix2 j k) = Wi w (ix3 0 k ⟨8720 + j.val, by omega⟩) := by
  rw [v37]
  refine Eq.trans ?_ (wt_at _ _ k)
  pointwise

theorem v14 : A w main_v14 = concatenate S4096x3072 1 [⟨S4096x1024, extractStridedSlice S4096x1024 ![0, 0] (Pj w) slices_S4096x11280_S4096x1024_0_0⟩, ⟨S4096x1024, extractStridedSlice S4096x1024 ![0, 1024] (Pj w) slices_S4096x11280_S4096x1024_0_1024⟩, ⟨S4096x1024, extractStridedSlice S4096x1024 ![0, 2048] (Pj w) slices_S4096x11280_S4096x1024_0_2048⟩]
    concatenates_S4096x1024_S4096x1024_S4096x1024_S4096x3072_d1 := by
  show StableHlo.after hostOps0 w (Proc.devRef .tc main_v14) = _
  after_results <;> rfl

theorem v14_at (r : Fin 4096) (j : Fin 3072) : (A w main_v14 : Vec Ideal S4096x3072 .bf16) (ix2 r j) = Pj w (ix2 r ⟨0 + j.val, by omega⟩) := by
  rw [v14]
  pointwise
  by_cases h : j.val < 1024
  · rw [dif_pos h]
  by_cases h' : j.val - 1024 < 1024
  · rw [dif_neg h, dif_pos h']
    exact congrArg (fun q => Pj w (ix2 r q)) (Fin.ext (show 1024 + (j.val - 1024) = j.val by omega))
  · rw [dif_neg h, dif_neg h']
    exact congrArg (fun q => Pj w (ix2 r q)) (Fin.ext (show 2048 + (j.val - 1024 - 1024) = j.val by omega))

theorem v13 : A w main_v13 = concatenate S4096x128 1 [⟨S4096x8, extractStridedSlice S4096x8 ![0, 4096] (Pj w) slices_S4096x11280_S4096x8_0_4096⟩, ⟨S4096x8, extractStridedSlice S4096x8 ![0, 4104] (Pj w) slices_S4096x11280_S4096x8_0_4104⟩,
    ⟨S4096x112, broadcastInDim S4096x112 ![] bcast_S_S4096x112 (constant (F := Ideal) S_ .bf16 0x0000#16)⟩] concatenates_S4096x8_S4096x8_S4096x112_S4096x128_d1 := by
  show StableHlo.after hostOps0 w (Proc.devRef .tc main_v13) = _
  after_results <;> rfl

theorem v13_at (r : Fin 4096) (j : Fin 128) (h : j.val < 16) : (A w main_v13 : Vec Ideal S4096x128 .bf16) (ix2 r j) = Pj w (ix2 r ⟨4096 + j.val, by omega⟩) := by
  rw [v13]
  pointwise
  by_cases h1 : j.val < 8
  · rw [dif_pos h1]
  · rw [dif_neg h1, dif_pos (by omega)]
    exact congrArg (fun q => Pj w (ix2 r q)) (Fin.ext (show 4104 + (j.val - 8) = 4096 + j.val by omega))

theorem v13_zero (r : Fin 4096) (j : Fin 128) (h : ¬j.val < 16) : (A w main_v13 : Vec Ideal S4096x128 .bf16) (ix2 r j) = (0 : EReal) := by
  rw [v13]
  pointwise
  rw [dif_neg (by omega), dif_neg (by omega)]

theorem v31 : A w main_v31 = concatenate S128x1024 0 [⟨S16x1024, extractStridedSlice S16x1024 ![4096, 0] (wt (Wi w)) slices_S11280x1024_S16x1024_4096_0⟩,
    ⟨S112x1024, broadcastInDim S112x1024 ![] bcast_S_S112x1024 (constant (F := Ideal) S_ .bf16 0x0000#16)⟩] concatenates_S16x1024_S112x1024_S128x1024_d0 := by
  show StableHlo.after hostOps0 w (Proc.devRef .tc main_v31) = _
  after_results <;> rfl

theorem v31_at (j : Fin 128) (k : Fin 1024) (h : j.val < 16) : (A w main_v31 : Vec Ideal S128x1024 .bf16) (ix2 j k) = Wi w (ix3 0 k ⟨4096 + j.val, by omega⟩) := by
  rw [v31]
  refine Eq.trans ?_ (wt_at _ _ k)
  pointwise
  exact dif_pos h

end Cert.K4Host
-- ==== Proof.K4End.lean ====
module

public import proofs.«01_k».proof.Proof.K4Body
public import proofs.«01_k».proof.Proof.K4Rd
public import proofs.«01_k».proof.Proof.K4Host
public import proofs.«01_k».proof.Proof.Gen.Kernel4Ideal.Value

/-! The second call of the projection's backward pass: its arrays after the run. -/

@[expose] public section

set_option maxRecDepth 16384

noncomputable section

namespace Cert.K4End

open Idealize.ShloMosaic Idealize.SL.Sem Cert.Kernel4Ideal Cert.Kernel4Ideal.Gen Cert.Kernel4Ideal.Value Cert.Lin Cert.K2Spec Cert.K4Pay Cert.K4Body Cert.K4Rd

/-- A product of some columns is some columns' products. -/
theorem sgp {q n : Nat} {X : Vec Ideal ⟨2, ![256, q]⟩ .bf16} {Y : Vec Ideal ⟨2, ![q, 1024]⟩ .bf16} {P : Vec Ideal ⟨2, ![4096, 11280]⟩ .bf16}
    {W : Vec Ideal ⟨3, ![1, 1024, 11280]⟩ .f32} {R : Fin 4096} {o O : Nat} (ho : o + n ≤ q) (hO : O + q ≤ 11280) (O' : Nat) (h' : O' = O + o) {r : Fin 256} {k : Fin 1024}
    (h1 : ∀ j : Fin q, X (ix2 r j) = P (ix2 R ⟨O + j.val, by omega⟩)) (h2 : ∀ j : Fin q, Y (ix2 j k) = W (ix3 0 k ⟨O + j.val, by omega⟩)) :
    seg X Y o n ho r k = Lin.part (cols P W R k) O' n (by omega) :=
  Finset.sum_congr rfl fun j _ => by
    have e : (⟨O + (o + j.val), by omega⟩ : Fin 11280) = ⟨O' + j.val, by omega⟩ := Fin.ext (by simp only; omega)
    exact congrArg₂ (fun a b : EReal => a * b) ((h1 ⟨o + j.val, by omega⟩).trans (congrArg (fun q => P (ix2 R q)) e))
      ((h2 ⟨o + j.val, by omega⟩).trans (congrArg (fun q => W (ix3 0 k q)) e))

/-- A padded product is sixteen columns' products. -/
theorem sgz {X : Vec Ideal ⟨2, ![256, 128]⟩ .bf16} {Y : Vec Ideal ⟨2, ![128, 1024]⟩ .bf16} {P : Vec Ideal ⟨2, ![4096, 11280]⟩ .bf16}
    {W : Vec Ideal ⟨3, ![1, 1024, 11280]⟩ .f32} {R : Fin 4096} {r : Fin 256} {k : Fin 1024}
    (h0 : ∀ j : Fin 128, ¬j.val < 16 → X (ix2 r j) = (0 : EReal))
    (h1 : ∀ (j : Fin 128) (h : j.val < 16), X (ix2 r j) = P (ix2 R ⟨4096 + j.val, by omega⟩)) (h2 : ∀ (j : Fin 128) (h : j.val < 16), Y (ix2 j k) = W (ix3 0 k ⟨4096 + j.val, by omega⟩)) :
    seg X Y 0 128 (by omega) r k = Lin.part (cols P W R k) 4096 16 (by omega) := by
  have e : ∀ j : Fin 128, (⟨0 + j.val, by omega⟩ : Fin 128) = j := fun j => Fin.ext (Nat.zero_add _)
  refine Lin.pad (fun j => (X (ix2 r ⟨0 + j.val, by omega⟩) : EReal) * (Y (ix2 ⟨0 + j.val, by omega⟩ k) : EReal)) (cols P W R k) 4096 (by omega) (fun j hj => ?_) fun j hj => ?_
  · simp only [e]
    rw [h0 j hj]
    exact zero_mul _
  · simp only [e]
    exact congrArg₂ (fun a b : EReal => a * b) (h1 j hj) (h2 j hj)

variable (m : (ℓ : Loc nD τ sig) → Buf (Elt Ideal) ℓ) (ρ : Dev nD → PrngReg) (c : Dev nD)

abbrev X : Vec Ideal S4096x1024 .f32 := m (c.tc.loc main_arg0)
abbrev Wn : Vec Ideal S1x1024 .f32 := m (c.tc.loc main_arg1)
abbrev W : Vec Ideal S1x1024x11280 .f32 := m (c.tc.loc main_arg2)
abbrev P : Vec Ideal S4096x11280 .bf16 := m (c.tc.loc main_arg3)
abbrev D2 : Vec Ideal S4096x1024 .f32 := m (c.tc.loc main_arg4)
abbrev E : Vec Ideal S4096x1024 .f32 := m (c.tc.loc main_arg5)
/-- The buffers at the launch. -/
abbrev w0 : Valuation τ sig (Elt Ideal) := fun b => m (c, b)

section point
variable (t : Fin cfg0.N) (r : Fin 256) (k : Fin 1024)

theorem a0 (j : Fin 3072) : (iblk m c 0 t : Vec Ideal S256x3072 .bf16) (ix2 r j) = P m c (ix2 (rw0 t r) ⟨0 + j.val, by omega⟩) :=
  (rd0_0 (V m c main_v14) t r j).trans (K4Host.v14_at (w0 m c) (rw0 t r) j)

theorem b0 (j : Fin 3072) : (iblk m c 4 t : Vec Ideal S3072x1024 .bf16) (ix2 j k) = W m c (ix3 0 k ⟨0 + j.val, by omega⟩) :=
  (rd0_4 (V m c main_v32) t j k).trans (K4Host.v32_at (w0 m c) j k)

theorem a1 (j : Fin 1024) : (iblk m c 1 t : Vec Ideal S256x1024 .bf16) (ix2 r j) = P m c (ix2 (rw0 t r) ⟨3072 + j.val, by omega⟩) :=
  (rd0_1 (V m c main_v3) t r j).trans (K4Host.v3_at (w0 m c) (rw0 t r) j)

theorem b1 (j : Fin 1024) : (iblk m c 5 t : Vec Ideal S1024x1024 .bf16) (ix2 j k) = W m c (ix3 0 k ⟨3072 + j.val, by omega⟩) :=
  (rd0_5 (V m c main_v33) t j k).trans (K4Host.v33_at (w0 m c) j k)

theorem z2 (j : Fin 128) (h : ¬j.val < 16) : (iblk m c 2 t : Vec Ideal S256x128 .bf16) (ix2 r j) = (0 : EReal) :=
  (rd0_2 (V m c main_v13) t r j).trans (K4Host.v13_zero (w0 m c) (rw0 t r) j h)

theorem a2 (j : Fin 128) (h : j.val < 16) : (iblk m c 2 t : Vec Ideal S256x128 .bf16) (ix2 r j) = P m c (ix2 (rw0 t r) ⟨4096 + j.val, by omega⟩) :=
  (rd0_2 (V m c main_v13) t r j).trans (K4Host.v13_at (w0 m c) (rw0 t r) j h)

theorem b2 (j : Fin 128) (h : j.val < 16) : (iblk m c 6 t : Vec Ideal S128x1024 .bf16) (ix2 j k) = W m c (ix3 0 k ⟨4096 + j.val, by omega⟩) :=
  (rd0_6 (V m c main_v31) t j k).trans (K4Host.v31_at (w0 m c) j k h)

theorem a3 (j : Fin 512) : (iblk m c 3 t : Vec Ideal S256x512 .bf16) (ix2 r j) = P m c (ix2 (rw0 t r) ⟨8720 + j.val, by omega⟩) :=
  (rd0_3 (V m c main_v9) t r j).trans (K4Host.v9_at (w0 m c) (rw0 t r) j)

theorem b3 (j : Fin 512) : (iblk m c 7 t : Vec Ideal S512x1024 .bf16) (ix2 j k) = W m c (ix3 0 k ⟨8720 + j.val, by omega⟩) :=
  (rd0_7 (V m c main_v37) t j k).trans (K4Host.v37_at (w0 m c) j k)

theorem a8 : (iblk m c 8 t : Vec Ideal S256x1024 .f32) (ix2 r k) = E m c (ix2 (rw0 t r) k) :=
  (rd0_8 (V m c main_arg5) t r k).trans (congrFun (V_main_arg5 m c) _)

theorem a9 : (iblk m c 9 t : Vec Ideal S256x1024 .f32) (ix2 r k) = X m c (ix2 (rw0 t r) k) :=
  (rd0_9 (V m c main_arg0) t r k).trans (congrFun (V_main_arg0 m c) _)

theorem a10 : (iblk m c 10 t : Vec Ideal S256x1024 .f32) (ix2 r k) = D2 m c (ix2 (rw0 t r) k) :=
  (rd0_10 (V m c main_arg4) t r k).trans (congrFun (V_main_arg4 m c) _)

theorem a11 : (iblk m c 11 t : Vec Ideal S1x1024 .f32) (ix2 (0 : Fin 1) k) = Wn m c (ix2 0 k) :=
  (rd0_11 (V m c main_arg1) t 0 k).trans (congrFun (V_main_arg1 m c) _)

/-- A block's gradient to the norm's result is the array's. -/
theorem dhp : dh (iblk m c 0 t) (iblk m c 1 t) (iblk m c 2 t) (iblk m c 3 t) (iblk m c 4 t) (iblk m c 5 t) (iblk m c 6 t) (iblk m c 7 t) (iblk m c 8 t) r k = dA (P m c) (W m c) (E m c) (rw0 t r) k := by
  unfold dh dA
  rw [sgp (n := 1024) (O := 0) (by omega) (by omega) 0 rfl (a0 m c t r) (b0 m c t k), sgp (n := 1024) (O := 0) (by omega) (by omega) 1024 rfl (a0 m c t r) (b0 m c t k),
    sgp (n := 1024) (O := 0) (by omega) (by omega) 2048 rfl (a0 m c t r) (b0 m c t k), sgp (n := 1024) (O := 3072) (by omega) (by omega) 3072 rfl (a1 m c t r) (b1 m c t k),
    sgz (z2 m c t r) (a2 m c t r) (b2 m c t k), sgp (n := 512) (O := 8720) (by omega) (by omega) 8720 rfl (a3 m c t r) (b3 m c t k), a8 m c t r k]
  generalize cols (P m c) (W m c) (rw0 t r) k = f
  rw [Lin.part_add f 0 4096 16, Lin.part_add f 0 3072 1024, Lin.part_add f 0 2048 1024, Lin.part_add f 0 1024 1024]
  simp only [Nat.zero_add]
  abel

/-- One row's term of the gradient to the norm's weight. -/
def term (R : Fin 4096) (k : Fin 1024) : EReal := (dA (P m c) (W m c) (E m c) R k * (X m c (ix2 R k) : EReal)) * Lin.inv fun k => X m c (ix2 R k)

/-- A block's part of that gradient. -/
def bpart (n : Nat) (k : Fin 1024) : EReal := ∑ r : Fin 256, term m c ⟨(256 * n + r.val) % 4096, Nat.mod_lt _ (by norm_num)⟩ k

theorem owp : ow (iblk m c 9 t) (dh (iblk m c 0 t) (iblk m c 1 t) (iblk m c 2 t) (iblk m c 3 t) (iblk m c 4 t) (iblk m c 5 t) (iblk m c 6 t) (iblk m c 7 t) (iblk m c 8 t)) k = bpart m c t.val k := Finset.sum_congr rfl fun r _ => by
  have ht := lt0 t
  have e : (⟨(256 * t.val + r.val) % 4096, Nat.mod_lt _ (by norm_num)⟩ : Fin 4096) = rw0 t r := Fin.ext (Nat.mod_eq_of_lt (by omega))
  rw [e]
  exact congrArg₂ (fun a b : EReal => a * b) (congrArg₂ (fun a b : EReal => a * b) (dhp m c t r k) (a9 m c t r k)) (congrArg Lin.inv (funext fun k => a9 m c t r k))

theorem oxp : ox (iblk m c 9 t) (iblk m c 10 t) (iblk m c 11 t) (dh (iblk m c 0 t) (iblk m c 1 t) (iblk m c 2 t) (iblk m c 3 t) (iblk m c 4 t) (iblk m c 5 t) (iblk m c 6 t) (iblk m c 7 t) (iblk m c 8 t)) r k = dX (X m c) (Wn m c) (W m c) (P m c) (D2 m c) (E m c) (ix2 (rw0 t r) k) := by
  have e1 := funext fun k => a9 m c t r k
  have e2 := funext fun k => a11 m c t k
  have e3 := funext fun k => a10 m c t r k
  have e4 := funext fun k => dhp m c t r k
  unfold ox
  rw [e1, e2, e3, e4]
  rfl

theorem p12 : (outsAt0 m c t.val t.isLt).1 (ix2 r k) = dX (X m c) (Wn m c) (W m c) (P m c) (D2 m c) (E m c) (ix2 (rw0 t r) k) := by
  by_cases h0 : t.val % 16 = 0
  · rw [outsAt0_A m c t h0]
    dsimp only
    exact (Ax c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) r k).trans (oxp m c t r k)
  · rw [outsAt0_B m c t h0]
    dsimp only
    exact (Bx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2 (fun h => h0 ((hcond0_0 t).mp h)) r k).trans (oxp m c t r k)

theorem s13 (h0 : t.val % 16 = 0) (p : Fin 8) : (outsAt0 m c t.val t.isLt).2 (ix2 p k) = 0 + if p.val = 0 then bpart m c t.val k else 0 := by
  rw [outsAt0_A m c t h0, ← owp m c t k]
  dsimp only
  exact Aw c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) p k

theorem n13 (h0 : ¬t.val % 16 = 0) (p : Fin 8) : (outsAt0 m c t.val t.isLt).2 (ix2 p k)
    = ((outsAt0 m c (t.val - 1) (Nat.lt_of_le_of_lt (Nat.sub_le _ _) t.isLt)).2 (ix2 p k) : EReal) + if p.val = 0 then bpart m c t.val k else 0 := by
  rw [outsAt0_B m c t h0, ← owp m c t k]
  dsimp only
  exact Bw c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2 (fun h => h0 ((hcond0_0 t).mp h)) p k

end point

theorem acc : ∀ (n : Nat) (hn : n < cfg0.N) (p : Fin 8) (v : Fin 1024),
    (outsAt0 m c n hn).2 (ix2 p v) = if p.val = 0 then ∑ k ∈ Finset.range (n + 1), bpart m c k v else 0
  | 0, hn, p, v => by
    refine (s13 m c ⟨0, hn⟩ v rfl p).trans ?_
    rw [zero_add, Finset.sum_range_one]
  | n + 1, hn, p, v => by
    have h1 := lt0 ⟨n + 1, hn⟩
    have hm : ¬ (n + 1) % 16 = 0 := by have : n + 1 < 16 := h1; omega
    refine (n13 m c ⟨n + 1, hn⟩ v hm p).trans ?_
    refine (congrArg (fun x : EReal => x + if p.val = 0 then bpart m c (n + 1) v else 0) (acc n (Nat.lt_of_succ_lt hn) p v)).trans ?_
    rw [Finset.sum_range_succ _ (n + 1)]
    split_ifs
    · rfl
    · exact add_zero 0

theorem sum_parts (v : Fin 1024) : ∑ k ∈ Finset.range 16, bpart m c k v = ∑ R : Fin 4096, term m c R v := by
  rw [Finset.sum_range, ← Equiv.sum_comp (finProdFinEquiv (m := 16) (n := 256)), Fintype.sum_prod_type]
  refine Finset.sum_congr rfl fun k _ => Finset.sum_congr rfl fun r _ => congrArg (fun q => term m c q v) (Fin.ext ?_)
  show (256 * k.val + r.val) % 4096 = r.val + 256 * k.val
  omega

theorem f12 : (dats m 0 c).arrAt 12 cfg0.N = dX (X m c) (Wn m c) (W m c) (P m c) (D2 m c) (E m c) := ext2 (e := .f32) (m := 4096) (n := 1024) fun i j => by
  have hl := i.isLt
  let t : Fin cfg0.N := ⟨i.val / 256, lt_of_lt_of_eq (by omega : i.val / 256 < 16) N0.symm⟩
  have e : rw0 t ⟨i.val % 256, Nat.mod_lt _ (by norm_num)⟩ = i := Fin.ext (by simp only [rw0, t]; omega)
  have q := (rd0_12 ((dats m 0 c).arrAt 12 cfg0.N) t ⟨i.val % 256, Nat.mod_lt _ (by norm_num)⟩ j).symm.trans
    ((congrFun ((blocks12 m c t (flush0_12 t)).trans (flushed12 m c t)) _).trans (p12 m c t ⟨i.val % 256, Nat.mod_lt _ (by norm_num)⟩ j))
  rw [e] at q
  exact q

theorem f13 : (dats m 0 c).arrAt 13 cfg0.N = dW (X m c) (W m c) (P m c) (E m c) := ext2 (e := .f32) (m := 8) (n := 1024) fun i j => by
  let t : Fin cfg0.N := ⟨15, lt_of_lt_of_eq (by norm_num : 15 < 16) N0.symm⟩
  have hb := (dats m 0 c).read_blk_arrAt_eq_flushed 13 (fun a b ha hb hn => absurd (Fin.ext (by
    have h1 := (flush0_13 a).mp ha
    have h2 := (flush0_13 b).mp hb
    have h3 := lt0 a
    have h4 := lt0 b
    omega)) hn) cfg0.N t t.isLt ((flush0_13 t).mpr rfl)
  refine (rd0_13 ((dats m 0 c).arrAt 13 cfg0.N) t i j).symm.trans ((congrFun (hb.trans (flushed13 m c t)) _).trans ((acc m c 15 t.isLt i j).trans ?_))
  rw [sum_parts]
  rfl

theorem run : θ_run (defs (F := Ideal)) (onTc (τ := τ) (main (F := Ideal))) ⟨m, fun _ => 0, ρ⟩ fun r => ∀ c : Dev nD,
      r.2.mem (c.tc.loc main_v40_0) = dX (X m c) (Wn m c) (W m c) (P m c) (D2 m c) (E m c)
      ∧ r.2.mem (c.tc.loc main_v40_1) = dW (X m c) (W m c) (P m c) (E m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run _ _ _).mono (fun _ h c => ⟨(h c).1.trans (f12 m c), (h c).2.1.trans (f13 m c), (h c).2.2⟩) (run_blocks m ρ)

end Cert.K4End
-- ==== Proof.R4.lean ====
module

public import proofs.«01_k».proof.Proof.K2Spec
public import proofs.«01_k».proof.Proof.Gen.Reference4Ideal.Run
public import Idealize.ShloMosaic.Lib.Pointwise

/-! The reference of the second call of the projection's backward pass, entry by entry. -/

@[expose] public section

set_option maxRecDepth 16384

noncomputable section

namespace Cert.R4

open Idealize.ShloMosaic Idealize.SL.Sem Cert.Reference4Ideal Cert.Reference4Ideal.Gen Cert.Lin Cert.K2Spec

variable (x : FVec Ideal S4096x1024 .f32) (w : FVec Ideal S1x1024 .f32) (W : FVec Ideal S1x1024x11280 .f32) (P : FVec Ideal S4096x11280 .bf16) (d e : FVec Ideal S4096x1024 .f32)

/-- The products of 512 columns. -/
def g1 : FVec Ideal S4096x1024 .f32 :=
  Host.dotGeneral dot_S4096x512_S1024x512_S4096x1024_1_1_0_0_n_n none
    (extractStridedSlice S4096x512 ![0, 8720] (extf .f32 P bitsLt_bf16_f32) slices_S4096x11280_S4096x512_0_8720)
    (extractStridedSlice S1024x512 ![0, 8720] (shapeCast S1024x11280 W shapeCasts_S1x1024x11280_S1024x11280) slices_S1024x11280_S1024x512_0_8720)

theorem g1_at (r : Fin 4096) (k : Fin 1024) : (g1 W P) (ix2 r k) = Lin.part (cols P W r k) 8720 512 (by omega) := by
  unfold Lin.part cols
  pointwise [g1]

/-- The products of 4112 columns. -/
def g2 : FVec Ideal S4096x1024 .f32 :=
  Host.dotGeneral dot_S4096x4112_S1024x4112_S4096x1024_1_1_0_0_n_n none
    (extractStridedSlice S4096x4112 ![0, 0] (extf .f32 P bitsLt_bf16_f32) slices_S4096x11280_S4096x4112_0_0)
    (extractStridedSlice S1024x4112 ![0, 0] (shapeCast S1024x11280 W shapeCasts_S1x1024x11280_S1024x11280) slices_S1024x11280_S1024x4112_0_0)

theorem g2_at (r : Fin 4096) (k : Fin 1024) : (g2 W P) (ix2 r k) = Lin.part (cols P W r k) 0 4112 (by omega) := by
  unfold Lin.part cols
  pointwise [g2]

/-- The gradient to the norm's result. -/
def gD : FVec Ideal S4096x1024 .f32 := addf (addf e (g1 W P)) (g2 W P)

/-- The mean squares. -/
def gV : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- The gradient to the weighted rows. -/
def gY : FVec Ideal S4096x1024 .f32 := mulf (gD W P e) (broadcastInDim S4096x1024 ![0, 1] bcast_S1x1024_S4096x1024_0_1 w)

/-- What the mean square's gradient is to each entry of the row. -/
def gT : FVec Ideal S4096 .f32 :=
  Host.reduceAdd (Host.divf (mulf (shapeCast S4096x1 (Host.reduceAdd (mulf x (gY w W P e)) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt (gV x)) (gV x))))
    (broadcastInDim S4096x1 ![] bcast_S_S4096x1 (constant S_ .f32 0x44800000#32))) (constant S_ .f32 0x00000000#32) reducesTo_S4096x1_S4096_d1 h_S_

def gX : FVec Ideal S4096x1024 .f32 :=
  addf (addf (addf d (mulf (gY w W P e) (broadcastInDim S4096x1024 ![0, 1] bcast_S4096x1_S4096x1024_0_1 (Host.rsqrt (gV x)))))
    (mulf x (broadcastInDim S4096x1024 ![0] bcast_S4096_S4096x1024_0 (gT x w W P e)))) (mulf (broadcastInDim S4096x1024 ![0] bcast_S4096_S4096x1024_0 (gT x w W P e)) x)

def gW : FVec Ideal S1x1024 .f32 :=
  shapeCast S1x1024 (Host.reduceAdd (mulf (mulf x (broadcastInDim S4096x1024 ![0, 1] bcast_S4096x1_S4096x1024_0_1 (Host.rsqrt (gV x)))) (gD W P e))
    (constant S_ .f32 0x00000000#32) reducesTo_S4096x1024_S1024_d0 h_S_) shapeCasts_S1024_S1x1024

theorem gD_at (r : Fin 4096) (k : Fin 1024) : (gD W P e) (ix2 r k) = dA P W e r k := by
  unfold dA
  rw [← g1_at, ← g2_at]
  pointwise [gD]

theorem gV_at (r : Fin 4096) : (gV x) (ix2 r (0 : Fin 1)) = var fun k => x (ix2 r k) := by
  unfold var
  pointwise [gV]

theorem gY_at (r : Fin 4096) (k : Fin 1024) : (gY w W P e) (ix2 r k) = dA P W e r k * (w (ix2 (0 : Fin 1) k) : EReal) := by
  rw [← gD_at]
  pointwise [gY]

theorem gI_at (r : Fin 4096) : (Host.rsqrt (gV x)) (ix2 r (0 : Fin 1)) = Lin.inv fun k => x (ix2 r k) := by
  unfold Lin.inv
  rw [← gV_at]
  pointwise

theorem gT_at (r : Fin 4096) : (gT x w W P e) (ix1 r)
    = Ideal.div ((∑ k, (dA P W e r k * (w (ix2 (0 : Fin 1) k) : EReal)) * (x (ix2 r k) : EReal))
        * (Ideal.ofBits .f32 0xBF000000#32 * Ideal.div (Lin.inv fun k => x (ix2 r k)) (var fun k => x (ix2 r k)))) (Ideal.ofBits .f32 0x44800000#32) := by
  simp only [← gY_at, ← gI_at, ← gV_at]
  pointwise [gT]
  simp only [mul_comm]
  rw [Fin.sum_univ_one]

theorem gX_eq : gX x w W P d e = dX x w W P d e := ext2 (e := .f32) (m := 4096) (n := 1024) fun r k => by
  show _ = dxrow (fun k => x (ix2 r k)) (fun k => w (ix2 0 k)) (fun k => d (ix2 r k)) (dA P W e r) k
  unfold dxrow
  rw [norm_grad, ← gT_at]
  simp only [← gY_at, ← gI_at]
  pointwise [gX]
  rw [mul_comm (Ideal.rsqrt _), add_assoc]

theorem gW_at (k : Fin 1024) : (gW x W P e) (ix2 (0 : Fin 1) k) = ∑ r : Fin 4096, (dA P W e r k * (x (ix2 r k) : EReal)) * Lin.inv fun k => x (ix2 r k) := by
  simp only [← gD_at, ← gI_at]
  pointwise [gW]
  exact Finset.sum_congr rfl fun r _ => by rw [mul_right_comm, mul_comm (gD W P e _), mul_right_comm]

/-- The weight's gradient in the first of eight rows. -/
def gZ : FVec Ideal S8x1024 .f32 :=
  concatenate S8x1024 0 [⟨S1x1024, gW x W P e⟩, ⟨S7x1024, broadcastInDim S7x1024 ![] bcast_S_S7x1024 (constant (F := Ideal) S_ .f32 0x00000000#32)⟩] concatenates_S1x1024_S7x1024_S8x1024_d0

theorem gZ_eq : gZ x W P e = dW x W P e := ext2 (e := .f32) (m := 8) (n := 1024) fun p k => by
  show _ = if p.val = 0 then ∑ r : Fin 4096, (dA P W e r k * (x (ix2 r k) : EReal)) * Lin.inv fun k => x (ix2 r k) else 0
  rw [← gW_at]
  pointwise [gZ]
  by_cases h : p.val = 0
  · have e0 : p = 0 := Fin.ext h
    subst e0
    rfl
  · simp [h]

variable (m : (ℓ : Loc nD τ sig) → Buf (Elt Ideal) ℓ) (ρ : Dev nD → PrngReg)

theorem run : θ_run (defs (F := Ideal)) (onTc (τ := τ) (main (F := Ideal))) ⟨m, fun _ => 0, ρ⟩ fun r => ∀ c : Dev nD,
      r.2.mem (c.tc.loc main_v50) = dX (m (c.tc.loc main_arg0)) (m (c.tc.loc main_arg1)) (m (c.tc.loc main_arg2)) (m (c.tc.loc main_arg3)) (m (c.tc.loc main_arg4)) (m (c.tc.loc main_arg5))
      ∧ r.2.mem (c.tc.loc main_v52) = dW (m (c.tc.loc main_arg0)) (m (c.tc.loc main_arg2)) (m (c.tc.loc main_arg3)) (m (c.tc.loc main_arg5))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run _ _ _).mono (fun _ h c => by
    obtain ⟨q0, q1, k⟩ := h c
    exact ⟨q0.trans (gX_eq _ _ _ _ _ _), q1.trans (gZ_eq _ _ _ _), k⟩)
    (Reference4Ideal.Value.run (F := Ideal) m ρ)

end Cert.R4
-- ==== Proof.K5.lean ====
module

public import proofs.«01_k».proof.Proof.Gen.Kernel5Ideal.Value
public import proofs.«01_k».proof.Proof.Gen.Reference5Ideal.Run
public import Idealize.ShloMosaic.Lib.Pointwise

/-! The optimiser's step of weights of 128 rows and 1024 columns: the kernel's arrays are the reference's. -/

@[expose] public section

set_option maxRecDepth 16384

noncomputable section

namespace Cert.K5

open Idealize.ShloMosaic Idealize.SL.Sem Cert.Reference5Ideal Cert.Reference5Ideal.Gen
open Cert.Kernel5Ideal.Value (G4 G5 G6 G7)

variable (p : FVec Ideal S4x128x1024 .bf16) (w u v : FVec Ideal S128x1024 .f32)

/-- The parts of the gradient added up. -/
def g : FVec Ideal S128x1024 .f32 := Host.reduceAdd (extf .f32 p bitsLt_bf16_f32) (constant S_ .f32 0x00000000#32) reducesTo_S4x128x1024_S128x1024_d0 h_S_

/-- The first moment after the step. -/
def du : FVec Ideal S128x1024 .f32 := addf (mulf (broadcastInDim S128x1024 ![] bcast_S_S128x1024 (constant S_ .f32 0x3F666666#32)) u) (mulf (broadcastInDim S128x1024 ![] bcast_S_S128x1024 (constant S_ .f32 0x3DCCCCCD#32)) (g p))

/-- The second moment after the step. -/
def dv : FVec Ideal S128x1024 .f32 := addf (mulf (broadcastInDim S128x1024 ![] bcast_S_S128x1024 (constant S_ .f32 0x3F7FBE77#32)) v) (mulf (broadcastInDim S128x1024 ![] bcast_S_S128x1024 (constant S_ .f32 0x3A83126F#32)) (mulf (g p) (g p)))

/-- The change of the weights. -/
def dw : FVec Ideal S128x1024 .f32 := mulf (broadcastInDim S128x1024 ![] bcast_S_S128x1024 (constant S_ .f32 0xBA83126F#32)) (addf (Host.divf (Host.divf (du p u) (broadcastInDim S128x1024 ![] bcast_S_S128x1024 (constant S_ .f32 0x3F26BD02#32))) (addf (Host.sqrt (Host.divf (dv p v) (broadcastInDim S128x1024 ![] bcast_S_S128x1024 (constant S_ .f32 0x3C231ACC#32)))) (broadcastInDim S128x1024 ![] bcast_S_S128x1024 (constant S_ .f32 0x322BCC77#32)))) (mulf (broadcastInDim S128x1024 ![] bcast_S_S128x1024 (constant S_ .f32 0x3C23D70A#32)) w))

theorem g_eq : G4 (F := Ideal) p w u v = g p := by
  funext i
  idx_vars i
  pointwise [G4, g, Cert.Kernel5Ideal.Gen.k0_pay2]
  exact (Fin.sum_univ_four (M := EReal) fun k => p (ix3 k i0 i1)).symm

theorem u_eq : G6 (F := Ideal) p w u v = du p u := by
  unfold du
  rw [← g_eq p w u v]
  funext i
  rfl

theorem v_eq : G7 (F := Ideal) p w u v = dv p v := by
  unfold dv
  rw [← g_eq p w u v]
  refine (congrArg (Cert.Kernel5Ideal.Gen.k0_pay4 (F := Ideal) _ _ _ _) (View.ld_unit_zero (S := Cert.Kernel5Ideal.S128x1024) Cert.Kernel5Ideal.Value.hz2 _ v)).trans ?_
  funext i
  rfl

theorem w_eq : G5 (F := Ideal) p w u v = dw p w u v := by
  unfold dw
  rw [← u_eq p w u v, ← v_eq p w u v]
  funext i
  rfl

end Cert.K5
-- ==== Proof.K6.lean ====
module

public import proofs.«01_k».proof.Proof.Gen.Kernel6Ideal.Value
public import proofs.«01_k».proof.Proof.Gen.Reference6Ideal.Run
public import Idealize.ShloMosaic.Lib.Pointwise

/-! The optimiser's step of weights of 512 rows and 128 columns: the kernel's arrays are the reference's. -/

@[expose] public section

set_option maxRecDepth 16384

noncomputable section

namespace Cert.K6

open Idealize.ShloMosaic Idealize.SL.Sem Cert.Reference6Ideal Cert.Reference6Ideal.Gen
open Cert.Kernel6Ideal.Value (G4 G5 G6 G7)

variable (p : FVec Ideal S4x512x128 .bf16) (w u v : FVec Ideal S512x128 .f32)

/-- The parts of the gradient added up. -/
def g : FVec Ideal S512x128 .f32 := Host.reduceAdd (extf .f32 p bitsLt_bf16_f32) (constant S_ .f32 0x00000000#32) reducesTo_S4x512x128_S512x128_d0 h_S_

/-- The first moment after the step. -/
def du : FVec Ideal S512x128 .f32 := addf (mulf (broadcastInDim S512x128 ![] bcast_S_S512x128 (constant S_ .f32 0x3F666666#32)) u) (mulf (broadcastInDim S512x128 ![] bcast_S_S512x128 (constant S_ .f32 0x3DCCCCCD#32)) (g p))

/-- The second moment after the step. -/
def dv : FVec Ideal S512x128 .f32 := addf (mulf (broadcastInDim S512x128 ![] bcast_S_S512x128 (constant S_ .f32 0x3F7FBE77#32)) v) (mulf (broadcastInDim S512x128 ![] bcast_S_S512x128 (constant S_ .f32 0x3A83126F#32)) (mulf (g p) (g p)))

/-- The change of the weights. -/
def dw : FVec Ideal S512x128 .f32 := mulf (broadcastInDim S512x128 ![] bcast_S_S512x128 (constant S_ .f32 0xBA83126F#32)) (addf (Host.divf (Host.divf (du p u) (broadcastInDim S512x128 ![] bcast_S_S512x128 (constant S_ .f32 0x3F26BD02#32))) (addf (Host.sqrt (Host.divf (dv p v) (broadcastInDim S512x128 ![] bcast_S_S512x128 (constant S_ .f32 0x3C231ACC#32)))) (broadcastInDim S512x128 ![] bcast_S_S512x128 (constant S_ .f32 0x322BCC77#32)))) (mulf (broadcastInDim S512x128 ![] bcast_S_S512x128 (constant S_ .f32 0x3C23D70A#32)) w))

theorem g_eq : G4 (F := Ideal) p w u v = g p := by
  funext i
  idx_vars i
  pointwise [G4, g, Cert.Kernel6Ideal.Gen.k0_pay2]
  exact (Fin.sum_univ_four (M := EReal) fun k => p (ix3 k i0 i1)).symm

theorem u_eq : G6 (F := Ideal) p w u v = du p u := by
  unfold du
  rw [← g_eq p w u v]
  funext i
  rfl

theorem v_eq : G7 (F := Ideal) p w u v = dv p v := by
  unfold dv
  rw [← g_eq p w u v]
  refine (congrArg (Cert.Kernel6Ideal.Gen.k0_pay4 (F := Ideal) _ _ _ _) (View.ld_unit_zero (S := Cert.Kernel6Ideal.S512x128) Cert.Kernel6Ideal.Value.hz2 _ v)).trans ?_
  funext i
  rfl

theorem w_eq : G5 (F := Ideal) p w u v = dw p w u v := by
  unfold dw
  rw [← u_eq p w u v, ← v_eq p w u v]
  funext i
  rfl

end Cert.K6
-- ==== Proof.K7.lean ====
module

public import proofs.«01_k».proof.Proof.Gen.Kernel7Ideal.Value
public import proofs.«01_k».proof.Proof.Gen.Reference7Ideal.Run
public import Idealize.ShloMosaic.Lib.Pointwise

/-! The optimiser's step of the convolution's weights: the kernel's arrays are the reference's. -/

@[expose] public section

set_option maxRecDepth 16384

noncomputable section

namespace Cert.K7

open Idealize.ShloMosaic Idealize.SL.Sem Cert.Reference7Ideal Cert.Reference7Ideal.Gen
open Cert.Kernel7Ideal.Value (G4 G5 G6 G7)

variable (p : FVec Ideal S4x4x384 .f32) (w u v : FVec Ideal S4x384 .f32)

/-- The parts of the gradient added up. -/
def g : FVec Ideal S4x384 .f32 := Host.reduceAdd p (constant S_ .f32 0x00000000#32) reducesTo_S4x4x384_S4x384_d0 h_S_

/-- The first moment after the step. -/
def du : FVec Ideal S4x384 .f32 := addf (mulf (broadcastInDim S4x384 ![] bcast_S_S4x384 (constant S_ .f32 0x3F666666#32)) u) (mulf (broadcastInDim S4x384 ![] bcast_S_S4x384 (constant S_ .f32 0x3DCCCCCD#32)) (g p))

/-- The second moment after the step. -/
def dv : FVec Ideal S4x384 .f32 := addf (mulf (broadcastInDim S4x384 ![] bcast_S_S4x384 (constant S_ .f32 0x3F7FBE77#32)) v) (mulf (broadcastInDim S4x384 ![] bcast_S_S4x384 (constant S_ .f32 0x3A83126F#32)) (mulf (g p) (g p)))

/-- The change of the weights. -/
def dw : FVec Ideal S4x384 .f32 := mulf (broadcastInDim S4x384 ![] bcast_S_S4x384 (constant S_ .f32 0xBA83126F#32)) (addf (Host.divf (Host.divf (du p u) (broadcastInDim S4x384 ![] bcast_S_S4x384 (constant S_ .f32 0x3F26BD02#32))) (addf (Host.sqrt (Host.divf (dv p v) (broadcastInDim S4x384 ![] bcast_S_S4x384 (constant S_ .f32 0x3C231ACC#32)))) (broadcastInDim S4x384 ![] bcast_S_S4x384 (constant S_ .f32 0x322BCC77#32)))) (mulf (broadcastInDim S4x384 ![] bcast_S_S4x384 (constant S_ .f32 0x3C23D70A#32)) w))

theorem g_eq : G4 (F := Ideal) p w u v = g p := by
  funext i
  idx_vars i
  pointwise [G4, g, Cert.Kernel7Ideal.Gen.k0_pay2]
  exact (Fin.sum_univ_four (M := EReal) fun k => p (ix3 k i0 i1)).symm

theorem u_eq : G6 (F := Ideal) p w u v = du p u := by
  unfold du
  rw [← g_eq p w u v]
  funext i
  rfl

theorem v_eq : G7 (F := Ideal) p w u v = dv p v := by
  unfold dv
  rw [← g_eq p w u v]
  funext i
  rfl

theorem w_eq : G5 (F := Ideal) p w u v = dw p w u v := by
  unfold dw
  rw [← u_eq p w u v, ← v_eq p w u v]
  funext i
  rfl

end Cert.K7
-- ==== Proof.K8End.lean ====
module

public import proofs.«01_k».proof.Proof.Gen.Kernel8Ideal.Frame
public import Idealize.ShloMosaic.Lib.Pipeline.Value
public import Idealize.ShloMosaic.Lib.Pointwise

/-! The optimiser's step of the packed small weights: the arrays that the call leaves. -/

@[expose] public section

set_option maxRecDepth 16384

noncomputable section

namespace Cert.K8

open Idealize.ShloMosaic Idealize.ShloMosaic.TcCoe Idealize.SL.Sem Cert.Kernel8Ideal Cert.Kernel8Ideal.Gen
open Idealize.ShloMosaic.Pipeline (Dat)

variable (m : (ℓ : Loc nD τ sig) → Buf (Elt Ideal) ℓ)

theorem two_zero : (![0, 0] : Fin 2 → Nat) = fun _ => 0 := funext fun a => by fin_cases a <;> rfl

/-- Five weights as rows of one array, with zeros where nothing lies. -/
def pack (a : FVec Ideal S1x1024 .f32) (b c : FVec Ideal S1x8 .f32) (d : FVec Ideal S1x128 .f32) (e : FVec Ideal S1024 .f32) : FVec Ideal S8x1024 .f32 :=
  concatenate S8x1024 0 [
    ⟨S1x1024, concatenate S1x1024 1 [⟨S1x1024, a⟩, ⟨S1x0, broadcastInDim S1x0 ![] bcast_S_S1x0 (constant (F := Ideal) S_ .f32 0x00000000#32)⟩] concatenates_S1x1024_S1x0_S1x1024_d1⟩,
    ⟨S1x1024, concatenate S1x1024 1 [⟨S1x1024, shapeCast S1x1024 e shapeCasts_S1024_S1x1024⟩, ⟨S1x0, broadcastInDim S1x0 ![] bcast_S_S1x0 (constant (F := Ideal) S_ .f32 0x00000000#32)⟩] concatenates_S1x1024_S1x0_S1x1024_d1⟩,
    ⟨S1x1024, concatenate S1x1024 1 [⟨S1x128, d⟩, ⟨S1x896, broadcastInDim S1x896 ![] bcast_S_S1x896 (constant (F := Ideal) S_ .f32 0x00000000#32)⟩] concatenates_S1x128_S1x896_S1x1024_d1⟩,
    ⟨S1x1024, concatenate S1x1024 1 [⟨S1x8, b⟩, ⟨S1x1016, broadcastInDim S1x1016 ![] bcast_S_S1x1016 (constant (F := Ideal) S_ .f32 0x00000000#32)⟩] concatenates_S1x8_S1x1016_S1x1024_d1⟩,
    ⟨S1x1024, concatenate S1x1024 1 [⟨S1x8, c⟩, ⟨S1x1016, broadcastInDim S1x1016 ![] bcast_S_S1x1016 (constant (F := Ideal) S_ .f32 0x00000000#32)⟩] concatenates_S1x8_S1x1016_S1x1024_d1⟩,
    ⟨S1x1024, concatenate S1x1024 1 [⟨S1x1, broadcastInDim S1x1 ![] bcast_S_S1x1 (constant (F := Ideal) S_ .f32 0x00000000#32)⟩, ⟨S1x1023, broadcastInDim S1x1023 ![] bcast_S_S1x1023 (constant (F := Ideal) S_ .f32 0x00000000#32)⟩] concatenates_S1x1_S1x1023_S1x1024_d1⟩,
    ⟨S2x1024, broadcastInDim S2x1024 ![] bcast_S_S2x1024 (constant (F := Ideal) S_ .f32 0x00000000#32)⟩]
    concatenates_S1x1024_S1x1024_S1x1024_S1x1024_S1x1024_S1x1024_S2x1024_S8x1024_d0

set_option maxHeartbeats 8000000 in
theorem in1 (c : Dev nD) : V m c main_v15 = pack (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after (List.flatten [hostOps0]) (fun b => m (c, b)) (Proc.devRef .tc main_v15) = _
  simp only [List.flatten_cons, List.flatten_nil, List.append_nil]
  after_results <;> rfl

set_option maxHeartbeats 8000000 in
theorem in2 (c : Dev nD) : V m c main_v31 = pack (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after (List.flatten [hostOps0]) (fun b => m (c, b)) (Proc.devRef .tc main_v31) = _
  simp only [List.flatten_cons, List.flatten_nil, List.append_nil]
  after_results <;> rfl

set_option maxHeartbeats 8000000 in
theorem in3 (c : Dev nD) : V m c main_v47 = pack (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after (List.flatten [hostOps0]) (fun b => m (c, b)) (Proc.devRef .tc main_v47) = _
  simp only [List.flatten_cons, List.flatten_nil, List.append_nil]
  after_results <;> rfl

/-! ## Rows of a packed array -/

def row0 (X : FVec Ideal S8x1024 .f32) : FVec Ideal S1x1024 .f32 := extractStridedSlice S1x1024 ![0, 0] X slices_S8x1024_S1x1024_0_0

def row1 (X : FVec Ideal S8x1024 .f32) : FVec Ideal S1024 .f32 := shapeCast S1024 (extractStridedSlice S1x1024 ![1, 0] X slices_S8x1024_S1x1024_1_0) shapeCasts_S1x1024_S1024

def row2 (X : FVec Ideal S8x1024 .f32) : FVec Ideal S1x128 .f32 := extractStridedSlice S1x128 ![2, 0] X slices_S8x1024_S1x128_2_0

def row3 (X : FVec Ideal S8x1024 .f32) : FVec Ideal S1x8 .f32 := extractStridedSlice S1x8 ![3, 0] X slices_S8x1024_S1x8_3_0

def row4 (X : FVec Ideal S8x1024 .f32) : FVec Ideal S1x8 .f32 := extractStridedSlice S1x8 ![4, 0] X slices_S8x1024_S1x8_4_0

def row5 (X : FVec Ideal S8x1024 .f32) : FVec Ideal S_ .f32 := shapeCast S_ (extractStridedSlice S1x1 ![5, 0] X slices_S8x1024_S1x1_5_0) shapeCasts_S1x1_S_

/-! ## Every window's block is its array -/

theorem zero0 : ∀ t : Fin cfg0.N, win0_0.index t (0 : Fin 3) = 0 ∧ win0_0.index t (1 : Fin 3) = 0 ∧ win0_0.index t (2 : Fin 3) = 0 :=
  (by decide +kernel : ∀ t : Fin grid0.N, _)

theorem at0 (t : Fin cfg0.N) (j : S8x8x1024.Idx) : ((cfg0.win 0).blk t).view.emb j = j := by
  obtain ⟨e0, e1, e2⟩ := zero0 t
  funext a; apply Fin.ext
  match a with
  | ⟨0, _⟩ => show win0_0.index t (0 : Fin 3) * 8 + 1 * (j 0).val = (j 0).val; omega
  | ⟨1, _⟩ => show win0_0.index t (1 : Fin 3) * 8 + 1 * (j 1).val = (j 1).val; omega
  | ⟨2, _⟩ => show win0_0.index t (2 : Fin 3) * 1024 + 1 * (j 2).val = (j 2).val; omega

theorem blk0 (c : Dev nD) (t : Fin cfg0.N) : iblk m c 0 t = V m c main_arg0 := by
  funext j; show V m c main_arg0 (((cfg0.win 0).blk t).view.emb j) = V m c main_arg0 j; rw [at0]

theorem zero1 : ∀ t : Fin cfg0.N, win0_1.index t (0 : Fin 2) = 0 ∧ win0_1.index t (1 : Fin 2) = 0 :=
  (by decide +kernel : ∀ t : Fin grid0.N, _)

theorem at1 (t : Fin cfg0.N) (j : S8x1024.Idx) : ((cfg0.win 1).blk t).view.emb j = j := by
  obtain ⟨e0, e1⟩ := zero1 t
  funext a; apply Fin.ext
  match a with
  | ⟨0, _⟩ => show win0_1.index t (0 : Fin 2) * 8 + 1 * (j 0).val = (j 0).val; omega
  | ⟨1, _⟩ => show win0_1.index t (1 : Fin 2) * 1024 + 1 * (j 1).val = (j 1).val; omega

theorem blk1 (c : Dev nD) (t : Fin cfg0.N) : iblk m c 1 t = V m c main_v15 := by
  funext j; show V m c main_v15 (((cfg0.win 1).blk t).view.emb j) = V m c main_v15 j; rw [at1]

theorem zero2 : ∀ t : Fin cfg0.N, win0_2.index t (0 : Fin 2) = 0 ∧ win0_2.index t (1 : Fin 2) = 0 :=
  (by decide +kernel : ∀ t : Fin grid0.N, _)

theorem at2 (t : Fin cfg0.N) (j : S8x1024.Idx) : ((cfg0.win 2).blk t).view.emb j = j := by
  obtain ⟨e0, e1⟩ := zero2 t
  funext a; apply Fin.ext
  match a with
  | ⟨0, _⟩ => show win0_2.index t (0 : Fin 2) * 8 + 1 * (j 0).val = (j 0).val; omega
  | ⟨1, _⟩ => show win0_2.index t (1 : Fin 2) * 1024 + 1 * (j 1).val = (j 1).val; omega

theorem blk2 (c : Dev nD) (t : Fin cfg0.N) : iblk m c 2 t = V m c main_v31 := by
  funext j; show V m c main_v31 (((cfg0.win 2).blk t).view.emb j) = V m c main_v31 j; rw [at2]

theorem zero3 : ∀ t : Fin cfg0.N, win0_3.index t (0 : Fin 2) = 0 ∧ win0_3.index t (1 : Fin 2) = 0 :=
  (by decide +kernel : ∀ t : Fin grid0.N, _)

theorem at3 (t : Fin cfg0.N) (j : S8x1024.Idx) : ((cfg0.win 3).blk t).view.emb j = j := by
  obtain ⟨e0, e1⟩ := zero3 t
  funext a; apply Fin.ext
  match a with
  | ⟨0, _⟩ => show win0_3.index t (0 : Fin 2) * 8 + 1 * (j 0).val = (j 0).val; omega
  | ⟨1, _⟩ => show win0_3.index t (1 : Fin 2) * 1024 + 1 * (j 1).val = (j 1).val; omega

theorem blk3 (c : Dev nD) (t : Fin cfg0.N) : iblk m c 3 t = V m c main_v47 := by
  funext j; show V m c main_v47 (((cfg0.win 3).blk t).view.emb j) = V m c main_v47 j; rw [at3]

theorem zero4 : ∀ t : Fin cfg0.N, win0_4.index t (0 : Fin 2) = 0 ∧ win0_4.index t (1 : Fin 2) = 0 :=
  (by decide +kernel : ∀ t : Fin grid0.N, _)

theorem at4 (t : Fin cfg0.N) (j : S8x1024.Idx) : ((cfg0.win 4).blk t).view.emb j = j := by
  obtain ⟨e0, e1⟩ := zero4 t
  funext a; apply Fin.ext
  match a with
  | ⟨0, _⟩ => show win0_4.index t (0 : Fin 2) * 8 + 1 * (j 0).val = (j 0).val; omega
  | ⟨1, _⟩ => show win0_4.index t (1 : Fin 2) * 1024 + 1 * (j 1).val = (j 1).val; omega

theorem zero5 : ∀ t : Fin cfg0.N, win0_5.index t (0 : Fin 2) = 0 ∧ win0_5.index t (1 : Fin 2) = 0 :=
  (by decide +kernel : ∀ t : Fin grid0.N, _)

theorem at5 (t : Fin cfg0.N) (j : S8x1024.Idx) : ((cfg0.win 5).blk t).view.emb j = j := by
  obtain ⟨e0, e1⟩ := zero5 t
  funext a; apply Fin.ext
  match a with
  | ⟨0, _⟩ => show win0_5.index t (0 : Fin 2) * 8 + 1 * (j 0).val = (j 0).val; omega
  | ⟨1, _⟩ => show win0_5.index t (1 : Fin 2) * 1024 + 1 * (j 1).val = (j 1).val; omega

theorem zero6 : ∀ t : Fin cfg0.N, win0_6.index t (0 : Fin 2) = 0 ∧ win0_6.index t (1 : Fin 2) = 0 :=
  (by decide +kernel : ∀ t : Fin grid0.N, _)

theorem at6 (t : Fin cfg0.N) (j : S8x1024.Idx) : ((cfg0.win 6).blk t).view.emb j = j := by
  obtain ⟨e0, e1⟩ := zero6 t
  funext a; apply Fin.ext
  match a with
  | ⟨0, _⟩ => show win0_6.index t (0 : Fin 2) * 8 + 1 * (j 0).val = (j 0).val; omega
  | ⟨1, _⟩ => show win0_6.index t (1 : Fin 2) * 1024 + 1 * (j 1).val = (j 1).val; omega

theorem zero7 : ∀ t : Fin cfg0.N, win0_7.index t (0 : Fin 2) = 0 ∧ win0_7.index t (1 : Fin 2) = 0 :=
  (by decide +kernel : ∀ t : Fin grid0.N, _)

theorem at7 (t : Fin cfg0.N) (j : S8x1024.Idx) : ((cfg0.win 7).blk t).view.emb j = j := by
  obtain ⟨e0, e1⟩ := zero7 t
  funext a; apply Fin.ext
  match a with
  | ⟨0, _⟩ => show win0_7.index t (0 : Fin 2) * 8 + 1 * (j 0).val = (j 0).val; omega
  | ⟨1, _⟩ => show win0_7.index t (1 : Fin 2) * 1024 + 1 * (j 1).val = (j 1).val; omega

/-! ## The arrays after the run -/

variable (p : FVec Ideal S8x8x1024 .f32) (w u v : FVec Ideal S8x1024 .f32)

/-- The array of window 4, of the arguments. -/
def A4 : FVec Ideal S8x1024 .f32 := k0_pay5 p w u v

theorem out4 : out0_4 (F := Ideal) p w u v = A4 p w u v := by
  unfold out0_4 A4
  rw [View.canon_unit_zero two_zero]

/-- The same of what the call finds. -/
abbrev E4 (c : Dev nD) : FVec Ideal S8x1024 .f32 := A4 (V m c main_arg0) (V m c main_v15) (V m c main_v31) (V m c main_v47)

theorem last4 (c : Dev nD) : (dats m 0 c).arrAt 4 cfg0.N = E4 m c := by
  refine (dats m 0 c).arrAt_eq_of_cover 4 (E4 m c) (fun t _ => ?_) (fun i => ?_)
  · show (cfg0.win 4).cut (grid0.coords t) ((dats m 0 c).after 4 t) = _
    rw [after0_4, out4, blk0, blk1, blk2, blk3]
    funext j
    show E4 m c j = E4 m c (((cfg0.win 4).blk t).view.emb j)
    rw [at4]
  · exact ⟨(⟨0, by decide⟩ : Fin cfg0.N), flush0_4 _, by have h := ((cfg0.win 4).blk (⟨0, by decide⟩ : Fin cfg0.N)).view.emb_mem_set i; rwa [at4] at h⟩

/-- The array of window 5, of the arguments. -/
def A5 : FVec Ideal S8x1024 .f32 := k0_pay2 (k0_pay5 p w u v) (k0_pay6 p w u v) v w

theorem out5 : out0_5 (F := Ideal) p w u v = A5 p w u v := by
  unfold out0_5 A5
  rw [View.canon_unit_zero two_zero, View.ld_unit_zero two_zero, View.ld_unit_zero two_zero]

/-- The same of what the call finds. -/
abbrev E5 (c : Dev nD) : FVec Ideal S8x1024 .f32 := A5 (V m c main_arg0) (V m c main_v15) (V m c main_v31) (V m c main_v47)

theorem last5 (c : Dev nD) : (dats m 0 c).arrAt 5 cfg0.N = E5 m c := by
  refine (dats m 0 c).arrAt_eq_of_cover 5 (E5 m c) (fun t _ => ?_) (fun i => ?_)
  · show (cfg0.win 5).cut (grid0.coords t) ((dats m 0 c).after 5 t) = _
    rw [after0_5, out5, blk0, blk1, blk2, blk3]
    funext j
    show E5 m c j = E5 m c (((cfg0.win 5).blk t).view.emb j)
    rw [at5]
  · exact ⟨(⟨0, by decide⟩ : Fin cfg0.N), flush0_5 _, by have h := ((cfg0.win 5).blk (⟨0, by decide⟩ : Fin cfg0.N)).view.emb_mem_set i; rwa [at5] at h⟩

/-- The array of window 6, of the arguments. -/
def A6 : FVec Ideal S8x1024 .f32 := k0_pay6 p w u v

theorem out6 : out0_6 (F := Ideal) p w u v = A6 p w u v := by
  unfold out0_6 A6
  rw [View.canon_unit_zero two_zero]

/-- The same of what the call finds. -/
abbrev E6 (c : Dev nD) : FVec Ideal S8x1024 .f32 := A6 (V m c main_arg0) (V m c main_v15) (V m c main_v31) (V m c main_v47)

theorem last6 (c : Dev nD) : (dats m 0 c).arrAt 6 cfg0.N = E6 m c := by
  refine (dats m 0 c).arrAt_eq_of_cover 6 (E6 m c) (fun t _ => ?_) (fun i => ?_)
  · show (cfg0.win 6).cut (grid0.coords t) ((dats m 0 c).after 6 t) = _
    rw [after0_6, out6, blk0, blk1, blk2, blk3]
    funext j
    show E6 m c j = E6 m c (((cfg0.win 6).blk t).view.emb j)
    rw [at6]
  · exact ⟨(⟨0, by decide⟩ : Fin cfg0.N), flush0_6 _, by have h := ((cfg0.win 6).blk (⟨0, by decide⟩ : Fin cfg0.N)).view.emb_mem_set i; rwa [at6] at h⟩

/-- The array of window 7, of the arguments. -/
def A7 : FVec Ideal S8x1024 .f32 := k0_pay1 (k0_pay5 p w u v) v

theorem out7 : out0_7 (F := Ideal) p w u v = A7 p w u v := by
  unfold out0_7 A7
  rw [View.canon_unit_zero two_zero, View.ld_unit_zero two_zero]

/-- The same of what the call finds. -/
abbrev E7 (c : Dev nD) : FVec Ideal S8x1024 .f32 := A7 (V m c main_arg0) (V m c main_v15) (V m c main_v31) (V m c main_v47)

theorem last7 (c : Dev nD) : (dats m 0 c).arrAt 7 cfg0.N = E7 m c := by
  refine (dats m 0 c).arrAt_eq_of_cover 7 (E7 m c) (fun t _ => ?_) (fun i => ?_)
  · show (cfg0.win 7).cut (grid0.coords t) ((dats m 0 c).after 7 t) = _
    rw [after0_7, out7, blk0, blk1, blk2, blk3]
    funext j
    show E7 m c j = E7 m c (((cfg0.win 7).blk t).view.emb j)
    rw [at7]
  · exact ⟨(⟨0, by decide⟩ : Fin cfg0.N), flush0_7 _, by have h := ((cfg0.win 7).blk (⟨0, by decide⟩ : Fin cfg0.N)).view.emb_mem_set i; rwa [at7] at h⟩

/-! ## The host's slices of them -/

theorem arr_inj : Function.Injective (Pipeline.arrRef spec0) := by decide

/-- The values when the call has ended. -/
abbrev Z (c : Dev nD) : Valuation τ sig (Elt Ideal) :=
  Pipeline.withArrays spec0 c (V0 m c) fun w => (dats m 0 c).arrAt w cfg0.N

theorem z0 (c : Dev nD) : Z m c (Proc.devRef .tc main_v48_0) = E4 m c :=
  (Pipeline.withArrays_arr spec0 arr_inj c (V0 m c) (fun w => (dats m 0 c).arrAt w cfg0.N) 4).trans (last4 m c)

theorem z1 (c : Dev nD) : Z m c (Proc.devRef .tc main_v48_1) = E5 m c :=
  (Pipeline.withArrays_arr spec0 arr_inj c (V0 m c) (fun w => (dats m 0 c).arrAt w cfg0.N) 5).trans (last5 m c)

theorem z2 (c : Dev nD) : Z m c (Proc.devRef .tc main_v48_2) = E6 m c :=
  (Pipeline.withArrays_arr spec0 arr_inj c (V0 m c) (fun w => (dats m 0 c).arrAt w cfg0.N) 6).trans (last6 m c)

theorem z3 (c : Dev nD) : Z m c (Proc.devRef .tc main_v48_3) = E7 m c :=
  (Pipeline.withArrays_arr spec0 arr_inj c (V0 m c) (fun w => (dats m 0 c).arrAt w cfg0.N) 7).trans (last7 m c)

set_option maxHeartbeats 8000000 in
/-- The results are rows of the call's four arrays. -/
theorem tails (z : Valuation τ sig (Elt Ideal)) :
    StableHlo.after hostOps1 z (Proc.devRef .tc main_v50) = row5 (z (Proc.devRef .tc main_v48_0))
    ∧ StableHlo.after hostOps1 z (Proc.devRef .tc main_v51) = row0 (z (Proc.devRef .tc main_v48_0))
    ∧ StableHlo.after hostOps1 z (Proc.devRef .tc main_v55) = row3 (z (Proc.devRef .tc main_v48_0))
    ∧ StableHlo.after hostOps1 z (Proc.devRef .tc main_v56) = row4 (z (Proc.devRef .tc main_v48_0))
    ∧ StableHlo.after hostOps1 z (Proc.devRef .tc main_v54) = row2 (z (Proc.devRef .tc main_v48_0))
    ∧ StableHlo.after hostOps1 z (Proc.devRef .tc main_v53) = row1 (z (Proc.devRef .tc main_v48_0))
    ∧ StableHlo.after hostOps1 z (Proc.devRef .tc main_v57) = row0 (z (Proc.devRef .tc main_v48_1))
    ∧ StableHlo.after hostOps1 z (Proc.devRef .tc main_v61) = row3 (z (Proc.devRef .tc main_v48_1))
    ∧ StableHlo.after hostOps1 z (Proc.devRef .tc main_v62) = row4 (z (Proc.devRef .tc main_v48_1))
    ∧ StableHlo.after hostOps1 z (Proc.devRef .tc main_v60) = row2 (z (Proc.devRef .tc main_v48_1))
    ∧ StableHlo.after hostOps1 z (Proc.devRef .tc main_v59) = row1 (z (Proc.devRef .tc main_v48_1))
    ∧ StableHlo.after hostOps1 z (Proc.devRef .tc main_v63) = row0 (z (Proc.devRef .tc main_v48_2))
    ∧ StableHlo.after hostOps1 z (Proc.devRef .tc main_v67) = row3 (z (Proc.devRef .tc main_v48_2))
    ∧ StableHlo.after hostOps1 z (Proc.devRef .tc main_v68) = row4 (z (Proc.devRef .tc main_v48_2))
    ∧ StableHlo.after hostOps1 z (Proc.devRef .tc main_v66) = row2 (z (Proc.devRef .tc main_v48_2))
    ∧ StableHlo.after hostOps1 z (Proc.devRef .tc main_v65) = row1 (z (Proc.devRef .tc main_v48_2))
    ∧ StableHlo.after hostOps1 z (Proc.devRef .tc main_v69) = row0 (z (Proc.devRef .tc main_v48_3))
    ∧ StableHlo.after hostOps1 z (Proc.devRef .tc main_v73) = row3 (z (Proc.devRef .tc main_v48_3))
    ∧ StableHlo.after hostOps1 z (Proc.devRef .tc main_v74) = row4 (z (Proc.devRef .tc main_v48_3))
    ∧ StableHlo.after hostOps1 z (Proc.devRef .tc main_v72) = row2 (z (Proc.devRef .tc main_v48_3))
    ∧ StableHlo.after hostOps1 z (Proc.devRef .tc main_v71) = row1 (z (Proc.devRef .tc main_v48_3)) := by
  refine ⟨?_, ?_, ?_, ?_, ?_, ?_, ?_, ?_, ?_, ?_, ?_, ?_, ?_, ?_, ?_, ?_, ?_, ?_, ?_, ?_, ?_⟩ <;> (after_results <;> rfl)

end Cert.K8
-- ==== Proof.K8.lean ====
module

public import proofs.«01_k».proof.Proof.K8End
public import proofs.«01_k».proof.Proof.Gen.Reference8Ideal.Run

/-! The optimiser's step of the small weights: rows of the packed arrays are the reference's arrays. -/

@[expose] public section

set_option maxRecDepth 16384

noncomputable section

namespace Cert.K8

open Idealize.ShloMosaic Idealize.ShloMosaic.TcCoe Idealize.SL.Sem

section
open Cert.Reference8Ideal Cert.Reference8Ideal.Gen
open Cert.Kernel8Ideal.Gen (k0_pay1 k0_pay2 k0_pay3 k0_pay4 k0_pay5 k0_pay6)

/-! ## The step on any shape -/

section
variable {S : Shape} (hb : S_.BroadcastsInDim S (![] : Fin 0 → Fin S.rank)) (g w u v : FVec Ideal S .f32)

/-- The first moment after the step. -/
def mo : FVec Ideal S .f32 := addf (mulf (broadcastInDim S ![] hb (constant S_ .f32 0x3F666666#32)) u) (mulf (broadcastInDim S ![] hb (constant S_ .f32 0x3DCCCCCD#32)) g)

/-- The second moment after the step. -/
def se : FVec Ideal S .f32 := addf (mulf (broadcastInDim S ![] hb (constant S_ .f32 0x3F7FBE77#32)) v) (mulf (broadcastInDim S ![] hb (constant S_ .f32 0x3A83126F#32)) (mulf g g))

/-- The change of the weights. -/
def ch : FVec Ideal S .f32 := mulf (broadcastInDim S ![] hb (constant S_ .f32 0xBA83126F#32)) (addf (Host.divf (Host.divf (mo hb g u) (broadcastInDim S ![] hb (constant S_ .f32 0x3F26BD02#32))) (addf (Host.sqrt (Host.divf (se hb g v) (broadcastInDim S ![] hb (constant S_ .f32 0x3C231ACC#32)))) (broadcastInDim S ![] hb (constant S_ .f32 0x322BCC77#32)))) (mulf (broadcastInDim S ![] hb (constant S_ .f32 0x3C23D70A#32)) w))

end

/-! ## The packed arrays, read at any choice of entries -/

section
variable {S : Shape} (hb : S_.BroadcastsInDim S (![] : Fin 0 → Fin S.rank)) (p : FVec Ideal S8x8x1024 .f32)
  (w u v : FVec Ideal Cert.Kernel8Ideal.S8x1024 .f32) (f : S.Idx → Cert.Kernel8Ideal.S8x1024.Idx)

theorem mo_at : (fun i => A6 p w u v (f i)) = mo hb (fun i => A4 p w u v (f i)) fun i => u (f i) := by
  unfold A6 A4 k0_pay6 k0_pay4 k0_pay5
  rw [View.ld_unit_zero two_zero, shapeCast_id]
  rfl

theorem se_at : (fun i => A7 p w u v (f i)) = se hb (fun i => A4 p w u v (f i)) fun i => v (f i) := by
  unfold A7 A4 k0_pay1
  rw [shapeCast_id]
  rfl

theorem ch_at : (fun i => A5 p w u v (f i)) = ch hb (fun i => A4 p w u v (f i)) (fun i => w (f i)) (fun i => u (f i)) fun i => v (f i) := by
  unfold ch
  rw [← mo_at hb p w u v f, ← se_at hb p w u v f]
  unfold A5 k0_pay2 A6 A7
  rw [shapeCast_id]
  rfl

end

/-! ## The rows -/

variable (p : FVec Ideal S8x8x1024 .f32) (w u v : FVec Ideal Cert.Kernel8Ideal.S8x1024 .f32)
  (a : FVec Ideal S1x1024 .f32) (b d : FVec Ideal S1x8 .f32) (n : FVec Ideal S1x128 .f32) (e : FVec Ideal S1024 .f32)

/-- Row 0's part of the gradient, added up over the parts. -/
def g0 : FVec Ideal S1x1024 .f32 := Host.reduceAdd (extractStridedSlice S8x1x1024 ![0, 0, 0] p slices_S8x8x1024_S8x1x1024_0_0_0) (constant S_ .f32 0x00000000#32) reducesTo_S8x1x1024_S1x1024_d0 h_S_

theorem sum_at0 : row0 (A4 p w u v) = g0 p := by
  funext i
  idx_vars i
  pointwise [row0, g0, A4, k0_pay5, k0_pay3]
  exact (Fin.sum_univ_eight (M := EReal) fun k => p (ix3 k 0 i1)).symm

theorem pack_at0 : row0 (pack a b d n e) = a := by
  funext i
  idx_vars i
  pointwise [row0, pack]
  rw [Subsingleton.elim i0 0]

/-- Row 1's part of the gradient, added up over the parts. -/
def g1 : FVec Ideal S1024 .f32 := Host.reduceAdd (shapeCast _ (extractStridedSlice S8x1x1024 ![0, 1, 0] p slices_S8x8x1024_S8x1x1024_0_1_0) shapeCasts_S8x1x1024_S8x1024) (constant S_ .f32 0x00000000#32) reducesTo_S8x1024_S1024_d0 h_S_

theorem sum_at1 : row1 (A4 p w u v) = g1 p := by
  funext i
  idx_vars i
  pointwise [row1, g1, A4, k0_pay5, k0_pay3]
  exact (Fin.sum_univ_eight (M := EReal) fun k => p (ix3 k 1 i0)).symm

theorem pack_at1 : row1 (pack a b d n e) = e := by
  funext i
  idx_vars i
  pointwise [row1, pack]

/-- Row 2's part of the gradient, added up over the parts. -/
def g2 : FVec Ideal S1x128 .f32 := Host.reduceAdd (extractStridedSlice S8x1x128 ![0, 2, 0] p slices_S8x8x1024_S8x1x128_0_2_0) (constant S_ .f32 0x00000000#32) reducesTo_S8x1x128_S1x128_d0 h_S_

theorem sum_at2 : row2 (A4 p w u v) = g2 p := by
  funext i
  idx_vars i
  pointwise [row2, g2, A4, k0_pay5, k0_pay3]
  exact (Fin.sum_univ_eight (M := EReal) fun k => p (ix3 k 2 (Fin.castLE (by decide) i1))).symm

theorem pack_at2 : row2 (pack a b d n e) = n := by
  funext i
  idx_vars i
  pointwise [row2, pack]
  rw [Subsingleton.elim i0 0]

/-- Row 3's part of the gradient, added up over the parts. -/
def g3 : FVec Ideal S1x8 .f32 := Host.reduceAdd (extractStridedSlice S8x1x8 ![0, 3, 0] p slices_S8x8x1024_S8x1x8_0_3_0) (constant S_ .f32 0x00000000#32) reducesTo_S8x1x8_S1x8_d0 h_S_

theorem sum_at3 : row3 (A4 p w u v) = g3 p := by
  funext i
  idx_vars i
  pointwise [row3, g3, A4, k0_pay5, k0_pay3]
  exact (Fin.sum_univ_eight (M := EReal) fun k => p (ix3 k 3 (Fin.castLE (by decide) i1))).symm

theorem pack_at3 : row3 (pack a b d n e) = b := by
  funext i
  idx_vars i
  pointwise [row3, pack]
  rw [Subsingleton.elim i0 0]

/-- Row 4's part of the gradient, added up over the parts. -/
def g4 : FVec Ideal S1x8 .f32 := Host.reduceAdd (extractStridedSlice S8x1x8 ![0, 4, 0] p slices_S8x8x1024_S8x1x8_0_4_0) (constant S_ .f32 0x00000000#32) reducesTo_S8x1x8_S1x8_d0 h_S_

theorem sum_at4 : row4 (A4 p w u v) = g4 p := by
  funext i
  idx_vars i
  pointwise [row4, g4, A4, k0_pay5, k0_pay3]
  exact (Fin.sum_univ_eight (M := EReal) fun k => p (ix3 k 4 (Fin.castLE (by decide) i1))).symm

theorem pack_at4 : row4 (pack a b d n e) = d := by
  funext i
  idx_vars i
  pointwise [row4, pack]
  rw [Subsingleton.elim i0 0]

/-- Row 5's part of the gradient, added up over the parts. -/
def g5 : FVec Ideal S_ .f32 := Host.reduceAdd (shapeCast _ (extractStridedSlice S8x1x1 ![0, 5, 0] p slices_S8x8x1024_S8x1x1_0_5_0) shapeCasts_S8x1x1_S8) (constant S_ .f32 0x00000000#32) reducesTo_S8_S_d0 h_S_

theorem sum_at5 : row5 (A4 p w u v) = g5 p := by
  funext i
  pointwise [row5, g5, A4, k0_pay5, k0_pay3]
  exact (Fin.sum_univ_eight (M := EReal) fun k => p (ix3 k 5 0)).symm

theorem fit_S1x1024 : S_.BroadcastsInDim S1x1024 (![] : Fin 0 → Fin S1x1024.rank) := bcast_S_S1x1024

theorem fit_S1x8 : S_.BroadcastsInDim S1x8 (![] : Fin 0 → Fin S1x8.rank) := bcast_S_S1x8

theorem fit_S1x128 : S_.BroadcastsInDim S1x128 (![] : Fin 0 → Fin S1x128.rank) := bcast_S_S1x128

theorem fit_S1024 : S_.BroadcastsInDim S1024 (![] : Fin 0 → Fin S1024.rank) := bcast_S_S1024

end

/-! ## The results -/

section
open Cert.Kernel8Ideal Cert.Kernel8Ideal.Gen

variable (p : FVec Ideal S8x8x1024 .f32) (w u v : FVec Ideal S8x1024 .f32) (m : (ℓ : Loc nD τ sig) → Buf (Elt Ideal) ℓ) (c : Dev nD)

theorem sum5 : row5 (Z m c (Proc.devRef .tc main_v48_0)) = g5 (m (c.tc.loc main_arg0)) :=
  (congrArg row5 (z0 m c)).trans ((sum_at5 _ _ _ _).trans (by rw [V_main_arg0]))

theorem sum0 : row0 (Z m c (Proc.devRef .tc main_v48_0)) = g0 (m (c.tc.loc main_arg0)) :=
  (congrArg row0 (z0 m c)).trans ((sum_at0 _ _ _ _).trans (by rw [V_main_arg0]))

theorem ch_row0 (hb : S_.BroadcastsInDim S1x1024 (![] : Fin 0 → Fin S1x1024.rank)) : row0 (A5 p w u v) = ch hb (g0 p) (row0 w) (row0 u) (row0 v) :=
  (ch_at hb p w u v _).trans (by rw [← sum_at0 p w u v]; rfl)

theorem ch0 (hb : S_.BroadcastsInDim S1x1024 (![] : Fin 0 → Fin S1x1024.rank)) : row0 (Z m c (Proc.devRef .tc main_v48_1)) = ch hb (g0 (m (c.tc.loc main_arg0))) (m (c.tc.loc main_arg1)) (m (c.tc.loc main_arg6)) (m (c.tc.loc main_arg11)) :=
  (congrArg row0 (z1 m c)).trans ((ch_row0 _ _ _ _ hb).trans (by rw [V_main_arg0, in1, pack_at0, in2, pack_at0, in3, pack_at0]))

theorem mo_row0 (hb : S_.BroadcastsInDim S1x1024 (![] : Fin 0 → Fin S1x1024.rank)) : row0 (A6 p w u v) = mo hb (g0 p) (row0 u) :=
  (mo_at hb p w u v _).trans (by rw [← sum_at0 p w u v]; rfl)

theorem mo0 (hb : S_.BroadcastsInDim S1x1024 (![] : Fin 0 → Fin S1x1024.rank)) : row0 (Z m c (Proc.devRef .tc main_v48_2)) = mo hb (g0 (m (c.tc.loc main_arg0))) (m (c.tc.loc main_arg6)) :=
  (congrArg row0 (z2 m c)).trans ((mo_row0 _ _ _ _ hb).trans (by rw [V_main_arg0, in2, pack_at0]))

theorem se_row0 (hb : S_.BroadcastsInDim S1x1024 (![] : Fin 0 → Fin S1x1024.rank)) : row0 (A7 p w u v) = se hb (g0 p) (row0 v) :=
  (se_at hb p w u v _).trans (by rw [← sum_at0 p w u v]; rfl)

theorem se0 (hb : S_.BroadcastsInDim S1x1024 (![] : Fin 0 → Fin S1x1024.rank)) : row0 (Z m c (Proc.devRef .tc main_v48_3)) = se hb (g0 (m (c.tc.loc main_arg0))) (m (c.tc.loc main_arg11)) :=
  (congrArg row0 (z3 m c)).trans ((se_row0 _ _ _ _ hb).trans (by rw [V_main_arg0, in3, pack_at0]))

theorem sum1 : row1 (Z m c (Proc.devRef .tc main_v48_0)) = g1 (m (c.tc.loc main_arg0)) :=
  (congrArg row1 (z0 m c)).trans ((sum_at1 _ _ _ _).trans (by rw [V_main_arg0]))

theorem ch_row1 (hb : S_.BroadcastsInDim S1024 (![] : Fin 0 → Fin S1024.rank)) : row1 (A5 p w u v) = ch hb (g1 p) (row1 w) (row1 u) (row1 v) :=
  (ch_at hb p w u v _).trans (by rw [← sum_at1 p w u v]; rfl)

theorem ch1 (hb : S_.BroadcastsInDim S1024 (![] : Fin 0 → Fin S1024.rank)) : row1 (Z m c (Proc.devRef .tc main_v48_1)) = ch hb (g1 (m (c.tc.loc main_arg0))) (m (c.tc.loc main_arg5)) (m (c.tc.loc main_arg10)) (m (c.tc.loc main_arg15)) :=
  (congrArg row1 (z1 m c)).trans ((ch_row1 _ _ _ _ hb).trans (by rw [V_main_arg0, in1, pack_at1, in2, pack_at1, in3, pack_at1]))

theorem mo_row1 (hb : S_.BroadcastsInDim S1024 (![] : Fin 0 → Fin S1024.rank)) : row1 (A6 p w u v) = mo hb (g1 p) (row1 u) :=
  (mo_at hb p w u v _).trans (by rw [← sum_at1 p w u v]; rfl)

theorem mo1 (hb : S_.BroadcastsInDim S1024 (![] : Fin 0 → Fin S1024.rank)) : row1 (Z m c (Proc.devRef .tc main_v48_2)) = mo hb (g1 (m (c.tc.loc main_arg0))) (m (c.tc.loc main_arg10)) :=
  (congrArg row1 (z2 m c)).trans ((mo_row1 _ _ _ _ hb).trans (by rw [V_main_arg0, in2, pack_at1]))

theorem se_row1 (hb : S_.BroadcastsInDim S1024 (![] : Fin 0 → Fin S1024.rank)) : row1 (A7 p w u v) = se hb (g1 p) (row1 v) :=
  (se_at hb p w u v _).trans (by rw [← sum_at1 p w u v]; rfl)

theorem se1 (hb : S_.BroadcastsInDim S1024 (![] : Fin 0 → Fin S1024.rank)) : row1 (Z m c (Proc.devRef .tc main_v48_3)) = se hb (g1 (m (c.tc.loc main_arg0))) (m (c.tc.loc main_arg15)) :=
  (congrArg row1 (z3 m c)).trans ((se_row1 _ _ _ _ hb).trans (by rw [V_main_arg0, in3, pack_at1]))

theorem sum2 : row2 (Z m c (Proc.devRef .tc main_v48_0)) = g2 (m (c.tc.loc main_arg0)) :=
  (congrArg row2 (z0 m c)).trans ((sum_at2 _ _ _ _).trans (by rw [V_main_arg0]))

theorem ch_row2 (hb : S_.BroadcastsInDim S1x128 (![] : Fin 0 → Fin S1x128.rank)) : row2 (A5 p w u v) = ch hb (g2 p) (row2 w) (row2 u) (row2 v) :=
  (ch_at hb p w u v _).trans (by rw [← sum_at2 p w u v]; rfl)

theorem ch2 (hb : S_.BroadcastsInDim S1x128 (![] : Fin 0 → Fin S1x128.rank)) : row2 (Z m c (Proc.devRef .tc main_v48_1)) = ch hb (g2 (m (c.tc.loc main_arg0))) (m (c.tc.loc main_arg4)) (m (c.tc.loc main_arg9)) (m (c.tc.loc main_arg14)) :=
  (congrArg row2 (z1 m c)).trans ((ch_row2 _ _ _ _ hb).trans (by rw [V_main_arg0, in1, pack_at2, in2, pack_at2, in3, pack_at2]))

theorem mo_row2 (hb : S_.BroadcastsInDim S1x128 (![] : Fin 0 → Fin S1x128.rank)) : row2 (A6 p w u v) = mo hb (g2 p) (row2 u) :=
  (mo_at hb p w u v _).trans (by rw [← sum_at2 p w u v]; rfl)

theorem mo2 (hb : S_.BroadcastsInDim S1x128 (![] : Fin 0 → Fin S1x128.rank)) : row2 (Z m c (Proc.devRef .tc main_v48_2)) = mo hb (g2 (m (c.tc.loc main_arg0))) (m (c.tc.loc main_arg9)) :=
  (congrArg row2 (z2 m c)).trans ((mo_row2 _ _ _ _ hb).trans (by rw [V_main_arg0, in2, pack_at2]))

theorem se_row2 (hb : S_.BroadcastsInDim S1x128 (![] : Fin 0 → Fin S1x128.rank)) : row2 (A7 p w u v) = se hb (g2 p) (row2 v) :=
  (se_at hb p w u v _).trans (by rw [← sum_at2 p w u v]; rfl)

theorem se2 (hb : S_.BroadcastsInDim S1x128 (![] : Fin 0 → Fin S1x128.rank)) : row2 (Z m c (Proc.devRef .tc main_v48_3)) = se hb (g2 (m (c.tc.loc main_arg0))) (m (c.tc.loc main_arg14)) :=
  (congrArg row2 (z3 m c)).trans ((se_row2 _ _ _ _ hb).trans (by rw [V_main_arg0, in3, pack_at2]))

theorem sum3 : row3 (Z m c (Proc.devRef .tc main_v48_0)) = g3 (m (c.tc.loc main_arg0)) :=
  (congrArg row3 (z0 m c)).trans ((sum_at3 _ _ _ _).trans (by rw [V_main_arg0]))

theorem ch_row3 (hb : S_.BroadcastsInDim S1x8 (![] : Fin 0 → Fin S1x8.rank)) : row3 (A5 p w u v) = ch hb (g3 p) (row3 w) (row3 u) (row3 v) :=
  (ch_at hb p w u v _).trans (by rw [← sum_at3 p w u v]; rfl)

theorem ch3 (hb : S_.BroadcastsInDim S1x8 (![] : Fin 0 → Fin S1x8.rank)) : row3 (Z m c (Proc.devRef .tc main_v48_1)) = ch hb (g3 (m (c.tc.loc main_arg0))) (m (c.tc.loc main_arg2)) (m (c.tc.loc main_arg7)) (m (c.tc.loc main_arg12)) :=
  (congrArg row3 (z1 m c)).trans ((ch_row3 _ _ _ _ hb).trans (by rw [V_main_arg0, in1, pack_at3, in2, pack_at3, in3, pack_at3]))

theorem mo_row3 (hb : S_.BroadcastsInDim S1x8 (![] : Fin 0 → Fin S1x8.rank)) : row3 (A6 p w u v) = mo hb (g3 p) (row3 u) :=
  (mo_at hb p w u v _).trans (by rw [← sum_at3 p w u v]; rfl)

theorem mo3 (hb : S_.BroadcastsInDim S1x8 (![] : Fin 0 → Fin S1x8.rank)) : row3 (Z m c (Proc.devRef .tc main_v48_2)) = mo hb (g3 (m (c.tc.loc main_arg0))) (m (c.tc.loc main_arg7)) :=
  (congrArg row3 (z2 m c)).trans ((mo_row3 _ _ _ _ hb).trans (by rw [V_main_arg0, in2, pack_at3]))

theorem se_row3 (hb : S_.BroadcastsInDim S1x8 (![] : Fin 0 → Fin S1x8.rank)) : row3 (A7 p w u v) = se hb (g3 p) (row3 v) :=
  (se_at hb p w u v _).trans (by rw [← sum_at3 p w u v]; rfl)

theorem se3 (hb : S_.BroadcastsInDim S1x8 (![] : Fin 0 → Fin S1x8.rank)) : row3 (Z m c (Proc.devRef .tc main_v48_3)) = se hb (g3 (m (c.tc.loc main_arg0))) (m (c.tc.loc main_arg12)) :=
  (congrArg row3 (z3 m c)).trans ((se_row3 _ _ _ _ hb).trans (by rw [V_main_arg0, in3, pack_at3]))

theorem sum4 : row4 (Z m c (Proc.devRef .tc main_v48_0)) = g4 (m (c.tc.loc main_arg0)) :=
  (congrArg row4 (z0 m c)).trans ((sum_at4 _ _ _ _).trans (by rw [V_main_arg0]))

theorem ch_row4 (hb : S_.BroadcastsInDim S1x8 (![] : Fin 0 → Fin S1x8.rank)) : row4 (A5 p w u v) = ch hb (g4 p) (row4 w) (row4 u) (row4 v) :=
  (ch_at hb p w u v _).trans (by rw [← sum_at4 p w u v]; rfl)

theorem ch4 (hb : S_.BroadcastsInDim S1x8 (![] : Fin 0 → Fin S1x8.rank)) : row4 (Z m c (Proc.devRef .tc main_v48_1)) = ch hb (g4 (m (c.tc.loc main_arg0))) (m (c.tc.loc main_arg3)) (m (c.tc.loc main_arg8)) (m (c.tc.loc main_arg13)) :=
  (congrArg row4 (z1 m c)).trans ((ch_row4 _ _ _ _ hb).trans (by rw [V_main_arg0, in1, pack_at4, in2, pack_at4, in3, pack_at4]))

theorem mo_row4 (hb : S_.BroadcastsInDim S1x8 (![] : Fin 0 → Fin S1x8.rank)) : row4 (A6 p w u v) = mo hb (g4 p) (row4 u) :=
  (mo_at hb p w u v _).trans (by rw [← sum_at4 p w u v]; rfl)

theorem mo4 (hb : S_.BroadcastsInDim S1x8 (![] : Fin 0 → Fin S1x8.rank)) : row4 (Z m c (Proc.devRef .tc main_v48_2)) = mo hb (g4 (m (c.tc.loc main_arg0))) (m (c.tc.loc main_arg8)) :=
  (congrArg row4 (z2 m c)).trans ((mo_row4 _ _ _ _ hb).trans (by rw [V_main_arg0, in2, pack_at4]))

theorem se_row4 (hb : S_.BroadcastsInDim S1x8 (![] : Fin 0 → Fin S1x8.rank)) : row4 (A7 p w u v) = se hb (g4 p) (row4 v) :=
  (se_at hb p w u v _).trans (by rw [← sum_at4 p w u v]; rfl)

theorem se4 (hb : S_.BroadcastsInDim S1x8 (![] : Fin 0 → Fin S1x8.rank)) : row4 (Z m c (Proc.devRef .tc main_v48_3)) = se hb (g4 (m (c.tc.loc main_arg0))) (m (c.tc.loc main_arg13)) :=
  (congrArg row4 (z3 m c)).trans ((se_row4 _ _ _ _ hb).trans (by rw [V_main_arg0, in3, pack_at4]))

end

end Cert.K8
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.KEnd
public import proofs.«01_k».proof.Proof.RefEnd
public import proofs.«01_k».proof.Proof.PreReal
public import proofs.«01_k».proof.Proof.K3Run
public import proofs.«01_k».proof.Proof.R3
public import proofs.«01_k».proof.Proof.K2End
public import proofs.«01_k».proof.Proof.R2
public import proofs.«01_k».proof.Proof.K4End
public import proofs.«01_k».proof.Proof.R4
public import Idealize.ShloMosaic.Adequacy
public import Idealize.ShloMosaic.Init
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.K5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.K6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.K7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.K8

/-! The claims put together. The kernel's run (`KEnd`) and the reference's run (`RefEnd`) end with the same nine arrays
of the arguments (`Spec`), the reference's where every argument is a real number. -/

@[expose] public section

set_option maxRecDepth 16384

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ =>
  Cert.KernelIdeal.Gen.frame m ρ

theorem frame_ideal_finite : Cert.quiescent_KernelIdeal_pre_finite := fun m ρ _ =>
  Cert.KernelIdeal.Gen.frame m ρ

/-- The reference declares no semaphore, and its run keeps the arguments. -/
theorem frame_ref : Cert.quiescent_ReferenceIdeal := fun m ρ _ =>
  (θ_run Cert.ReferenceIdeal.defs _ _).mono
    (fun r h => ⟨fun c => (h c).2.2.2.2.2.2.2.2.2, sem_eq_zero_of_no_sems (by decide) r.2⟩)
    (Cert.ReferenceIdeal.Value.run (F := Ideal) m ρ)

theorem frame_ref_finite : Cert.quiescent_ReferenceIdeal_pre_finite := fun m ρ _ =>
  (θ_run Cert.ReferenceIdeal.defs _ _).mono
    (fun r h => ⟨fun c => (h c).2.2.2.2.2.2.2.2.2, sem_eq_zero_of_no_sems (by decide) r.2⟩)
    (Cert.ReferenceIdeal.Value.run (F := Ideal) m ρ)

/-- Arguments that agree are the same arguments by coordinates. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)
      ∧ m' (c.tc.loc Cert.ReferenceIdeal.main_arg3) = m (c.tc.loc Cert.KernelIdeal.main_arg3)
      ∧ m' (c.tc.loc Cert.ReferenceIdeal.main_arg4) = m (c.tc.loc Cert.KernelIdeal.main_arg4)
      ∧ m' (c.tc.loc Cert.ReferenceIdeal.main_arg5) = m (c.tc.loc Cert.KernelIdeal.main_arg5)
      ∧ m' (c.tc.loc Cert.ReferenceIdeal.main_arg6) = m (c.tc.loc Cert.KernelIdeal.main_arg6)
      ∧ m' (c.tc.loc Cert.ReferenceIdeal.main_arg7) = m (c.tc.loc Cert.KernelIdeal.main_arg7)
      ∧ m' (c.tc.loc Cert.ReferenceIdeal.main_arg8) = m (c.tc.loc Cert.KernelIdeal.main_arg8)
      ∧ m' (c.tc.loc Cert.ReferenceIdeal.main_arg9) = m (c.tc.loc Cert.KernelIdeal.main_arg9)
      ∧ m' (c.tc.loc Cert.ReferenceIdeal.main_arg10) = m (c.tc.loc Cert.KernelIdeal.main_arg10)
      ∧ m' (c.tc.loc Cert.ReferenceIdeal.main_arg11) = m (c.tc.loc Cert.KernelIdeal.main_arg11)
      ∧ m' (c.tc.loc Cert.ReferenceIdeal.main_arg12) = m (c.tc.loc Cert.KernelIdeal.main_arg12)
      ∧ m' (c.tc.loc Cert.ReferenceIdeal.main_arg13) = m (c.tc.loc Cert.KernelIdeal.main_arg13)
      ∧ m' (c.tc.loc Cert.ReferenceIdeal.main_arg14) = m (c.tc.loc Cert.KernelIdeal.main_arg14)) :
    Cert.RefEnd.args m' c = Cert.KHost.args m c := by
  obtain ⟨h0, h1, h2, h3, h4, h5, h6, h7, h8, h9, h10, h11, h12, h13, h14⟩ := h
  unfold Cert.RefEnd.args Cert.KHost.args
  rw [h0, h1, h2, h3, h4, h5, h6, h7, h8, h9, h10, h11, h12, h13, h14]

theorem value : Cert.algebraic_KernelIdeal_ReferenceIdeal_pre_finite := by
  intro m g m' g' hp hagree
  have e : ∀ c, Cert.RefEnd.args m' c = Cert.KHost.args m c := fun c => args_agree m m' c (hagree c)
  have R : ∀ c, (Cert.RefEnd.args m' c).Real := fun c => by rw [e c]; exact Cert.PreReal.real (h := hp c)
  refine ⟨fun c => Cert.Spec.du (Cert.KHost.args m c), fun c => Cert.Spec.dkd (Cert.KHost.args m c), fun c => Cert.Spec.ddl (Cert.KHost.args m c), fun c => Cert.Spec.dO (Cert.KHost.args m c), fun c => Cert.Spec.dz (Cert.KHost.args m c), fun c => Cert.Spec.dnw (Cert.KHost.args m c), fun c => Cert.Spec.dob (Cert.KHost.args m c), fun c => Cert.Spec.dzb (Cert.KHost.args m c), fun c => Cert.Spec.delta (Cert.KHost.args m c), ?_, ?_⟩
  · exact Cert.KEnd.run m g
  · refine (θ_run Cert.ReferenceIdeal.defs _ _).mono (fun r h c => ?_) (Cert.RefEnd.run m' g' R)
    have k := h c
    rw [e c] at k
    exact k

/-! The input projection. -/

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_ref3 : Cert.quiescent_Reference3Ideal := fun m ρ _ =>
  (θ_run Cert.Reference3Ideal.defs _ _).mono
    (fun r h => ⟨fun c => (h c).2.2.2.2.2.2.2.2.2, sem_eq_zero_of_no_sems (by decide) r.2⟩)
    (Cert.Reference3Ideal.Value.run (F := Ideal) m ρ)

theorem value3 : Cert.algebraic_Kernel3Ideal_Reference3Ideal := by
  intro m g m' g' _ hagree
  refine ⟨fun c => Cert.Lin.seg (Cert.K3End.X m c) (Cert.K3End.Nw m c) (Cert.K3End.Wi m c) 0 3072 (by norm_num),
    fun c => Cert.Lin.seg (Cert.K3End.X m c) (Cert.K3End.Nw m c) (Cert.K3End.Wi m c) 3072 1024 (by norm_num),
    fun c => Cert.Lin.seg (Cert.K3End.X m c) (Cert.K3End.Nw m c) (Cert.K3End.Wi m c) 4096 16 (by norm_num),
    fun c => Cert.Lin.seg (Cert.K3End.X m c) (Cert.K3End.Nw m c) (Cert.K3End.Wi m c) 4112 1536 (by norm_num),
    fun c => Cert.Lin.seg (Cert.K3End.X m c) (Cert.K3End.Nw m c) (Cert.K3End.Wi m c) 5648 1536 (by norm_num),
    fun c => Cert.Lin.seg (Cert.K3End.X m c) (Cert.K3End.Nw m c) (Cert.K3End.Wi m c) 7184 1536 (by norm_num),
    fun c => Cert.Lin.seg (Cert.K3End.X m c) (Cert.K3End.Nw m c) (Cert.K3End.Wi m c) 8720 512 (by norm_num),
    fun c => Cert.Lin.seg (Cert.K3End.X m c) (Cert.K3End.Nw m c) (Cert.K3End.Wi m c) 9232 1024 (by norm_num),
    fun c => Cert.Lin.seg (Cert.K3End.X m c) (Cert.K3End.Nw m c) (Cert.K3End.Wi m c) 10256 1024 (by norm_num),
    Cert.K3Run.run m g, (θ_run Cert.Reference3Ideal.defs _ _).mono (fun r h c => ?_) (Cert.R3.run m' g')⟩
  obtain ⟨e0, e1, e2⟩ := hagree c
  have k := h c
  simp only [e0, e1, e2] at k ⊢
  exact k

/-! The projection's backward pass to the rows. -/

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_ref2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem value2 : Cert.algebraic_Kernel2Ideal_Reference2Ideal := by
  intro m g m' g' _ hagree
  refine ⟨fun c => Cert.K2Spec.dB (Cert.K2End.P m c) (Cert.K2End.W m c),
    Cert.K2End.run m g, (θ_run Cert.Reference2Ideal.defs _ _).mono (fun r h c => ?_) (Cert.R2.run m' g')⟩
  obtain ⟨e0, e1⟩ := hagree c
  have k := h c
  simp only [e0, e1] at k ⊢
  exact k

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_ref4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

theorem value4 : Cert.algebraic_Kernel4Ideal_Reference4Ideal := by
  intro m g m' g' _ hagree
  refine ⟨fun c => Cert.K2Spec.dX (Cert.K4End.X m c) (Cert.K4End.Wn m c) (Cert.K4End.W m c) (Cert.K4End.P m c) (Cert.K4End.D2 m c) (Cert.K4End.E m c),
    fun c => Cert.K2Spec.dW (Cert.K4End.X m c) (Cert.K4End.W m c) (Cert.K4End.P m c) (Cert.K4End.E m c),
    Cert.K4End.run m g, (θ_run Cert.Reference4Ideal.defs _ _).mono (fun r h c => ?_) (Cert.R4.run m' g')⟩
  obtain ⟨e0, e1, e2, e3, e4, e5⟩ := hagree c
  have k := h c
  simp only [e0, e1, e2, e3, e4, e5] at k ⊢
  exact k

/-! The optimiser's step of three weights. -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_ref5 : Cert.quiescent_Reference5Ideal := fun m ρ _ =>
  (θ_run Cert.Reference5Ideal.defs _ _).mono
    (fun r h => ⟨fun c => (h c).2.2.2.2, sem_eq_zero_of_no_sems (by decide) r.2⟩)
    (Cert.Reference5Ideal.Value.run (F := Ideal) m ρ)

theorem value5 : Cert.algebraic_Kernel5Ideal_Reference5Ideal := by
  intro m g m' g' _ hagree
  let p := fun c : Dev Cert.Kernel5Ideal.nD => m (c.tc.loc Cert.Kernel5Ideal.main_arg0)
  let w := fun c : Dev Cert.Kernel5Ideal.nD => m (c.tc.loc Cert.Kernel5Ideal.main_arg1)
  let u := fun c : Dev Cert.Kernel5Ideal.nD => m (c.tc.loc Cert.Kernel5Ideal.main_arg2)
  let v := fun c : Dev Cert.Kernel5Ideal.nD => m (c.tc.loc Cert.Kernel5Ideal.main_arg3)
  refine ⟨fun c => Cert.K5.g (p c), fun c => Cert.K5.dw (p c) (w c) (u c) (v c), fun c => Cert.K5.du (p c) (u c), fun c => Cert.K5.dv (p c) (v c),
    (θ_run Cert.Kernel5Ideal.defs _ _).mono (fun r h c => ?_) (Cert.Kernel5Ideal.Value.run (F := Ideal) m g),
    (θ_run Cert.Reference5Ideal.defs _ _).mono (fun r h c => ?_) (Cert.Reference5Ideal.Value.run (F := Ideal) m' g')⟩
  · obtain ⟨h0, h1, h2, h3, hr⟩ := h c
    exact ⟨h0.trans (Cert.K5.g_eq (p c) (w c) (u c) (v c)), h1.trans (Cert.K5.w_eq (p c) (w c) (u c) (v c)),
      h2.trans (Cert.K5.u_eq (p c) (w c) (u c) (v c)), h3.trans (Cert.K5.v_eq (p c) (w c) (u c) (v c)), hr⟩
  · obtain ⟨e0, e1, e2, e3⟩ := hagree c
    have k := h c
    simp only [e0, e1, e2, e3] at k ⊢
    exact k

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_ref6 : Cert.quiescent_Reference6Ideal := fun m ρ _ =>
  (θ_run Cert.Reference6Ideal.defs _ _).mono
    (fun r h => ⟨fun c => (h c).2.2.2.2, sem_eq_zero_of_no_sems (by decide) r.2⟩)
    (Cert.Reference6Ideal.Value.run (F := Ideal) m ρ)

theorem value6 : Cert.algebraic_Kernel6Ideal_Reference6Ideal := by
  intro m g m' g' _ hagree
  let p := fun c : Dev Cert.Kernel6Ideal.nD => m (c.tc.loc Cert.Kernel6Ideal.main_arg0)
  let w := fun c : Dev Cert.Kernel6Ideal.nD => m (c.tc.loc Cert.Kernel6Ideal.main_arg1)
  let u := fun c : Dev Cert.Kernel6Ideal.nD => m (c.tc.loc Cert.Kernel6Ideal.main_arg2)
  let v := fun c : Dev Cert.Kernel6Ideal.nD => m (c.tc.loc Cert.Kernel6Ideal.main_arg3)
  refine ⟨fun c => Cert.K6.g (p c), fun c => Cert.K6.dw (p c) (w c) (u c) (v c), fun c => Cert.K6.du (p c) (u c), fun c => Cert.K6.dv (p c) (v c),
    (θ_run Cert.Kernel6Ideal.defs _ _).mono (fun r h c => ?_) (Cert.Kernel6Ideal.Value.run (F := Ideal) m g),
    (θ_run Cert.Reference6Ideal.defs _ _).mono (fun r h c => ?_) (Cert.Reference6Ideal.Value.run (F := Ideal) m' g')⟩
  · obtain ⟨h0, h1, h2, h3, hr⟩ := h c
    exact ⟨h0.trans (Cert.K6.g_eq (p c) (w c) (u c) (v c)), h1.trans (Cert.K6.w_eq (p c) (w c) (u c) (v c)),
      h2.trans (Cert.K6.u_eq (p c) (w c) (u c) (v c)), h3.trans (Cert.K6.v_eq (p c) (w c) (u c) (v c)), hr⟩
  · obtain ⟨e0, e1, e2, e3⟩ := hagree c
    have k := h c
    simp only [e0, e1, e2, e3] at k ⊢
    exact k

theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_ref7 : Cert.quiescent_Reference7Ideal := fun m ρ _ =>
  (θ_run Cert.Reference7Ideal.defs _ _).mono
    (fun r h => ⟨fun c => (h c).2.2.2.2, sem_eq_zero_of_no_sems (by decide) r.2⟩)
    (Cert.Reference7Ideal.Value.run (F := Ideal) m ρ)

theorem value7 : Cert.algebraic_Kernel7Ideal_Reference7Ideal := by
  intro m g m' g' _ hagree
  let p := fun c : Dev Cert.Kernel7Ideal.nD => m (c.tc.loc Cert.Kernel7Ideal.main_arg0)
  let w := fun c : Dev Cert.Kernel7Ideal.nD => m (c.tc.loc Cert.Kernel7Ideal.main_arg1)
  let u := fun c : Dev Cert.Kernel7Ideal.nD => m (c.tc.loc Cert.Kernel7Ideal.main_arg2)
  let v := fun c : Dev Cert.Kernel7Ideal.nD => m (c.tc.loc Cert.Kernel7Ideal.main_arg3)
  refine ⟨fun c => Cert.K7.g (p c), fun c => Cert.K7.dw (p c) (w c) (u c) (v c), fun c => Cert.K7.du (p c) (u c), fun c => Cert.K7.dv (p c) (v c),
    (θ_run Cert.Kernel7Ideal.defs _ _).mono (fun r h c => ?_) (Cert.Kernel7Ideal.Value.run (F := Ideal) m g),
    (θ_run Cert.Reference7Ideal.defs _ _).mono (fun r h c => ?_) (Cert.Reference7Ideal.Value.run (F := Ideal) m' g')⟩
  · obtain ⟨h0, h1, h2, h3, hr⟩ := h c
    exact ⟨h0.trans (Cert.K7.g_eq (p c) (w c) (u c) (v c)), h1.trans (Cert.K7.w_eq (p c) (w c) (u c) (v c)),
      h2.trans (Cert.K7.u_eq (p c) (w c) (u c) (v c)), h3.trans (Cert.K7.v_eq (p c) (w c) (u c) (v c)), hr⟩
  · obtain ⟨e0, e1, e2, e3⟩ := hagree c
    have k := h c
    simp only [e0, e1, e2, e3] at k ⊢
    exact k

/-! The optimiser's step of the small weights, and the loss. -/

theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_ref8 : Cert.quiescent_Reference8Ideal := fun m ρ _ =>
  (θ_run Cert.Reference8Ideal.defs _ _).mono
    (fun r h => ⟨fun c => (h c).2.2.2.2.2.2.2.2.2.2.2.2.2.2.2.2.2.2.2.2.2, sem_eq_zero_of_no_sems (by decide) r.2⟩)
    (Cert.Reference8Ideal.Value.run (F := Ideal) m ρ)

set_option maxHeartbeats 4000000 in
theorem value8 : Cert.algebraic_Kernel8Ideal_Reference8Ideal := by
  intro m g m' g' _ hagree
  let p := fun c : Dev Cert.Kernel8Ideal.nD => m (c.tc.loc Cert.Kernel8Ideal.main_arg0)
  let x1 := fun c : Dev Cert.Kernel8Ideal.nD => m (c.tc.loc Cert.Kernel8Ideal.main_arg1)
  let x2 := fun c : Dev Cert.Kernel8Ideal.nD => m (c.tc.loc Cert.Kernel8Ideal.main_arg2)
  let x3 := fun c : Dev Cert.Kernel8Ideal.nD => m (c.tc.loc Cert.Kernel8Ideal.main_arg3)
  let x4 := fun c : Dev Cert.Kernel8Ideal.nD => m (c.tc.loc Cert.Kernel8Ideal.main_arg4)
  let x5 := fun c : Dev Cert.Kernel8Ideal.nD => m (c.tc.loc Cert.Kernel8Ideal.main_arg5)
  let x6 := fun c : Dev Cert.Kernel8Ideal.nD => m (c.tc.loc Cert.Kernel8Ideal.main_arg6)
  let x7 := fun c : Dev Cert.Kernel8Ideal.nD => m (c.tc.loc Cert.Kernel8Ideal.main_arg7)
  let x8 := fun c : Dev Cert.Kernel8Ideal.nD => m (c.tc.loc Cert.Kernel8Ideal.main_arg8)
  let x9 := fun c : Dev Cert.Kernel8Ideal.nD => m (c.tc.loc Cert.Kernel8Ideal.main_arg9)
  let x10 := fun c : Dev Cert.Kernel8Ideal.nD => m (c.tc.loc Cert.Kernel8Ideal.main_arg10)
  let x11 := fun c : Dev Cert.Kernel8Ideal.nD => m (c.tc.loc Cert.Kernel8Ideal.main_arg11)
  let x12 := fun c : Dev Cert.Kernel8Ideal.nD => m (c.tc.loc Cert.Kernel8Ideal.main_arg12)
  let x13 := fun c : Dev Cert.Kernel8Ideal.nD => m (c.tc.loc Cert.Kernel8Ideal.main_arg13)
  let x14 := fun c : Dev Cert.Kernel8Ideal.nD => m (c.tc.loc Cert.Kernel8Ideal.main_arg14)
  let x15 := fun c : Dev Cert.Kernel8Ideal.nD => m (c.tc.loc Cert.Kernel8Ideal.main_arg15)
  refine ⟨fun c => Cert.K8.g5 (p c),
    fun c => Cert.K8.g0 (p c),
    fun c => Cert.K8.g3 (p c),
    fun c => Cert.K8.g4 (p c),
    fun c => Cert.K8.g2 (p c),
    fun c => Cert.K8.g1 (p c),
    fun c => Cert.K8.ch Cert.K8.fit_S1x1024 (Cert.K8.g0 (p c)) (x1 c) (x6 c) (x11 c),
    fun c => Cert.K8.ch Cert.K8.fit_S1x8 (Cert.K8.g3 (p c)) (x2 c) (x7 c) (x12 c),
    fun c => Cert.K8.ch Cert.K8.fit_S1x8 (Cert.K8.g4 (p c)) (x3 c) (x8 c) (x13 c),
    fun c => Cert.K8.ch Cert.K8.fit_S1x128 (Cert.K8.g2 (p c)) (x4 c) (x9 c) (x14 c),
    fun c => Cert.K8.ch Cert.K8.fit_S1024 (Cert.K8.g1 (p c)) (x5 c) (x10 c) (x15 c),
    fun c => Cert.K8.mo Cert.K8.fit_S1x1024 (Cert.K8.g0 (p c)) (x6 c),
    fun c => Cert.K8.mo Cert.K8.fit_S1x8 (Cert.K8.g3 (p c)) (x7 c),
    fun c => Cert.K8.mo Cert.K8.fit_S1x8 (Cert.K8.g4 (p c)) (x8 c),
    fun c => Cert.K8.mo Cert.K8.fit_S1x128 (Cert.K8.g2 (p c)) (x9 c),
    fun c => Cert.K8.mo Cert.K8.fit_S1024 (Cert.K8.g1 (p c)) (x10 c),
    fun c => Cert.K8.se Cert.K8.fit_S1x1024 (Cert.K8.g0 (p c)) (x11 c),
    fun c => Cert.K8.se Cert.K8.fit_S1x8 (Cert.K8.g3 (p c)) (x12 c),
    fun c => Cert.K8.se Cert.K8.fit_S1x8 (Cert.K8.g4 (p c)) (x13 c),
    fun c => Cert.K8.se Cert.K8.fit_S1x128 (Cert.K8.g2 (p c)) (x14 c),
    fun c => Cert.K8.se Cert.K8.fit_S1024 (Cert.K8.g1 (p c)) (x15 c),
    (θ_run Cert.Kernel8Ideal.defs _ _).mono (fun r h c => ?_) (θ_run_and (Cert.Kernel8Ideal.Gen.unchanged m g) (Cert.Kernel8Ideal.Gen.run_main m g)),
    (θ_run Cert.Reference8Ideal.defs _ _).mono (fun r h c => ?_) (Cert.Reference8Ideal.Value.run (F := Ideal) m' g')⟩
  · have T := Cert.K8.tails (Cert.K8.Z m c)
    have hr := (h.2 c).2
    obtain ⟨t0, t1, t2, t3, t4, t5, t6, t7, t8, t9, t10, t11, t12, t13, t14, t15, t16, t17, t18, t19, t20⟩ := T
    exact ⟨(hr Cert.Kernel8Ideal.main_v50 (Pipeline.mem_restRefs_of Cert.Kernel8Ideal.main_v50 (by decide) (by decide))).trans (t0.trans (Cert.K8.sum5 m c)),
      (hr Cert.Kernel8Ideal.main_v51 (Pipeline.mem_restRefs_of Cert.Kernel8Ideal.main_v51 (by decide) (by decide))).trans (t1.trans (Cert.K8.sum0 m c)),
      (hr Cert.Kernel8Ideal.main_v55 (Pipeline.mem_restRefs_of Cert.Kernel8Ideal.main_v55 (by decide) (by decide))).trans (t2.trans (Cert.K8.sum3 m c)),
      (hr Cert.Kernel8Ideal.main_v56 (Pipeline.mem_restRefs_of Cert.Kernel8Ideal.main_v56 (by decide) (by decide))).trans (t3.trans (Cert.K8.sum4 m c)),
      (hr Cert.Kernel8Ideal.main_v54 (Pipeline.mem_restRefs_of Cert.Kernel8Ideal.main_v54 (by decide) (by decide))).trans (t4.trans (Cert.K8.sum2 m c)),
      (hr Cert.Kernel8Ideal.main_v53 (Pipeline.mem_restRefs_of Cert.Kernel8Ideal.main_v53 (by decide) (by decide))).trans (t5.trans (Cert.K8.sum1 m c)),
      (hr Cert.Kernel8Ideal.main_v57 (Pipeline.mem_restRefs_of Cert.Kernel8Ideal.main_v57 (by decide) (by decide))).trans (t6.trans (Cert.K8.ch0 m c _)),
      (hr Cert.Kernel8Ideal.main_v61 (Pipeline.mem_restRefs_of Cert.Kernel8Ideal.main_v61 (by decide) (by decide))).trans (t7.trans (Cert.K8.ch3 m c _)),
      (hr Cert.Kernel8Ideal.main_v62 (Pipeline.mem_restRefs_of Cert.Kernel8Ideal.main_v62 (by decide) (by decide))).trans (t8.trans (Cert.K8.ch4 m c _)),
      (hr Cert.Kernel8Ideal.main_v60 (Pipeline.mem_restRefs_of Cert.Kernel8Ideal.main_v60 (by decide) (by decide))).trans (t9.trans (Cert.K8.ch2 m c _)),
      (hr Cert.Kernel8Ideal.main_v59 (Pipeline.mem_restRefs_of Cert.Kernel8Ideal.main_v59 (by decide) (by decide))).trans (t10.trans (Cert.K8.ch1 m c _)),
      (hr Cert.Kernel8Ideal.main_v63 (Pipeline.mem_restRefs_of Cert.Kernel8Ideal.main_v63 (by decide) (by decide))).trans (t11.trans (Cert.K8.mo0 m c _)),
      (hr Cert.Kernel8Ideal.main_v67 (Pipeline.mem_restRefs_of Cert.Kernel8Ideal.main_v67 (by decide) (by decide))).trans (t12.trans (Cert.K8.mo3 m c _)),
      (hr Cert.Kernel8Ideal.main_v68 (Pipeline.mem_restRefs_of Cert.Kernel8Ideal.main_v68 (by decide) (by decide))).trans (t13.trans (Cert.K8.mo4 m c _)),
      (hr Cert.Kernel8Ideal.main_v66 (Pipeline.mem_restRefs_of Cert.Kernel8Ideal.main_v66 (by decide) (by decide))).trans (t14.trans (Cert.K8.mo2 m c _)),
      (hr Cert.Kernel8Ideal.main_v65 (Pipeline.mem_restRefs_of Cert.Kernel8Ideal.main_v65 (by decide) (by decide))).trans (t15.trans (Cert.K8.mo1 m c _)),
      (hr Cert.Kernel8Ideal.main_v69 (Pipeline.mem_restRefs_of Cert.Kernel8Ideal.main_v69 (by decide) (by decide))).trans (t16.trans (Cert.K8.se0 m c _)),
      (hr Cert.Kernel8Ideal.main_v73 (Pipeline.mem_restRefs_of Cert.Kernel8Ideal.main_v73 (by decide) (by decide))).trans (t17.trans (Cert.K8.se3 m c _)),
      (hr Cert.Kernel8Ideal.main_v74 (Pipeline.mem_restRefs_of Cert.Kernel8Ideal.main_v74 (by decide) (by decide))).trans (t18.trans (Cert.K8.se4 m c _)),
      (hr Cert.Kernel8Ideal.main_v72 (Pipeline.mem_restRefs_of Cert.Kernel8Ideal.main_v72 (by decide) (by decide))).trans (t19.trans (Cert.K8.se2 m c _)),
      (hr Cert.Kernel8Ideal.main_v71 (Pipeline.mem_restRefs_of Cert.Kernel8Ideal.main_v71 (by decide) (by decide))).trans (t20.trans (Cert.K8.se1 m c _)), h.1 c⟩
  · obtain ⟨e0, e1, e2, e3, e4, e5, e6, e7, e8, e9, e10, e11, e12, e13, e14, e15⟩ := hagree c
    have k := h c
    simp only [p, x1, x2, x3, x4, x5, x6, x7, x8, x9, x10, x11, x12, x13, x14, x15] at k ⊢
    simp only [← e0, ← e1, ← e2, ← e3, ← e4, ← e5, ← e6, ← e7, ← e8, ← e9, ← e10, ← e11, ← e12, ← e13, ← e14, ← e15] at k ⊢
    exact k

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.Gen.facts,
  frame_kernel, frame_ideal, frame_ideal_finite, frame_ref, frame_ref_finite,
  frame_kernel3, frame_ideal3, frame_ref3,
  frame_kernel2, frame_ideal2, frame_ref2, frame_kernel4, frame_ideal4, frame_ref4,
  frame_kernel5, frame_ideal5, frame_ref5,
  frame_kernel6, frame_ideal6, frame_ref6,
  frame_kernel7, frame_ideal7, frame_ref7,
  frame_kernel8, frame_ideal8, frame_ref8,
  trivial, value, trivial, value3, trivial, value2, trivial, value4, trivial, value5, trivial, value6, trivial, value7, trivial, value8⟩

end Cert.Proof

end
